-- ==== Defs.lean ====
def Pre_MergeKernel (m : (ℓ : Loc Cert.MergeKernel.nD Cert.MergeKernel.τ Cert.MergeKernel.sig) → Buf (Elt Bits) ℓ) : Prop :=
  True

def Pre_MergeKernelIdeal (m : (ℓ : Loc Cert.MergeKernelIdeal.nD Cert.MergeKernelIdeal.τ Cert.MergeKernelIdeal.sig) → Buf (Elt Ideal) ℓ) : Prop :=
  True

def Pre_MergeReferenceIdeal (m : (ℓ : Loc Cert.MergeReferenceIdeal.nD Cert.MergeReferenceIdeal.τ Cert.MergeReferenceIdeal.sig) → Buf (Elt Ideal) ℓ) : Prop :=
  True

def Pre_BranchKernel (m : (ℓ : Loc Cert.BranchKernel.nD Cert.BranchKernel.τ Cert.BranchKernel.sig) → Buf (Elt Bits) ℓ) : Prop :=
  True

def Pre_BranchKernelIdeal (m : (ℓ : Loc Cert.BranchKernelIdeal.nD Cert.BranchKernelIdeal.τ Cert.BranchKernelIdeal.sig) → Buf (Elt Ideal) ℓ) : Prop :=
  True

def Pre_BranchKernelIdeal_branch_finite [hPre_branch_finite : Cert.Pre_branch_finite.Facts] (m : (ℓ : Loc Cert.BranchKernelIdeal.nD Cert.BranchKernelIdeal.τ Cert.BranchKernelIdeal.sig) → Buf (Elt Ideal) ℓ) : Prop :=
  ∀ c : Dev Cert.BranchKernelIdeal.nD,
    (Cert.Pre_branch_finite.fn (F := Ideal) (m ((c.tc : Thread Cert.BranchKernelIdeal.nD Cert.BranchKernelIdeal.τ).loc Cert.BranchKernelIdeal.main_arg0)) (m ((c.tc : Thread Cert.BranchKernelIdeal.nD Cert.BranchKernelIdeal.τ).loc Cert.BranchKernelIdeal.main_arg1)) (m ((c.tc : Thread Cert.BranchKernelIdeal.nD Cert.BranchKernelIdeal.τ).loc Cert.BranchKernelIdeal.main_arg2)) (m ((c.tc : Thread Cert.BranchKernelIdeal.nD Cert.BranchKernelIdeal.τ).loc Cert.BranchKernelIdeal.main_arg3)) (m ((c.tc : Thread Cert.BranchKernelIdeal.nD Cert.BranchKernelIdeal.τ).loc Cert.BranchKernelIdeal.main_arg4)) (m ((c.tc : Thread Cert.BranchKernelIdeal.nD Cert.BranchKernelIdeal.τ).loc Cert.BranchKernelIdeal.main_arg5)) (m ((c.tc : Thread Cert.BranchKernelIdeal.nD Cert.BranchKernelIdeal.τ).loc Cert.BranchKernelIdeal.main_arg6))) = (fun _ => 1#1)

def Pre_BranchReferenceIdeal (m : (ℓ : Loc Cert.BranchReferenceIdeal.nD Cert.BranchReferenceIdeal.τ Cert.BranchReferenceIdeal.sig) → Buf (Elt Ideal) ℓ) : Prop :=
  True

def Pre_BranchReferenceIdeal_branch_finite [hPre_branch_finite : Cert.Pre_branch_finite.Facts] (m : (ℓ : Loc Cert.BranchReferenceIdeal.nD Cert.BranchReferenceIdeal.τ Cert.BranchReferenceIdeal.sig) → Buf (Elt Ideal) ℓ) : Prop :=
  ∀ c : Dev Cert.BranchReferenceIdeal.nD,
    (Cert.Pre_branch_finite.fn (F := Ideal) (m ((c.tc : Thread Cert.BranchReferenceIdeal.nD Cert.BranchReferenceIdeal.τ).loc Cert.BranchReferenceIdeal.main_arg0)) (m ((c.tc : Thread Cert.BranchReferenceIdeal.nD Cert.BranchReferenceIdeal.τ).loc Cert.BranchReferenceIdeal.main_arg1)) (m ((c.tc : Thread Cert.BranchReferenceIdeal.nD Cert.BranchReferenceIdeal.τ).loc Cert.BranchReferenceIdeal.main_arg2)) (m ((c.tc : Thread Cert.BranchReferenceIdeal.nD Cert.BranchReferenceIdeal.τ).loc Cert.BranchReferenceIdeal.main_arg3)) (m ((c.tc : Thread Cert.BranchReferenceIdeal.nD Cert.BranchReferenceIdeal.τ).loc Cert.BranchReferenceIdeal.main_arg4)) (m ((c.tc : Thread Cert.BranchReferenceIdeal.nD Cert.BranchReferenceIdeal.τ).loc Cert.BranchReferenceIdeal.main_arg5)) (m ((c.tc : Thread Cert.BranchReferenceIdeal.nD Cert.BranchReferenceIdeal.τ).loc Cert.BranchReferenceIdeal.main_arg6))) = (fun _ => 1#1)

def Pre_FgateKernel (m : (ℓ : Loc Cert.FgateKernel.nD Cert.FgateKernel.τ Cert.FgateKernel.sig) → Buf (Elt Bits) ℓ) : Prop :=
  True

def Pre_FgateKernelIdeal (m : (ℓ : Loc Cert.FgateKernelIdeal.nD Cert.FgateKernelIdeal.τ Cert.FgateKernelIdeal.sig) → Buf (Elt Ideal) ℓ) : Prop :=
  True

def Pre_FgateKernelIdeal_fgate_finite [hPre_fgate_finite : Cert.Pre_fgate_finite.Facts] (m : (ℓ : Loc Cert.FgateKernelIdeal.nD Cert.FgateKernelIdeal.τ Cert.FgateKernelIdeal.sig) → Buf (Elt Ideal) ℓ) : Prop :=
  ∀ c : Dev Cert.FgateKernelIdeal.nD,
    (Cert.Pre_fgate_finite.fn (F := Ideal) (m ((c.tc : Thread Cert.FgateKernelIdeal.nD Cert.FgateKernelIdeal.τ).loc Cert.FgateKernelIdeal.main_arg0)) (m ((c.tc : Thread Cert.FgateKernelIdeal.nD Cert.FgateKernelIdeal.τ).loc Cert.FgateKernelIdeal.main_arg1))) = (fun _ => 1#1)

def Pre_FgateReferenceIdeal (m : (ℓ : Loc Cert.FgateReferenceIdeal.nD Cert.FgateReferenceIdeal.τ Cert.FgateReferenceIdeal.sig) → Buf (Elt Ideal) ℓ) : Prop :=
  True

def Pre_FgateReferenceIdeal_fgate_finite [hPre_fgate_finite : Cert.Pre_fgate_finite.Facts] (m : (ℓ : Loc Cert.FgateReferenceIdeal.nD Cert.FgateReferenceIdeal.τ Cert.FgateReferenceIdeal.sig) → Buf (Elt Ideal) ℓ) : Prop :=
  ∀ c : Dev Cert.FgateReferenceIdeal.nD,
    (Cert.Pre_fgate_finite.fn (F := Ideal) (m ((c.tc : Thread Cert.FgateReferenceIdeal.nD Cert.FgateReferenceIdeal.τ).loc Cert.FgateReferenceIdeal.main_arg0)) (m ((c.tc : Thread Cert.FgateReferenceIdeal.nD Cert.FgateReferenceIdeal.τ).loc Cert.FgateReferenceIdeal.main_arg1))) = (fun _ => 1#1)

def Pre_AttnKernel (m : (ℓ : Loc Cert.AttnKernel.nD Cert.AttnKernel.τ Cert.AttnKernel.sig) → Buf (Elt Bits) ℓ) : Prop :=
  True

def Pre_AttnKernelIdeal (m : (ℓ : Loc Cert.AttnKernelIdeal.nD Cert.AttnKernelIdeal.τ Cert.AttnKernelIdeal.sig) → Buf (Elt Ideal) ℓ) : Prop :=
  True

def Pre_AttnKernelIdeal_attn_finite [hPre_attn_finite : Cert.Pre_attn_finite.Facts] (m : (ℓ : Loc Cert.AttnKernelIdeal.nD Cert.AttnKernelIdeal.τ Cert.AttnKernelIdeal.sig) → Buf (Elt Ideal) ℓ) : Prop :=
  ∀ c : Dev Cert.AttnKernelIdeal.nD,
    (Cert.Pre_attn_finite.fn (F := Ideal) (m ((c.tc : Thread Cert.AttnKernelIdeal.nD Cert.AttnKernelIdeal.τ).loc Cert.AttnKernelIdeal.main_arg0)) (m ((c.tc : Thread Cert.AttnKernelIdeal.nD Cert.AttnKernelIdeal.τ).loc Cert.AttnKernelIdeal.main_arg1)) (m ((c.tc : Thread Cert.AttnKernelIdeal.nD Cert.AttnKernelIdeal.τ).loc Cert.AttnKernelIdeal.main_arg2)) (m ((c.tc : Thread Cert.AttnKernelIdeal.nD Cert.AttnKernelIdeal.τ).loc Cert.AttnKernelIdeal.main_arg3)) (m ((c.tc : Thread Cert.AttnKernelIdeal.nD Cert.AttnKernelIdeal.τ).loc Cert.AttnKernelIdeal.main_arg4))) = (fun _ => 1#1)

def Pre_AttnReferenceIdeal (m : (ℓ : Loc Cert.AttnReferenceIdeal.nD Cert.AttnReferenceIdeal.τ Cert.AttnReferenceIdeal.sig) → Buf (Elt Ideal) ℓ) : Prop :=
  True

def Pre_AttnReferenceIdeal_attn_finite [hPre_attn_finite : Cert.Pre_attn_finite.Facts] (m : (ℓ : Loc Cert.AttnReferenceIdeal.nD Cert.AttnReferenceIdeal.τ Cert.AttnReferenceIdeal.sig) → Buf (Elt Ideal) ℓ) : Prop :=
  ∀ c : Dev Cert.AttnReferenceIdeal.nD,
    (Cert.Pre_attn_finite.fn (F := Ideal) (m ((c.tc : Thread Cert.AttnReferenceIdeal.nD Cert.AttnReferenceIdeal.τ).loc Cert.AttnReferenceIdeal.main_arg0)) (m ((c.tc : Thread Cert.AttnReferenceIdeal.nD Cert.AttnReferenceIdeal.τ).loc Cert.AttnReferenceIdeal.main_arg1)) (m ((c.tc : Thread Cert.AttnReferenceIdeal.nD Cert.AttnReferenceIdeal.τ).loc Cert.AttnReferenceIdeal.main_arg2)) (m ((c.tc : Thread Cert.AttnReferenceIdeal.nD Cert.AttnReferenceIdeal.τ).loc Cert.AttnReferenceIdeal.main_arg3)) (m ((c.tc : Thread Cert.AttnReferenceIdeal.nD Cert.AttnReferenceIdeal.τ).loc Cert.AttnReferenceIdeal.main_arg4))) = (fun _ => 1#1)

def Pre_LossKernel (m : (ℓ : Loc Cert.LossKernel.nD Cert.LossKernel.τ Cert.LossKernel.sig) → Buf (Elt Bits) ℓ) : Prop :=
  True

def Pre_LossKernelIdeal (m : (ℓ : Loc Cert.LossKernelIdeal.nD Cert.LossKernelIdeal.τ Cert.LossKernelIdeal.sig) → Buf (Elt Ideal) ℓ) : Prop :=
  True

def Pre_LossKernelIdeal_loss_finite [hPre_loss_finite : Cert.Pre_loss_finite.Facts] (m : (ℓ : Loc Cert.LossKernelIdeal.nD Cert.LossKernelIdeal.τ Cert.LossKernelIdeal.sig) → Buf (Elt Ideal) ℓ) : Prop :=
  ∀ c : Dev Cert.LossKernelIdeal.nD,
    (Cert.Pre_loss_finite.fn (F := Ideal) (m ((c.tc : Thread Cert.LossKernelIdeal.nD Cert.LossKernelIdeal.τ).loc Cert.LossKernelIdeal.main_arg0)) (m ((c.tc : Thread Cert.LossKernelIdeal.nD Cert.LossKernelIdeal.τ).loc Cert.LossKernelIdeal.main_arg1)) (m ((c.tc : Thread Cert.LossKernelIdeal.nD Cert.LossKernelIdeal.τ).loc Cert.LossKernelIdeal.main_arg2)) (m ((c.tc : Thread Cert.LossKernelIdeal.nD Cert.LossKernelIdeal.τ).loc Cert.LossKernelIdeal.main_arg3)) (m ((c.tc : Thread Cert.LossKernelIdeal.nD Cert.LossKernelIdeal.τ).loc Cert.LossKernelIdeal.main_arg4))) = (fun _ => 1#1)

def Pre_LossReferenceIdeal (m : (ℓ : Loc Cert.LossReferenceIdeal.nD Cert.LossReferenceIdeal.τ Cert.LossReferenceIdeal.sig) → Buf (Elt Ideal) ℓ) : Prop :=
  True

def Pre_LossReferenceIdeal_loss_finite [hPre_loss_finite : Cert.Pre_loss_finite.Facts] (m : (ℓ : Loc Cert.LossReferenceIdeal.nD Cert.LossReferenceIdeal.τ Cert.LossReferenceIdeal.sig) → Buf (Elt Ideal) ℓ) : Prop :=
  ∀ c : Dev Cert.LossReferenceIdeal.nD,
    (Cert.Pre_loss_finite.fn (F := Ideal) (m ((c.tc : Thread Cert.LossReferenceIdeal.nD Cert.LossReferenceIdeal.τ).loc Cert.LossReferenceIdeal.main_arg0)) (m ((c.tc : Thread Cert.LossReferenceIdeal.nD Cert.LossReferenceIdeal.τ).loc Cert.LossReferenceIdeal.main_arg1)) (m ((c.tc : Thread Cert.LossReferenceIdeal.nD Cert.LossReferenceIdeal.τ).loc Cert.LossReferenceIdeal.main_arg2)) (m ((c.tc : Thread Cert.LossReferenceIdeal.nD Cert.LossReferenceIdeal.τ).loc Cert.LossReferenceIdeal.main_arg3)) (m ((c.tc : Thread Cert.LossReferenceIdeal.nD Cert.LossReferenceIdeal.τ).loc Cert.LossReferenceIdeal.main_arg4))) = (fun _ => 1#1)

def Pre_NormKernel (m : (ℓ : Loc Cert.NormKernel.nD Cert.NormKernel.τ Cert.NormKernel.sig) → Buf (Elt Bits) ℓ) : Prop :=
  True

def Pre_NormKernelIdeal (m : (ℓ : Loc Cert.NormKernelIdeal.nD Cert.NormKernelIdeal.τ Cert.NormKernelIdeal.sig) → Buf (Elt Ideal) ℓ) : Prop :=
  True

def Pre_NormKernelIdeal_dh_finite [hPre_dh_finite : Cert.Pre_dh_finite.Facts] (m : (ℓ : Loc Cert.NormKernelIdeal.nD Cert.NormKernelIdeal.τ Cert.NormKernelIdeal.sig) → Buf (Elt Ideal) ℓ) : Prop :=
  ∀ c : Dev Cert.NormKernelIdeal.nD,
    (Cert.Pre_dh_finite.fn (F := Ideal) (m ((c.tc : Thread Cert.NormKernelIdeal.nD Cert.NormKernelIdeal.τ).loc Cert.NormKernelIdeal.main_arg0)) (m ((c.tc : Thread Cert.NormKernelIdeal.nD Cert.NormKernelIdeal.τ).loc Cert.NormKernelIdeal.main_arg1)) (m ((c.tc : Thread Cert.NormKernelIdeal.nD Cert.NormKernelIdeal.τ).loc Cert.NormKernelIdeal.main_arg2)) (m ((c.tc : Thread Cert.NormKernelIdeal.nD Cert.NormKernelIdeal.τ).loc Cert.NormKernelIdeal.main_arg3)) (m ((c.tc : Thread Cert.NormKernelIdeal.nD Cert.NormKernelIdeal.τ).loc Cert.NormKernelIdeal.main_arg4))) = (fun _ => 1#1)

def Pre_NormReferenceIdeal (m : (ℓ : Loc Cert.NormReferenceIdeal.nD Cert.NormReferenceIdeal.τ Cert.NormReferenceIdeal.sig) → Buf (Elt Ideal) ℓ) : Prop :=
  True

def Pre_NormReferenceIdeal_dh_finite [hPre_dh_finite : Cert.Pre_dh_finite.Facts] (m : (ℓ : Loc Cert.NormReferenceIdeal.nD Cert.NormReferenceIdeal.τ Cert.NormReferenceIdeal.sig) → Buf (Elt Ideal) ℓ) : Prop :=
  ∀ c : Dev Cert.NormReferenceIdeal.nD,
    (Cert.Pre_dh_finite.fn (F := Ideal) (m ((c.tc : Thread Cert.NormReferenceIdeal.nD Cert.NormReferenceIdeal.τ).loc Cert.NormReferenceIdeal.main_arg0)) (m ((c.tc : Thread Cert.NormReferenceIdeal.nD Cert.NormReferenceIdeal.τ).loc Cert.NormReferenceIdeal.main_arg1)) (m ((c.tc : Thread Cert.NormReferenceIdeal.nD Cert.NormReferenceIdeal.τ).loc Cert.NormReferenceIdeal.main_arg2)) (m ((c.tc : Thread Cert.NormReferenceIdeal.nD Cert.NormReferenceIdeal.τ).loc Cert.NormReferenceIdeal.main_arg3)) (m ((c.tc : Thread Cert.NormReferenceIdeal.nD Cert.NormReferenceIdeal.τ).loc Cert.NormReferenceIdeal.main_arg4))) = (fun _ => 1#1)

def Pre_JoinKernel (m : (ℓ : Loc Cert.JoinKernel.nD Cert.JoinKernel.τ Cert.JoinKernel.sig) → Buf (Elt Bits) ℓ) : Prop :=
  True

def Pre_JoinKernelIdeal (m : (ℓ : Loc Cert.JoinKernelIdeal.nD Cert.JoinKernelIdeal.τ Cert.JoinKernelIdeal.sig) → Buf (Elt Ideal) ℓ) : Prop :=
  True

def Pre_JoinReferenceIdeal (m : (ℓ : Loc Cert.JoinReferenceIdeal.nD Cert.JoinReferenceIdeal.τ Cert.JoinReferenceIdeal.sig) → Buf (Elt Ideal) ℓ) : Prop :=
  True

def Pre_FoxKernel (m : (ℓ : Loc Cert.FoxKernel.nD Cert.FoxKernel.τ Cert.FoxKernel.sig) → Buf (Elt Bits) ℓ) : Prop :=
  True

def Pre_FoxKernelIdeal (m : (ℓ : Loc Cert.FoxKernelIdeal.nD Cert.FoxKernelIdeal.τ Cert.FoxKernelIdeal.sig) → Buf (Elt Ideal) ℓ) : Prop :=
  True

def Pre_FoxKernelIdeal_fox_finite [hPre_fox_finite : Cert.Pre_fox_finite.Facts] (m : (ℓ : Loc Cert.FoxKernelIdeal.nD Cert.FoxKernelIdeal.τ Cert.FoxKernelIdeal.sig) → Buf (Elt Ideal) ℓ) : Prop :=
  ∀ c : Dev Cert.FoxKernelIdeal.nD,
    (Cert.Pre_fox_finite.fn (F := Ideal) (m ((c.tc : Thread Cert.FoxKernelIdeal.nD Cert.FoxKernelIdeal.τ).loc Cert.FoxKernelIdeal.main_arg0)) (m ((c.tc : Thread Cert.FoxKernelIdeal.nD Cert.FoxKernelIdeal.τ).loc Cert.FoxKernelIdeal.main_arg1)) (m ((c.tc : Thread Cert.FoxKernelIdeal.nD Cert.FoxKernelIdeal.τ).loc Cert.FoxKernelIdeal.main_arg2)) (m ((c.tc : Thread Cert.FoxKernelIdeal.nD Cert.FoxKernelIdeal.τ).loc Cert.FoxKernelIdeal.main_arg3)) (m ((c.tc : Thread Cert.FoxKernelIdeal.nD Cert.FoxKernelIdeal.τ).loc Cert.FoxKernelIdeal.main_arg4))) = (fun _ => 1#1)

def Pre_FoxReferenceIdeal (m : (ℓ : Loc Cert.FoxReferenceIdeal.nD Cert.FoxReferenceIdeal.τ Cert.FoxReferenceIdeal.sig) → Buf (Elt Ideal) ℓ) : Prop :=
  True

def Pre_FoxReferenceIdeal_fox_finite [hPre_fox_finite : Cert.Pre_fox_finite.Facts] (m : (ℓ : Loc Cert.FoxReferenceIdeal.nD Cert.FoxReferenceIdeal.τ Cert.FoxReferenceIdeal.sig) → Buf (Elt Ideal) ℓ) : Prop :=
  ∀ c : Dev Cert.FoxReferenceIdeal.nD,
    (Cert.Pre_fox_finite.fn (F := Ideal) (m ((c.tc : Thread Cert.FoxReferenceIdeal.nD Cert.FoxReferenceIdeal.τ).loc Cert.FoxReferenceIdeal.main_arg0)) (m ((c.tc : Thread Cert.FoxReferenceIdeal.nD Cert.FoxReferenceIdeal.τ).loc Cert.FoxReferenceIdeal.main_arg1)) (m ((c.tc : Thread Cert.FoxReferenceIdeal.nD Cert.FoxReferenceIdeal.τ).loc Cert.FoxReferenceIdeal.main_arg2)) (m ((c.tc : Thread Cert.FoxReferenceIdeal.nD Cert.FoxReferenceIdeal.τ).loc Cert.FoxReferenceIdeal.main_arg3)) (m ((c.tc : Thread Cert.FoxReferenceIdeal.nD Cert.FoxReferenceIdeal.τ).loc Cert.FoxReferenceIdeal.main_arg4))) = (fun _ => 1#1)

def quiescent_MergeKernel [hMergeKernel : Cert.MergeKernel.Facts] : Prop :=
  ∀ (m : (ℓ : Loc Cert.MergeKernel.nD Cert.MergeKernel.τ Cert.MergeKernel.sig) → Buf (Elt Bits) ℓ) (g : Dev Cert.MergeKernel.nD → PrngReg), Pre_MergeKernel m →
    θ_run (Cert.MergeKernel.defs (F := Bits)) (onTc (τ := Cert.MergeKernel.τ) (Cert.MergeKernel.main (F := Bits))) ⟨m, fun _ => 0, g⟩ (fun r => (∀ c : Dev Cert.MergeKernel.nD,
      r.2.mem ((c.tc : Thread Cert.MergeKernel.nD Cert.MergeKernel.τ).loc Cert.MergeKernel.main_arg0) = m ((c.tc : Thread Cert.MergeKernel.nD Cert.MergeKernel.τ).loc Cert.MergeKernel.main_arg0)
      ∧ r.2.mem ((c.tc : Thread Cert.MergeKernel.nD Cert.MergeKernel.τ).loc Cert.MergeKernel.main_arg1) = m ((c.tc : Thread Cert.MergeKernel.nD Cert.MergeKernel.τ).loc Cert.MergeKernel.main_arg1)
      ∧ r.2.mem ((c.tc : Thread Cert.MergeKernel.nD Cert.MergeKernel.τ).loc Cert.MergeKernel.main_arg2) = m ((c.tc : Thread Cert.MergeKernel.nD Cert.MergeKernel.τ).loc Cert.MergeKernel.main_arg2)
      ∧ r.2.mem ((c.tc : Thread Cert.MergeKernel.nD Cert.MergeKernel.τ).loc Cert.MergeKernel.main_arg3) = m ((c.tc : Thread Cert.MergeKernel.nD Cert.MergeKernel.τ).loc Cert.MergeKernel.main_arg3)
      ∧ r.2.mem ((c.tc : Thread Cert.MergeKernel.nD Cert.MergeKernel.τ).loc Cert.MergeKernel.main_arg4) = m ((c.tc : Thread Cert.MergeKernel.nD Cert.MergeKernel.τ).loc Cert.MergeKernel.main_arg4))
      ∧ r.2.sem = fun _ => 0)

def quiescent_MergeKernelIdeal [hMergeKernelIdeal : Cert.MergeKernelIdeal.Facts] : Prop :=
  ∀ (m : (ℓ : Loc Cert.MergeKernelIdeal.nD Cert.MergeKernelIdeal.τ Cert.MergeKernelIdeal.sig) → Buf (Elt Ideal) ℓ) (g : Dev Cert.MergeKernelIdeal.nD → PrngReg), Pre_MergeKernelIdeal m →
    θ_run (Cert.MergeKernelIdeal.defs (F := Ideal)) (onTc (τ := Cert.MergeKernelIdeal.τ) (Cert.MergeKernelIdeal.main (F := Ideal))) ⟨m, fun _ => 0, g⟩ (fun r => (∀ c : Dev Cert.MergeKernelIdeal.nD,
      r.2.mem ((c.tc : Thread Cert.MergeKernelIdeal.nD Cert.MergeKernelIdeal.τ).loc Cert.MergeKernelIdeal.main_arg0) = m ((c.tc : Thread Cert.MergeKernelIdeal.nD Cert.MergeKernelIdeal.τ).loc Cert.MergeKernelIdeal.main_arg0)
      ∧ r.2.mem ((c.tc : Thread Cert.MergeKernelIdeal.nD Cert.MergeKernelIdeal.τ).loc Cert.MergeKernelIdeal.main_arg1) = m ((c.tc : Thread Cert.MergeKernelIdeal.nD Cert.MergeKernelIdeal.τ).loc Cert.MergeKernelIdeal.main_arg1)
      ∧ r.2.mem ((c.tc : Thread Cert.MergeKernelIdeal.nD Cert.MergeKernelIdeal.τ).loc Cert.MergeKernelIdeal.main_arg2) = m ((c.tc : Thread Cert.MergeKernelIdeal.nD Cert.MergeKernelIdeal.τ).loc Cert.MergeKernelIdeal.main_arg2)
      ∧ r.2.mem ((c.tc : Thread Cert.MergeKernelIdeal.nD Cert.MergeKernelIdeal.τ).loc Cert.MergeKernelIdeal.main_arg3) = m ((c.tc : Thread Cert.MergeKernelIdeal.nD Cert.MergeKernelIdeal.τ).loc Cert.MergeKernelIdeal.main_arg3)
      ∧ r.2.mem ((c.tc : Thread Cert.MergeKernelIdeal.nD Cert.MergeKernelIdeal.τ).loc Cert.MergeKernelIdeal.main_arg4) = m ((c.tc : Thread Cert.MergeKernelIdeal.nD Cert.MergeKernelIdeal.τ).loc Cert.MergeKernelIdeal.main_arg4))
      ∧ r.2.sem = fun _ => 0)

def quiescent_MergeReferenceIdeal [hMergeReferenceIdeal : Cert.MergeReferenceIdeal.Facts] : Prop :=
  ∀ (m : (ℓ : Loc Cert.MergeReferenceIdeal.nD Cert.MergeReferenceIdeal.τ Cert.MergeReferenceIdeal.sig) → Buf (Elt Ideal) ℓ) (g : Dev Cert.MergeReferenceIdeal.nD → PrngReg), Pre_MergeReferenceIdeal m →
    θ_run (Cert.MergeReferenceIdeal.defs (F := Ideal)) (onTc (τ := Cert.MergeReferenceIdeal.τ) (Cert.MergeReferenceIdeal.main (F := Ideal))) ⟨m, fun _ => 0, g⟩ (fun r => (∀ c : Dev Cert.MergeReferenceIdeal.nD,
      r.2.mem ((c.tc : Thread Cert.MergeReferenceIdeal.nD Cert.MergeReferenceIdeal.τ).loc Cert.MergeReferenceIdeal.main_arg0) = m ((c.tc : Thread Cert.MergeReferenceIdeal.nD Cert.MergeReferenceIdeal.τ).loc Cert.MergeReferenceIdeal.main_arg0)
      ∧ r.2.mem ((c.tc : Thread Cert.MergeReferenceIdeal.nD Cert.MergeReferenceIdeal.τ).loc Cert.MergeReferenceIdeal.main_arg1) = m ((c.tc : Thread Cert.MergeReferenceIdeal.nD Cert.MergeReferenceIdeal.τ).loc Cert.MergeReferenceIdeal.main_arg1)
      ∧ r.2.mem ((c.tc : Thread Cert.MergeReferenceIdeal.nD Cert.MergeReferenceIdeal.τ).loc Cert.MergeReferenceIdeal.main_arg2) = m ((c.tc : Thread Cert.MergeReferenceIdeal.nD Cert.MergeReferenceIdeal.τ).loc Cert.MergeReferenceIdeal.main_arg2)
      ∧ r.2.mem ((c.tc : Thread Cert.MergeReferenceIdeal.nD Cert.MergeReferenceIdeal.τ).loc Cert.MergeReferenceIdeal.main_arg3) = m ((c.tc : Thread Cert.MergeReferenceIdeal.nD Cert.MergeReferenceIdeal.τ).loc Cert.MergeReferenceIdeal.main_arg3)
      ∧ r.2.mem ((c.tc : Thread Cert.MergeReferenceIdeal.nD Cert.MergeReferenceIdeal.τ).loc Cert.MergeReferenceIdeal.main_arg4) = m ((c.tc : Thread Cert.MergeReferenceIdeal.nD Cert.MergeReferenceIdeal.τ).loc Cert.MergeReferenceIdeal.main_arg4))
      ∧ r.2.sem = fun _ => 0)

def quiescent_BranchKernel [hBranchKernel : Cert.BranchKernel.Facts] : Prop :=
  ∀ (m : (ℓ : Loc Cert.BranchKernel.nD Cert.BranchKernel.τ Cert.BranchKernel.sig) → Buf (Elt Bits) ℓ) (g : Dev Cert.BranchKernel.nD → PrngReg), Pre_BranchKernel m →
    θ_run (Cert.BranchKernel.defs (F := Bits)) (onTc (τ := Cert.BranchKernel.τ) (Cert.BranchKernel.main (F := Bits))) ⟨m, fun _ => 0, g⟩ (fun r => (∀ c : Dev Cert.BranchKernel.nD,
      r.2.mem ((c.tc : Thread Cert.BranchKernel.nD Cert.BranchKernel.τ).loc Cert.BranchKernel.main_arg0) = m ((c.tc : Thread Cert.BranchKernel.nD Cert.BranchKernel.τ).loc Cert.BranchKernel.main_arg0)
      ∧ r.2.mem ((c.tc : Thread Cert.BranchKernel.nD Cert.BranchKernel.τ).loc Cert.BranchKernel.main_arg1) = m ((c.tc : Thread Cert.BranchKernel.nD Cert.BranchKernel.τ).loc Cert.BranchKernel.main_arg1)
      ∧ r.2.mem ((c.tc : Thread Cert.BranchKernel.nD Cert.BranchKernel.τ).loc Cert.BranchKernel.main_arg2) = m ((c.tc : Thread Cert.BranchKernel.nD Cert.BranchKernel.τ).loc Cert.BranchKernel.main_arg2)
      ∧ r.2.mem ((c.tc : Thread Cert.BranchKernel.nD Cert.BranchKernel.τ).loc Cert.BranchKernel.main_arg3) = m ((c.tc : Thread Cert.BranchKernel.nD Cert.BranchKernel.τ).loc Cert.BranchKernel.main_arg3)
      ∧ r.2.mem ((c.tc : Thread Cert.BranchKernel.nD Cert.BranchKernel.τ).loc Cert.BranchKernel.main_arg4) = m ((c.tc : Thread Cert.BranchKernel.nD Cert.BranchKernel.τ).loc Cert.BranchKernel.main_arg4)
      ∧ r.2.mem ((c.tc : Thread Cert.BranchKernel.nD Cert.BranchKernel.τ).loc Cert.BranchKernel.main_arg5) = m ((c.tc : Thread Cert.BranchKernel.nD Cert.BranchKernel.τ).loc Cert.BranchKernel.main_arg5)
      ∧ r.2.mem ((c.tc : Thread Cert.BranchKernel.nD Cert.BranchKernel.τ).loc Cert.BranchKernel.main_arg6) = m ((c.tc : Thread Cert.BranchKernel.nD Cert.BranchKernel.τ).loc Cert.BranchKernel.main_arg6))
      ∧ r.2.sem = fun _ => 0)

def quiescent_BranchKernelIdeal [hBranchKernelIdeal : Cert.BranchKernelIdeal.Facts] : Prop :=
  ∀ (m : (ℓ : Loc Cert.BranchKernelIdeal.nD Cert.BranchKernelIdeal.τ Cert.BranchKernelIdeal.sig) → Buf (Elt Ideal) ℓ) (g : Dev Cert.BranchKernelIdeal.nD → PrngReg), Pre_BranchKernelIdeal m →
    θ_run (Cert.BranchKernelIdeal.defs (F := Ideal)) (onTc (τ := Cert.BranchKernelIdeal.τ) (Cert.BranchKernelIdeal.main (F := Ideal))) ⟨m, fun _ => 0, g⟩ (fun r => (∀ c : Dev Cert.BranchKernelIdeal.nD,
      r.2.mem ((c.tc : Thread Cert.BranchKernelIdeal.nD Cert.BranchKernelIdeal.τ).loc Cert.BranchKernelIdeal.main_arg0) = m ((c.tc : Thread Cert.BranchKernelIdeal.nD Cert.BranchKernelIdeal.τ).loc Cert.BranchKernelIdeal.main_arg0)
      ∧ r.2.mem ((c.tc : Thread Cert.BranchKernelIdeal.nD Cert.BranchKernelIdeal.τ).loc Cert.BranchKernelIdeal.main_arg1) = m ((c.tc : Thread Cert.BranchKernelIdeal.nD Cert.BranchKernelIdeal.τ).loc Cert.BranchKernelIdeal.main_arg1)
      ∧ r.2.mem ((c.tc : Thread Cert.BranchKernelIdeal.nD Cert.BranchKernelIdeal.τ).loc Cert.BranchKernelIdeal.main_arg2) = m ((c.tc : Thread Cert.BranchKernelIdeal.nD Cert.BranchKernelIdeal.τ).loc Cert.BranchKernelIdeal.main_arg2)
      ∧ r.2.mem ((c.tc : Thread Cert.BranchKernelIdeal.nD Cert.BranchKernelIdeal.τ).loc Cert.BranchKernelIdeal.main_arg3) = m ((c.tc : Thread Cert.BranchKernelIdeal.nD Cert.BranchKernelIdeal.τ).loc Cert.BranchKernelIdeal.main_arg3)
      ∧ r.2.mem ((c.tc : Thread Cert.BranchKernelIdeal.nD Cert.BranchKernelIdeal.τ).loc Cert.BranchKernelIdeal.main_arg4) = m ((c.tc : Thread Cert.BranchKernelIdeal.nD Cert.BranchKernelIdeal.τ).loc Cert.BranchKernelIdeal.main_arg4)
      ∧ r.2.mem ((c.tc : Thread Cert.BranchKernelIdeal.nD Cert.BranchKernelIdeal.τ).loc Cert.BranchKernelIdeal.main_arg5) = m ((c.tc : Thread Cert.BranchKernelIdeal.nD Cert.BranchKernelIdeal.τ).loc Cert.BranchKernelIdeal.main_arg5)
      ∧ r.2.mem ((c.tc : Thread Cert.BranchKernelIdeal.nD Cert.BranchKernelIdeal.τ).loc Cert.BranchKernelIdeal.main_arg6) = m ((c.tc : Thread Cert.BranchKernelIdeal.nD Cert.BranchKernelIdeal.τ).loc Cert.BranchKernelIdeal.main_arg6))
      ∧ r.2.sem = fun _ => 0)

def quiescent_BranchKernelIdeal_pre_branch_finite [hBranchKernelIdeal : Cert.BranchKernelIdeal.Facts] [hPre_branch_finite : Cert.Pre_branch_finite.Facts] : Prop :=
  ∀ (m : (ℓ : Loc Cert.BranchKernelIdeal.nD Cert.BranchKernelIdeal.τ Cert.BranchKernelIdeal.sig) → Buf (Elt Ideal) ℓ) (g : Dev Cert.BranchKernelIdeal.nD → PrngReg), Pre_BranchKernelIdeal_branch_finite m →
    θ_run (Cert.BranchKernelIdeal.defs (F := Ideal)) (onTc (τ := Cert.BranchKernelIdeal.τ) (Cert.BranchKernelIdeal.main (F := Ideal))) ⟨m, fun _ => 0, g⟩ (fun r => (∀ c : Dev Cert.BranchKernelIdeal.nD,
      r.2.mem ((c.tc : Thread Cert.BranchKernelIdeal.nD Cert.BranchKernelIdeal.τ).loc Cert.BranchKernelIdeal.main_arg0) = m ((c.tc : Thread Cert.BranchKernelIdeal.nD Cert.BranchKernelIdeal.τ).loc Cert.BranchKernelIdeal.main_arg0)
      ∧ r.2.mem ((c.tc : Thread Cert.BranchKernelIdeal.nD Cert.BranchKernelIdeal.τ).loc Cert.BranchKernelIdeal.main_arg1) = m ((c.tc : Thread Cert.BranchKernelIdeal.nD Cert.BranchKernelIdeal.τ).loc Cert.BranchKernelIdeal.main_arg1)
      ∧ r.2.mem ((c.tc : Thread Cert.BranchKernelIdeal.nD Cert.BranchKernelIdeal.τ).loc Cert.BranchKernelIdeal.main_arg2) = m ((c.tc : Thread Cert.BranchKernelIdeal.nD Cert.BranchKernelIdeal.τ).loc Cert.BranchKernelIdeal.main_arg2)
      ∧ r.2.mem ((c.tc : Thread Cert.BranchKernelIdeal.nD Cert.BranchKernelIdeal.τ).loc Cert.BranchKernelIdeal.main_arg3) = m ((c.tc : Thread Cert.BranchKernelIdeal.nD Cert.BranchKernelIdeal.τ).loc Cert.BranchKernelIdeal.main_arg3)
      ∧ r.2.mem ((c.tc : Thread Cert.BranchKernelIdeal.nD Cert.BranchKernelIdeal.τ).loc Cert.BranchKernelIdeal.main_arg4) = m ((c.tc : Thread Cert.BranchKernelIdeal.nD Cert.BranchKernelIdeal.τ).loc Cert.BranchKernelIdeal.main_arg4)
      ∧ r.2.mem ((c.tc : Thread Cert.BranchKernelIdeal.nD Cert.BranchKernelIdeal.τ).loc Cert.BranchKernelIdeal.main_arg5) = m ((c.tc : Thread Cert.BranchKernelIdeal.nD Cert.BranchKernelIdeal.τ).loc Cert.BranchKernelIdeal.main_arg5)
      ∧ r.2.mem ((c.tc : Thread Cert.BranchKernelIdeal.nD Cert.BranchKernelIdeal.τ).loc Cert.BranchKernelIdeal.main_arg6) = m ((c.tc : Thread Cert.BranchKernelIdeal.nD Cert.BranchKernelIdeal.τ).loc Cert.BranchKernelIdeal.main_arg6))
      ∧ r.2.sem = fun _ => 0)

def quiescent_BranchReferenceIdeal [hBranchReferenceIdeal : Cert.BranchReferenceIdeal.Facts] : Prop :=
  ∀ (m : (ℓ : Loc Cert.BranchReferenceIdeal.nD Cert.BranchReferenceIdeal.τ Cert.BranchReferenceIdeal.sig) → Buf (Elt Ideal) ℓ) (g : Dev Cert.BranchReferenceIdeal.nD → PrngReg), Pre_BranchReferenceIdeal m →
    θ_run (Cert.BranchReferenceIdeal.defs (F := Ideal)) (onTc (τ := Cert.BranchReferenceIdeal.τ) (Cert.BranchReferenceIdeal.main (F := Ideal))) ⟨m, fun _ => 0, g⟩ (fun r => (∀ c : Dev Cert.BranchReferenceIdeal.nD,
      r.2.mem ((c.tc : Thread Cert.BranchReferenceIdeal.nD Cert.BranchReferenceIdeal.τ).loc Cert.BranchReferenceIdeal.main_arg0) = m ((c.tc : Thread Cert.BranchReferenceIdeal.nD Cert.BranchReferenceIdeal.τ).loc Cert.BranchReferenceIdeal.main_arg0)
      ∧ r.2.mem ((c.tc : Thread Cert.BranchReferenceIdeal.nD Cert.BranchReferenceIdeal.τ).loc Cert.BranchReferenceIdeal.main_arg1) = m ((c.tc : Thread Cert.BranchReferenceIdeal.nD Cert.BranchReferenceIdeal.τ).loc Cert.BranchReferenceIdeal.main_arg1)
      ∧ r.2.mem ((c.tc : Thread Cert.BranchReferenceIdeal.nD Cert.BranchReferenceIdeal.τ).loc Cert.BranchReferenceIdeal.main_arg2) = m ((c.tc : Thread Cert.BranchReferenceIdeal.nD Cert.BranchReferenceIdeal.τ).loc Cert.BranchReferenceIdeal.main_arg2)
      ∧ r.2.mem ((c.tc : Thread Cert.BranchReferenceIdeal.nD Cert.BranchReferenceIdeal.τ).loc Cert.BranchReferenceIdeal.main_arg3) = m ((c.tc : Thread Cert.BranchReferenceIdeal.nD Cert.BranchReferenceIdeal.τ).loc Cert.BranchReferenceIdeal.main_arg3)
      ∧ r.2.mem ((c.tc : Thread Cert.BranchReferenceIdeal.nD Cert.BranchReferenceIdeal.τ).loc Cert.BranchReferenceIdeal.main_arg4) = m ((c.tc : Thread Cert.BranchReferenceIdeal.nD Cert.BranchReferenceIdeal.τ).loc Cert.BranchReferenceIdeal.main_arg4)
      ∧ r.2.mem ((c.tc : Thread Cert.BranchReferenceIdeal.nD Cert.BranchReferenceIdeal.τ).loc Cert.BranchReferenceIdeal.main_arg5) = m ((c.tc : Thread Cert.BranchReferenceIdeal.nD Cert.BranchReferenceIdeal.τ).loc Cert.BranchReferenceIdeal.main_arg5)
      ∧ r.2.mem ((c.tc : Thread Cert.BranchReferenceIdeal.nD Cert.BranchReferenceIdeal.τ).loc Cert.BranchReferenceIdeal.main_arg6) = m ((c.tc : Thread Cert.BranchReferenceIdeal.nD Cert.BranchReferenceIdeal.τ).loc Cert.BranchReferenceIdeal.main_arg6))
      ∧ r.2.sem = fun _ => 0)

def quiescent_BranchReferenceIdeal_pre_branch_finite [hBranchReferenceIdeal : Cert.BranchReferenceIdeal.Facts] [hPre_branch_finite : Cert.Pre_branch_finite.Facts] : Prop :=
  ∀ (m : (ℓ : Loc Cert.BranchReferenceIdeal.nD Cert.BranchReferenceIdeal.τ Cert.BranchReferenceIdeal.sig) → Buf (Elt Ideal) ℓ) (g : Dev Cert.BranchReferenceIdeal.nD → PrngReg), Pre_BranchReferenceIdeal_branch_finite m →
    θ_run (Cert.BranchReferenceIdeal.defs (F := Ideal)) (onTc (τ := Cert.BranchReferenceIdeal.τ) (Cert.BranchReferenceIdeal.main (F := Ideal))) ⟨m, fun _ => 0, g⟩ (fun r => (∀ c : Dev Cert.BranchReferenceIdeal.nD,
      r.2.mem ((c.tc : Thread Cert.BranchReferenceIdeal.nD Cert.BranchReferenceIdeal.τ).loc Cert.BranchReferenceIdeal.main_arg0) = m ((c.tc : Thread Cert.BranchReferenceIdeal.nD Cert.BranchReferenceIdeal.τ).loc Cert.BranchReferenceIdeal.main_arg0)
      ∧ r.2.mem ((c.tc : Thread Cert.BranchReferenceIdeal.nD Cert.BranchReferenceIdeal.τ).loc Cert.BranchReferenceIdeal.main_arg1) = m ((c.tc : Thread Cert.BranchReferenceIdeal.nD Cert.BranchReferenceIdeal.τ).loc Cert.BranchReferenceIdeal.main_arg1)
      ∧ r.2.mem ((c.tc : Thread Cert.BranchReferenceIdeal.nD Cert.BranchReferenceIdeal.τ).loc Cert.BranchReferenceIdeal.main_arg2) = m ((c.tc : Thread Cert.BranchReferenceIdeal.nD Cert.BranchReferenceIdeal.τ).loc Cert.BranchReferenceIdeal.main_arg2)
      ∧ r.2.mem ((c.tc : Thread Cert.BranchReferenceIdeal.nD Cert.BranchReferenceIdeal.τ).loc Cert.BranchReferenceIdeal.main_arg3) = m ((c.tc : Thread Cert.BranchReferenceIdeal.nD Cert.BranchReferenceIdeal.τ).loc Cert.BranchReferenceIdeal.main_arg3)
      ∧ r.2.mem ((c.tc : Thread Cert.BranchReferenceIdeal.nD Cert.BranchReferenceIdeal.τ).loc Cert.BranchReferenceIdeal.main_arg4) = m ((c.tc : Thread Cert.BranchReferenceIdeal.nD Cert.BranchReferenceIdeal.τ).loc Cert.BranchReferenceIdeal.main_arg4)
      ∧ r.2.mem ((c.tc : Thread Cert.BranchReferenceIdeal.nD Cert.BranchReferenceIdeal.τ).loc Cert.BranchReferenceIdeal.main_arg5) = m ((c.tc : Thread Cert.BranchReferenceIdeal.nD Cert.BranchReferenceIdeal.τ).loc Cert.BranchReferenceIdeal.main_arg5)
      ∧ r.2.mem ((c.tc : Thread Cert.BranchReferenceIdeal.nD Cert.BranchReferenceIdeal.τ).loc Cert.BranchReferenceIdeal.main_arg6) = m ((c.tc : Thread Cert.BranchReferenceIdeal.nD Cert.BranchReferenceIdeal.τ).loc Cert.BranchReferenceIdeal.main_arg6))
      ∧ r.2.sem = fun _ => 0)

def quiescent_FgateKernel [hFgateKernel : Cert.FgateKernel.Facts] : Prop :=
  ∀ (m : (ℓ : Loc Cert.FgateKernel.nD Cert.FgateKernel.τ Cert.FgateKernel.sig) → Buf (Elt Bits) ℓ) (g : Dev Cert.FgateKernel.nD → PrngReg), Pre_FgateKernel m →
    θ_run (Cert.FgateKernel.defs (F := Bits)) (onTc (τ := Cert.FgateKernel.τ) (Cert.FgateKernel.main (F := Bits))) ⟨m, fun _ => 0, g⟩ (fun r => (∀ c : Dev Cert.FgateKernel.nD,
      r.2.mem ((c.tc : Thread Cert.FgateKernel.nD Cert.FgateKernel.τ).loc Cert.FgateKernel.main_arg0) = m ((c.tc : Thread Cert.FgateKernel.nD Cert.FgateKernel.τ).loc Cert.FgateKernel.main_arg0)
      ∧ r.2.mem ((c.tc : Thread Cert.FgateKernel.nD Cert.FgateKernel.τ).loc Cert.FgateKernel.main_arg1) = m ((c.tc : Thread Cert.FgateKernel.nD Cert.FgateKernel.τ).loc Cert.FgateKernel.main_arg1))
      ∧ r.2.sem = fun _ => 0)

def quiescent_FgateKernelIdeal [hFgateKernelIdeal : Cert.FgateKernelIdeal.Facts] : Prop :=
  ∀ (m : (ℓ : Loc Cert.FgateKernelIdeal.nD Cert.FgateKernelIdeal.τ Cert.FgateKernelIdeal.sig) → Buf (Elt Ideal) ℓ) (g : Dev Cert.FgateKernelIdeal.nD → PrngReg), Pre_FgateKernelIdeal m →
    θ_run (Cert.FgateKernelIdeal.defs (F := Ideal)) (onTc (τ := Cert.FgateKernelIdeal.τ) (Cert.FgateKernelIdeal.main (F := Ideal))) ⟨m, fun _ => 0, g⟩ (fun r => (∀ c : Dev Cert.FgateKernelIdeal.nD,
      r.2.mem ((c.tc : Thread Cert.FgateKernelIdeal.nD Cert.FgateKernelIdeal.τ).loc Cert.FgateKernelIdeal.main_arg0) = m ((c.tc : Thread Cert.FgateKernelIdeal.nD Cert.FgateKernelIdeal.τ).loc Cert.FgateKernelIdeal.main_arg0)
      ∧ r.2.mem ((c.tc : Thread Cert.FgateKernelIdeal.nD Cert.FgateKernelIdeal.τ).loc Cert.FgateKernelIdeal.main_arg1) = m ((c.tc : Thread Cert.FgateKernelIdeal.nD Cert.FgateKernelIdeal.τ).loc Cert.FgateKernelIdeal.main_arg1))
      ∧ r.2.sem = fun _ => 0)

def quiescent_FgateKernelIdeal_pre_fgate_finite [hFgateKernelIdeal : Cert.FgateKernelIdeal.Facts] [hPre_fgate_finite : Cert.Pre_fgate_finite.Facts] : Prop :=
  ∀ (m : (ℓ : Loc Cert.FgateKernelIdeal.nD Cert.FgateKernelIdeal.τ Cert.FgateKernelIdeal.sig) → Buf (Elt Ideal) ℓ) (g : Dev Cert.FgateKernelIdeal.nD → PrngReg), Pre_FgateKernelIdeal_fgate_finite m →
    θ_run (Cert.FgateKernelIdeal.defs (F := Ideal)) (onTc (τ := Cert.FgateKernelIdeal.τ) (Cert.FgateKernelIdeal.main (F := Ideal))) ⟨m, fun _ => 0, g⟩ (fun r => (∀ c : Dev Cert.FgateKernelIdeal.nD,
      r.2.mem ((c.tc : Thread Cert.FgateKernelIdeal.nD Cert.FgateKernelIdeal.τ).loc Cert.FgateKernelIdeal.main_arg0) = m ((c.tc : Thread Cert.FgateKernelIdeal.nD Cert.FgateKernelIdeal.τ).loc Cert.FgateKernelIdeal.main_arg0)
      ∧ r.2.mem ((c.tc : Thread Cert.FgateKernelIdeal.nD Cert.FgateKernelIdeal.τ).loc Cert.FgateKernelIdeal.main_arg1) = m ((c.tc : Thread Cert.FgateKernelIdeal.nD Cert.FgateKernelIdeal.τ).loc Cert.FgateKernelIdeal.main_arg1))
      ∧ r.2.sem = fun _ => 0)

def quiescent_FgateReferenceIdeal [hFgateReferenceIdeal : Cert.FgateReferenceIdeal.Facts] : Prop :=
  ∀ (m : (ℓ : Loc Cert.FgateReferenceIdeal.nD Cert.FgateReferenceIdeal.τ Cert.FgateReferenceIdeal.sig) → Buf (Elt Ideal) ℓ) (g : Dev Cert.FgateReferenceIdeal.nD → PrngReg), Pre_FgateReferenceIdeal m →
    θ_run (Cert.FgateReferenceIdeal.defs (F := Ideal)) (onTc (τ := Cert.FgateReferenceIdeal.τ) (Cert.FgateReferenceIdeal.main (F := Ideal))) ⟨m, fun _ => 0, g⟩ (fun r => (∀ c : Dev Cert.FgateReferenceIdeal.nD,
      r.2.mem ((c.tc : Thread Cert.FgateReferenceIdeal.nD Cert.FgateReferenceIdeal.τ).loc Cert.FgateReferenceIdeal.main_arg0) = m ((c.tc : Thread Cert.FgateReferenceIdeal.nD Cert.FgateReferenceIdeal.τ).loc Cert.FgateReferenceIdeal.main_arg0)
      ∧ r.2.mem ((c.tc : Thread Cert.FgateReferenceIdeal.nD Cert.FgateReferenceIdeal.τ).loc Cert.FgateReferenceIdeal.main_arg1) = m ((c.tc : Thread Cert.FgateReferenceIdeal.nD Cert.FgateReferenceIdeal.τ).loc Cert.FgateReferenceIdeal.main_arg1))
      ∧ r.2.sem = fun _ => 0)

def quiescent_FgateReferenceIdeal_pre_fgate_finite [hFgateReferenceIdeal : Cert.FgateReferenceIdeal.Facts] [hPre_fgate_finite : Cert.Pre_fgate_finite.Facts] : Prop :=
  ∀ (m : (ℓ : Loc Cert.FgateReferenceIdeal.nD Cert.FgateReferenceIdeal.τ Cert.FgateReferenceIdeal.sig) → Buf (Elt Ideal) ℓ) (g : Dev Cert.FgateReferenceIdeal.nD → PrngReg), Pre_FgateReferenceIdeal_fgate_finite m →
    θ_run (Cert.FgateReferenceIdeal.defs (F := Ideal)) (onTc (τ := Cert.FgateReferenceIdeal.τ) (Cert.FgateReferenceIdeal.main (F := Ideal))) ⟨m, fun _ => 0, g⟩ (fun r => (∀ c : Dev Cert.FgateReferenceIdeal.nD,
      r.2.mem ((c.tc : Thread Cert.FgateReferenceIdeal.nD Cert.FgateReferenceIdeal.τ).loc Cert.FgateReferenceIdeal.main_arg0) = m ((c.tc : Thread Cert.FgateReferenceIdeal.nD Cert.FgateReferenceIdeal.τ).loc Cert.FgateReferenceIdeal.main_arg0)
      ∧ r.2.mem ((c.tc : Thread Cert.FgateReferenceIdeal.nD Cert.FgateReferenceIdeal.τ).loc Cert.FgateReferenceIdeal.main_arg1) = m ((c.tc : Thread Cert.FgateReferenceIdeal.nD Cert.FgateReferenceIdeal.τ).loc Cert.FgateReferenceIdeal.main_arg1))
      ∧ r.2.sem = fun _ => 0)

def quiescent_AttnKernel [hAttnKernel : Cert.AttnKernel.Facts] : Prop :=
  ∀ (m : (ℓ : Loc Cert.AttnKernel.nD Cert.AttnKernel.τ Cert.AttnKernel.sig) → Buf (Elt Bits) ℓ) (g : Dev Cert.AttnKernel.nD → PrngReg), Pre_AttnKernel m →
    θ_run (Cert.AttnKernel.defs (F := Bits)) (onTc (τ := Cert.AttnKernel.τ) (Cert.AttnKernel.main (F := Bits))) ⟨m, fun _ => 0, g⟩ (fun r => (∀ c : Dev Cert.AttnKernel.nD,
      r.2.mem ((c.tc : Thread Cert.AttnKernel.nD Cert.AttnKernel.τ).loc Cert.AttnKernel.main_arg0) = m ((c.tc : Thread Cert.AttnKernel.nD Cert.AttnKernel.τ).loc Cert.AttnKernel.main_arg0)
      ∧ r.2.mem ((c.tc : Thread Cert.AttnKernel.nD Cert.AttnKernel.τ).loc Cert.AttnKernel.main_arg1) = m ((c.tc : Thread Cert.AttnKernel.nD Cert.AttnKernel.τ).loc Cert.AttnKernel.main_arg1)
      ∧ r.2.mem ((c.tc : Thread Cert.AttnKernel.nD Cert.AttnKernel.τ).loc Cert.AttnKernel.main_arg2) = m ((c.tc : Thread Cert.AttnKernel.nD Cert.AttnKernel.τ).loc Cert.AttnKernel.main_arg2)
      ∧ r.2.mem ((c.tc : Thread Cert.AttnKernel.nD Cert.AttnKernel.τ).loc Cert.AttnKernel.main_arg3) = m ((c.tc : Thread Cert.AttnKernel.nD Cert.AttnKernel.τ).loc Cert.AttnKernel.main_arg3)
      ∧ r.2.mem ((c.tc : Thread Cert.AttnKernel.nD Cert.AttnKernel.τ).loc Cert.AttnKernel.main_arg4) = m ((c.tc : Thread Cert.AttnKernel.nD Cert.AttnKernel.τ).loc Cert.AttnKernel.main_arg4))
      ∧ r.2.sem = fun _ => 0)

def quiescent_AttnKernelIdeal [hAttnKernelIdeal : Cert.AttnKernelIdeal.Facts] : Prop :=
  ∀ (m : (ℓ : Loc Cert.AttnKernelIdeal.nD Cert.AttnKernelIdeal.τ Cert.AttnKernelIdeal.sig) → Buf (Elt Ideal) ℓ) (g : Dev Cert.AttnKernelIdeal.nD → PrngReg), Pre_AttnKernelIdeal m →
    θ_run (Cert.AttnKernelIdeal.defs (F := Ideal)) (onTc (τ := Cert.AttnKernelIdeal.τ) (Cert.AttnKernelIdeal.main (F := Ideal))) ⟨m, fun _ => 0, g⟩ (fun r => (∀ c : Dev Cert.AttnKernelIdeal.nD,
      r.2.mem ((c.tc : Thread Cert.AttnKernelIdeal.nD Cert.AttnKernelIdeal.τ).loc Cert.AttnKernelIdeal.main_arg0) = m ((c.tc : Thread Cert.AttnKernelIdeal.nD Cert.AttnKernelIdeal.τ).loc Cert.AttnKernelIdeal.main_arg0)
      ∧ r.2.mem ((c.tc : Thread Cert.AttnKernelIdeal.nD Cert.AttnKernelIdeal.τ).loc Cert.AttnKernelIdeal.main_arg1) = m ((c.tc : Thread Cert.AttnKernelIdeal.nD Cert.AttnKernelIdeal.τ).loc Cert.AttnKernelIdeal.main_arg1)
      ∧ r.2.mem ((c.tc : Thread Cert.AttnKernelIdeal.nD Cert.AttnKernelIdeal.τ).loc Cert.AttnKernelIdeal.main_arg2) = m ((c.tc : Thread Cert.AttnKernelIdeal.nD Cert.AttnKernelIdeal.τ).loc Cert.AttnKernelIdeal.main_arg2)
      ∧ r.2.mem ((c.tc : Thread Cert.AttnKernelIdeal.nD Cert.AttnKernelIdeal.τ).loc Cert.AttnKernelIdeal.main_arg3) = m ((c.tc : Thread Cert.AttnKernelIdeal.nD Cert.AttnKernelIdeal.τ).loc Cert.AttnKernelIdeal.main_arg3)
      ∧ r.2.mem ((c.tc : Thread Cert.AttnKernelIdeal.nD Cert.AttnKernelIdeal.τ).loc Cert.AttnKernelIdeal.main_arg4) = m ((c.tc : Thread Cert.AttnKernelIdeal.nD Cert.AttnKernelIdeal.τ).loc Cert.AttnKernelIdeal.main_arg4))
      ∧ r.2.sem = fun _ => 0)

def quiescent_AttnKernelIdeal_pre_attn_finite [hAttnKernelIdeal : Cert.AttnKernelIdeal.Facts] [hPre_attn_finite : Cert.Pre_attn_finite.Facts] : Prop :=
  ∀ (m : (ℓ : Loc Cert.AttnKernelIdeal.nD Cert.AttnKernelIdeal.τ Cert.AttnKernelIdeal.sig) → Buf (Elt Ideal) ℓ) (g : Dev Cert.AttnKernelIdeal.nD → PrngReg), Pre_AttnKernelIdeal_attn_finite m →
    θ_run (Cert.AttnKernelIdeal.defs (F := Ideal)) (onTc (τ := Cert.AttnKernelIdeal.τ) (Cert.AttnKernelIdeal.main (F := Ideal))) ⟨m, fun _ => 0, g⟩ (fun r => (∀ c : Dev Cert.AttnKernelIdeal.nD,
      r.2.mem ((c.tc : Thread Cert.AttnKernelIdeal.nD Cert.AttnKernelIdeal.τ).loc Cert.AttnKernelIdeal.main_arg0) = m ((c.tc : Thread Cert.AttnKernelIdeal.nD Cert.AttnKernelIdeal.τ).loc Cert.AttnKernelIdeal.main_arg0)
      ∧ r.2.mem ((c.tc : Thread Cert.AttnKernelIdeal.nD Cert.AttnKernelIdeal.τ).loc Cert.AttnKernelIdeal.main_arg1) = m ((c.tc : Thread Cert.AttnKernelIdeal.nD Cert.AttnKernelIdeal.τ).loc Cert.AttnKernelIdeal.main_arg1)
      ∧ r.2.mem ((c.tc : Thread Cert.AttnKernelIdeal.nD Cert.AttnKernelIdeal.τ).loc Cert.AttnKernelIdeal.main_arg2) = m ((c.tc : Thread Cert.AttnKernelIdeal.nD Cert.AttnKernelIdeal.τ).loc Cert.AttnKernelIdeal.main_arg2)
      ∧ r.2.mem ((c.tc : Thread Cert.AttnKernelIdeal.nD Cert.AttnKernelIdeal.τ).loc Cert.AttnKernelIdeal.main_arg3) = m ((c.tc : Thread Cert.AttnKernelIdeal.nD Cert.AttnKernelIdeal.τ).loc Cert.AttnKernelIdeal.main_arg3)
      ∧ r.2.mem ((c.tc : Thread Cert.AttnKernelIdeal.nD Cert.AttnKernelIdeal.τ).loc Cert.AttnKernelIdeal.main_arg4) = m ((c.tc : Thread Cert.AttnKernelIdeal.nD Cert.AttnKernelIdeal.τ).loc Cert.AttnKernelIdeal.main_arg4))
      ∧ r.2.sem = fun _ => 0)

def quiescent_AttnReferenceIdeal [hAttnReferenceIdeal : Cert.AttnReferenceIdeal.Facts] : Prop :=
  ∀ (m : (ℓ : Loc Cert.AttnReferenceIdeal.nD Cert.AttnReferenceIdeal.τ Cert.AttnReferenceIdeal.sig) → Buf (Elt Ideal) ℓ) (g : Dev Cert.AttnReferenceIdeal.nD → PrngReg), Pre_AttnReferenceIdeal m →
    θ_run (Cert.AttnReferenceIdeal.defs (F := Ideal)) (onTc (τ := Cert.AttnReferenceIdeal.τ) (Cert.AttnReferenceIdeal.main (F := Ideal))) ⟨m, fun _ => 0, g⟩ (fun r => (∀ c : Dev Cert.AttnReferenceIdeal.nD,
      r.2.mem ((c.tc : Thread Cert.AttnReferenceIdeal.nD Cert.AttnReferenceIdeal.τ).loc Cert.AttnReferenceIdeal.main_arg0) = m ((c.tc : Thread Cert.AttnReferenceIdeal.nD Cert.AttnReferenceIdeal.τ).loc Cert.AttnReferenceIdeal.main_arg0)
      ∧ r.2.mem ((c.tc : Thread Cert.AttnReferenceIdeal.nD Cert.AttnReferenceIdeal.τ).loc Cert.AttnReferenceIdeal.main_arg1) = m ((c.tc : Thread Cert.AttnReferenceIdeal.nD Cert.AttnReferenceIdeal.τ).loc Cert.AttnReferenceIdeal.main_arg1)
      ∧ r.2.mem ((c.tc : Thread Cert.AttnReferenceIdeal.nD Cert.AttnReferenceIdeal.τ).loc Cert.AttnReferenceIdeal.main_arg2) = m ((c.tc : Thread Cert.AttnReferenceIdeal.nD Cert.AttnReferenceIdeal.τ).loc Cert.AttnReferenceIdeal.main_arg2)
      ∧ r.2.mem ((c.tc : Thread Cert.AttnReferenceIdeal.nD Cert.AttnReferenceIdeal.τ).loc Cert.AttnReferenceIdeal.main_arg3) = m ((c.tc : Thread Cert.AttnReferenceIdeal.nD Cert.AttnReferenceIdeal.τ).loc Cert.AttnReferenceIdeal.main_arg3)
      ∧ r.2.mem ((c.tc : Thread Cert.AttnReferenceIdeal.nD Cert.AttnReferenceIdeal.τ).loc Cert.AttnReferenceIdeal.main_arg4) = m ((c.tc : Thread Cert.AttnReferenceIdeal.nD Cert.AttnReferenceIdeal.τ).loc Cert.AttnReferenceIdeal.main_arg4))
      ∧ r.2.sem = fun _ => 0)

def quiescent_AttnReferenceIdeal_pre_attn_finite [hAttnReferenceIdeal : Cert.AttnReferenceIdeal.Facts] [hPre_attn_finite : Cert.Pre_attn_finite.Facts] : Prop :=
  ∀ (m : (ℓ : Loc Cert.AttnReferenceIdeal.nD Cert.AttnReferenceIdeal.τ Cert.AttnReferenceIdeal.sig) → Buf (Elt Ideal) ℓ) (g : Dev Cert.AttnReferenceIdeal.nD → PrngReg), Pre_AttnReferenceIdeal_attn_finite m →
    θ_run (Cert.AttnReferenceIdeal.defs (F := Ideal)) (onTc (τ := Cert.AttnReferenceIdeal.τ) (Cert.AttnReferenceIdeal.main (F := Ideal))) ⟨m, fun _ => 0, g⟩ (fun r => (∀ c : Dev Cert.AttnReferenceIdeal.nD,
      r.2.mem ((c.tc : Thread Cert.AttnReferenceIdeal.nD Cert.AttnReferenceIdeal.τ).loc Cert.AttnReferenceIdeal.main_arg0) = m ((c.tc : Thread Cert.AttnReferenceIdeal.nD Cert.AttnReferenceIdeal.τ).loc Cert.AttnReferenceIdeal.main_arg0)
      ∧ r.2.mem ((c.tc : Thread Cert.AttnReferenceIdeal.nD Cert.AttnReferenceIdeal.τ).loc Cert.AttnReferenceIdeal.main_arg1) = m ((c.tc : Thread Cert.AttnReferenceIdeal.nD Cert.AttnReferenceIdeal.τ).loc Cert.AttnReferenceIdeal.main_arg1)
      ∧ r.2.mem ((c.tc : Thread Cert.AttnReferenceIdeal.nD Cert.AttnReferenceIdeal.τ).loc Cert.AttnReferenceIdeal.main_arg2) = m ((c.tc : Thread Cert.AttnReferenceIdeal.nD Cert.AttnReferenceIdeal.τ).loc Cert.AttnReferenceIdeal.main_arg2)
      ∧ r.2.mem ((c.tc : Thread Cert.AttnReferenceIdeal.nD Cert.AttnReferenceIdeal.τ).loc Cert.AttnReferenceIdeal.main_arg3) = m ((c.tc : Thread Cert.AttnReferenceIdeal.nD Cert.AttnReferenceIdeal.τ).loc Cert.AttnReferenceIdeal.main_arg3)
      ∧ r.2.mem ((c.tc : Thread Cert.AttnReferenceIdeal.nD Cert.AttnReferenceIdeal.τ).loc Cert.AttnReferenceIdeal.main_arg4) = m ((c.tc : Thread Cert.AttnReferenceIdeal.nD Cert.AttnReferenceIdeal.τ).loc Cert.AttnReferenceIdeal.main_arg4))
      ∧ r.2.sem = fun _ => 0)

def quiescent_LossKernel [hLossKernel : Cert.LossKernel.Facts] : Prop :=
  ∀ (m : (ℓ : Loc Cert.LossKernel.nD Cert.LossKernel.τ Cert.LossKernel.sig) → Buf (Elt Bits) ℓ) (g : Dev Cert.LossKernel.nD → PrngReg), Pre_LossKernel m →
    θ_run (Cert.LossKernel.defs (F := Bits)) (onTc (τ := Cert.LossKernel.τ) (Cert.LossKernel.main (F := Bits))) ⟨m, fun _ => 0, g⟩ (fun r => (∀ c : Dev Cert.LossKernel.nD,
      r.2.mem ((c.tc : Thread Cert.LossKernel.nD Cert.LossKernel.τ).loc Cert.LossKernel.main_arg0) = m ((c.tc : Thread Cert.LossKernel.nD Cert.LossKernel.τ).loc Cert.LossKernel.main_arg0)
      ∧ r.2.mem ((c.tc : Thread Cert.LossKernel.nD Cert.LossKernel.τ).loc Cert.LossKernel.main_arg1) = m ((c.tc : Thread Cert.LossKernel.nD Cert.LossKernel.τ).loc Cert.LossKernel.main_arg1)
      ∧ r.2.mem ((c.tc : Thread Cert.LossKernel.nD Cert.LossKernel.τ).loc Cert.LossKernel.main_arg2) = m ((c.tc : Thread Cert.LossKernel.nD Cert.LossKernel.τ).loc Cert.LossKernel.main_arg2)
      ∧ r.2.mem ((c.tc : Thread Cert.LossKernel.nD Cert.LossKernel.τ).loc Cert.LossKernel.main_arg3) = m ((c.tc : Thread Cert.LossKernel.nD Cert.LossKernel.τ).loc Cert.LossKernel.main_arg3)
      ∧ r.2.mem ((c.tc : Thread Cert.LossKernel.nD Cert.LossKernel.τ).loc Cert.LossKernel.main_arg4) = m ((c.tc : Thread Cert.LossKernel.nD Cert.LossKernel.τ).loc Cert.LossKernel.main_arg4))
      ∧ r.2.sem = fun _ => 0)

def quiescent_LossKernelIdeal [hLossKernelIdeal : Cert.LossKernelIdeal.Facts] : Prop :=
  ∀ (m : (ℓ : Loc Cert.LossKernelIdeal.nD Cert.LossKernelIdeal.τ Cert.LossKernelIdeal.sig) → Buf (Elt Ideal) ℓ) (g : Dev Cert.LossKernelIdeal.nD → PrngReg), Pre_LossKernelIdeal m →
    θ_run (Cert.LossKernelIdeal.defs (F := Ideal)) (onTc (τ := Cert.LossKernelIdeal.τ) (Cert.LossKernelIdeal.main (F := Ideal))) ⟨m, fun _ => 0, g⟩ (fun r => (∀ c : Dev Cert.LossKernelIdeal.nD,
      r.2.mem ((c.tc : Thread Cert.LossKernelIdeal.nD Cert.LossKernelIdeal.τ).loc Cert.LossKernelIdeal.main_arg0) = m ((c.tc : Thread Cert.LossKernelIdeal.nD Cert.LossKernelIdeal.τ).loc Cert.LossKernelIdeal.main_arg0)
      ∧ r.2.mem ((c.tc : Thread Cert.LossKernelIdeal.nD Cert.LossKernelIdeal.τ).loc Cert.LossKernelIdeal.main_arg1) = m ((c.tc : Thread Cert.LossKernelIdeal.nD Cert.LossKernelIdeal.τ).loc Cert.LossKernelIdeal.main_arg1)
      ∧ r.2.mem ((c.tc : Thread Cert.LossKernelIdeal.nD Cert.LossKernelIdeal.τ).loc Cert.LossKernelIdeal.main_arg2) = m ((c.tc : Thread Cert.LossKernelIdeal.nD Cert.LossKernelIdeal.τ).loc Cert.LossKernelIdeal.main_arg2)
      ∧ r.2.mem ((c.tc : Thread Cert.LossKernelIdeal.nD Cert.LossKernelIdeal.τ).loc Cert.LossKernelIdeal.main_arg3) = m ((c.tc : Thread Cert.LossKernelIdeal.nD Cert.LossKernelIdeal.τ).loc Cert.LossKernelIdeal.main_arg3)
      ∧ r.2.mem ((c.tc : Thread Cert.LossKernelIdeal.nD Cert.LossKernelIdeal.τ).loc Cert.LossKernelIdeal.main_arg4) = m ((c.tc : Thread Cert.LossKernelIdeal.nD Cert.LossKernelIdeal.τ).loc Cert.LossKernelIdeal.main_arg4))
      ∧ r.2.sem = fun _ => 0)

def quiescent_LossKernelIdeal_pre_loss_finite [hLossKernelIdeal : Cert.LossKernelIdeal.Facts] [hPre_loss_finite : Cert.Pre_loss_finite.Facts] : Prop :=
  ∀ (m : (ℓ : Loc Cert.LossKernelIdeal.nD Cert.LossKernelIdeal.τ Cert.LossKernelIdeal.sig) → Buf (Elt Ideal) ℓ) (g : Dev Cert.LossKernelIdeal.nD → PrngReg), Pre_LossKernelIdeal_loss_finite m →
    θ_run (Cert.LossKernelIdeal.defs (F := Ideal)) (onTc (τ := Cert.LossKernelIdeal.τ) (Cert.LossKernelIdeal.main (F := Ideal))) ⟨m, fun _ => 0, g⟩ (fun r => (∀ c : Dev Cert.LossKernelIdeal.nD,
      r.2.mem ((c.tc : Thread Cert.LossKernelIdeal.nD Cert.LossKernelIdeal.τ).loc Cert.LossKernelIdeal.main_arg0) = m ((c.tc : Thread Cert.LossKernelIdeal.nD Cert.LossKernelIdeal.τ).loc Cert.LossKernelIdeal.main_arg0)
      ∧ r.2.mem ((c.tc : Thread Cert.LossKernelIdeal.nD Cert.LossKernelIdeal.τ).loc Cert.LossKernelIdeal.main_arg1) = m ((c.tc : Thread Cert.LossKernelIdeal.nD Cert.LossKernelIdeal.τ).loc Cert.LossKernelIdeal.main_arg1)
      ∧ r.2.mem ((c.tc : Thread Cert.LossKernelIdeal.nD Cert.LossKernelIdeal.τ).loc Cert.LossKernelIdeal.main_arg2) = m ((c.tc : Thread Cert.LossKernelIdeal.nD Cert.LossKernelIdeal.τ).loc Cert.LossKernelIdeal.main_arg2)
      ∧ r.2.mem ((c.tc : Thread Cert.LossKernelIdeal.nD Cert.LossKernelIdeal.τ).loc Cert.LossKernelIdeal.main_arg3) = m ((c.tc : Thread Cert.LossKernelIdeal.nD Cert.LossKernelIdeal.τ).loc Cert.LossKernelIdeal.main_arg3)
      ∧ r.2.mem ((c.tc : Thread Cert.LossKernelIdeal.nD Cert.LossKernelIdeal.τ).loc Cert.LossKernelIdeal.main_arg4) = m ((c.tc : Thread Cert.LossKernelIdeal.nD Cert.LossKernelIdeal.τ).loc Cert.LossKernelIdeal.main_arg4))
      ∧ r.2.sem = fun _ => 0)

def quiescent_LossReferenceIdeal [hLossReferenceIdeal : Cert.LossReferenceIdeal.Facts] : Prop :=
  ∀ (m : (ℓ : Loc Cert.LossReferenceIdeal.nD Cert.LossReferenceIdeal.τ Cert.LossReferenceIdeal.sig) → Buf (Elt Ideal) ℓ) (g : Dev Cert.LossReferenceIdeal.nD → PrngReg), Pre_LossReferenceIdeal m →
    θ_run (Cert.LossReferenceIdeal.defs (F := Ideal)) (onTc (τ := Cert.LossReferenceIdeal.τ) (Cert.LossReferenceIdeal.main (F := Ideal))) ⟨m, fun _ => 0, g⟩ (fun r => (∀ c : Dev Cert.LossReferenceIdeal.nD,
      r.2.mem ((c.tc : Thread Cert.LossReferenceIdeal.nD Cert.LossReferenceIdeal.τ).loc Cert.LossReferenceIdeal.main_arg0) = m ((c.tc : Thread Cert.LossReferenceIdeal.nD Cert.LossReferenceIdeal.τ).loc Cert.LossReferenceIdeal.main_arg0)
      ∧ r.2.mem ((c.tc : Thread Cert.LossReferenceIdeal.nD Cert.LossReferenceIdeal.τ).loc Cert.LossReferenceIdeal.main_arg1) = m ((c.tc : Thread Cert.LossReferenceIdeal.nD Cert.LossReferenceIdeal.τ).loc Cert.LossReferenceIdeal.main_arg1)
      ∧ r.2.mem ((c.tc : Thread Cert.LossReferenceIdeal.nD Cert.LossReferenceIdeal.τ).loc Cert.LossReferenceIdeal.main_arg2) = m ((c.tc : Thread Cert.LossReferenceIdeal.nD Cert.LossReferenceIdeal.τ).loc Cert.LossReferenceIdeal.main_arg2)
      ∧ r.2.mem ((c.tc : Thread Cert.LossReferenceIdeal.nD Cert.LossReferenceIdeal.τ).loc Cert.LossReferenceIdeal.main_arg3) = m ((c.tc : Thread Cert.LossReferenceIdeal.nD Cert.LossReferenceIdeal.τ).loc Cert.LossReferenceIdeal.main_arg3)
      ∧ r.2.mem ((c.tc : Thread Cert.LossReferenceIdeal.nD Cert.LossReferenceIdeal.τ).loc Cert.LossReferenceIdeal.main_arg4) = m ((c.tc : Thread Cert.LossReferenceIdeal.nD Cert.LossReferenceIdeal.τ).loc Cert.LossReferenceIdeal.main_arg4))
      ∧ r.2.sem = fun _ => 0)

def quiescent_LossReferenceIdeal_pre_loss_finite [hLossReferenceIdeal : Cert.LossReferenceIdeal.Facts] [hPre_loss_finite : Cert.Pre_loss_finite.Facts] : Prop :=
  ∀ (m : (ℓ : Loc Cert.LossReferenceIdeal.nD Cert.LossReferenceIdeal.τ Cert.LossReferenceIdeal.sig) → Buf (Elt Ideal) ℓ) (g : Dev Cert.LossReferenceIdeal.nD → PrngReg), Pre_LossReferenceIdeal_loss_finite m →
    θ_run (Cert.LossReferenceIdeal.defs (F := Ideal)) (onTc (τ := Cert.LossReferenceIdeal.τ) (Cert.LossReferenceIdeal.main (F := Ideal))) ⟨m, fun _ => 0, g⟩ (fun r => (∀ c : Dev Cert.LossReferenceIdeal.nD,
      r.2.mem ((c.tc : Thread Cert.LossReferenceIdeal.nD Cert.LossReferenceIdeal.τ).loc Cert.LossReferenceIdeal.main_arg0) = m ((c.tc : Thread Cert.LossReferenceIdeal.nD Cert.LossReferenceIdeal.τ).loc Cert.LossReferenceIdeal.main_arg0)
      ∧ r.2.mem ((c.tc : Thread Cert.LossReferenceIdeal.nD Cert.LossReferenceIdeal.τ).loc Cert.LossReferenceIdeal.main_arg1) = m ((c.tc : Thread Cert.LossReferenceIdeal.nD Cert.LossReferenceIdeal.τ).loc Cert.LossReferenceIdeal.main_arg1)
      ∧ r.2.mem ((c.tc : Thread Cert.LossReferenceIdeal.nD Cert.LossReferenceIdeal.τ).loc Cert.LossReferenceIdeal.main_arg2) = m ((c.tc : Thread Cert.LossReferenceIdeal.nD Cert.LossReferenceIdeal.τ).loc Cert.LossReferenceIdeal.main_arg2)
      ∧ r.2.mem ((c.tc : Thread Cert.LossReferenceIdeal.nD Cert.LossReferenceIdeal.τ).loc Cert.LossReferenceIdeal.main_arg3) = m ((c.tc : Thread Cert.LossReferenceIdeal.nD Cert.LossReferenceIdeal.τ).loc Cert.LossReferenceIdeal.main_arg3)
      ∧ r.2.mem ((c.tc : Thread Cert.LossReferenceIdeal.nD Cert.LossReferenceIdeal.τ).loc Cert.LossReferenceIdeal.main_arg4) = m ((c.tc : Thread Cert.LossReferenceIdeal.nD Cert.LossReferenceIdeal.τ).loc Cert.LossReferenceIdeal.main_arg4))
      ∧ r.2.sem = fun _ => 0)

def quiescent_NormKernel [hNormKernel : Cert.NormKernel.Facts] : Prop :=
  ∀ (m : (ℓ : Loc Cert.NormKernel.nD Cert.NormKernel.τ Cert.NormKernel.sig) → Buf (Elt Bits) ℓ) (g : Dev Cert.NormKernel.nD → PrngReg), Pre_NormKernel m →
    θ_run (Cert.NormKernel.defs (F := Bits)) (onTc (τ := Cert.NormKernel.τ) (Cert.NormKernel.main (F := Bits))) ⟨m, fun _ => 0, g⟩ (fun r => (∀ c : Dev Cert.NormKernel.nD,
      r.2.mem ((c.tc : Thread Cert.NormKernel.nD Cert.NormKernel.τ).loc Cert.NormKernel.main_arg0) = m ((c.tc : Thread Cert.NormKernel.nD Cert.NormKernel.τ).loc Cert.NormKernel.main_arg0)
      ∧ r.2.mem ((c.tc : Thread Cert.NormKernel.nD Cert.NormKernel.τ).loc Cert.NormKernel.main_arg1) = m ((c.tc : Thread Cert.NormKernel.nD Cert.NormKernel.τ).loc Cert.NormKernel.main_arg1)
      ∧ r.2.mem ((c.tc : Thread Cert.NormKernel.nD Cert.NormKernel.τ).loc Cert.NormKernel.main_arg2) = m ((c.tc : Thread Cert.NormKernel.nD Cert.NormKernel.τ).loc Cert.NormKernel.main_arg2)
      ∧ r.2.mem ((c.tc : Thread Cert.NormKernel.nD Cert.NormKernel.τ).loc Cert.NormKernel.main_arg3) = m ((c.tc : Thread Cert.NormKernel.nD Cert.NormKernel.τ).loc Cert.NormKernel.main_arg3)
      ∧ r.2.mem ((c.tc : Thread Cert.NormKernel.nD Cert.NormKernel.τ).loc Cert.NormKernel.main_arg4) = m ((c.tc : Thread Cert.NormKernel.nD Cert.NormKernel.τ).loc Cert.NormKernel.main_arg4))
      ∧ r.2.sem = fun _ => 0)

def quiescent_NormKernelIdeal [hNormKernelIdeal : Cert.NormKernelIdeal.Facts] : Prop :=
  ∀ (m : (ℓ : Loc Cert.NormKernelIdeal.nD Cert.NormKernelIdeal.τ Cert.NormKernelIdeal.sig) → Buf (Elt Ideal) ℓ) (g : Dev Cert.NormKernelIdeal.nD → PrngReg), Pre_NormKernelIdeal m →
    θ_run (Cert.NormKernelIdeal.defs (F := Ideal)) (onTc (τ := Cert.NormKernelIdeal.τ) (Cert.NormKernelIdeal.main (F := Ideal))) ⟨m, fun _ => 0, g⟩ (fun r => (∀ c : Dev Cert.NormKernelIdeal.nD,
      r.2.mem ((c.tc : Thread Cert.NormKernelIdeal.nD Cert.NormKernelIdeal.τ).loc Cert.NormKernelIdeal.main_arg0) = m ((c.tc : Thread Cert.NormKernelIdeal.nD Cert.NormKernelIdeal.τ).loc Cert.NormKernelIdeal.main_arg0)
      ∧ r.2.mem ((c.tc : Thread Cert.NormKernelIdeal.nD Cert.NormKernelIdeal.τ).loc Cert.NormKernelIdeal.main_arg1) = m ((c.tc : Thread Cert.NormKernelIdeal.nD Cert.NormKernelIdeal.τ).loc Cert.NormKernelIdeal.main_arg1)
      ∧ r.2.mem ((c.tc : Thread Cert.NormKernelIdeal.nD Cert.NormKernelIdeal.τ).loc Cert.NormKernelIdeal.main_arg2) = m ((c.tc : Thread Cert.NormKernelIdeal.nD Cert.NormKernelIdeal.τ).loc Cert.NormKernelIdeal.main_arg2)
      ∧ r.2.mem ((c.tc : Thread Cert.NormKernelIdeal.nD Cert.NormKernelIdeal.τ).loc Cert.NormKernelIdeal.main_arg3) = m ((c.tc : Thread Cert.NormKernelIdeal.nD Cert.NormKernelIdeal.τ).loc Cert.NormKernelIdeal.main_arg3)
      ∧ r.2.mem ((c.tc : Thread Cert.NormKernelIdeal.nD Cert.NormKernelIdeal.τ).loc Cert.NormKernelIdeal.main_arg4) = m ((c.tc : Thread Cert.NormKernelIdeal.nD Cert.NormKernelIdeal.τ).loc Cert.NormKernelIdeal.main_arg4))
      ∧ r.2.sem = fun _ => 0)

def quiescent_NormKernelIdeal_pre_dh_finite [hNormKernelIdeal : Cert.NormKernelIdeal.Facts] [hPre_dh_finite : Cert.Pre_dh_finite.Facts] : Prop :=
  ∀ (m : (ℓ : Loc Cert.NormKernelIdeal.nD Cert.NormKernelIdeal.τ Cert.NormKernelIdeal.sig) → Buf (Elt Ideal) ℓ) (g : Dev Cert.NormKernelIdeal.nD → PrngReg), Pre_NormKernelIdeal_dh_finite m →
    θ_run (Cert.NormKernelIdeal.defs (F := Ideal)) (onTc (τ := Cert.NormKernelIdeal.τ) (Cert.NormKernelIdeal.main (F := Ideal))) ⟨m, fun _ => 0, g⟩ (fun r => (∀ c : Dev Cert.NormKernelIdeal.nD,
      r.2.mem ((c.tc : Thread Cert.NormKernelIdeal.nD Cert.NormKernelIdeal.τ).loc Cert.NormKernelIdeal.main_arg0) = m ((c.tc : Thread Cert.NormKernelIdeal.nD Cert.NormKernelIdeal.τ).loc Cert.NormKernelIdeal.main_arg0)
      ∧ r.2.mem ((c.tc : Thread Cert.NormKernelIdeal.nD Cert.NormKernelIdeal.τ).loc Cert.NormKernelIdeal.main_arg1) = m ((c.tc : Thread Cert.NormKernelIdeal.nD Cert.NormKernelIdeal.τ).loc Cert.NormKernelIdeal.main_arg1)
      ∧ r.2.mem ((c.tc : Thread Cert.NormKernelIdeal.nD Cert.NormKernelIdeal.τ).loc Cert.NormKernelIdeal.main_arg2) = m ((c.tc : Thread Cert.NormKernelIdeal.nD Cert.NormKernelIdeal.τ).loc Cert.NormKernelIdeal.main_arg2)
      ∧ r.2.mem ((c.tc : Thread Cert.NormKernelIdeal.nD Cert.NormKernelIdeal.τ).loc Cert.NormKernelIdeal.main_arg3) = m ((c.tc : Thread Cert.NormKernelIdeal.nD Cert.NormKernelIdeal.τ).loc Cert.NormKernelIdeal.main_arg3)
      ∧ r.2.mem ((c.tc : Thread Cert.NormKernelIdeal.nD Cert.NormKernelIdeal.τ).loc Cert.NormKernelIdeal.main_arg4) = m ((c.tc : Thread Cert.NormKernelIdeal.nD Cert.NormKernelIdeal.τ).loc Cert.NormKernelIdeal.main_arg4))
      ∧ r.2.sem = fun _ => 0)

def quiescent_NormReferenceIdeal [hNormReferenceIdeal : Cert.NormReferenceIdeal.Facts] : Prop :=
  ∀ (m : (ℓ : Loc Cert.NormReferenceIdeal.nD Cert.NormReferenceIdeal.τ Cert.NormReferenceIdeal.sig) → Buf (Elt Ideal) ℓ) (g : Dev Cert.NormReferenceIdeal.nD → PrngReg), Pre_NormReferenceIdeal m →
    θ_run (Cert.NormReferenceIdeal.defs (F := Ideal)) (onTc (τ := Cert.NormReferenceIdeal.τ) (Cert.NormReferenceIdeal.main (F := Ideal))) ⟨m, fun _ => 0, g⟩ (fun r => (∀ c : Dev Cert.NormReferenceIdeal.nD,
      r.2.mem ((c.tc : Thread Cert.NormReferenceIdeal.nD Cert.NormReferenceIdeal.τ).loc Cert.NormReferenceIdeal.main_arg0) = m ((c.tc : Thread Cert.NormReferenceIdeal.nD Cert.NormReferenceIdeal.τ).loc Cert.NormReferenceIdeal.main_arg0)
      ∧ r.2.mem ((c.tc : Thread Cert.NormReferenceIdeal.nD Cert.NormReferenceIdeal.τ).loc Cert.NormReferenceIdeal.main_arg1) = m ((c.tc : Thread Cert.NormReferenceIdeal.nD Cert.NormReferenceIdeal.τ).loc Cert.NormReferenceIdeal.main_arg1)
      ∧ r.2.mem ((c.tc : Thread Cert.NormReferenceIdeal.nD Cert.NormReferenceIdeal.τ).loc Cert.NormReferenceIdeal.main_arg2) = m ((c.tc : Thread Cert.NormReferenceIdeal.nD Cert.NormReferenceIdeal.τ).loc Cert.NormReferenceIdeal.main_arg2)
      ∧ r.2.mem ((c.tc : Thread Cert.NormReferenceIdeal.nD Cert.NormReferenceIdeal.τ).loc Cert.NormReferenceIdeal.main_arg3) = m ((c.tc : Thread Cert.NormReferenceIdeal.nD Cert.NormReferenceIdeal.τ).loc Cert.NormReferenceIdeal.main_arg3)
      ∧ r.2.mem ((c.tc : Thread Cert.NormReferenceIdeal.nD Cert.NormReferenceIdeal.τ).loc Cert.NormReferenceIdeal.main_arg4) = m ((c.tc : Thread Cert.NormReferenceIdeal.nD Cert.NormReferenceIdeal.τ).loc Cert.NormReferenceIdeal.main_arg4))
      ∧ r.2.sem = fun _ => 0)

def quiescent_NormReferenceIdeal_pre_dh_finite [hNormReferenceIdeal : Cert.NormReferenceIdeal.Facts] [hPre_dh_finite : Cert.Pre_dh_finite.Facts] : Prop :=
  ∀ (m : (ℓ : Loc Cert.NormReferenceIdeal.nD Cert.NormReferenceIdeal.τ Cert.NormReferenceIdeal.sig) → Buf (Elt Ideal) ℓ) (g : Dev Cert.NormReferenceIdeal.nD → PrngReg), Pre_NormReferenceIdeal_dh_finite m →
    θ_run (Cert.NormReferenceIdeal.defs (F := Ideal)) (onTc (τ := Cert.NormReferenceIdeal.τ) (Cert.NormReferenceIdeal.main (F := Ideal))) ⟨m, fun _ => 0, g⟩ (fun r => (∀ c : Dev Cert.NormReferenceIdeal.nD,
      r.2.mem ((c.tc : Thread Cert.NormReferenceIdeal.nD Cert.NormReferenceIdeal.τ).loc Cert.NormReferenceIdeal.main_arg0) = m ((c.tc : Thread Cert.NormReferenceIdeal.nD Cert.NormReferenceIdeal.τ).loc Cert.NormReferenceIdeal.main_arg0)
      ∧ r.2.mem ((c.tc : Thread Cert.NormReferenceIdeal.nD Cert.NormReferenceIdeal.τ).loc Cert.NormReferenceIdeal.main_arg1) = m ((c.tc : Thread Cert.NormReferenceIdeal.nD Cert.NormReferenceIdeal.τ).loc Cert.NormReferenceIdeal.main_arg1)
      ∧ r.2.mem ((c.tc : Thread Cert.NormReferenceIdeal.nD Cert.NormReferenceIdeal.τ).loc Cert.NormReferenceIdeal.main_arg2) = m ((c.tc : Thread Cert.NormReferenceIdeal.nD Cert.NormReferenceIdeal.τ).loc Cert.NormReferenceIdeal.main_arg2)
      ∧ r.2.mem ((c.tc : Thread Cert.NormReferenceIdeal.nD Cert.NormReferenceIdeal.τ).loc Cert.NormReferenceIdeal.main_arg3) = m ((c.tc : Thread Cert.NormReferenceIdeal.nD Cert.NormReferenceIdeal.τ).loc Cert.NormReferenceIdeal.main_arg3)
      ∧ r.2.mem ((c.tc : Thread Cert.NormReferenceIdeal.nD Cert.NormReferenceIdeal.τ).loc Cert.NormReferenceIdeal.main_arg4) = m ((c.tc : Thread Cert.NormReferenceIdeal.nD Cert.NormReferenceIdeal.τ).loc Cert.NormReferenceIdeal.main_arg4))
      ∧ r.2.sem = fun _ => 0)

def quiescent_JoinKernel [hJoinKernel : Cert.JoinKernel.Facts] : Prop :=
  ∀ (m : (ℓ : Loc Cert.JoinKernel.nD Cert.JoinKernel.τ Cert.JoinKernel.sig) → Buf (Elt Bits) ℓ) (g : Dev Cert.JoinKernel.nD → PrngReg), Pre_JoinKernel m →
    θ_run (Cert.JoinKernel.defs (F := Bits)) (onTc (τ := Cert.JoinKernel.τ) (Cert.JoinKernel.main (F := Bits))) ⟨m, fun _ => 0, g⟩ (fun r => (∀ c : Dev Cert.JoinKernel.nD,
      r.2.mem ((c.tc : Thread Cert.JoinKernel.nD Cert.JoinKernel.τ).loc Cert.JoinKernel.main_arg0) = m ((c.tc : Thread Cert.JoinKernel.nD Cert.JoinKernel.τ).loc Cert.JoinKernel.main_arg0)
      ∧ r.2.mem ((c.tc : Thread Cert.JoinKernel.nD Cert.JoinKernel.τ).loc Cert.JoinKernel.main_arg1) = m ((c.tc : Thread Cert.JoinKernel.nD Cert.JoinKernel.τ).loc Cert.JoinKernel.main_arg1)
      ∧ r.2.mem ((c.tc : Thread Cert.JoinKernel.nD Cert.JoinKernel.τ).loc Cert.JoinKernel.main_arg2) = m ((c.tc : Thread Cert.JoinKernel.nD Cert.JoinKernel.τ).loc Cert.JoinKernel.main_arg2)
      ∧ r.2.mem ((c.tc : Thread Cert.JoinKernel.nD Cert.JoinKernel.τ).loc Cert.JoinKernel.main_arg3) = m ((c.tc : Thread Cert.JoinKernel.nD Cert.JoinKernel.τ).loc Cert.JoinKernel.main_arg3)
      ∧ r.2.mem ((c.tc : Thread Cert.JoinKernel.nD Cert.JoinKernel.τ).loc Cert.JoinKernel.main_arg4) = m ((c.tc : Thread Cert.JoinKernel.nD Cert.JoinKernel.τ).loc Cert.JoinKernel.main_arg4))
      ∧ r.2.sem = fun _ => 0)

def quiescent_JoinKernelIdeal [hJoinKernelIdeal : Cert.JoinKernelIdeal.Facts] : Prop :=
  ∀ (m : (ℓ : Loc Cert.JoinKernelIdeal.nD Cert.JoinKernelIdeal.τ Cert.JoinKernelIdeal.sig) → Buf (Elt Ideal) ℓ) (g : Dev Cert.JoinKernelIdeal.nD → PrngReg), Pre_JoinKernelIdeal m →
    θ_run (Cert.JoinKernelIdeal.defs (F := Ideal)) (onTc (τ := Cert.JoinKernelIdeal.τ) (Cert.JoinKernelIdeal.main (F := Ideal))) ⟨m, fun _ => 0, g⟩ (fun r => (∀ c : Dev Cert.JoinKernelIdeal.nD,
      r.2.mem ((c.tc : Thread Cert.JoinKernelIdeal.nD Cert.JoinKernelIdeal.τ).loc Cert.JoinKernelIdeal.main_arg0) = m ((c.tc : Thread Cert.JoinKernelIdeal.nD Cert.JoinKernelIdeal.τ).loc Cert.JoinKernelIdeal.main_arg0)
      ∧ r.2.mem ((c.tc : Thread Cert.JoinKernelIdeal.nD Cert.JoinKernelIdeal.τ).loc Cert.JoinKernelIdeal.main_arg1) = m ((c.tc : Thread Cert.JoinKernelIdeal.nD Cert.JoinKernelIdeal.τ).loc Cert.JoinKernelIdeal.main_arg1)
      ∧ r.2.mem ((c.tc : Thread Cert.JoinKernelIdeal.nD Cert.JoinKernelIdeal.τ).loc Cert.JoinKernelIdeal.main_arg2) = m ((c.tc : Thread Cert.JoinKernelIdeal.nD Cert.JoinKernelIdeal.τ).loc Cert.JoinKernelIdeal.main_arg2)
      ∧ r.2.mem ((c.tc : Thread Cert.JoinKernelIdeal.nD Cert.JoinKernelIdeal.τ).loc Cert.JoinKernelIdeal.main_arg3) = m ((c.tc : Thread Cert.JoinKernelIdeal.nD Cert.JoinKernelIdeal.τ).loc Cert.JoinKernelIdeal.main_arg3)
      ∧ r.2.mem ((c.tc : Thread Cert.JoinKernelIdeal.nD Cert.JoinKernelIdeal.τ).loc Cert.JoinKernelIdeal.main_arg4) = m ((c.tc : Thread Cert.JoinKernelIdeal.nD Cert.JoinKernelIdeal.τ).loc Cert.JoinKernelIdeal.main_arg4))
      ∧ r.2.sem = fun _ => 0)

def quiescent_JoinReferenceIdeal [hJoinReferenceIdeal : Cert.JoinReferenceIdeal.Facts] : Prop :=
  ∀ (m : (ℓ : Loc Cert.JoinReferenceIdeal.nD Cert.JoinReferenceIdeal.τ Cert.JoinReferenceIdeal.sig) → Buf (Elt Ideal) ℓ) (g : Dev Cert.JoinReferenceIdeal.nD → PrngReg), Pre_JoinReferenceIdeal m →
    θ_run (Cert.JoinReferenceIdeal.defs (F := Ideal)) (onTc (τ := Cert.JoinReferenceIdeal.τ) (Cert.JoinReferenceIdeal.main (F := Ideal))) ⟨m, fun _ => 0, g⟩ (fun r => (∀ c : Dev Cert.JoinReferenceIdeal.nD,
      r.2.mem ((c.tc : Thread Cert.JoinReferenceIdeal.nD Cert.JoinReferenceIdeal.τ).loc Cert.JoinReferenceIdeal.main_arg0) = m ((c.tc : Thread Cert.JoinReferenceIdeal.nD Cert.JoinReferenceIdeal.τ).loc Cert.JoinReferenceIdeal.main_arg0)
      ∧ r.2.mem ((c.tc : Thread Cert.JoinReferenceIdeal.nD Cert.JoinReferenceIdeal.τ).loc Cert.JoinReferenceIdeal.main_arg1) = m ((c.tc : Thread Cert.JoinReferenceIdeal.nD Cert.JoinReferenceIdeal.τ).loc Cert.JoinReferenceIdeal.main_arg1)
      ∧ r.2.mem ((c.tc : Thread Cert.JoinReferenceIdeal.nD Cert.JoinReferenceIdeal.τ).loc Cert.JoinReferenceIdeal.main_arg2) = m ((c.tc : Thread Cert.JoinReferenceIdeal.nD Cert.JoinReferenceIdeal.τ).loc Cert.JoinReferenceIdeal.main_arg2)
      ∧ r.2.mem ((c.tc : Thread Cert.JoinReferenceIdeal.nD Cert.JoinReferenceIdeal.τ).loc Cert.JoinReferenceIdeal.main_arg3) = m ((c.tc : Thread Cert.JoinReferenceIdeal.nD Cert.JoinReferenceIdeal.τ).loc Cert.JoinReferenceIdeal.main_arg3)
      ∧ r.2.mem ((c.tc : Thread Cert.JoinReferenceIdeal.nD Cert.JoinReferenceIdeal.τ).loc Cert.JoinReferenceIdeal.main_arg4) = m ((c.tc : Thread Cert.JoinReferenceIdeal.nD Cert.JoinReferenceIdeal.τ).loc Cert.JoinReferenceIdeal.main_arg4))
      ∧ r.2.sem = fun _ => 0)

def quiescent_FoxKernel [hFoxKernel : Cert.FoxKernel.Facts] : Prop :=
  ∀ (m : (ℓ : Loc Cert.FoxKernel.nD Cert.FoxKernel.τ Cert.FoxKernel.sig) → Buf (Elt Bits) ℓ) (g : Dev Cert.FoxKernel.nD → PrngReg), Pre_FoxKernel m →
    θ_run (Cert.FoxKernel.defs (F := Bits)) (onTc (τ := Cert.FoxKernel.τ) (Cert.FoxKernel.main (F := Bits))) ⟨m, fun _ => 0, g⟩ (fun r => (∀ c : Dev Cert.FoxKernel.nD,
      r.2.mem ((c.tc : Thread Cert.FoxKernel.nD Cert.FoxKernel.τ).loc Cert.FoxKernel.main_arg0) = m ((c.tc : Thread Cert.FoxKernel.nD Cert.FoxKernel.τ).loc Cert.FoxKernel.main_arg0)
      ∧ r.2.mem ((c.tc : Thread Cert.FoxKernel.nD Cert.FoxKernel.τ).loc Cert.FoxKernel.main_arg1) = m ((c.tc : Thread Cert.FoxKernel.nD Cert.FoxKernel.τ).loc Cert.FoxKernel.main_arg1)
      ∧ r.2.mem ((c.tc : Thread Cert.FoxKernel.nD Cert.FoxKernel.τ).loc Cert.FoxKernel.main_arg2) = m ((c.tc : Thread Cert.FoxKernel.nD Cert.FoxKernel.τ).loc Cert.FoxKernel.main_arg2)
      ∧ r.2.mem ((c.tc : Thread Cert.FoxKernel.nD Cert.FoxKernel.τ).loc Cert.FoxKernel.main_arg3) = m ((c.tc : Thread Cert.FoxKernel.nD Cert.FoxKernel.τ).loc Cert.FoxKernel.main_arg3)
      ∧ r.2.mem ((c.tc : Thread Cert.FoxKernel.nD Cert.FoxKernel.τ).loc Cert.FoxKernel.main_arg4) = m ((c.tc : Thread Cert.FoxKernel.nD Cert.FoxKernel.τ).loc Cert.FoxKernel.main_arg4))
      ∧ r.2.sem = fun _ => 0)

def quiescent_FoxKernelIdeal [hFoxKernelIdeal : Cert.FoxKernelIdeal.Facts] : Prop :=
  ∀ (m : (ℓ : Loc Cert.FoxKernelIdeal.nD Cert.FoxKernelIdeal.τ Cert.FoxKernelIdeal.sig) → Buf (Elt Ideal) ℓ) (g : Dev Cert.FoxKernelIdeal.nD → PrngReg), Pre_FoxKernelIdeal m →
    θ_run (Cert.FoxKernelIdeal.defs (F := Ideal)) (onTc (τ := Cert.FoxKernelIdeal.τ) (Cert.FoxKernelIdeal.main (F := Ideal))) ⟨m, fun _ => 0, g⟩ (fun r => (∀ c : Dev Cert.FoxKernelIdeal.nD,
      r.2.mem ((c.tc : Thread Cert.FoxKernelIdeal.nD Cert.FoxKernelIdeal.τ).loc Cert.FoxKernelIdeal.main_arg0) = m ((c.tc : Thread Cert.FoxKernelIdeal.nD Cert.FoxKernelIdeal.τ).loc Cert.FoxKernelIdeal.main_arg0)
      ∧ r.2.mem ((c.tc : Thread Cert.FoxKernelIdeal.nD Cert.FoxKernelIdeal.τ).loc Cert.FoxKernelIdeal.main_arg1) = m ((c.tc : Thread Cert.FoxKernelIdeal.nD Cert.FoxKernelIdeal.τ).loc Cert.FoxKernelIdeal.main_arg1)
      ∧ r.2.mem ((c.tc : Thread Cert.FoxKernelIdeal.nD Cert.FoxKernelIdeal.τ).loc Cert.FoxKernelIdeal.main_arg2) = m ((c.tc : Thread Cert.FoxKernelIdeal.nD Cert.FoxKernelIdeal.τ).loc Cert.FoxKernelIdeal.main_arg2)
      ∧ r.2.mem ((c.tc : Thread Cert.FoxKernelIdeal.nD Cert.FoxKernelIdeal.τ).loc Cert.FoxKernelIdeal.main_arg3) = m ((c.tc : Thread Cert.FoxKernelIdeal.nD Cert.FoxKernelIdeal.τ).loc Cert.FoxKernelIdeal.main_arg3)
      ∧ r.2.mem ((c.tc : Thread Cert.FoxKernelIdeal.nD Cert.FoxKernelIdeal.τ).loc Cert.FoxKernelIdeal.main_arg4) = m ((c.tc : Thread Cert.FoxKernelIdeal.nD Cert.FoxKernelIdeal.τ).loc Cert.FoxKernelIdeal.main_arg4))
      ∧ r.2.sem = fun _ => 0)

def quiescent_FoxKernelIdeal_pre_fox_finite [hFoxKernelIdeal : Cert.FoxKernelIdeal.Facts] [hPre_fox_finite : Cert.Pre_fox_finite.Facts] : Prop :=
  ∀ (m : (ℓ : Loc Cert.FoxKernelIdeal.nD Cert.FoxKernelIdeal.τ Cert.FoxKernelIdeal.sig) → Buf (Elt Ideal) ℓ) (g : Dev Cert.FoxKernelIdeal.nD → PrngReg), Pre_FoxKernelIdeal_fox_finite m →
    θ_run (Cert.FoxKernelIdeal.defs (F := Ideal)) (onTc (τ := Cert.FoxKernelIdeal.τ) (Cert.FoxKernelIdeal.main (F := Ideal))) ⟨m, fun _ => 0, g⟩ (fun r => (∀ c : Dev Cert.FoxKernelIdeal.nD,
      r.2.mem ((c.tc : Thread Cert.FoxKernelIdeal.nD Cert.FoxKernelIdeal.τ).loc Cert.FoxKernelIdeal.main_arg0) = m ((c.tc : Thread Cert.FoxKernelIdeal.nD Cert.FoxKernelIdeal.τ).loc Cert.FoxKernelIdeal.main_arg0)
      ∧ r.2.mem ((c.tc : Thread Cert.FoxKernelIdeal.nD Cert.FoxKernelIdeal.τ).loc Cert.FoxKernelIdeal.main_arg1) = m ((c.tc : Thread Cert.FoxKernelIdeal.nD Cert.FoxKernelIdeal.τ).loc Cert.FoxKernelIdeal.main_arg1)
      ∧ r.2.mem ((c.tc : Thread Cert.FoxKernelIdeal.nD Cert.FoxKernelIdeal.τ).loc Cert.FoxKernelIdeal.main_arg2) = m ((c.tc : Thread Cert.FoxKernelIdeal.nD Cert.FoxKernelIdeal.τ).loc Cert.FoxKernelIdeal.main_arg2)
      ∧ r.2.mem ((c.tc : Thread Cert.FoxKernelIdeal.nD Cert.FoxKernelIdeal.τ).loc Cert.FoxKernelIdeal.main_arg3) = m ((c.tc : Thread Cert.FoxKernelIdeal.nD Cert.FoxKernelIdeal.τ).loc Cert.FoxKernelIdeal.main_arg3)
      ∧ r.2.mem ((c.tc : Thread Cert.FoxKernelIdeal.nD Cert.FoxKernelIdeal.τ).loc Cert.FoxKernelIdeal.main_arg4) = m ((c.tc : Thread Cert.FoxKernelIdeal.nD Cert.FoxKernelIdeal.τ).loc Cert.FoxKernelIdeal.main_arg4))
      ∧ r.2.sem = fun _ => 0)

def quiescent_FoxReferenceIdeal [hFoxReferenceIdeal : Cert.FoxReferenceIdeal.Facts] : Prop :=
  ∀ (m : (ℓ : Loc Cert.FoxReferenceIdeal.nD Cert.FoxReferenceIdeal.τ Cert.FoxReferenceIdeal.sig) → Buf (Elt Ideal) ℓ) (g : Dev Cert.FoxReferenceIdeal.nD → PrngReg), Pre_FoxReferenceIdeal m →
    θ_run (Cert.FoxReferenceIdeal.defs (F := Ideal)) (onTc (τ := Cert.FoxReferenceIdeal.τ) (Cert.FoxReferenceIdeal.main (F := Ideal))) ⟨m, fun _ => 0, g⟩ (fun r => (∀ c : Dev Cert.FoxReferenceIdeal.nD,
      r.2.mem ((c.tc : Thread Cert.FoxReferenceIdeal.nD Cert.FoxReferenceIdeal.τ).loc Cert.FoxReferenceIdeal.main_arg0) = m ((c.tc : Thread Cert.FoxReferenceIdeal.nD Cert.FoxReferenceIdeal.τ).loc Cert.FoxReferenceIdeal.main_arg0)
      ∧ r.2.mem ((c.tc : Thread Cert.FoxReferenceIdeal.nD Cert.FoxReferenceIdeal.τ).loc Cert.FoxReferenceIdeal.main_arg1) = m ((c.tc : Thread Cert.FoxReferenceIdeal.nD Cert.FoxReferenceIdeal.τ).loc Cert.FoxReferenceIdeal.main_arg1)
      ∧ r.2.mem ((c.tc : Thread Cert.FoxReferenceIdeal.nD Cert.FoxReferenceIdeal.τ).loc Cert.FoxReferenceIdeal.main_arg2) = m ((c.tc : Thread Cert.FoxReferenceIdeal.nD Cert.FoxReferenceIdeal.τ).loc Cert.FoxReferenceIdeal.main_arg2)
      ∧ r.2.mem ((c.tc : Thread Cert.FoxReferenceIdeal.nD Cert.FoxReferenceIdeal.τ).loc Cert.FoxReferenceIdeal.main_arg3) = m ((c.tc : Thread Cert.FoxReferenceIdeal.nD Cert.FoxReferenceIdeal.τ).loc Cert.FoxReferenceIdeal.main_arg3)
      ∧ r.2.mem ((c.tc : Thread Cert.FoxReferenceIdeal.nD Cert.FoxReferenceIdeal.τ).loc Cert.FoxReferenceIdeal.main_arg4) = m ((c.tc : Thread Cert.FoxReferenceIdeal.nD Cert.FoxReferenceIdeal.τ).loc Cert.FoxReferenceIdeal.main_arg4))
      ∧ r.2.sem = fun _ => 0)

def quiescent_FoxReferenceIdeal_pre_fox_finite [hFoxReferenceIdeal : Cert.FoxReferenceIdeal.Facts] [hPre_fox_finite : Cert.Pre_fox_finite.Facts] : Prop :=
  ∀ (m : (ℓ : Loc Cert.FoxReferenceIdeal.nD Cert.FoxReferenceIdeal.τ Cert.FoxReferenceIdeal.sig) → Buf (Elt Ideal) ℓ) (g : Dev Cert.FoxReferenceIdeal.nD → PrngReg), Pre_FoxReferenceIdeal_fox_finite m →
    θ_run (Cert.FoxReferenceIdeal.defs (F := Ideal)) (onTc (τ := Cert.FoxReferenceIdeal.τ) (Cert.FoxReferenceIdeal.main (F := Ideal))) ⟨m, fun _ => 0, g⟩ (fun r => (∀ c : Dev Cert.FoxReferenceIdeal.nD,
      r.2.mem ((c.tc : Thread Cert.FoxReferenceIdeal.nD Cert.FoxReferenceIdeal.τ).loc Cert.FoxReferenceIdeal.main_arg0) = m ((c.tc : Thread Cert.FoxReferenceIdeal.nD Cert.FoxReferenceIdeal.τ).loc Cert.FoxReferenceIdeal.main_arg0)
      ∧ r.2.mem ((c.tc : Thread Cert.FoxReferenceIdeal.nD Cert.FoxReferenceIdeal.τ).loc Cert.FoxReferenceIdeal.main_arg1) = m ((c.tc : Thread Cert.FoxReferenceIdeal.nD Cert.FoxReferenceIdeal.τ).loc Cert.FoxReferenceIdeal.main_arg1)
      ∧ r.2.mem ((c.tc : Thread Cert.FoxReferenceIdeal.nD Cert.FoxReferenceIdeal.τ).loc Cert.FoxReferenceIdeal.main_arg2) = m ((c.tc : Thread Cert.FoxReferenceIdeal.nD Cert.FoxReferenceIdeal.τ).loc Cert.FoxReferenceIdeal.main_arg2)
      ∧ r.2.mem ((c.tc : Thread Cert.FoxReferenceIdeal.nD Cert.FoxReferenceIdeal.τ).loc Cert.FoxReferenceIdeal.main_arg3) = m ((c.tc : Thread Cert.FoxReferenceIdeal.nD Cert.FoxReferenceIdeal.τ).loc Cert.FoxReferenceIdeal.main_arg3)
      ∧ r.2.mem ((c.tc : Thread Cert.FoxReferenceIdeal.nD Cert.FoxReferenceIdeal.τ).loc Cert.FoxReferenceIdeal.main_arg4) = m ((c.tc : Thread Cert.FoxReferenceIdeal.nD Cert.FoxReferenceIdeal.τ).loc Cert.FoxReferenceIdeal.main_arg4))
      ∧ r.2.sem = fun _ => 0)

def preserves_MergeKernel_MergeKernelIdeal : Prop :=
  True

def algebraic_MergeKernelIdeal_MergeReferenceIdeal [hMergeKernelIdeal : Cert.MergeKernelIdeal.Facts] [hMergeReferenceIdeal : Cert.MergeReferenceIdeal.Facts] : Prop :=
  ∀ (m : (ℓ : Loc Cert.MergeKernelIdeal.nD Cert.MergeKernelIdeal.τ Cert.MergeKernelIdeal.sig) → Buf (Elt Ideal) ℓ) (g : Dev Cert.MergeKernelIdeal.nD → PrngReg)
    (m' : (ℓ : Loc Cert.MergeReferenceIdeal.nD Cert.MergeReferenceIdeal.τ Cert.MergeReferenceIdeal.sig) → Buf (Elt Ideal) ℓ) (g' : Dev Cert.MergeReferenceIdeal.nD → PrngReg), Pre_MergeKernelIdeal m →
    (∀ c : Dev Cert.MergeKernelIdeal.nD,
      m' ((c.tc : Thread Cert.MergeReferenceIdeal.nD Cert.MergeReferenceIdeal.τ).loc Cert.MergeReferenceIdeal.main_arg0) = m ((c.tc : Thread Cert.MergeKernelIdeal.nD Cert.MergeKernelIdeal.τ).loc Cert.MergeKernelIdeal.main_arg0)
      ∧ m' ((c.tc : Thread Cert.MergeReferenceIdeal.nD Cert.MergeReferenceIdeal.τ).loc Cert.MergeReferenceIdeal.main_arg1) = m ((c.tc : Thread Cert.MergeKernelIdeal.nD Cert.MergeKernelIdeal.τ).loc Cert.MergeKernelIdeal.main_arg1)
      ∧ m' ((c.tc : Thread Cert.MergeReferenceIdeal.nD Cert.MergeReferenceIdeal.τ).loc Cert.MergeReferenceIdeal.main_arg2) = m ((c.tc : Thread Cert.MergeKernelIdeal.nD Cert.MergeKernelIdeal.τ).loc Cert.MergeKernelIdeal.main_arg2)
      ∧ m' ((c.tc : Thread Cert.MergeReferenceIdeal.nD Cert.MergeReferenceIdeal.τ).loc Cert.MergeReferenceIdeal.main_arg3) = m ((c.tc : Thread Cert.MergeKernelIdeal.nD Cert.MergeKernelIdeal.τ).loc Cert.MergeKernelIdeal.main_arg3)
      ∧ m' ((c.tc : Thread Cert.MergeReferenceIdeal.nD Cert.MergeReferenceIdeal.τ).loc Cert.MergeReferenceIdeal.main_arg4) = m ((c.tc : Thread Cert.MergeKernelIdeal.nD Cert.MergeKernelIdeal.τ).loc Cert.MergeKernelIdeal.main_arg4)) →
    ∃ (v0 : (c : Dev Cert.MergeKernelIdeal.nD) → Buf (Elt Ideal) ((c.tc : Thread Cert.MergeKernelIdeal.nD Cert.MergeKernelIdeal.τ).loc Cert.MergeKernelIdeal.main_v10_0)) (v1 : (c : Dev Cert.MergeKernelIdeal.nD) → Buf (Elt Ideal) ((c.tc : Thread Cert.MergeKernelIdeal.nD Cert.MergeKernelIdeal.τ).loc Cert.MergeKernelIdeal.main_v10_1)) (v2 : (c : Dev Cert.MergeKernelIdeal.nD) → Buf (Elt Ideal) ((c.tc : Thread Cert.MergeKernelIdeal.nD Cert.MergeKernelIdeal.τ).loc Cert.MergeKernelIdeal.main_v10_2)) (v3 : (c : Dev Cert.MergeKernelIdeal.nD) → Buf (Elt Ideal) ((c.tc : Thread Cert.MergeKernelIdeal.nD Cert.MergeKernelIdeal.τ).loc Cert.MergeKernelIdeal.main_v10_3)),
      θ_run (Cert.MergeKernelIdeal.defs (F := Ideal)) (onTc (τ := Cert.MergeKernelIdeal.τ) (Cert.MergeKernelIdeal.main (F := Ideal))) ⟨m, fun _ => 0, g⟩ (fun r => ∀ c : Dev Cert.MergeKernelIdeal.nD,
          r.2.mem ((c.tc : Thread Cert.MergeKernelIdeal.nD Cert.MergeKernelIdeal.τ).loc Cert.MergeKernelIdeal.main_v10_0) = v0 c
          ∧ r.2.mem ((c.tc : Thread Cert.MergeKernelIdeal.nD Cert.MergeKernelIdeal.τ).loc Cert.MergeKernelIdeal.main_v10_1) = v1 c
          ∧ r.2.mem ((c.tc : Thread Cert.MergeKernelIdeal.nD Cert.MergeKernelIdeal.τ).loc Cert.MergeKernelIdeal.main_v10_2) = v2 c
          ∧ r.2.mem ((c.tc : Thread Cert.MergeKernelIdeal.nD Cert.MergeKernelIdeal.τ).loc Cert.MergeKernelIdeal.main_v10_3) = v3 c
          ∧ r.2.mem ((c.tc : Thread Cert.MergeKernelIdeal.nD Cert.MergeKernelIdeal.τ).loc Cert.MergeKernelIdeal.main_arg0) = m ((c.tc : Thread Cert.MergeKernelIdeal.nD Cert.MergeKernelIdeal.τ).loc Cert.MergeKernelIdeal.main_arg0)
          ∧ r.2.mem ((c.tc : Thread Cert.MergeKernelIdeal.nD Cert.MergeKernelIdeal.τ).loc Cert.MergeKernelIdeal.main_arg1) = m ((c.tc : Thread Cert.MergeKernelIdeal.nD Cert.MergeKernelIdeal.τ).loc Cert.MergeKernelIdeal.main_arg1)
          ∧ r.2.mem ((c.tc : Thread Cert.MergeKernelIdeal.nD Cert.MergeKernelIdeal.τ).loc Cert.MergeKernelIdeal.main_arg2) = m ((c.tc : Thread Cert.MergeKernelIdeal.nD Cert.MergeKernelIdeal.τ).loc Cert.MergeKernelIdeal.main_arg2)
          ∧ r.2.mem ((c.tc : Thread Cert.MergeKernelIdeal.nD Cert.MergeKernelIdeal.τ).loc Cert.MergeKernelIdeal.main_arg3) = m ((c.tc : Thread Cert.MergeKernelIdeal.nD Cert.MergeKernelIdeal.τ).loc Cert.MergeKernelIdeal.main_arg3)
          ∧ r.2.mem ((c.tc : Thread Cert.MergeKernelIdeal.nD Cert.MergeKernelIdeal.τ).loc Cert.MergeKernelIdeal.main_arg4) = m ((c.tc : Thread Cert.MergeKernelIdeal.nD Cert.MergeKernelIdeal.τ).loc Cert.MergeKernelIdeal.main_arg4))
      ∧ θ_run (Cert.MergeReferenceIdeal.defs (F := Ideal)) (onTc (τ := Cert.MergeReferenceIdeal.τ) (Cert.MergeReferenceIdeal.main (F := Ideal))) ⟨m', fun _ => 0, g'⟩ (fun r => ∀ c : Dev Cert.MergeReferenceIdeal.nD,
          r.2.mem ((c.tc : Thread Cert.MergeReferenceIdeal.nD Cert.MergeReferenceIdeal.τ).loc Cert.MergeReferenceIdeal.main_v39) = v0 c
          ∧ r.2.mem ((c.tc : Thread Cert.MergeReferenceIdeal.nD Cert.MergeReferenceIdeal.τ).loc Cert.MergeReferenceIdeal.main_v41) = v1 c
          ∧ r.2.mem ((c.tc : Thread Cert.MergeReferenceIdeal.nD Cert.MergeReferenceIdeal.τ).loc Cert.MergeReferenceIdeal.main_v43) = v2 c
          ∧ r.2.mem ((c.tc : Thread Cert.MergeReferenceIdeal.nD Cert.MergeReferenceIdeal.τ).loc Cert.MergeReferenceIdeal.main_v45) = v3 c
          ∧ r.2.mem ((c.tc : Thread Cert.MergeReferenceIdeal.nD Cert.MergeReferenceIdeal.τ).loc Cert.MergeReferenceIdeal.main_arg0) = m' ((c.tc : Thread Cert.MergeReferenceIdeal.nD Cert.MergeReferenceIdeal.τ).loc Cert.MergeReferenceIdeal.main_arg0)
          ∧ r.2.mem ((c.tc : Thread Cert.MergeReferenceIdeal.nD Cert.MergeReferenceIdeal.τ).loc Cert.MergeReferenceIdeal.main_arg1) = m' ((c.tc : Thread Cert.MergeReferenceIdeal.nD Cert.MergeReferenceIdeal.τ).loc Cert.MergeReferenceIdeal.main_arg1)
          ∧ r.2.mem ((c.tc : Thread Cert.MergeReferenceIdeal.nD Cert.MergeReferenceIdeal.τ).loc Cert.MergeReferenceIdeal.main_arg2) = m' ((c.tc : Thread Cert.MergeReferenceIdeal.nD Cert.MergeReferenceIdeal.τ).loc Cert.MergeReferenceIdeal.main_arg2)
          ∧ r.2.mem ((c.tc : Thread Cert.MergeReferenceIdeal.nD Cert.MergeReferenceIdeal.τ).loc Cert.MergeReferenceIdeal.main_arg3) = m' ((c.tc : Thread Cert.MergeReferenceIdeal.nD Cert.MergeReferenceIdeal.τ).loc Cert.MergeReferenceIdeal.main_arg3)
          ∧ r.2.mem ((c.tc : Thread Cert.MergeReferenceIdeal.nD Cert.MergeReferenceIdeal.τ).loc Cert.MergeReferenceIdeal.main_arg4) = m' ((c.tc : Thread Cert.MergeReferenceIdeal.nD Cert.MergeReferenceIdeal.τ).loc Cert.MergeReferenceIdeal.main_arg4))

def preserves_BranchKernel_BranchKernelIdeal : Prop :=
  True

def algebraic_BranchKernelIdeal_BranchReferenceIdeal_pre_branch_finite [hBranchKernelIdeal : Cert.BranchKernelIdeal.Facts] [hBranchReferenceIdeal : Cert.BranchReferenceIdeal.Facts] [hPre_branch_finite : Cert.Pre_branch_finite.Facts] : Prop :=
  ∀ (m : (ℓ : Loc Cert.BranchKernelIdeal.nD Cert.BranchKernelIdeal.τ Cert.BranchKernelIdeal.sig) → Buf (Elt Ideal) ℓ) (g : Dev Cert.BranchKernelIdeal.nD → PrngReg)
    (m' : (ℓ : Loc Cert.BranchReferenceIdeal.nD Cert.BranchReferenceIdeal.τ Cert.BranchReferenceIdeal.sig) → Buf (Elt Ideal) ℓ) (g' : Dev Cert.BranchReferenceIdeal.nD → PrngReg), Pre_BranchKernelIdeal_branch_finite m →
    (∀ c : Dev Cert.BranchKernelIdeal.nD,
      m' ((c.tc : Thread Cert.BranchReferenceIdeal.nD Cert.BranchReferenceIdeal.τ).loc Cert.BranchReferenceIdeal.main_arg0) = m ((c.tc : Thread Cert.BranchKernelIdeal.nD Cert.BranchKernelIdeal.τ).loc Cert.BranchKernelIdeal.main_arg0)
      ∧ m' ((c.tc : Thread Cert.BranchReferenceIdeal.nD Cert.BranchReferenceIdeal.τ).loc Cert.BranchReferenceIdeal.main_arg1) = m ((c.tc : Thread Cert.BranchKernelIdeal.nD Cert.BranchKernelIdeal.τ).loc Cert.BranchKernelIdeal.main_arg1)
      ∧ m' ((c.tc : Thread Cert.BranchReferenceIdeal.nD Cert.BranchReferenceIdeal.τ).loc Cert.BranchReferenceIdeal.main_arg2) = m ((c.tc : Thread Cert.BranchKernelIdeal.nD Cert.BranchKernelIdeal.τ).loc Cert.BranchKernelIdeal.main_arg2)
      ∧ m' ((c.tc : Thread Cert.BranchReferenceIdeal.nD Cert.BranchReferenceIdeal.τ).loc Cert.BranchReferenceIdeal.main_arg3) = m ((c.tc : Thread Cert.BranchKernelIdeal.nD Cert.BranchKernelIdeal.τ).loc Cert.BranchKernelIdeal.main_arg3)
      ∧ m' ((c.tc : Thread Cert.BranchReferenceIdeal.nD Cert.BranchReferenceIdeal.τ).loc Cert.BranchReferenceIdeal.main_arg4) = m ((c.tc : Thread Cert.BranchKernelIdeal.nD Cert.BranchKernelIdeal.τ).loc Cert.BranchKernelIdeal.main_arg4)
      ∧ m' ((c.tc : Thread Cert.BranchReferenceIdeal.nD Cert.BranchReferenceIdeal.τ).loc Cert.BranchReferenceIdeal.main_arg5) = m ((c.tc : Thread Cert.BranchKernelIdeal.nD Cert.BranchKernelIdeal.τ).loc Cert.BranchKernelIdeal.main_arg5)
      ∧ m' ((c.tc : Thread Cert.BranchReferenceIdeal.nD Cert.BranchReferenceIdeal.τ).loc Cert.BranchReferenceIdeal.main_arg6) = m ((c.tc : Thread Cert.BranchKernelIdeal.nD Cert.BranchKernelIdeal.τ).loc Cert.BranchKernelIdeal.main_arg6)) →
    ∃ (v0 : (c : Dev Cert.BranchKernelIdeal.nD) → Buf (Elt Ideal) ((c.tc : Thread Cert.BranchKernelIdeal.nD Cert.BranchKernelIdeal.τ).loc Cert.BranchKernelIdeal.main_v11_0)) (v1 : (c : Dev Cert.BranchKernelIdeal.nD) → Buf (Elt Ideal) ((c.tc : Thread Cert.BranchKernelIdeal.nD Cert.BranchKernelIdeal.τ).loc Cert.BranchKernelIdeal.main_v11_1)) (v2 : (c : Dev Cert.BranchKernelIdeal.nD) → Buf (Elt Ideal) ((c.tc : Thread Cert.BranchKernelIdeal.nD Cert.BranchKernelIdeal.τ).loc Cert.BranchKernelIdeal.main_v11_2)) (v3 : (c : Dev Cert.BranchKernelIdeal.nD) → Buf (Elt Ideal) ((c.tc : Thread Cert.BranchKernelIdeal.nD Cert.BranchKernelIdeal.τ).loc Cert.BranchKernelIdeal.main_v11_3)),
      θ_run (Cert.BranchKernelIdeal.defs (F := Ideal)) (onTc (τ := Cert.BranchKernelIdeal.τ) (Cert.BranchKernelIdeal.main (F := Ideal))) ⟨m, fun _ => 0, g⟩ (fun r => ∀ c : Dev Cert.BranchKernelIdeal.nD,
          r.2.mem ((c.tc : Thread Cert.BranchKernelIdeal.nD Cert.BranchKernelIdeal.τ).loc Cert.BranchKernelIdeal.main_v11_0) = v0 c
          ∧ r.2.mem ((c.tc : Thread Cert.BranchKernelIdeal.nD Cert.BranchKernelIdeal.τ).loc Cert.BranchKernelIdeal.main_v11_1) = v1 c
          ∧ r.2.mem ((c.tc : Thread Cert.BranchKernelIdeal.nD Cert.BranchKernelIdeal.τ).loc Cert.BranchKernelIdeal.main_v11_2) = v2 c
          ∧ r.2.mem ((c.tc : Thread Cert.BranchKernelIdeal.nD Cert.BranchKernelIdeal.τ).loc Cert.BranchKernelIdeal.main_v11_3) = v3 c
          ∧ r.2.mem ((c.tc : Thread Cert.BranchKernelIdeal.nD Cert.BranchKernelIdeal.τ).loc Cert.BranchKernelIdeal.main_arg0) = m ((c.tc : Thread Cert.BranchKernelIdeal.nD Cert.BranchKernelIdeal.τ).loc Cert.BranchKernelIdeal.main_arg0)
          ∧ r.2.mem ((c.tc : Thread Cert.BranchKernelIdeal.nD Cert.BranchKernelIdeal.τ).loc Cert.BranchKernelIdeal.main_arg1) = m ((c.tc : Thread Cert.BranchKernelIdeal.nD Cert.BranchKernelIdeal.τ).loc Cert.BranchKernelIdeal.main_arg1)
          ∧ r.2.mem ((c.tc : Thread Cert.BranchKernelIdeal.nD Cert.BranchKernelIdeal.τ).loc Cert.BranchKernelIdeal.main_arg2) = m ((c.tc : Thread Cert.BranchKernelIdeal.nD Cert.BranchKernelIdeal.τ).loc Cert.BranchKernelIdeal.main_arg2)
          ∧ r.2.mem ((c.tc : Thread Cert.BranchKernelIdeal.nD Cert.BranchKernelIdeal.τ).loc Cert.BranchKernelIdeal.main_arg3) = m ((c.tc : Thread Cert.BranchKernelIdeal.nD Cert.BranchKernelIdeal.τ).loc Cert.BranchKernelIdeal.main_arg3)
          ∧ r.2.mem ((c.tc : Thread Cert.BranchKernelIdeal.nD Cert.BranchKernelIdeal.τ).loc Cert.BranchKernelIdeal.main_arg4) = m ((c.tc : Thread Cert.BranchKernelIdeal.nD Cert.BranchKernelIdeal.τ).loc Cert.BranchKernelIdeal.main_arg4)
          ∧ r.2.mem ((c.tc : Thread Cert.BranchKernelIdeal.nD Cert.BranchKernelIdeal.τ).loc Cert.BranchKernelIdeal.main_arg5) = m ((c.tc : Thread Cert.BranchKernelIdeal.nD Cert.BranchKernelIdeal.τ).loc Cert.BranchKernelIdeal.main_arg5)
          ∧ r.2.mem ((c.tc : Thread Cert.BranchKernelIdeal.nD Cert.BranchKernelIdeal.τ).loc Cert.BranchKernelIdeal.main_arg6) = m ((c.tc : Thread Cert.BranchKernelIdeal.nD Cert.BranchKernelIdeal.τ).loc Cert.BranchKernelIdeal.main_arg6))
      ∧ θ_run (Cert.BranchReferenceIdeal.defs (F := Ideal)) (onTc (τ := Cert.BranchReferenceIdeal.τ) (Cert.BranchReferenceIdeal.main (F := Ideal))) ⟨m', fun _ => 0, g'⟩ (fun r => ∀ c : Dev Cert.BranchReferenceIdeal.nD,
          r.2.mem ((c.tc : Thread Cert.BranchReferenceIdeal.nD Cert.BranchReferenceIdeal.τ).loc Cert.BranchReferenceIdeal.main_v24) = v0 c
          ∧ r.2.mem ((c.tc : Thread Cert.BranchReferenceIdeal.nD Cert.BranchReferenceIdeal.τ).loc Cert.BranchReferenceIdeal.main_v26) = v1 c
          ∧ r.2.mem ((c.tc : Thread Cert.BranchReferenceIdeal.nD Cert.BranchReferenceIdeal.τ).loc Cert.BranchReferenceIdeal.main_v27) = v2 c
          ∧ r.2.mem ((c.tc : Thread Cert.BranchReferenceIdeal.nD Cert.BranchReferenceIdeal.τ).loc Cert.BranchReferenceIdeal.main_v29) = v3 c
          ∧ r.2.mem ((c.tc : Thread Cert.BranchReferenceIdeal.nD Cert.BranchReferenceIdeal.τ).loc Cert.BranchReferenceIdeal.main_arg0) = m' ((c.tc : Thread Cert.BranchReferenceIdeal.nD Cert.BranchReferenceIdeal.τ).loc Cert.BranchReferenceIdeal.main_arg0)
          ∧ r.2.mem ((c.tc : Thread Cert.BranchReferenceIdeal.nD Cert.BranchReferenceIdeal.τ).loc Cert.BranchReferenceIdeal.main_arg1) = m' ((c.tc : Thread Cert.BranchReferenceIdeal.nD Cert.BranchReferenceIdeal.τ).loc Cert.BranchReferenceIdeal.main_arg1)
          ∧ r.2.mem ((c.tc : Thread Cert.BranchReferenceIdeal.nD Cert.BranchReferenceIdeal.τ).loc Cert.BranchReferenceIdeal.main_arg2) = m' ((c.tc : Thread Cert.BranchReferenceIdeal.nD Cert.BranchReferenceIdeal.τ).loc Cert.BranchReferenceIdeal.main_arg2)
          ∧ r.2.mem ((c.tc : Thread Cert.BranchReferenceIdeal.nD Cert.BranchReferenceIdeal.τ).loc Cert.BranchReferenceIdeal.main_arg3) = m' ((c.tc : Thread Cert.BranchReferenceIdeal.nD Cert.BranchReferenceIdeal.τ).loc Cert.BranchReferenceIdeal.main_arg3)
          ∧ r.2.mem ((c.tc : Thread Cert.BranchReferenceIdeal.nD Cert.BranchReferenceIdeal.τ).loc Cert.BranchReferenceIdeal.main_arg4) = m' ((c.tc : Thread Cert.BranchReferenceIdeal.nD Cert.BranchReferenceIdeal.τ).loc Cert.BranchReferenceIdeal.main_arg4)
          ∧ r.2.mem ((c.tc : Thread Cert.BranchReferenceIdeal.nD Cert.BranchReferenceIdeal.τ).loc Cert.BranchReferenceIdeal.main_arg5) = m' ((c.tc : Thread Cert.BranchReferenceIdeal.nD Cert.BranchReferenceIdeal.τ).loc Cert.BranchReferenceIdeal.main_arg5)
          ∧ r.2.mem ((c.tc : Thread Cert.BranchReferenceIdeal.nD Cert.BranchReferenceIdeal.τ).loc Cert.BranchReferenceIdeal.main_arg6) = m' ((c.tc : Thread Cert.BranchReferenceIdeal.nD Cert.BranchReferenceIdeal.τ).loc Cert.BranchReferenceIdeal.main_arg6))

def preserves_FgateKernel_FgateKernelIdeal : Prop :=
  True

def algebraic_FgateKernelIdeal_FgateReferenceIdeal_pre_fgate_finite [hFgateKernelIdeal : Cert.FgateKernelIdeal.Facts] [hFgateReferenceIdeal : Cert.FgateReferenceIdeal.Facts] [hPre_fgate_finite : Cert.Pre_fgate_finite.Facts] : Prop :=
  ∀ (m : (ℓ : Loc Cert.FgateKernelIdeal.nD Cert.FgateKernelIdeal.τ Cert.FgateKernelIdeal.sig) → Buf (Elt Ideal) ℓ) (g : Dev Cert.FgateKernelIdeal.nD → PrngReg)
    (m' : (ℓ : Loc Cert.FgateReferenceIdeal.nD Cert.FgateReferenceIdeal.τ Cert.FgateReferenceIdeal.sig) → Buf (Elt Ideal) ℓ) (g' : Dev Cert.FgateReferenceIdeal.nD → PrngReg), Pre_FgateKernelIdeal_fgate_finite m →
    (∀ c : Dev Cert.FgateKernelIdeal.nD,
      m' ((c.tc : Thread Cert.FgateReferenceIdeal.nD Cert.FgateReferenceIdeal.τ).loc Cert.FgateReferenceIdeal.main_arg0) = m ((c.tc : Thread Cert.FgateKernelIdeal.nD Cert.FgateKernelIdeal.τ).loc Cert.FgateKernelIdeal.main_arg0)
      ∧ m' ((c.tc : Thread Cert.FgateReferenceIdeal.nD Cert.FgateReferenceIdeal.τ).loc Cert.FgateReferenceIdeal.main_arg1) = m ((c.tc : Thread Cert.FgateKernelIdeal.nD Cert.FgateKernelIdeal.τ).loc Cert.FgateKernelIdeal.main_arg1)) →
    ∃ (v0 : (c : Dev Cert.FgateKernelIdeal.nD) → Buf (Elt Ideal) ((c.tc : Thread Cert.FgateKernelIdeal.nD Cert.FgateKernelIdeal.τ).loc Cert.FgateKernelIdeal.main_v3)),
      θ_run (Cert.FgateKernelIdeal.defs (F := Ideal)) (onTc (τ := Cert.FgateKernelIdeal.τ) (Cert.FgateKernelIdeal.main (F := Ideal))) ⟨m, fun _ => 0, g⟩ (fun r => ∀ c : Dev Cert.FgateKernelIdeal.nD,
          r.2.mem ((c.tc : Thread Cert.FgateKernelIdeal.nD Cert.FgateKernelIdeal.τ).loc Cert.FgateKernelIdeal.main_v3) = v0 c
          ∧ r.2.mem ((c.tc : Thread Cert.FgateKernelIdeal.nD Cert.FgateKernelIdeal.τ).loc Cert.FgateKernelIdeal.main_arg0) = m ((c.tc : Thread Cert.FgateKernelIdeal.nD Cert.FgateKernelIdeal.τ).loc Cert.FgateKernelIdeal.main_arg0)
          ∧ r.2.mem ((c.tc : Thread Cert.FgateKernelIdeal.nD Cert.FgateKernelIdeal.τ).loc Cert.FgateKernelIdeal.main_arg1) = m ((c.tc : Thread Cert.FgateKernelIdeal.nD Cert.FgateKernelIdeal.τ).loc Cert.FgateKernelIdeal.main_arg1))
      ∧ θ_run (Cert.FgateReferenceIdeal.defs (F := Ideal)) (onTc (τ := Cert.FgateReferenceIdeal.τ) (Cert.FgateReferenceIdeal.main (F := Ideal))) ⟨m', fun _ => 0, g'⟩ (fun r => ∀ c : Dev Cert.FgateReferenceIdeal.nD,
          r.2.mem ((c.tc : Thread Cert.FgateReferenceIdeal.nD Cert.FgateReferenceIdeal.τ).loc Cert.FgateReferenceIdeal.main_v15) = v0 c
          ∧ r.2.mem ((c.tc : Thread Cert.FgateReferenceIdeal.nD Cert.FgateReferenceIdeal.τ).loc Cert.FgateReferenceIdeal.main_arg0) = m' ((c.tc : Thread Cert.FgateReferenceIdeal.nD Cert.FgateReferenceIdeal.τ).loc Cert.FgateReferenceIdeal.main_arg0)
          ∧ r.2.mem ((c.tc : Thread Cert.FgateReferenceIdeal.nD Cert.FgateReferenceIdeal.τ).loc Cert.FgateReferenceIdeal.main_arg1) = m' ((c.tc : Thread Cert.FgateReferenceIdeal.nD Cert.FgateReferenceIdeal.τ).loc Cert.FgateReferenceIdeal.main_arg1))

def preserves_AttnKernel_AttnKernelIdeal : Prop :=
  IdealRules.named_const.Statement Cert.AttnKernelIdeal.κ "mask" .f32 0xF149F2CA#32 ⊥

def algebraic_AttnKernelIdeal_AttnReferenceIdeal_pre_attn_finite [hAttnKernelIdeal : Cert.AttnKernelIdeal.Facts] [hAttnReferenceIdeal : Cert.AttnReferenceIdeal.Facts] [hPre_attn_finite : Cert.Pre_attn_finite.Facts] : Prop :=
  ∀ (m : (ℓ : Loc Cert.AttnKernelIdeal.nD Cert.AttnKernelIdeal.τ Cert.AttnKernelIdeal.sig) → Buf (Elt Ideal) ℓ) (g : Dev Cert.AttnKernelIdeal.nD → PrngReg)
    (m' : (ℓ : Loc Cert.AttnReferenceIdeal.nD Cert.AttnReferenceIdeal.τ Cert.AttnReferenceIdeal.sig) → Buf (Elt Ideal) ℓ) (g' : Dev Cert.AttnReferenceIdeal.nD → PrngReg), Pre_AttnKernelIdeal_attn_finite m →
    (∀ c : Dev Cert.AttnKernelIdeal.nD,
      m' ((c.tc : Thread Cert.AttnReferenceIdeal.nD Cert.AttnReferenceIdeal.τ).loc Cert.AttnReferenceIdeal.main_arg0) = m ((c.tc : Thread Cert.AttnKernelIdeal.nD Cert.AttnKernelIdeal.τ).loc Cert.AttnKernelIdeal.main_arg0)
      ∧ m' ((c.tc : Thread Cert.AttnReferenceIdeal.nD Cert.AttnReferenceIdeal.τ).loc Cert.AttnReferenceIdeal.main_arg1) = m ((c.tc : Thread Cert.AttnKernelIdeal.nD Cert.AttnKernelIdeal.τ).loc Cert.AttnKernelIdeal.main_arg1)
      ∧ m' ((c.tc : Thread Cert.AttnReferenceIdeal.nD Cert.AttnReferenceIdeal.τ).loc Cert.AttnReferenceIdeal.main_arg2) = m ((c.tc : Thread Cert.AttnKernelIdeal.nD Cert.AttnKernelIdeal.τ).loc Cert.AttnKernelIdeal.main_arg2)
      ∧ m' ((c.tc : Thread Cert.AttnReferenceIdeal.nD Cert.AttnReferenceIdeal.τ).loc Cert.AttnReferenceIdeal.main_arg3) = m ((c.tc : Thread Cert.AttnKernelIdeal.nD Cert.AttnKernelIdeal.τ).loc Cert.AttnKernelIdeal.main_arg3)
      ∧ m' ((c.tc : Thread Cert.AttnReferenceIdeal.nD Cert.AttnReferenceIdeal.τ).loc Cert.AttnReferenceIdeal.main_arg4) = m ((c.tc : Thread Cert.AttnKernelIdeal.nD Cert.AttnKernelIdeal.τ).loc Cert.AttnKernelIdeal.main_arg4)) →
    ∃ (v0 : (c : Dev Cert.AttnKernelIdeal.nD) → Buf (Elt Ideal) ((c.tc : Thread Cert.AttnKernelIdeal.nD Cert.AttnKernelIdeal.τ).loc Cert.AttnKernelIdeal.main_v56_0)) (v1 : (c : Dev Cert.AttnKernelIdeal.nD) → Buf (Elt Ideal) ((c.tc : Thread Cert.AttnKernelIdeal.nD Cert.AttnKernelIdeal.τ).loc Cert.AttnKernelIdeal.main_v56_1)),
      θ_run (Cert.AttnKernelIdeal.defs (F := Ideal)) (onTc (τ := Cert.AttnKernelIdeal.τ) (Cert.AttnKernelIdeal.main (F := Ideal))) ⟨m, fun _ => 0, g⟩ (fun r => ∀ c : Dev Cert.AttnKernelIdeal.nD,
          r.2.mem ((c.tc : Thread Cert.AttnKernelIdeal.nD Cert.AttnKernelIdeal.τ).loc Cert.AttnKernelIdeal.main_v56_0) = v0 c
          ∧ r.2.mem ((c.tc : Thread Cert.AttnKernelIdeal.nD Cert.AttnKernelIdeal.τ).loc Cert.AttnKernelIdeal.main_v56_1) = v1 c
          ∧ r.2.mem ((c.tc : Thread Cert.AttnKernelIdeal.nD Cert.AttnKernelIdeal.τ).loc Cert.AttnKernelIdeal.main_arg0) = m ((c.tc : Thread Cert.AttnKernelIdeal.nD Cert.AttnKernelIdeal.τ).loc Cert.AttnKernelIdeal.main_arg0)
          ∧ r.2.mem ((c.tc : Thread Cert.AttnKernelIdeal.nD Cert.AttnKernelIdeal.τ).loc Cert.AttnKernelIdeal.main_arg1) = m ((c.tc : Thread Cert.AttnKernelIdeal.nD Cert.AttnKernelIdeal.τ).loc Cert.AttnKernelIdeal.main_arg1)
          ∧ r.2.mem ((c.tc : Thread Cert.AttnKernelIdeal.nD Cert.AttnKernelIdeal.τ).loc Cert.AttnKernelIdeal.main_arg2) = m ((c.tc : Thread Cert.AttnKernelIdeal.nD Cert.AttnKernelIdeal.τ).loc Cert.AttnKernelIdeal.main_arg2)
          ∧ r.2.mem ((c.tc : Thread Cert.AttnKernelIdeal.nD Cert.AttnKernelIdeal.τ).loc Cert.AttnKernelIdeal.main_arg3) = m ((c.tc : Thread Cert.AttnKernelIdeal.nD Cert.AttnKernelIdeal.τ).loc Cert.AttnKernelIdeal.main_arg3)
          ∧ r.2.mem ((c.tc : Thread Cert.AttnKernelIdeal.nD Cert.AttnKernelIdeal.τ).loc Cert.AttnKernelIdeal.main_arg4) = m ((c.tc : Thread Cert.AttnKernelIdeal.nD Cert.AttnKernelIdeal.τ).loc Cert.AttnKernelIdeal.main_arg4))
      ∧ θ_run (Cert.AttnReferenceIdeal.defs (F := Ideal)) (onTc (τ := Cert.AttnReferenceIdeal.τ) (Cert.AttnReferenceIdeal.main (F := Ideal))) ⟨m', fun _ => 0, g'⟩ (fun r => ∀ c : Dev Cert.AttnReferenceIdeal.nD,
          r.2.mem ((c.tc : Thread Cert.AttnReferenceIdeal.nD Cert.AttnReferenceIdeal.τ).loc Cert.AttnReferenceIdeal.main_v89) = v0 c
          ∧ r.2.mem ((c.tc : Thread Cert.AttnReferenceIdeal.nD Cert.AttnReferenceIdeal.τ).loc Cert.AttnReferenceIdeal.main_v90) = v1 c
          ∧ r.2.mem ((c.tc : Thread Cert.AttnReferenceIdeal.nD Cert.AttnReferenceIdeal.τ).loc Cert.AttnReferenceIdeal.main_arg0) = m' ((c.tc : Thread Cert.AttnReferenceIdeal.nD Cert.AttnReferenceIdeal.τ).loc Cert.AttnReferenceIdeal.main_arg0)
          ∧ r.2.mem ((c.tc : Thread Cert.AttnReferenceIdeal.nD Cert.AttnReferenceIdeal.τ).loc Cert.AttnReferenceIdeal.main_arg1) = m' ((c.tc : Thread Cert.AttnReferenceIdeal.nD Cert.AttnReferenceIdeal.τ).loc Cert.AttnReferenceIdeal.main_arg1)
          ∧ r.2.mem ((c.tc : Thread Cert.AttnReferenceIdeal.nD Cert.AttnReferenceIdeal.τ).loc Cert.AttnReferenceIdeal.main_arg2) = m' ((c.tc : Thread Cert.AttnReferenceIdeal.nD Cert.AttnReferenceIdeal.τ).loc Cert.AttnReferenceIdeal.main_arg2)
          ∧ r.2.mem ((c.tc : Thread Cert.AttnReferenceIdeal.nD Cert.AttnReferenceIdeal.τ).loc Cert.AttnReferenceIdeal.main_arg3) = m' ((c.tc : Thread Cert.AttnReferenceIdeal.nD Cert.AttnReferenceIdeal.τ).loc Cert.AttnReferenceIdeal.main_arg3)
          ∧ r.2.mem ((c.tc : Thread Cert.AttnReferenceIdeal.nD Cert.AttnReferenceIdeal.τ).loc Cert.AttnReferenceIdeal.main_arg4) = m' ((c.tc : Thread Cert.AttnReferenceIdeal.nD Cert.AttnReferenceIdeal.τ).loc Cert.AttnReferenceIdeal.main_arg4))

def preserves_LossKernel_LossKernelIdeal : Prop :=
  True

def algebraic_LossKernelIdeal_LossReferenceIdeal_pre_loss_finite [hLossKernelIdeal : Cert.LossKernelIdeal.Facts] [hLossReferenceIdeal : Cert.LossReferenceIdeal.Facts] [hPre_loss_finite : Cert.Pre_loss_finite.Facts] : Prop :=
  ∀ (m : (ℓ : Loc Cert.LossKernelIdeal.nD Cert.LossKernelIdeal.τ Cert.LossKernelIdeal.sig) → Buf (Elt Ideal) ℓ) (g : Dev Cert.LossKernelIdeal.nD → PrngReg)
    (m' : (ℓ : Loc Cert.LossReferenceIdeal.nD Cert.LossReferenceIdeal.τ Cert.LossReferenceIdeal.sig) → Buf (Elt Ideal) ℓ) (g' : Dev Cert.LossReferenceIdeal.nD → PrngReg), Pre_LossKernelIdeal_loss_finite m →
    (∀ c : Dev Cert.LossKernelIdeal.nD,
      m' ((c.tc : Thread Cert.LossReferenceIdeal.nD Cert.LossReferenceIdeal.τ).loc Cert.LossReferenceIdeal.main_arg0) = m ((c.tc : Thread Cert.LossKernelIdeal.nD Cert.LossKernelIdeal.τ).loc Cert.LossKernelIdeal.main_arg0)
      ∧ m' ((c.tc : Thread Cert.LossReferenceIdeal.nD Cert.LossReferenceIdeal.τ).loc Cert.LossReferenceIdeal.main_arg1) = m ((c.tc : Thread Cert.LossKernelIdeal.nD Cert.LossKernelIdeal.τ).loc Cert.LossKernelIdeal.main_arg1)
      ∧ m' ((c.tc : Thread Cert.LossReferenceIdeal.nD Cert.LossReferenceIdeal.τ).loc Cert.LossReferenceIdeal.main_arg2) = m ((c.tc : Thread Cert.LossKernelIdeal.nD Cert.LossKernelIdeal.τ).loc Cert.LossKernelIdeal.main_arg2)
      ∧ m' ((c.tc : Thread Cert.LossReferenceIdeal.nD Cert.LossReferenceIdeal.τ).loc Cert.LossReferenceIdeal.main_arg3) = m ((c.tc : Thread Cert.LossKernelIdeal.nD Cert.LossKernelIdeal.τ).loc Cert.LossKernelIdeal.main_arg3)
      ∧ m' ((c.tc : Thread Cert.LossReferenceIdeal.nD Cert.LossReferenceIdeal.τ).loc Cert.LossReferenceIdeal.main_arg4) = m ((c.tc : Thread Cert.LossKernelIdeal.nD Cert.LossKernelIdeal.τ).loc Cert.LossKernelIdeal.main_arg4)) →
    ∃ (v0 : (c : Dev Cert.LossKernelIdeal.nD) → Buf (Elt Ideal) ((c.tc : Thread Cert.LossKernelIdeal.nD Cert.LossKernelIdeal.τ).loc Cert.LossKernelIdeal.main_v5_0)) (v1 : (c : Dev Cert.LossKernelIdeal.nD) → Buf (Elt Ideal) ((c.tc : Thread Cert.LossKernelIdeal.nD Cert.LossKernelIdeal.τ).loc Cert.LossKernelIdeal.main_v5_1)) (v2 : (c : Dev Cert.LossKernelIdeal.nD) → Buf (Elt Ideal) ((c.tc : Thread Cert.LossKernelIdeal.nD Cert.LossKernelIdeal.τ).loc Cert.LossKernelIdeal.main_v5_2)),
      θ_run (Cert.LossKernelIdeal.defs (F := Ideal)) (onTc (τ := Cert.LossKernelIdeal.τ) (Cert.LossKernelIdeal.main (F := Ideal))) ⟨m, fun _ => 0, g⟩ (fun r => ∀ c : Dev Cert.LossKernelIdeal.nD,
          r.2.mem ((c.tc : Thread Cert.LossKernelIdeal.nD Cert.LossKernelIdeal.τ).loc Cert.LossKernelIdeal.main_v5_0) = v0 c
          ∧ r.2.mem ((c.tc : Thread Cert.LossKernelIdeal.nD Cert.LossKernelIdeal.τ).loc Cert.LossKernelIdeal.main_v5_1) = v1 c
          ∧ r.2.mem ((c.tc : Thread Cert.LossKernelIdeal.nD Cert.LossKernelIdeal.τ).loc Cert.LossKernelIdeal.main_v5_2) = v2 c
          ∧ r.2.mem ((c.tc : Thread Cert.LossKernelIdeal.nD Cert.LossKernelIdeal.τ).loc Cert.LossKernelIdeal.main_arg0) = m ((c.tc : Thread Cert.LossKernelIdeal.nD Cert.LossKernelIdeal.τ).loc Cert.LossKernelIdeal.main_arg0)
          ∧ r.2.mem ((c.tc : Thread Cert.LossKernelIdeal.nD Cert.LossKernelIdeal.τ).loc Cert.LossKernelIdeal.main_arg1) = m ((c.tc : Thread Cert.LossKernelIdeal.nD Cert.LossKernelIdeal.τ).loc Cert.LossKernelIdeal.main_arg1)
          ∧ r.2.mem ((c.tc : Thread Cert.LossKernelIdeal.nD Cert.LossKernelIdeal.τ).loc Cert.LossKernelIdeal.main_arg2) = m ((c.tc : Thread Cert.LossKernelIdeal.nD Cert.LossKernelIdeal.τ).loc Cert.LossKernelIdeal.main_arg2)
          ∧ r.2.mem ((c.tc : Thread Cert.LossKernelIdeal.nD Cert.LossKernelIdeal.τ).loc Cert.LossKernelIdeal.main_arg3) = m ((c.tc : Thread Cert.LossKernelIdeal.nD Cert.LossKernelIdeal.τ).loc Cert.LossKernelIdeal.main_arg3)
          ∧ r.2.mem ((c.tc : Thread Cert.LossKernelIdeal.nD Cert.LossKernelIdeal.τ).loc Cert.LossKernelIdeal.main_arg4) = m ((c.tc : Thread Cert.LossKernelIdeal.nD Cert.LossKernelIdeal.τ).loc Cert.LossKernelIdeal.main_arg4))
      ∧ θ_run (Cert.LossReferenceIdeal.defs (F := Ideal)) (onTc (τ := Cert.LossReferenceIdeal.τ) (Cert.LossReferenceIdeal.main (F := Ideal))) ⟨m', fun _ => 0, g'⟩ (fun r => ∀ c : Dev Cert.LossReferenceIdeal.nD,
          r.2.mem ((c.tc : Thread Cert.LossReferenceIdeal.nD Cert.LossReferenceIdeal.τ).loc Cert.LossReferenceIdeal.main_v60) = v0 c
          ∧ r.2.mem ((c.tc : Thread Cert.LossReferenceIdeal.nD Cert.LossReferenceIdeal.τ).loc Cert.LossReferenceIdeal.main_v62) = v1 c
          ∧ r.2.mem ((c.tc : Thread Cert.LossReferenceIdeal.nD Cert.LossReferenceIdeal.τ).loc Cert.LossReferenceIdeal.main_v59) = v2 c
          ∧ r.2.mem ((c.tc : Thread Cert.LossReferenceIdeal.nD Cert.LossReferenceIdeal.τ).loc Cert.LossReferenceIdeal.main_arg0) = m' ((c.tc : Thread Cert.LossReferenceIdeal.nD Cert.LossReferenceIdeal.τ).loc Cert.LossReferenceIdeal.main_arg0)
          ∧ r.2.mem ((c.tc : Thread Cert.LossReferenceIdeal.nD Cert.LossReferenceIdeal.τ).loc Cert.LossReferenceIdeal.main_arg1) = m' ((c.tc : Thread Cert.LossReferenceIdeal.nD Cert.LossReferenceIdeal.τ).loc Cert.LossReferenceIdeal.main_arg1)
          ∧ r.2.mem ((c.tc : Thread Cert.LossReferenceIdeal.nD Cert.LossReferenceIdeal.τ).loc Cert.LossReferenceIdeal.main_arg2) = m' ((c.tc : Thread Cert.LossReferenceIdeal.nD Cert.LossReferenceIdeal.τ).loc Cert.LossReferenceIdeal.main_arg2)
          ∧ r.2.mem ((c.tc : Thread Cert.LossReferenceIdeal.nD Cert.LossReferenceIdeal.τ).loc Cert.LossReferenceIdeal.main_arg3) = m' ((c.tc : Thread Cert.LossReferenceIdeal.nD Cert.LossReferenceIdeal.τ).loc Cert.LossReferenceIdeal.main_arg3)
          ∧ r.2.mem ((c.tc : Thread Cert.LossReferenceIdeal.nD Cert.LossReferenceIdeal.τ).loc Cert.LossReferenceIdeal.main_arg4) = m' ((c.tc : Thread Cert.LossReferenceIdeal.nD Cert.LossReferenceIdeal.τ).loc Cert.LossReferenceIdeal.main_arg4))

def preserves_NormKernel_NormKernelIdeal : Prop :=
  True

def algebraic_NormKernelIdeal_NormReferenceIdeal_pre_dh_finite [hNormKernelIdeal : Cert.NormKernelIdeal.Facts] [hNormReferenceIdeal : Cert.NormReferenceIdeal.Facts] [hPre_dh_finite : Cert.Pre_dh_finite.Facts] : Prop :=
  ∀ (m : (ℓ : Loc Cert.NormKernelIdeal.nD Cert.NormKernelIdeal.τ Cert.NormKernelIdeal.sig) → Buf (Elt Ideal) ℓ) (g : Dev Cert.NormKernelIdeal.nD → PrngReg)
    (m' : (ℓ : Loc Cert.NormReferenceIdeal.nD Cert.NormReferenceIdeal.τ Cert.NormReferenceIdeal.sig) → Buf (Elt Ideal) ℓ) (g' : Dev Cert.NormReferenceIdeal.nD → PrngReg), Pre_NormKernelIdeal_dh_finite m →
    (∀ c : Dev Cert.NormKernelIdeal.nD,
      m' ((c.tc : Thread Cert.NormReferenceIdeal.nD Cert.NormReferenceIdeal.τ).loc Cert.NormReferenceIdeal.main_arg0) = m ((c.tc : Thread Cert.NormKernelIdeal.nD Cert.NormKernelIdeal.τ).loc Cert.NormKernelIdeal.main_arg0)
      ∧ m' ((c.tc : Thread Cert.NormReferenceIdeal.nD Cert.NormReferenceIdeal.τ).loc Cert.NormReferenceIdeal.main_arg1) = m ((c.tc : Thread Cert.NormKernelIdeal.nD Cert.NormKernelIdeal.τ).loc Cert.NormKernelIdeal.main_arg1)
      ∧ m' ((c.tc : Thread Cert.NormReferenceIdeal.nD Cert.NormReferenceIdeal.τ).loc Cert.NormReferenceIdeal.main_arg2) = m ((c.tc : Thread Cert.NormKernelIdeal.nD Cert.NormKernelIdeal.τ).loc Cert.NormKernelIdeal.main_arg2)
      ∧ m' ((c.tc : Thread Cert.NormReferenceIdeal.nD Cert.NormReferenceIdeal.τ).loc Cert.NormReferenceIdeal.main_arg3) = m ((c.tc : Thread Cert.NormKernelIdeal.nD Cert.NormKernelIdeal.τ).loc Cert.NormKernelIdeal.main_arg3)
      ∧ m' ((c.tc : Thread Cert.NormReferenceIdeal.nD Cert.NormReferenceIdeal.τ).loc Cert.NormReferenceIdeal.main_arg4) = m ((c.tc : Thread Cert.NormKernelIdeal.nD Cert.NormKernelIdeal.τ).loc Cert.NormKernelIdeal.main_arg4)) →
    ∃ (v0 : (c : Dev Cert.NormKernelIdeal.nD) → Buf (Elt Ideal) ((c.tc : Thread Cert.NormKernelIdeal.nD Cert.NormKernelIdeal.τ).loc Cert.NormKernelIdeal.main_v35_0)) (v1 : (c : Dev Cert.NormKernelIdeal.nD) → Buf (Elt Ideal) ((c.tc : Thread Cert.NormKernelIdeal.nD Cert.NormKernelIdeal.τ).loc Cert.NormKernelIdeal.main_v35_1)),
      θ_run (Cert.NormKernelIdeal.defs (F := Ideal)) (onTc (τ := Cert.NormKernelIdeal.τ) (Cert.NormKernelIdeal.main (F := Ideal))) ⟨m, fun _ => 0, g⟩ (fun r => ∀ c : Dev Cert.NormKernelIdeal.nD,
          r.2.mem ((c.tc : Thread Cert.NormKernelIdeal.nD Cert.NormKernelIdeal.τ).loc Cert.NormKernelIdeal.main_v35_0) = v0 c
          ∧ r.2.mem ((c.tc : Thread Cert.NormKernelIdeal.nD Cert.NormKernelIdeal.τ).loc Cert.NormKernelIdeal.main_v35_1) = v1 c
          ∧ r.2.mem ((c.tc : Thread Cert.NormKernelIdeal.nD Cert.NormKernelIdeal.τ).loc Cert.NormKernelIdeal.main_arg0) = m ((c.tc : Thread Cert.NormKernelIdeal.nD Cert.NormKernelIdeal.τ).loc Cert.NormKernelIdeal.main_arg0)
          ∧ r.2.mem ((c.tc : Thread Cert.NormKernelIdeal.nD Cert.NormKernelIdeal.τ).loc Cert.NormKernelIdeal.main_arg1) = m ((c.tc : Thread Cert.NormKernelIdeal.nD Cert.NormKernelIdeal.τ).loc Cert.NormKernelIdeal.main_arg1)
          ∧ r.2.mem ((c.tc : Thread Cert.NormKernelIdeal.nD Cert.NormKernelIdeal.τ).loc Cert.NormKernelIdeal.main_arg2) = m ((c.tc : Thread Cert.NormKernelIdeal.nD Cert.NormKernelIdeal.τ).loc Cert.NormKernelIdeal.main_arg2)
          ∧ r.2.mem ((c.tc : Thread Cert.NormKernelIdeal.nD Cert.NormKernelIdeal.τ).loc Cert.NormKernelIdeal.main_arg3) = m ((c.tc : Thread Cert.NormKernelIdeal.nD Cert.NormKernelIdeal.τ).loc Cert.NormKernelIdeal.main_arg3)
          ∧ r.2.mem ((c.tc : Thread Cert.NormKernelIdeal.nD Cert.NormKernelIdeal.τ).loc Cert.NormKernelIdeal.main_arg4) = m ((c.tc : Thread Cert.NormKernelIdeal.nD Cert.NormKernelIdeal.τ).loc Cert.NormKernelIdeal.main_arg4))
      ∧ θ_run (Cert.NormReferenceIdeal.defs (F := Ideal)) (onTc (τ := Cert.NormReferenceIdeal.τ) (Cert.NormReferenceIdeal.main (F := Ideal))) ⟨m', fun _ => 0, g'⟩ (fun r => ∀ c : Dev Cert.NormReferenceIdeal.nD,
          r.2.mem ((c.tc : Thread Cert.NormReferenceIdeal.nD Cert.NormReferenceIdeal.τ).loc Cert.NormReferenceIdeal.main_v43) = v0 c
          ∧ r.2.mem ((c.tc : Thread Cert.NormReferenceIdeal.nD Cert.NormReferenceIdeal.τ).loc Cert.NormReferenceIdeal.main_v45) = v1 c
          ∧ r.2.mem ((c.tc : Thread Cert.NormReferenceIdeal.nD Cert.NormReferenceIdeal.τ).loc Cert.NormReferenceIdeal.main_arg0) = m' ((c.tc : Thread Cert.NormReferenceIdeal.nD Cert.NormReferenceIdeal.τ).loc Cert.NormReferenceIdeal.main_arg0)
          ∧ r.2.mem ((c.tc : Thread Cert.NormReferenceIdeal.nD Cert.NormReferenceIdeal.τ).loc Cert.NormReferenceIdeal.main_arg1) = m' ((c.tc : Thread Cert.NormReferenceIdeal.nD Cert.NormReferenceIdeal.τ).loc Cert.NormReferenceIdeal.main_arg1)
          ∧ r.2.mem ((c.tc : Thread Cert.NormReferenceIdeal.nD Cert.NormReferenceIdeal.τ).loc Cert.NormReferenceIdeal.main_arg2) = m' ((c.tc : Thread Cert.NormReferenceIdeal.nD Cert.NormReferenceIdeal.τ).loc Cert.NormReferenceIdeal.main_arg2)
          ∧ r.2.mem ((c.tc : Thread Cert.NormReferenceIdeal.nD Cert.NormReferenceIdeal.τ).loc Cert.NormReferenceIdeal.main_arg3) = m' ((c.tc : Thread Cert.NormReferenceIdeal.nD Cert.NormReferenceIdeal.τ).loc Cert.NormReferenceIdeal.main_arg3)
          ∧ r.2.mem ((c.tc : Thread Cert.NormReferenceIdeal.nD Cert.NormReferenceIdeal.τ).loc Cert.NormReferenceIdeal.main_arg4) = m' ((c.tc : Thread Cert.NormReferenceIdeal.nD Cert.NormReferenceIdeal.τ).loc Cert.NormReferenceIdeal.main_arg4))

def preserves_JoinKernel_JoinKernelIdeal : Prop :=
  True

def algebraic_JoinKernelIdeal_JoinReferenceIdeal [hJoinKernelIdeal : Cert.JoinKernelIdeal.Facts] [hJoinReferenceIdeal : Cert.JoinReferenceIdeal.Facts] : Prop :=
  ∀ (m : (ℓ : Loc Cert.JoinKernelIdeal.nD Cert.JoinKernelIdeal.τ Cert.JoinKernelIdeal.sig) → Buf (Elt Ideal) ℓ) (g : Dev Cert.JoinKernelIdeal.nD → PrngReg)
    (m' : (ℓ : Loc Cert.JoinReferenceIdeal.nD Cert.JoinReferenceIdeal.τ Cert.JoinReferenceIdeal.sig) → Buf (Elt Ideal) ℓ) (g' : Dev Cert.JoinReferenceIdeal.nD → PrngReg), Pre_JoinKernelIdeal m →
    (∀ c : Dev Cert.JoinKernelIdeal.nD,
      m' ((c.tc : Thread Cert.JoinReferenceIdeal.nD Cert.JoinReferenceIdeal.τ).loc Cert.JoinReferenceIdeal.main_arg0) = m ((c.tc : Thread Cert.JoinKernelIdeal.nD Cert.JoinKernelIdeal.τ).loc Cert.JoinKernelIdeal.main_arg0)
      ∧ m' ((c.tc : Thread Cert.JoinReferenceIdeal.nD Cert.JoinReferenceIdeal.τ).loc Cert.JoinReferenceIdeal.main_arg1) = m ((c.tc : Thread Cert.JoinKernelIdeal.nD Cert.JoinKernelIdeal.τ).loc Cert.JoinKernelIdeal.main_arg1)
      ∧ m' ((c.tc : Thread Cert.JoinReferenceIdeal.nD Cert.JoinReferenceIdeal.τ).loc Cert.JoinReferenceIdeal.main_arg2) = m ((c.tc : Thread Cert.JoinKernelIdeal.nD Cert.JoinKernelIdeal.τ).loc Cert.JoinKernelIdeal.main_arg2)
      ∧ m' ((c.tc : Thread Cert.JoinReferenceIdeal.nD Cert.JoinReferenceIdeal.τ).loc Cert.JoinReferenceIdeal.main_arg3) = m ((c.tc : Thread Cert.JoinKernelIdeal.nD Cert.JoinKernelIdeal.τ).loc Cert.JoinKernelIdeal.main_arg3)
      ∧ m' ((c.tc : Thread Cert.JoinReferenceIdeal.nD Cert.JoinReferenceIdeal.τ).loc Cert.JoinReferenceIdeal.main_arg4) = m ((c.tc : Thread Cert.JoinKernelIdeal.nD Cert.JoinKernelIdeal.τ).loc Cert.JoinKernelIdeal.main_arg4)) →
    ∃ (v0 : (c : Dev Cert.JoinKernelIdeal.nD) → Buf (Elt Ideal) ((c.tc : Thread Cert.JoinKernelIdeal.nD Cert.JoinKernelIdeal.τ).loc Cert.JoinKernelIdeal.main_v9_0)) (v1 : (c : Dev Cert.JoinKernelIdeal.nD) → Buf (Elt Ideal) ((c.tc : Thread Cert.JoinKernelIdeal.nD Cert.JoinKernelIdeal.τ).loc Cert.JoinKernelIdeal.main_v9_1)) (v2 : (c : Dev Cert.JoinKernelIdeal.nD) → Buf (Elt Ideal) ((c.tc : Thread Cert.JoinKernelIdeal.nD Cert.JoinKernelIdeal.τ).loc Cert.JoinKernelIdeal.main_v9_2)),
      θ_run (Cert.JoinKernelIdeal.defs (F := Ideal)) (onTc (τ := Cert.JoinKernelIdeal.τ) (Cert.JoinKernelIdeal.main (F := Ideal))) ⟨m, fun _ => 0, g⟩ (fun r => ∀ c : Dev Cert.JoinKernelIdeal.nD,
          r.2.mem ((c.tc : Thread Cert.JoinKernelIdeal.nD Cert.JoinKernelIdeal.τ).loc Cert.JoinKernelIdeal.main_v9_0) = v0 c
          ∧ r.2.mem ((c.tc : Thread Cert.JoinKernelIdeal.nD Cert.JoinKernelIdeal.τ).loc Cert.JoinKernelIdeal.main_v9_1) = v1 c
          ∧ r.2.mem ((c.tc : Thread Cert.JoinKernelIdeal.nD Cert.JoinKernelIdeal.τ).loc Cert.JoinKernelIdeal.main_v9_2) = v2 c
          ∧ r.2.mem ((c.tc : Thread Cert.JoinKernelIdeal.nD Cert.JoinKernelIdeal.τ).loc Cert.JoinKernelIdeal.main_arg0) = m ((c.tc : Thread Cert.JoinKernelIdeal.nD Cert.JoinKernelIdeal.τ).loc Cert.JoinKernelIdeal.main_arg0)
          ∧ r.2.mem ((c.tc : Thread Cert.JoinKernelIdeal.nD Cert.JoinKernelIdeal.τ).loc Cert.JoinKernelIdeal.main_arg1) = m ((c.tc : Thread Cert.JoinKernelIdeal.nD Cert.JoinKernelIdeal.τ).loc Cert.JoinKernelIdeal.main_arg1)
          ∧ r.2.mem ((c.tc : Thread Cert.JoinKernelIdeal.nD Cert.JoinKernelIdeal.τ).loc Cert.JoinKernelIdeal.main_arg2) = m ((c.tc : Thread Cert.JoinKernelIdeal.nD Cert.JoinKernelIdeal.τ).loc Cert.JoinKernelIdeal.main_arg2)
          ∧ r.2.mem ((c.tc : Thread Cert.JoinKernelIdeal.nD Cert.JoinKernelIdeal.τ).loc Cert.JoinKernelIdeal.main_arg3) = m ((c.tc : Thread Cert.JoinKernelIdeal.nD Cert.JoinKernelIdeal.τ).loc Cert.JoinKernelIdeal.main_arg3)
          ∧ r.2.mem ((c.tc : Thread Cert.JoinKernelIdeal.nD Cert.JoinKernelIdeal.τ).loc Cert.JoinKernelIdeal.main_arg4) = m ((c.tc : Thread Cert.JoinKernelIdeal.nD Cert.JoinKernelIdeal.τ).loc Cert.JoinKernelIdeal.main_arg4))
      ∧ θ_run (Cert.JoinReferenceIdeal.defs (F := Ideal)) (onTc (τ := Cert.JoinReferenceIdeal.τ) (Cert.JoinReferenceIdeal.main (F := Ideal))) ⟨m', fun _ => 0, g'⟩ (fun r => ∀ c : Dev Cert.JoinReferenceIdeal.nD,
          r.2.mem ((c.tc : Thread Cert.JoinReferenceIdeal.nD Cert.JoinReferenceIdeal.τ).loc Cert.JoinReferenceIdeal.main_v27) = v0 c
          ∧ r.2.mem ((c.tc : Thread Cert.JoinReferenceIdeal.nD Cert.JoinReferenceIdeal.τ).loc Cert.JoinReferenceIdeal.main_v29) = v1 c
          ∧ r.2.mem ((c.tc : Thread Cert.JoinReferenceIdeal.nD Cert.JoinReferenceIdeal.τ).loc Cert.JoinReferenceIdeal.main_v31) = v2 c
          ∧ r.2.mem ((c.tc : Thread Cert.JoinReferenceIdeal.nD Cert.JoinReferenceIdeal.τ).loc Cert.JoinReferenceIdeal.main_arg0) = m' ((c.tc : Thread Cert.JoinReferenceIdeal.nD Cert.JoinReferenceIdeal.τ).loc Cert.JoinReferenceIdeal.main_arg0)
          ∧ r.2.mem ((c.tc : Thread Cert.JoinReferenceIdeal.nD Cert.JoinReferenceIdeal.τ).loc Cert.JoinReferenceIdeal.main_arg1) = m' ((c.tc : Thread Cert.JoinReferenceIdeal.nD Cert.JoinReferenceIdeal.τ).loc Cert.JoinReferenceIdeal.main_arg1)
          ∧ r.2.mem ((c.tc : Thread Cert.JoinReferenceIdeal.nD Cert.JoinReferenceIdeal.τ).loc Cert.JoinReferenceIdeal.main_arg2) = m' ((c.tc : Thread Cert.JoinReferenceIdeal.nD Cert.JoinReferenceIdeal.τ).loc Cert.JoinReferenceIdeal.main_arg2)
          ∧ r.2.mem ((c.tc : Thread Cert.JoinReferenceIdeal.nD Cert.JoinReferenceIdeal.τ).loc Cert.JoinReferenceIdeal.main_arg3) = m' ((c.tc : Thread Cert.JoinReferenceIdeal.nD Cert.JoinReferenceIdeal.τ).loc Cert.JoinReferenceIdeal.main_arg3)
          ∧ r.2.mem ((c.tc : Thread Cert.JoinReferenceIdeal.nD Cert.JoinReferenceIdeal.τ).loc Cert.JoinReferenceIdeal.main_arg4) = m' ((c.tc : Thread Cert.JoinReferenceIdeal.nD Cert.JoinReferenceIdeal.τ).loc Cert.JoinReferenceIdeal.main_arg4))

def preserves_FoxKernel_FoxKernelIdeal : Prop :=
  IdealRules.named_const.Statement Cert.FoxKernelIdeal.κ "mask" .f32 0xF149F2CA#32 ⊥

def algebraic_FoxKernelIdeal_FoxReferenceIdeal_pre_fox_finite [hFoxKernelIdeal : Cert.FoxKernelIdeal.Facts] [hFoxReferenceIdeal : Cert.FoxReferenceIdeal.Facts] [hPre_fox_finite : Cert.Pre_fox_finite.Facts] : Prop :=
  ∀ (m : (ℓ : Loc Cert.FoxKernelIdeal.nD Cert.FoxKernelIdeal.τ Cert.FoxKernelIdeal.sig) → Buf (Elt Ideal) ℓ) (g : Dev Cert.FoxKernelIdeal.nD → PrngReg)
    (m' : (ℓ : Loc Cert.FoxReferenceIdeal.nD Cert.FoxReferenceIdeal.τ Cert.FoxReferenceIdeal.sig) → Buf (Elt Ideal) ℓ) (g' : Dev Cert.FoxReferenceIdeal.nD → PrngReg), Pre_FoxKernelIdeal_fox_finite m →
    (∀ c : Dev Cert.FoxKernelIdeal.nD,
      m' ((c.tc : Thread Cert.FoxReferenceIdeal.nD Cert.FoxReferenceIdeal.τ).loc Cert.FoxReferenceIdeal.main_arg0) = m ((c.tc : Thread Cert.FoxKernelIdeal.nD Cert.FoxKernelIdeal.τ).loc Cert.FoxKernelIdeal.main_arg0)
      ∧ m' ((c.tc : Thread Cert.FoxReferenceIdeal.nD Cert.FoxReferenceIdeal.τ).loc Cert.FoxReferenceIdeal.main_arg1) = m ((c.tc : Thread Cert.FoxKernelIdeal.nD Cert.FoxKernelIdeal.τ).loc Cert.FoxKernelIdeal.main_arg1)
      ∧ m' ((c.tc : Thread Cert.FoxReferenceIdeal.nD Cert.FoxReferenceIdeal.τ).loc Cert.FoxReferenceIdeal.main_arg2) = m ((c.tc : Thread Cert.FoxKernelIdeal.nD Cert.FoxKernelIdeal.τ).loc Cert.FoxKernelIdeal.main_arg2)
      ∧ m' ((c.tc : Thread Cert.FoxReferenceIdeal.nD Cert.FoxReferenceIdeal.τ).loc Cert.FoxReferenceIdeal.main_arg3) = m ((c.tc : Thread Cert.FoxKernelIdeal.nD Cert.FoxKernelIdeal.τ).loc Cert.FoxKernelIdeal.main_arg3)
      ∧ m' ((c.tc : Thread Cert.FoxReferenceIdeal.nD Cert.FoxReferenceIdeal.τ).loc Cert.FoxReferenceIdeal.main_arg4) = m ((c.tc : Thread Cert.FoxKernelIdeal.nD Cert.FoxKernelIdeal.τ).loc Cert.FoxKernelIdeal.main_arg4)) →
    ∃ (v0 : (c : Dev Cert.FoxKernelIdeal.nD) → Buf (Elt Ideal) ((c.tc : Thread Cert.FoxKernelIdeal.nD Cert.FoxKernelIdeal.τ).loc Cert.FoxKernelIdeal.main_v13_0)) (v1 : (c : Dev Cert.FoxKernelIdeal.nD) → Buf (Elt Ideal) ((c.tc : Thread Cert.FoxKernelIdeal.nD Cert.FoxKernelIdeal.τ).loc Cert.FoxKernelIdeal.main_v13_1)) (v2 : (c : Dev Cert.FoxKernelIdeal.nD) → Buf (Elt Ideal) ((c.tc : Thread Cert.FoxKernelIdeal.nD Cert.FoxKernelIdeal.τ).loc Cert.FoxKernelIdeal.main_v13_2)),
      θ_run (Cert.FoxKernelIdeal.defs (F := Ideal)) (onTc (τ := Cert.FoxKernelIdeal.τ) (Cert.FoxKernelIdeal.main (F := Ideal))) ⟨m, fun _ => 0, g⟩ (fun r => ∀ c : Dev Cert.FoxKernelIdeal.nD,
          r.2.mem ((c.tc : Thread Cert.FoxKernelIdeal.nD Cert.FoxKernelIdeal.τ).loc Cert.FoxKernelIdeal.main_v13_0) = v0 c
          ∧ r.2.mem ((c.tc : Thread Cert.FoxKernelIdeal.nD Cert.FoxKernelIdeal.τ).loc Cert.FoxKernelIdeal.main_v13_1) = v1 c
          ∧ r.2.mem ((c.tc : Thread Cert.FoxKernelIdeal.nD Cert.FoxKernelIdeal.τ).loc Cert.FoxKernelIdeal.main_v13_2) = v2 c
          ∧ r.2.mem ((c.tc : Thread Cert.FoxKernelIdeal.nD Cert.FoxKernelIdeal.τ).loc Cert.FoxKernelIdeal.main_arg0) = m ((c.tc : Thread Cert.FoxKernelIdeal.nD Cert.FoxKernelIdeal.τ).loc Cert.FoxKernelIdeal.main_arg0)
          ∧ r.2.mem ((c.tc : Thread Cert.FoxKernelIdeal.nD Cert.FoxKernelIdeal.τ).loc Cert.FoxKernelIdeal.main_arg1) = m ((c.tc : Thread Cert.FoxKernelIdeal.nD Cert.FoxKernelIdeal.τ).loc Cert.FoxKernelIdeal.main_arg1)
          ∧ r.2.mem ((c.tc : Thread Cert.FoxKernelIdeal.nD Cert.FoxKernelIdeal.τ).loc Cert.FoxKernelIdeal.main_arg2) = m ((c.tc : Thread Cert.FoxKernelIdeal.nD Cert.FoxKernelIdeal.τ).loc Cert.FoxKernelIdeal.main_arg2)
          ∧ r.2.mem ((c.tc : Thread Cert.FoxKernelIdeal.nD Cert.FoxKernelIdeal.τ).loc Cert.FoxKernelIdeal.main_arg3) = m ((c.tc : Thread Cert.FoxKernelIdeal.nD Cert.FoxKernelIdeal.τ).loc Cert.FoxKernelIdeal.main_arg3)
          ∧ r.2.mem ((c.tc : Thread Cert.FoxKernelIdeal.nD Cert.FoxKernelIdeal.τ).loc Cert.FoxKernelIdeal.main_arg4) = m ((c.tc : Thread Cert.FoxKernelIdeal.nD Cert.FoxKernelIdeal.τ).loc Cert.FoxKernelIdeal.main_arg4))
      ∧ θ_run (Cert.FoxReferenceIdeal.defs (F := Ideal)) (onTc (τ := Cert.FoxReferenceIdeal.τ) (Cert.FoxReferenceIdeal.main (F := Ideal))) ⟨m', fun _ => 0, g'⟩ (fun r => ∀ c : Dev Cert.FoxReferenceIdeal.nD,
          r.2.mem ((c.tc : Thread Cert.FoxReferenceIdeal.nD Cert.FoxReferenceIdeal.τ).loc Cert.FoxReferenceIdeal.main_v32) = v0 c
          ∧ r.2.mem ((c.tc : Thread Cert.FoxReferenceIdeal.nD Cert.FoxReferenceIdeal.τ).loc Cert.FoxReferenceIdeal.main_v41) = v1 c
          ∧ r.2.mem ((c.tc : Thread Cert.FoxReferenceIdeal.nD Cert.FoxReferenceIdeal.τ).loc Cert.FoxReferenceIdeal.main_v46) = v2 c
          ∧ r.2.mem ((c.tc : Thread Cert.FoxReferenceIdeal.nD Cert.FoxReferenceIdeal.τ).loc Cert.FoxReferenceIdeal.main_arg0) = m' ((c.tc : Thread Cert.FoxReferenceIdeal.nD Cert.FoxReferenceIdeal.τ).loc Cert.FoxReferenceIdeal.main_arg0)
          ∧ r.2.mem ((c.tc : Thread Cert.FoxReferenceIdeal.nD Cert.FoxReferenceIdeal.τ).loc Cert.FoxReferenceIdeal.main_arg1) = m' ((c.tc : Thread Cert.FoxReferenceIdeal.nD Cert.FoxReferenceIdeal.τ).loc Cert.FoxReferenceIdeal.main_arg1)
          ∧ r.2.mem ((c.tc : Thread Cert.FoxReferenceIdeal.nD Cert.FoxReferenceIdeal.τ).loc Cert.FoxReferenceIdeal.main_arg2) = m' ((c.tc : Thread Cert.FoxReferenceIdeal.nD Cert.FoxReferenceIdeal.τ).loc Cert.FoxReferenceIdeal.main_arg2)
          ∧ r.2.mem ((c.tc : Thread Cert.FoxReferenceIdeal.nD Cert.FoxReferenceIdeal.τ).loc Cert.FoxReferenceIdeal.main_arg3) = m' ((c.tc : Thread Cert.FoxReferenceIdeal.nD Cert.FoxReferenceIdeal.τ).loc Cert.FoxReferenceIdeal.main_arg3)
          ∧ r.2.mem ((c.tc : Thread Cert.FoxReferenceIdeal.nD Cert.FoxReferenceIdeal.τ).loc Cert.FoxReferenceIdeal.main_arg4) = m' ((c.tc : Thread Cert.FoxReferenceIdeal.nD Cert.FoxReferenceIdeal.τ).loc Cert.FoxReferenceIdeal.main_arg4))

def Claim : Prop :=
  ∃ (hMergeKernel : Cert.MergeKernel.Facts) (hMergeKernelIdeal : Cert.MergeKernelIdeal.Facts) (hMergeReferenceIdeal : Cert.MergeReferenceIdeal.Facts) (hBranchKernel : Cert.BranchKernel.Facts) (hBranchKernelIdeal : Cert.BranchKernelIdeal.Facts) (hBranchReferenceIdeal : Cert.BranchReferenceIdeal.Facts) (hFgateKernel : Cert.FgateKernel.Facts) (hFgateKernelIdeal : Cert.FgateKernelIdeal.Facts) (hFgateReferenceIdeal : Cert.FgateReferenceIdeal.Facts) (hAttnKernel : Cert.AttnKernel.Facts) (hAttnKernelIdeal : Cert.AttnKernelIdeal.Facts) (hAttnReferenceIdeal : Cert.AttnReferenceIdeal.Facts) (hLossKernel : Cert.LossKernel.Facts) (hLossKernelIdeal : Cert.LossKernelIdeal.Facts) (hLossReferenceIdeal : Cert.LossReferenceIdeal.Facts) (hNormKernel : Cert.NormKernel.Facts) (hNormKernelIdeal : Cert.NormKernelIdeal.Facts) (hNormReferenceIdeal : Cert.NormReferenceIdeal.Facts) (hJoinKernel : Cert.JoinKernel.Facts) (hJoinKernelIdeal : Cert.JoinKernelIdeal.Facts) (hJoinReferenceIdeal : Cert.JoinReferenceIdeal.Facts) (hFoxKernel : Cert.FoxKernel.Facts) (hFoxKernelIdeal : Cert.FoxKernelIdeal.Facts) (hFoxReferenceIdeal : Cert.FoxReferenceIdeal.Facts) (hPre_branch_finite : Cert.Pre_branch_finite.Facts) (hPre_fgate_finite : Cert.Pre_fgate_finite.Facts) (hPre_attn_finite : Cert.Pre_attn_finite.Facts) (hPre_loss_finite : Cert.Pre_loss_finite.Facts) (hPre_dh_finite : Cert.Pre_dh_finite.Facts) (hPre_fox_finite : Cert.Pre_fox_finite.Facts),
    quiescent_MergeKernel (hMergeKernel := hMergeKernel)
    ∧ quiescent_MergeKernelIdeal (hMergeKernelIdeal := hMergeKernelIdeal)
    ∧ quiescent_MergeReferenceIdeal (hMergeReferenceIdeal := hMergeReferenceIdeal)
    ∧ quiescent_BranchKernel (hBranchKernel := hBranchKernel)
    ∧ quiescent_BranchKernelIdeal (hBranchKernelIdeal := hBranchKernelIdeal)
    ∧ quiescent_BranchKernelIdeal_pre_branch_finite (hBranchKernelIdeal := hBranchKernelIdeal) (hPre_branch_finite := hPre_branch_finite)
    ∧ quiescent_BranchReferenceIdeal (hBranchReferenceIdeal := hBranchReferenceIdeal)
    ∧ quiescent_BranchReferenceIdeal_pre_branch_finite (hBranchReferenceIdeal := hBranchReferenceIdeal) (hPre_branch_finite := hPre_branch_finite)
    ∧ quiescent_FgateKernel (hFgateKernel := hFgateKernel)
    ∧ quiescent_FgateKernelIdeal (hFgateKernelIdeal := hFgateKernelIdeal)
    ∧ quiescent_FgateKernelIdeal_pre_fgate_finite (hFgateKernelIdeal := hFgateKernelIdeal) (hPre_fgate_finite := hPre_fgate_finite)
    ∧ quiescent_FgateReferenceIdeal (hFgateReferenceIdeal := hFgateReferenceIdeal)
    ∧ quiescent_FgateReferenceIdeal_pre_fgate_finite (hFgateReferenceIdeal := hFgateReferenceIdeal) (hPre_fgate_finite := hPre_fgate_finite)
    ∧ quiescent_AttnKernel (hAttnKernel := hAttnKernel)
    ∧ quiescent_AttnKernelIdeal (hAttnKernelIdeal := hAttnKernelIdeal)
    ∧ quiescent_AttnKernelIdeal_pre_attn_finite (hAttnKernelIdeal := hAttnKernelIdeal) (hPre_attn_finite := hPre_attn_finite)
    ∧ quiescent_AttnReferenceIdeal (hAttnReferenceIdeal := hAttnReferenceIdeal)
    ∧ quiescent_AttnReferenceIdeal_pre_attn_finite (hAttnReferenceIdeal := hAttnReferenceIdeal) (hPre_attn_finite := hPre_attn_finite)
    ∧ quiescent_LossKernel (hLossKernel := hLossKernel)
    ∧ quiescent_LossKernelIdeal (hLossKernelIdeal := hLossKernelIdeal)
    ∧ quiescent_LossKernelIdeal_pre_loss_finite (hLossKernelIdeal := hLossKernelIdeal) (hPre_loss_finite := hPre_loss_finite)
    ∧ quiescent_LossReferenceIdeal (hLossReferenceIdeal := hLossReferenceIdeal)
    ∧ quiescent_LossReferenceIdeal_pre_loss_finite (hLossReferenceIdeal := hLossReferenceIdeal) (hPre_loss_finite := hPre_loss_finite)
    ∧ quiescent_NormKernel (hNormKernel := hNormKernel)
    ∧ quiescent_NormKernelIdeal (hNormKernelIdeal := hNormKernelIdeal)
    ∧ quiescent_NormKernelIdeal_pre_dh_finite (hNormKernelIdeal := hNormKernelIdeal) (hPre_dh_finite := hPre_dh_finite)
    ∧ quiescent_NormReferenceIdeal (hNormReferenceIdeal := hNormReferenceIdeal)
    ∧ quiescent_NormReferenceIdeal_pre_dh_finite (hNormReferenceIdeal := hNormReferenceIdeal) (hPre_dh_finite := hPre_dh_finite)
    ∧ quiescent_JoinKernel (hJoinKernel := hJoinKernel)
    ∧ quiescent_JoinKernelIdeal (hJoinKernelIdeal := hJoinKernelIdeal)
    ∧ quiescent_JoinReferenceIdeal (hJoinReferenceIdeal := hJoinReferenceIdeal)
    ∧ quiescent_FoxKernel (hFoxKernel := hFoxKernel)
    ∧ quiescent_FoxKernelIdeal (hFoxKernelIdeal := hFoxKernelIdeal)
    ∧ quiescent_FoxKernelIdeal_pre_fox_finite (hFoxKernelIdeal := hFoxKernelIdeal) (hPre_fox_finite := hPre_fox_finite)
    ∧ quiescent_FoxReferenceIdeal (hFoxReferenceIdeal := hFoxReferenceIdeal)
    ∧ quiescent_FoxReferenceIdeal_pre_fox_finite (hFoxReferenceIdeal := hFoxReferenceIdeal) (hPre_fox_finite := hPre_fox_finite)
    ∧ preserves_MergeKernel_MergeKernelIdeal
    ∧ algebraic_MergeKernelIdeal_MergeReferenceIdeal (hMergeKernelIdeal := hMergeKernelIdeal) (hMergeReferenceIdeal := hMergeReferenceIdeal)
    ∧ preserves_BranchKernel_BranchKernelIdeal
    ∧ algebraic_BranchKernelIdeal_BranchReferenceIdeal_pre_branch_finite (hBranchKernelIdeal := hBranchKernelIdeal) (hBranchReferenceIdeal := hBranchReferenceIdeal) (hPre_branch_finite := hPre_branch_finite)
    ∧ preserves_FgateKernel_FgateKernelIdeal
    ∧ algebraic_FgateKernelIdeal_FgateReferenceIdeal_pre_fgate_finite (hFgateKernelIdeal := hFgateKernelIdeal) (hFgateReferenceIdeal := hFgateReferenceIdeal) (hPre_fgate_finite := hPre_fgate_finite)
    ∧ preserves_AttnKernel_AttnKernelIdeal
    ∧ algebraic_AttnKernelIdeal_AttnReferenceIdeal_pre_attn_finite (hAttnKernelIdeal := hAttnKernelIdeal) (hAttnReferenceIdeal := hAttnReferenceIdeal) (hPre_attn_finite := hPre_attn_finite)
    ∧ preserves_LossKernel_LossKernelIdeal
    ∧ algebraic_LossKernelIdeal_LossReferenceIdeal_pre_loss_finite (hLossKernelIdeal := hLossKernelIdeal) (hLossReferenceIdeal := hLossReferenceIdeal) (hPre_loss_finite := hPre_loss_finite)
    ∧ preserves_NormKernel_NormKernelIdeal
    ∧ algebraic_NormKernelIdeal_NormReferenceIdeal_pre_dh_finite (hNormKernelIdeal := hNormKernelIdeal) (hNormReferenceIdeal := hNormReferenceIdeal) (hPre_dh_finite := hPre_dh_finite)
    ∧ preserves_JoinKernel_JoinKernelIdeal
    ∧ algebraic_JoinKernelIdeal_JoinReferenceIdeal (hJoinKernelIdeal := hJoinKernelIdeal) (hJoinReferenceIdeal := hJoinReferenceIdeal)
    ∧ preserves_FoxKernel_FoxKernelIdeal
    ∧ algebraic_FoxKernelIdeal_FoxReferenceIdeal_pre_fox_finite (hFoxKernelIdeal := hFoxKernelIdeal) (hFoxReferenceIdeal := hFoxReferenceIdeal) (hPre_fox_finite := hPre_fox_finite)
-- ==== Pre_attn_finite.lean ====
abbrev S4x2048x16x64 : Shape := ⟨4, ![4, 2048, 16, 64]⟩
abbrev S4x2048x16 : Shape := ⟨3, ![4, 2048, 16]⟩
abbrev S_ : Shape := ⟨0, ![]⟩

class Facts : Prop where
  bcast_S_S4x2048x16x64 : S_.BroadcastsInDim S4x2048x16x64 (![] : Fin 0 → Fin S4x2048x16x64.rank)
  reducesTo_S4x2048x16x64_S_d0_1_2_3 : S4x2048x16x64.ReducesTo [0, 1, 2, 3] S_
  h_S_ : 0 < S_.numel
  bcast_S_S4x2048x16 : S_.BroadcastsInDim S4x2048x16 (![] : Fin 0 → Fin S4x2048x16.rank)
  reducesTo_S4x2048x16_S_d0_1_2 : S4x2048x16.ReducesTo [0, 1, 2] S_

variable [Facts]

def fn_part1 {F : FTy → Type} [FloatOps F] (main_arg4 : FVec F S4x2048x16x64 .f32) (main_v8 : IVec S_ 1) (main_v12 : IVec S_ 1) (main_v15 : IVec S4x2048x16 1) (main_c_5 : IVec S_ 1) : IVec S_ 1 :=
  let main_v16 : IVec S_ 1 := (fun x v => Host.reduce IntOp.andi x v reducesTo_S4x2048x16_S_d0_1_2 h_S_) main_v15 main_c_5
  let main_v17 : IVec S_ 1 := andi main_v12 main_v16
  let main_v18 : IVec S_ 1 := andi main_v8 main_v17
  let main_v19 : FVec F S4x2048x16x64 .f32 := Host.absf main_arg4
  let main_cst_6 : FVec F S_ .f32 := constant S_ .f32 0x7F800000#32
  let main_v20 : FVec F S4x2048x16x64 .f32 := broadcastInDim S4x2048x16x64 ![] bcast_S_S4x2048x16x64 main_cst_6
  let main_v21 : IVec S4x2048x16x64 1 := cmpf .olt main_v19 main_v20
  let main_c_7 : IVec S_ 1 := constantI S_ 1 1#1
  let main_v22 : IVec S_ 1 := (fun x v => Host.reduce IntOp.andi x v reducesTo_S4x2048x16x64_S_d0_1_2_3 h_S_) main_v21 main_c_7
  let main_v23 : IVec S_ 1 := andi main_v18 main_v22
  main_v23

def fn {F : FTy → Type} [FloatOps F] (main_arg0 : FVec F S4x2048x16x64 .f32) (main_arg1 : FVec F S4x2048x16x64 .f32) (main_arg2 : FVec F S4x2048x16x64 .f32) (main_arg3 : FVec F S4x2048x16 .f32) (main_arg4 : FVec F S4x2048x16x64 .f32) : IVec S_ 1 :=
  let main_v0 : FVec F S4x2048x16x64 .f32 := Host.absf main_arg0
  let main_cst : FVec F S_ .f32 := constant S_ .f32 0x7F800000#32
  let main_v1 : FVec F S4x2048x16x64 .f32 := broadcastInDim S4x2048x16x64 ![] bcast_S_S4x2048x16x64 main_cst
  let main_v2 : IVec S4x2048x16x64 1 := cmpf .olt main_v0 main_v1
  let main_c : IVec S_ 1 := constantI S_ 1 1#1
  let main_v3 : IVec S_ 1 := (fun x v => Host.reduce IntOp.andi x v reducesTo_S4x2048x16x64_S_d0_1_2_3 h_S_) main_v2 main_c
  let main_v4 : FVec F S4x2048x16x64 .f32 := Host.absf main_arg1
  let main_cst_0 : FVec F S_ .f32 := constant S_ .f32 0x7F800000#32
  let main_v5 : FVec F S4x2048x16x64 .f32 := broadcastInDim S4x2048x16x64 ![] bcast_S_S4x2048x16x64 main_cst_0
  let main_v6 : IVec S4x2048x16x64 1 := cmpf .olt main_v4 main_v5
  let main_c_1 : IVec S_ 1 := constantI S_ 1 1#1
  let main_v7 : IVec S_ 1 := (fun x v => Host.reduce IntOp.andi x v reducesTo_S4x2048x16x64_S_d0_1_2_3 h_S_) main_v6 main_c_1
  let main_v8 : IVec S_ 1 := andi main_v3 main_v7
  let main_v9 : FVec F S4x2048x16x64 .f32 := Host.absf main_arg2
  let main_cst_2 : FVec F S_ .f32 := constant S_ .f32 0x7F800000#32
  let main_v10 : FVec F S4x2048x16x64 .f32 := broadcastInDim S4x2048x16x64 ![] bcast_S_S4x2048x16x64 main_cst_2
  let main_v11 : IVec S4x2048x16x64 1 := cmpf .olt main_v9 main_v10
  let main_c_3 : IVec S_ 1 := constantI S_ 1 1#1
  let main_v12 : IVec S_ 1 := (fun x v => Host.reduce IntOp.andi x v reducesTo_S4x2048x16x64_S_d0_1_2_3 h_S_) main_v11 main_c_3
  let main_v13 : FVec F S4x2048x16 .f32 := Host.absf main_arg3
  let main_cst_4 : FVec F S_ .f32 := constant S_ .f32 0x7F800000#32
  let main_v14 : FVec F S4x2048x16 .f32 := broadcastInDim S4x2048x16 ![] bcast_S_S4x2048x16 main_cst_4
  let main_v15 : IVec S4x2048x16 1 := cmpf .olt main_v13 main_v14
  let main_c_5 : IVec S_ 1 := constantI S_ 1 1#1
  fn_part1 (F := F) main_arg4 main_v8 main_v12 main_v15 main_c_5
-- ==== Pre_branch_finite.lean ====
abbrev S4x2048x1024 : Shape := ⟨3, ![4, 2048, 1024]⟩
abbrev S4x2048x9232 : Shape := ⟨3, ![4, 2048, 9232]⟩
abbrev S1024x1024 : Shape := ⟨2, ![1024, 1024]⟩
abbrev S_ : Shape := ⟨0, ![]⟩

class Facts : Prop where
  bcast_S_S4x2048x1024 : S_.BroadcastsInDim S4x2048x1024 (![] : Fin 0 → Fin S4x2048x1024.rank)
  reducesTo_S4x2048x1024_S_d0_1_2 : S4x2048x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_

variable [Facts]

def fn_part1 {F : FTy → Type} [FloatOps F] (main_arg5 : FVec F S4x2048x1024 .f32) (main_arg6 : FVec F S4x2048x1024 .f32) (main_v8 : IVec S_ 1) (main_v12 : IVec S_ 1) (main_v15 : IVec S1024x1024 1) (main_c_5 : IVec S_ 1) : IVec S_ 1 :=
  let main_v16 : IVec S_ 1 := (fun x v => Host.reduce IntOp.andi x v reducesTo_S1024x1024_S_d0_1 h_S_) main_v15 main_c_5
  let main_v17 : IVec S_ 1 := andi main_v12 main_v16
  let main_v18 : IVec S_ 1 := andi main_v8 main_v17
  let main_v19 : FVec F S4x2048x1024 .f32 := Host.absf main_arg5
  let main_cst_6 : FVec F S_ .f32 := constant S_ .f32 0x7F800000#32
  let main_v20 : FVec F S4x2048x1024 .f32 := broadcastInDim S4x2048x1024 ![] bcast_S_S4x2048x1024 main_cst_6
  let main_v21 : IVec S4x2048x1024 1 := cmpf .olt main_v19 main_v20
  let main_c_7 : IVec S_ 1 := constantI S_ 1 1#1
  let main_v22 : IVec S_ 1 := (fun x v => Host.reduce IntOp.andi x v reducesTo_S4x2048x1024_S_d0_1_2 h_S_) main_v21 main_c_7
  let main_v23 : FVec F S4x2048x1024 .f32 := Host.absf main_arg6
  let main_cst_8 : FVec F S_ .f32 := constant S_ .f32 0x7F800000#32
  let main_v24 : FVec F S4x2048x1024 .f32 := broadcastInDim S4x2048x1024 ![] bcast_S_S4x2048x1024 main_cst_8
  let main_v25 : IVec S4x2048x1024 1 := cmpf .olt main_v23 main_v24
  let main_c_9 : IVec S_ 1 := constantI S_ 1 1#1
  let main_v26 : IVec S_ 1 := (fun x v => Host.reduce IntOp.andi x v reducesTo_S4x2048x1024_S_d0_1_2 h_S_) main_v25 main_c_9
  let main_v27 : IVec S_ 1 := andi main_v22 main_v26
  let main_v28 : IVec S_ 1 := andi main_v18 main_v27
  main_v28

def fn {F : FTy → Type} [FloatOps F] (main_arg0 : FVec F S4x2048x1024 .f32) (main_arg1 : FVec F S4x2048x1024 .f32) (main_arg2 : FVec F S4x2048x9232 .f32) (main_arg3 : FVec F S1024x1024 .f32) (main_arg4 : FVec F S1024x1024 .f32) (main_arg5 : FVec F S4x2048x1024 .f32) (main_arg6 : FVec F S4x2048x1024 .f32) : IVec S_ 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_c : IVec S_ 1 := constantI S_ 1 1#1
  let main_v3 : IVec S_ 1 := (fun x v => Host.reduce IntOp.andi x v reducesTo_S4x2048x1024_S_d0_1_2 h_S_) main_v2 main_c
  let main_v4 : FVec F S4x2048x1024 .f32 := Host.absf main_arg1
  let main_cst_0 : FVec F S_ .f32 := constant S_ .f32 0x7F800000#32
  let main_v5 : FVec F S4x2048x1024 .f32 := broadcastInDim S4x2048x1024 ![] bcast_S_S4x2048x1024 main_cst_0
  let main_v6 : IVec S4x2048x1024 1 := cmpf .olt main_v4 main_v5
  let main_c_1 : IVec S_ 1 := constantI S_ 1 1#1
  let main_v7 : IVec S_ 1 := (fun x v => Host.reduce IntOp.andi x v reducesTo_S4x2048x1024_S_d0_1_2 h_S_) main_v6 main_c_1
  let main_v8 : IVec S_ 1 := andi main_v3 main_v7
  let main_v9 : FVec F S1024x1024 .f32 := Host.absf main_arg3
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : FVec F S1024x1024 .f32 := Host.absf main_arg4
  let main_cst_4 : FVec F S_ .f32 := constant S_ .f32 0x7F800000#32
  let main_v14 : FVec F S1024x1024 .f32 := broadcastInDim S1024x1024 ![] bcast_S_S1024x1024 main_cst_4
  let main_v15 : IVec S1024x1024 1 := cmpf .olt main_v13 main_v14
  let main_c_5 : IVec S_ 1 := constantI S_ 1 1#1
  fn_part1 (F := F) main_arg5 main_arg6 main_v8 main_v12 main_v15 main_c_5
-- ==== Pre_dh_finite.lean ====
abbrev S4x2048x8208 : Shape := ⟨3, ![4, 2048, 8208]⟩
abbrev S1024x9232 : Shape := ⟨2, ![1024, 9232]⟩
abbrev S4x2048x1024 : Shape := ⟨3, ![4, 2048, 1024]⟩
abbrev S1x1024 : Shape := ⟨2, ![1, 1024]⟩
abbrev S_ : Shape := ⟨0, ![]⟩

class Facts : Prop where
  bcast_S_S4x2048x8208 : S_.BroadcastsInDim S4x2048x8208 (![] : Fin 0 → Fin S4x2048x8208.rank)
  reducesTo_S4x2048x8208_S_d0_1_2 : S4x2048x8208.ReducesTo [0, 1, 2] S_
  h_S_ : 0 < S_.numel
  bcast_S_S1024x9232 : S_.BroadcastsInDim S1024x9232 (![] : Fin 0 → Fin S1024x9232.rank)
  reducesTo_S1024x9232_S_d0_1 : S1024x9232.ReducesTo [0, 1] S_
  bcast_S_S4x2048x1024 : S_.BroadcastsInDim S4x2048x1024 (![] : Fin 0 → Fin S4x2048x1024.rank)
  reducesTo_S4x2048x1024_S_d0_1_2 : S4x2048x1024.ReducesTo [0, 1, 2] S_
  bcast_S_S1x1024 : S_.BroadcastsInDim S1x1024 (![] : Fin 0 → Fin S1x1024.rank)
  reducesTo_S1x1024_S_d0_1 : S1x1024.ReducesTo [0, 1] S_

variable [Facts]

def fn_part1 {F : FTy → Type} [FloatOps F] (main_arg4 : FVec F S1x1024 .f32) (main_v8 : IVec S_ 1) (main_v12 : IVec S_ 1) (main_v15 : IVec S4x2048x1024 1) (main_c_5 : IVec S_ 1) : IVec S_ 1 :=
  let main_v16 : IVec S_ 1 := (fun x v => Host.reduce IntOp.andi x v reducesTo_S4x2048x1024_S_d0_1_2 h_S_) main_v15 main_c_5
  let main_v17 : IVec S_ 1 := andi main_v12 main_v16
  let main_v18 : IVec S_ 1 := andi main_v8 main_v17
  let main_v19 : FVec F S1x1024 .f32 := Host.absf main_arg4
  let main_cst_6 : FVec F S_ .f32 := constant S_ .f32 0x7F800000#32
  let main_v20 : FVec F S1x1024 .f32 := broadcastInDim S1x1024 ![] bcast_S_S1x1024 main_cst_6
  let main_v21 : IVec S1x1024 1 := cmpf .olt main_v19 main_v20
  let main_c_7 : IVec S_ 1 := constantI S_ 1 1#1
  let main_v22 : IVec S_ 1 := (fun x v => Host.reduce IntOp.andi x v reducesTo_S1x1024_S_d0_1 h_S_) main_v21 main_c_7
  let main_v23 : IVec S_ 1 := andi main_v18 main_v22
  main_v23

def fn {F : FTy → Type} [FloatOps F] (main_arg0 : FVec F S4x2048x8208 .f32) (main_arg1 : FVec F S1024x9232 .f32) (main_arg2 : FVec F S4x2048x1024 .f32) (main_arg3 : FVec F S4x2048x1024 .f32) (main_arg4 : FVec F S1x1024 .f32) : IVec S_ 1 :=
  let main_v0 : FVec F S4x2048x8208 .f32 := Host.absf main_arg0
  let main_cst : FVec F S_ .f32 := constant S_ .f32 0x7F800000#32
  let main_v1 : FVec F S4x2048x8208 .f32 := broadcastInDim S4x2048x8208 ![] bcast_S_S4x2048x8208 main_cst
  let main_v2 : IVec S4x2048x8208 1 := cmpf .olt main_v0 main_v1
  let main_c : IVec S_ 1 := constantI S_ 1 1#1
  let main_v3 : IVec S_ 1 := (fun x v => Host.reduce IntOp.andi x v reducesTo_S4x2048x8208_S_d0_1_2 h_S_) main_v2 main_c
  let main_v4 : FVec F S1024x9232 .f32 := Host.absf main_arg1
  let main_cst_0 : FVec F S_ .f32 := constant S_ .f32 0x7F800000#32
  let main_v5 : FVec F S1024x9232 .f32 := broadcastInDim S1024x9232 ![] bcast_S_S1024x9232 main_cst_0
  let main_v6 : IVec S1024x9232 1 := cmpf .olt main_v4 main_v5
  let main_c_1 : IVec S_ 1 := constantI S_ 1 1#1
  let main_v7 : IVec S_ 1 := (fun x v => Host.reduce IntOp.andi x v reducesTo_S1024x9232_S_d0_1 h_S_) main_v6 main_c_1
  let main_v8 : IVec S_ 1 := andi main_v3 main_v7
  let main_v9 : FVec F S4x2048x1024 .f32 := Host.absf main_arg2
  let main_cst_2 : FVec F S_ .f32 := constant S_ .f32 0x7F800000#32
  let main_v10 : FVec F S4x2048x1024 .f32 := broadcastInDim S4x2048x1024 ![] bcast_S_S4x2048x1024 main_cst_2
  let main_v11 : IVec S4x2048x1024 1 := cmpf .olt main_v9 main_v10
  let main_c_3 : IVec S_ 1 := constantI S_ 1 1#1
  let main_v12 : IVec S_ 1 := (fun x v => Host.reduce IntOp.andi x v reducesTo_S4x2048x1024_S_d0_1_2 h_S_) main_v11 main_c_3
  let main_v13 : FVec F S4x2048x1024 .f32 := Host.absf main_arg3
  let main_cst_4 : FVec F S_ .f32 := constant S_ .f32 0x7F800000#32
  let main_v14 : FVec F S4x2048x1024 .f32 := broadcastInDim S4x2048x1024 ![] bcast_S_S4x2048x1024 main_cst_4
  let main_v15 : IVec S4x2048x1024 1 := cmpf .olt main_v13 main_v14
  let main_c_5 : IVec S_ 1 := constantI S_ 1 1#1
  fn_part1 (F := F) main_arg4 main_v8 main_v12 main_v15 main_c_5
-- ==== Pre_fgate_finite.lean ====
abbrev S4x2048x9232 : Shape := ⟨3, ![4, 2048, 9232]⟩
abbrev S4x2048x16 : Shape := ⟨3, ![4, 2048, 16]⟩
abbrev S_ : Shape := ⟨0, ![]⟩

class Facts : Prop where
  bcast_S_S4x2048x9232 : S_.BroadcastsInDim S4x2048x9232 (![] : Fin 0 → Fin S4x2048x9232.rank)
  reducesTo_S4x2048x9232_S_d0_1_2 : S4x2048x9232.ReducesTo [0, 1, 2] S_
  h_S_ : 0 < S_.numel
  bcast_S_S4x2048x16 : S_.BroadcastsInDim S4x2048x16 (![] : Fin 0 → Fin S4x2048x16.rank)
  reducesTo_S4x2048x16_S_d0_1_2 : S4x2048x16.ReducesTo [0, 1, 2] S_

variable [Facts]

def fn {F : FTy → Type} [FloatOps F] (main_arg0 : FVec F S4x2048x9232 .f32) (main_arg1 : FVec F S4x2048x16 .f32) : IVec S_ 1 :=
  let main_v0 : FVec F S4x2048x9232 .f32 := Host.absf main_arg0
  let main_cst : FVec F S_ .f32 := constant S_ .f32 0x7F800000#32
  let main_v1 : FVec F S4x2048x9232 .f32 := broadcastInDim S4x2048x9232 ![] bcast_S_S4x2048x9232 main_cst
  let main_v2 : IVec S4x2048x9232 1 := cmpf .olt main_v0 main_v1
  let main_c : IVec S_ 1 := constantI S_ 1 1#1
  let main_v3 : IVec S_ 1 := (fun x v => Host.reduce IntOp.andi x v reducesTo_S4x2048x9232_S_d0_1_2 h_S_) main_v2 main_c
  let main_v4 : FVec F S4x2048x16 .f32 := Host.absf main_arg1
  let main_cst_0 : FVec F S_ .f32 := constant S_ .f32 0x7F800000#32
  let main_v5 : FVec F S4x2048x16 .f32 := broadcastInDim S4x2048x16 ![] bcast_S_S4x2048x16 main_cst_0
  let main_v6 : IVec S4x2048x16 1 := cmpf .olt main_v4 main_v5
  let main_c_1 : IVec S_ 1 := constantI S_ 1 1#1
  let main_v7 : IVec S_ 1 := (fun x v => Host.reduce IntOp.andi x v reducesTo_S4x2048x16_S_d0_1_2 h_S_) main_v6 main_c_1
  let main_v8 : IVec S_ 1 := andi main_v3 main_v7
  main_v8
-- ==== Pre_fox_finite.lean ====
abbrev S4x2048x16x64 : Shape := ⟨4, ![4, 2048, 16, 64]⟩
abbrev S4x2048x16 : Shape := ⟨3, ![4, 2048, 16]⟩
abbrev S4x2048x5120 : Shape := ⟨3, ![4, 2048, 5120]⟩
abbrev S_ : Shape := ⟨0, ![]⟩

class Facts : Prop where
  bcast_S_S4x2048x16x64 : S_.BroadcastsInDim S4x2048x16x64 (![] : Fin 0 → Fin S4x2048x16x64.rank)
  reducesTo_S4x2048x16x64_S_d0_1_2_3 : S4x2048x16x64.ReducesTo [0, 1, 2, 3] S_
  h_S_ : 0 < S_.numel
  bcast_S_S4x2048x16 : S_.BroadcastsInDim S4x2048x16 (![] : Fin 0 → Fin S4x2048x16.rank)
  reducesTo_S4x2048x16_S_d0_1_2 : S4x2048x16.ReducesTo [0, 1, 2] S_

variable [Facts]

def fn_part1 {F : FTy → Type} [FloatOps F] (main_v8 : IVec S_ 1) (main_v12 : IVec S_ 1) (main_v15 : IVec S4x2048x16 1) (main_c_5 : IVec S_ 1) : IVec S_ 1 :=
  let main_v16 : IVec S_ 1 := (fun x v => Host.reduce IntOp.andi x v reducesTo_S4x2048x16_S_d0_1_2 h_S_) main_v15 main_c_5
  let main_v17 : IVec S_ 1 := andi main_v12 main_v16
  let main_v18 : IVec S_ 1 := andi main_v8 main_v17
  main_v18

def fn {F : FTy → Type} [FloatOps F] (main_arg0 : FVec F S4x2048x16x64 .f32) (main_arg1 : FVec F S4x2048x16x64 .f32) (main_arg2 : FVec F S4x2048x16x64 .f32) (main_arg3 : FVec F S4x2048x16 .f32) (main_arg4 : FVec F S4x2048x5120 .f32) : IVec S_ 1 :=
  let main_v0 : FVec F S4x2048x16x64 .f32 := Host.absf main_arg0
  let main_cst : FVec F S_ .f32 := constant S_ .f32 0x7F800000#32
  let main_v1 : FVec F S4x2048x16x64 .f32 := broadcastInDim S4x2048x16x64 ![] bcast_S_S4x2048x16x64 main_cst
  let main_v2 : IVec S4x2048x16x64 1 := cmpf .olt main_v0 main_v1
  let main_c : IVec S_ 1 := constantI S_ 1 1#1
  let main_v3 : IVec S_ 1 := (fun x v => Host.reduce IntOp.andi x v reducesTo_S4x2048x16x64_S_d0_1_2_3 h_S_) main_v2 main_c
  let main_v4 : FVec F S4x2048x16x64 .f32 := Host.absf main_arg1
  let main_cst_0 : FVec F S_ .f32 := constant S_ .f32 0x7F800000#32
  let main_v5 : FVec F S4x2048x16x64 .f32 := broadcastInDim S4x2048x16x64 ![] bcast_S_S4x2048x16x64 main_cst_0
  let main_v6 : IVec S4x2048x16x64 1 := cmpf .olt main_v4 main_v5
  let main_c_1 : IVec S_ 1 := constantI S_ 1 1#1
  let main_v7 : IVec S_ 1 := (fun x v => Host.reduce IntOp.andi x v reducesTo_S4x2048x16x64_S_d0_1_2_3 h_S_) main_v6 main_c_1
  let main_v8 : IVec S_ 1 := andi main_v3 main_v7
  let main_v9 : FVec F S4x2048x16x64 .f32 := Host.absf main_arg2
  let main_cst_2 : FVec F S_ .f32 := constant S_ .f32 0x7F800000#32
  let main_v10 : FVec F S4x2048x16x64 .f32 := broadcastInDim S4x2048x16x64 ![] bcast_S_S4x2048x16x64 main_cst_2
  let main_v11 : IVec S4x2048x16x64 1 := cmpf .olt main_v9 main_v10
  let main_c_3 : IVec S_ 1 := constantI S_ 1 1#1
  let main_v12 : IVec S_ 1 := (fun x v => Host.reduce IntOp.andi x v reducesTo_S4x2048x16x64_S_d0_1_2_3 h_S_) main_v11 main_c_3
  let main_v13 : FVec F S4x2048x16 .f32 := Host.absf main_arg3
  let main_cst_4 : FVec F S_ .f32 := constant S_ .f32 0x7F800000#32
  let main_v14 : FVec F S4x2048x16 .f32 := broadcastInDim S4x2048x16 ![] bcast_S_S4x2048x16 main_cst_4
  let main_v15 : IVec S4x2048x16 1 := cmpf .olt main_v13 main_v14
  let main_c_5 : IVec S_ 1 := constantI S_ 1 1#1
  fn_part1 (F := F) main_v8 main_v12 main_v15 main_c_5
-- ==== Pre_loss_finite.lean ====
abbrev S4x2048x1024 : Shape := ⟨3, ![4, 2048, 1024]⟩
abbrev S1024x1024 : Shape := ⟨2, ![1024, 1024]⟩
abbrev S1x1024 : Shape := ⟨2, ![1, 1024]⟩
abbrev S_ : Shape := ⟨0, ![]⟩

class Facts : Prop where
  bcast_S_S4x2048x1024 : S_.BroadcastsInDim S4x2048x1024 (![] : Fin 0 → Fin S4x2048x1024.rank)
  reducesTo_S4x2048x1024_S_d0_1_2 : S4x2048x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1x1024 : S_.BroadcastsInDim S1x1024 (![] : Fin 0 → Fin S1x1024.rank)
  reducesTo_S1x1024_S_d0_1 : S1x1024.ReducesTo [0, 1] S_

variable [Facts]

def fn_part1 {F : FTy → Type} [FloatOps F] (main_arg4 : FVec F S1x1024 .f32) (main_v8 : IVec S_ 1) (main_v12 : IVec S_ 1) (main_v15 : IVec S4x2048x1024 1) (main_c_5 : IVec S_ 1) : IVec S_ 1 :=
  let main_v16 : IVec S_ 1 := (fun x v => Host.reduce IntOp.andi x v reducesTo_S4x2048x1024_S_d0_1_2 h_S_) main_v15 main_c_5
  let main_v17 : IVec S_ 1 := andi main_v12 main_v16
  let main_v18 : IVec S_ 1 := andi main_v8 main_v17
  let main_v19 : FVec F S1x1024 .f32 := Host.absf main_arg4
  let main_cst_6 : FVec F S_ .f32 := constant S_ .f32 0x7F800000#32
  let main_v20 : FVec F S1x1024 .f32 := broadcastInDim S1x1024 ![] bcast_S_S1x1024 main_cst_6
  let main_v21 : IVec S1x1024 1 := cmpf .olt main_v19 main_v20
  let main_c_7 : IVec S_ 1 := constantI S_ 1 1#1
  let main_v22 : IVec S_ 1 := (fun x v => Host.reduce IntOp.andi x v reducesTo_S1x1024_S_d0_1 h_S_) main_v21 main_c_7
  let main_v23 : IVec S_ 1 := andi main_v18 main_v22
  main_v23

def fn {F : FTy → Type} [FloatOps F] (main_arg0 : FVec F S4x2048x1024 .f32) (main_arg1 : FVec F S1024x1024 .f32) (main_arg2 : FVec F S4x2048x1024 .f32) (main_arg3 : FVec F S4x2048x1024 .f32) (main_arg4 : FVec F S1x1024 .f32) : IVec S_ 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_c : IVec S_ 1 := constantI S_ 1 1#1
  let main_v3 : IVec S_ 1 := (fun x v => Host.reduce IntOp.andi x v reducesTo_S4x2048x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S4x2048x1024 .f32 := Host.absf main_arg2
  let main_cst_2 : FVec F S_ .f32 := constant S_ .f32 0x7F800000#32
  let main_v10 : FVec F S4x2048x1024 .f32 := broadcastInDim S4x2048x1024 ![] bcast_S_S4x2048x1024 main_cst_2
  let main_v11 : IVec S4x2048x1024 1 := cmpf .olt main_v9 main_v10
  let main_c_3 : IVec S_ 1 := constantI S_ 1 1#1
  let main_v12 : IVec S_ 1 := (fun x v => Host.reduce IntOp.andi x v reducesTo_S4x2048x1024_S_d0_1_2 h_S_) main_v11 main_c_3
  let main_v13 : FVec F S4x2048x1024 .f32 := Host.absf main_arg3
  let main_cst_4 : FVec F S_ .f32 := constant S_ .f32 0x7F800000#32
  let main_v14 : FVec F S4x2048x1024 .f32 := broadcastInDim S4x2048x1024 ![] bcast_S_S4x2048x1024 main_cst_4
  let main_v15 : IVec S4x2048x1024 1 := cmpf .olt main_v13 main_v14
  let main_c_5 : IVec S_ 1 := constantI S_ 1 1#1
  fn_part1 (F := F) main_arg4 main_v8 main_v12 main_v15 main_c_5
-- ==== MergeKernel.lean ====
abbrev S4x2048x1024 : Shape := ⟨3, ![4, 2048, 1024]⟩
abbrev S4x2048x9232 : Shape := ⟨3, ![4, 2048, 9232]⟩
abbrev S1024x1024 : Shape := ⟨2, ![1024, 1024]⟩
abbrev S8192x1024 : Shape := ⟨2, ![8192, 1024]⟩
abbrev S4x2048x5120 : Shape := ⟨3, ![4, 2048, 5120]⟩
abbrev S8192x5120 : Shape := ⟨2, ![8192, 5120]⟩
abbrev S512x1024 : Shape := ⟨2, ![512, 1024]⟩

abbrev nBuf : Space → Nat
  | .hbm => 19
  | .vmem => 19
  | .smem => 0
  | _ => 0

abbrev bufTy : (tb : Table) → Fin (tcTables nBuf tb) → BufTy
  | .hbm, ⟨0, _⟩ => ⟨S4x2048x1024, .f32⟩
  | .hbm, ⟨1, _⟩ => ⟨S4x2048x1024, .f32⟩
  | .hbm, ⟨2, _⟩ => ⟨S4x2048x9232, .f32⟩
  | .hbm, ⟨3, _⟩ => ⟨S1024x1024, .f32⟩
  | .hbm, ⟨4, _⟩ => ⟨S4x2048x1024, .f32⟩
  | .hbm, ⟨5, _⟩ => ⟨S8192x1024, .f32⟩
  | .hbm, ⟨6, _⟩ => ⟨S8192x1024, .bf16⟩
  | .hbm, ⟨7, _⟩ => ⟨S1024x1024, .bf16⟩
  | .hbm, ⟨8, _⟩ => ⟨S4x2048x5120, .f32⟩
  | .hbm, ⟨9, _⟩ => ⟨S4x2048x5120, .bf16⟩
  | .hbm, ⟨10, _⟩ => ⟨S8192x5120, .bf16⟩
  | .hbm, ⟨11, _⟩ => ⟨S8192x1024, .f32⟩
  | .hbm, ⟨12, _⟩ => ⟨S8192x1024, .bf16⟩
  | .hbm, ⟨13, _⟩ => ⟨S8192x1024, .f32⟩
  | .hbm, ⟨14, _⟩ => ⟨S8192x1024, .bf16⟩
  | .hbm, ⟨15, _⟩ => ⟨S8192x1024, .bf16⟩
  | .hbm, ⟨16, _⟩ => ⟨S8192x1024, .bf16⟩
  | .hbm, ⟨17, _⟩ => ⟨S8192x1024, .bf16⟩
  | .hbm, ⟨18, _⟩ => ⟨S8192x1024, .bf16⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S512x1024, .bf16⟩
  | .local _ .vmem, ⟨18, _⟩ => ⟨S512x1024, .bf16⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10_0 : Ref sig .tc := ⟨.hbm, 15, rfl⟩
abbrev main_v10_1 : Ref sig .tc := ⟨.hbm, 16, rfl⟩
abbrev main_v10_2 : Ref sig .tc := ⟨.hbm, 17, rfl⟩
abbrev main_v10_3 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18

abbrev nD : Nat := 1
abbrev τ : Topo := Topo.v7x

variable {F : FTy → Type} [FloatOps F]

abbrev grid0 : Pipeline.Grid := ⟨2, ![16, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.addi c3_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  ![arg0.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== MergeReferenceIdeal.lean ====
abbrev S4x2048x1024 : Shape := ⟨3, ![4, 2048, 1024]⟩
abbrev S4x2048x9232 : Shape := ⟨3, ![4, 2048, 9232]⟩
abbrev S1024x1024 : Shape := ⟨2, ![1024, 1024]⟩
abbrev S4x2048x16 : Shape := ⟨3, ![4, 2048, 16]⟩
abbrev S_ : Shape := ⟨0, ![]⟩
abbrev S8192x1024 : Shape := ⟨2, ![8192, 1024]⟩

abbrev nBuf : Space → Nat
  | .hbm => 57
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S4x2048x1024, .f32⟩
  | .hbm, ⟨2, _⟩ => ⟨S4x2048x9232, .f32⟩
  | .hbm, ⟨3, _⟩ => ⟨S1024x1024, .f32⟩
  | .hbm, ⟨4, _⟩ => ⟨S4x2048x1024, .f32⟩
  | .hbm, ⟨5, _⟩ => ⟨S4x2048x1024, .f32⟩
  | .hbm, ⟨6, _⟩ => ⟨S4x2048x1024, .f32⟩
  | .hbm, ⟨7, _⟩ => ⟨S4x2048x1024, .f32⟩
  | .hbm, ⟨8, _⟩ => ⟨S4x2048x16, .f32⟩
  | .hbm, ⟨9, _⟩ => ⟨S4x2048x1024, .f32⟩
  | .hbm, ⟨10, _⟩ => ⟨S4x2048x1024, .f32⟩
  | .hbm, ⟨11, _⟩ => ⟨S4x2048x1024, .f32⟩
  | .hbm, ⟨12, _⟩ => ⟨S4x2048x1024, .f32⟩
  | .hbm, ⟨13, _⟩ => ⟨S4x2048x1024, .f32⟩
  | .hbm, ⟨14, _⟩ => ⟨S4x2048x1024, .f32⟩
  | .hbm, ⟨15, _⟩ => ⟨S4x2048x1024, .f32⟩
  | .hbm, ⟨16, _⟩ => ⟨S_, .f32⟩
  | .hbm, ⟨17, _⟩ => ⟨S4x2048x1024, .f32⟩
  | .hbm, ⟨18, _⟩ => ⟨S4x2048x1024, .f32⟩
  | .hbm, ⟨19, _⟩ => ⟨S_, .f32⟩
  | .hbm, ⟨20, _⟩ => ⟨S4x2048x1024, .f32⟩
  | .hbm, ⟨21, _⟩ => ⟨S4x2048x1024, .f32⟩
  | .hbm, ⟨22, _⟩ => ⟨S_, .f32⟩
  | .hbm, ⟨23, _⟩ => ⟨S4x2048x1024, .f32⟩
  | .hbm, ⟨24, _⟩ => ⟨S4x2048x1024, .f32⟩
  | .hbm, ⟨25, _⟩ => ⟨S4x2048x1024, .f32⟩
  | .hbm, ⟨26, _⟩ => ⟨S4x2048x1024, .f32⟩
  | .hbm, ⟨27, _⟩ => ⟨S4x2048x1024, .f32⟩
  | .hbm, ⟨28, _⟩ => ⟨S4x2048x1024, .f32⟩
  | .hbm, ⟨29, _⟩ => ⟨S_, .f32⟩
  | .hbm, ⟨30, _⟩ => ⟨S4x2048x1024, .f32⟩
  | .hbm, ⟨31, _⟩ => ⟨S4x2048x1024, .f32⟩
  | .hbm, ⟨32, _⟩ => ⟨S_, .f32⟩
  | .hbm, ⟨33, _⟩ => ⟨S4x2048x1024, .f32⟩
  | .hbm, ⟨34, _⟩ => ⟨S4x2048x1024, .f32⟩
  | .hbm, ⟨35, _⟩ => ⟨S_, .f32⟩
  | .hbm, ⟨36, _⟩ => ⟨S4x2048x1024, .f32⟩
  | .hbm, ⟨37, _⟩ => ⟨S4x2048x1024, .f32⟩
  | .hbm, ⟨38, _⟩ => ⟨S4x2048x1024, .f32⟩
  | .hbm, ⟨39, _⟩ => ⟨S4x2048x1024, .f32⟩
  | .hbm, ⟨40, _⟩ => ⟨S4x2048x1024, .f32⟩
  | .hbm, ⟨41, _⟩ => ⟨S4x2048x1024, .f32⟩
  | .hbm, ⟨42, _⟩ => ⟨S4x2048x1024, .f32⟩
  | .hbm, ⟨43, _⟩ => ⟨S4x2048x1024, .f32⟩
  | .hbm, ⟨44, _⟩ => ⟨S4x2048x1024, .f32⟩
  | .hbm, ⟨45, _⟩ => ⟨S4x2048x1024, .f32⟩
  | .hbm, ⟨46, _⟩ => ⟨S4x2048x1024, .f32⟩
  | .hbm, ⟨47, _⟩ => ⟨S4x2048x1024, .f32⟩
  | .hbm, ⟨48, _⟩ => ⟨S4x2048x1024, .f32⟩
  | .hbm, ⟨49, _⟩ => ⟨S8192x1024, .f32⟩
  | .hbm, ⟨50, _⟩ => ⟨S8192x1024, .bf16⟩
  | .hbm, ⟨51, _⟩ => ⟨S8192x1024, .f32⟩
  | .hbm, ⟨52, _⟩ => ⟨S8192x1024, .bf16⟩
  | .hbm, ⟨53, _⟩ => ⟨S8192x1024, .f32⟩
  | .hbm, ⟨54, _⟩ => ⟨S8192x1024, .bf16⟩
  | .hbm, ⟨55, _⟩ => ⟨S8192x1024, .f32⟩
  | .hbm, ⟨56, _⟩ => ⟨S8192x1024, .bf16⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst : Ref sig .tc := ⟨.hbm, 16, rfl⟩
abbrev main_v11 : Ref sig .tc := ⟨.hbm, 17, rfl⟩
abbrev main_v12 : Ref sig .tc := ⟨.hbm, 18, rfl⟩
abbrev main_cst_0 : Ref sig .tc := ⟨.hbm, 19, rfl⟩
abbrev main_v13 : Ref sig .tc := ⟨.hbm, 20, rfl⟩
abbrev main_v14 : Ref sig .tc := ⟨.hbm, 21, rfl⟩
abbrev main_cst_1 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_2 : Ref sig .tc := ⟨.hbm, 29, rfl⟩
abbrev main_v21 : Ref sig .tc := ⟨.hbm, 30, rfl⟩
abbrev main_v22 : Ref sig .tc := ⟨.hbm, 31, rfl⟩
abbrev main_cst_3 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩

abbrev nD : Nat := 1
abbrev τ : Topo := Topo.v7x

variable {F : FTy → Type} [FloatOps F]
-- ==== BranchKernel.lean ====
abbrev S4x2048x1024 : Shape := ⟨3, ![4, 2048, 1024]⟩
abbrev S4x2048x9232 : Shape := ⟨3, ![4, 2048, 9232]⟩
abbrev S1024x1024 : Shape := ⟨2, ![1024, 1024]⟩
abbrev S8192x1024 : Shape := ⟨2, ![8192, 1024]⟩
abbrev S4x2048x5120 : Shape := ⟨3, ![4, 2048, 5120]⟩
abbrev S8192x5120 : Shape := ⟨2, ![8192, 5120]⟩
abbrev S512x1024 : Shape := ⟨2, ![512, 1024]⟩

abbrev nBuf : Space → Nat
  | .hbm => 22
  | .vmem => 22
  | .smem => 0
  | _ => 0

abbrev bufTy : (tb : Table) → Fin (tcTables nBuf tb) → BufTy
  | .hbm, ⟨0, _⟩ => ⟨S4x2048x1024, .f32⟩
  | .hbm, ⟨1, _⟩ => ⟨S4x2048x1024, .f32⟩
  | .hbm, ⟨2, _⟩ => ⟨S4x2048x9232, .f32⟩
  | .hbm, ⟨3, _⟩ => ⟨S1024x1024, .f32⟩
  | .hbm, ⟨4, _⟩ => ⟨S1024x1024, .f32⟩
  | .hbm, ⟨5, _⟩ => ⟨S4x2048x1024, .f32⟩
  | .hbm, ⟨6, _⟩ => ⟨S4x2048x1024, .f32⟩
  | .hbm, ⟨7, _⟩ => ⟨S8192x1024, .f32⟩
  | .hbm, ⟨8, _⟩ => ⟨S8192x1024, .bf16⟩
  | .hbm, ⟨9, _⟩ => ⟨S8192x1024, .f32⟩
  | .hbm, ⟨10, _⟩ => ⟨S8192x1024, .bf16⟩
  | .hbm, ⟨11, _⟩ => ⟨S1024x1024, .bf16⟩
  | .hbm, ⟨12, _⟩ => ⟨S1024x1024, .bf16⟩
  | .hbm, ⟨13, _⟩ => ⟨S4x2048x5120, .f32⟩
  | .hbm, ⟨14, _⟩ => ⟨S4x2048x5120, .bf16⟩
  | .hbm, ⟨15, _⟩ => ⟨S8192x5120, .bf16⟩
  | .hbm, ⟨16, _⟩ => ⟨S8192x1024, .f32⟩
  | .hbm, ⟨17, _⟩ => ⟨S8192x1024, .f32⟩
  | .hbm, ⟨18, _⟩ => ⟨S8192x1024, .bf16⟩
  | .hbm, ⟨19, _⟩ => ⟨S8192x1024, .bf16⟩
  | .hbm, ⟨20, _⟩ => ⟨S8192x1024, .f32⟩
  | .hbm, ⟨21, _⟩ => ⟨S8192x1024, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S1024x1024, .bf16⟩
  | .local _ .vmem, ⟨5, _⟩ => ⟨S1024x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S512x1024, .bf16⟩
  | .local _ .vmem, ⟨18, _⟩ => ⟨S512x1024, .f32⟩
  | .local _ .vmem, ⟨19, _⟩ => ⟨S512x1024, .f32⟩
  | .local _ .vmem, ⟨20, _⟩ => ⟨S512x1024, .bf16⟩
  | .local _ .vmem, ⟨21, _⟩ => ⟨S512x1024, .bf16⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11_0 : Ref sig .tc := ⟨.hbm, 18, rfl⟩
abbrev main_v11_1 : Ref sig .tc := ⟨.hbm, 19, rfl⟩
abbrev main_v11_2 : Ref sig .tc := ⟨.hbm, 20, rfl⟩
abbrev main_v11_3 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21

abbrev nD : Nat := 1
abbrev τ : Topo := Topo.v7x

variable {F : FTy → Type} [FloatOps F]

abbrev grid0 : Pipeline.Grid := ⟨2, ![16, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg1
  let c0_i32 : BitVec 32 := 0#32
  ![arg0.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== BranchReferenceIdeal.lean ====
abbrev S4x2048x1024 : Shape := ⟨3, ![4, 2048, 1024]⟩
abbrev S4x2048x9232 : Shape := ⟨3, ![4, 2048, 9232]⟩
abbrev S1024x1024 : Shape := ⟨2, ![1024, 1024]⟩
abbrev S4x2048x16 : Shape := ⟨3, ![4, 2048, 16]⟩
abbrev S_ : Shape := ⟨0, ![]⟩
abbrev S8192x1024 : Shape := ⟨2, ![8192, 1024]⟩

abbrev nBuf : Space → Nat
  | .hbm => 67
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S4x2048x1024, .f32⟩
  | .hbm, ⟨2, _⟩ => ⟨S4x2048x9232, .f32⟩
  | .hbm, ⟨3, _⟩ => ⟨S1024x1024, .f32⟩
  | .hbm, ⟨4, _⟩ => ⟨S1024x1024, .f32⟩
  | .hbm, ⟨5, _⟩ => ⟨S4x2048x1024, .f32⟩
  | .hbm, ⟨6, _⟩ => ⟨S4x2048x1024, .f32⟩
  | .hbm, ⟨7, _⟩ => ⟨S4x2048x1024, .f32⟩
  | .hbm, ⟨8, _⟩ => ⟨S4x2048x1024, .f32⟩
  | .hbm, ⟨9, _⟩ => ⟨S4x2048x1024, .f32⟩
  | .hbm, ⟨10, _⟩ => ⟨S4x2048x16, .f32⟩
  | .hbm, ⟨11, _⟩ => ⟨S4x2048x1024, .f32⟩
  | .hbm, ⟨12, _⟩ => ⟨S4x2048x1024, .f32⟩
  | .hbm, ⟨13, _⟩ => ⟨S4x2048x1024, .f32⟩
  | .hbm, ⟨14, _⟩ => ⟨S4x2048x1024, .f32⟩
  | .hbm, ⟨15, _⟩ => ⟨S4x2048x1024, .f32⟩
  | .hbm, ⟨16, _⟩ => ⟨S4x2048x1024, .f32⟩
  | .hbm, ⟨17, _⟩ => ⟨S4x2048x1024, .f32⟩
  | .hbm, ⟨18, _⟩ => ⟨S_, .f32⟩
  | .hbm, ⟨19, _⟩ => ⟨S4x2048x1024, .f32⟩
  | .hbm, ⟨20, _⟩ => ⟨S4x2048x1024, .f32⟩
  | .hbm, ⟨21, _⟩ => ⟨S_, .f32⟩
  | .hbm, ⟨22, _⟩ => ⟨S4x2048x1024, .f32⟩
  | .hbm, ⟨23, _⟩ => ⟨S4x2048x1024, .f32⟩
  | .hbm, ⟨24, _⟩ => ⟨S_, .f32⟩
  | .hbm, ⟨25, _⟩ => ⟨S4x2048x1024, .f32⟩
  | .hbm, ⟨26, _⟩ => ⟨S4x2048x1024, .f32⟩
  | .hbm, ⟨27, _⟩ => ⟨S4x2048x1024, .f32⟩
  | .hbm, ⟨28, _⟩ => ⟨S4x2048x1024, .f32⟩
  | .hbm, ⟨29, _⟩ => ⟨S4x2048x1024, .f32⟩
  | .hbm, ⟨30, _⟩ => ⟨S4x2048x1024, .f32⟩
  | .hbm, ⟨31, _⟩ => ⟨S4x2048x1024, .f32⟩
  | .hbm, ⟨32, _⟩ => ⟨S4x2048x1024, .f32⟩
  | .hbm, ⟨33, _⟩ => ⟨S_, .f32⟩
  | .hbm, ⟨34, _⟩ => ⟨S4x2048x1024, .f32⟩
  | .hbm, ⟨35, _⟩ => ⟨S4x2048x1024, .f32⟩
  | .hbm, ⟨36, _⟩ => ⟨S_, .f32⟩
  | .hbm, ⟨37, _⟩ => ⟨S4x2048x1024, .f32⟩
  | .hbm, ⟨38, _⟩ => ⟨S4x2048x1024, .f32⟩
  | .hbm, ⟨39, _⟩ => ⟨S_, .f32⟩
  | .hbm, ⟨40, _⟩ => ⟨S4x2048x1024, .f32⟩
  | .hbm, ⟨41, _⟩ => ⟨S4x2048x1024, .f32⟩
  | .hbm, ⟨42, _⟩ => ⟨S4x2048x1024, .f32⟩
  | .hbm, ⟨43, _⟩ => ⟨S4x2048x1024, .f32⟩
  | .hbm, ⟨44, _⟩ => ⟨S4x2048x1024, .f32⟩
  | .hbm, ⟨45, _⟩ => ⟨S4x2048x1024, .f32⟩
  | .hbm, ⟨46, _⟩ => ⟨S4x2048x1024, .f32⟩
  | .hbm, ⟨47, _⟩ => ⟨S4x2048x1024, .f32⟩
  | .hbm, ⟨48, _⟩ => ⟨S4x2048x1024, .f32⟩
  | .hbm, ⟨49, _⟩ => ⟨S4x2048x1024, .f32⟩
  | .hbm, ⟨50, _⟩ => ⟨S4x2048x1024, .f32⟩
  | .hbm, ⟨51, _⟩ => ⟨S4x2048x1024, .f32⟩
  | .hbm, ⟨52, _⟩ => ⟨S4x2048x1024, .f32⟩
  | .hbm, ⟨53, _⟩ => ⟨S4x2048x1024, .f32⟩
  | .hbm, ⟨54, _⟩ => ⟨S4x2048x1024, .f32⟩
  | .hbm, ⟨55, _⟩ => ⟨S4x2048x1024, .f32⟩
  | .hbm, ⟨56, _⟩ => ⟨S4x2048x1024, .f32⟩
  | .hbm, ⟨57, _⟩ => ⟨S4x2048x1024, .f32⟩
  | .hbm, ⟨58, _⟩ => ⟨S4x2048x1024, .f32⟩
  | .hbm, ⟨59, _⟩ => ⟨S4x2048x1024, .f32⟩
  | .hbm, ⟨60, _⟩ => ⟨S8192x1024, .f32⟩
  | .hbm, ⟨61, _⟩ => ⟨S8192x1024, .bf16⟩
  | .hbm, ⟨62, _⟩ => ⟨S8192x1024, .f32⟩
  | .hbm, ⟨63, _⟩ => ⟨S8192x1024, .bf16⟩
  | .hbm, ⟨64, _⟩ => ⟨S8192x1024, .f32⟩
  | .hbm, ⟨65, _⟩ => ⟨S8192x1024, .f32⟩
  | .hbm, ⟨66, _⟩ => ⟨S8192x1024, .bf16⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_call0_v0 : Ref sig .tc := ⟨.hbm, 16, rfl⟩
abbrev main_call0_v1 : Ref sig .tc := ⟨.hbm, 17, rfl⟩
abbrev main_call0_cst : Ref sig .tc := ⟨.hbm, 18, rfl⟩
abbrev main_call0_v2 : Ref sig .tc := ⟨.hbm, 19, rfl⟩
abbrev main_call0_v3 : Ref sig .tc := ⟨.hbm, 20, rfl⟩
abbrev main_call0_cst_0 : Ref sig .tc := ⟨.hbm, 21, rfl⟩
abbrev main_call0_v4 : Ref sig .tc := ⟨.hbm, 22, rfl⟩
abbrev main_v9_2 : Ref sig .tc := ⟨.hbm, 23, rfl⟩
abbrev main_call0_cst_1 : Ref sig .tc := ⟨.hbm, 24, rfl⟩
abbrev main_call0_v6 : Ref sig .tc := ⟨.hbm, 25, rfl⟩
abbrev main_call0_v7 : Ref sig .tc := ⟨.hbm, 26, rfl⟩
abbrev main_v9_1 : Ref sig .tc := ⟨.hbm, 27, rfl⟩
abbrev main_v9_0 : Ref sig .tc := ⟨.hbm, 28, rfl⟩
abbrev main_v10 : Ref sig .tc := ⟨.hbm, 29, rfl⟩
abbrev main_v11 : Ref sig .tc := ⟨.hbm, 30, rfl⟩
abbrev main_call1_v0 : Ref sig .tc := ⟨.hbm, 31, rfl⟩
abbrev main_call1_v1 : Ref sig .tc := ⟨.hbm, 32, rfl⟩
abbrev main_call1_cst : Ref sig .tc := ⟨.hbm, 33, rfl⟩
abbrev main_call1_v2 : Ref sig .tc := ⟨.hbm, 34, rfl⟩
abbrev main_call1_v3 : Ref sig .tc := ⟨.hbm, 35, rfl⟩
abbrev main_call1_cst_0 : Ref sig .tc := ⟨.hbm, 36, rfl⟩
abbrev main_call1_v4 : Ref sig .tc := ⟨.hbm, 37, rfl⟩
abbrev main_v12_2 : Ref sig .tc := ⟨.hbm, 38, rfl⟩
abbrev main_call1_cst_1 : Ref sig .tc := ⟨.hbm, 39, rfl⟩
abbrev main_call1_v6 : Ref sig .tc := ⟨.hbm, 40, rfl⟩
abbrev main_call1_v7 : Ref sig .tc := ⟨.hbm, 41, rfl⟩
abbrev main_v12_1 : Ref sig .tc := ⟨.hbm, 42, rfl⟩
abbrev main_v12_0 : Ref sig .tc := ⟨.hbm, 43, rfl⟩
abbrev main_v13 : Ref sig .tc := ⟨.hbm, 44, rfl⟩
abbrev main_v14 : Ref sig .tc := ⟨.hbm, 45, rfl⟩
abbrev main_v15 : Ref sig .tc := ⟨.hbm, 46, rfl⟩
abbrev main_v16 : Ref sig .tc := ⟨.hbm, 47, rfl⟩
abbrev main_v17 : Ref sig .tc := ⟨.hbm, 48, rfl⟩
abbrev main_call2_v0 : Ref sig .tc := ⟨.hbm, 49, rfl⟩
abbrev main_call2_v1 : Ref sig .tc := ⟨.hbm, 50, rfl⟩
abbrev main_call2_v2 : Ref sig .tc := ⟨.hbm, 51, rfl⟩
abbrev main_v18 : Ref sig .tc := ⟨.hbm, 52, rfl⟩
abbrev main_v19 : Ref sig .tc := ⟨.hbm, 53, rfl⟩
abbrev main_v20 : Ref sig .tc := ⟨.hbm, 54, rfl⟩
abbrev main_v21 : Ref sig .tc := ⟨.hbm, 55, rfl⟩
abbrev main_call3_v0 : Ref sig .tc := ⟨.hbm, 56, rfl⟩
abbrev main_call3_v1 : Ref sig .tc := ⟨.hbm, 57, rfl⟩
abbrev main_call3_v2 : Ref sig .tc := ⟨.hbm, 58, rfl⟩
abbrev main_v22 : Ref sig .tc := ⟨.hbm, 59, rfl⟩
abbrev main_v23 : Ref sig .tc := ⟨.hbm, 60, rfl⟩
abbrev main_v24 : Ref sig .tc := ⟨.hbm, 61, rfl⟩
abbrev main_v25 : Ref sig .tc := ⟨.hbm, 62, rfl⟩
abbrev main_v26 : Ref sig .tc := ⟨.hbm, 63, rfl⟩
abbrev main_v27 : Ref sig .tc := ⟨.hbm, 64, rfl⟩
abbrev main_v28 : Ref sig .tc := ⟨.hbm, 65, rfl⟩
abbrev main_v29 : Ref sig .tc := ⟨.hbm, 66, rfl⟩

abbrev nD : Nat := 1
abbrev τ : Topo := Topo.v7x

variable {F : FTy → Type} [FloatOps F]
-- ==== FgateKernel.lean ====
abbrev S4x2048x9232 : Shape := ⟨3, ![4, 2048, 9232]⟩
abbrev S4x2048x16 : Shape := ⟨3, ![4, 2048, 16]⟩
abbrev S_ : Shape := ⟨0, ![]⟩
abbrev S4x2048x128 : Shape := ⟨3, ![4, 2048, 128]⟩
abbrev S8192x128 : Shape := ⟨2, ![8192, 128]⟩
abbrev S1x2048x128 : Shape := ⟨3, ![1, 2048, 128]⟩
abbrev S2048x128 : Shape := ⟨2, ![2048, 128]⟩
abbrev S256x256 : Shape := ⟨2, ![256, 256]⟩
abbrev S1x128 : Shape := ⟨2, ![1, 128]⟩
abbrev S1x256x128 : Shape := ⟨3, ![1, 256, 128]⟩
abbrev S256x128 : Shape := ⟨2, ![256, 128]⟩

abbrev nBuf : Space → Nat
  | .hbm => 10
  | .vmem => 6
  | .smem => 0
  | _ => 0

abbrev bufTy : (tb : Table) → Fin (tcTables nBuf tb) → BufTy
  | .hbm, ⟨0, _⟩ => ⟨S4x2048x9232, .f32⟩
  | .hbm, ⟨1, _⟩ => ⟨S4x2048x16, .f32⟩
  | .hbm, ⟨2, _⟩ => ⟨S_, .i32⟩
  | .hbm, ⟨3, _⟩ => ⟨S_, .f32⟩
  | .hbm, ⟨4, _⟩ => ⟨S4x2048x128, .f32⟩
  | .hbm, ⟨5, _⟩ => ⟨S4x2048x16, .f32⟩
  | .hbm, ⟨6, _⟩ => ⟨S_, .i32⟩
  | .hbm, ⟨7, _⟩ => ⟨S_, .f32⟩
  | .hbm, ⟨8, _⟩ => ⟨S4x2048x128, .f32⟩
  | .hbm, ⟨9, _⟩ => ⟨S8192x128, .bf16⟩
  | .local _ .vmem, ⟨0, _⟩ => ⟨S1x2048x128, .f32⟩
  | .local _ .vmem, ⟨1, _⟩ => ⟨S1x2048x128, .f32⟩
  | .local _ .vmem, ⟨2, _⟩ => ⟨S1x2048x128, .f32⟩
  | .local _ .vmem, ⟨3, _⟩ => ⟨S1x2048x128, .f32⟩
  | .local _ .vmem, ⟨4, _⟩ => ⟨S2048x128, .bf16⟩
  | .local _ .vmem, ⟨5, _⟩ => ⟨S2048x128, .bf16⟩
  | _, _ => ⟨S4x2048x9232, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_c_0 : Ref sig .tc := ⟨.hbm, 6, rfl⟩
abbrev main_call1_v0 : Ref sig .tc := ⟨.hbm, 7, rfl⟩
abbrev main_v2 : Ref sig .tc := ⟨.hbm, 8, rfl⟩
abbrev main_v3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== FgateReferenceIdeal.lean ====
abbrev S4x2048x9232 : Shape := ⟨3, ![4, 2048, 9232]⟩
abbrev S4x2048x16 : Shape := ⟨3, ![4, 2048, 16]⟩
abbrev S4x2048x1024 : Shape := ⟨3, ![4, 2048, 1024]⟩
abbrev S_ : Shape := ⟨0, ![]⟩
abbrev S8192x16 : Shape := ⟨2, ![8192, 16]⟩
abbrev S8192x128 : Shape := ⟨2, ![8192, 128]⟩

abbrev nBuf : Space → Nat
  | .hbm => 73
  | .vmem => 0
  | .smem => 0
  | _ => 0

abbrev bufTy : (tb : Table) → Fin (tcTables nBuf tb) → BufTy
  | .hbm, ⟨0, _⟩ => ⟨S4x2048x9232, .f32⟩
  | .hbm, ⟨1, _⟩ => ⟨S4x2048x16, .f32⟩
  | .hbm, ⟨2, _⟩ => ⟨S4x2048x1024, .f32⟩
  | .hbm, ⟨3, _⟩ => ⟨S4x2048x1024, .f32⟩
  | .hbm, ⟨4, _⟩ => ⟨S4x2048x1024, .f32⟩
  | .hbm, ⟨5, _⟩ => ⟨S4x2048x16, .f32⟩
  | .hbm, ⟨6, _⟩ => ⟨S4x2048x1024, .f32⟩
  | .hbm, ⟨7, _⟩ => ⟨S4x2048x1024, .f32⟩
  | .hbm, ⟨8, _⟩ => ⟨S4x2048x1024, .f32⟩
  | .hbm, ⟨9, _⟩ => ⟨S4x2048x1024, .f32⟩
  | .hbm, ⟨10, _⟩ => ⟨S4x2048x1024, .f32⟩
  | .hbm, ⟨11, _⟩ => ⟨S4x2048x16, .f32⟩
  | .hbm, ⟨12, _⟩ => ⟨S_, .f32⟩
  | .hbm, ⟨13, _⟩ => ⟨S4x2048x16, .f32⟩
  | .hbm, ⟨14, _⟩ => ⟨S4x2048x16, .f32⟩
  | .hbm, ⟨15, _⟩ => ⟨S4x2048x16, .f32⟩
  | .hbm, ⟨16, _⟩ => ⟨S4x2048x16, .f32⟩
  | .hbm, ⟨17, _⟩ => ⟨S4x2048x16, .i1⟩
  | .hbm, ⟨18, _⟩ => ⟨S4x2048x16, .f32⟩
  | .hbm, ⟨19, _⟩ => ⟨S4x2048x16, .f32⟩
  | .hbm, ⟨20, _⟩ => ⟨S4x2048x16, .f32⟩
  | .hbm, ⟨21, _⟩ => ⟨S4x2048x16, .f32⟩
  | .hbm, ⟨22, _⟩ => ⟨S4x2048x16, .f32⟩
  | .hbm, ⟨23, _⟩ => ⟨S4x2048x16, .f32⟩
  | .hbm, ⟨24, _⟩ => ⟨S4x2048x16, .f32⟩
  | .hbm, ⟨25, _⟩ => ⟨S4x2048x16, .f32⟩
  | .hbm, ⟨26, _⟩ => ⟨S_, .f32⟩
  | .hbm, ⟨27, _⟩ => ⟨S4x2048x16, .f32⟩
  | .hbm, ⟨28, _⟩ => ⟨S4x2048x16, .i1⟩
  | .hbm, ⟨29, _⟩ => ⟨S_, .f32⟩
  | .hbm, ⟨30, _⟩ => ⟨S4x2048x16, .f32⟩
  | .hbm, ⟨31, _⟩ => ⟨S4x2048x16, .f32⟩
  | .hbm, ⟨32, _⟩ => ⟨S_, .f32⟩
  | .hbm, ⟨33, _⟩ => ⟨S4x2048x16, .f32⟩
  | .hbm, ⟨34, _⟩ => ⟨S4x2048x16, .i1⟩
  | .hbm, ⟨35, _⟩ => ⟨S_, .f32⟩
  | .hbm, ⟨36, _⟩ => ⟨S4x2048x16, .f32⟩
  | .hbm, ⟨37, _⟩ => ⟨S4x2048x16, .f32⟩
  | .hbm, ⟨38, _⟩ => ⟨S4x2048x16, .f32⟩
  | .hbm, ⟨39, _⟩ => ⟨S4x2048x16, .f32⟩
  | .hbm, ⟨40, _⟩ => ⟨S_, .f32⟩
  | .hbm, ⟨41, _⟩ => ⟨S_, .f32⟩
  | .hbm, ⟨42, _⟩ => ⟨S_, .i1⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S4x2048x16, .f32⟩
  | .hbm, ⟨48, _⟩ => ⟨S4x2048x16, .i1⟩
  | .hbm, ⟨49, _⟩ => ⟨S_, .f32⟩
  | .hbm, ⟨50, _⟩ => ⟨S4x2048x16, .f32⟩
  | .hbm, ⟨51, _⟩ => ⟨S4x2048x16, .f32⟩
  | .hbm, ⟨52, _⟩ => ⟨S4x2048x16, .f32⟩
  | .hbm, ⟨53, _⟩ => ⟨S4x2048x16, .f32⟩
  | .hbm, ⟨54, _⟩ => ⟨S4x2048x16, .f32⟩
  | .hbm, ⟨55, _⟩ => ⟨S_, .f32⟩
  | .hbm, ⟨56, _⟩ => ⟨S4x2048x16, .f32⟩
  | .hbm, ⟨57, _⟩ => ⟨S4x2048x16, .f32⟩
  | .hbm, ⟨58, _⟩ => ⟨S4x2048x16, .f32⟩
  | .hbm, ⟨59, _⟩ => ⟨S_, .f32⟩
  | .hbm, ⟨60, _⟩ => ⟨S_, .f32⟩
  | .hbm, ⟨61, _⟩ => ⟨S4x2048x16, .f32⟩
  | .hbm, ⟨62, _⟩ => ⟨S_, .f32⟩
  | .hbm, ⟨63, _⟩ => ⟨S_, .f32⟩
  | .hbm, ⟨64, _⟩ => ⟨S4x2048x16, .f32⟩
  | .hbm, ⟨65, _⟩ => ⟨S4x2048x16, .f32⟩
  | .hbm, ⟨66, _⟩ => ⟨S4x2048x16, .f32⟩
  | .hbm, ⟨67, _⟩ => ⟨S4x2048x16, .f32⟩
  | .hbm, ⟨68, _⟩ => ⟨S8192x16, .f32⟩
  | .hbm, ⟨69, _⟩ => ⟨S_, .i32⟩
  | .hbm, ⟨70, _⟩ => ⟨S_, .f32⟩
  | .hbm, ⟨71, _⟩ => ⟨S8192x128, .f32⟩
  | .hbm, ⟨72, _⟩ => ⟨S8192x128, .bf16⟩
  | _, _ => ⟨S4x2048x9232, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_call0_v0 : Ref sig .tc := ⟨.hbm, 11, rfl⟩
abbrev main_call0_call0_cst : Ref sig .tc := ⟨.hbm, 12, rfl⟩
abbrev main_call0_call0_v0 : Ref sig .tc := ⟨.hbm, 13, rfl⟩
abbrev main_call0_call0_v1 : Ref sig .tc := ⟨.hbm, 14, rfl⟩
abbrev main_call0_call0_v2 : Ref sig .tc := ⟨.hbm, 15, rfl⟩
abbrev main_call0_call0_v3 : Ref sig .tc := ⟨.hbm, 16, rfl⟩
abbrev main_call0_call0_v4 : Ref sig .tc := ⟨.hbm, 17, rfl⟩
abbrev main_call0_call0_v5 : Ref sig .tc := ⟨.hbm, 18, rfl⟩
abbrev main_call0_call0_v6 : Ref sig .tc := ⟨.hbm, 19, rfl⟩
abbrev main_call0_call0_v7 : Ref sig .tc := ⟨.hbm, 20, rfl⟩
abbrev main_call0_call0_v8 : Ref sig .tc := ⟨.hbm, 21, rfl⟩
abbrev main_call0_call0_v9 : Ref sig .tc := ⟨.hbm, 22, rfl⟩
abbrev main_call0_call0_v10 : Ref sig .tc := ⟨.hbm, 23, rfl⟩
abbrev main_call0_call0_v11 : Ref sig .tc := ⟨.hbm, 24, rfl⟩
abbrev main_call0_v1_0 : Ref sig .tc := ⟨.hbm, 25, rfl⟩
abbrev main_call0_call0_cst_0 : Ref sig .tc := ⟨.hbm, 26, rfl⟩
abbrev main_call0_call0_v13 : Ref sig .tc := ⟨.hbm, 27, rfl⟩
abbrev main_call0_call0_v14 : Ref sig .tc := ⟨.hbm, 28, rfl⟩
abbrev main_call0_call0_cst_1 : Ref sig .tc := ⟨.hbm, 29, rfl⟩
abbrev main_call0_call0_v15 : Ref sig .tc := ⟨.hbm, 30, rfl⟩
abbrev main_call0_call0_v16 : Ref sig .tc := ⟨.hbm, 31, rfl⟩
abbrev main_call0_call0_cst_2 : Ref sig .tc := ⟨.hbm, 32, rfl⟩
abbrev main_call0_call0_v17 : Ref sig .tc := ⟨.hbm, 33, rfl⟩
abbrev main_call0_call0_v18 : Ref sig .tc := ⟨.hbm, 34, rfl⟩
abbrev main_call0_call0_cst_3 : Ref sig .tc := ⟨.hbm, 35, rfl⟩
abbrev main_call0_call0_v19 : Ref sig .tc := ⟨.hbm, 36, rfl⟩
abbrev main_call0_call0_v20 : Ref sig .tc := ⟨.hbm, 37, rfl⟩
abbrev main_call0_call0_v21 : Ref sig .tc := ⟨.hbm, 38, rfl⟩
abbrev main_v9_1 : Ref sig .tc := ⟨.hbm, 39, rfl⟩
abbrev main_call0_call0_cst_4 : Ref sig .tc := ⟨.hbm, 40, rfl⟩
abbrev main_call0_call0_cst_5 : Ref sig .tc := ⟨.hbm, 41, rfl⟩
abbrev main_call0_call0_v23 : Ref sig .tc := ⟨.hbm, 42, rfl⟩
abbrev main_call0_call0_cst_6 : Ref sig .tc := ⟨.hbm, 43, rfl⟩
abbrev main_call0_call0_cst_7 : Ref sig .tc := ⟨.hbm, 44, rfl⟩
abbrev main_call0_call0_v24 : Ref sig .tc := ⟨.hbm, 45, rfl⟩
abbrev main_call0_call0_cst_8 : Ref sig .tc := ⟨.hbm, 46, rfl⟩
abbrev main_call0_call0_v25 : Ref sig .tc := ⟨.hbm, 47, rfl⟩
abbrev main_call0_call0_v26 : Ref sig .tc := ⟨.hbm, 48, rfl⟩
abbrev main_call0_call0_cst_9 : Ref sig .tc := ⟨.hbm, 49, rfl⟩
abbrev main_call0_call0_v27 : Ref sig .tc := ⟨.hbm, 50, rfl⟩
abbrev main_call0_call0_v28 : Ref sig .tc := ⟨.hbm, 51, rfl⟩
abbrev main_call0_call0_v29 : Ref sig .tc := ⟨.hbm, 52, rfl⟩
abbrev main_call0_call0_v30 : Ref sig .tc := ⟨.hbm, 53, rfl⟩
abbrev main_call0_call0_v31 : Ref sig .tc := ⟨.hbm, 54, rfl⟩
abbrev main_call0_call0_cst_10 : Ref sig .tc := ⟨.hbm, 55, rfl⟩
abbrev main_call0_call0_v32 : Ref sig .tc := ⟨.hbm, 56, rfl⟩
abbrev main_v9_2 : Ref sig .tc := ⟨.hbm, 57, rfl⟩
abbrev main_v9_0 : Ref sig .tc := ⟨.hbm, 58, rfl⟩
abbrev main_call1_call0_cst : Ref sig .tc := ⟨.hbm, 59, rfl⟩
abbrev main_call1_call0_v0 : Ref sig .tc := ⟨.hbm, 60, rfl⟩
abbrev main_v10 : Ref sig .tc := ⟨.hbm, 61, rfl⟩
abbrev main_call2_call0_cst : Ref sig .tc := ⟨.hbm, 62, rfl⟩
abbrev main_call2_call0_v0 : Ref sig .tc := ⟨.hbm, 63, rfl⟩
abbrev main_v11 : Ref sig .tc := ⟨.hbm, 64, rfl⟩
abbrev main_call3_v0 : Ref sig .tc := ⟨.hbm, 65, rfl⟩
abbrev main_call3_v1 : Ref sig .tc := ⟨.hbm, 66, rfl⟩
abbrev main_v12 : Ref sig .tc := ⟨.hbm, 67, rfl⟩
abbrev main_v13 : Ref sig .tc := ⟨.hbm, 68, rfl⟩
abbrev main_c : Ref sig .tc := ⟨.hbm, 69, rfl⟩
abbrev main_call4_v0 : Ref sig .tc := ⟨.hbm, 70, rfl⟩
abbrev main_v14 : Ref sig .tc := ⟨.hbm, 71, rfl⟩
abbrev main_v15 : Ref sig .tc := ⟨.hbm, 72, rfl⟩

abbrev nD : Nat := 1
abbrev τ : Topo := Topo.v7x

variable {F : FTy → Type} [FloatOps F]
-- ==== AttnKernel.lean ====
abbrev S4x2048x16x64 : Shape := ⟨4, ![4, 2048, 16, 64]⟩
abbrev S4x2048x16 : Shape := ⟨3, ![4, 2048, 16]⟩
abbrev S4x16x2048 : Shape := ⟨3, ![4, 16, 2048]⟩
abbrev S4x16x2048x2048 : Shape := ⟨4, ![4, 16, 2048, 2048]⟩
abbrev S_ : Shape := ⟨0, ![]⟩
abbrev S4x16x2048x1 : Shape := ⟨4, ![4, 16, 2048, 1]⟩
abbrev S4x16x1x2048 : Shape := ⟨4, ![4, 16, 1, 2048]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S1x1x2048x2048 : Shape := ⟨4, ![1, 1, 2048, 2048]⟩
abbrev S4x16x64x2048 : Shape := ⟨4, ![4, 16, 64, 2048]⟩
abbrev S4x2048x1024 : Shape := ⟨3, ![4, 2048, 1024]⟩
abbrev S4x2048x3072 : Shape := ⟨3, ![4, 2048, 3072]⟩
abbrev S4x2048x3x8x128 : Shape := ⟨5, ![4, 2048, 3, 8, 128]⟩
abbrev S4x2048x8x3x128 : Shape := ⟨5, ![4, 2048, 8, 3, 128]⟩
abbrev S4x8x2x4x512 : Shape := ⟨5, ![4, 8, 2, 4, 512]⟩
abbrev S8192x3072 : Shape := ⟨2, ![8192, 3072]⟩
abbrev S4x2048x128 : Shape := ⟨3, ![4, 2048, 128]⟩
abbrev S1x2048x384 : Shape := ⟨3, ![1, 2048, 384]⟩
abbrev S1x2048x128 : Shape := ⟨3, ![1, 2048, 128]⟩
abbrev S1x1x2x4x512 : Shape := ⟨5, ![1, 1, 2, 4, 512]⟩
abbrev S2048x384 : Shape := ⟨2, ![2048, 384]⟩
abbrev S2x4x512x128 : Shape := ⟨4, ![2, 4, 512, 128]⟩
abbrev S2x4x128x512 : Shape := ⟨4, ![2, 4, 128, 512]⟩
abbrev S4x512x128 : Shape := ⟨3, ![4, 512, 128]⟩
abbrev S1x128 : Shape := ⟨2, ![1, 128]⟩
abbrev S128x1 : Shape := ⟨2, ![128, 1]⟩
abbrev S512x512 : Shape := ⟨2, ![512, 512]⟩
abbrev S2048x128 : Shape := ⟨2, ![2048, 128]⟩
abbrev S1x512x128 : Shape := ⟨3, ![1, 512, 128]⟩
abbrev S512x128 : Shape := ⟨2, ![512, 128]⟩
abbrev S128x512 : Shape := ⟨2, ![128, 512]⟩
abbrev S1x1x1x1x512 : Shape := ⟨5, ![1, 1, 1, 1, 512]⟩
abbrev S1x512 : Shape := ⟨2, ![1, 512]⟩
abbrev S512 : Shape := ⟨1, ![512]⟩
abbrev S512x1 : Shape := ⟨2, ![512, 1]⟩
abbrev S1x1x512x128 : Shape := ⟨4, ![1, 1, 512, 128]⟩
abbrev S1x1x128x512 : Shape := ⟨4, ![1, 1, 128, 512]⟩
abbrev S8x512 : Shape := ⟨2, ![8, 512]⟩
abbrev S64x8x512 : Shape := ⟨3, ![64, 8, 512]⟩

abbrev nBuf : Space → Nat
  | .hbm => 73
  | .vmem => 24
  | .smem => 0
  | _ => 0

abbrev bufTy : (tb : Table) → Fin (tcTables nBuf tb) → BufTy
  | .hbm, ⟨0, _⟩ => ⟨S4x2048x16x64, .f32⟩
  | .hbm, ⟨1, _⟩ => ⟨S4x2048x16x64, .f32⟩
  | .hbm, ⟨2, _⟩ => ⟨S4x2048x16x64, .f32⟩
  | .hbm, ⟨3, _⟩ => ⟨S4x2048x16, .f32⟩
  | .hbm, ⟨4, _⟩ => ⟨S4x2048x16x64, .f32⟩
  | .hbm, ⟨5, _⟩ => ⟨S4x16x2048, .f32⟩
  | .hbm, ⟨6, _⟩ => ⟨S4x16x2048x2048, .f32⟩
  | .hbm, ⟨7, _⟩ => ⟨S_, .f32⟩
  | .hbm, ⟨8, _⟩ => ⟨S4x16x2048x2048, .f32⟩
  | .hbm, ⟨9, _⟩ => ⟨S4x16x2048x2048, .f32⟩
  | .hbm, ⟨10, _⟩ => ⟨S4x16x2048x1, .f32⟩
  | .hbm, ⟨11, _⟩ => ⟨S4x16x2048x2048, .f32⟩
  | .hbm, ⟨12, _⟩ => ⟨S4x16x2048x2048, .f32⟩
  | .hbm, ⟨13, _⟩ => ⟨S4x16x1x2048, .f32⟩
  | .hbm, ⟨14, _⟩ => ⟨S4x16x2048x2048, .f32⟩
  | .hbm, ⟨15, _⟩ => ⟨S4x16x2048x2048, .f32⟩
  | .hbm, ⟨16, _⟩ => ⟨S2048, .i32⟩
  | .hbm, ⟨17, _⟩ => ⟨S2048x1, .i32⟩
  | .hbm, ⟨18, _⟩ => ⟨S2048, .i32⟩
  | .hbm, ⟨19, _⟩ => ⟨S1x2048, .i32⟩
  | .hbm, ⟨20, _⟩ => ⟨S2048x2048, .i32⟩
  | .hbm, ⟨21, _⟩ => ⟨S2048x2048, .i32⟩
  | .hbm, ⟨22, _⟩ => ⟨S2048x2048, .i1⟩
  | .hbm, ⟨23, _⟩ => ⟨S1x1x2048x2048, .i1⟩
  | .hbm, ⟨24, _⟩ => ⟨S_, .f32⟩
  | .hbm, ⟨25, _⟩ => ⟨S_, .f32⟩
  | .hbm, ⟨26, _⟩ => ⟨S4x16x2048x2048, .i1⟩
  | .hbm, ⟨27, _⟩ => ⟨S4x16x2048x2048, .f32⟩
  | .hbm, ⟨28, _⟩ => ⟨S4x16x2048x2048, .f32⟩
  | .hbm, ⟨29, _⟩ => ⟨S_, .f32⟩
  | .hbm, ⟨30, _⟩ => ⟨S4x16x2048, .f32⟩
  | .hbm, ⟨31, _⟩ => ⟨S4x16x2048x1, .f32⟩
  | .hbm, ⟨32, _⟩ => ⟨S4x16x2048x2048, .f32⟩
  | .hbm, ⟨33, _⟩ => ⟨S4x16x2048x2048, .f32⟩
  | .hbm, ⟨34, _⟩ => ⟨S4x16x2048x2048, .f32⟩
  | .hbm, ⟨35, _⟩ => ⟨S_, .f32⟩
  | .hbm, ⟨36, _⟩ => ⟨S4x16x2048, .f32⟩
  | .hbm, ⟨37, _⟩ => ⟨S4x16x2048, .f32⟩
  | .hbm, ⟨38, _⟩ => ⟨S4x16x2048, .f32⟩
  | .hbm, ⟨39, _⟩ => ⟨S_, .f32⟩
  | .hbm, ⟨40, _⟩ => ⟨S4x16x2048, .f32⟩
  | .hbm, ⟨41, _⟩ => ⟨S_, .f32⟩
  | .hbm, ⟨42, _⟩ => ⟨S4x16x2048, .f32⟩
  | .hbm, ⟨43, _⟩ => ⟨S4x16x2048, .f32⟩
  | .hbm, ⟨44, _⟩ => ⟨S4x16x2048x1, .f32⟩
  | .hbm, ⟨45, _⟩ => ⟨S4x16x2048x2048, .f32⟩
  | .hbm, ⟨46, _⟩ => ⟨S4x16x2048x2048, .f32⟩
  | .hbm, ⟨47, _⟩ => ⟨S4x16x2048x2048, .f32⟩
  | .hbm, ⟨48, _⟩ => ⟨S_, .f32⟩
  | .hbm, ⟨49, _⟩ => ⟨S4x16x2048, .f32⟩
  | .hbm, ⟨50, _⟩ => ⟨S4x16x2048x1, .f32⟩
  | .hbm, ⟨51, _⟩ => ⟨S4x16x2048x2048, .f32⟩
  | .hbm, ⟨52, _⟩ => ⟨S4x16x2048x2048, .f32⟩
  | .hbm, ⟨53, _⟩ => ⟨S4x16x64x2048, .f32⟩
  | .hbm, ⟨54, _⟩ => ⟨S4x2048x16x64, .f32⟩
  | .hbm, ⟨55, _⟩ => ⟨S4x2048x1024, .f32⟩
  | .hbm, ⟨56, _⟩ => ⟨S4x2048x1024, .f32⟩
  | .hbm, ⟨57, _⟩ => ⟨S4x2048x1024, .f32⟩
  | .hbm, ⟨58, _⟩ => ⟨S4x2048x3072, .f32⟩
  | .hbm, ⟨59, _⟩ => ⟨S4x2048x3x8x128, .f32⟩
  | .hbm, ⟨60, _⟩ => ⟨S4x2048x8x3x128, .f32⟩
  | .hbm, ⟨61, _⟩ => ⟨S4x2048x3072, .f32⟩
  | .hbm, ⟨62, _⟩ => ⟨S4x2048x3072, .bf16⟩
  | .hbm, ⟨63, _⟩ => ⟨S4x16x2048, .f32⟩
  | .hbm, ⟨64, _⟩ => ⟨S4x2048x16x64, .f32⟩
  | .hbm, ⟨65, _⟩ => ⟨S4x2048x1024, .f32⟩
  | .hbm, ⟨66, _⟩ => ⟨S4x2048x1024, .f32⟩
  | .hbm, ⟨67, _⟩ => ⟨S4x2048x1024, .bf16⟩
  | .hbm, ⟨68, _⟩ => ⟨S4x2048x1024, .f32⟩
  | .hbm, ⟨69, _⟩ => ⟨S4x8x2x4x512, .f32⟩
  | .hbm, ⟨70, _⟩ => ⟨S4x8x2x4x512, .f32⟩
  | .hbm, ⟨71, _⟩ => ⟨S8192x3072, .bf16⟩
  | .hbm, ⟨72, _⟩ => ⟨S4x2048x128, .f32⟩
  | .local _ .vmem, ⟨0, _⟩ => ⟨S1x2048x384, .bf16⟩
  | .local _ .vmem, ⟨1, _⟩ => ⟨S1x2048x384, .bf16⟩
  | .local _ .vmem, ⟨2, _⟩ => ⟨S1x2048x128, .bf16⟩
  | .local _ .vmem, ⟨3, _⟩ => ⟨S1x2048x128, .bf16⟩
  | .local _ .vmem, ⟨4, _⟩ => ⟨S1x2048x128, .f32⟩
  | .local _ .vmem, ⟨5, _⟩ => ⟨S1x2048x128, .f32⟩
  | .local _ .vmem, ⟨6, _⟩ => ⟨S1x1x2x4x512, .f32⟩
  | .local _ .vmem, ⟨7, _⟩ => ⟨S1x1x2x4x512, .f32⟩
  | .local _ .vmem, ⟨8, _⟩ => ⟨S1x1x2x4x512, .f32⟩
  | .local _ .vmem, ⟨9, _⟩ => ⟨S1x1x2x4x512, .f32⟩
  | .local _ .vmem, ⟨10, _⟩ => ⟨S1x2048x128, .f32⟩
  | .local _ .vmem, ⟨11, _⟩ => ⟨S1x2048x128, .f32⟩
  | .local _ .vmem, ⟨12, _⟩ => ⟨S2048x384, .bf16⟩
  | .local _ .vmem, ⟨13, _⟩ => ⟨S2048x384, .bf16⟩
  | .local _ .vmem, ⟨14, _⟩ => ⟨S1x2048x128, .f32⟩
  | .local _ .vmem, ⟨15, _⟩ => ⟨S1x2048x128, .f32⟩
  | .local _ .vmem, ⟨16, _⟩ => ⟨S2x4x512x128, .bf16⟩
  | .local _ .vmem, ⟨17, _⟩ => ⟨S2x4x512x128, .bf16⟩
  | .local _ .vmem, ⟨18, _⟩ => ⟨S2x4x128x512, .bf16⟩
  | .local _ .vmem, ⟨19, _⟩ => ⟨S2x4x128x512, .bf16⟩
  | .local _ .vmem, ⟨20, _⟩ => ⟨S2x4x128x512, .bf16⟩
  | .local _ .vmem, ⟨21, _⟩ => ⟨S2x4x128x512, .bf16⟩
  | .local _ .vmem, ⟨22, _⟩ => ⟨S4x512x128, .f32⟩
  | .local _ .vmem, ⟨23, _⟩ => ⟨S4x512x128, .f32⟩
  | _, _ => ⟨S4x2048x16x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_0 : Ref sig .tc := ⟨.hbm, 24, rfl⟩
abbrev main_call0_v0 : Ref sig .tc := ⟨.hbm, 25, rfl⟩
abbrev main_call0_v1 : Ref sig .tc := ⟨.hbm, 26, rfl⟩
abbrev main_call0_v2 : Ref sig .tc := ⟨.hbm, 27, rfl⟩
abbrev main_v18 : Ref sig .tc := ⟨.hbm, 28, rfl⟩
abbrev main_cst_1 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_2 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_3 : Ref sig .tc := ⟨.hbm, 39, rfl⟩
abbrev main_v27 : Ref sig .tc := ⟨.hbm, 40, rfl⟩
abbrev main_cst_4 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst_5 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56_0 : Ref sig .tc := ⟨.hbm, 71, rfl⟩
abbrev main_v56_1 : Ref sig .tc := ⟨.hbm, 72, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_scratch3 : Ref sig .tc := ⟨.vmem, 19, rfl⟩
abbrev cc0_scratch4 : Ref sig .tc := ⟨.vmem, 20, rfl⟩
abbrev cc0_scratch5 : Ref sig .tc := ⟨.vmem, 21, rfl⟩
abbrev cc0_scratch6 : Ref sig .tc := ⟨.vmem, 22, rfl⟩
abbrev cc0_scratch7 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_4 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x384 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x2x4x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x2x4x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x2048x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S2048x384 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x2048x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== AttnKernelIdeal.lean ====
variable {F : FTy → Type} [FloatOps F] [Named F]
def κ : String → Option EReal := fun
  | "mask" => some ⊥
  | _ => none
-- ==== AttnReferenceIdeal.lean ====
abbrev S4x2048x16x64 : Shape := ⟨4, ![4, 2048, 16, 64]⟩
abbrev S4x2048x16 : Shape := ⟨3, ![4, 2048, 16]⟩
abbrev S4x16x2048 : Shape := ⟨3, ![4, 16, 2048]⟩
abbrev S4x16x2048x2048 : Shape := ⟨4, ![4, 16, 2048, 2048]⟩
abbrev S_ : Shape := ⟨0, ![]⟩
abbrev S4x16x2048x1 : Shape := ⟨4, ![4, 16, 2048, 1]⟩
abbrev S4x16x1x2048 : Shape := ⟨4, ![4, 16, 1, 2048]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S1x1x2048x2048 : Shape := ⟨4, ![1, 1, 2048, 2048]⟩
abbrev S4x16x64x2048 : Shape := ⟨4, ![4, 16, 64, 2048]⟩
abbrev S4x16x2048x64 : Shape := ⟨4, ![4, 16, 2048, 64]⟩
abbrev S8192x8x128 : Shape := ⟨3, ![8192, 8, 128]⟩
abbrev S8192x8x1x128 : Shape := ⟨4, ![8192, 8, 1, 128]⟩
abbrev S8192x8x3x128 : Shape := ⟨4, ![8192, 8, 3, 128]⟩
abbrev S8192x3072 : Shape := ⟨2, ![8192, 3072]⟩
abbrev S4x2048x128 : Shape := ⟨3, ![4, 2048, 128]⟩

abbrev nBuf : Space → Nat
  | .hbm => 124
  | .vmem => 0
  | .smem => 0
  | _ => 0

abbrev bufTy : (tb : Table) → Fin (tcTables nBuf tb) → BufTy
  | .hbm, ⟨0, _⟩ => ⟨S4x2048x16x64, .f32⟩
  | .hbm, ⟨1, _⟩ => ⟨S4x2048x16x64, .f32⟩
  | .hbm, ⟨2, _⟩ => ⟨S4x2048x16x64, .f32⟩
  | .hbm, ⟨3, _⟩ => ⟨S4x2048x16, .f32⟩
  | .hbm, ⟨4, _⟩ => ⟨S4x2048x16x64, .f32⟩
  | .hbm, ⟨5, _⟩ => ⟨S4x16x2048, .f32⟩
  | .hbm, ⟨6, _⟩ => ⟨S4x16x2048x2048, .f32⟩
  | .hbm, ⟨7, _⟩ => ⟨S_, .f32⟩
  | .hbm, ⟨8, _⟩ => ⟨S4x16x2048x2048, .f32⟩
  | .hbm, ⟨9, _⟩ => ⟨S4x16x2048x2048, .f32⟩
  | .hbm, ⟨10, _⟩ => ⟨S4x16x2048x1, .f32⟩
  | .hbm, ⟨11, _⟩ => ⟨S4x16x2048x2048, .f32⟩
  | .hbm, ⟨12, _⟩ => ⟨S4x16x2048x2048, .f32⟩
  | .hbm, ⟨13, _⟩ => ⟨S4x16x1x2048, .f32⟩
  | .hbm, ⟨14, _⟩ => ⟨S4x16x2048x2048, .f32⟩
  | .hbm, ⟨15, _⟩ => ⟨S4x16x2048x2048, .f32⟩
  | .hbm, ⟨16, _⟩ => ⟨S2048, .i32⟩
  | .hbm, ⟨17, _⟩ => ⟨S2048x1, .i32⟩
  | .hbm, ⟨18, _⟩ => ⟨S2048, .i32⟩
  | .hbm, ⟨19, _⟩ => ⟨S1x2048, .i32⟩
  | .hbm, ⟨20, _⟩ => ⟨S2048x2048, .i32⟩
  | .hbm, ⟨21, _⟩ => ⟨S2048x2048, .i32⟩
  | .hbm, ⟨22, _⟩ => ⟨S2048x2048, .i1⟩
  | .hbm, ⟨23, _⟩ => ⟨S1x1x2048x2048, .i1⟩
  | .hbm, ⟨24, _⟩ => ⟨S_, .f32⟩
  | .hbm, ⟨25, _⟩ => ⟨S_, .f32⟩
  | .hbm, ⟨26, _⟩ => ⟨S4x16x2048x2048, .i1⟩
  | .hbm, ⟨27, _⟩ => ⟨S4x16x2048x2048, .f32⟩
  | .hbm, ⟨28, _⟩ => ⟨S4x16x2048x2048, .f32⟩
  | .hbm, ⟨29, _⟩ => ⟨S_, .f32⟩
  | .hbm, ⟨30, _⟩ => ⟨S4x16x2048x2048, .f32⟩
  | .hbm, ⟨31, _⟩ => ⟨S_, .f32⟩
  | .hbm, ⟨32, _⟩ => ⟨S4x16x2048, .f32⟩
  | .hbm, ⟨33, _⟩ => ⟨S4x16x2048x1, .f32⟩
  | .hbm, ⟨34, _⟩ => ⟨S4x16x2048x2048, .f32⟩
  | .hbm, ⟨35, _⟩ => ⟨S4x16x2048x2048, .i1⟩
  | .hbm, ⟨36, _⟩ => ⟨S4x16x2048x2048, .f32⟩
  | .hbm, ⟨37, _⟩ => ⟨S_, .f32⟩
  | .hbm, ⟨38, _⟩ => ⟨S4x16x2048, .f32⟩
  | .hbm, ⟨39, _⟩ => ⟨S_, .f32⟩
  | .hbm, ⟨40, _⟩ => ⟨S4x16x2048, .f32⟩
  | .hbm, ⟨41, _⟩ => ⟨S4x16x2048, .f32⟩
  | .hbm, ⟨42, _⟩ => ⟨S_, .f32⟩
  | .hbm, ⟨43, _⟩ => ⟨S4x16x2048, .f32⟩
  | .hbm, ⟨44, _⟩ => ⟨S4x16x2048, .i1⟩
  | .hbm, ⟨45, _⟩ => ⟨S_, .f32⟩
  | .hbm, ⟨46, _⟩ => ⟨S4x16x2048, .f32⟩
  | .hbm, ⟨47, _⟩ => ⟨S4x16x2048, .i1⟩
  | .hbm, ⟨48, _⟩ => ⟨S_, .f32⟩
  | .hbm, ⟨49, _⟩ => ⟨S4x16x2048, .f32⟩
  | .hbm, ⟨50, _⟩ => ⟨S_, .f32⟩
  | .hbm, ⟨51, _⟩ => ⟨S4x16x2048, .f32⟩
  | .hbm, ⟨52, _⟩ => ⟨S_, .f32⟩
  | .hbm, ⟨53, _⟩ => ⟨S4x16x2048, .f32⟩
  | .hbm, ⟨54, _⟩ => ⟨S4x16x2048, .f32⟩
  | .hbm, ⟨55, _⟩ => ⟨S4x16x2048, .f32⟩
  | .hbm, ⟨56, _⟩ => ⟨S4x16x2048x1, .f32⟩
  | .hbm, ⟨57, _⟩ => ⟨S4x16x2048x2048, .f32⟩
  | .hbm, ⟨58, _⟩ => ⟨S4x16x2048x2048, .f32⟩
  | .hbm, ⟨59, _⟩ => ⟨S4x16x2048x2048, .f32⟩
  | .hbm, ⟨60, _⟩ => ⟨S_, .f32⟩
  | .hbm, ⟨61, _⟩ => ⟨S4x16x2048, .f32⟩
  | .hbm, ⟨62, _⟩ => ⟨S4x16x2048x1, .f32⟩
  | .hbm, ⟨63, _⟩ => ⟨S4x16x2048x2048, .f32⟩
  | .hbm, ⟨64, _⟩ => ⟨S4x16x2048x2048, .f32⟩
  | .hbm, ⟨65, _⟩ => ⟨S4x16x2048x1, .f32⟩
  | .hbm, ⟨66, _⟩ => ⟨S_, .f32⟩
  | .hbm, ⟨67, _⟩ => ⟨S4x16x2048x1, .f32⟩
  | .hbm, ⟨68, _⟩ => ⟨S4x16x2048x1, .f32⟩
  | .hbm, ⟨69, _⟩ => ⟨S4x16x64x2048, .f32⟩
  | .hbm, ⟨70, _⟩ => ⟨S4x2048x16x64, .f32⟩
  | .hbm, ⟨71, _⟩ => ⟨S4x16x64x2048, .f32⟩
  | .hbm, ⟨72, _⟩ => ⟨S4x16x2048x2048, .f32⟩
  | .hbm, ⟨73, _⟩ => ⟨S4x16x64x2048, .f32⟩
  | .hbm, ⟨74, _⟩ => ⟨S4x2048x16x64, .f32⟩
  | .hbm, ⟨75, _⟩ => ⟨S4x16x2048x2048, .f32⟩
  | .hbm, ⟨76, _⟩ => ⟨S4x16x2048x2048, .f32⟩
  | .hbm, ⟨77, _⟩ => ⟨S4x16x2048x2048, .f32⟩
  | .hbm, ⟨78, _⟩ => ⟨S_, .f32⟩
  | .hbm, ⟨79, _⟩ => ⟨S4x16x2048, .f32⟩
  | .hbm, ⟨80, _⟩ => ⟨S4x16x2048x1, .f32⟩
  | .hbm, ⟨81, _⟩ => ⟨S4x16x2048x1, .f32⟩
  | .hbm, ⟨82, _⟩ => ⟨S4x16x2048x2048, .f32⟩
  | .hbm, ⟨83, _⟩ => ⟨S4x16x2048x2048, .f32⟩
  | .hbm, ⟨84, _⟩ => ⟨S_, .f32⟩
  | .hbm, ⟨85, _⟩ => ⟨S4x16x2048, .f32⟩
  | .hbm, ⟨86, _⟩ => ⟨S4x16x2048x2048, .f32⟩
  | .hbm, ⟨87, _⟩ => ⟨S4x16x2048x2048, .f32⟩
  | .hbm, ⟨88, _⟩ => ⟨S4x16x2048x2048, .f32⟩
  | .hbm, ⟨89, _⟩ => ⟨S_, .f32⟩
  | .hbm, ⟨90, _⟩ => ⟨S4x16x2048x2048, .f32⟩
  | .hbm, ⟨91, _⟩ => ⟨S4x16x2048x2048, .f32⟩
  | .hbm, ⟨92, _⟩ => ⟨S4x16x2048x2048, .f32⟩
  | .hbm, ⟨93, _⟩ => ⟨S_, .f32⟩
  | .hbm, ⟨94, _⟩ => ⟨S4x16x2048, .f32⟩
  | .hbm, ⟨95, _⟩ => ⟨S4x16x1x2048, .f32⟩
  | .hbm, ⟨96, _⟩ => ⟨S_, .f32⟩
  | .hbm, ⟨97, _⟩ => ⟨S4x16x2048, .f32⟩
  | .hbm, ⟨98, _⟩ => ⟨S_, .f32⟩
  | .hbm, ⟨99, _⟩ => ⟨S4x16x2048, .f32⟩
  | .hbm, ⟨100, _⟩ => ⟨S4x16x2048x1, .f32⟩
  | .hbm, ⟨101, _⟩ => ⟨S_, .f32⟩
  | .hbm, ⟨102, _⟩ => ⟨S4x16x2048, .f32⟩
  | .hbm, ⟨103, _⟩ => ⟨S4x16x2048, .f32⟩
  | .hbm, ⟨104, _⟩ => ⟨S_, .f32⟩
  | .hbm, ⟨105, _⟩ => ⟨S4x16x2048x2048, .f32⟩
  | .hbm, ⟨106, _⟩ => ⟨S4x16x2048x2048, .f32⟩
  | .hbm, ⟨107, _⟩ => ⟨S4x16x2048x64, .f32⟩
  | .hbm, ⟨108, _⟩ => ⟨S4x2048x16x64, .f32⟩
  | .hbm, ⟨109, _⟩ => ⟨S4x16x2048x64, .f32⟩
  | .hbm, ⟨110, _⟩ => ⟨S4x2048x16x64, .f32⟩
  | .hbm, ⟨111, _⟩ => ⟨S4x2048x16, .f32⟩
  | .hbm, ⟨112, _⟩ => ⟨S8192x8x128, .f32⟩
  | .hbm, ⟨113, _⟩ => ⟨S8192x8x128, .f32⟩
  | .hbm, ⟨114, _⟩ => ⟨S8192x8x128, .f32⟩
  | .hbm, ⟨115, _⟩ => ⟨S8192x8x1x128, .f32⟩
  | .hbm, ⟨116, _⟩ => ⟨S8192x8x1x128, .f32⟩
  | .hbm, ⟨117, _⟩ => ⟨S8192x8x1x128, .f32⟩
  | .hbm, ⟨118, _⟩ => ⟨S8192x8x3x128, .f32⟩
  | .hbm, ⟨119, _⟩ => ⟨S8192x3072, .f32⟩
  | .hbm, ⟨120, _⟩ => ⟨S8192x3072, .bf16⟩
  | .hbm, ⟨121, _⟩ => ⟨S_, .i32⟩
  | .hbm, ⟨122, _⟩ => ⟨S_, .f32⟩
  | .hbm, ⟨123, _⟩ => ⟨S4x2048x128, .f32⟩
  | _, _ => ⟨S4x2048x16x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_0 : Ref sig .tc := ⟨.hbm, 24, rfl⟩
abbrev main_call0_v0 : Ref sig .tc := ⟨.hbm, 25, rfl⟩
abbrev main_v18_1 : Ref sig .tc := ⟨.hbm, 26, rfl⟩
abbrev main_call0_v2 : Ref sig .tc := ⟨.hbm, 27, rfl⟩
abbrev main_v18_0 : Ref sig .tc := ⟨.hbm, 28, rfl⟩
abbrev main_call0_cst : Ref sig .tc := ⟨.hbm, 29, rfl⟩
abbrev main_v18_2 : Ref sig .tc := ⟨.hbm, 30, rfl⟩
abbrev main_cst_1 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_2 : Ref sig .tc := ⟨.hbm, 37, rfl⟩
abbrev main_v24 : Ref sig .tc := ⟨.hbm, 38, rfl⟩
abbrev main_cst_3 : Ref sig .tc := ⟨.hbm, 39, rfl⟩
abbrev main_v25 : Ref sig .tc := ⟨.hbm, 40, rfl⟩
abbrev main_v26 : Ref sig .tc := ⟨.hbm, 41, rfl⟩
abbrev main_cst_4 : Ref sig .tc := ⟨.hbm, 42, rfl⟩
abbrev main_v27 : Ref sig .tc := ⟨.hbm, 43, rfl⟩
abbrev main_v28 : Ref sig .tc := ⟨.hbm, 44, rfl⟩
abbrev main_cst_5 : Ref sig .tc := ⟨.hbm, 45, rfl⟩
abbrev main_v29 : Ref sig .tc := ⟨.hbm, 46, rfl⟩
abbrev main_v30 : Ref sig .tc := ⟨.hbm, 47, rfl⟩
abbrev main_cst_6 : Ref sig .tc := ⟨.hbm, 48, rfl⟩
abbrev main_v31 : Ref sig .tc := ⟨.hbm, 49, rfl⟩
abbrev main_cst_7 : Ref sig .tc := ⟨.hbm, 50, rfl⟩
abbrev main_v32 : Ref sig .tc := ⟨.hbm, 51, rfl⟩
abbrev main_cst_8 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_cst_9 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_cst_10 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_cst_11 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_cst_12 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_call1_cst : Ref sig .tc := ⟨.hbm, 89, rfl⟩
abbrev main_call1_v0 : Ref sig .tc := ⟨.hbm, 90, rfl⟩
abbrev main_v65 : Ref sig .tc := ⟨.hbm, 91, rfl⟩
abbrev main_v66 : Ref sig .tc := ⟨.hbm, 92, rfl⟩
abbrev main_cst_13 : Ref sig .tc := ⟨.hbm, 93, rfl⟩
abbrev main_v67 : Ref sig .tc := ⟨.hbm, 94, rfl⟩
abbrev main_v68 : Ref sig .tc := ⟨.hbm, 95, rfl⟩
abbrev main_cst_14 : Ref sig .tc := ⟨.hbm, 96, rfl⟩
abbrev main_v69 : Ref sig .tc := ⟨.hbm, 97, rfl⟩
abbrev main_cst_15 : Ref sig .tc := ⟨.hbm, 98, rfl⟩
abbrev main_v70 : Ref sig .tc := ⟨.hbm, 99, rfl⟩
abbrev main_v71 : Ref sig .tc := ⟨.hbm, 100, rfl⟩
abbrev main_cst_16 : Ref sig .tc := ⟨.hbm, 101, rfl⟩
abbrev main_v72 : Ref sig .tc := ⟨.hbm, 102, rfl⟩
abbrev main_v73 : Ref sig .tc := ⟨.hbm, 103, rfl⟩
abbrev main_cst_17 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_c : Ref sig .tc := ⟨.hbm, 121, rfl⟩
abbrev main_call2_v0 : Ref sig .tc := ⟨.hbm, 122, rfl⟩
abbrev main_v90 : Ref sig .tc := ⟨.hbm, 123, rfl⟩

abbrev nD : Nat := 1
abbrev τ : Topo := Topo.v7x

variable {F : FTy → Type} [FloatOps F]
-- ==== LossKernel.lean ====
abbrev S4x2048x1024 : Shape := ⟨3, ![4, 2048, 1024]⟩
abbrev S1024x1024 : Shape := ⟨2, ![1024, 1024]⟩
abbrev S1x1024 : Shape := ⟨2, ![1, 1024]⟩
abbrev S8192x1024 : Shape := ⟨2, ![8192, 1024]⟩
abbrev S8x1024 : Shape := ⟨2, ![8, 1024]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 13
  | .vmem => 13
  | .smem => 0
  | _ => 0

abbrev bufTy : (tb : Table) → Fin (tcTables nBuf tb) → BufTy
  | .hbm, ⟨0, _⟩ => ⟨S4x2048x1024, .f32⟩
  | .hbm, ⟨1, _⟩ => ⟨S1024x1024, .f32⟩
  | .hbm, ⟨2, _⟩ => ⟨S4x2048x1024, .f32⟩
  | .hbm, ⟨3, _⟩ => ⟨S4x2048x1024, .f32⟩
  | .hbm, ⟨4, _⟩ => ⟨S1x1024, .f32⟩
  | .hbm, ⟨5, _⟩ => ⟨S8192x1024, .f32⟩
  | .hbm, ⟨6, _⟩ => ⟨S8192x1024, .bf16⟩
  | .hbm, ⟨7, _⟩ => ⟨S1024x1024, .bf16⟩
  | .hbm, ⟨8, _⟩ => ⟨S8192x1024, .f32⟩
  | .hbm, ⟨9, _⟩ => ⟨S8192x1024, .f32⟩
  | .hbm, ⟨10, _⟩ => ⟨S8192x1024, .f32⟩
  | .hbm, ⟨11, _⟩ => ⟨S8192x1024, .bf16⟩
  | .hbm, ⟨12, _⟩ => ⟨S8x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S8x1024, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev main_v5_2 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S8x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== LossReferenceIdeal.lean ====
abbrev S4x2048x1024 : Shape := ⟨3, ![4, 2048, 1024]⟩
abbrev S1024x1024 : Shape := ⟨2, ![1024, 1024]⟩
abbrev S1x1024 : Shape := ⟨2, ![1, 1024]⟩
abbrev S1024 : Shape := ⟨1, ![1024]⟩
abbrev S_ : Shape := ⟨0, ![]⟩
abbrev S4x2048 : Shape := ⟨2, ![4, 2048]⟩
abbrev S4x2048x1 : Shape := ⟨3, ![4, 2048, 1]⟩
abbrev S1x1x1024 : Shape := ⟨3, ![1, 1, 1024]⟩
abbrev S6x1024 : Shape := ⟨2, ![6, 1024]⟩
abbrev S8x1024 : Shape := ⟨2, ![8, 1024]⟩
abbrev S8192x1024 : Shape := ⟨2, ![8192, 1024]⟩

abbrev nBuf : Space → Nat
  | .hbm => 87
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S1024x1024, .f32⟩
  | .hbm, ⟨2, _⟩ => ⟨S4x2048x1024, .f32⟩
  | .hbm, ⟨3, _⟩ => ⟨S4x2048x1024, .f32⟩
  | .hbm, ⟨4, _⟩ => ⟨S1x1024, .f32⟩
  | .hbm, ⟨5, _⟩ => ⟨S4x2048x1024, .f32⟩
  | .hbm, ⟨6, _⟩ => ⟨S1024, .f32⟩
  | .hbm, ⟨7, _⟩ => ⟨S4x2048x1024, .f32⟩
  | .hbm, ⟨8, _⟩ => ⟨S_, .f32⟩
  | .hbm, ⟨9, _⟩ => ⟨S4x2048, .f32⟩
  | .hbm, ⟨10, _⟩ => ⟨S4x2048x1, .f32⟩
  | .hbm, ⟨11, _⟩ => ⟨S_, .f32⟩
  | .hbm, ⟨12, _⟩ => ⟨S4x2048x1, .f32⟩
  | .hbm, ⟨13, _⟩ => ⟨S4x2048x1, .f32⟩
  | .hbm, ⟨14, _⟩ => ⟨S_, .f32⟩
  | .hbm, ⟨15, _⟩ => ⟨S4x2048x1, .f32⟩
  | .hbm, ⟨16, _⟩ => ⟨S4x2048x1, .f32⟩
  | .hbm, ⟨17, _⟩ => ⟨S4x2048x1, .f32⟩
  | .hbm, ⟨18, _⟩ => ⟨S4x2048x1, .f32⟩
  | .hbm, ⟨19, _⟩ => ⟨S_, .f32⟩
  | .hbm, ⟨20, _⟩ => ⟨S4x2048x1, .f32⟩
  | .hbm, ⟨21, _⟩ => ⟨S4x2048x1, .f32⟩
  | .hbm, ⟨22, _⟩ => ⟨S4x2048x1024, .f32⟩
  | .hbm, ⟨23, _⟩ => ⟨S4x2048x1024, .f32⟩
  | .hbm, ⟨24, _⟩ => ⟨S1x1x1024, .f32⟩
  | .hbm, ⟨25, _⟩ => ⟨S4x2048x1024, .f32⟩
  | .hbm, ⟨26, _⟩ => ⟨S4x2048x1024, .f32⟩
  | .hbm, ⟨27, _⟩ => ⟨S4x2048x1024, .f32⟩
  | .hbm, ⟨28, _⟩ => ⟨S4x2048x1024, .f32⟩
  | .hbm, ⟨29, _⟩ => ⟨S4x2048x1024, .f32⟩
  | .hbm, ⟨30, _⟩ => ⟨S_, .f32⟩
  | .hbm, ⟨31, _⟩ => ⟨S4x2048x1024, .f32⟩
  | .hbm, ⟨32, _⟩ => ⟨S4x2048x1024, .f32⟩
  | .hbm, ⟨33, _⟩ => ⟨S_, .f32⟩
  | .hbm, ⟨34, _⟩ => ⟨S4x2048, .f32⟩
  | .hbm, ⟨35, _⟩ => ⟨S_, .f32⟩
  | .hbm, ⟨36, _⟩ => ⟨S4x2048, .f32⟩
  | .hbm, ⟨37, _⟩ => ⟨S4x2048, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S4x2048, .f32⟩
  | .hbm, ⟨46, _⟩ => ⟨S_, .f32⟩
  | .hbm, ⟨47, _⟩ => ⟨S4x2048, .f32⟩
  | .hbm, ⟨48, _⟩ => ⟨S4x2048, .f32⟩
  | .hbm, ⟨49, _⟩ => ⟨S4x2048x1024, .f32⟩
  | .hbm, ⟨50, _⟩ => ⟨S4x2048x1024, .f32⟩
  | .hbm, ⟨51, _⟩ => ⟨S4x2048x1024, .f32⟩
  | .hbm, ⟨52, _⟩ => ⟨S_, .f32⟩
  | .hbm, ⟨53, _⟩ => ⟨S1024, .f32⟩
  | .hbm, ⟨54, _⟩ => ⟨S1x1x1024, .f32⟩
  | .hbm, ⟨55, _⟩ => ⟨S4x2048x1024, .f32⟩
  | .hbm, ⟨56, _⟩ => ⟨S4x2048x1024, .f32⟩
  | .hbm, ⟨57, _⟩ => ⟨S_, .f32⟩
  | .hbm, ⟨58, _⟩ => ⟨S1024, .f32⟩
  | .hbm, ⟨59, _⟩ => ⟨S4x2048x1024, .f32⟩
  | .hbm, ⟨60, _⟩ => ⟨S_, .f32⟩
  | .hbm, ⟨61, _⟩ => ⟨S4x2048, .f32⟩
  | .hbm, ⟨62, _⟩ => ⟨S4x2048x1, .f32⟩
  | .hbm, ⟨63, _⟩ => ⟨S4x2048x1024, .f32⟩
  | .hbm, ⟨64, _⟩ => ⟨S4x2048x1024, .f32⟩
  | .hbm, ⟨65, _⟩ => ⟨S4x2048x1, .f32⟩
  | .hbm, ⟨66, _⟩ => ⟨S_, .f32⟩
  | .hbm, ⟨67, _⟩ => ⟨S4x2048x1, .f32⟩
  | .hbm, ⟨68, _⟩ => ⟨S4x2048x1, .f32⟩
  | .hbm, ⟨69, _⟩ => ⟨S_, .f32⟩
  | .hbm, ⟨70, _⟩ => ⟨S4x2048, .f32⟩
  | .hbm, ⟨71, _⟩ => ⟨S4x2048x1024, .f32⟩
  | .hbm, ⟨72, _⟩ => ⟨S4x2048x1024, .f32⟩
  | .hbm, ⟨73, _⟩ => ⟨S4x2048x1024, .f32⟩
  | .hbm, ⟨74, _⟩ => ⟨S4x2048x1024, .f32⟩
  | .hbm, ⟨75, _⟩ => ⟨S4x2048x1024, .f32⟩
  | .hbm, ⟨76, _⟩ => ⟨S1x1024, .f32⟩
  | .hbm, ⟨77, _⟩ => ⟨S4x2048x1024, .f32⟩
  | .hbm, ⟨78, _⟩ => ⟨S_, .f32⟩
  | .hbm, ⟨79, _⟩ => ⟨S1024, .f32⟩
  | .hbm, ⟨80, _⟩ => ⟨S1x1024, .f32⟩
  | .hbm, ⟨81, _⟩ => ⟨S_, .f32⟩
  | .hbm, ⟨82, _⟩ => ⟨S6x1024, .f32⟩
  | .hbm, ⟨83, _⟩ => ⟨S8x1024, .f32⟩
  | .hbm, ⟨84, _⟩ => ⟨S8192x1024, .f32⟩
  | .hbm, ⟨85, _⟩ => ⟨S8192x1024, .f32⟩
  | .hbm, ⟨86, _⟩ => ⟨S8192x1024, .bf16⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_cst_5 : Ref sig .tc := ⟨.hbm, 35, rfl⟩
abbrev main_v24 : Ref sig .tc := ⟨.hbm, 36, rfl⟩
abbrev main_v25 : Ref sig .tc := ⟨.hbm, 37, rfl⟩
abbrev main_cst_6 : Ref sig .tc := ⟨.hbm, 38, rfl⟩
abbrev main_v26 : Ref sig .tc := ⟨.hbm, 39, rfl⟩
abbrev main_cst_7 : Ref sig .tc := ⟨.hbm, 40, rfl⟩
abbrev main_v27 : Ref sig .tc := ⟨.hbm, 41, rfl⟩
abbrev main_cst_8 : Ref sig .tc := ⟨.hbm, 42, rfl⟩
abbrev main_cst_9 : Ref sig .tc := ⟨.hbm, 43, rfl⟩
abbrev main_v28 : Ref sig .tc := ⟨.hbm, 44, rfl⟩
abbrev main_v29 : Ref sig .tc := ⟨.hbm, 45, rfl⟩
abbrev main_cst_10 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_cst_11 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_12 : Ref sig .tc := ⟨.hbm, 57, rfl⟩
abbrev main_v39 : Ref sig .tc := ⟨.hbm, 58, rfl⟩
abbrev main_v40 : Ref sig .tc := ⟨.hbm, 59, rfl⟩
abbrev main_cst_13 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_cst_14 : Ref sig .tc := ⟨.hbm, 66, rfl⟩
abbrev main_v46 : Ref sig .tc := ⟨.hbm, 67, rfl⟩
abbrev main_v47 : Ref sig .tc := ⟨.hbm, 68, rfl⟩
abbrev main_cst_15 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_cst_16 : Ref sig .tc := ⟨.hbm, 78, rfl⟩
abbrev main_v56 : Ref sig .tc := ⟨.hbm, 79, rfl⟩
abbrev main_v57 : Ref sig .tc := ⟨.hbm, 80, rfl⟩
abbrev main_cst_17 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩

abbrev nD : Nat := 1
abbrev τ : Topo := Topo.v7x

variable {F : FTy → Type} [FloatOps F]
-- ==== NormKernel.lean ====
abbrev S4x2048x8208 : Shape := ⟨3, ![4, 2048, 8208]⟩
abbrev S1024x9232 : Shape := ⟨2, ![1024, 9232]⟩
abbrev S4x2048x1024 : Shape := ⟨3, ![4, 2048, 1024]⟩
abbrev S1x1024 : Shape := ⟨2, ![1, 1024]⟩
abbrev S9232x1024 : Shape := ⟨2, ![9232, 1024]⟩
abbrev S8192x8208 : Shape := ⟨2, ![8192, 8208]⟩
abbrev S8192x3072 : Shape := ⟨2, ![8192, 3072]⟩
abbrev S8192x3x8x128 : Shape := ⟨4, ![8192, 3, 8, 128]⟩
abbrev S8192x8x3x128 : Shape := ⟨4, ![8192, 8, 3, 128]⟩
abbrev S3072x1024 : Shape := ⟨2, ![3072, 1024]⟩
abbrev S3x8x128x1024 : Shape := ⟨4, ![3, 8, 128, 1024]⟩
abbrev S8x3x128x1024 : Shape := ⟨4, ![8, 3, 128, 1024]⟩
abbrev S8192x16 : Shape := ⟨2, ![8192, 16]⟩
abbrev S_ : Shape := ⟨0, ![]⟩
abbrev S8192x128 : Shape := ⟨2, ![8192, 128]⟩
abbrev S16x1024 : Shape := ⟨2, ![16, 1024]⟩
abbrev S128x1024 : Shape := ⟨2, ![128, 1024]⟩
abbrev S8192x1024 : Shape := ⟨2, ![8192, 1024]⟩
abbrev S1024x1024 : Shape := ⟨2, ![1024, 1024]⟩
abbrev S8x128 : Shape := ⟨2, ![8, 128]⟩
abbrev S8x1024 : Shape := ⟨2, ![8, 1024]⟩
abbrev S256x3072 : Shape := ⟨2, ![256, 3072]⟩
abbrev S256x128 : Shape := ⟨2, ![256, 128]⟩
abbrev S256x1024 : Shape := ⟨2, ![256, 1024]⟩
abbrev S256 : Shape := ⟨1, ![256]⟩
abbrev S256x1 : Shape := ⟨2, ![256, 1]⟩
abbrev S1024 : Shape := ⟨1, ![1024]⟩

abbrev nBuf : Space → Nat
  | .hbm => 47
  | .vmem => 30
  | .smem => 0
  | _ => 0

abbrev bufTy : (tb : Table) → Fin (tcTables nBuf tb) → BufTy
  | .hbm, ⟨0, _⟩ => ⟨S4x2048x8208, .f32⟩
  | .hbm, ⟨1, _⟩ => ⟨S1024x9232, .f32⟩
  | .hbm, ⟨2, _⟩ => ⟨S4x2048x1024, .f32⟩
  | .hbm, ⟨3, _⟩ => ⟨S4x2048x1024, .f32⟩
  | .hbm, ⟨4, _⟩ => ⟨S1x1024, .f32⟩
  | .hbm, ⟨5, _⟩ => ⟨S9232x1024, .f32⟩
  | .hbm, ⟨6, _⟩ => ⟨S9232x1024, .bf16⟩
  | .hbm, ⟨7, _⟩ => ⟨S8192x8208, .f32⟩
  | .hbm, ⟨8, _⟩ => ⟨S8192x3072, .f32⟩
  | .hbm, ⟨9, _⟩ => ⟨S8192x3x8x128, .f32⟩
  | .hbm, ⟨10, _⟩ => ⟨S8192x8x3x128, .f32⟩
  | .hbm, ⟨11, _⟩ => ⟨S8192x3072, .f32⟩
  | .hbm, ⟨12, _⟩ => ⟨S8192x3072, .bf16⟩
  | .hbm, ⟨13, _⟩ => ⟨S3072x1024, .bf16⟩
  | .hbm, ⟨14, _⟩ => ⟨S3x8x128x1024, .bf16⟩
  | .hbm, ⟨15, _⟩ => ⟨S8x3x128x1024, .bf16⟩
  | .hbm, ⟨16, _⟩ => ⟨S3072x1024, .bf16⟩
  | .hbm, ⟨17, _⟩ => ⟨S8192x16, .f32⟩
  | .hbm, ⟨18, _⟩ => ⟨S_, .i32⟩
  | .hbm, ⟨19, _⟩ => ⟨S_, .f32⟩
  | .hbm, ⟨20, _⟩ => ⟨S8192x128, .f32⟩
  | .hbm, ⟨21, _⟩ => ⟨S8192x128, .bf16⟩
  | .hbm, ⟨22, _⟩ => ⟨S16x1024, .bf16⟩
  | .hbm, ⟨23, _⟩ => ⟨S_, .i32⟩
  | .hbm, ⟨24, _⟩ => ⟨S_, .bf16⟩
  | .hbm, ⟨25, _⟩ => ⟨S128x1024, .bf16⟩
  | .hbm, ⟨26, _⟩ => ⟨S8192x1024, .f32⟩
  | .hbm, ⟨27, _⟩ => ⟨S8192x1024, .bf16⟩
  | .hbm, ⟨28, _⟩ => ⟨S1024x1024, .bf16⟩
  | .hbm, ⟨29, _⟩ => ⟨S8192x1024, .f32⟩
  | .hbm, ⟨30, _⟩ => ⟨S8192x1024, .bf16⟩
  | .hbm, ⟨31, _⟩ => ⟨S1024x1024, .bf16⟩
  | .hbm, ⟨32, _⟩ => ⟨S8192x1024, .f32⟩
  | .hbm, ⟨33, _⟩ => ⟨S8192x1024, .bf16⟩
  | .hbm, ⟨34, _⟩ => ⟨S1024x1024, .bf16⟩
  | .hbm, ⟨35, _⟩ => ⟨S8192x1024, .f32⟩
  | .hbm, ⟨36, _⟩ => ⟨S8192x1024, .bf16⟩
  | .hbm, ⟨37, _⟩ => ⟨S1024x1024, .bf16⟩
  | .hbm, ⟨38, _⟩ => ⟨S8192x1024, .f32⟩
  | .hbm, ⟨39, _⟩ => ⟨S8192x1024, .bf16⟩
  | .hbm, ⟨40, _⟩ => ⟨S1024x1024, .bf16⟩
  | .hbm, ⟨41, _⟩ => ⟨S_, .f32⟩
  | .hbm, ⟨42, _⟩ => ⟨S8x128, .f32⟩
  | .hbm, ⟨43, _⟩ => ⟨S8192x1024, .f32⟩
  | .hbm, ⟨44, _⟩ => ⟨S8192x1024, .f32⟩
  | .hbm, ⟨45, _⟩ => ⟨S8192x1024, .f32⟩
  | .hbm, ⟨46, _⟩ => ⟨S8x1024, .f32⟩
  | .local _ .vmem, ⟨0, _⟩ => ⟨S256x3072, .bf16⟩
  | .local _ .vmem, ⟨1, _⟩ => ⟨S256x3072, .bf16⟩
  | .local _ .vmem, ⟨2, _⟩ => ⟨S256x128, .bf16⟩
  | .local _ .vmem, ⟨3, _⟩ => ⟨S256x128, .bf16⟩
  | .local _ .vmem, ⟨4, _⟩ => ⟨S256x1024, .bf16⟩
  | .local _ .vmem, ⟨5, _⟩ => ⟨S256x1024, .bf16⟩
  | .local _ .vmem, ⟨6, _⟩ => ⟨S256x1024, .bf16⟩
  | .local _ .vmem, ⟨7, _⟩ => ⟨S256x1024, .bf16⟩
  | .local _ .vmem, ⟨8, _⟩ => ⟨S256x1024, .bf16⟩
  | .local _ .vmem, ⟨9, _⟩ => ⟨S256x1024, .bf16⟩
  | .local _ .vmem, ⟨10, _⟩ => ⟨S256x1024, .bf16⟩
  | .local _ .vmem, ⟨11, _⟩ => ⟨S256x1024, .bf16⟩
  | .local _ .vmem, ⟨12, _⟩ => ⟨S256x1024, .bf16⟩
  | .local _ .vmem, ⟨13, _⟩ => ⟨S256x1024, .bf16⟩
  | .local _ .vmem, ⟨14, _⟩ => ⟨S3072x1024, .bf16⟩
  | .local _ .vmem, ⟨15, _⟩ => ⟨S128x1024, .bf16⟩
  | .local _ .vmem, ⟨16, _⟩ => ⟨S1024x1024, .bf16⟩
  | .local _ .vmem, ⟨17, _⟩ => ⟨S1024x1024, .bf16⟩
  | .local _ .vmem, ⟨18, _⟩ => ⟨S1024x1024, .bf16⟩
  | .local _ .vmem, ⟨19, _⟩ => ⟨S1024x1024, .bf16⟩
  | .local _ .vmem, ⟨20, _⟩ => ⟨S1024x1024, .bf16⟩
  | .local _ .vmem, ⟨21, _⟩ => ⟨S8x128, .f32⟩
  | .local _ .vmem, ⟨22, _⟩ => ⟨S256x1024, .f32⟩
  | .local _ .vmem, ⟨23, _⟩ => ⟨S256x1024, .f32⟩
  | .local _ .vmem, ⟨24, _⟩ => ⟨S256x1024, .f32⟩
  | .local _ .vmem, ⟨25, _⟩ => ⟨S256x1024, .f32⟩
  | .local _ .vmem, ⟨26, _⟩ => ⟨S1x1024, .f32⟩
  | .local _ .vmem, ⟨27, _⟩ => ⟨S256x1024, .f32⟩
  | .local _ .vmem, ⟨28, _⟩ => ⟨S256x1024, .f32⟩
  | .local _ .vmem, ⟨29, _⟩ => ⟨S8x1024, .f32⟩
  | _, _ => ⟨S4x2048x8208, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_c : Ref sig .tc := ⟨.hbm, 18, rfl⟩
abbrev main_call0_v0 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_c_0 : Ref sig .tc := ⟨.hbm, 23, rfl⟩
abbrev main_call1_v0 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_cst : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35_0 : Ref sig .tc := ⟨.hbm, 45, rfl⟩
abbrev main_v35_1 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg14_0 : Ref sig .tc := ⟨.vmem, 21, rfl⟩
abbrev cc0_stg15_0 : Ref sig .tc := ⟨.vmem, 22, rfl⟩
abbrev cc0_stg15_1 : Ref sig .tc := ⟨.vmem, 23, rfl⟩
abbrev cc0_stg16_0 : Ref sig .tc := ⟨.vmem, 24, rfl⟩
abbrev cc0_stg16_1 : Ref sig .tc := ⟨.vmem, 25, rfl⟩
abbrev cc0_stg17_0 : Ref sig .tc := ⟨.vmem, 26, rfl⟩
abbrev cc0_stg18_0 : Ref sig .tc := ⟨.vmem, 27, rfl⟩
abbrev cc0_stg18_1 : Ref sig .tc := ⟨.vmem, 28, rfl⟩
abbrev cc0_stg19_0 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem12_0 : DmaSem sig := 19
abbrev cc0_sem13_0 : DmaSem sig := 20
abbrev cc0_sem14_0 : DmaSem sig := 21
abbrev cc0_sem15_0 : DmaSem sig := 22
abbrev cc0_sem15_1 : DmaSem sig := 23
abbrev cc0_sem16_0 : DmaSem sig := 24
abbrev cc0_sem16_1 : DmaSem sig := 25
abbrev cc0_sem17_0 : DmaSem sig := 26
abbrev cc0_sem18_0 : DmaSem sig := 27
abbrev cc0_sem18_1 : DmaSem sig := 28
abbrev cc0_sem19_0 : DmaSem sig := 29

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S3072x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1024x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1024x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S8x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S256x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 1 → Memref sig .tc .vmem S1x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 2 → Memref sig .tc .vmem S256x1024 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 1 → Memref sig .tc .vmem S8x1024 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]
-- ==== NormReferenceIdeal.lean ====
abbrev S4x2048x8208 : Shape := ⟨3, ![4, 2048, 8208]⟩
abbrev S1024x9232 : Shape := ⟨2, ![1024, 9232]⟩
abbrev S4x2048x1024 : Shape := ⟨3, ![4, 2048, 1024]⟩
abbrev S1x1024 : Shape := ⟨2, ![1, 1024]⟩
abbrev S1024 : Shape := ⟨1, ![1024]⟩
abbrev S_ : Shape := ⟨0, ![]⟩
abbrev S4x2048 : Shape := ⟨2, ![4, 2048]⟩
abbrev S4x2048x1 : Shape := ⟨3, ![4, 2048, 1]⟩
abbrev S1x1x1024 : Shape := ⟨3, ![1, 1, 1024]⟩
abbrev S4x2048x9232 : Shape := ⟨3, ![4, 2048, 9232]⟩
abbrev S8192x1024 : Shape := ⟨2, ![8192, 1024]⟩
abbrev S7x1024 : Shape := ⟨2, ![7, 1024]⟩
abbrev S8x1024 : Shape := ⟨2, ![8, 1024]⟩

abbrev nBuf : Space → Nat
  | .hbm => 62
  | .vmem => 0
  | .smem => 0
  | _ => 0

abbrev bufTy : (tb : Table) → Fin (tcTables nBuf tb) → BufTy
  | .hbm, ⟨0, _⟩ => ⟨S4x2048x8208, .f32⟩
  | .hbm, ⟨1, _⟩ => ⟨S1024x9232, .f32⟩
  | .hbm, ⟨2, _⟩ => ⟨S4x2048x1024, .f32⟩
  | .hbm, ⟨3, _⟩ => ⟨S4x2048x1024, .f32⟩
  | .hbm, ⟨4, _⟩ => ⟨S1x1024, .f32⟩
  | .hbm, ⟨5, _⟩ => ⟨S1024, .f32⟩
  | .hbm, ⟨6, _⟩ => ⟨S4x2048x1024, .f32⟩
  | .hbm, ⟨7, _⟩ => ⟨S_, .f32⟩
  | .hbm, ⟨8, _⟩ => ⟨S4x2048, .f32⟩
  | .hbm, ⟨9, _⟩ => ⟨S4x2048x1, .f32⟩
  | .hbm, ⟨10, _⟩ => ⟨S_, .f32⟩
  | .hbm, ⟨11, _⟩ => ⟨S4x2048x1, .f32⟩
  | .hbm, ⟨12, _⟩ => ⟨S4x2048x1, .f32⟩
  | .hbm, ⟨13, _⟩ => ⟨S_, .f32⟩
  | .hbm, ⟨14, _⟩ => ⟨S4x2048x1, .f32⟩
  | .hbm, ⟨15, _⟩ => ⟨S4x2048x1, .f32⟩
  | .hbm, ⟨16, _⟩ => ⟨S4x2048x1, .f32⟩
  | .hbm, ⟨17, _⟩ => ⟨S4x2048x1, .f32⟩
  | .hbm, ⟨18, _⟩ => ⟨S_, .f32⟩
  | .hbm, ⟨19, _⟩ => ⟨S4x2048x1, .f32⟩
  | .hbm, ⟨20, _⟩ => ⟨S4x2048x1, .f32⟩
  | .hbm, ⟨21, _⟩ => ⟨S4x2048x1024, .f32⟩
  | .hbm, ⟨22, _⟩ => ⟨S4x2048x1024, .f32⟩
  | .hbm, ⟨23, _⟩ => ⟨S1x1x1024, .f32⟩
  | .hbm, ⟨24, _⟩ => ⟨S4x2048x1024, .f32⟩
  | .hbm, ⟨25, _⟩ => ⟨S4x2048x1024, .f32⟩
  | .hbm, ⟨26, _⟩ => ⟨S4x2048x9232, .f32⟩
  | .hbm, ⟨27, _⟩ => ⟨S4x2048x8208, .f32⟩
  | .hbm, ⟨28, _⟩ => ⟨S_, .f32⟩
  | .hbm, ⟨29, _⟩ => ⟨S4x2048x9232, .f32⟩
  | .hbm, ⟨30, _⟩ => ⟨S4x2048x1024, .f32⟩
  | .hbm, ⟨31, _⟩ => ⟨S4x2048x1024, .f32⟩
  | .hbm, ⟨32, _⟩ => ⟨S_, .f32⟩
  | .hbm, ⟨33, _⟩ => ⟨S1024, .f32⟩
  | .hbm, ⟨34, _⟩ => ⟨S1x1x1024, .f32⟩
  | .hbm, ⟨35, _⟩ => ⟨S4x2048x1024, .f32⟩
  | .hbm, ⟨36, _⟩ => ⟨S4x2048x1024, .f32⟩
  | .hbm, ⟨37, _⟩ => ⟨S_, .f32⟩
  | .hbm, ⟨38, _⟩ => ⟨S1024, .f32⟩
  | .hbm, ⟨39, _⟩ => ⟨S4x2048x1024, .f32⟩
  | .hbm, ⟨40, _⟩ => ⟨S_, .f32⟩
  | .hbm, ⟨41, _⟩ => ⟨S4x2048, .f32⟩
  | .hbm, ⟨42, _⟩ => ⟨S4x2048x1, .f32⟩
  | .hbm, ⟨43, _⟩ => ⟨S4x2048x1024, .f32⟩
  | .hbm, ⟨44, _⟩ => ⟨S4x2048x1024, .f32⟩
  | .hbm, ⟨45, _⟩ => ⟨S4x2048x1, .f32⟩
  | .hbm, ⟨46, _⟩ => ⟨S_, .f32⟩
  | .hbm, ⟨47, _⟩ => ⟨S4x2048x1, .f32⟩
  | .hbm, ⟨48, _⟩ => ⟨S4x2048x1, .f32⟩
  | .hbm, ⟨49, _⟩ => ⟨S_, .f32⟩
  | .hbm, ⟨50, _⟩ => ⟨S4x2048, .f32⟩
  | .hbm, ⟨51, _⟩ => ⟨S4x2048x1024, .f32⟩
  | .hbm, ⟨52, _⟩ => ⟨S4x2048x1024, .f32⟩
  | .hbm, ⟨53, _⟩ => ⟨S4x2048x1024, .f32⟩
  | .hbm, ⟨54, _⟩ => ⟨S4x2048x1024, .f32⟩
  | .hbm, ⟨55, _⟩ => ⟨S4x2048x1024, .f32⟩
  | .hbm, ⟨56, _⟩ => ⟨S1x1024, .f32⟩
  | .hbm, ⟨57, _⟩ => ⟨S4x2048x1024, .f32⟩
  | .hbm, ⟨58, _⟩ => ⟨S8192x1024, .f32⟩
  | .hbm, ⟨59, _⟩ => ⟨S_, .f32⟩
  | .hbm, ⟨60, _⟩ => ⟨S7x1024, .f32⟩
  | .hbm, ⟨61, _⟩ => ⟨S8x1024, .f32⟩
  | _, _ => ⟨S4x2048x8208, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_4 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_5 : Ref sig .tc := ⟨.hbm, 37, rfl⟩
abbrev main_v26 : Ref sig .tc := ⟨.hbm, 38, rfl⟩
abbrev main_v27 : Ref sig .tc := ⟨.hbm, 39, rfl⟩
abbrev main_cst_6 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_7 : Ref sig .tc := ⟨.hbm, 46, rfl⟩
abbrev main_v33 : Ref sig .tc := ⟨.hbm, 47, rfl⟩
abbrev main_v34 : Ref sig .tc := ⟨.hbm, 48, rfl⟩
abbrev main_cst_8 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_cst_9 : Ref sig .tc := ⟨.hbm, 59, rfl⟩
abbrev main_v44 : Ref sig .tc := ⟨.hbm, 60, rfl⟩
abbrev main_v45 : Ref sig .tc := ⟨.hbm, 61, rfl⟩

abbrev nD : Nat := 1
abbrev τ : Topo := Topo.v7x

variable {F : FTy → Type} [FloatOps F]
-- ==== JoinKernel.lean ====
abbrev S4x2048x1024 : Shape := ⟨3, ![4, 2048, 1024]⟩
abbrev S4x2048x9232 : Shape := ⟨3, ![4, 2048, 9232]⟩
abbrev S1024x1024 : Shape := ⟨2, ![1024, 1024]⟩
abbrev S8192x1024 : Shape := ⟨2, ![8192, 1024]⟩
abbrev S4x2048x5120 : Shape := ⟨3, ![4, 2048, 5120]⟩
abbrev S8192x5120 : Shape := ⟨2, ![8192, 5120]⟩
abbrev S512x1024 : Shape := ⟨2, ![512, 1024]⟩

abbrev nBuf : Space → Nat
  | .hbm => 17
  | .vmem => 16
  | .smem => 0
  | _ => 0

abbrev bufTy : (tb : Table) → Fin (tcTables nBuf tb) → BufTy
  | .hbm, ⟨0, _⟩ => ⟨S4x2048x1024, .f32⟩
  | .hbm, ⟨1, _⟩ => ⟨S4x2048x1024, .f32⟩
  | .hbm, ⟨2, _⟩ => ⟨S4x2048x9232, .f32⟩
  | .hbm, ⟨3, _⟩ => ⟨S1024x1024, .f32⟩
  | .hbm, ⟨4, _⟩ => ⟨S1024x1024, .f32⟩
  | .hbm, ⟨5, _⟩ => ⟨S8192x1024, .f32⟩
  | .hbm, ⟨6, _⟩ => ⟨S8192x1024, .bf16⟩
  | .hbm, ⟨7, _⟩ => ⟨S8192x1024, .f32⟩
  | .hbm, ⟨8, _⟩ => ⟨S8192x1024, .bf16⟩
  | .hbm, ⟨9, _⟩ => ⟨S1024x1024, .bf16⟩
  | .hbm, ⟨10, _⟩ => ⟨S1024x1024, .bf16⟩
  | .hbm, ⟨11, _⟩ => ⟨S4x2048x5120, .f32⟩
  | .hbm, ⟨12, _⟩ => ⟨S4x2048x5120, .bf16⟩
  | .hbm, ⟨13, _⟩ => ⟨S8192x5120, .bf16⟩
  | .hbm, ⟨14, _⟩ => ⟨S8192x1024, .bf16⟩
  | .hbm, ⟨15, _⟩ => ⟨S8192x1024, .bf16⟩
  | .hbm, ⟨16, _⟩ => ⟨S8192x1024, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S1024x1024, .bf16⟩
  | .local _ .vmem, ⟨5, _⟩ => ⟨S1024x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9_0 : Ref sig .tc := ⟨.hbm, 14, rfl⟩
abbrev main_v9_1 : Ref sig .tc := ⟨.hbm, 15, rfl⟩
abbrev main_v9_2 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨2, ![16, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.addi c3_i32 arg1
  let c0_i32 : BitVec 32 := 0#32
  ![arg0.toNat, v0.toNat]

def cc0_transform_5 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  ![arg0.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== JoinReferenceIdeal.lean ====
abbrev S4x2048x1024 : Shape := ⟨3, ![4, 2048, 1024]⟩
abbrev S4x2048x9232 : Shape := ⟨3, ![4, 2048, 9232]⟩
abbrev S1024x1024 : Shape := ⟨2, ![1024, 1024]⟩
abbrev S4x2048x16 : Shape := ⟨3, ![4, 2048, 16]⟩
abbrev S_ : Shape := ⟨0, ![]⟩
abbrev S8192x1024 : Shape := ⟨2, ![8192, 1024]⟩

abbrev nBuf : Space → Nat
  | .hbm => 41
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S4x2048x1024, .f32⟩
  | .hbm, ⟨2, _⟩ => ⟨S4x2048x9232, .f32⟩
  | .hbm, ⟨3, _⟩ => ⟨S1024x1024, .f32⟩
  | .hbm, ⟨4, _⟩ => ⟨S1024x1024, .f32⟩
  | .hbm, ⟨5, _⟩ => ⟨S4x2048x1024, .f32⟩
  | .hbm, ⟨6, _⟩ => ⟨S4x2048x1024, .f32⟩
  | .hbm, ⟨7, _⟩ => ⟨S4x2048x1024, .f32⟩
  | .hbm, ⟨8, _⟩ => ⟨S4x2048x16, .f32⟩
  | .hbm, ⟨9, _⟩ => ⟨S4x2048x1024, .f32⟩
  | .hbm, ⟨10, _⟩ => ⟨S4x2048x1024, .f32⟩
  | .hbm, ⟨11, _⟩ => ⟨S4x2048x1024, .f32⟩
  | .hbm, ⟨12, _⟩ => ⟨S4x2048x1024, .f32⟩
  | .hbm, ⟨13, _⟩ => ⟨S4x2048x1024, .f32⟩
  | .hbm, ⟨14, _⟩ => ⟨S4x2048x1024, .f32⟩
  | .hbm, ⟨15, _⟩ => ⟨S4x2048x1024, .f32⟩
  | .hbm, ⟨16, _⟩ => ⟨S4x2048x1024, .f32⟩
  | .hbm, ⟨17, _⟩ => ⟨S4x2048x1024, .f32⟩
  | .hbm, ⟨18, _⟩ => ⟨S_, .f32⟩
  | .hbm, ⟨19, _⟩ => ⟨S4x2048x1024, .f32⟩
  | .hbm, ⟨20, _⟩ => ⟨S4x2048x1024, .f32⟩
  | .hbm, ⟨21, _⟩ => ⟨S_, .f32⟩
  | .hbm, ⟨22, _⟩ => ⟨S4x2048x1024, .f32⟩
  | .hbm, ⟨23, _⟩ => ⟨S4x2048x1024, .f32⟩
  | .hbm, ⟨24, _⟩ => ⟨S4x2048x1024, .f32⟩
  | .hbm, ⟨25, _⟩ => ⟨S4x2048x1024, .f32⟩
  | .hbm, ⟨26, _⟩ => ⟨S4x2048x1024, .f32⟩
  | .hbm, ⟨27, _⟩ => ⟨S_, .f32⟩
  | .hbm, ⟨28, _⟩ => ⟨S4x2048x1024, .f32⟩
  | .hbm, ⟨29, _⟩ => ⟨S4x2048x1024, .f32⟩
  | .hbm, ⟨30, _⟩ => ⟨S_, .f32⟩
  | .hbm, ⟨31, _⟩ => ⟨S4x2048x1024, .f32⟩
  | .hbm, ⟨32, _⟩ => ⟨S4x2048x1024, .f32⟩
  | .hbm, ⟨33, _⟩ => ⟨S4x2048x1024, .f32⟩
  | .hbm, ⟨34, _⟩ => ⟨S4x2048x1024, .f32⟩
  | .hbm, ⟨35, _⟩ => ⟨S8192x1024, .f32⟩
  | .hbm, ⟨36, _⟩ => ⟨S8192x1024, .bf16⟩
  | .hbm, ⟨37, _⟩ => ⟨S8192x1024, .f32⟩
  | .hbm, ⟨38, _⟩ => ⟨S8192x1024, .bf16⟩
  | .hbm, ⟨39, _⟩ => ⟨S8192x1024, .f32⟩
  | .hbm, ⟨40, _⟩ => ⟨S8192x1024, .bf16⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst : Ref sig .tc := ⟨.hbm, 18, rfl⟩
abbrev main_v13 : Ref sig .tc := ⟨.hbm, 19, rfl⟩
abbrev main_v14 : Ref sig .tc := ⟨.hbm, 20, rfl⟩
abbrev main_cst_0 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_1 : Ref sig .tc := ⟨.hbm, 27, rfl⟩
abbrev main_v20 : Ref sig .tc := ⟨.hbm, 28, rfl⟩
abbrev main_v21 : Ref sig .tc := ⟨.hbm, 29, rfl⟩
abbrev main_cst_2 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩

abbrev nD : Nat := 1
abbrev τ : Topo := Topo.v7x

variable {F : FTy → Type} [FloatOps F]
-- ==== FoxKernel.lean ====
abbrev S4x2048x16x64 : Shape := ⟨4, ![4, 2048, 16, 64]⟩
abbrev S4x2048x16 : Shape := ⟨3, ![4, 2048, 16]⟩
abbrev S4x2048x5120 : Shape := ⟨3, ![4, 2048, 5120]⟩
abbrev S4x2048x1024 : Shape := ⟨3, ![4, 2048, 1024]⟩
abbrev S4x2048x3072 : Shape := ⟨3, ![4, 2048, 3072]⟩
abbrev S4x2048x3x8x128 : Shape := ⟨5, ![4, 2048, 3, 8, 128]⟩
abbrev S4x2048x8x3x128 : Shape := ⟨5, ![4, 2048, 8, 3, 128]⟩
abbrev S4x16x2048 : Shape := ⟨3, ![4, 16, 2048]⟩
abbrev S4x8x2x8x256 : Shape := ⟨5, ![4, 8, 2, 8, 256]⟩
abbrev S8192x1024 : Shape := ⟨2, ![8192, 1024]⟩
abbrev S1x2048x384 : Shape := ⟨3, ![1, 2048, 384]⟩
abbrev S1x2048x128 : Shape := ⟨3, ![1, 2048, 128]⟩
abbrev S1x1x2x8x256 : Shape := ⟨5, ![1, 1, 2, 8, 256]⟩
abbrev S2048x128 : Shape := ⟨2, ![2048, 128]⟩
abbrev S2x8x128x256 : Shape := ⟨4, ![2, 8, 128, 256]⟩
abbrev S2x8x256x128 : Shape := ⟨4, ![2, 8, 256, 128]⟩
abbrev S1x128 : Shape := ⟨2, ![1, 128]⟩
abbrev S128x1 : Shape := ⟨2, ![128, 1]⟩
abbrev S256x256 : Shape := ⟨2, ![256, 256]⟩
abbrev S1x256x128 : Shape := ⟨3, ![1, 256, 128]⟩
abbrev S256x128 : Shape := ⟨2, ![256, 128]⟩
abbrev S128x256 : Shape := ⟨2, ![128, 256]⟩
abbrev S1x1x1x1x256 : Shape := ⟨5, ![1, 1, 1, 1, 256]⟩
abbrev S1x256 : Shape := ⟨2, ![1, 256]⟩
abbrev S1x1x128x256 : Shape := ⟨4, ![1, 1, 128, 256]⟩
abbrev S1x1x256x128 : Shape := ⟨4, ![1, 1, 256, 128]⟩
abbrev S256x1 : Shape := ⟨2, ![256, 1]⟩
abbrev S256 : Shape := ⟨1, ![256]⟩

abbrev nBuf : Space → Nat
  | .hbm => 21
  | .vmem => 16
  | .smem => 0
  | _ => 0

abbrev bufTy : (tb : Table) → Fin (tcTables nBuf tb) → BufTy
  | .hbm, ⟨0, _⟩ => ⟨S4x2048x16x64, .f32⟩
  | .hbm, ⟨1, _⟩ => ⟨S4x2048x16x64, .f32⟩
  | .hbm, ⟨2, _⟩ => ⟨S4x2048x16x64, .f32⟩
  | .hbm, ⟨3, _⟩ => ⟨S4x2048x16, .f32⟩
  | .hbm, ⟨4, _⟩ => ⟨S4x2048x5120, .f32⟩
  | .hbm, ⟨5, _⟩ => ⟨S4x2048x1024, .f32⟩
  | .hbm, ⟨6, _⟩ => ⟨S4x2048x1024, .f32⟩
  | .hbm, ⟨7, _⟩ => ⟨S4x2048x1024, .f32⟩
  | .hbm, ⟨8, _⟩ => ⟨S4x2048x3072, .f32⟩
  | .hbm, ⟨9, _⟩ => ⟨S4x2048x3x8x128, .f32⟩
  | .hbm, ⟨10, _⟩ => ⟨S4x2048x8x3x128, .f32⟩
  | .hbm, ⟨11, _⟩ => ⟨S4x2048x3072, .f32⟩
  | .hbm, ⟨12, _⟩ => ⟨S4x2048x3072, .bf16⟩
  | .hbm, ⟨13, _⟩ => ⟨S4x16x2048, .f32⟩
  | .hbm, ⟨14, _⟩ => ⟨S4x2048x16x64, .f32⟩
  | .hbm, ⟨15, _⟩ => ⟨S4x2048x1024, .f32⟩
  | .hbm, ⟨16, _⟩ => ⟨S4x2048x5120, .bf16⟩
  | .hbm, ⟨17, _⟩ => ⟨S4x8x2x8x256, .f32⟩
  | .hbm, ⟨18, _⟩ => ⟨S4x2048x1024, .f32⟩
  | .hbm, ⟨19, _⟩ => ⟨S4x8x2x8x256, .f32⟩
  | .hbm, ⟨20, _⟩ => ⟨S8192x1024, .bf16⟩
  | .local _ .vmem, ⟨0, _⟩ => ⟨S1x2048x384, .bf16⟩
  | .local _ .vmem, ⟨1, _⟩ => ⟨S1x2048x384, .bf16⟩
  | .local _ .vmem, ⟨2, _⟩ => ⟨S1x2048x128, .f32⟩
  | .local _ .vmem, ⟨3, _⟩ => ⟨S1x2048x128, .f32⟩
  | .local _ .vmem, ⟨4, _⟩ => ⟨S1x1x2x8x256, .f32⟩
  | .local _ .vmem, ⟨5, _⟩ => ⟨S1x1x2x8x256, .f32⟩
  | .local _ .vmem, ⟨6, _⟩ => ⟨S1x2048x128, .bf16⟩
  | .local _ .vmem, ⟨7, _⟩ => ⟨S1x2048x128, .bf16⟩
  | .local _ .vmem, ⟨8, _⟩ => ⟨S1x2048x128, .f32⟩
  | .local _ .vmem, ⟨9, _⟩ => ⟨S1x2048x128, .f32⟩
  | .local _ .vmem, ⟨10, _⟩ => ⟨S1x1x2x8x256, .f32⟩
  | .local _ .vmem, ⟨11, _⟩ => ⟨S1x1x2x8x256, .f32⟩
  | .local _ .vmem, ⟨12, _⟩ => ⟨S2048x128, .bf16⟩
  | .local _ .vmem, ⟨13, _⟩ => ⟨S2048x128, .bf16⟩
  | .local _ .vmem, ⟨14, _⟩ => ⟨S2x8x128x256, .bf16⟩
  | .local _ .vmem, ⟨15, _⟩ => ⟨S2x8x256x128, .bf16⟩
  | _, _ => ⟨S4x2048x16x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13_0 : Ref sig .tc := ⟨.hbm, 18, rfl⟩
abbrev main_v13_1 : Ref sig .tc := ⟨.hbm, 19, rfl⟩
abbrev main_v13_2 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_5 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1x2048x384 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x2x8x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x2x8x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S2048x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== FoxKernelIdeal.lean ====
variable {F : FTy → Type} [FloatOps F] [Named F]
def κ : String → Option EReal := fun
  | "mask" => some ⊥
  | _ => none
-- ==== FoxReferenceIdeal.lean ====
abbrev S4x2048x16x64 : Shape := ⟨4, ![4, 2048, 16, 64]⟩
abbrev S4x2048x16 : Shape := ⟨3, ![4, 2048, 16]⟩
abbrev S4x2048x5120 : Shape := ⟨3, ![4, 2048, 5120]⟩
abbrev S4x16x2048 : Shape := ⟨3, ![4, 16, 2048]⟩
abbrev S4x16x2048x2048 : Shape := ⟨4, ![4, 16, 2048, 2048]⟩
abbrev S_ : Shape := ⟨0, ![]⟩
abbrev S4x16x2048x1 : Shape := ⟨4, ![4, 16, 2048, 1]⟩
abbrev S4x16x1x2048 : Shape := ⟨4, ![4, 16, 1, 2048]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S1x1x2048x2048 : Shape := ⟨4, ![1, 1, 2048, 2048]⟩
abbrev S4x16x64x2048 : Shape := ⟨4, ![4, 16, 64, 2048]⟩
abbrev S4x2048x1024 : Shape := ⟨3, ![4, 2048, 1024]⟩
abbrev S4x8x2x8x256 : Shape := ⟨5, ![4, 8, 2, 8, 256]⟩
abbrev S8192x1024 : Shape := ⟨2, ![8192, 1024]⟩

abbrev nBuf : Space → Nat
  | .hbm => 70
  | .vmem => 0
  | .smem => 0
  | _ => 0

abbrev bufTy : (tb : Table) → Fin (tcTables nBuf tb) → BufTy
  | .hbm, ⟨0, _⟩ => ⟨S4x2048x16x64, .f32⟩
  | .hbm, ⟨1, _⟩ => ⟨S4x2048x16x64, .f32⟩
  | .hbm, ⟨2, _⟩ => ⟨S4x2048x16x64, .f32⟩
  | .hbm, ⟨3, _⟩ => ⟨S4x2048x16, .f32⟩
  | .hbm, ⟨4, _⟩ => ⟨S4x2048x5120, .f32⟩
  | .hbm, ⟨5, _⟩ => ⟨S4x16x2048, .f32⟩
  | .hbm, ⟨6, _⟩ => ⟨S4x16x2048x2048, .f32⟩
  | .hbm, ⟨7, _⟩ => ⟨S_, .f32⟩
  | .hbm, ⟨8, _⟩ => ⟨S4x16x2048x2048, .f32⟩
  | .hbm, ⟨9, _⟩ => ⟨S4x16x2048x2048, .f32⟩
  | .hbm, ⟨10, _⟩ => ⟨S4x16x2048x1, .f32⟩
  | .hbm, ⟨11, _⟩ => ⟨S4x16x2048x2048, .f32⟩
  | .hbm, ⟨12, _⟩ => ⟨S4x16x2048x2048, .f32⟩
  | .hbm, ⟨13, _⟩ => ⟨S4x16x1x2048, .f32⟩
  | .hbm, ⟨14, _⟩ => ⟨S4x16x2048x2048, .f32⟩
  | .hbm, ⟨15, _⟩ => ⟨S4x16x2048x2048, .f32⟩
  | .hbm, ⟨16, _⟩ => ⟨S2048, .i32⟩
  | .hbm, ⟨17, _⟩ => ⟨S2048x1, .i32⟩
  | .hbm, ⟨18, _⟩ => ⟨S2048, .i32⟩
  | .hbm, ⟨19, _⟩ => ⟨S1x2048, .i32⟩
  | .hbm, ⟨20, _⟩ => ⟨S2048x2048, .i32⟩
  | .hbm, ⟨21, _⟩ => ⟨S2048x2048, .i32⟩
  | .hbm, ⟨22, _⟩ => ⟨S2048x2048, .i1⟩
  | .hbm, ⟨23, _⟩ => ⟨S1x1x2048x2048, .i1⟩
  | .hbm, ⟨24, _⟩ => ⟨S_, .f32⟩
  | .hbm, ⟨25, _⟩ => ⟨S_, .f32⟩
  | .hbm, ⟨26, _⟩ => ⟨S4x16x2048x2048, .i1⟩
  | .hbm, ⟨27, _⟩ => ⟨S4x16x2048x2048, .f32⟩
  | .hbm, ⟨28, _⟩ => ⟨S4x16x2048x2048, .f32⟩
  | .hbm, ⟨29, _⟩ => ⟨S_, .f32⟩
  | .hbm, ⟨30, _⟩ => ⟨S4x16x2048, .f32⟩
  | .hbm, ⟨31, _⟩ => ⟨S_, .f32⟩
  | .hbm, ⟨32, _⟩ => ⟨S4x16x2048, .f32⟩
  | .hbm, ⟨33, _⟩ => ⟨S4x16x2048, .f32⟩
  | .hbm, ⟨34, _⟩ => ⟨S4x16x2048x1, .f32⟩
  | .hbm, ⟨35, _⟩ => ⟨S4x16x2048x2048, .f32⟩
  | .hbm, ⟨36, _⟩ => ⟨S4x16x2048x2048, .f32⟩
  | .hbm, ⟨37, _⟩ => ⟨S4x16x2048x2048, .f32⟩
  | .hbm, ⟨38, _⟩ => ⟨S_, .f32⟩
  | .hbm, ⟨39, _⟩ => ⟨S4x16x2048, .f32⟩
  | .hbm, ⟨40, _⟩ => ⟨S4x16x2048x1, .f32⟩
  | .hbm, ⟨41, _⟩ => ⟨S4x16x2048x2048, .f32⟩
  | .hbm, ⟨42, _⟩ => ⟨S4x16x2048x2048, .f32⟩
  | .hbm, ⟨43, _⟩ => ⟨S4x16x64x2048, .f32⟩
  | .hbm, ⟨44, _⟩ => ⟨S4x2048x16x64, .f32⟩
  | .hbm, ⟨45, _⟩ => ⟨S4x2048x1024, .f32⟩
  | .hbm, ⟨46, _⟩ => ⟨S_, .f32⟩
  | .hbm, ⟨47, _⟩ => ⟨S4x16x2048, .f32⟩
  | .hbm, ⟨48, _⟩ => ⟨S4x16x2048x1, .f32⟩
  | .hbm, ⟨49, _⟩ => ⟨S4x16x2048x2048, .f32⟩
  | .hbm, ⟨50, _⟩ => ⟨S4x16x2048x2048, .f32⟩
  | .hbm, ⟨51, _⟩ => ⟨S4x16x2048x2048, .f32⟩
  | .hbm, ⟨52, _⟩ => ⟨S_, .f32⟩
  | .hbm, ⟨53, _⟩ => ⟨S4x16x2048, .f32⟩
  | .hbm, ⟨54, _⟩ => ⟨S4x16x2048, .f32⟩
  | .hbm, ⟨55, _⟩ => ⟨S4x16x2048, .f32⟩
  | .hbm, ⟨56, _⟩ => ⟨S4x8x2x8x256, .f32⟩
  | .hbm, ⟨57, _⟩ => ⟨S4x2048x1024, .f32⟩
  | .hbm, ⟨58, _⟩ => ⟨S4x2048x1024, .f32⟩
  | .hbm, ⟨59, _⟩ => ⟨S4x2048x1024, .f32⟩
  | .hbm, ⟨60, _⟩ => ⟨S_, .f32⟩
  | .hbm, ⟨61, _⟩ => ⟨S4x2048x1024, .f32⟩
  | .hbm, ⟨62, _⟩ => ⟨S4x2048x1024, .f32⟩
  | .hbm, ⟨63, _⟩ => ⟨S_, .f32⟩
  | .hbm, ⟨64, _⟩ => ⟨S4x2048x1024, .f32⟩
  | .hbm, ⟨65, _⟩ => ⟨S4x2048x1024, .f32⟩
  | .hbm, ⟨66, _⟩ => ⟨S4x2048x1024, .f32⟩
  | .hbm, ⟨67, _⟩ => ⟨S4x2048x1024, .f32⟩
  | .hbm, ⟨68, _⟩ => ⟨S8192x1024, .f32⟩
  | .hbm, ⟨69, _⟩ => ⟨S8192x1024, .bf16⟩
  | _, _ => ⟨S4x2048x16x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_0 : Ref sig .tc := ⟨.hbm, 24, rfl⟩
abbrev main_call0_v0 : Ref sig .tc := ⟨.hbm, 25, rfl⟩
abbrev main_call0_v1 : Ref sig .tc := ⟨.hbm, 26, rfl⟩
abbrev main_call0_v2 : Ref sig .tc := ⟨.hbm, 27, rfl⟩
abbrev main_v18 : Ref sig .tc := ⟨.hbm, 28, rfl⟩
abbrev main_cst_1 : Ref sig .tc := ⟨.hbm, 29, rfl⟩
abbrev main_v19 : Ref sig .tc := ⟨.hbm, 30, rfl⟩
abbrev main_cst_2 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_3 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_4 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_5 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_call1_v0 : Ref sig .tc := ⟨.hbm, 58, rfl⟩
abbrev main_call1_v1 : Ref sig .tc := ⟨.hbm, 59, rfl⟩
abbrev main_call1_cst : Ref sig .tc := ⟨.hbm, 60, rfl⟩
abbrev main_call1_v2 : Ref sig .tc := ⟨.hbm, 61, rfl⟩
abbrev main_call1_v3 : Ref sig .tc := ⟨.hbm, 62, rfl⟩
abbrev main_call1_cst_0 : Ref sig .tc := ⟨.hbm, 63, rfl⟩
abbrev main_call1_v4 : Ref sig .tc := ⟨.hbm, 64, rfl⟩
abbrev main_call1_v5 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩

abbrev nD : Nat := 1
abbrev τ : Topo := Topo.v7x

variable {F : FTy → Type} [FloatOps F]
-- ==== Proof.Merge.lean ====
module

public import proofs.«01_k».proof.Proof.Gen.MergeKernelIdeal.Frame
public import proofs.«01_k».proof.Defs
public import proofs.«01_k».proof.Proof.Gen.MergeReferenceIdeal.Run
public import Idealize.ShloMosaic.Lib.Pipeline.ValueKit
public import Idealize.ShloMosaic.Lib.Claim

/- The gradient of the gated merge: what the kernel leaves in its four result arrays, as formulas over the
   argument arrays, and that the reference computes the same formulas. -/

@[expose] public section

set_option maxRecDepth 16384

noncomputable section

namespace Cert.Merge

open Idealize.ShloMosaic Idealize.ShloMosaic.TcCoe Idealize.SL.Sem
open Idealize.ShloMosaic.Pipeline (Dat)
open Cert.MergeKernelIdeal Cert.MergeKernelIdeal.Gen

/-- The cotangent of the merged activations at row `i 0` (row `i 0 % 2048` of sequence `i 0 / 2048`) and
    column `i 1`: the result's cotangent against row `i 1` of the output projection. -/
def dMerged (W : FVec Ideal S1024x1024 .f32) (C : FVec Ideal S4x2048x1024 .f32) (i : S8192x1024.Idx) : EReal :=
  ∑ k : Fin 1024, C (ix3 (⟨(i 0 : ℕ) / 2048, by idx_bounds i; omega⟩ : Fin 4) (⟨(i 0 : ℕ) % 2048, by omega⟩ : Fin 2048) k)
    * W (ix2 (i 1) k)

/-- The merge gate whose columns of the projection start at `o`. -/
def gate (o : ℕ) (ho : o + 1024 ≤ 9232) (Z : FVec Ideal S4x2048x9232 .f32) (i : S8192x1024.Idx) : EReal :=
  Ideal.logistic (Z (ix3 (⟨(i 0 : ℕ) / 2048, by idx_bounds i; omega⟩ : Fin 4) (⟨(i 0 : ℕ) % 2048, by omega⟩ : Fin 2048)
    (⟨o + (i 1 : ℕ), by idx_bounds i; omega⟩ : Fin 9232)))

/-- The gradient of a branch's output: the merged cotangent times the branch's gate. -/
def dBranch (o : ℕ) (ho : o + 1024 ≤ 9232) (Z : FVec Ideal S4x2048x9232 .f32) (W : FVec Ideal S1024x1024 .f32)
    (C : FVec Ideal S4x2048x1024 .f32) : FVec Ideal S8192x1024 .bf16 :=
  fun i => dMerged W C i * gate o ho Z i

/-- The gradient of a merge gate's logit: merged cotangent, times the branch's output, times `g (1 - g)`. -/
def dGate (o : ℕ) (ho : o + 1024 ≤ 9232) (Y : FVec Ideal S4x2048x1024 .f32) (Z : FVec Ideal S4x2048x9232 .f32)
    (W : FVec Ideal S1024x1024 .f32) (C : FVec Ideal S4x2048x1024 .f32) : FVec Ideal S8192x1024 .bf16 :=
  fun i => dMerged W C i
    * Y (ix3 (⟨(i 0 : ℕ) / 2048, by idx_bounds i; omega⟩ : Fin 4) (⟨(i 0 : ℕ) % 2048, by omega⟩ : Fin 2048) (i 1))
    * (gate o ho Z i * (1 - gate o ho Z i))

variable (m : (ℓ : Loc nD τ sig) → Buf (Elt Ideal) ℓ)

/-- Every window's block index at every grid point. -/
theorem idx : ∀ t : Fin cfg0.N, win0_0.index t = ![t.val, 0] ∧ win0_1.index t = ![0, 0]
    ∧ win0_2.index t = ![t.val, 3] ∧ win0_3.index t = ![t.val, 4] ∧ win0_4.index t = ![t.val, 0]
    ∧ win0_5.index t = ![t.val, 0] ∧ win0_6.index t = ![t.val, 0] ∧ win0_7.index t = ![t.val, 0]
    ∧ win0_8.index t = ![t.val, 0] ∧ win0_9.index t = ![t.val, 0] :=
  (by decide +kernel : ∀ t : Fin grid0.N, _)

/-- The cotangent, flattened: row `i 0` is row `i 0 % 2048` of sequence `i 0 / 2048`. -/
theorem entry_ct (c : Dev nD) (i : S8192x1024.Idx) : V m c main_v1 i
    = m ((c : Thread nD τ).loc main_arg4) (ix3 (⟨(i 0 : ℕ) / 2048, by idx_bounds i; omega⟩ : Fin 4) (⟨(i 0 : ℕ) % 2048, by omega⟩ : Fin 2048) (i 1)) := by
  entry_read
  idx_vars i
  pointwise

/-- The attention branch, flattened: row `i 0` is row `i 0 % 2048` of sequence `i 0 / 2048`. -/
theorem entry_ya (c : Dev nD) (i : S8192x1024.Idx) : V m c main_v7 i
    = m ((c : Thread nD τ).loc main_arg0) (ix3 (⟨(i 0 : ℕ) / 2048, by idx_bounds i; omega⟩ : Fin 4) (⟨(i 0 : ℕ) % 2048, by omega⟩ : Fin 2048) (i 1)) := by
  entry_read
  idx_vars i
  pointwise

/-- The recurrent branch, flattened: row `i 0` is row `i 0 % 2048` of sequence `i 0 / 2048`. -/
theorem entry_yr (c : Dev nD) (i : S8192x1024.Idx) : V m c main_v9 i
    = m ((c : Thread nD τ).loc main_arg1) (ix3 (⟨(i 0 : ℕ) / 2048, by idx_bounds i; omega⟩ : Fin 4) (⟨(i 0 : ℕ) % 2048, by omega⟩ : Fin 2048) (i 1)) := by
  entry_read
  idx_vars i
  pointwise

/-- The columns of the projection that the kernel keeps start at 3088. -/
theorem entry_z (c : Dev nD) (i : S8192x5120.Idx) : V m c main_v5 i
    = m ((c : Thread nD τ).loc main_arg2) (ix3 (⟨(i 0 : ℕ) / 2048, by idx_bounds i; omega⟩ : Fin 4) (⟨(i 0 : ℕ) % 2048, by omega⟩ : Fin 2048) (⟨3088 + (i 1 : ℕ), by idx_bounds i; omega⟩ : Fin 9232)) := by
  entry_read
  idx_vars i
  pointwise

theorem entry_w (c : Dev nD) (i : S1024x1024.Idx) : V m c main_v2 i = m ((c : Thread nD τ).loc main_arg3) i := by
  entry_read
  pointwise

/-- Block `t` of window 0: its row `x 0` is row `512 t + x 0` of the flattened array. -/
theorem block_ct (c : Dev nD) (t : Fin cfg0.N) (x : S512x1024.Idx) : iblk m c 0 t x
    = m ((c : Thread nD τ).loc main_arg4) (ix3 (⟨(t.val * 512 + (x 0 : ℕ)) / 2048, by have := lt_of_lt_of_eq t.isLt N_0; idx_bounds x; omega⟩ : Fin 4)
        (⟨(t.val * 512 + (x 0 : ℕ)) % 2048, by omega⟩ : Fin 2048) (x 1)) := by
  refine (entry_ct m c _).trans ?_
  blk_ext [idx t]

/-- Block `t` of window 4: its row `x 0` is row `512 t + x 0` of the flattened array. -/
theorem block_ya (c : Dev nD) (t : Fin cfg0.N) (x : S512x1024.Idx) : iblk m c 4 t x
    = m ((c : Thread nD τ).loc main_arg0) (ix3 (⟨(t.val * 512 + (x 0 : ℕ)) / 2048, by have := lt_of_lt_of_eq t.isLt N_0; idx_bounds x; omega⟩ : Fin 4)
        (⟨(t.val * 512 + (x 0 : ℕ)) % 2048, by omega⟩ : Fin 2048) (x 1)) := by
  refine (entry_ya m c _).trans ?_
  blk_ext [idx t]

/-- Block `t` of window 5: its row `x 0` is row `512 t + x 0` of the flattened array. -/
theorem block_yr (c : Dev nD) (t : Fin cfg0.N) (x : S512x1024.Idx) : iblk m c 5 t x
    = m ((c : Thread nD τ).loc main_arg1) (ix3 (⟨(t.val * 512 + (x 0 : ℕ)) / 2048, by have := lt_of_lt_of_eq t.isLt N_0; idx_bounds x; omega⟩ : Fin 4)
        (⟨(t.val * 512 + (x 0 : ℕ)) % 2048, by omega⟩ : Fin 2048) (x 1)) := by
  refine (entry_yr m c _).trans ?_
  blk_ext [idx t]

/-- Block `t` of window 2 of the projection: the merge gate whose columns start at 6160. -/
theorem block_ga (c : Dev nD) (t : Fin cfg0.N) (x : S512x1024.Idx) : iblk m c 2 t x
    = m ((c : Thread nD τ).loc main_arg2) (ix3 (⟨(t.val * 512 + (x 0 : ℕ)) / 2048, by have := lt_of_lt_of_eq t.isLt N_0; idx_bounds x; omega⟩ : Fin 4)
        (⟨(t.val * 512 + (x 0 : ℕ)) % 2048, by omega⟩ : Fin 2048) (⟨6160 + (x 1 : ℕ), by idx_bounds x; omega⟩ : Fin 9232)) := by
  refine (entry_z m c _).trans ?_
  blk_ext [idx t]

/-- Block `t` of window 3 of the projection: the merge gate whose columns start at 7184. -/
theorem block_gr (c : Dev nD) (t : Fin cfg0.N) (x : S512x1024.Idx) : iblk m c 3 t x
    = m ((c : Thread nD τ).loc main_arg2) (ix3 (⟨(t.val * 512 + (x 0 : ℕ)) / 2048, by have := lt_of_lt_of_eq t.isLt N_0; idx_bounds x; omega⟩ : Fin 4)
        (⟨(t.val * 512 + (x 0 : ℕ)) % 2048, by omega⟩ : Fin 2048) (⟨7184 + (x 1 : ℕ), by idx_bounds x; omega⟩ : Fin 9232)) := by
  refine (entry_z m c _).trans ?_
  blk_ext [idx t]

theorem block_w (c : Dev nD) (t : Fin cfg0.N) (x : S1024x1024.Idx) : iblk m c 1 t x
    = m ((c : Thread nD τ).loc main_arg3) x := by
  refine (entry_w m c _).trans ?_
  blk_ext [idx t]

/-- What point `t` stores for window 6 is the gradient of the attention branch at the block's place. -/
theorem point6 (c : Dev nD) (t : Fin cfg0.N) (y) :
    k0_pay6 (iblk m c 0 t) (iblk m c 1 t) (iblk m c 2 t) y
      = dBranch 6160 (by omega) (m ((c : Thread nD τ).loc main_arg2)) (m ((c : Thread nD τ).loc main_arg3))
        (m ((c : Thread nD τ).loc main_arg4))
        (((cfg0.win 6).blk t).view.emb y) := by
  pointwise [k0_pay6, k0_pay3, k0_pay4, block_ga m c t, dBranch, dMerged, gate, Ideal.logistic, zero_sub, zero_add, block_ct m c t,
    block_w m c t]
  blk_point [idx t]

/-- Result array 0 after the run: the gradient of the attention branch. -/
theorem final6 (c : Dev nD) : (dats m 0 c).arrAt 6 (cfgs 0).N
    = dBranch 6160 (by omega) (m ((c : Thread nD τ).loc main_arg2)) (m ((c : Thread nD τ).loc main_arg3))
        (m ((c : Thread nD τ).loc main_arg4)) := by
  refine (dats m 0 c).arrAt_eq_of_covers 6 _ (by decide +kernel) fun t hf y => ?_
  blk_simp; rw [after0_6]; frame_out
  exact point6 m c t y

/-- What point `t` stores for window 7 is the gradient of the recurrent branch at the block's place. -/
theorem point7 (c : Dev nD) (t : Fin cfg0.N) (y) :
    k0_pay7 (iblk m c 0 t) (iblk m c 1 t) (iblk m c 3 t) y
      = dBranch 7184 (by omega) (m ((c : Thread nD τ).loc main_arg2)) (m ((c : Thread nD τ).loc main_arg3))
        (m ((c : Thread nD τ).loc main_arg4))
        (((cfg0.win 7).blk t).view.emb y) := by
  pointwise [k0_pay7, k0_pay3, k0_pay5, block_gr m c t, dBranch, dMerged, gate, Ideal.logistic, zero_sub, zero_add, block_ct m c t,
    block_w m c t]
  blk_point [idx t]

/-- Result array 1 after the run: the gradient of the recurrent branch. -/
theorem final7 (c : Dev nD) : (dats m 0 c).arrAt 7 (cfgs 0).N
    = dBranch 7184 (by omega) (m ((c : Thread nD τ).loc main_arg2)) (m ((c : Thread nD τ).loc main_arg3))
        (m ((c : Thread nD τ).loc main_arg4)) := by
  refine (dats m 0 c).arrAt_eq_of_covers 7 _ (by decide +kernel) fun t hf y => ?_
  blk_simp; rw [after0_7]; frame_out
  exact point7 m c t y

/-- What point `t` stores for window 8 is the gradient of the attention branch's merge gate at the block's place. -/
theorem point8 (c : Dev nD) (t : Fin cfg0.N) (y) :
    k0_pay1 (k0_pay4 (iblk m c 2 t)) (k0_pay8 (iblk m c 0 t) (iblk m c 1 t) (iblk m c 4 t)) y
      = dGate 6160 (by omega) (m ((c : Thread nD τ).loc main_arg0)) (m ((c : Thread nD τ).loc main_arg2)) (m ((c : Thread nD τ).loc main_arg3))
        (m ((c : Thread nD τ).loc main_arg4))
        (((cfg0.win 8).blk t).view.emb y) := by
  pointwise [k0_pay1, k0_pay3, k0_pay4, k0_pay8, block_ga m c t, block_ya m c t, dGate, dMerged, gate, Ideal.logistic, zero_sub, zero_add, block_ct m c t,
    block_w m c t]
  blk_point [idx t]

/-- Result array 2 after the run: the gradient of the attention branch's merge gate. -/
theorem final8 (c : Dev nD) : (dats m 0 c).arrAt 8 (cfgs 0).N
    = dGate 6160 (by omega) (m ((c : Thread nD τ).loc main_arg0)) (m ((c : Thread nD τ).loc main_arg2)) (m ((c : Thread nD τ).loc main_arg3))
        (m ((c : Thread nD τ).loc main_arg4)) := by
  refine (dats m 0 c).arrAt_eq_of_covers 8 _ (by decide +kernel) fun t hf y => ?_
  blk_simp; rw [after0_8]; frame_out
  exact point8 m c t y

/-- What point `t` stores for window 9 is the gradient of the recurrent branch's merge gate at the block's place. -/
theorem point9 (c : Dev nD) (t : Fin cfg0.N) (y) :
    k0_pay2 (k0_pay3 (iblk m c 0 t) (iblk m c 1 t)) (k0_pay5 (iblk m c 3 t)) (iblk m c 5 t) y
      = dGate 7184 (by omega) (m ((c : Thread nD τ).loc main_arg1)) (m ((c : Thread nD τ).loc main_arg2)) (m ((c : Thread nD τ).loc main_arg3))
        (m ((c : Thread nD τ).loc main_arg4))
        (((cfg0.win 9).blk t).view.emb y) := by
  pointwise [k0_pay2, k0_pay3, k0_pay5, block_gr m c t, block_yr m c t, dGate, dMerged, gate, Ideal.logistic, zero_sub, zero_add, block_ct m c t,
    block_w m c t]
  blk_point [idx t]

/-- Result array 3 after the run: the gradient of the recurrent branch's merge gate. -/
theorem final9 (c : Dev nD) : (dats m 0 c).arrAt 9 (cfgs 0).N
    = dGate 7184 (by omega) (m ((c : Thread nD τ).loc main_arg1)) (m ((c : Thread nD τ).loc main_arg2)) (m ((c : Thread nD τ).loc main_arg3))
        (m ((c : Thread nD τ).loc main_arg4)) := by
  refine (dats m 0 c).arrAt_eq_of_covers 9 _ (by decide +kernel) fun t hf y => ?_
  blk_simp; rw [after0_9]; frame_out
  exact point9 m c t y

/-- Kernel and reference compute the same four gradients. -/
theorem algebraic : Cert.algebraic_MergeKernelIdeal_MergeReferenceIdeal := by
  pair_intro
  · run_from Cert.MergeKernelIdeal.Gen.run_main m g
  · run_from Cert.MergeReferenceIdeal.Value.run m' g'
    · rw [final6]; funext i; idx_vars i
      pointwise [dBranch, dMerged, gate, Ideal.logistic]
      exact mul_comm _ _
    · rw [final7]; funext i; idx_vars i
      pointwise [dBranch, dMerged, gate, Ideal.logistic]
      exact mul_comm _ _
    · rw [final8]; funext i; idx_vars i
      pointwise [dGate, dMerged, gate, Ideal.logistic]
    · rw [final9]; funext i; idx_vars i
      pointwise [dGate, dMerged, gate, Ideal.logistic]

end Cert.Merge

end
-- ==== Proof.BranchArrays.lean ====
module

public import proofs.«01_k».proof.Proof.Gen.BranchKernelIdeal.Frame
public import proofs.«01_k».proof.Defs
public import Idealize.ShloMosaic.Lib.Pipeline.ValueKit
public import Idealize.ShloMosaic.Lib.Claim

/- The gradient of the gated branches (`(y · silu(g)) W` for the attention and for the recurrence): what the
   kernel leaves in its four result arrays, as formulas over the argument arrays. -/

@[expose] public section

set_option maxRecDepth 16384

noncomputable section

namespace Cert.Branch

open Idealize.ShloMosaic Idealize.ShloMosaic.TcCoe Idealize.SL.Sem
open Idealize.ShloMosaic.Pipeline (Dat)
open Cert.BranchKernelIdeal Cert.BranchKernelIdeal.Gen

/-- The cotangent of the gated branch at row `i 0` (row `i 0 % 2048` of sequence `i 0 / 2048`) and column
    `i 1`: the result's cotangent against row `i 1` of the branch's projection. -/
def dGated (W : FVec Ideal S1024x1024 .f32) (C : FVec Ideal S4x2048x1024 .f32) (i : S8192x1024.Idx) : EReal :=
  ∑ k : Fin 1024, C (ix3 (⟨(i 0 : ℕ) / 2048, by idx_bounds i; omega⟩ : Fin 4) (⟨(i 0 : ℕ) % 2048, by omega⟩ : Fin 2048) k)
    * W (ix2 (i 1) k)

/-- The gate's logit: the projection's columns from `o` on. -/
def logit (o : ℕ) (ho : o + 1024 ≤ 9232) (Z : FVec Ideal S4x2048x9232 .f32) (i : S8192x1024.Idx) : EReal :=
  Z (ix3 (⟨(i 0 : ℕ) / 2048, by idx_bounds i; omega⟩ : Fin 4) (⟨(i 0 : ℕ) % 2048, by omega⟩ : Fin 2048)
    (⟨o + (i 1 : ℕ), by idx_bounds i; omega⟩ : Fin 9232))

/-- The gradient of a branch's output: the gated branch's cotangent times `silu` of the gate's logit. -/
def dBranch (o : ℕ) (ho : o + 1024 ≤ 9232) (Z : FVec Ideal S4x2048x9232 .f32) (W : FVec Ideal S1024x1024 .f32)
    (C : FVec Ideal S4x2048x1024 .f32) (i : S8192x1024.Idx) : EReal :=
  dGated W C i * (logit o ho Z i * Ideal.logistic (logit o ho Z i))

/-- The gradient of a gate's logit `g`, as the kernel computes it: the gated branch's cotangent, times the
    branch's output, times `s (1 + g (1 - s))` for `s` the logistic function of `g`. -/
def dGate (o : ℕ) (ho : o + 1024 ≤ 9232) (Y : FVec Ideal S4x2048x1024 .f32) (Z : FVec Ideal S4x2048x9232 .f32)
    (W : FVec Ideal S1024x1024 .f32) (C : FVec Ideal S4x2048x1024 .f32) : FVec Ideal S8192x1024 .bf16 :=
  fun i => dGated W C i
    * Y (ix3 (⟨(i 0 : ℕ) / 2048, by idx_bounds i; omega⟩ : Fin 4) (⟨(i 0 : ℕ) % 2048, by omega⟩ : Fin 2048) (i 1))
    * (Ideal.logistic (logit o ho Z i) * (1 + logit o ho Z i * (1 - Ideal.logistic (logit o ho Z i))))

variable (m : (ℓ : Loc nD τ sig) → Buf (Elt Ideal) ℓ)

/-- Every window's block index at every grid point. -/
theorem idx : ∀ t : Fin cfg0.N, win0_0.index t = ![t.val, 0] ∧ win0_1.index t = ![t.val, 0]
    ∧ win0_2.index t = ![0, 0] ∧ win0_3.index t = ![0, 0] ∧ win0_4.index t = ![t.val, 0]
    ∧ win0_5.index t = ![t.val, 2] ∧ win0_6.index t = ![t.val, 0] ∧ win0_7.index t = ![t.val, 0]
    ∧ win0_8.index t = ![t.val, 0] ∧ win0_9.index t = ![t.val, 0] ∧ win0_10.index t = ![t.val, 0]
    ∧ win0_11.index t = ![t.val, 0] :=
  (by decide +kernel : ∀ t : Fin grid0.N, _)

/-- The attention branch's cotangent, flattened: row `i 0` is row `i 0 % 2048` of sequence `i 0 / 2048`. -/
theorem entry_cta (c : Dev nD) (i : S8192x1024.Idx) : V m c main_v1 i
    = m ((c : Thread nD τ).loc main_arg5) (ix3 (⟨(i 0 : ℕ) / 2048, by idx_bounds i; omega⟩ : Fin 4) (⟨(i 0 : ℕ) % 2048, by omega⟩ : Fin 2048) (i 1)) := by
  entry_read
  idx_vars i
  pointwise

/-- The recurrent branch's cotangent, flattened: row `i 0` is row `i 0 % 2048` of sequence `i 0 / 2048`. -/
theorem entry_ctr (c : Dev nD) (i : S8192x1024.Idx) : V m c main_v3 i
    = m ((c : Thread nD τ).loc main_arg6) (ix3 (⟨(i 0 : ℕ) / 2048, by idx_bounds i; omega⟩ : Fin 4) (⟨(i 0 : ℕ) % 2048, by omega⟩ : Fin 2048) (i 1)) := by
  entry_read
  idx_vars i
  pointwise

/-- The attention's output, flattened: row `i 0` is row `i 0 % 2048` of sequence `i 0 / 2048`. -/
theorem entry_ya (c : Dev nD) (i : S8192x1024.Idx) : V m c main_v9 i
    = m ((c : Thread nD τ).loc main_arg0) (ix3 (⟨(i 0 : ℕ) / 2048, by idx_bounds i; omega⟩ : Fin 4) (⟨(i 0 : ℕ) % 2048, by omega⟩ : Fin 2048) (i 1)) := by
  entry_read
  idx_vars i
  pointwise

/-- The recurrence's output, flattened: row `i 0` is row `i 0 % 2048` of sequence `i 0 / 2048`. -/
theorem entry_yr (c : Dev nD) (i : S8192x1024.Idx) : V m c main_v10 i
    = m ((c : Thread nD τ).loc main_arg1) (ix3 (⟨(i 0 : ℕ) / 2048, by idx_bounds i; omega⟩ : Fin 4) (⟨(i 0 : ℕ) % 2048, by omega⟩ : Fin 2048) (i 1)) := by
  entry_read
  idx_vars i
  pointwise

/-- The columns of the projection that the kernel keeps start at 3088. -/
theorem entry_z (c : Dev nD) (i : S8192x5120.Idx) : V m c main_v8 i
    = m ((c : Thread nD τ).loc main_arg2) (ix3 (⟨(i 0 : ℕ) / 2048, by idx_bounds i; omega⟩ : Fin 4) (⟨(i 0 : ℕ) % 2048, by omega⟩ : Fin 2048) (⟨3088 + (i 1 : ℕ), by idx_bounds i; omega⟩ : Fin 9232)) := by
  entry_read
  idx_vars i
  pointwise

theorem entry_wa (c : Dev nD) (i : S1024x1024.Idx) : V m c main_v4 i = m ((c : Thread nD τ).loc main_arg3) i := by
  entry_read
  pointwise

theorem entry_wr (c : Dev nD) (i : S1024x1024.Idx) : V m c main_v5 i = m ((c : Thread nD τ).loc main_arg4) i := by
  entry_read
  pointwise

/-- Block `t` of window 0: its row `x 0` is row `512 t + x 0` of the flattened array. -/
theorem block_cta (c : Dev nD) (t : Fin cfg0.N) (x : S512x1024.Idx) : iblk m c 0 t x
    = m ((c : Thread nD τ).loc main_arg5) (ix3 (⟨(t.val * 512 + (x 0 : ℕ)) / 2048, by have := lt_of_lt_of_eq t.isLt N_0; idx_bounds x; omega⟩ : Fin 4)
        (⟨(t.val * 512 + (x 0 : ℕ)) % 2048, by omega⟩ : Fin 2048) (x 1)) := by
  refine (entry_cta m c _).trans ?_
  blk_ext [idx t]

/-- Block `t` of window 1: its row `x 0` is row `512 t + x 0` of the flattened array. -/
theorem block_ctr (c : Dev nD) (t : Fin cfg0.N) (x : S512x1024.Idx) : iblk m c 1 t x
    = m ((c : Thread nD τ).loc main_arg6) (ix3 (⟨(t.val * 512 + (x 0 : ℕ)) / 2048, by have := lt_of_lt_of_eq t.isLt N_0; idx_bounds x; omega⟩ : Fin 4)
        (⟨(t.val * 512 + (x 0 : ℕ)) % 2048, by omega⟩ : Fin 2048) (x 1)) := by
  refine (entry_ctr m c _).trans ?_
  blk_ext [idx t]

/-- Block `t` of window 6: its row `x 0` is row `512 t + x 0` of the flattened array. -/
theorem block_ya (c : Dev nD) (t : Fin cfg0.N) (x : S512x1024.Idx) : iblk m c 6 t x
    = m ((c : Thread nD τ).loc main_arg0) (ix3 (⟨(t.val * 512 + (x 0 : ℕ)) / 2048, by have := lt_of_lt_of_eq t.isLt N_0; idx_bounds x; omega⟩ : Fin 4)
        (⟨(t.val * 512 + (x 0 : ℕ)) % 2048, by omega⟩ : Fin 2048) (x 1)) := by
  refine (entry_ya m c _).trans ?_
  blk_ext [idx t]

/-- Block `t` of window 7: its row `x 0` is row `512 t + x 0` of the flattened array. -/
theorem block_yr (c : Dev nD) (t : Fin cfg0.N) (x : S512x1024.Idx) : iblk m c 7 t x
    = m ((c : Thread nD τ).loc main_arg1) (ix3 (⟨(t.val * 512 + (x 0 : ℕ)) / 2048, by have := lt_of_lt_of_eq t.isLt N_0; idx_bounds x; omega⟩ : Fin 4)
        (⟨(t.val * 512 + (x 0 : ℕ)) % 2048, by omega⟩ : Fin 2048) (x 1)) := by
  refine (entry_yr m c _).trans ?_
  blk_ext [idx t]

/-- Block `t` of window 4: the gate logits whose columns of the projection start at 3088. -/
theorem block_ga (c : Dev nD) (t : Fin cfg0.N) (x : S512x1024.Idx) : iblk m c 4 t x
    = m ((c : Thread nD τ).loc main_arg2) (ix3 (⟨(t.val * 512 + (x 0 : ℕ)) / 2048, by have := lt_of_lt_of_eq t.isLt N_0; idx_bounds x; omega⟩ : Fin 4)
        (⟨(t.val * 512 + (x 0 : ℕ)) % 2048, by omega⟩ : Fin 2048) (⟨3088 + (x 1 : ℕ), by idx_bounds x; omega⟩ : Fin 9232)) := by
  refine (entry_z m c _).trans ?_
  blk_ext [idx t]

/-- Block `t` of window 5: the gate logits whose columns of the projection start at 5136. -/
theorem block_gr (c : Dev nD) (t : Fin cfg0.N) (x : S512x1024.Idx) : iblk m c 5 t x
    = m ((c : Thread nD τ).loc main_arg2) (ix3 (⟨(t.val * 512 + (x 0 : ℕ)) / 2048, by have := lt_of_lt_of_eq t.isLt N_0; idx_bounds x; omega⟩ : Fin 4)
        (⟨(t.val * 512 + (x 0 : ℕ)) % 2048, by omega⟩ : Fin 2048) (⟨5136 + (x 1 : ℕ), by idx_bounds x; omega⟩ : Fin 9232)) := by
  refine (entry_z m c _).trans ?_
  blk_ext [idx t]

theorem block_wa (c : Dev nD) (t : Fin cfg0.N) (x : S1024x1024.Idx) : iblk m c 2 t x
    = m ((c : Thread nD τ).loc main_arg3) x := by
  refine (entry_wa m c _).trans ?_
  blk_ext [idx t]

theorem block_wr (c : Dev nD) (t : Fin cfg0.N) (x : S1024x1024.Idx) : iblk m c 3 t x
    = m ((c : Thread nD τ).loc main_arg4) x := by
  refine (entry_wr m c _).trans ?_
  blk_ext [idx t]

/-- What point `t` stores for window 8 is the gradient of the attention's output at the block's place. -/
theorem point8 (c : Dev nD) (t : Fin cfg0.N) (y) :
    k0_pay9 (iblk m c 0 t) (iblk m c 2 t) (iblk m c 4 t) y
      = dBranch 3088 (by omega) (m ((c : Thread nD τ).loc main_arg2)) (m ((c : Thread nD τ).loc main_arg3)) (m ((c : Thread nD τ).loc main_arg5))
        (((cfg0.win 8).blk t).view.emb y) := by

  pointwise [k0_pay1, k0_pay2, k0_pay3, k0_pay4, k0_pay5, k0_pay6, k0_pay7, k0_pay8, k0_pay9, k0_pay10, dBranch, dGated, logit, Ideal.logistic,
    zero_sub, zero_add, block_ga m c t, block_cta m c t, block_wa m c t]
  blk_point [idx t]

/-- The array of window 8 after the run: the gradient of the attention's output. -/
theorem final8 (c : Dev nD) : (dats m 0 c).arrAt 8 (cfgs 0).N
    = dBranch 3088 (by omega) (m ((c : Thread nD τ).loc main_arg2)) (m ((c : Thread nD τ).loc main_arg3)) (m ((c : Thread nD τ).loc main_arg5)) := by
  refine (dats m 0 c).arrAt_eq_of_covers 8 _ (by decide +kernel) fun t hf y => ?_
  blk_simp; rw [after0_8]; frame_out
  exact point8 m c t y

/-- What point `t` stores for window 9 is the gradient of the attention branch's gate at the block's place. -/
theorem point9 (c : Dev nD) (t : Fin cfg0.N) (y) :
    k0_pay10 (iblk m c 0 t) (iblk m c 2 t) (iblk m c 4 t) (iblk m c 6 t) y
      = dGate 3088 (by omega) (m ((c : Thread nD τ).loc main_arg0)) (m ((c : Thread nD τ).loc main_arg2)) (m ((c : Thread nD τ).loc main_arg3)) (m ((c : Thread nD τ).loc main_arg5))
        (((cfg0.win 9).blk t).view.emb y) := by

  pointwise [k0_pay1, k0_pay2, k0_pay3, k0_pay4, k0_pay5, k0_pay6, k0_pay7, k0_pay8, k0_pay9, k0_pay10, dGate, dGated, logit, Ideal.logistic,
    zero_sub, zero_add, block_ga m c t, block_ya m c t, block_cta m c t, block_wa m c t]
  blk_point [idx t]

/-- The array of window 9 after the run: the gradient of the attention branch's gate. -/
theorem final9 (c : Dev nD) : (dats m 0 c).arrAt 9 (cfgs 0).N
    = dGate 3088 (by omega) (m ((c : Thread nD τ).loc main_arg0)) (m ((c : Thread nD τ).loc main_arg2)) (m ((c : Thread nD τ).loc main_arg3)) (m ((c : Thread nD τ).loc main_arg5)) := by
  refine (dats m 0 c).arrAt_eq_of_covers 9 _ (by decide +kernel) fun t hf y => ?_
  blk_simp; rw [after0_9]; frame_out
  exact point9 m c t y

/-- What point `t` stores for window 10 is the gradient of the recurrence's output at the block's place. -/
theorem point10 (c : Dev nD) (t : Fin cfg0.N) (y) :
    k0_pay3 (k0_pay11 (iblk m c 0 t) (iblk m c 1 t) (iblk m c 2 t) (iblk m c 3 t) (iblk m c 4 t) (iblk m c 5 t) (iblk m c 6 t) (iblk m c 7 t)) (iblk m c 5 t) y
      = dBranch 5136 (by omega) (m ((c : Thread nD τ).loc main_arg2)) (m ((c : Thread nD τ).loc main_arg4)) (m ((c : Thread nD τ).loc main_arg6))
        (((cfg0.win 10).blk t).view.emb y) := by
  simp (disch := decide) only [k0_pay11, View.ld_unit_lit']
  pointwise [k0_pay1, k0_pay2, k0_pay3, k0_pay4, k0_pay5, k0_pay6, k0_pay7, k0_pay8, k0_pay9, k0_pay10, dBranch, dGated, logit, Ideal.logistic,
    zero_sub, zero_add, block_gr m c t, block_ctr m c t, block_wr m c t]
  blk_point [idx t]

/-- The array of window 10 after the run: the gradient of the recurrence's output. -/
theorem final10 (c : Dev nD) : (dats m 0 c).arrAt 10 (cfgs 0).N
    = dBranch 5136 (by omega) (m ((c : Thread nD τ).loc main_arg2)) (m ((c : Thread nD τ).loc main_arg4)) (m ((c : Thread nD τ).loc main_arg6)) := by
  refine (dats m 0 c).arrAt_eq_of_covers 10 _ (by decide +kernel) fun t hf y => ?_
  blk_simp; rw [after0_10]; frame_out
  exact point10 m c t y

/-- What point `t` stores for window 11 is the gradient of the recurrent branch's gate at the block's place. -/
theorem point11 (c : Dev nD) (t : Fin cfg0.N) (y) :
    k0_pay4 (k0_pay11 (iblk m c 0 t) (iblk m c 1 t) (iblk m c 2 t) (iblk m c 3 t) (iblk m c 4 t) (iblk m c 5 t) (iblk m c 6 t) (iblk m c 7 t)) (iblk m c 5 t) (iblk m c 7 t) y
      = dGate 5136 (by omega) (m ((c : Thread nD τ).loc main_arg1)) (m ((c : Thread nD τ).loc main_arg2)) (m ((c : Thread nD τ).loc main_arg4)) (m ((c : Thread nD τ).loc main_arg6))
        (((cfg0.win 11).blk t).view.emb y) := by
  simp (disch := decide) only [k0_pay11, View.ld_unit_lit']
  pointwise [k0_pay1, k0_pay2, k0_pay3, k0_pay4, k0_pay5, k0_pay6, k0_pay7, k0_pay8, k0_pay9, k0_pay10, dGate, dGated, logit, Ideal.logistic,
    zero_sub, zero_add, block_gr m c t, block_yr m c t, block_ctr m c t, block_wr m c t]
  blk_point [idx t]

/-- The array of window 11 after the run: the gradient of the recurrent branch's gate. -/
theorem final11 (c : Dev nD) : (dats m 0 c).arrAt 11 (cfgs 0).N
    = dGate 5136 (by omega) (m ((c : Thread nD τ).loc main_arg1)) (m ((c : Thread nD τ).loc main_arg2)) (m ((c : Thread nD τ).loc main_arg4)) (m ((c : Thread nD τ).loc main_arg6)) := by
  refine (dats m 0 c).arrAt_eq_of_covers 11 _ (by decide +kernel) fun t hf y => ?_
  blk_simp; rw [after0_11]; frame_out
  exact point11 m c t y

end Cert.Branch

end
-- ==== Proof.Finite.lean ====
module

public import Idealize.ShloMosaic.Lib.Pointwise
public import Idealize.ShloMosaic.Lib.ReduceAll
public import Idealize.ShloMosaic.PureOps.Ideal

/- Finite values: a precondition states `|x| < ∞` of every element of an array; here that is turned into
   "the array is an array of real numbers". -/

@[expose] public section

noncomputable section

namespace Cert.Finite

open Idealize.ShloMosaic

/-- An extended real whose magnitude is below `∞` is a real number. -/
theorem real_of_lt (x : EReal) (h : max x (-x) < ⊤) : ∃ r : ℝ, x = r := by
  induction x using EReal.rec with
  | bot => simp at h
  | coe r => exact ⟨r, rfl⟩
  | top => simp at h

/-- The sum of real numbers, taken among the extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The word of `∞` is the extended real `⊤`. -/
theorem inf_word : Ideal.ofBits .f32 0x7F800000#32 = (⊤ : EReal) := by
  simp [Ideal.ofBits, Ideal.ieee]

/-- Both operands of a pointwise `and` that is 1 at `j` are 1 at `j`. -/
theorem and_one {s : Shape} (x y : IVec s 1) (j : s.Idx) (h : andi x y j = 1#1) : x j = 1#1 ∧ y j = 1#1 := by
  have h' : x j &&& y j = 1#1 := h
  revert h'
  generalize x j = a
  generalize y j = b
  revert a b
  decide

/-- `jnp.all(jnp.abs(x) < jnp.inf)` is 1: `x` is an array of real numbers. -/
theorem real_of_all {s t u z : Shape} {axes : List (Fin s.rank)} {ds} [Subsingleton t.Idx] (X : FVec Ideal s .f32) (init : IVec u 1)
    (hb : z.BroadcastsInDim s ds) (h : s.ReducesTo axes t) (hu : 0 < u.numel) (j : t.Idx)
    (e : Host.reduce IntOp.andi (cmpf .olt (Host.absf X) (broadcastInDim s ds hb (constant (F := Ideal) z .f32 0x7F800000#32)))
      init h hu j = 1#1) : ∃ x : s.Idx → ℝ, X = fun i => ((x i : ℝ) : EReal) := by
  have h1 : ∀ i, ∃ r : ℝ, X i = (r : EReal) := fun i => by
    have h2 := Host.reduce_andi_all _ init h hu j e i
    have h3 : BitVec.ofBool (decide (max (X i) (-(X i)) < Ideal.ofBits .f32 0x7F800000#32)) = 1#1 := h2
    rw [inf_word] at h3
    refine real_of_lt (X i) ?_
    by_contra hc
    simp [hc] at h3
  choose x hx using h1
  exact ⟨x, funext hx⟩

end Cert.Finite

end
-- ==== Proof.Branch.lean ====
module

public import proofs.«01_k».proof.Proof.BranchArrays
public import proofs.«01_k».proof.Proof.Finite
public import proofs.«01_k».proof.Proof.Gen.Pre_branch_finite
public import proofs.«01_k».proof.Proof.Gen.BranchReferenceIdeal.Read

/- The reference's gradient of the gated branches, and that it is what the kernel computes. -/

@[expose] public section

set_option maxRecDepth 16384

noncomputable section

namespace Cert.Branch

open Idealize.ShloMosaic Idealize.ShloMosaic.TcCoe Idealize.SL.Sem
open Cert.BranchKernelIdeal Cert.BranchKernelIdeal.Gen

/-- The kernel's form of the derivative of `silu`, times a real number `d`, is the sum of the product rule's two terms. At `g = ±∞`
    both sides are the same extended real. -/
theorem silu_grad (d : ℝ) (g : EReal) : (d : EReal) * (Ideal.logistic g * (1 + g * (1 - Ideal.logistic g)))
    = (d : EReal) * Ideal.logistic g + g * (d : EReal) * (Ideal.logistic g * (1 - Ideal.logistic g)) := by
  induction g using EReal.rec with
  | bot => simp
  | coe r =>
    simp only [Ideal.logistic_coe]
    norm_cast
    ring
  | top =>
    have h : (1 : EReal) - 1 = 0 := by rw [← EReal.coe_one, ← EReal.coe_sub, sub_self, EReal.coe_zero]
    simp [h]

/-- The precondition, unpacked: both outputs, both projections and both cotangents are arrays of real numbers. -/
theorem real_args (a0 : FVec Ideal S4x2048x1024 .f32) (a1 : FVec Ideal S4x2048x1024 .f32) (a2 : FVec Ideal S4x2048x9232 .f32)
    (a3 : FVec Ideal S1024x1024 .f32) (a4 : FVec Ideal S1024x1024 .f32) (a5 : FVec Ideal S4x2048x1024 .f32)
    (a6 : FVec Ideal S4x2048x1024 .f32) (h : Cert.Pre_branch_finite.fn (F := Ideal) a0 a1 a2 a3 a4 a5 a6 = fun _ => 1#1) :
    ((∃ x : S4x2048x1024.Idx → ℝ, a0 = fun i => (x i : EReal)) ∧ ∃ x : S4x2048x1024.Idx → ℝ, a1 = fun i => (x i : EReal))
    ∧ ((∃ x : S1024x1024.Idx → ℝ, a3 = fun i => (x i : EReal)) ∧ ∃ x : S1024x1024.Idx → ℝ, a4 = fun i => (x i : EReal))
    ∧ ((∃ x : S4x2048x1024.Idx → ℝ, a5 = fun i => (x i : EReal)) ∧ ∃ x : S4x2048x1024.Idx → ℝ, a6 = fun i => (x i : EReal)) := by
  have e := congrFun h ix0
  dsimp only [Cert.Pre_branch_finite.fn, Cert.Pre_branch_finite.fn_part1] at e
  obtain ⟨e01, e56⟩ := Finite.and_one _ _ _ e
  obtain ⟨e01, e34⟩ := Finite.and_one _ _ _ e01
  obtain ⟨e0, e1⟩ := Finite.and_one _ _ _ e01
  obtain ⟨e3, e4⟩ := Finite.and_one _ _ _ e34
  obtain ⟨e5, e6⟩ := Finite.and_one _ _ _ e56
  exact ⟨⟨Finite.real_of_all _ _ _ _ _ _ e0, Finite.real_of_all _ _ _ _ _ _ e1⟩,
    ⟨Finite.real_of_all _ _ _ _ _ _ e3, Finite.real_of_all _ _ _ _ _ _ e4⟩,
    ⟨Finite.real_of_all _ _ _ _ _ _ e5, Finite.real_of_all _ _ _ _ _ _ e6⟩⟩

/-- A finite sum of products of real numbers, times a real number, is a real number. -/
theorem real_sum (f g : Fin 1024 → ℝ) (y : ℝ) : ∃ d : ℝ, (∑ k, (f k : EReal) * (g k : EReal)) * (y : EReal) = d := by
  refine ⟨(∑ k, f k * g k) * y, ?_⟩
  rw [EReal.coe_mul, Finite.coe_sum]
  simp only [EReal.coe_mul]

/-- The gradient of a gate's logit as the product rule gives it. -/
def refGate (o : ℕ) (ho : o + 1024 ≤ 9232) (Y : FVec Ideal S4x2048x1024 .f32) (Z : FVec Ideal S4x2048x9232 .f32)
    (W : FVec Ideal S1024x1024 .f32) (C : FVec Ideal S4x2048x1024 .f32) : FVec Ideal S8192x1024 .bf16 :=
  fun i => Y (ix3 (⟨(i 0 : ℕ) / 2048, by idx_bounds i; omega⟩ : Fin 4) (⟨(i 0 : ℕ) % 2048, by omega⟩ : Fin 2048) (i 1)) * dGated W C i * Ideal.logistic (logit o ho Z i)
    + logit o ho Z i * (Y (ix3 (⟨(i 0 : ℕ) / 2048, by idx_bounds i; omega⟩ : Fin 4) (⟨(i 0 : ℕ) % 2048, by omega⟩ : Fin 2048) (i 1)) * dGated W C i)
      * (Ideal.logistic (logit o ho Z i) * (1 - Ideal.logistic (logit o ho Z i)))

/-- With the branch's output, its projection and the cotangent real, it is what the kernel computes. -/
theorem refGate_eq (o : ℕ) (ho : o + 1024 ≤ 9232) (Y : FVec Ideal S4x2048x1024 .f32) (Z : FVec Ideal S4x2048x9232 .f32)
    (W : FVec Ideal S1024x1024 .f32) (C : FVec Ideal S4x2048x1024 .f32)
    (hY : ∃ x : S4x2048x1024.Idx → ℝ, Y = fun i => (x i : EReal)) (hW : ∃ x : S1024x1024.Idx → ℝ, W = fun i => (x i : EReal))
    (hC : ∃ x : S4x2048x1024.Idx → ℝ, C = fun i => (x i : EReal)) : refGate o ho Y Z W C = dGate o ho Y Z W C := by
  obtain ⟨y, rfl⟩ := hY
  obtain ⟨w, rfl⟩ := hW
  obtain ⟨x, rfl⟩ := hC
  funext i
  simp only [refGate, dGate, dGated]
  rw [mul_comm (y _ : EReal)]
  obtain ⟨d, hd⟩ := real_sum _ _ _
  rw [hd]
  exact (silu_grad _ _).symm

open Cert.BranchReferenceIdeal.Read

/-- The reference's gradient of a gate's logit: the product rule's two terms. -/
theorem ref26 (x0 : FVec Ideal S4x2048x1024 .f32) (x2 : FVec Ideal S4x2048x9232 .f32) (x3 : FVec Ideal S1024x1024 .f32)
    (x5 : FVec Ideal S4x2048x1024 .f32) : val_main_v26 (F := Ideal) x0 x2 x3 x5 = refGate 3088 (by omega) x0 x2 x3 x5 := by
  funext i
  idx_vars i
  have e : idx_main_v25 (ix2 i0 i1) = ix3 (⟨(i0 : ℕ) / 2048, by omega⟩ : Fin 4) (⟨(i0 : ℕ) % 2048, by omega⟩ : Fin 2048) i1 := by
    blk_ext
  have el : ∀ k : Fin 1024, lidx_main_v19 (ix3 (⟨(i0 : ℕ) / 2048, by omega⟩ : Fin 4) (⟨(i0 : ℕ) % 2048, by omega⟩ : Fin 2048) i1) k = ix3 (⟨(i0 : ℕ) / 2048, by omega⟩ : Fin 4) (⟨(i0 : ℕ) % 2048, by omega⟩ : Fin 2048) k := fun k => by
    blk_ext
  have er : ∀ k : Fin 1024, ridx_main_v19 (ix3 (⟨(i0 : ℕ) / 2048, by omega⟩ : Fin 4) (⟨(i0 : ℕ) % 2048, by omega⟩ : Fin 2048) i1) k = ix2 i1 k := fun k => by
    blk_ext
  have es : idx_main_v4 (ix3 (⟨(i0 : ℕ) / 2048, by omega⟩ : Fin 4) (⟨(i0 : ℕ) % 2048, by omega⟩ : Fin 2048) i1) = ix3 (⟨(i0 : ℕ) / 2048, by omega⟩ : Fin 4) (⟨(i0 : ℕ) % 2048, by omega⟩ : Fin 2048) (⟨3088 + (i1 : ℕ), by omega⟩ : Fin 9232) := by
    blk_ext
  simp only [val_main_v26_apply, val_main_v25_apply, val_main_v22_apply, val_main_call3_v0_apply, val_main_call3_v1_apply,
    val_main_call3_v2_apply, val_main_v20_apply, val_main_v19_apply, val_main_v4_apply, val_main_v9_2_apply,
    val_main_v9_1_apply, val_main_call0_cst_apply, val_main_call0_cst_0_apply, val_main_call0_cst_1_apply,
    val_main_call0_v0_apply, val_main_call0_v1_apply, val_main_call0_v2_apply, val_main_call0_v3_apply,
    val_main_call0_v4_apply, val_main_call0_v6_apply, val_main_call0_v7_apply, e, el, er, es]
  pointwise [refGate, dGated, logit, Ideal.logistic]

/-- The reference's gradient of a gate's logit: the product rule's two terms. -/
theorem ref29 (x1 : FVec Ideal S4x2048x1024 .f32) (x2 : FVec Ideal S4x2048x9232 .f32) (x4 : FVec Ideal S1024x1024 .f32)
    (x6 : FVec Ideal S4x2048x1024 .f32) : val_main_v29 (F := Ideal) x1 x2 x4 x6 = refGate 5136 (by omega) x1 x2 x4 x6 := by
  funext i
  idx_vars i
  have e : idx_main_v28 (ix2 i0 i1) = ix3 (⟨(i0 : ℕ) / 2048, by omega⟩ : Fin 4) (⟨(i0 : ℕ) % 2048, by omega⟩ : Fin 2048) i1 := by
    blk_ext
  have el : ∀ k : Fin 1024, lidx_main_v15 (ix3 (⟨(i0 : ℕ) / 2048, by omega⟩ : Fin 4) (⟨(i0 : ℕ) % 2048, by omega⟩ : Fin 2048) i1) k = ix3 (⟨(i0 : ℕ) / 2048, by omega⟩ : Fin 4) (⟨(i0 : ℕ) % 2048, by omega⟩ : Fin 2048) k := fun k => by
    blk_ext
  have er : ∀ k : Fin 1024, ridx_main_v15 (ix3 (⟨(i0 : ℕ) / 2048, by omega⟩ : Fin 4) (⟨(i0 : ℕ) % 2048, by omega⟩ : Fin 2048) i1) k = ix2 i1 k := fun k => by
    blk_ext
  have es : idx_main_v6 (ix3 (⟨(i0 : ℕ) / 2048, by omega⟩ : Fin 4) (⟨(i0 : ℕ) % 2048, by omega⟩ : Fin 2048) i1) = ix3 (⟨(i0 : ℕ) / 2048, by omega⟩ : Fin 4) (⟨(i0 : ℕ) % 2048, by omega⟩ : Fin 2048) (⟨5136 + (i1 : ℕ), by omega⟩ : Fin 9232) := by
    blk_ext
  simp only [val_main_v29_apply, val_main_v28_apply, val_main_v18_apply, val_main_call2_v0_apply, val_main_call2_v1_apply,
    val_main_call2_v2_apply, val_main_v16_apply, val_main_v15_apply, val_main_v6_apply, val_main_v12_2_apply,
    val_main_v12_1_apply, val_main_call1_cst_apply, val_main_call1_cst_0_apply, val_main_call1_cst_1_apply,
    val_main_call1_v0_apply, val_main_call1_v1_apply, val_main_call1_v2_apply, val_main_call1_v3_apply,
    val_main_call1_v4_apply, val_main_call1_v6_apply, val_main_call1_v7_apply, e, el, er, es]
  pointwise [refGate, dGated, logit, Ideal.logistic]

set_option maxHeartbeats 1000000 in
/-- Kernel and reference compute the same four gradients. -/
theorem algebraic : Cert.algebraic_BranchKernelIdeal_BranchReferenceIdeal_pre_branch_finite := by
  pair_intro
  · run_from Cert.BranchKernelIdeal.Gen.run_main m g
  · run_from Cert.BranchReferenceIdeal.Value.run m' g'
    · rw [final8]; funext i; idx_vars i
      pointwise [dBranch, dGated, logit, Ideal.logistic]
    · rw [final9]
      obtain ⟨⟨h0, h1⟩, ⟨h3, h4⟩, ⟨h5, h6⟩⟩ := real_args _ _ _ _ _ _ _ (hpre c)
      exact ((val_main_v26_eq _ _ _ _).trans (ref26 _ _ _ _)).trans (refGate_eq _ _ _ _ _ _ h0 h3 h5)
    · rw [final10]; funext i; idx_vars i
      pointwise [dBranch, dGated, logit, Ideal.logistic]
    · rw [final11]
      obtain ⟨⟨h0, h1⟩, ⟨h3, h4⟩, ⟨h5, h6⟩⟩ := real_args _ _ _ _ _ _ _ (hpre c)
      exact ((val_main_v29_eq _ _ _ _).trans (ref29 _ _ _ _)).trans (refGate_eq _ _ _ _ _ _ h1 h4 h6)

end Cert.Branch

end
-- ==== Proof.FgateTile.lean ====
module

public import proofs.«01_k».proof.Proof.Gen.FgateKernelIdeal.Frame
public import proofs.«01_k».proof.Proof.Finite
public import Idealize.ShloMosaic.Lib.Pipeline.ValueKit

/- One row tile of the forget gate's gradient: a product with a triangle of ones sums the tile's rows from each
   row down, and a carried row adds the tiles below. -/

@[expose] public section

set_option maxRecDepth 16384

noncomputable section

namespace Cert.Fgate

open Idealize.ShloMosaic Idealize.ShloMosaic.TcCoe Idealize.SL.Sem
open Idealize.ShloMosaic.Pipeline (Dat)
open Cert.FgateKernelIdeal Cert.FgateKernelIdeal.Gen

/-- An entry of the triangle of ones: 1 from the row's own column on, 0 before. -/
theorem triangle (k i : Fin 256) :
    (FloatOps.sitofp .f32 (BitVec.setWidth 32 (IntOp.cmpi .sge (BitVec.ofNat 32 (k : ℕ)) (BitVec.ofNat 32 (i : ℕ)))) : Ideal .f32)
      = (((if i ≤ k then 1 else 0 : ℝ) : ℝ) : EReal) := by
  rw [WordCmp.cmpi_sge_ofNat (by omega) (by omega)]
  by_cases h : (i : ℕ) ≤ (k : ℕ)
  · have h' : i ≤ k := h
    simp [h, h', FloatOps.sitofp]
  · have h' : ¬ i ≤ k := h
    simp [h, h', FloatOps.sitofp]

/-- The sums from each row of a tile down, plus the carried row. -/
def tile (carry : FVec Ideal S1x128 .f32) (d : Vec Ideal S1x256x128 .f32) : FVec Ideal S256x128 .f32 :=
  k0_pay6 k0_pay2 carry d

/-- Over the reals the second and third part of a value split in three are zero, and what remains is the sum. -/
theorem tile_apply (carry : FVec Ideal S1x128 .f32) (d : Vec Ideal S1x256x128 .f32) (C : Fin 128 → ℝ) (D : Fin 256 → Fin 128 → ℝ)
    (hC : ∀ l, carry (ix2 (0 : Fin 1) l) = (C l : EReal)) (hD : ∀ k l, d (ix3 (0 : Fin 1) k l) = (D k l : EReal))
    (i : Fin 256) (l : Fin 128) :
    tile carry d (ix2 i l) = (((∑ k : Fin 256, if i ≤ k then D k l else 0) + C l : ℝ) : EReal) := by
  pointwise [tile, k0_pay6, k0_pay2, hC, hD]
  simp only [triangle, ← EReal.coe_mul, ← EReal.coe_sub, ← EReal.coe_add, ← Cert.Finite.coe_sum, sub_self, mul_zero,
    Finset.sum_const_zero, add_zero, ite_mul, one_mul, zero_mul]

/-- The sum of a column from row `n` of the sequence on. -/
def below (A : ℕ → Fin 128 → ℝ) (n : ℕ) (l : Fin 128) : ℝ := ∑ k ∈ Finset.Ico n 2048, A k l

/-- A tile's own rows and the tiles below it together. -/
theorem below_tile (A : ℕ → Fin 128 → ℝ) (o : ℕ) (ho : o + 256 ≤ 2048) (i : Fin 256) (l : Fin 128) :
    (∑ k : Fin 256, if i ≤ k then A (o + k) l else 0) + below A (o + 256) l = below A (o + i) l := by
  have e : (∑ k : Fin 256, if i ≤ k then A (o + k) l else 0) = ∑ k ∈ Finset.Ico (o + i : ℕ) (o + 256), A k l := by
    have e1 : (∑ k : Fin 256, if i ≤ k then A (o + k) l else 0)
        = ∑ k : Fin 256, (fun n : ℕ => if (i : ℕ) ≤ n then A (o + n) l else 0) (k : ℕ) :=
      Finset.sum_congr rfl fun k _ => by simp only [Fin.le_def]
    rw [e1, Fin.sum_univ_eq_sum_range (fun n : ℕ => if (i : ℕ) ≤ n then A (o + n) l else 0) 256, ← Finset.sum_filter, Finset.sum_Ico_eq_sum_range]
    refine Finset.sum_nbij' (fun k => k - i) (fun k => i + k) ?_ ?_ ?_ ?_ ?_
    · intro k hk; simp only [Finset.mem_filter, Finset.mem_range] at hk ⊢; omega
    · intro k hk; simp only [Finset.mem_filter, Finset.mem_range] at hk ⊢; omega
    · intro k hk; simp only [Finset.mem_filter, Finset.mem_range] at hk ⊢; omega
    · intro k hk; simp only [Finset.mem_filter, Finset.mem_range] at hk ⊢; omega
    · intro k hk
      simp only [Finset.mem_filter, Finset.mem_range] at hk
      exact congrArg (fun n => A n l) (by omega)
  rw [e]
  exact Finset.sum_Ico_consecutive _ (by omega) ho

/-- The first row of a tile's sums: what the tile above it adds. -/
def carried (carry : FVec Ideal S1x128 .f32) (d : Vec Ideal S1x256x128 .f32) : FVec Ideal S1x128 .f32 :=
  extractStridedSlice S1x128 ![0, 0] (tile carry d) slices_S256x128_o0_0_S1x128

theorem carried_apply (carry : FVec Ideal S1x128 .f32) (d : Vec Ideal S1x256x128 .f32) (l : Fin 128) :
    carried carry d (ix2 (0 : Fin 1) l) = tile carry d (ix2 (0 : Fin 256) l) := by
  pointwise [carried]

/-- A tile whose first row is row `o` of the sequence, over what the tiles below it add up to. -/
theorem tile_below (A : ℕ → Fin 128 → ℝ) (o : ℕ) (ho : o + 256 ≤ 2048) (carry : FVec Ideal S1x128 .f32) (d : Vec Ideal S1x256x128 .f32)
    (hC : ∀ l, carry (ix2 (0 : Fin 1) l) = (below A (o + 256) l : EReal))
    (hD : ∀ (k : Fin 256) l, d (ix3 (0 : Fin 1) k l) = (A (o + k) l : EReal)) (i : Fin 256) (l : Fin 128) :
    tile carry d (ix2 i l) = (below A (o + i) l : EReal) := by
  rw [tile_apply carry d _ _ hC hD i l, below_tile A o ho i l]

theorem carried_below (A : ℕ → Fin 128 → ℝ) (o : ℕ) (ho : o + 256 ≤ 2048) (carry : FVec Ideal S1x128 .f32) (d : Vec Ideal S1x256x128 .f32)
    (hC : ∀ l, carry (ix2 (0 : Fin 1) l) = (below A (o + 256) l : EReal))
    (hD : ∀ (k : Fin 256) l, d (ix3 (0 : Fin 1) k l) = (A (o + k) l : EReal)) (l : Fin 128) :
    carried carry d (ix2 (0 : Fin 1) l) = (below A o l : EReal) := by
  rw [carried_apply, tile_below A o ho carry d hC hD 0 l]
  rfl

/-- A tile's gradients: its sums times the sigmoid of minus the gate's logit. -/
def stored (carry : FVec Ideal S1x128 .f32) (d z : Vec Ideal S1x256x128 .f32) : FVec Ideal S256x128 .bf16 :=
  k0_pay8 k0_pay2 carry d z

theorem stored_apply (carry : FVec Ideal S1x128 .f32) (d z : Vec Ideal S1x256x128 .f32) (i : Fin 256) (l : Fin 128) :
    stored carry d z (ix2 i l) = tile carry d (ix2 i l) * Ideal.logistic (-(z (ix3 (0 : Fin 1) i l))) := by
  pointwise [stored, tile, k0_pay8, Ideal.logistic, zero_sub]

/-- The gradients of the tile whose first row is row `o` of the sequence, at the tile's place `u`. -/
theorem stored_below (A : ℕ → Fin 128 → ℝ) (o : ℕ) (ho : o + 256 ≤ 2048) (carry : FVec Ideal S1x128 .f32) (d w : Vec Ideal S1x256x128 .f32)
    (z : Vec Ideal S1x2048x128 .f32) (y : S2048x128.Idx) (u : S256x128.Idx) (h0 : (y 0 : ℕ) = o + (u 0 : ℕ)) (h1 : (y 1 : ℕ) = (u 1 : ℕ))
    (hC : ∀ l, carry (ix2 (0 : Fin 1) l) = (below A (o + 256) l : EReal))
    (hD : ∀ (k : Fin 256) l, d (ix3 (0 : Fin 1) k l) = (A (o + k) l : EReal))
    (hz : ∀ (k : Fin 256) l (hk : o + (k : ℕ) < 2048), w (ix3 (0 : Fin 1) k l) = z (ix3 (0 : Fin 1) (⟨o + k, hk⟩ : Fin 2048) l)) :
    stored carry d w u = (below A (y 0 : ℕ) (y 1) : EReal) * Ideal.logistic (-(z (ix3 (0 : Fin 1) (y 0) (y 1)))) := by
  obtain ⟨i, l, rfl⟩ : ∃ (i : Fin 256) (l : Fin 128), u = ix2 i l := ⟨u 0, u 1, eq_ix2 u⟩
  obtain ⟨a, b, rfl⟩ : ∃ (a : Fin 2048) (b : Fin 128), y = ix2 a b := ⟨y 0, y 1, eq_ix2 y⟩
  have h0' : (a : ℕ) = o + (i : ℕ) := h0
  have h1' : b = l := Fin.ext h1
  subst h1'
  have ha : a = ⟨o + i, by omega⟩ := Fin.ext h0'
  rw [stored_apply, tile_below A o ho carry d hC hD, hz i b (by omega), ← ha, ← h0']
  rfl

/-- The eight tiles, from the last of the sequence to the first. -/
def carry7 : FVec Ideal S1x128 .f32 := broadcast S1x128 (Scalar.ofBits .f32 0x00000000#32)
def carry6 (x : Vec Ideal S1x2048x128 .f32) : FVec Ideal S1x128 .f32 := carried carry7 (View.ld x r0_0)
def carry5 (x : Vec Ideal S1x2048x128 .f32) : FVec Ideal S1x128 .f32 := carried (carry6 x) (View.ld x r0_2)
def carry4 (x : Vec Ideal S1x2048x128 .f32) : FVec Ideal S1x128 .f32 := carried (carry5 x) (View.ld x r0_4)
def carry3 (x : Vec Ideal S1x2048x128 .f32) : FVec Ideal S1x128 .f32 := carried (carry4 x) (View.ld x r0_6)
def carry2 (x : Vec Ideal S1x2048x128 .f32) : FVec Ideal S1x128 .f32 := carried (carry3 x) (View.ld x r0_8)
def carry1 (x : Vec Ideal S1x2048x128 .f32) : FVec Ideal S1x128 .f32 := carried (carry2 x) (View.ld x r0_10)
def carry0 (x : Vec Ideal S1x2048x128 .f32) : FVec Ideal S1x128 .f32 := carried (carry1 x) (View.ld x r0_12)

theorem out_eq (x z : Vec Ideal S1x2048x128 .f32) : out0_2 x z =
    View.canon [⟨r0_15, stored (carry0 x) (View.ld x r0_14) (View.ld z r0_14)⟩,
      ⟨r0_13, stored (carry1 x) (View.ld x r0_12) (View.ld z r0_12)⟩,
      ⟨r0_11, stored (carry2 x) (View.ld x r0_10) (View.ld z r0_10)⟩,
      ⟨r0_9, stored (carry3 x) (View.ld x r0_8) (View.ld z r0_8)⟩,
      ⟨r0_7, stored (carry4 x) (View.ld x r0_6) (View.ld z r0_6)⟩,
      ⟨r0_5, stored (carry5 x) (View.ld x r0_4) (View.ld z r0_4)⟩,
      ⟨r0_3, stored (carry6 x) (View.ld x r0_2) (View.ld z r0_2)⟩,
      ⟨r0_1, stored carry7 (View.ld x r0_0) (View.ld z r0_0)⟩] := by
  rfl

/-- What a grid point leaves: at row `y 0` the sum of the column from there on, times the sigmoid of minus the logit. -/
theorem out_apply (A : ℕ → Fin 128 → ℝ) (x z : Vec Ideal S1x2048x128 .f32)
    (hx : ∀ (k : Fin 2048) l, x (ix3 (0 : Fin 1) k l) = (A k l : EReal)) (y : S2048x128.Idx) :
    out0_2 x z y = (below A (y 0 : ℕ) (y 1) : EReal) * Ideal.logistic (-(z (ix3 (0 : Fin 1) (y 0) (y 1)))) := by
  have g7 : ∀ l, carry7 (ix2 (0 : Fin 1) l) = (below A (1792 + 256) l : EReal) := fun l => by
    pointwise [carry7, below]
    simp
  have d0 : ∀ (k : Fin 256) l, View.ld x r0_0 (ix3 (0 : Fin 1) k l) = (A (1792 + k) l : EReal) := fun k l => by
    pointwise; exact hx ⟨1792 + k, by omega⟩ l
  have d2 : ∀ (k : Fin 256) l, View.ld x r0_2 (ix3 (0 : Fin 1) k l) = (A (1536 + k) l : EReal) := fun k l => by
    pointwise; exact hx ⟨1536 + k, by omega⟩ l
  have d4 : ∀ (k : Fin 256) l, View.ld x r0_4 (ix3 (0 : Fin 1) k l) = (A (1280 + k) l : EReal) := fun k l => by
    pointwise; exact hx ⟨1280 + k, by omega⟩ l
  have d6 : ∀ (k : Fin 256) l, View.ld x r0_6 (ix3 (0 : Fin 1) k l) = (A (1024 + k) l : EReal) := fun k l => by
    pointwise; exact hx ⟨1024 + k, by omega⟩ l
  have d8 : ∀ (k : Fin 256) l, View.ld x r0_8 (ix3 (0 : Fin 1) k l) = (A (768 + k) l : EReal) := fun k l => by
    pointwise; exact hx ⟨768 + k, by omega⟩ l
  have d10 : ∀ (k : Fin 256) l, View.ld x r0_10 (ix3 (0 : Fin 1) k l) = (A (512 + k) l : EReal) := fun k l => by
    pointwise; exact hx ⟨512 + k, by omega⟩ l
  have d12 : ∀ (k : Fin 256) l, View.ld x r0_12 (ix3 (0 : Fin 1) k l) = (A (256 + k) l : EReal) := fun k l => by
    pointwise; exact hx ⟨256 + k, by omega⟩ l
  have d14 : ∀ (k : Fin 256) l, View.ld x r0_14 (ix3 (0 : Fin 1) k l) = (A (0 + k) l : EReal) := fun k l => by
    pointwise; exact hx ⟨k, by omega⟩ l
  have g6 := carried_below A 1792 (by omega) _ _ g7 d0
  have g5 := carried_below A 1536 (by omega) _ _ g6 d2
  have g4 := carried_below A 1280 (by omega) _ _ g5 d4
  have g3 := carried_below A 1024 (by omega) _ _ g4 d6
  have g2 := carried_below A 768 (by omega) _ _ g3 d8
  have g1 := carried_below A 512 (by omega) _ _ g2 d10
  have g0 := carried_below A 256 (by omega) _ _ g1 d12
  rw [out_eq]
  canon_tiles u h
  · exact stored_below A 0 (by omega) _ _ _ z y u (by omega) h1 g0 d14 (fun k l hk => by pointwise)
  · exact stored_below A 256 (by omega) _ _ _ z y u (by omega) h1 g1 d12 (fun k l hk => by pointwise)
  · exact stored_below A 512 (by omega) _ _ _ z y u (by omega) h1 g2 d10 (fun k l hk => by pointwise)
  · exact stored_below A 768 (by omega) _ _ _ z y u (by omega) h1 g3 d8 (fun k l hk => by pointwise)
  · exact stored_below A 1024 (by omega) _ _ _ z y u (by omega) h1 g4 d6 (fun k l hk => by pointwise)
  · exact stored_below A 1280 (by omega) _ _ _ z y u (by omega) h1 g5 d4 (fun k l hk => by pointwise)
  · exact stored_below A 1536 (by omega) _ _ _ z y u (by omega) h1 g6 d2 (fun k l hk => by pointwise)
  · exact stored_below A 1792 (by omega) _ _ _ z y u (by omega) h1 g7 d0 (fun k l hk => by pointwise)

end Cert.Fgate
-- ==== Proof.Fgate.lean ====
module

public import proofs.«01_k».proof.Proof.FgateTile
public import proofs.«01_k».proof.Defs
public import proofs.«01_k».proof.Proof.Gen.Pre_fgate_finite
public import proofs.«01_k».proof.Proof.Gen.FgateReferenceIdeal.Run
public import proofs.«01_k».proof.Proof.Gen.FgateReferenceIdeal.Read
public import Idealize.ShloMosaic.Lib.Claim
public import Idealize.ShloMosaic.Lib.KernelVsHost

/- The gradient of the forget gate's logit: a sum over all later rows of the cumulative sum's cotangent, times the
   sigmoid of minus the logit. -/

@[expose] public section

set_option maxRecDepth 16384

noncomputable section

namespace Cert.Fgate

open Idealize.ShloMosaic Idealize.ShloMosaic.TcCoe Idealize.SL.Sem
open Idealize.ShloMosaic.Pipeline (Dat)
open Cert.FgateKernelIdeal Cert.FgateKernelIdeal.Gen

/-- The cotangent of the running sums, as a function of the row's number, zero on the lanes that hold no head. -/
def cot (ct : S4x2048x16.Idx → ℝ) (b : Fin 4) (n : ℕ) (l : Fin 128) : ℝ :=
  if h : n < 2048 ∧ (l : ℕ) < 16 then ct (ix3 b (⟨n, h.1⟩ : Fin 2048) (⟨l, h.2⟩ : Fin 16)) else 0

/-- The gate's logit, zero on the lanes that hold no head. -/
def logit (z : S4x2048x9232.Idx → ℝ) (b : Fin 4) (r : Fin 2048) (l : Fin 128) : ℝ :=
  if h : (l : ℕ) < 16 then z (ix3 b r (⟨3072 + l, by omega⟩ : Fin 9232)) else 0

/-- The gradient of the logit at row `i 0` (row `i 0 % 2048` of sequence `i 0 / 2048`) and head `i 1`. -/
def grad (z : S4x2048x9232.Idx → ℝ) (ct : S4x2048x16.Idx → ℝ) : FVec Ideal S8192x128 .bf16 := fun i =>
  (below (cot ct (⟨(i 0 : ℕ) / 2048, by idx_bounds i; omega⟩ : Fin 4)) ((i 0 : ℕ) % 2048) (i 1) : EReal)
    * Ideal.logistic (-((logit z (⟨(i 0 : ℕ) / 2048, by idx_bounds i; omega⟩ : Fin 4) (⟨(i 0 : ℕ) % 2048, by omega⟩ : Fin 2048) (i 1) : ℝ) : EReal))

variable (m : (ℓ : Loc nD τ sig) → Buf (Elt Ideal) ℓ)

/-- Every window's block index at every grid point. -/
theorem idx : ∀ t : Fin cfg0.N, win0_0.index t = ![t.val, 0, 0] ∧ win0_1.index t = ![t.val, 0, 0]
    ∧ win0_2.index t = ![t.val, 0] :=
  (by decide +kernel : ∀ t : Fin grid0.N, _)

/-- Sixteen lanes padded with zeros to 128, in three dimensions. -/
theorem pad3 (X : FVec Ideal S4x2048x16 .f32) (v : FVec Ideal S_ .f32) (hp) (hu) (hv : v (Shape.Idx.first hu) = (0 : EReal)) (b : Fin 4) (r : Fin 2048) (l : Fin 128) :
    pad S4x2048x128 ![0, 0, 0] ![0, 0, 112] ![0, 0, 0] X v hp hu (ix3 b r l) = if h : (l : ℕ) < 16 then X (ix3 b r (⟨l, h⟩ : Fin 16)) else 0 := by
  by_cases h : (l : ℕ) < 16
  · rw [dif_pos h]
    refine pad_apply_of_inside _ _ _ X v hp hu _ _ fun a => ?_
    match a with
    | ⟨0, _⟩ => show (b : ℕ) = 0 + (b : ℕ) * 1; omega
    | ⟨1, _⟩ => show (r : ℕ) = 0 + (r : ℕ) * 1; omega
    | ⟨2, _⟩ => show (l : ℕ) = 0 + (l : ℕ) * 1; omega
  · rw [dif_neg h]
    refine (pad_apply_of_not_inside _ _ _ X v hp hu _ 2 ?_).trans hv
    rintro ⟨-, -, h3⟩
    have h4 : ((l : ℕ) - 0) / (0 + 1) < 16 := h3
    omega

/-- Sixteen lanes padded with zeros to 128, in two dimensions. -/
theorem pad2 (X : FVec Ideal Cert.FgateReferenceIdeal.S8192x16 .f32) (v : FVec Ideal S_ .f32) (hp) (hu) (hv : v (Shape.Idx.first hu) = (0 : EReal)) (r : Fin 8192) (l : Fin 128) :
    pad S8192x128 ![0, 0] ![0, 112] ![0, 0] X v hp hu (ix2 r l) = if h : (l : ℕ) < 16 then X (ix2 r (⟨l, h⟩ : Fin 16)) else 0 := by
  by_cases h : (l : ℕ) < 16
  · rw [dif_pos h]
    refine pad_apply_of_inside _ _ _ X v hp hu _ _ fun a => ?_
    match a with
    | ⟨0, _⟩ => show (r : ℕ) = 0 + (r : ℕ) * 1; omega
    | ⟨1, _⟩ => show (l : ℕ) = 0 + (l : ℕ) * 1; omega
  · rw [dif_neg h]
    refine (pad_apply_of_not_inside _ _ _ X v hp hu _ 1 ?_).trans hv
    rintro ⟨-, -, h3⟩
    have h4 : ((l : ℕ) - 0) / (0 + 1) < 16 := h3
    omega

/-- The padding value: the integer zero as a float. -/
theorem zero_pad (i : S_.Idx) : (sitofp .f32 (constantI S_ 32 0#32) : FVec Ideal S_ .f32) i = (0 : EReal) := by
  pointwise
  simp [FloatOps.sitofp]

/-- The cotangent, padded to whole lanes. -/
theorem entry_ct (c : Dev nD) (ct : S4x2048x16.Idx → ℝ) (h : m ((c : Thread nD τ).loc main_arg1) = fun i => (ct i : EReal))
    (i : S4x2048x128.Idx) : V m c main_v0 i = (cot ct (i 0) (i 1 : ℕ) (i 2) : EReal) := by
  simp only [V, List.flatten_cons, List.flatten_nil, List.append_nil, List.cons_append, List.nil_append, StableHlo.TRef.unary, StableHlo.TRef.binary]
  entry_read
  idx_vars i
  refine (pad3 (m ((c : Thread nD τ).loc main_arg1)) (sitofp .f32 (constantI S_ 32 0#32))
    pads_S4x2048x16_S4x2048x128_000_000_01120 h_S_ (zero_pad _) i0 i1 i2).trans ?_
  rw [h]
  show _ = ((cot ct i0 (i1 : ℕ) i2 : ℝ) : EReal)
  unfold cot
  by_cases hl : (i2 : ℕ) < 16
  · rw [dif_pos hl, dif_pos ⟨i1.isLt, hl⟩]
  · rw [dif_neg hl, dif_neg fun q => hl q.2]
    rfl

/-- The logits, padded to whole lanes. -/
theorem entry_z (c : Dev nD) (z : S4x2048x9232.Idx → ℝ) (h : m ((c : Thread nD τ).loc main_arg0) = fun i => (z i : EReal))
    (i : S4x2048x128.Idx) : V m c main_v2 i = (logit z (i 0) (i 1) (i 2) : EReal) := by
  simp only [V, List.flatten_cons, List.flatten_nil, List.append_nil, List.cons_append, List.nil_append, StableHlo.TRef.unary, StableHlo.TRef.binary]
  entry_read
  idx_vars i
  refine (pad3 (extractStridedSlice S4x2048x16 ![0, 0, 3072] (m ((c : Thread nD τ).loc main_arg0)) slices_S4x2048x9232_S4x2048x16_0_0_3072)
    (sitofp .f32 (constantI S_ 32 0#32))
    pads_S4x2048x16_S4x2048x128_000_000_01120 h_S_ (zero_pad _) i0 i1 i2).trans ?_
  rw [h]
  show _ = ((logit z i0 i1 i2 : ℝ) : EReal)
  unfold logit
  by_cases hl : (i2 : ℕ) < 16
  · rw [dif_pos hl, dif_pos hl]
    pointwise
  · rw [dif_neg hl, dif_neg hl]
    rfl

/-- What point `t` stores is the gradient at the block's place. -/
theorem point (c : Dev nD) (z : S4x2048x9232.Idx → ℝ) (ct : S4x2048x16.Idx → ℝ)
    (hz : m ((c : Thread nD τ).loc main_arg0) = fun i => (z i : EReal))
    (hct : m ((c : Thread nD τ).loc main_arg1) = fun i => (ct i : EReal)) (t : Fin cfg0.N) (y) :
    out0_2 (iblk m c 0 t) (iblk m c 1 t) y = grad z ct (((cfg0.win 2).blk t).view.emb y) := by
  have ht := lt_of_lt_of_eq t.isLt N_0
  have e0 : ∀ (k : Fin 2048) (l : Fin 128), ((cfg0.win 0).blk t).view.emb (ix3 (0 : Fin 1) k l) = ix3 (⟨t.val, ht⟩ : Fin 4) k l :=
    fun k l => by blk_ext [idx t]
  have e1 : ((cfg0.win 1).blk t).view.emb (ix3 (0 : Fin 1) (y 0) (y 1)) = ix3 (⟨t.val, ht⟩ : Fin 4) (y 0) (y 1) := by blk_ext [idx t]
  have e2 : ((cfg0.win 2).blk t).view.emb y = ix2 (⟨t.val * 2048 + (y 0 : ℕ), by idx_bounds y; omega⟩ : Fin 8192) (y 1) := by
    blk_ext [idx t]
  rw [out_apply (cot ct (⟨t.val, ht⟩ : Fin 4)) (iblk m c 0 t) (iblk m c 1 t) fun k l =>
    (entry_ct m c ct hct (((cfg0.win 0).blk t).view.emb (ix3 (0 : Fin 1) k l))).trans (by rw [e0 k l]; rfl)]
  have hb : iblk m c 1 t (ix3 (0 : Fin 1) (y 0) (y 1)) = (logit z (⟨t.val, ht⟩ : Fin 4) (y 0) (y 1) : EReal) :=
    (entry_z m c z hz (((cfg0.win 1).blk t).view.emb (ix3 (0 : Fin 1) (y 0) (y 1)))).trans (by rw [e1]; rfl)
  have hy : (y 0 : ℕ) < 2048 := by idx_bounds y; omega
  have n1 : (t.val * 2048 + (y 0 : ℕ)) / 2048 = t.val := by omega
  have n2 : (t.val * 2048 + (y 0 : ℕ)) % 2048 = (y 0 : ℕ) := by omega
  rw [hb, e2]
  simp only [grad, ix2_0, ix2_1, n1, n2]
  rfl

/-- The result array after the run. -/
theorem final (c : Dev nD) (z : S4x2048x9232.Idx → ℝ) (ct : S4x2048x16.Idx → ℝ)
    (hz : m ((c : Thread nD τ).loc main_arg0) = fun i => (z i : EReal))
    (hct : m ((c : Thread nD τ).loc main_arg1) = fun i => (ct i : EReal)) :
    (dats m 0 c).arrAt 2 (cfgs 0).N = grad z ct := by
  refine (dats m 0 c).arrAt_eq_of_covers 2 _ (by decide +kernel) fun t hf y => ?_
  blk_simp; rw [after0_2]
  exact point m c z ct hz hct t y

/-- A float `cumsum` from the end: entry `(b, r, l)` is the sum of the entries from row `r` on. -/
theorem suffix_sum (X : S4x2048x16.Idx → ℝ) (init : FVec Ideal S_ .f32) (h) (hu) (hi : init (Shape.Idx.first hu) = (0 : EReal))
    (b : Fin 4) (r : Fin 2048) (l : Fin 128) (hl : (l : ℕ) < 16) :
    Host.reduceWindowAdd (F := Ideal) (t := S4x2048x16) (φ := .f32) ![1, 2048, 1] ![1, 1, 1] ![0, 0, 0] ![0, 2047, 0] (fun i => (X i : EReal)) init h hu (ix3 b r (⟨l, hl⟩ : Fin 16))
      = (below (cot X b) r l : EReal) := by
  have fold : ∀ {N : ℕ} (g : Fin N → EReal) (v : EReal), (List.finRange N).foldl (fun a n => a + g n) v = v + ∑ n, g n := by
    intro N g v
    have : ∀ (L : List (Fin N)) (v : EReal), L.foldl (fun a n => a + g n) v = v + (L.map g).sum := by
      intro L
      induction L with
      | nil => intro v; simp
      | cons a L ih => intro v; rw [List.foldl_cons, ih, List.map_cons, List.sum_cons, add_assoc]
    rw [this, ← List.ofFn_eq_map, List.sum_ofFn]
  unfold Host.reduceWindowAdd
  rw [hi]
  show Ideal.hostReduceWindowAdd _ _ _ _ _ _ _ _ = _
  unfold Ideal.hostReduceWindowAdd Host.reduceWindow
  dsimp only
  refine (fold _ _).trans ?_
  rw [zero_add]
  have hr := r.isLt
  refine (Finset.sum_congr rfl fun n _ => ?_).trans ((Equiv.sum_comp (Shape.rowMajor ⟨3, ![1, 2048, 1]⟩).symm
    (fun q : (⟨3, ![1, 2048, 1]⟩ : Shape).Idx => ((cot X b (r + (q 1 : ℕ)) l : ℝ) : EReal))).trans ?_)
  · have q0 : ((Shape.rowMajor ⟨3, ![1, 2048, 1]⟩).symm n 0 : ℕ) < 1 := ((Shape.rowMajor ⟨3, ![1, 2048, 1]⟩).symm n 0).isLt
    have q2 : ((Shape.rowMajor ⟨3, ![1, 2048, 1]⟩).symm n 2 : ℕ) < 1 := ((Shape.rowMajor ⟨3, ![1, 2048, 1]⟩).symm n 2).isLt
    have q1 : ((Shape.rowMajor ⟨3, ![1, 2048, 1]⟩).symm n 1 : ℕ) < 2048 := ((Shape.rowMajor ⟨3, ![1, 2048, 1]⟩).symm n 1).isLt
    have hb := b.isLt
    have p0 : (b : ℕ) * 1 + ((Shape.rowMajor ⟨3, ![1, 2048, 1]⟩).symm n 0 : ℕ) = b := by omega
    have p1 : (r : ℕ) * 1 + ((Shape.rowMajor ⟨3, ![1, 2048, 1]⟩).symm n 1 : ℕ) = r + ((Shape.rowMajor ⟨3, ![1, 2048, 1]⟩).symm n 1 : ℕ) := by omega
    have p2 : (l : ℕ) * 1 + ((Shape.rowMajor ⟨3, ![1, 2048, 1]⟩).symm n 2 : ℕ) = l := by omega
    by_cases h1 : (r : ℕ) + ((Shape.rowMajor ⟨3, ![1, 2048, 1]⟩).symm n 1 : ℕ) < 2048
    · rw [show cot X b (r + ((Shape.rowMajor ⟨3, ![1, 2048, 1]⟩).symm n 1 : ℕ)) l = X (ix3 b (⟨r + ((Shape.rowMajor ⟨3, ![1, 2048, 1]⟩).symm n 1 : ℕ), h1⟩ : Fin 2048) (⟨l, hl⟩ : Fin 16)) from dif_pos ⟨h1, hl⟩]
      rw [dif_pos (fun a => by
        match a with
        | ⟨0, _⟩ => show 0 ≤ (b : ℕ) * 1 + ((Shape.rowMajor ⟨3, ![1, 2048, 1]⟩).symm n 0 : ℕ) ∧ (b : ℕ) * 1 + ((Shape.rowMajor ⟨3, ![1, 2048, 1]⟩).symm n 0 : ℕ) - 0 < 4; omega
        | ⟨1, _⟩ => show 0 ≤ (r : ℕ) * 1 + ((Shape.rowMajor ⟨3, ![1, 2048, 1]⟩).symm n 1 : ℕ) ∧ (r : ℕ) * 1 + ((Shape.rowMajor ⟨3, ![1, 2048, 1]⟩).symm n 1 : ℕ) - 0 < 2048; omega
        | ⟨2, _⟩ => show 0 ≤ (l : ℕ) * 1 + ((Shape.rowMajor ⟨3, ![1, 2048, 1]⟩).symm n 2 : ℕ) ∧ (l : ℕ) * 1 + ((Shape.rowMajor ⟨3, ![1, 2048, 1]⟩).symm n 2 : ℕ) - 0 < 16; omega)]
      refine congrArg (fun i => ((X i : ℝ) : EReal)) (funext fun a => Fin.ext ?_)
      match a with
      | ⟨0, _⟩ => show (b : ℕ) * 1 + ((Shape.rowMajor ⟨3, ![1, 2048, 1]⟩).symm n 0 : ℕ) - 0 = b; omega
      | ⟨1, _⟩ => show (r : ℕ) * 1 + ((Shape.rowMajor ⟨3, ![1, 2048, 1]⟩).symm n 1 : ℕ) - 0 = r + ((Shape.rowMajor ⟨3, ![1, 2048, 1]⟩).symm n 1 : ℕ); omega
      | ⟨2, _⟩ => show (l : ℕ) * 1 + ((Shape.rowMajor ⟨3, ![1, 2048, 1]⟩).symm n 2 : ℕ) - 0 = l; omega
    · rw [show cot X b (r + ((Shape.rowMajor ⟨3, ![1, 2048, 1]⟩).symm n 1 : ℕ)) l = 0 from dif_neg fun q => h1 q.1, dif_neg (fun hin => h1 (by
        have h2 : (r : ℕ) * 1 + ((Shape.rowMajor ⟨3, ![1, 2048, 1]⟩).symm n 1 : ℕ) - 0 < 2048 := (hin 1).2
        omega))]
      rfl
  · rw [sum_idx3]
    simp only [Fin.sum_univ_one, ix3_1, ← Cert.Finite.coe_sum]
    refine congrArg _ ?_
    rw [Fin.sum_univ_eq_sum_range (fun q => cot X b (r + q) l) 2048, below, Finset.sum_Ico_eq_sum_range]
    refine (Finset.sum_subset (fun q hq => ?_) fun q _ hq => ?_).symm
    · simp only [Finset.mem_range] at hq ⊢; omega
    · simp only [Finset.mem_range] at hq
      exact dif_neg fun c => by omega

/-- The exponential of `x - log (1 + exp x)`, as the host writes it out, is the sigmoid. -/
theorem softplus (x : ℝ) :
    Ideal.exp ((x : EReal) - (max (x : EReal) 0 + Ideal.log1p (Ideal.exp (-(max (x : EReal) (-(x : EReal))))))) = Ideal.logistic (x : EReal) := by
  have hpos : (0 : ℝ) < 1 + Real.exp (-(max x (-x))) := by positivity
  have e : max x 0 + Real.log (1 + Real.exp (-(max x (-x)))) = Real.log (1 + Real.exp x) := by
    rcases le_total 0 x with hx | hx
    · rw [max_eq_left hx, max_eq_left (by linarith)]
      conv_lhs => rw [← Real.log_exp x]
      rw [← Real.log_mul (Real.exp_pos x).ne' (by positivity), mul_add, ← Real.exp_add]
      simp [add_comm]
    · rw [max_eq_right hx, max_eq_right (by linarith), neg_neg, zero_add]
  have mx : ∀ a b : ℝ, max (a : EReal) (b : EReal) = ((max a b : ℝ) : EReal) := fun a b => (EReal.coe_strictMono.monotone.map_max).symm
  rw [← EReal.coe_neg, ← EReal.coe_zero, mx, mx, ← EReal.coe_neg, Ideal.exp_coe, Ideal.log1p, ← EReal.coe_one,
    ← EReal.coe_add, Ideal.log_coe, if_neg (not_le.mpr hpos), ← EReal.coe_add, e, ← EReal.coe_sub, Ideal.exp_coe, Ideal.logistic_coe]
  rw [Real.exp_sub, Real.exp_log (by positivity), Real.exp_neg]
  congr 1
  have := Real.exp_pos x
  field_simp
  ring

/-- The host's form of it, with its tests for infinity and for a value that is not equal to itself. -/
theorem softplus_host (x : ℝ) (f : EReal) (hf : f = (x : EReal)) :
    Ideal.exp ((if f = ⊤ then 0 else f) - if (if f ≠ f then f else max f 0 + Ideal.log1p (Ideal.exp (-(FloatOps.absf (F := Ideal) (φ := .f32) f)))) = ⊤ then 0
      else (if f ≠ f then f else max f 0 + Ideal.log1p (Ideal.exp (-(FloatOps.absf (F := Ideal) (φ := .f32) f))))) = Ideal.logistic (x : EReal) := by
  have ha : FloatOps.absf (F := Ideal) (φ := .f32) f = max f (-f) := rfl
  rw [ha, if_neg (by simp : ¬ (f ≠ f)), ← softplus x, hf, if_neg (EReal.coe_ne_top x)]
  rw [if_neg]
  intro h
  have h2 := softplus x
  rw [h] at h2
  have h3 : Ideal.logistic (x : EReal) = Ideal.exp ⊥ := by rw [← h2]; rfl
  rw [Ideal.logistic_coe, Ideal.exp_bot] at h3
  have h4 : (1 + Real.exp (-x))⁻¹ = 0 := by exact_mod_cast h3
  have := Real.exp_pos (-x)
  rw [inv_eq_zero] at h4
  linarith

open Cert.FgateReferenceIdeal.Read in
/-- The reference's array. -/
theorem reference_eq (z : S4x2048x9232.Idx → ℝ) (ct : S4x2048x16.Idx → ℝ) :
    Cert.FgateReferenceIdeal.Read.val_main_v15 (F := Ideal) (fun i => (z i : EReal)) (fun i => (ct i : EReal)) = grad z ct := by
  funext i
  idx_vars i
  rw [Cert.FgateReferenceIdeal.Read.val_main_v15_apply]
  unfold Cert.FgateReferenceIdeal.Read.val_main_v14
  show pad _ _ _ _ _ _ _ _ _ = _
  rw [pad2 _ _ _ _ (by simp [Cert.FgateReferenceIdeal.Read.val_main_call4_v0_apply, Cert.FgateReferenceIdeal.Read.val_main_c_apply, FloatOps.sitofp])]
  by_cases hl : (i1 : ℕ) < 16
  · rw [dif_pos hl]
    have e : Cert.FgateReferenceIdeal.Read.idx_main_v13 (ix2 i0 (⟨i1, hl⟩ : Fin 16))
        = ix3 (⟨(i0 : ℕ) / 2048, by omega⟩ : Fin 4) (⟨(i0 : ℕ) % 2048, by omega⟩ : Fin 2048) (⟨i1, hl⟩ : Fin 16) := by
      blk_ext
    rw [Cert.FgateReferenceIdeal.Read.val_main_v13_apply, e]
    have hs := suffix_sum ct (Cert.FgateReferenceIdeal.Read.val_main_call2_call0_v0 (F := Ideal))
      Cert.FgateReferenceIdeal.Gen.reduceWindows_S4x2048x16_S4x2048x16_w1s1p0_0_w2048s1p0_2047_w1s1p0_0 Cert.FgateReferenceIdeal.Gen.h_S_
      (by pointwise [Cert.FgateReferenceIdeal.Read.val_main_call2_call0_v0, Cert.FgateReferenceIdeal.Read.val_main_call2_call0_cst])
      (⟨(i0 : ℕ) / 2048, by omega⟩ : Fin 4) (⟨(i0 : ℕ) % 2048, by omega⟩ : Fin 2048) i1 hl
    simp only [val_main_v12_apply, val_main_call3_v1_apply, val_main_call3_v0_apply, val_main_v9_1_apply, val_main_call0_call0_v21_apply,
      val_main_call0_call0_v16_apply, val_main_call0_call0_v20_apply, val_main_call0_call0_v14_apply, val_main_call0_call0_v18_apply,
      val_main_call0_v1_0_apply, val_main_call0_call0_v4_apply, val_main_call0_call0_v6_apply, val_main_call0_call0_v11_apply,
      val_main_call0_call0_v1_apply, val_main_call0_call0_v10_apply, val_main_call0_call0_v9_apply, val_main_call0_call0_v8_apply,
      val_main_call0_call0_v7_apply, val_main_call0_call0_v3_apply, val_main_call0_v0_apply, val_main_v3_apply, val_main_v11, hs,
      val_main_call0_call0_v0_apply, val_main_call0_call0_v2_apply, val_main_call0_call0_v5_apply, val_main_call0_call0_v13_apply,
      val_main_call0_call0_v15_apply, val_main_call0_call0_v17_apply, val_main_call0_call0_v19_apply, val_main_call0_call0_cst_apply,
      val_main_call0_call0_cst_0_apply, val_main_call0_call0_cst_1_apply, val_main_call0_call0_cst_2_apply, val_main_call0_call0_cst_3_apply]
    have e3 : idx_main_v3 (ix3 (⟨(i0 : ℕ) / 2048, by omega⟩ : Fin 4) (⟨(i0 : ℕ) % 2048, by omega⟩ : Fin 2048) (⟨i1, hl⟩ : Fin 16))
        = ix3 (⟨(i0 : ℕ) / 2048, by omega⟩ : Fin 4) (⟨(i0 : ℕ) % 2048, by omega⟩ : Fin 2048) (⟨3072 + (i1 : ℕ), by omega⟩ : Fin 9232) := by
      blk_ext
    pointwise [e3, Cert.Finite.inf_word]
    rw [softplus_host (-(z (ix3 (⟨(i0 : ℕ) / 2048, by omega⟩ : Fin 4) (⟨(i0 : ℕ) % 2048, by omega⟩ : Fin 2048) (⟨3072 + (i1 : ℕ), by omega⟩ : Fin 9232)))) _
      (by rw [EReal.coe_neg]), EReal.neg_mul, neg_neg, EReal.coe_neg]
    simp only [grad, logit, ix2_0, ix2_1, hl, ↓reduceDIte]
  · rw [dif_neg hl]
    simp only [grad, ix2_0, ix2_1]
    have hc : below (cot ct (⟨(i0 : ℕ) / 2048, by omega⟩ : Fin 4)) ((i0 : ℕ) % 2048) i1 = 0 :=
      Finset.sum_eq_zero fun k _ => dif_neg fun q => hl q.2
    rw [hc, EReal.coe_zero, zero_mul]

/-- A finite argument is an array of real numbers. -/
theorem real_args (z : FVec Ideal Cert.Pre_fgate_finite.S4x2048x9232 .f32) (ct : FVec Ideal Cert.Pre_fgate_finite.S4x2048x16 .f32)
    (h : Cert.Pre_fgate_finite.fn (F := Ideal) z ct = fun _ => 1#1) :
    (∃ x : Cert.Pre_fgate_finite.S4x2048x9232.Idx → ℝ, z = fun i => (x i : EReal))
      ∧ ∃ x : Cert.Pre_fgate_finite.S4x2048x16.Idx → ℝ, ct = fun i => (x i : EReal) := by
  have e := congrFun h ix0
  dsimp only [Cert.Pre_fgate_finite.fn] at e
  obtain ⟨e1, e2⟩ := Cert.Finite.and_one _ _ _ e
  exact ⟨Cert.Finite.real_of_all _ _ _ _ _ _ e1, Cert.Finite.real_of_all _ _ _ _ _ _ e2⟩

/-- The kernel's result and the reference's are one array, over finite arguments. -/
theorem algebraic : Cert.algebraic_FgateKernelIdeal_FgateReferenceIdeal_pre_fgate_finite := by
  pair_intro
  · run_from Cert.FgateKernelIdeal.Gen.run_main m g
    · exact V_main_arg0 m c
    · exact V_main_arg1 m c
  · run_from Cert.FgateReferenceIdeal.Value.run m' g'
    obtain ⟨⟨z, hz⟩, ⟨ct, hct⟩⟩ := real_args _ _ (hpre c)
    rw [final m c z ct hz hct, ← reference_eq, ← hz, ← hct]
    exact Cert.FgateReferenceIdeal.Read.val_main_v15_eq _ _

end Cert.Fgate

end
-- ==== Proof.AttnModel.lean ====
/- Causal attention with a bias per key and query, over the reals: its weights and its gradients, element by element. -/
module

public import proofs.«01_k».proof.Proof.Finite
public import Mathlib.Analysis.SpecialFunctions.Log.Basic

@[expose] public section

noncomputable section

namespace Cert.Attn

/-- The arguments: queries, keys, values and the cotangent of the output by batch, row, head and lane; the bias by batch, row
    and head. -/
structure Args where
  q : Fin 4 → Fin 2048 → Fin 16 → Fin 64 → ℝ
  k : Fin 4 → Fin 2048 → Fin 16 → Fin 64 → ℝ
  v : Fin 4 → Fin 2048 → Fin 16 → Fin 64 → ℝ
  c : Fin 4 → Fin 2048 → Fin 16 → ℝ
  ct : Fin 4 → Fin 2048 → Fin 16 → Fin 64 → ℝ

namespace Args

variable (A : Args) (b : Fin 4) (h : Fin 16)

/-- The logit of a query for a key. -/
def logit (t u : Fin 2048) : ℝ := (∑ d, A.q b t h d * A.k b u h d) * (1 / 8) + A.c b t h - A.c b u h

/-- The logit where the key is not after the query. -/
def masked (t u : Fin 2048) : EReal := if u ≤ t then (A.logit b h t u : EReal) else ⊥

/-- The largest logit of a query. -/
def most (t : Fin 2048) : ℝ := (Finset.univ.sup fun u => A.masked b h t u).toReal

/-- A weight before its row is divided by its sum. -/
def raw (t u : Fin 2048) : ℝ := if u ≤ t then Real.exp (A.logit b h t u - A.most b h t) else 0

/-- The sum of a row of raw weights. -/
def total (t : Fin 2048) : ℝ := ∑ u, A.raw b h t u

/-- The attention weight of a key for a query. -/
def prob (t u : Fin 2048) : ℝ := A.raw b h t u / A.total b h t

/-- A row's log-sum. -/
def lse (t : Fin 2048) : ℝ := A.most b h t + Real.log (A.total b h t)

/-- The output. -/
def out (t : Fin 2048) (d : Fin 64) : ℝ := ∑ u, A.v b u h d * A.prob b h t u

/-- The output times its cotangent, summed over the lanes. -/
def odot (t : Fin 2048) : ℝ := ∑ d, A.out b h t d * A.ct b t h d

/-- The gradient of a logit. -/
def dlogit (t u : Fin 2048) : ℝ := A.prob b h t u * ((∑ d, A.ct b t h d * A.v b u h d) - A.odot b h t)

/-- The gradient of the queries. -/
def dq (t : Fin 2048) (d : Fin 64) : ℝ := (∑ u, A.dlogit b h t u * A.k b u h d) * (1 / 8)

/-- The gradient of the keys. -/
def dk (u : Fin 2048) (d : Fin 64) : ℝ := ∑ t, A.q b t h d * (1 / 8) * A.dlogit b h t u

/-- The gradient of the values. -/
def dv (u : Fin 2048) (d : Fin 64) : ℝ := ∑ t, A.ct b t h d * A.prob b h t u

/-- The gradient of the bias. -/
def dc (t : Fin 2048) : ℝ := (∑ u, A.dlogit b h t u) - ∑ s, A.dlogit b h s t

theorem sup_masked (t : Fin 2048) : (Finset.univ.sup fun u => A.masked b h t u) = (A.most b h t : EReal) := by
  obtain ⟨u, -, hu⟩ := Finset.exists_mem_eq_sup Finset.univ ⟨t, Finset.mem_univ t⟩ fun u => A.masked b h t u
  have hle : A.masked b h t t ≤ Finset.univ.sup fun u => A.masked b h t u :=
    Finset.le_sup (f := fun u => A.masked b h t u) (Finset.mem_univ t)
  have ht : A.masked b h t t = (A.logit b h t t : EReal) := if_pos le_rfl
  rw [most, EReal.coe_toReal]
  · rw [hu, masked]; split <;> simp
  · intro e; rw [e, ht, le_bot_iff] at hle; exact EReal.coe_ne_bot _ hle

theorem raw_nonneg (t u : Fin 2048) : 0 ≤ A.raw b h t u := by
  unfold raw; split
  · exact (Real.exp_pos _).le
  · exact le_rfl

theorem total_pos (t : Fin 2048) : 0 < A.total b h t :=
  Finset.sum_pos' (fun u _ => A.raw_nonneg b h t u) ⟨t, Finset.mem_univ t, by rw [raw, if_pos le_rfl]; exact Real.exp_pos _⟩

/-- A weight from its logit and its row's log-sum. -/
theorem prob_eq (t u : Fin 2048) : A.prob b h t u = if u ≤ t then Real.exp (A.logit b h t u - A.lse b h t) else 0 := by
  rw [prob, raw, lse]
  split
  · rw [← sub_sub, Real.exp_sub _ (Real.log _), Real.exp_log (A.total_pos b h t)]
  · exact zero_div _

theorem prob_after (t u : Fin 2048) (hu : ¬ u ≤ t) : A.prob b h t u = 0 := by rw [prob_eq, if_neg hu]

theorem dlogit_after (t u : Fin 2048) (hu : ¬ u ≤ t) : A.dlogit b h t u = 0 := by rw [dlogit, prob_after _ _ _ _ _ hu, zero_mul]

/-- The output times its cotangent is the mean of the weights' gradients. -/
theorem odot_eq (t : Fin 2048) : A.odot b h t = ∑ u, (∑ d, A.ct b t h d * A.v b u h d) * A.prob b h t u := by
  simp only [odot, out, Finset.sum_mul]
  rw [Finset.sum_comm]
  exact Finset.sum_congr rfl fun u _ => Finset.sum_congr rfl fun d _ => by ring

end Args

end Cert.Attn

end
-- ==== Proof.AttnBody.lean ====
/- The attention backward body, written once for every tile: what it keeps per row tile and head, what it computes
   for a query tile against a key tile, and the stores it makes. -/
module

public import proofs.«01_k».proof.Proof.Gen.AttnKernelIdeal.Skeleton
public import Idealize.ShloMosaic.Lib.Pipeline.ValueKit

@[expose] public section

set_option maxRecDepth 16384

noncomputable section

namespace Cert.Attn

open Idealize.ShloMosaic Idealize.ShloMosaic.TcCoe Idealize.SL.Sem
open Cert.AttnKernelIdeal Cert.AttnKernelIdeal.Gen

variable {F : FTy → Type} [FloatOps F] [Named F]

/-! ## Masks, columns and rows of a tile -/

/-- A lane's number. -/
def lane : IVec S1x128 32 := iota .tc S1x128 32 [1] iota_S1x128_d1_w32

/-- A sublane's number. -/
def sub : IVec S128x1 32 := iota .tc S128x1 32 [0] iota_S128x1_d0_w32

/-- The comparison with 64 that picks a head's half. -/
def half : Fin 2 → CmpIPredicate
  | 0 => .slt
  | 1 => .sge

/-- The first lane of the half a head leaves free. -/
def spare : Fin 2 → ℕ
  | 0 => 64
  | 1 => 0

/-- Where a row's lane compares with a number. -/
def laneIs (p : CmpIPredicate) (n : BitVec 32) : IVec S512x128 1 :=
  broadcastTo S512x128 (shapeCast S1x128 (cmpi p lane (broadcast S1x128 n)) shapeCasts_S1x128_S1x128)
    broadcasts_S1x128_S512x128

/-- Where a column's sublane compares with a number. -/
def subIs (p : CmpIPredicate) (n : BitVec 32) : IVec S128x512 1 :=
  broadcastTo S128x512 (shapeCast S128x1 (cmpi p sub (broadcast S128x1 n)) shapeCasts_S128x1_S128x1)
    broadcasts_S128x1_S128x512

/-- A column on every lane. -/
def onLanes {φ : FTy} (c : FVec F S512x1 φ) : FVec F S512x128 φ :=
  broadcastTo S512x128 (shapeCast S512x1 c shapeCasts_S512x1_S512x1) broadcasts_S512x1_S512x128

/-- A row on every sublane. -/
def onSubs {φ : FTy} (r : FVec F S1x512 φ) : FVec F S128x512 φ :=
  broadcastTo S128x512 (shapeCast S1x512 r shapeCasts_S1x512_S1x512) broadcasts_S1x512_S128x512

/-- Zeros of a shape. -/
def zeros (s : Shape) : FVec F s .f32 := broadcast s (Scalar.ofBits .f32 0x00000000#32)

/-- Zeros of a shape, half width. -/
def zerosH (s : Shape) : FVec F s .bf16 := broadcast s (Scalar.ofBits .bf16 0x0000#16)

/-- Ones of a shape, half width. -/
def onesH (s : Shape) : FVec F s .bf16 := broadcast s (Scalar.ofBits .bf16 0x3F80#16)

/-- A number's first part of three. -/
def hi {s : Shape} (x : FVec F s .f32) : FVec F s .bf16 := truncf .bf16 x bitsLt_bf16_f32

/-- What the first part leaves. -/
def rest {s : Shape} (x : FVec F s .f32) : FVec F s .f32 := subf x (extf .f32 (hi x) bitsLt_bf16_f32)

/-- Three parts of a column in three lanes of a tile. -/
def putCols (n : ℕ) (b : FVec F S512x1 .f32) (t : FVec F S512x128 .bf16) : FVec F S512x128 .bf16 :=
  select (laneIs .eq (BitVec.ofNat 32 (n + 2))) (onLanes (hi (rest (rest b))))
    (select (laneIs .eq (BitVec.ofNat 32 (n + 1))) (onLanes (hi (rest b)))
      (select (laneIs .eq (BitVec.ofNat 32 n)) (onLanes (hi b)) t))

/-- Ones in three lanes of a tile. -/
def oneCols (n : ℕ) (t : FVec F S512x128 .bf16) : FVec F S512x128 .bf16 :=
  select (laneIs .eq (BitVec.ofNat 32 (n + 2))) (onesH S512x128)
    (select (laneIs .eq (BitVec.ofNat 32 (n + 1))) (onesH S512x128)
      (select (laneIs .eq (BitVec.ofNat 32 n)) (onesH S512x128) t))

/-- Three parts of a row in three sublanes of a tile. -/
def putRows (n : ℕ) (b : FVec F S1x512 .f32) (t : FVec F S128x512 .bf16) : FVec F S128x512 .bf16 :=
  select (subIs .eq (BitVec.ofNat 32 (n + 2))) (onSubs (hi (rest (rest b))))
    (select (subIs .eq (BitVec.ofNat 32 (n + 1))) (onSubs (hi (rest b)))
      (select (subIs .eq (BitVec.ofNat 32 n)) (onSubs (hi b)) t))

/-- Ones in three sublanes of a tile. -/
def oneRows (n : ℕ) (t : FVec F S128x512 .bf16) : FVec F S128x512 .bf16 :=
  select (subIs .eq (BitVec.ofNat 32 (n + 2))) (onesH S128x512)
    (select (subIs .eq (BitVec.ofNat 32 (n + 1))) (onesH S128x512)
      (select (subIs .eq (BitVec.ofNat 32 n)) (onesH S128x512) t))

/-- A head's lanes of a tile. -/
def mineL (hh : Fin 2) (t : FVec F S512x128 .bf16) : FVec F S512x128 .bf16 :=
  select (laneIs (half hh) 64#32) t (zerosH S512x128)

/-- A head's sublanes of a transposed tile. -/
def mineS (hh : Fin 2) (t : FVec F S128x512 .bf16) : FVec F S128x512 .bf16 :=
  select (subIs (half hh) 64#32) t (zerosH S128x512)

/-- A tile without its leading axis. -/
def flat {φ : FTy} (x : FVec F S1x512x128 φ) : FVec F S512x128 φ := shapeCast S512x128 x shapeCasts_S1x512x128_S512x128

/-- A tile transposed. -/
def tr (x : FVec F S512x128 .bf16) : FVec F S128x512 .bf16 :=
  truncf .bf16 (transpose S128x512 [1, 0] (extf .f32 x bitsLt_bf16_f32) transposes_S512x128_p1_0_S128x512) bitsLt_bf16_f32

/-- The queries at their scale. -/
def scaled (q : Vec F S1x512x128 .bf16) : FVec F S512x128 .bf16 :=
  mulf (flat q) (broadcast S512x128 (Scalar.ofBits .bf16 0x3E00#16))

/-- Two rows as the first two columns of a tile. -/
def twoCols (a b : FVec F S1x512 .f32) : FVec F S512x128 .f32 :=
  transpose S512x128 [1, 0] (select (subIs .eq 0#32) (onSubs a) (select (subIs .eq 1#32) (onSubs b) (zeros S128x512)))
    transposes_S128x512_p1_0_S512x128

/-- Column `hh` of a tile. -/
def pick (hh : Fin 2) (x : FVec F S512x128 .f32) : FVec F S512x1 .f32 :=
  match hh with
  | 0 => extractStridedSlice S512x1 ![0, 0] x slices_S512x128_o0_0_S512x1
  | 1 => extractStridedSlice S512x1 ![0, 1] x slices_S512x128_o0_1_S512x1

/-- A head's first column of a tile. -/
def pickHead (hh : Fin 2) (x : FVec F S512x128 .f32) : FVec F S512x1 .f32 :=
  match hh with
  | 0 => extractStridedSlice S512x1 ![0, 0] x slices_S512x128_o0_0_S512x1
  | 1 => extractStridedSlice S512x1 ![0, 64] x slices_S512x128_o0_64_S512x1

/-- A row without its leading axes. -/
def row (x : Vec F S1x1x1x1x512 .f32) : FVec F S1x512 .f32 := shapeCast S1x512 x shapeCasts_S1x1x1x1x512_S1x512

/-! ## What the body keeps of a row tile, per head -/

/-- What the body loads at a point: the row tiles of its arguments. -/
structure Loads (F : FTy → Type) where
  q : Fin 4 → Vec F S1x512x128 .bf16
  k : Fin 4 → Vec F S1x512x128 .bf16
  v : Fin 4 → Vec F S1x512x128 .bf16
  o : Fin 4 → Vec F S1x512x128 .bf16
  y : Fin 4 → Vec F S1x512x128 .f32
  c : Fin 4 → Vec F S1x512x128 .f32
  lse : Fin 2 → Fin 4 → Vec F S1x1x1x1x512 .f32
  cr : Fin 2 → Fin 4 → Vec F S1x1x1x1x512 .f32

variable (X : Loads F)

/-- A query row's own addend: its bias less its log-sum. -/
def bias (hh : Fin 2) (i : Fin 4) : FVec F S512x1 .f32 :=
  subf (pickHead hh (flat (X.c i))) (pick hh (twoCols (row (X.lse 0 i)) (row (X.lse 1 i))))

/-- The sum over a head's lanes of the output times its cotangent. -/
def odot (hh : Fin 2) (i : Fin 4) : FVec F S512x1 .f32 :=
  shapeCast S512x1
    (multiReduction .add [1] S512
      (select (laneIs (half hh) 64#32) (mulf (flat (X.y i)) (extf .f32 (flat (X.o i)) bitsLt_bf16_f32)) (zeros S512x128))
      0x00000000#32 reduces_S512x128_S512 (.inl rfl) rfl) shapeCasts_S512_S512x1

def tQA (hh : Fin 2) (i : Fin 4) : FVec F S512x128 .bf16 :=
  oneCols (spare hh + 3) (putCols (spare hh) (bias X hh i) (mineL hh (scaled (X.q i))))

def tDO (hh : Fin 2) (i : Fin 4) : FVec F S512x128 .bf16 :=
  putCols (spare hh) (subf (zeros S512x1) (odot X hh i)) (mineL hh (flat (X.o i)))

def tQS (hh : Fin 2) (i : Fin 4) : FVec F S128x512 .bf16 := mineS hh (tr (scaled (X.q i)))

def tDT (hh : Fin 2) (i : Fin 4) : FVec F S128x512 .bf16 := mineS hh (tr (flat (X.o i)))

def tKT (hh : Fin 2) (i : Fin 4) : FVec F S128x512 .bf16 :=
  putRows (spare hh + 3) (subf (zeros S1x512) (row (X.cr hh i))) (oneRows (spare hh) (mineS hh (tr (flat (X.k i)))))

def tVT (hh : Fin 2) (i : Fin 4) : FVec F S128x512 .bf16 := oneRows (spare hh) (mineS hh (tr (flat (X.v i))))

/-- Where the row tile `i` of head `hh` stands in a scratch of rows. -/
def at512 (hh : Fin 2) (i : Fin 4) : Rect S2x4x512x128 :=
  Rect.unit (s := S2x4x512x128) ![hh.val, i.val, 0, 0] S1x1x512x128.size (by
    intro a; fin_cases a <;> simp [S2x4x512x128, S1x1x512x128] <;> omega)

/-- Where the row tile `i` of head `hh` stands in a scratch of columns. -/
def at128 (hh : Fin 2) (i : Fin 4) : Rect S2x4x128x512 :=
  Rect.unit (s := S2x4x128x512) ![hh.val, i.val, 0, 0] S1x1x128x512.size (by
    intro a; fin_cases a <;> simp [S2x4x128x512, S1x1x128x512] <;> omega)

/-- Where the row tile `i` stands in an accumulator. -/
def atAcc (i : Fin 4) : Rect S4x512x128 :=
  Rect.unit (s := S4x512x128) ![i.val, 0, 0] S1x512x128.size (by
    intro a; fin_cases a <;> simp [S4x512x128, S1x512x128] <;> omega)

/-- Where the row tile `i` stands in the bias's gradient. -/
def atRow (i : Fin 4) : Rect S1x2048x128 :=
  Rect.unit (s := S1x2048x128) ![0, 512 * i.val, 0] S1x512x128.size (by
    intro a; fin_cases a <;> simp [S1x2048x128, S1x512x128] <;> omega)

/-- Where the part `j` of the row tile `i` stands in the gradients of queries, keys and values. -/
def atOut (i : Fin 4) (j : Fin 3) : Rect S2048x384 :=
  Rect.unit (s := S2048x384) ![512 * i.val, 128 * j.val] S512x128.size (by
    intro a; fin_cases a <;> simp [S2048x384, S512x128] <;> omega)

/-- The row tiles of both heads, stored one after another. -/
def slots512 (T : Fin 2 → Fin 4 → FVec F S512x128 .bf16) : List (View.Piece (Elt F) S2x4x512x128 .bf16) :=
  [(1, 3), (0, 3), (1, 2), (0, 2), (1, 1), (0, 1), (1, 0), (0, 0)].map fun p : Fin 2 × Fin 4 =>
    (⟨at512 p.1 p.2, shapeCast S1x1x512x128 (T p.1 p.2) shapeCasts_S512x128_S1x1x512x128⟩ :
      View.Piece (Elt F) S2x4x512x128 .bf16)

/-- The column tiles of both heads, stored one after another. -/
def slots128 (T : Fin 2 → Fin 4 → FVec F S128x512 .bf16) : List (View.Piece (Elt F) S2x4x128x512 .bf16) :=
  [(1, 3), (0, 3), (1, 2), (0, 2), (1, 1), (0, 1), (1, 0), (0, 0)].map fun p : Fin 2 × Fin 4 =>
    (⟨at128 p.1 p.2, shapeCast S1x1x128x512 (T p.1 p.2) shapeCasts_S128x512_S1x1x128x512⟩ :
      View.Piece (Elt F) S2x4x128x512 .bf16)

/-! ## A query tile against a key tile -/

/-- The tiles the body reads back: per head and row tile. -/
structure Tiles (F : FTy → Type) where
  qa : Fin 2 → Fin 4 → FVec F S512x128 .bf16
  od : Fin 2 → Fin 4 → FVec F S512x128 .bf16
  qs : Fin 2 → Fin 4 → FVec F S128x512 .bf16
  dt : Fin 2 → Fin 4 → FVec F S128x512 .bf16
  kt : Fin 2 → Fin 4 → FVec F S128x512 .bf16
  vt : Fin 2 → Fin 4 → FVec F S128x512 .bf16
  km : Fin 2 → Fin 4 → FVec F S512x128 .bf16

variable (T : Tiles F)

/-- A key is not after the query. -/
def causal : IVec S512x512 1 :=
  cmpi .sge (iota .tc S512x512 32 [0] iota_S512x512_d0_w32) (iota .tc S512x512 32 [1] iota_S512x512_d1_w32)

def scores (hh : Fin 2) (kj qi : Fin 4) : FVec F S512x512 .f32 :=
  matmul dot_S512x128_S128x512_S512x512_1_0_0_1_n_n none (T.qa hh qi) (T.kt hh kj) (constant S512x512 .f32 0x00000000#32)

/-- The attention weights. -/
def weights (hh : Fin 2) (kj qi : Fin 4) : FVec F S512x512 .f32 :=
  exp (if qi = kj then select causal (scores T hh kj qi) (broadcast S512x512 (Named.named κ "mask" 0xF149F2CA#32))
    else scores T hh kj qi)

/-- The gradient of the scores. -/
def dscores (hh : Fin 2) (kj qi : Fin 4) : FVec F S512x512 .f32 :=
  mulf (weights T hh kj qi)
    (matmul dot_S512x128_S128x512_S512x512_1_0_0_1_n_n none (T.od hh qi) (T.vt hh kj) (constant S512x512 .f32 0x00000000#32))

/-- The query tiles from the last down to the key tile. -/
def downTo : Fin 4 → List (Fin 4)
  | 0 => [3, 2, 1, 0]
  | 1 => [3, 2, 1]
  | 2 => [3, 2]
  | 3 => [3]

/-- The keys' gradient, summed over query tiles and heads. -/
def keys (kj : Fin 4) : List (Fin 4) → FVec F S128x512 .f32
  | [] => zeros S128x512
  | qi :: l => addf (addf (keys kj l)
      (matmul dot_S128x512_S512x512_S128x512_1_0_0_1_n_n none (T.qs 0 qi) (hi (dscores T 0 kj qi)) (constant S128x512 .f32 0x00000000#32)))
      (matmul dot_S128x512_S512x512_S128x512_1_0_0_1_n_n none (T.qs 1 qi) (hi (dscores T 1 kj qi)) (constant S128x512 .f32 0x00000000#32))

/-- The values' gradient, summed over query tiles and heads. -/
def vals (kj : Fin 4) : List (Fin 4) → FVec F S128x512 .f32
  | [] => zeros S128x512
  | qi :: l => addf (addf (vals kj l)
      (matmul dot_S128x512_S512x512_S128x512_1_0_0_1_n_n none (T.dt 0 qi) (hi (weights T 0 kj qi)) (constant S128x512 .f32 0x00000000#32)))
      (matmul dot_S128x512_S512x512_S128x512_1_0_0_1_n_n none (T.dt 1 qi) (hi (weights T 1 kj qi)) (constant S128x512 .f32 0x00000000#32))

/-- The key bias's gradient in eight sublanes, summed over query tiles. -/
def colSums (hh : Fin 2) (kj : Fin 4) : List (Fin 4) → FVec F S8x512 .f32
  | [] => zeros S8x512
  | qi :: l => addf (colSums hh kj l)
      (multiReduction .add [0] S8x512 (shapeCast S64x8x512 (dscores T hh kj qi) shapeCasts_S512x512_S64x8x512)
        0x00000000#32 reduces_S64x8x512_S8x512 (.inl rfl) rfl)

/-- The queries' gradient of one pair of tiles. -/
def dquery (kj qi : Fin 4) : FVec F S512x128 .f32 :=
  addf (addf (zeros S512x128)
      (matmul dot_S512x512_S512x128_S512x128_1_0_0_1_n_n none (hi (dscores T 0 kj qi)) (T.km 0 kj) (constant S512x128 .f32 0x00000000#32)))
      (matmul dot_S512x512_S512x128_S512x128_1_0_0_1_n_n none (hi (dscores T 1 kj qi)) (T.km 1 kj) (constant S512x128 .f32 0x00000000#32))

/-- A query row's sum of one pair of tiles. -/
def rowSum (hh : Fin 2) (kj qi : Fin 4) : FVec F S512x1 .f32 :=
  shapeCast S512x1 (multiReduction .add [1] S512 (dscores T hh kj qi) 0x00000000#32 reduces_S512x512_S512 (.inl rfl) rfl)
    shapeCasts_S512_S512x1

/-- Both heads' row sums, in the first two lanes. -/
def rowSums (kj qi : Fin 4) : FVec F S512x128 .f32 :=
  select (laneIs .eq 0#32) (onLanes (rowSum T 0 kj qi)) (select (laneIs .eq 1#32) (onLanes (rowSum T 1 kj qi)) (zeros S512x128))

/-! ## The accumulators and the stores -/

/-- The pairs of tiles, the last first. -/
def pairsDown : List (Fin 4 × Fin 4) :=
  [(3, 3), (2, 3), (2, 2), (1, 3), (1, 2), (1, 1), (0, 3), (0, 2), (0, 1), (0, 0)]

/-- A tile with a leading axis. -/
def lift (x : FVec F S512x128 .f32) : Vec F S1x512x128 .f32 := shapeCast S1x512x128 x shapeCasts_S512x128_S1x512x128

/-- An accumulator's stores: zeros, then each pair's tile added at its query tile. -/
def accum (rd : List (View.Piece (Elt F) S4x512x128 .f32) → Fin 4 → Vec F S1x512x128 .f32)
    (D : Fin 4 → Fin 4 → FVec F S512x128 .f32) : List (Fin 4 × Fin 4) → List (View.Piece (Elt F) S4x512x128 .f32)
  | [] => [⟨atAcc 3, lift (zeros S512x128)⟩, ⟨atAcc 2, lift (zeros S512x128)⟩, ⟨atAcc 1, lift (zeros S512x128)⟩,
      ⟨atAcc 0, lift (zeros S512x128)⟩]
  | p :: l => ⟨atAcc p.2, lift (addf (flat (rd (accum rd D l) p.2)) (D p.1 p.2))⟩ :: accum rd D l

/-- The stores of the gradients of queries, keys and values. -/
def outStores (rd : List (View.Piece (Elt F) S4x512x128 .f32) → Fin 4 → Vec F S1x512x128 .f32) :
    List (View.Piece (Elt F) S2048x384 .bf16) :=
  (([3, 2, 1, 0] : List (Fin 4)).map fun i =>
    (⟨atOut i 0, hi (mulf (flat (rd (accum rd (dquery T) pairsDown) i)) (broadcast S512x128 (Scalar.ofBits .f32 0x3E000000#32)))⟩ :
      View.Piece (Elt F) S2048x384 .bf16)) ++
  (([3, 2, 1, 0] : List (Fin 4)).flatMap fun j =>
    [(⟨atOut j 2, hi (transpose S512x128 [1, 0] (vals T j (downTo j)) transposes_S128x512_p1_0_S512x128)⟩ :
      View.Piece (Elt F) S2048x384 .bf16),
     (⟨atOut j 1, hi (transpose S512x128 [1, 0] (keys T j (downTo j)) transposes_S128x512_p1_0_S512x128)⟩ :
      View.Piece (Elt F) S2048x384 .bf16)])

/-- A head's column at its own lane of the bias's gradient. -/
def atLane (p : BitVec 32) (x : FVec F S512x1 .f32) : FVec F S512x128 .f32 :=
  select (laneIs .eq p) (onLanes x) (zeros S512x128)

/-- The key side of the bias's gradient, both heads in the first two columns. -/
def keySums (kj : Fin 4) : FVec F S512x128 .f32 :=
  twoCols
    (shapeCast S1x512 (multiReduction .add [0] S512 (colSums T 0 kj (downTo kj)) 0x00000000#32 reduces_S8x512_S512 (.inl rfl) rfl)
      shapeCasts_S512_S1x512)
    (shapeCast S1x512 (multiReduction .add [0] S512 (colSums T 1 kj (downTo kj)) 0x00000000#32 reduces_S8x512_S512 (.inl rfl) rfl)
      shapeCasts_S512_S1x512)

/-- The first lane of a pair of heads. -/
def lane0 (p : BitVec 32) : BitVec 32 := Scalar.muli 2#32 p

/-- The second lane of a pair of heads. -/
def lane1 (p : BitVec 32) : BitVec 32 := Scalar.addi (Scalar.muli 2#32 p) 1#32

/-- What a key tile adds to the bias's gradient. -/
def keyPart (p : BitVec 32) (kj : Fin 4) : FVec F S512x128 .f32 :=
  addf (atLane (lane0 p) (subf (zeros S512x1) (pick 0 (keySums T kj)))) (atLane (lane1 p) (subf (zeros S512x1) (pick 1 (keySums T kj))))

/-- What a query tile adds to the bias's gradient. -/
def queryPart (p : BitVec 32) (R : FVec F S512x128 .f32) : FVec F S512x128 .f32 :=
  addf (atLane (lane0 p) (pick 0 R)) (atLane (lane1 p) (pick 1 R))

/-- The stores of the bias's gradient: each key tile's part, then each query tile's. -/
def biasStores (rd : List (View.Piece (Elt F) S4x512x128 .f32) → Fin 4 → Vec F S1x512x128 .f32)
    (first after : List (View.Piece (Elt F) S1x2048x128 .f32) → Fin 4 → Vec F S1x512x128 .f32)
    (base : List (View.Piece (Elt F) S1x2048x128 .f32)) (p : BitVec 32) :
    List (Fin 2 × Fin 4) → List (View.Piece (Elt F) S1x2048x128 .f32)
  | [] => base
  | (0, i) :: l => ⟨atRow i, lift (addf (flat (first (biasStores rd first after base p l) i)) (keyPart T p i))⟩
      :: biasStores rd first after base p l
  | (1, i) :: l => ⟨atRow i, lift (addf (flat (after (biasStores rd first after base p l) i))
      (queryPart p (flat (rd (accum rd (rowSums T) pairsDown) i))))⟩ :: biasStores rd first after base p l

/-- The order of the bias's stores, the last first. -/
def biasOrder : List (Fin 2 × Fin 4) := [(1, 3), (1, 2), (1, 1), (1, 0), (0, 3), (0, 2), (0, 1), (0, 0)]

end Cert.Attn

end
-- ==== Proof.AttnRun.lean ====
/- The run's stores are the body's stores of the module `AttnBody`, read back through the memory they went to. -/
module

public import proofs.«01_k».proof.Proof.AttnBody
public import proofs.«01_k».proof.Proof.Gen.AttnKernelIdeal.Frame

@[expose] public section

set_option maxRecDepth 16384

noncomputable section

namespace Cert.Attn

open Idealize.ShloMosaic Idealize.ShloMosaic.TcCoe Idealize.SL.Sem
open Cert.AttnKernelIdeal Cert.AttnKernelIdeal.Gen

variable {F : FTy → Type} [FloatOps F] [Named F]

/-- The part `j` of row tile `i` of the queries, keys and values. -/
def inPart (i : Fin 4) (j : Fin 3) : Rect S1x2048x384 :=
  Rect.unit (s := S1x2048x384) ![0, 512 * i.val, 128 * j.val] S1x512x128.size (by
    intro a; fin_cases a <;> simp [S1x2048x384, S1x512x128] <;> omega)

/-- Row tile `i` of head `hh` of a row argument. -/
def inRow (hh : Fin 2) (i : Fin 4) : Rect S1x1x2x4x512 :=
  Rect.unit (s := S1x1x2x4x512) ![0, 0, hh.val, i.val, 0] S1x1x1x1x512.size (by
    intro a; fin_cases a <;> simp [S1x1x2x4x512, S1x1x1x1x512] <;> omega)

variable (c : Dev nD) (i : grid0.Coords)
variable (arg2 : Memref sig .tc .vmem S1x2048x384 .bf16) (harg2 : arg2.IsWhole)
variable (arg3 : Memref sig .tc .vmem S1x2048x128 .bf16) (harg3 : arg3.IsWhole)
variable (arg4 : Memref sig .tc .vmem S1x2048x128 .f32) (harg4 : arg4.IsWhole)
variable (arg5 : Memref sig .tc .vmem S1x1x2x4x512 .f32) (harg5 : arg5.IsWhole)
variable (arg6 : Memref sig .tc .vmem S1x1x2x4x512 .f32) (harg6 : arg6.IsWhole)
variable (arg7 : Memref sig .tc .vmem S1x2048x128 .f32) (harg7 : arg7.IsWhole)
variable (arg8 : Memref sig .tc .vmem S2048x384 .bf16) (harg8 : arg8.IsWhole)
variable (arg9 : Memref sig .tc .vmem S1x2048x128 .f32) (harg9 : arg9.IsWhole)
variable (arg10 : Memref sig .tc .vmem S2x4x512x128 .bf16) (harg10 : arg10.IsWhole)
variable (arg11 : Memref sig .tc .vmem S2x4x512x128 .bf16) (harg11 : arg11.IsWhole)
variable (arg12 : Memref sig .tc .vmem S2x4x128x512 .bf16) (harg12 : arg12.IsWhole)
variable (arg13 : Memref sig .tc .vmem S2x4x128x512 .bf16) (harg13 : arg13.IsWhole)
variable (arg14 : Memref sig .tc .vmem S2x4x128x512 .bf16) (harg14 : arg14.IsWhole)
variable (arg15 : Memref sig .tc .vmem S2x4x128x512 .bf16) (harg15 : arg15.IsWhole)
variable (arg16 : Memref sig .tc .vmem S4x512x128 .f32) (harg16 : arg16.IsWhole)
variable (arg17 : Memref sig .tc .vmem S4x512x128 .f32) (harg17 : arg17.IsWhole)
variable (x0 : Vec F S1x2048x384 .bf16) (x1 : Vec F S1x2048x128 .bf16) (x2 : Vec F S1x2048x128 .f32)
  (x3 : Vec F S1x1x2x4x512 .f32) (x4 : Vec F S1x1x2x4x512 .f32) (x5 : Vec F S1x2048x128 .f32) (xo7 : Vec F S1x2048x128 .f32)

/-- What the body loads. -/
def loads : Loads F where
  q i := View.readAt (Elt F) arg2.view (inPart i 0).toLoadRect (harg2.unread x0)
  k i := View.readAt (Elt F) arg2.view (inPart i 1).toLoadRect (harg2.unread x0)
  v i := View.readAt (Elt F) arg2.view (inPart i 2).toLoadRect (harg2.unread x0)
  o i := View.readAt (Elt F) arg3.view (atRow i).toLoadRect (harg3.unread x1)
  y i := View.readAt (Elt F) arg4.view (atRow i).toLoadRect (harg4.unread x2)
  c i := View.readAt (Elt F) arg7.view (atRow i).toLoadRect (harg7.unread x5)
  lse hh i := View.readAt (Elt F) arg5.view (inRow hh i).toLoadRect (harg5.unread x3)
  cr hh i := View.readAt (Elt F) arg6.view (inRow hh i).toLoadRect (harg6.unread x4)

/-- The tiles the body keeps, read back. -/
def tiles (X : Loads F) : Tiles F where
  qa hh i := shapeCast S512x128 (View.readCov arg10.view (slots512 (tQA X)) (at512 hh i).toLoadRect) shapeCasts_S1x1x512x128_S512x128
  od hh i := shapeCast S512x128 (View.readCov arg11.view (slots512 (tDO X)) (at512 hh i).toLoadRect) shapeCasts_S1x1x512x128_S512x128
  qs hh i := shapeCast S128x512 (View.readCov arg12.view (slots128 (tQS X)) (at128 hh i).toLoadRect) shapeCasts_S1x1x128x512_S128x512
  dt hh i := shapeCast S128x512 (View.readCov arg13.view (slots128 (tDT X)) (at128 hh i).toLoadRect) shapeCasts_S1x1x128x512_S128x512
  kt hh i := shapeCast S128x512 (View.readCov arg14.view (slots128 (tKT X)) (at128 hh i).toLoadRect) shapeCasts_S1x1x128x512_S128x512
  vt hh i := shapeCast S128x512 (View.readCov arg15.view (slots128 (tVT X)) (at128 hh i).toLoadRect) shapeCasts_S1x1x128x512_S128x512
  km hh i := mineL hh (flat (X.k i))

/-- The stores of the gradients of queries, keys and values at the first pair of heads. -/
theorem stores_out_A (hc0 : cond0_0 i) :
    (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5).1 =
      outStores (tiles arg10 arg11 arg12 arg13 arg14 arg15 (loads arg2 harg2 arg3 harg3 arg4 harg4 arg5 harg5 arg6 harg6 arg7 harg7 x0 x1 x2 x3 x4 x5)) (fun L i => View.readCov arg16.view L (atAcc i).toLoadRect) := by
  sl_kernel_rfl

/-- The stores of the gradients of queries, keys and values at a later pair of heads. -/
theorem stores_out_B (hc0 : ¬cond0_0 i) :
    (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 xo7).1 =
      outStores (tiles arg10 arg11 arg12 arg13 arg14 arg15 (loads arg2 harg2 arg3 harg3 arg4 harg4 arg5 harg5 arg6 harg6 arg7 harg7 x0 x1 x2 x3 x4 x5)) (fun L i => View.readCov arg16.view L (atAcc i).toLoadRect) := by
  sl_kernel_rfl

/-- The stores of the bias's gradient at the first pair of heads, from zeros. -/
theorem stores_bias_A (hc0 : cond0_0 i) :
    (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5).2.1 =
      biasStores (tiles arg10 arg11 arg12 arg13 arg14 arg15 (loads arg2 harg2 arg3 harg3 arg4 harg4 arg5 harg5 arg6 harg6 arg7 harg7 x0 x1 x2 x3 x4 x5)) (fun L i => View.readCov arg17.view L (atAcc i).toLoadRect)
        (fun L i => View.readCov arg9.view L (atRow i).toLoadRect) (fun L i => View.readCov arg9.view L (atRow i).toLoadRect)
        [⟨Rect.unit (s := S1x2048x128) ![0, 0, 0] S1x2048x128.size inb_S1x2048x128_S1x2048x128_0_0_0,
          shapeCast S1x2048x128 (zeros (F := F) S2048x128) shapeCasts_S2048x128_S1x2048x128⟩]
        (BitVec.ofNat 32 (i 1).val) biasOrder := by
  sl_kernel_rfl

/-- The stores of the bias's gradient at a later pair of heads, from what the pairs before it left. -/
theorem stores_bias_B (hc0 : ¬cond0_0 i) :
    (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 xo7).2.1 =
      biasStores (tiles arg10 arg11 arg12 arg13 arg14 arg15 (loads arg2 harg2 arg3 harg3 arg4 harg4 arg5 harg5 arg6 harg6 arg7 harg7 x0 x1 x2 x3 x4 x5)) (fun L i => View.readCov arg17.view L (atAcc i).toLoadRect)
        (fun L i => View.readAt (Elt F) arg9.view (atRow i).toLoadRect (harg9.unread xo7))
        (fun L i => View.readCov arg9.view L (atRow i).toLoadRect)
        [] (BitVec.ofNat 32 (i 1).val) biasOrder := by
  sl_kernel_rfl

end Cert.Attn

end
-- ==== Proof.AttnRead.lean ====
/- What the body reads back from its scratch memories and from the bias's gradient is what it stored there. -/
module

public import proofs.«01_k».proof.Proof.AttnRun
public import Idealize.ShloMosaic.Lib.Pipeline.ReadBack
public import Idealize.ShloMosaic.Lib.Pipeline.Value

@[expose] public section

set_option maxRecDepth 16384

noncomputable section

namespace Cert.Attn

open Idealize.ShloMosaic Idealize.ShloMosaic.TcCoe Idealize.SL.Sem
open Cert.AttnKernelIdeal Cert.AttnKernelIdeal.Gen

variable {F : FTy → Type} [FloatOps F] [Named F]

theorem flat_lift (x : FVec F S512x128 .f32) : flat (lift x) = x := shapeCast_shapeCast x _ _

theorem disj_512 : ∀ a b : Fin 2 × Fin 4, a ≠ b → LoadRect.disj (at512 a.1 a.2) (at512 b.1 b.2).toLoadRect = true := by
  decide +kernel

/-- Reading a row tile back. -/
theorem read_slots512 {κ' : Kind} {sp : Space} (v : View sig κ' sp S2x4x512x128 .bf16) (T : Fin 2 → Fin 4 → FVec F S512x128 .bf16)
    (hh : Fin 2) (i : Fin 4) :
    shapeCast S512x128 (View.readCov v (slots512 T) (at512 hh i).toLoadRect) shapeCasts_S1x1x512x128_S512x128 = T hh i := by
  have e : ∀ l : List (Fin 2 × Fin 4), (hh, i) ∈ l →
      View.readCov v (l.map fun p : Fin 2 × Fin 4 =>
        (⟨at512 p.1 p.2, shapeCast S1x1x512x128 (T p.1 p.2) shapeCasts_S512x128_S1x1x512x128⟩ : View.Piece (Elt F) S2x4x512x128 .bf16))
        (at512 hh i).toLoadRect = shapeCast S1x1x512x128 (T hh i) shapeCasts_S512x128_S1x1x512x128 := by
    intro l
    induction l with
    | nil => intro h; exact absurd h List.not_mem_nil
    | cons p l ih =>
      intro h
      by_cases hp : p = (hh, i)
      · subst hp
        exact View.readCov_cons_toLoadRect _ _ _ _
      · exact (View.readCov_skip _ _ _ _ _ (disj_512 p (hh, i) hp)).trans
          (ih ((List.mem_cons.mp h).resolve_left fun q => hp q.symm))
  have h : (hh, i) ∈ ([(1, 3), (0, 3), (1, 2), (0, 2), (1, 1), (0, 1), (1, 0), (0, 0)] : List (Fin 2 × Fin 4)) := by
    clear e; revert hh i; decide
  exact (congrArg (fun x => shapeCast S512x128 x shapeCasts_S1x1x512x128_S512x128) (e _ h)).trans (shapeCast_shapeCast _ _ _)

theorem disj_128 : ∀ a b : Fin 2 × Fin 4, a ≠ b → LoadRect.disj (at128 a.1 a.2) (at128 b.1 b.2).toLoadRect = true := by
  decide +kernel

/-- Reading a column tile back. -/
theorem read_slots128 {κ' : Kind} {sp : Space} (v : View sig κ' sp S2x4x128x512 .bf16) (T : Fin 2 → Fin 4 → FVec F S128x512 .bf16)
    (hh : Fin 2) (i : Fin 4) :
    shapeCast S128x512 (View.readCov v (slots128 T) (at128 hh i).toLoadRect) shapeCasts_S1x1x128x512_S128x512 = T hh i := by
  have e : ∀ l : List (Fin 2 × Fin 4), (hh, i) ∈ l →
      View.readCov v (l.map fun p : Fin 2 × Fin 4 =>
        (⟨at128 p.1 p.2, shapeCast S1x1x128x512 (T p.1 p.2) shapeCasts_S128x512_S1x1x128x512⟩ : View.Piece (Elt F) S2x4x128x512 .bf16))
        (at128 hh i).toLoadRect = shapeCast S1x1x128x512 (T hh i) shapeCasts_S128x512_S1x1x128x512 := by
    intro l
    induction l with
    | nil => intro h; exact absurd h List.not_mem_nil
    | cons p l ih =>
      intro h
      by_cases hp : p = (hh, i)
      · subst hp
        exact View.readCov_cons_toLoadRect _ _ _ _
      · exact (View.readCov_skip _ _ _ _ _ (disj_128 p (hh, i) hp)).trans
          (ih ((List.mem_cons.mp h).resolve_left fun q => hp q.symm))
  have h : (hh, i) ∈ ([(1, 3), (0, 3), (1, 2), (0, 2), (1, 1), (0, 1), (1, 0), (0, 0)] : List (Fin 2 × Fin 4)) := by
    clear e; revert hh i; decide
  exact (congrArg (fun x => shapeCast S128x512 x shapeCasts_S1x1x128x512_S128x512) (e _ h)).trans (shapeCast_shapeCast _ _ _)

/-- The tiles the body keeps. -/
def kept (X : Loads F) : Tiles F where
  qa := tQA X
  od := tDO X
  qs := tQS X
  dt := tDT X
  kt := tKT X
  vt := tVT X
  km hh i := mineL hh (flat (X.k i))

theorem tiles_eq (arg10 arg11 : Memref sig .tc .vmem S2x4x512x128 .bf16) (arg12 arg13 arg14 arg15 : Memref sig .tc .vmem S2x4x128x512 .bf16)
    (X : Loads F) : tiles arg10 arg11 arg12 arg13 arg14 arg15 X = kept X := by
  unfold tiles kept
  congr 1 <;> funext hh i
  · exact read_slots512 _ _ hh i
  · exact read_slots512 _ _ hh i
  · exact read_slots128 _ _ hh i
  · exact read_slots128 _ _ hh i
  · exact read_slots128 _ _ hh i
  · exact read_slots128 _ _ hh i

/-- A tile of an accumulator after some pairs, the last first. -/
def total (D : Fin 4 → Fin 4 → FVec F S512x128 .f32) (q : Fin 4) : List (Fin 4 × Fin 4) → FVec F S512x128 .f32
  | [] => zeros S512x128
  | p :: l => if p.2 = q then addf (total D q l) (D p.1 p.2) else total D q l

theorem disj_acc : ∀ a q : Fin 4, a ≠ q → LoadRect.disj (atAcc a) (atAcc q).toLoadRect = true := by decide +kernel

theorem disj_row : ∀ a q : Fin 4, a ≠ q → LoadRect.disj (atRow a) (atRow q).toLoadRect = true := by decide +kernel

/-- Reading an accumulator's tile back. -/
theorem read_accum {κ' : Kind} {sp : Space} (v : View sig κ' sp S4x512x128 .f32) (D : Fin 4 → Fin 4 → FVec F S512x128 .f32) (q : Fin 4)
    (l : List (Fin 4 × Fin 4)) :
    View.readCov v (accum (fun L i => View.readCov v L (atAcc i).toLoadRect) D l) (atAcc q).toLoadRect = lift (total D q l) := by
  induction l generalizing q with
  | nil =>
    simp only [accum, total]
    rcases (by revert q; decide : q = 3 ∨ q = 2 ∨ q = 1 ∨ q = 0) with rfl | rfl | rfl | rfl
    · exact View.readCov_cons_toLoadRect _ _ _ _
    · refine (View.readCov_skip _ _ _ _ _ (disj_acc _ _ (by decide))).trans ?_
      exact View.readCov_cons_toLoadRect _ _ _ _
    · refine (View.readCov_skip _ _ _ _ _ (disj_acc _ _ (by decide))).trans ?_
      refine (View.readCov_skip _ _ _ _ _ (disj_acc _ _ (by decide))).trans ?_
      exact View.readCov_cons_toLoadRect _ _ _ _
    · refine (View.readCov_skip _ _ _ _ _ (disj_acc _ _ (by decide))).trans ?_
      refine (View.readCov_skip _ _ _ _ _ (disj_acc _ _ (by decide))).trans ?_
      refine (View.readCov_skip _ _ _ _ _ (disj_acc _ _ (by decide))).trans ?_
      exact View.readCov_cons_toLoadRect _ _ _ _
  | cons p l ih =>
    simp only [accum, total]
    by_cases h : p.2 = q
    · subst h
      rw [if_pos rfl, ih, flat_lift]
      exact View.readCov_cons_toLoadRect _ _ _ _
    · rw [if_neg h]
      exact (View.readCov_skip _ _ _ _ _ (disj_acc _ _ h)).trans (ih q)

/-- The stores of the gradients of queries, keys and values, tile by tile. -/
def outTiles (T : Tiles F) (j : Fin 3) (i : Fin 4) : FVec F S512x128 .bf16 :=
  match j with
  | 0 => hi (mulf (total (dquery T) i pairsDown) (broadcast S512x128 (Scalar.ofBits .f32 0x3E000000#32)))
  | 1 => hi (transpose S512x128 [1, 0] (keys T i (downTo i)) transposes_S128x512_p1_0_S512x128)
  | 2 => hi (transpose S512x128 [1, 0] (vals T i (downTo i)) transposes_S128x512_p1_0_S512x128)

/-- The order of those stores, the last first. -/
def outOrder : List (Fin 4 × Fin 3) :=
  [(3, 0), (2, 0), (1, 0), (0, 0), (3, 2), (3, 1), (2, 2), (2, 1), (1, 2), (1, 1), (0, 2), (0, 1)]

theorem outStores_eq {κ' : Kind} {sp : Space} (v : View sig κ' sp S4x512x128 .f32) (T : Tiles F) :
    outStores T (fun L i => View.readCov v L (atAcc i).toLoadRect)
      = outOrder.map fun p => (⟨atOut p.1 p.2, outTiles T p.2 p.1⟩ : View.Piece (Elt F) S2048x384 .bf16) := by
  unfold outStores
  simp only [read_accum, flat_lift]
  rfl

/-- A row tile of the bias's gradient: what stood there, the key tile's part and the query tile's part. -/
def biasTile (T : Tiles F) (p : BitVec 32) (x : FVec F S512x128 .f32) (i : Fin 4) : FVec F S512x128 .f32 :=
  addf (addf x (keyPart T p i)) (queryPart p (total (rowSums T) i pairsDown))

theorem read_bias {κ' κ'' : Kind} {sp sp' : Space} (v : View sig κ' sp S4x512x128 .f32) (w : View sig κ'' sp' S1x2048x128 .f32) (T : Tiles F) (p : BitVec 32)
    (first : List (View.Piece (Elt F) S1x2048x128 .f32) → Fin 4 → Vec F S1x512x128 .f32)
    (base : List (View.Piece (Elt F) S1x2048x128 .f32)) (x : Fin 4 → FVec F S512x128 .f32)
    (hfirst : ∀ l i, (∀ j ∈ l, j.1 = 0 ∧ j.2 < i) → flat (first (biasStores T (fun L i => View.readCov v L (atAcc i).toLoadRect) first
      (fun L i => View.readCov w L (atRow i).toLoadRect) base p l) i) = x i) (i : Fin 4) :
    View.readCov w (biasStores T (fun L i => View.readCov v L (atAcc i).toLoadRect) first
      (fun L i => View.readCov w L (atRow i).toLoadRect) base p biasOrder) (atRow i).toLoadRect = lift (biasTile T p (x i) i) := by
  have key : ∀ (l : List (Fin 2 × Fin 4)) (i : Fin 4), (∀ j ∈ l, j.1 = 0 ∧ j.2 < i) →
      View.readCov w (biasStores T (fun L i => View.readCov v L (atAcc i).toLoadRect) first
        (fun L i => View.readCov w L (atRow i).toLoadRect) base p ((0, i) :: l)) (atRow i).toLoadRect
        = lift (addf (x i) (keyPart T p i)) := by
    intro l i hl
    simp only [biasStores]
    refine (View.readCov_cons_toLoadRect _ _ _ _).trans ?_
    rw [hfirst l i hl]
  have top : ∀ (l : List (Fin 2 × Fin 4)) (i : Fin 4),
      View.readCov w (biasStores T (fun L i => View.readCov v L (atAcc i).toLoadRect) first
        (fun L i => View.readCov w L (atRow i).toLoadRect) base p l) (atRow i).toLoadRect = lift (addf (x i) (keyPart T p i)) →
      View.readCov w (biasStores T (fun L i => View.readCov v L (atAcc i).toLoadRect) first
        (fun L i => View.readCov w L (atRow i).toLoadRect) base p ((1, i) :: l)) (atRow i).toLoadRect = lift (biasTile T p (x i) i) := by
    intro l i hl
    simp only [biasStores]
    refine (View.readCov_cons_toLoadRect _ _ _ _).trans ?_
    rw [hl, flat_lift, read_accum, flat_lift]
    rfl
  have skip : ∀ (l : List (Fin 2 × Fin 4)) (h : Fin 2) (a i : Fin 4), a ≠ i →
      View.readCov w (biasStores T (fun L i => View.readCov v L (atAcc i).toLoadRect) first
        (fun L i => View.readCov w L (atRow i).toLoadRect) base p ((h, a) :: l)) (atRow i).toLoadRect
      = View.readCov w (biasStores T (fun L i => View.readCov v L (atAcc i).toLoadRect) first
        (fun L i => View.readCov w L (atRow i).toLoadRect) base p l) (atRow i).toLoadRect := by
    intro l h a i ha
    fin_cases h
    · exact View.readCov_skip _ _ _ _ _ (disj_row _ _ ha)
    · exact View.readCov_skip _ _ _ _ _ (disj_row _ _ ha)
  unfold biasOrder
  rcases (by revert i; decide : i = 3 ∨ i = 2 ∨ i = 1 ∨ i = 0) with rfl | rfl | rfl | rfl
  · exact top _ _ <| (skip _ _ _ _ (by decide)).trans <| (skip _ _ _ _ (by decide)).trans <| (skip _ _ _ _ (by decide)).trans <| key _ _ (by decide)
  · exact (skip _ _ _ _ (by decide)).trans <| top _ _ <| (skip _ _ _ _ (by decide)).trans <| (skip _ _ _ _ (by decide)).trans <| (skip _ _ _ _ (by decide)).trans <| key _ _ (by decide)
  · exact (skip _ _ _ _ (by decide)).trans <| (skip _ _ _ _ (by decide)).trans <| top _ _ <| (skip _ _ _ _ (by decide)).trans <| (skip _ _ _ _ (by decide)).trans <| (skip _ _ _ _ (by decide)).trans <| key _ _ (by decide)
  · exact (skip _ _ _ _ (by decide)).trans <| (skip _ _ _ _ (by decide)).trans <| (skip _ _ _ _ (by decide)).trans <| top _ _ <| (skip _ _ _ _ (by decide)).trans <| (skip _ _ _ _ (by decide)).trans <| (skip _ _ _ _ (by decide)).trans <| key _ _ (by decide)

end Cert.Attn

end
-- ==== Proof.AttnTile.lean ====
/- The tiles the body keeps, over the reals. -/
module

public import proofs.«01_k».proof.Proof.AttnRead
public import proofs.«01_k».proof.Proof.Finite
public import Idealize.ShloMosaic.Lib.KernelVsHost
public import Idealize.ShloMosaic.PureOps.Ideal
public import Idealize.ShloMosaic.Lib.Pointwise

@[expose] public section

set_option maxRecDepth 16384

noncomputable section

namespace Cert.Attn

open Idealize.ShloMosaic Idealize.ShloMosaic.TcCoe Idealize.SL.Sem
open Cert.AttnKernelIdeal Cert.AttnKernelIdeal.Gen

/-! ## Lanes -/

/-- Lane `d` of a head's half. -/
def own (hh : Fin 2) (d : Fin 64) : Fin 128 := ⟨64 * hh.val + d.val, by omega⟩

/-- Lane `d` of the half a head leaves free. -/
def free (hh : Fin 2) (d : Fin 64) : Fin 128 := ⟨64 * (1 - hh.val) + d.val, by omega⟩

theorem sum_lanes {M : Type} [AddCommMonoid M] (hh : Fin 2) (f : Fin 128 → M) :
    ∑ l, f l = (∑ d, f (own hh d)) + ∑ d, f (free hh d) := by
  have e : ∑ l, f l = (∑ d : Fin 64, f (Fin.castAdd 64 d)) + ∑ d : Fin 64, f (Fin.natAdd 64 d) :=
    Fin.sum_univ_add (a := 64) (b := 64) f
  rw [e]
  fin_cases hh
  · congr 1
  · rw [add_comm]
    congr 1

theorem select_ofBool {α : Type} (b : Bool) (x y : α) : Scalar.select (BitVec.ofBool b) x y = if b then x else y := by
  cases b <;> rfl

theorem word_eq (a n : ℕ) (ha : a < 4294967296) (hn : n < 4294967296) :
    IntOp.cmpi .eq (BitVec.ofNat 32 a) (BitVec.ofNat 32 n) = BitVec.ofBool (decide (a = n)) := by
  rw [WordCmp.cmpi_eq_eq]
  congr 1
  refine decide_eq_decide.mpr ⟨fun h => ?_, fun h => by rw [h]⟩
  have := congrArg BitVec.toNat h
  simpa [BitVec.toNat_ofNat, Nat.mod_eq_of_lt ha, Nat.mod_eq_of_lt hn] using this

theorem lane_eq (n : ℕ) (hn : n < 128) (r : Fin 512) (l : Fin 128) :
    laneIs .eq (BitVec.ofNat 32 n) (ix2 r l) = BitVec.ofBool (decide (l.val = n)) := by
  pointwise [laneIs, lane]
  exact word_eq _ _ (by omega) (by omega)

theorem sub_eq (n : ℕ) (hn : n < 128) (l : Fin 128) (r : Fin 512) :
    subIs .eq (BitVec.ofNat 32 n) (ix2 l r) = BitVec.ofBool (decide (l.val = n)) := by
  pointwise [subIs, sub]
  exact word_eq _ _ (by omega) (by omega)

theorem lane_half : ∀ (hh : Fin 2) (l : Fin 128),
    IntOp.cmpi (half hh) (BitVec.ofNat 32 l.val) 64#32 = BitVec.ofBool (decide (l.val / 64 = hh.val)) := by
  decide +kernel

theorem lane_own (hh : Fin 2) (r : Fin 512) (l : Fin 128) :
    laneIs (half hh) 64#32 (ix2 r l) = BitVec.ofBool (decide (l.val / 64 = hh.val)) := by
  pointwise [laneIs, lane]
  exact lane_half hh l

theorem sub_own (hh : Fin 2) (l : Fin 128) (r : Fin 512) :
    subIs (half hh) 64#32 (ix2 l r) = BitVec.ofBool (decide (l.val / 64 = hh.val)) := by
  pointwise [subIs, sub]
  exact lane_half hh l

theorem own_div (hh : Fin 2) (d : Fin 64) : (own hh d).val / 64 = hh.val := by simp only [own]; omega

theorem free_div (hh : Fin 2) (d : Fin 64) : ¬ (free hh d).val / 64 = hh.val := by simp only [free]; omega

theorem own_spare (hh : Fin 2) (d : Fin 64) (n : ℕ) (hn : n < 64) : ¬ (own hh d).val = spare hh + n := by
  fin_cases hh <;> simp only [own, spare] <;> simp <;> omega

theorem free_spare (hh : Fin 2) (d : Fin 64) (n : ℕ) (hn : n < 64) : (free hh d).val = spare hh + n ↔ d.val = n := by
  fin_cases hh <;> simp [free, spare]

theorem spare_le (hh : Fin 2) : spare hh ≤ 64 := by fin_cases hh <;> simp [spare]

/-- Columns put in a tile leave a head's own lanes alone. -/
theorem putCols_own (hh : Fin 2) (n : ℕ) (hn : n < 60) (b : FVec Ideal S512x1 .f32) (t : FVec Ideal S512x128 .bf16) (r : Fin 512) (d : Fin 64) :
    putCols (spare hh + n) b t (ix2 r (own hh d)) = t (ix2 r (own hh d)) := by
  have hs := spare_le hh
  have e : ∀ k, k < 4 → ¬ (own hh d).val = spare hh + n + k := fun k hk => by
    rw [Nat.add_assoc]; exact own_spare hh d _ (by omega)
  have e0 := e 0 (by omega)
  simp only [Nat.add_zero] at e0
  pointwise [putCols]
  rw [lane_eq _ (by omega), lane_eq _ (by omega), lane_eq _ (by omega)]
  simp only [select_ofBool, e 1 (by omega), e 2 (by omega), e0, decide_false, Bool.false_eq_true, ↓reduceIte]

/-- On the free lanes the first holds the column; the other two hold nothing, the column being real. -/
theorem putCols_free (hh : Fin 2) (n : ℕ) (hn : n < 60) (b : FVec Ideal S512x1 .f32) (t : FVec Ideal S512x128 .bf16) (r : Fin 512) (d : Fin 64)
    (x : ℝ) (hb : b (ix2 r (0 : Fin 1)) = (x : EReal)) :
    putCols (spare hh + n) b t (ix2 r (free hh d))
      = if d.val = n then (x : EReal) else if d.val = n + 1 ∨ d.val = n + 2 then 0 else t (ix2 r (free hh d)) := by
  have hs := spare_le hh
  have e : ∀ k, k < 4 → ((free hh d).val = spare hh + n + k ↔ d.val = n + k) := fun k hk => by
    rw [Nat.add_assoc]; exact free_spare hh d _ (by omega)
  have e0 := e 0 (by omega)
  simp only [Nat.add_zero] at e0
  pointwise [putCols, onLanes, hi, rest, hb]
  rw [lane_eq _ (by omega), lane_eq _ (by omega), lane_eq _ (by omega)]
  simp only [select_ofBool, e 1 (by omega), e 2 (by omega), e0, decide_eq_true_eq, ← EReal.coe_sub, sub_self, EReal.coe_zero]
  by_cases h0 : d.val = n
  · simp [h0]
  · by_cases h1 : d.val = n + 1
    · simp [h1]
    · by_cases h2 : d.val = n + 2
      · simp [h2]
      · simp [h0, h1, h2]

theorem oneCols_own (hh : Fin 2) (n : ℕ) (hn : n < 60) (t : FVec Ideal S512x128 .bf16) (r : Fin 512) (d : Fin 64) :
    oneCols (spare hh + n) t (ix2 r (own hh d)) = t (ix2 r (own hh d)) := by
  have hs := spare_le hh
  have e : ∀ k, k < 4 → ¬ (own hh d).val = spare hh + n + k := fun k hk => by
    rw [Nat.add_assoc]; exact own_spare hh d _ (by omega)
  have e0 := e 0 (by omega)
  simp only [Nat.add_zero] at e0
  pointwise [oneCols, onesH]
  rw [lane_eq _ (by omega), lane_eq _ (by omega), lane_eq _ (by omega)]
  simp only [select_ofBool, e 1 (by omega), e 2 (by omega), e0, decide_false, Bool.false_eq_true, ↓reduceIte]

theorem oneCols_free (hh : Fin 2) (n : ℕ) (hn : n < 60) (t : FVec Ideal S512x128 .bf16) (r : Fin 512) (d : Fin 64) :
    oneCols (spare hh + n) t (ix2 r (free hh d))
      = if d.val = n ∨ d.val = n + 1 ∨ d.val = n + 2 then 1 else t (ix2 r (free hh d)) := by
  have hs := spare_le hh
  have e : ∀ k, k < 4 → ((free hh d).val = spare hh + n + k ↔ d.val = n + k) := fun k hk => by
    rw [Nat.add_assoc]; exact free_spare hh d _ (by omega)
  have e0 := e 0 (by omega)
  simp only [Nat.add_zero] at e0
  pointwise [oneCols, onesH]
  rw [lane_eq _ (by omega), lane_eq _ (by omega), lane_eq _ (by omega)]
  simp only [select_ofBool, e 1 (by omega), e 2 (by omega), e0, decide_eq_true_eq]
  by_cases h0 : d.val = n
  · simp [h0]
  · by_cases h1 : d.val = n + 1
    · simp [h1]
    · by_cases h2 : d.val = n + 2
      · simp [h2]
      · simp [h0, h1, h2]

theorem putRows_own (hh : Fin 2) (n : ℕ) (hn : n < 60) (b : FVec Ideal S1x512 .f32) (t : FVec Ideal S128x512 .bf16) (r : Fin 512) (d : Fin 64) :
    putRows (spare hh + n) b t (ix2 (own hh d) r) = t (ix2 (own hh d) r) := by
  have hs := spare_le hh
  have e : ∀ k, k < 4 → ¬ (own hh d).val = spare hh + n + k := fun k hk => by
    rw [Nat.add_assoc]; exact own_spare hh d _ (by omega)
  have e0 := e 0 (by omega)
  simp only [Nat.add_zero] at e0
  pointwise [putRows]
  rw [sub_eq _ (by omega), sub_eq _ (by omega), sub_eq _ (by omega)]
  simp only [select_ofBool, e 1 (by omega), e 2 (by omega), e0, decide_false, Bool.false_eq_true, ↓reduceIte]

theorem putRows_free (hh : Fin 2) (n : ℕ) (hn : n < 60) (b : FVec Ideal S1x512 .f32) (t : FVec Ideal S128x512 .bf16) (r : Fin 512) (d : Fin 64)
    (x : ℝ) (hb : b (ix2 (0 : Fin 1) r) = (x : EReal)) :
    putRows (spare hh + n) b t (ix2 (free hh d) r)
      = if d.val = n then (x : EReal) else if d.val = n + 1 ∨ d.val = n + 2 then 0 else t (ix2 (free hh d) r) := by
  have hs := spare_le hh
  have e : ∀ k, k < 4 → ((free hh d).val = spare hh + n + k ↔ d.val = n + k) := fun k hk => by
    rw [Nat.add_assoc]; exact free_spare hh d _ (by omega)
  have e0 := e 0 (by omega)
  simp only [Nat.add_zero] at e0
  pointwise [putRows, onSubs, hi, rest, hb]
  rw [sub_eq _ (by omega), sub_eq _ (by omega), sub_eq _ (by omega)]
  simp only [select_ofBool, e 1 (by omega), e 2 (by omega), e0, decide_eq_true_eq, ← EReal.coe_sub, sub_self, EReal.coe_zero]
  by_cases h0 : d.val = n
  · simp [h0]
  · by_cases h1 : d.val = n + 1
    · simp [h1]
    · by_cases h2 : d.val = n + 2
      · simp [h2]
      · simp [h0, h1, h2]

theorem oneRows_own (hh : Fin 2) (n : ℕ) (hn : n < 60) (t : FVec Ideal S128x512 .bf16) (r : Fin 512) (d : Fin 64) :
    oneRows (spare hh + n) t (ix2 (own hh d) r) = t (ix2 (own hh d) r) := by
  have hs := spare_le hh
  have e : ∀ k, k < 4 → ¬ (own hh d).val = spare hh + n + k := fun k hk => by
    rw [Nat.add_assoc]; exact own_spare hh d _ (by omega)
  have e0 := e 0 (by omega)
  simp only [Nat.add_zero] at e0
  pointwise [oneRows, onesH]
  rw [sub_eq _ (by omega), sub_eq _ (by omega), sub_eq _ (by omega)]
  simp only [select_ofBool, e 1 (by omega), e 2 (by omega), e0, decide_false, Bool.false_eq_true, ↓reduceIte]

theorem oneRows_free (hh : Fin 2) (n : ℕ) (hn : n < 60) (t : FVec Ideal S128x512 .bf16) (r : Fin 512) (d : Fin 64) :
    oneRows (spare hh + n) t (ix2 (free hh d) r)
      = if d.val = n ∨ d.val = n + 1 ∨ d.val = n + 2 then 1 else t (ix2 (free hh d) r) := by
  have hs := spare_le hh
  have e : ∀ k, k < 4 → ((free hh d).val = spare hh + n + k ↔ d.val = n + k) := fun k hk => by
    rw [Nat.add_assoc]; exact free_spare hh d _ (by omega)
  have e0 := e 0 (by omega)
  simp only [Nat.add_zero] at e0
  pointwise [oneRows, onesH]
  rw [sub_eq _ (by omega), sub_eq _ (by omega), sub_eq _ (by omega)]
  simp only [select_ofBool, e 1 (by omega), e 2 (by omega), e0, decide_eq_true_eq]
  by_cases h0 : d.val = n
  · simp [h0]
  · by_cases h1 : d.val = n + 1
    · simp [h1]
    · by_cases h2 : d.val = n + 2
      · simp [h2]
      · simp [h0, h1, h2]

theorem mineL_apply (hh : Fin 2) (t : FVec Ideal S512x128 .bf16) (r : Fin 512) (l : Fin 128) :
    mineL hh t (ix2 r l) = if l.val / 64 = hh.val then t (ix2 r l) else 0 := by
  pointwise [mineL, zerosH]
  rw [lane_own, select_ofBool]
  simp only [decide_eq_true_eq]

theorem mineS_apply (hh : Fin 2) (t : FVec Ideal S128x512 .bf16) (r : Fin 512) (l : Fin 128) :
    mineS hh t (ix2 l r) = if l.val / 64 = hh.val then t (ix2 l r) else 0 := by
  pointwise [mineS, zerosH]
  rw [sub_own, select_ofBool]
  simp only [decide_eq_true_eq]

theorem scale_word : Ideal.ofBits .bf16 0x3E00#16 = ((1 / 8 : ℝ) : EReal) := by
  simp [Ideal.ofBits, Ideal.ieee]
  rw [← EReal.coe_mul]
  norm_num

theorem scale_word' : Ideal.ofBits .f32 0x3E000000#32 = ((1 / 8 : ℝ) : EReal) := by
  simp [Ideal.ofBits, Ideal.ieee]
  rw [← EReal.coe_mul]
  norm_num

theorem scaled_apply (x : Vec Ideal S1x512x128 .bf16) (r : Fin 512) (l : Fin 128) :
    scaled x (ix2 r l) = x (ix3 (0 : Fin 1) r l) * ((1 / 8 : ℝ) : EReal) := by
  rw [← scale_word]
  pointwise [scaled, flat]

theorem flat_apply {φ : FTy} (x : FVec Ideal S1x512x128 φ) (r : Fin 512) (l : Fin 128) : flat x (ix2 r l) = x (ix3 (0 : Fin 1) r l) := by
  pointwise [flat]

theorem tr_apply (x : FVec Ideal S512x128 .bf16) (r : Fin 512) (l : Fin 128) : tr x (ix2 l r) = x (ix2 r l) := by
  pointwise [tr]

theorem row_apply (x : Vec Ideal S1x1x1x1x512 .f32) (s : Fin 512) :
    row x (ix2 (0 : Fin 1) s) = x (ix5 (0 : Fin 1) (0 : Fin 1) (0 : Fin 1) (0 : Fin 1) s) := by
  pointwise [row]

theorem twoCols_apply (a b : FVec Ideal S1x512 .f32) (hh : Fin 2) (r : Fin 512) :
    pick hh (twoCols a b) (ix2 r (0 : Fin 1)) = if hh = 0 then a (ix2 (0 : Fin 1) r) else b (ix2 (0 : Fin 1) r) := by
  have e0 : ∀ l : Fin 128, subIs .eq 0#32 (ix2 l r) = BitVec.ofBool (decide (l.val = 0)) := fun l => sub_eq 0 (by omega) l r
  have e1 : ∀ l : Fin 128, subIs .eq 1#32 (ix2 l r) = BitVec.ofBool (decide (l.val = 1)) := fun l => sub_eq 1 (by omega) l r
  fin_cases hh
  · pointwise [pick, twoCols, onSubs]
    rw [e0, select_ofBool]
    simp
  · pointwise [pick, twoCols, onSubs]
    rw [e0, e1, select_ofBool, select_ofBool]
    simp

theorem pickHead_apply (x : FVec Ideal S512x128 .f32) (hh : Fin 2) (r : Fin 512) :
    pickHead hh x (ix2 r (0 : Fin 1)) = x (ix2 r (own hh 0)) := by
  fin_cases hh <;> pointwise [pickHead] <;> rfl

theorem pick_apply (x : FVec Ideal S512x128 .f32) (hh : Fin 2) (r : Fin 512) :
    pick hh x (ix2 r (0 : Fin 1)) = x (ix2 r ⟨hh.val, by omega⟩) := by
  fin_cases hh <;> pointwise [pick] <;> rfl

end Cert.Attn

end
-- ==== Proof.AttnHost.lean ====
/- The kernel's operands, prepared on the host, element by element. -/
module

public import proofs.«01_k».proof.Proof.AttnModel
public import proofs.«01_k».proof.Proof.AttnTile
public import Idealize.ShloMosaic.Lib.Pipeline.ValueKit
public import Idealize.ShloMosaic.Lib.KernelVsHost

@[expose] public section

set_option maxRecDepth 16384

noncomputable section

namespace Cert.Attn

open Idealize.ShloMosaic Idealize.ShloMosaic.TcCoe Idealize.SL.Sem
open Cert.AttnKernelIdeal Cert.AttnKernelIdeal.Gen

/-- The logits, a key after the query masked. -/
def hLogits (q k : FVec Ideal S4x2048x16x64 .f32) (c : FVec Ideal S4x2048x16 .f32) : FVec Ideal S4x16x2048x2048 .f32 :=
  select
    (broadcastInDim S4x16x2048x2048 ![0, 1, 2, 3] bcast_S1x1x2048x2048_S4x16x2048x2048_0_1_2_3
      (broadcastInDim S1x1x2048x2048 ![2, 3] bcast_S2048x2048_S1x1x2048x2048_2_3
        (cmpi CmpIPredicate.sge
          (broadcastInDim S2048x2048 ![0, 1] bcast_S2048x1_S2048x2048_0_1
            (broadcastInDim S2048x1 ![0] bcast_S2048_S2048x1_0 (iotaInDim S2048 32 0)))
          (broadcastInDim S2048x2048 ![0, 1] bcast_S1x2048_S2048x2048_0_1
            (broadcastInDim S1x2048 ![1] bcast_S2048_S1x2048_1 (iotaInDim S2048 32 0))))))
    (subf
      (addf
        (mulf (Host.dotGeneral dot_S4x2048x16x64_S4x2048x16x64_S4x16x2048x2048_3_3_1_1_02_02 none q k)
          (broadcastInDim S4x16x2048x2048 ![] bcast_S_S4x16x2048x2048 (constant S_ FTy.f32 0x3E000000#32)))
        (broadcastInDim S4x16x2048x2048 ![0, 1, 2, 3] bcast_S4x16x2048x1_S4x16x2048x2048_0_1_2_3
          (broadcastInDim S4x16x2048x1 ![0, 1, 2] bcast_S4x16x2048_S4x16x2048x1_0_1_2
            (transpose S4x16x2048 [0, 2, 1] c transposes_S4x2048x16_S4x16x2048_0_2_1))))
      (broadcastInDim S4x16x2048x2048 ![0, 1, 2, 3] bcast_S4x16x1x2048_S4x16x2048x2048_0_1_2_3
        (broadcastInDim S4x16x1x2048 ![0, 1, 3] bcast_S4x16x2048_S4x16x1x2048_0_1_3
          (transpose S4x16x2048 [0, 2, 1] c transposes_S4x2048x16_S4x16x2048_0_2_1))))
    (broadcastInDim S4x16x2048x2048 ![] bcast_S_S4x16x2048x2048 (constant S_ FTy.f32 0xFF800000#32))

/-- The largest logit of every query. -/
def hMost (s : FVec Ideal S4x16x2048x2048 .f32) : FVec Ideal S4x16x2048 .f32 :=
  Host.reduce FloatOps.maximumf s (constant S_ FTy.f32 0xFF800000#32) reducesTo_S4x16x2048x2048_S4x16x2048_d3 h_S_

/-- A number per query, against every key. -/
def hRow (x : FVec Ideal S4x16x2048 .f32) : FVec Ideal S4x16x2048x2048 .f32 :=
  broadcastInDim S4x16x2048x2048 ![0, 1, 2, 3] bcast_S4x16x2048x1_S4x16x2048x2048_0_1_2_3
    (broadcastInDim S4x16x2048x1 ![0, 1, 2] bcast_S4x16x2048_S4x16x2048x1_0_1_2 x)

/-- The raw weights under a row's number. -/
def hRaw (s : FVec Ideal S4x16x2048x2048 .f32) (x : FVec Ideal S4x16x2048 .f32) : FVec Ideal S4x16x2048x2048 .f32 :=
  Host.exp (subf s (hRow x))

/-- The sum of every row. -/
def hSum (e : FVec Ideal S4x16x2048x2048 .f32) : FVec Ideal S4x16x2048 .f32 :=
  Host.reduceAdd e (constant S_ FTy.f32 0x00000000#32) reducesTo_S4x16x2048x2048_S4x16x2048_d3 h_S_

/-- Every row's log-sum, from a row's number. -/
def hLse (s : FVec Ideal S4x16x2048x2048 .f32) (x : FVec Ideal S4x16x2048 .f32) : FVec Ideal S4x16x2048 .f32 :=
  addf x (Host.log (hSum (hRaw s x)))

/-- A row's number, against the least number. -/
def hLeast (x : FVec Ideal S4x16x2048 .f32) : FVec Ideal S4x16x2048 .f32 :=
  maximumf (broadcastInDim S4x16x2048 ![] bcast_S_S4x16x2048 (constant S_ FTy.f32 0xFF800000#32)) x

/-- The attention weights, under a row's number. -/
def hProb (s : FVec Ideal S4x16x2048x2048 .f32) (x : FVec Ideal S4x16x2048 .f32) : FVec Ideal S4x16x2048x2048 .f32 :=
  Host.divf (hRaw s x) (hRow (hSum (hRaw s x)))

/-- The output. -/
def hOut (v : FVec Ideal S4x2048x16x64 .f32) (p : FVec Ideal S4x16x2048x2048 .f32) : FVec Ideal S4x2048x16x64 .f32 :=
  transpose S4x2048x16x64 [0, 3, 1, 2]
    (Host.dotGeneral dot_S4x2048x16x64_S4x16x2048x2048_S4x16x64x2048_1_3_3_2_02_01 none v p)
    transposes_S4x16x64x2048_S4x2048x16x64_0_3_1_2

section
variable {q k v : FVec Ideal S4x2048x16x64 .f32} {c : FVec Ideal S4x2048x16 .f32} {A : Args}
variable (hq : ∀ b t h d, q (ix4 b t h d) = (A.q b t h d : EReal)) (hk : ∀ b t h d, k (ix4 b t h d) = (A.k b t h d : EReal))
  (hv : ∀ b t h d, v (ix4 b t h d) = (A.v b t h d : EReal)) (hc : ∀ b t h, c (ix3 b t h) = (A.c b t h : EReal))
variable (b : Fin 4) (h : Fin 16) (t u : Fin 2048)

/-- The word of `-∞` is the extended real `⊥`. -/
theorem ninf_word : Ideal.ofBits .f32 0xFF800000#32 = (⊥ : EReal) := by
  simp [Ideal.ofBits, Ideal.ieee]

theorem hLeast_eq (x : FVec Ideal S4x16x2048 .f32) : hLeast x = x := by
  funext i
  idx_vars i
  pointwise [hLeast]
  rw [ninf_word]
  exact max_eq_right bot_le

include hq hk hc in
theorem hLogits_apply : hLogits q k c (ix4 b h t u) = A.masked b h t u := by
  pointwise [hLogits]
  have e : IntOp.cmpi CmpIPredicate.sge (BitVec.ofNat 32 t.val) (BitVec.ofNat 32 u.val) = BitVec.ofBool (decide (u ≤ t)) := by
    rw [WordCmp.cmpi_sge_ofNat (ha := by omega) (hb := by omega)]
    rfl
  rw [e, select_ofBool, ninf_word, scale_word']
  simp only [hq, hk, hc, ← EReal.coe_mul, ← Cert.Finite.coe_sum, ← EReal.coe_add, ← EReal.coe_sub, decide_eq_true_eq]
  rfl

variable (s : FVec Ideal S4x16x2048x2048 .f32) (hs : ∀ b h t u, s (ix4 b h t u) = A.masked b h t u)
variable (x : FVec Ideal S4x16x2048 .f32) (hx : ∀ b h t, x (ix3 b h t) = (A.most b h t : EReal))

include hs

theorem hMost_apply : hMost s (ix3 b h t) = (A.most b h t : EReal) := by
  pointwise [hMost]
  simp only [hs, ninf_word]
  exact A.sup_masked b h t

include hx

theorem hRaw_apply : hRaw s x (ix4 b h t u) = (A.raw b h t u : EReal) := by
  pointwise [hRaw, hRow]
  rw [hs, hx, Args.masked, Args.raw]
  split
  · rw [← EReal.coe_sub, Ideal.exp_coe]
  · rw [EReal.bot_sub, Ideal.exp_bot]; rfl

theorem hSum_apply : hSum (hRaw s x) (ix3 b h t) = (A.total b h t : EReal) := by
  pointwise [hSum]
  simp only [hRaw_apply b h t _ s hs x hx, ← Cert.Finite.coe_sum]
  rfl

theorem hLse_apply : hLse s x (ix3 b h t) = (A.lse b h t : EReal) := by
  pointwise [hLse]
  rw [hx, hSum_apply b h t s hs x hx, Ideal.log_coe, if_neg (A.total_pos b h t).not_ge, ← EReal.coe_add]
  rfl

theorem hProb_apply : hProb s x (ix4 b h t u) = (A.prob b h t u : EReal) := by
  pointwise [hProb, hRow]
  rw [hRaw_apply b h t u s hs x hx, hSum_apply b h t s hs x hx, Ideal.div_coe (A.total_pos b h t).ne', ← EReal.coe_mul, mul_one_div]
  rfl

include hv in
theorem hOut_apply (d : Fin 64) : hOut v (hProb s x) (ix4 b t h d) = (A.out b h t d : EReal) := by
  pointwise [hOut]
  simp only [hv, hProb_apply b h t _ s hs x hx, ← EReal.coe_mul, ← Cert.Finite.coe_sum]
  rfl

end

variable (m : (ℓ : Loc nD τ sig) → Buf (Elt Ideal) ℓ) (c : Dev nD) (A : Args)

/-- The argument arrays hold those real numbers. -/
structure Holds : Prop where
  eq_q : m ((c : Thread nD τ).loc main_arg0) = fun i => (A.q (i 0) (i 1) (i 2) (i 3) : EReal)
  eq_k : m ((c : Thread nD τ).loc main_arg1) = fun i => (A.k (i 0) (i 1) (i 2) (i 3) : EReal)
  eq_v : m ((c : Thread nD τ).loc main_arg2) = fun i => (A.v (i 0) (i 1) (i 2) (i 3) : EReal)
  eq_c : m ((c : Thread nD τ).loc main_arg3) = fun i => (A.c (i 0) (i 1) (i 2) : EReal)
  eq_ct : m ((c : Thread nD τ).loc main_arg4) = fun i => (A.ct (i 0) (i 1) (i 2) (i 3) : EReal)

/-- The logits of the arguments. -/
def hS : FVec Ideal S4x16x2048x2048 .f32 :=
  hLogits (m ((c : Thread nD τ).loc main_arg0)) (m ((c : Thread nD τ).loc main_arg1)) (m ((c : Thread nD τ).loc main_arg3))

variable {m c A} (H : Holds m c A)
include H

omit H in
theorem V_lse : V m c main_v54 = shapeCast S4x8x2x4x512 (hLse (hS m c) (hMost (hS m c))) shapeCasts_S4x16x2048_S4x8x2x4x512 := by
  simp only [V, List.flatten_cons, List.flatten_nil, List.append_nil, List.cons_append, List.nil_append, StableHlo.TRef.unary, StableHlo.TRef.binary, StableHlo.TRef.ternary]
  entry_read
  rfl

omit H in
theorem V_out : V m c main_v53 = shapeCast S4x2048x1024 (hOut (m ((c : Thread nD τ).loc main_arg2)) (hProb (hS m c) (hLeast (hMost (hS m c)))))
    shapeCasts_S4x2048x16x64_S4x2048x1024 := by
  simp only [V, List.flatten_cons, List.flatten_nil, List.append_nil, List.cons_append, List.nil_append, StableHlo.TRef.unary, StableHlo.TRef.binary, StableHlo.TRef.ternary]
  entry_read
  rfl

theorem hS_apply (b : Fin 4) (h : Fin 16) (t u : Fin 2048) : hS m c (ix4 b h t u) = A.masked b h t u :=
  hLogits_apply (fun _ _ _ _ => congrFun H.eq_q _) (fun _ _ _ _ => congrFun H.eq_k _) (fun _ _ _ => congrFun H.eq_c _) b h t u

/-- The operand of log-sums. -/
theorem lse_apply (b : Fin 4) (p : Fin 8) (hh : Fin 2) (i : Fin 4) (r : Fin 512) :
    V m c main_v54 (ix5 b p hh i r) = (A.lse b (⟨p.val * 2 + hh.val, by omega⟩ : Fin 16) (⟨i.val * 512 + r.val, by omega⟩ : Fin 2048) : EReal) := by
  rw [V_lse]
  refine Eq.trans ?_ (hLse_apply b _ _ _ (hS_apply H) _ fun b h t => hMost_apply b h t _ (hS_apply H))
  pointwise

/-- The operand of outputs. -/
theorem out_apply (b : Fin 4) (t : Fin 2048) (l : Fin 1024) :
    V m c main_v53 (ix3 b t l) = (A.out b (⟨l.val / 64, by omega⟩ : Fin 16) t (⟨l.val % 64, by omega⟩ : Fin 64) : EReal) := by
  rw [V_out, hLeast_eq]
  refine Eq.trans ?_ (hOut_apply (fun _ _ _ _ => congrFun H.eq_v _) b _ t _ (hS_apply H) _ (fun b h t => hMost_apply b h t _ (hS_apply H)) _)
  pointwise

/-- The operand of biases by row. -/
theorem crow_apply (b : Fin 4) (p : Fin 8) (hh : Fin 2) (i : Fin 4) (r : Fin 512) :
    V m c main_v55 (ix5 b p hh i r) = (A.c b (⟨i.val * 512 + r.val, by omega⟩ : Fin 2048) (⟨p.val * 2 + hh.val, by omega⟩ : Fin 16) : EReal) := by
  simp only [V, List.flatten_cons, List.flatten_nil, List.append_nil, List.cons_append, List.nil_append, StableHlo.TRef.unary, StableHlo.TRef.binary, StableHlo.TRef.ternary]
  entry_read
  refine Eq.trans ?_ (congrFun H.eq_c (ix3 b _ _))
  pointwise

/-- The operand of biases by lane. -/
theorem cexp_apply (b : Fin 4) (t : Fin 2048) (l : Fin 1024) :
    V m c main_v50 (ix3 b t l) = (A.c b t (⟨l.val / 64, by omega⟩ : Fin 16) : EReal) := by
  simp only [V, List.flatten_cons, List.flatten_nil, List.append_nil, List.cons_append, List.nil_append, StableHlo.TRef.unary, StableHlo.TRef.binary, StableHlo.TRef.ternary]
  entry_read
  refine Eq.trans ?_ (congrFun H.eq_c (ix3 b _ _))
  pointwise

/-- The operand of cotangents. -/
theorem ct_apply (b : Fin 4) (t : Fin 2048) (l : Fin 1024) :
    V m c main_v52 (ix3 b t l) = (A.ct b t (⟨l.val / 64, by omega⟩ : Fin 16) (⟨l.val % 64, by omega⟩ : Fin 64) : EReal) := by
  simp only [V, List.flatten_cons, List.flatten_nil, List.append_nil, List.cons_append, List.nil_append, StableHlo.TRef.unary, StableHlo.TRef.binary, StableHlo.TRef.ternary]
  entry_read
  refine Eq.trans ?_ (congrFun H.eq_ct (ix4 b _ _ _))
  pointwise

/-- The parts, per pair of heads. -/
def hPairs (x : FVec Ideal S4x2048x3072 .f32) : FVec Ideal S4x2048x3072 .f32 :=
  shapeCast S4x2048x3072 (transpose S4x2048x8x3x128 [0, 1, 3, 2, 4]
    (shapeCast S4x2048x3x8x128 x shapeCasts_S4x2048x3072_S4x2048x3x8x128) transposes_S4x2048x3x8x128_S4x2048x8x3x128_0_1_3_2_4)
    shapeCasts_S4x2048x8x3x128_S4x2048x3072

omit H in
theorem hPairs_apply (x : FVec Ideal S4x2048x3072 .f32) (b : Fin 4) (t : Fin 2048) (p : Fin 8) (j : Fin 3) (l : Fin 128) :
    hPairs x (ix3 b t (⟨(p.val * 3 + j.val) * 128 + l.val, by omega⟩ : Fin 3072))
      = x (ix3 b t (⟨(j.val * 8 + p.val) * 128 + l.val, by omega⟩ : Fin 3072)) := by
  have e1 : ∀ y : FVec Ideal S4x2048x8x3x128 .f32, shapeCast S4x2048x3072 y shapeCasts_S4x2048x8x3x128_S4x2048x3072
      (ix3 b t (⟨(p.val * 3 + j.val) * 128 + l.val, by omega⟩ : Fin 3072)) = y (ix5 b t p j l) := fun y => by
    pointwise
  have e2 : ∀ y : FVec Ideal S4x2048x3x8x128 .f32, transpose S4x2048x8x3x128 [0, 1, 3, 2, 4] y transposes_S4x2048x3x8x128_S4x2048x8x3x128_0_1_3_2_4
      (ix5 b t p j l) = y (ix5 b t j p l) := fun y => by
    pointwise
  have e3 : shapeCast S4x2048x3x8x128 x shapeCasts_S4x2048x3072_S4x2048x3x8x128 (ix5 b t j p l)
      = x (ix3 b t (⟨(j.val * 8 + p.val) * 128 + l.val, by omega⟩ : Fin 3072)) := by
    pointwise
    exact congrArg (fun n => x (ix3 b t n)) (Fin.ext (by dsimp only; omega))
  unfold hPairs
  rw [e1, e2, e3]

/-- The three parts side by side. -/
def hJoin (q k v : FVec Ideal S4x2048x16x64 .f32) : FVec Ideal S4x2048x3072 .f32 :=
  concatenate S4x2048x3072 2 [⟨S4x2048x1024, shapeCast S4x2048x1024 q shapeCasts_S4x2048x16x64_S4x2048x1024⟩,
    ⟨S4x2048x1024, shapeCast S4x2048x1024 k shapeCasts_S4x2048x16x64_S4x2048x1024⟩,
    ⟨S4x2048x1024, shapeCast S4x2048x1024 v shapeCasts_S4x2048x16x64_S4x2048x1024⟩] concatenates_S4x2048x1024_S4x2048x1024_S4x2048x1024_S4x2048x3072_d2

omit H in
theorem hJoin_apply (q k v : FVec Ideal S4x2048x16x64 .f32) (b : Fin 4) (t : Fin 2048) (j : Fin 3) (n : Fin 1024) :
    hJoin q k v (ix3 b t (⟨j.val * 1024 + n.val, by omega⟩ : Fin 3072))
      = (match j with | 0 => q | 1 => k | 2 => v) (ix4 b t (⟨n.val / 64, by omega⟩ : Fin 16) (⟨n.val % 64, by omega⟩ : Fin 64)) := by
  rcases (by revert j; decide : j = 0 ∨ j = 1 ∨ j = 2) with rfl | rfl | rfl
  · pointwise [hJoin]
  · pointwise [hJoin]
  · pointwise [hJoin]
    rw [dif_neg (by omega), dif_neg (by omega)]
    congr 2 <;> exact Fin.ext (by dsimp only; omega)

end Cert.Attn

end
-- ==== Proof.AttnQkv.lean ====
/- The operand of queries, keys and values. -/
module

public import proofs.«01_k».proof.Proof.AttnHost
public import Idealize.ShloMosaic.Lib.Pipeline.ValueKit
public import Idealize.ShloMosaic.Lib.StableHlo.RunRead

@[expose] public section

set_option maxRecDepth 16384

noncomputable section

namespace Cert.Attn

open Idealize.ShloMosaic Idealize.ShloMosaic.TcCoe Idealize.SL.Sem
open Cert.AttnKernelIdeal Cert.AttnKernelIdeal.Gen

variable {m : (ℓ : Loc nD τ sig) → Buf (Elt Ideal) ℓ} {c : Dev nD} {A : Args} (H : Holds m c A)
include H

/-- The host's lines before the call. -/
def hostLines : List (HloOp τ sig (Elt Ideal)) := List.flatten [hostOps0, hostOps0_1, hostOps0_2]

omit H in
theorem V_qkv : V m c main_v47 = truncf .bf16 (hPairs (hJoin (m ((c : Thread nD τ).loc main_arg0)) (m ((c : Thread nD τ).loc main_arg1)) (m ((c : Thread nD τ).loc main_arg2)))) bitsLt_bf16_f32 := by
  show StableHlo.after hostLines (fun b => m (c, b)) (Proc.devRef .tc main_v47) = _
  after_reads_simp
  have join (x0 x1 x2 : FVec Ideal S4x2048x16x64 .f32) (y0 y1 y2 : FVec Ideal S4x2048x1024 .f32)
      (h0 : y0 = shapeCast S4x2048x1024 x0 shapeCasts_S4x2048x16x64_S4x2048x1024)
      (h1 : y1 = shapeCast S4x2048x1024 x1 shapeCasts_S4x2048x16x64_S4x2048x1024)
      (h2 : y2 = shapeCast S4x2048x1024 x2 shapeCasts_S4x2048x16x64_S4x2048x1024) :
      concatenate S4x2048x3072 2 [⟨S4x2048x1024, y0⟩, ⟨S4x2048x1024, y1⟩, ⟨S4x2048x1024, y2⟩]
        concatenates_S4x2048x1024_S4x2048x1024_S4x2048x1024_S4x2048x3072_d2 = hJoin x0 x1 x2 := by
    subst h0 h1 h2
    rfl
  have e0 : StableHlo.upto hostLines (fun b => m (c, b)) 53 (Proc.devRef .tc main_v40)
      = shapeCast S4x2048x1024 (m ((c : Thread nD τ).loc main_arg0)) shapeCasts_S4x2048x16x64_S4x2048x1024 := by
    after_reads_simp
    rfl
  have e1 : StableHlo.upto hostLines (fun b => m (c, b)) 53 (Proc.devRef .tc main_v41)
      = shapeCast S4x2048x1024 (m ((c : Thread nD τ).loc main_arg1)) shapeCasts_S4x2048x16x64_S4x2048x1024 := by
    after_reads_simp
    rfl
  have e2 : StableHlo.upto hostLines (fun b => m (c, b)) 53 (Proc.devRef .tc main_v42)
      = shapeCast S4x2048x1024 (m ((c : Thread nD τ).loc main_arg2)) shapeCasts_S4x2048x16x64_S4x2048x1024 := by
    after_reads_simp
    rfl
  exact congrArg (fun x => truncf .bf16 (hPairs x) bitsLt_bf16_f32) (join _ _ _ _ _ _ e0 e1 e2)

/-- The operand of queries, keys and values: per pair of heads, the three parts side by side. -/
theorem qkv_apply (b : Fin 4) (t : Fin 2048) (p : Fin 8) (j : Fin 3) (l : Fin 128) :
    V m c main_v47 (ix3 b t (⟨(p.val * 3 + j.val) * 128 + l.val, by omega⟩ : Fin 3072))
      = ((match j with | 0 => A.q | 1 => A.k | 2 => A.v) b t (⟨p.val * 2 + l.val / 64, by omega⟩ : Fin 16) (⟨l.val % 64, by omega⟩ : Fin 64) : EReal) := by
  have e : (⟨(j.val * 8 + p.val) * 128 + l.val, by omega⟩ : Fin 3072)
      = ⟨j.val * 1024 + (⟨p.val * 128 + l.val, by omega⟩ : Fin 1024).val, by dsimp only; omega⟩ := Fin.ext (by dsimp only; omega)
  have e1 : (⟨(p.val * 128 + l.val) / 64, by omega⟩ : Fin 16) = ⟨p.val * 2 + l.val / 64, by omega⟩ := Fin.ext (by dsimp only; omega)
  have e2 : (⟨(p.val * 128 + l.val) % 64, by omega⟩ : Fin 64) = ⟨l.val % 64, by omega⟩ := Fin.ext (by dsimp only; omega)
  rw [V_qkv]
  refine (truncf_apply _ _ _ _).trans ?_
  show hPairs _ _ = _
  rw [hPairs_apply, e, hJoin_apply]
  dsimp only
  rw [e1, e2]
  clear e e1 e2
  rcases (by revert j; decide : j = 0 ∨ j = 1 ∨ j = 2) with rfl | rfl | rfl
  · exact congrFun H.eq_q _
  · exact congrFun H.eq_k _
  · exact congrFun H.eq_v _

end Cert.Attn

end
-- ==== Proof.AttnPair.lean ====
/- One query tile against one key tile, over the reals. -/
module

public import proofs.«01_k».proof.Proof.AttnTile

@[expose] public section

set_option maxRecDepth 16384

noncomputable section

namespace Cert.Attn

open Idealize.ShloMosaic Idealize.ShloMosaic.TcCoe Idealize.SL.Sem
open Cert.AttnKernelIdeal Cert.AttnKernelIdeal.Gen

/-- What a point loads, as real numbers: row tiles, and per head its rows. -/
structure Reals where
  q : Fin 4 → Fin 512 → Fin 128 → ℝ
  k : Fin 4 → Fin 512 → Fin 128 → ℝ
  v : Fin 4 → Fin 512 → Fin 128 → ℝ
  o : Fin 4 → Fin 512 → Fin 128 → ℝ
  y : Fin 4 → Fin 512 → Fin 128 → ℝ
  c : Fin 4 → Fin 512 → Fin 128 → ℝ
  lse : Fin 2 → Fin 4 → Fin 512 → ℝ
  cr : Fin 2 → Fin 4 → Fin 512 → ℝ

/-- The loads are those real numbers. -/
structure Reads (X : Loads Ideal) (R : Reals) : Prop where
  q : ∀ i r l, X.q i (ix3 (0 : Fin 1) r l) = (R.q i r l : EReal)
  k : ∀ i r l, X.k i (ix3 (0 : Fin 1) r l) = (R.k i r l : EReal)
  v : ∀ i r l, X.v i (ix3 (0 : Fin 1) r l) = (R.v i r l : EReal)
  o : ∀ i r l, X.o i (ix3 (0 : Fin 1) r l) = (R.o i r l : EReal)
  y : ∀ i r l, X.y i (ix3 (0 : Fin 1) r l) = (R.y i r l : EReal)
  c : ∀ i r l, X.c i (ix3 (0 : Fin 1) r l) = (R.c i r l : EReal)
  lse : ∀ hh i r, X.lse hh i (ix5 (0 : Fin 1) (0 : Fin 1) (0 : Fin 1) (0 : Fin 1) r) = (R.lse hh i r : EReal)
  cr : ∀ hh i r, X.cr hh i (ix5 (0 : Fin 1) (0 : Fin 1) (0 : Fin 1) (0 : Fin 1) r) = (R.cr hh i r : EReal)

variable (R : Reals)

/-- A query row's bias less its log-sum. -/
def Reals.bias (hh : Fin 2) (i : Fin 4) (r : Fin 512) : ℝ := R.c i r (own hh 0) - R.lse hh i r

/-- A query row's output times its cotangent. -/
def Reals.odot (hh : Fin 2) (i : Fin 4) (r : Fin 512) : ℝ := ∑ d, R.y i r (own hh d) * R.o i r (own hh d)

/-- The score of a query against a key, less the query's log-sum. -/
def Reals.score (hh : Fin 2) (kj qi : Fin 4) (r s : Fin 512) : ℝ :=
  (∑ d, R.q qi r (own hh d) * (1 / 8) * R.k kj s (own hh d)) + (R.bias hh qi r - R.cr hh kj s)

/-- The weight of a key for a query. -/
def Reals.weight (hh : Fin 2) (kj qi : Fin 4) (r s : Fin 512) : ℝ :=
  if qi = kj ∧ r < s then 0 else Real.exp (R.score hh kj qi r s)

/-- The gradient of a score. -/
def Reals.dscore (hh : Fin 2) (kj qi : Fin 4) (r s : Fin 512) : ℝ :=
  R.weight hh kj qi r s * ((∑ d, R.o qi r (own hh d) * R.v kj s (own hh d)) - R.odot hh qi r)

variable {R} {X : Loads Ideal} (H : Reads X R)
include H

theorem bias_apply (hh : Fin 2) (i : Fin 4) (r : Fin 512) : bias X hh i (ix2 r (0 : Fin 1)) = (R.bias hh i r : EReal) := by
  pointwise [bias]
  rw [pickHead_apply, flat_apply, H.c, twoCols_apply, row_apply, row_apply, H.lse, H.lse, Reals.bias, EReal.coe_sub]
  fin_cases hh <;> rfl

theorem odot_apply (hh : Fin 2) (i : Fin 4) (r : Fin 512) : odot X hh i (ix2 r (0 : Fin 1)) = (R.odot hh i r : EReal) := by
  pointwise [odot, zeros]
  rw [sum_lanes hh]
  simp only [lane_own, own_div, free_div, select_ofBool, decide_true, decide_false, ↓reduceIte, Bool.false_eq_true, Finset.sum_const_zero,
    add_zero, flat_apply, H.y, H.o, ← EReal.coe_mul, ← Cert.Finite.coe_sum, Reals.odot]

/-- A query row against a key column: the scaled product, and the biases the free lanes carry. -/
theorem scores_apply (hh : Fin 2) (kj qi : Fin 4) (r s : Fin 512) :
    scores (kept X) hh kj qi (ix2 r s) = (R.score hh kj qi r s : EReal) := by
  have ho : ∀ d, tQA X hh qi (ix2 r (own hh d)) = ((R.q qi r (own hh d) * (1 / 8) : ℝ) : EReal) := fun d => by
    rw [tQA, oneCols_own hh 3 (by omega), ← Nat.add_zero (spare hh), putCols_own hh 0 (by omega), mineL_apply,
      if_pos (own_div hh d), scaled_apply, H.q, EReal.coe_mul]
  have hf : ∀ d, tQA X hh qi (ix2 r (free hh d)) = (((if d = 0 then R.bias hh qi r else 0) +
      (if d = 3 then 1 else 0) + (if d = 4 ∨ d = 5 then 1 else 0) : ℝ) : EReal) := fun d => by
    rw [tQA, oneCols_free hh 3 (by omega), ← Nat.add_zero (spare hh), putCols_free hh 0 (by omega) _ _ _ _ _ (bias_apply H hh qi r), mineL_apply,
      if_neg (free_div hh d)]
    have e : ∀ n : Fin 64, d = n ↔ d.val = n.val := fun n => Fin.ext_iff
    simp only [e]
    rcases d with ⟨d, hd⟩
    by_cases h : d < 6
    · interval_cases d <;> simp
    · simp [show d ≠ 0 by omega, show d ≠ 1 by omega, show d ≠ 2 by omega, show d ≠ 3 by omega, show d ≠ 4 by omega, show d ≠ 5 by omega]
  have ko : ∀ d, tKT X hh kj (ix2 (own hh d) s) = ((R.k kj s (own hh d) : ℝ) : EReal) := fun d => by
    rw [tKT, putRows_own hh 3 (by omega), ← Nat.add_zero (spare hh), oneRows_own hh 0 (by omega), mineS_apply,
      if_pos (own_div hh d), tr_apply, flat_apply, H.k]
  have hb : (subf (zeros (F := Ideal) S1x512) (row (X.cr hh kj))) (ix2 (0 : Fin 1) s) = ((-R.cr hh kj s : ℝ) : EReal) := by
    pointwise [zeros]
    rw [row_apply, H.cr, zero_sub, EReal.coe_neg]
  have kf : ∀ d, tKT X hh kj (ix2 (free hh d) s) = (((if d = 0 then 1 else 0) + (if d = 1 ∨ d = 2 then 1 else 0) +
      (if d = 3 then -R.cr hh kj s else 0) : ℝ) : EReal) := fun d => by
    rw [tKT, putRows_free hh 3 (by omega) _ _ _ _ _ hb, ← Nat.add_zero (spare hh), oneRows_free hh 0 (by omega), mineS_apply,
      if_neg (free_div hh d)]
    have e : ∀ n : Fin 64, d = n ↔ d.val = n.val := fun n => Fin.ext_iff
    simp only [e]
    rcases d with ⟨d, hd⟩
    by_cases h : d < 6
    · interval_cases d <;> simp
    · simp [show d ≠ 0 by omega, show d ≠ 1 by omega, show d ≠ 2 by omega, show d ≠ 3 by omega, show d ≠ 4 by omega, show d ≠ 5 by omega]
  have hs : ∀ d : Fin 64, ((if d = 0 then R.bias hh qi r else 0) + (if d = 3 then 1 else 0) + (if d = 4 ∨ d = 5 then 1 else 0) : ℝ)
      * ((if d = 0 then 1 else 0) + (if d = 1 ∨ d = 2 then 1 else 0) + (if d = 3 then -R.cr hh kj s else 0))
      = (if d = 0 then R.bias hh qi r else 0) + (if d = 3 then -R.cr hh kj s else 0) := fun d => by
    have e : ∀ n : Fin 64, d = n ↔ d.val = n.val := fun n => Fin.ext_iff
    simp only [e]
    rcases d with ⟨d, hd⟩
    by_cases h : d < 6
    · interval_cases d <;> simp
    · simp [show d ≠ 0 by omega, show d ≠ 1 by omega, show d ≠ 2 by omega, show d ≠ 3 by omega, show d ≠ 4 by omega, show d ≠ 5 by omega]
  pointwise [scores, kept]
  rw [sum_lanes hh]
  simp only [ho, hf, ko, kf, ← EReal.coe_mul, hs, ← Cert.Finite.coe_sum, ← EReal.coe_add, Finset.sum_add_distrib, Finset.sum_ite_eq',
    Finset.mem_univ, ↓reduceIte, Reals.score, sub_eq_add_neg]

theorem weights_apply (hh : Fin 2) (kj qi : Fin 4) (r s : Fin 512) :
    weights (kept X) hh kj qi (ix2 r s) = (R.weight hh kj qi r s : EReal) := by
  have hm : (Named.named (F := Ideal) κ "mask" (φ := .f32) 0xF149F2CA#32) = (⊥ : EReal) := IdealRules.named_const.ideal_named_scalar _ _ _ _ rfl
  unfold weights Reals.weight
  by_cases h : qi = kj
  · subst h
    rw [if_pos rfl]
    pointwise [causal]
    rw [WordCmp.cmpi_sge_ofNat (by omega) (by omega), select_ofBool, hm, scores_apply H]
    by_cases hrs : r < s
    · have h2 : ¬ (s.val ≤ r.val) := by have : r.val < s.val := hrs; omega
      simp [hrs, h2, Ideal.exp_bot]
    · have h2 : s.val ≤ r.val := by have : ¬ r.val < s.val := hrs; omega
      simp [hrs, h2, Ideal.exp_coe]
  · rw [if_neg h, if_neg (fun h' => h h'.1)]
    pointwise
    rw [scores_apply H, Ideal.exp_coe]

theorem dscores_apply (hh : Fin 2) (kj qi : Fin 4) (r s : Fin 512) :
    dscores (kept X) hh kj qi (ix2 r s) = (R.dscore hh kj qi r s : EReal) := by
  have hb : (subf (zeros (F := Ideal) S512x1) (odot X hh qi)) (ix2 r (0 : Fin 1)) = ((-R.odot hh qi r : ℝ) : EReal) := by
    pointwise [zeros]
    rw [odot_apply H, zero_sub, EReal.coe_neg]
  have ho : ∀ d, tDO X hh qi (ix2 r (own hh d)) = ((R.o qi r (own hh d) : ℝ) : EReal) := fun d => by
    rw [tDO, ← Nat.add_zero (spare hh), putCols_own hh 0 (by omega), mineL_apply, if_pos (own_div hh d), flat_apply, H.o]
  have hf : ∀ d, tDO X hh qi (ix2 r (free hh d)) = ((if d = 0 then -R.odot hh qi r else 0 : ℝ) : EReal) := fun d => by
    rw [tDO, ← Nat.add_zero (spare hh), putCols_free hh 0 (by omega) _ _ _ _ _ hb, mineL_apply, if_neg (free_div hh d)]
    have e : d = 0 ↔ d.val = 0 := Fin.ext_iff
    by_cases h : d.val = 0 <;> simp [e, h]
  have ko : ∀ d, tVT X hh kj (ix2 (own hh d) s) = ((R.v kj s (own hh d) : ℝ) : EReal) := fun d => by
    rw [tVT, ← Nat.add_zero (spare hh), oneRows_own hh 0 (by omega), mineS_apply, if_pos (own_div hh d), tr_apply, flat_apply, H.v]
  have kf : ∀ d, tVT X hh kj (ix2 (free hh d) s) = ((if d = 0 ∨ d = 1 ∨ d = 2 then 1 else 0 : ℝ) : EReal) := fun d => by
    rw [tVT, ← Nat.add_zero (spare hh), oneRows_free hh 0 (by omega), mineS_apply, if_neg (free_div hh d)]
    have e : ∀ n : Fin 64, d = n ↔ d.val = n.val := fun n => Fin.ext_iff
    simp only [e]
    by_cases h : d.val = 0 ∨ d.val = 1 ∨ d.val = 2
    · rw [if_pos (by simpa using h), if_pos (by simpa using h)]; rfl
    · rw [if_neg (by simpa using h), if_neg (by simpa using h)]; rfl
  have hs : ∀ d : Fin 64, (if d = 0 then -R.odot hh qi r else 0 : ℝ) * (if d = 0 ∨ d = 1 ∨ d = 2 then 1 else 0)
      = if d = 0 then -R.odot hh qi r else 0 := fun d => by
    by_cases h : d = 0 <;> simp [h]
  pointwise [dscores]
  rw [sum_lanes hh, weights_apply H, show (kept X).od = tDO X from rfl, show (kept X).vt = tVT X from rfl]
  simp only [ho, hf, ko, kf, ← EReal.coe_mul, hs, ← Cert.Finite.coe_sum, ← EReal.coe_add, Finset.sum_ite_eq',
    Finset.mem_univ, ↓reduceIte, Reals.dscore, sub_eq_add_neg]

end Cert.Attn

end
-- ==== Proof.AttnSums.lean ====
/- The sums over pairs of tiles, over the reals: what the body stores. -/
module

public import proofs.«01_k».proof.Proof.AttnPair

@[expose] public section

set_option maxRecDepth 16384

noncomputable section

namespace Cert.Attn

open Idealize.ShloMosaic Idealize.ShloMosaic.TcCoe Idealize.SL.Sem
open Cert.AttnKernelIdeal Cert.AttnKernelIdeal.Gen

/-- The head of a pair that a lane belongs to. -/
def headOf (l : Fin 128) : Fin 2 := ⟨l.val / 64, by omega⟩

theorem headOf_eq (l : Fin 128) (hh : Fin 2) : l.val / 64 = hh.val ↔ headOf l = hh := by
  simp [headOf, Fin.ext_iff]

/-- Two terms, one of each head, of which a lane takes its own. -/
theorem two_heads (l : Fin 128) (f : Fin 2 → ℝ) :
    (if headOf l = 0 then f 0 else 0) + (if headOf l = 1 then f 1 else 0) = f (headOf l) := by
  generalize headOf l = h
  fin_cases h <;> simp

variable {R : Reals} {X : Loads Ideal} (H : Reads X R)

section
include H

theorem qs_apply (hh : Fin 2) (i : Fin 4) (l : Fin 128) (r : Fin 512) :
    (kept X).qs hh i (ix2 l r) = ((if headOf l = hh then R.q i r l * (1 / 8) else 0 : ℝ) : EReal) := by
  rw [show (kept X).qs = tQS X from rfl, tQS, mineS_apply, tr_apply, scaled_apply, H.q]
  simp only [headOf_eq]
  split_ifs <;> simp [EReal.coe_mul]

theorem dt_apply (hh : Fin 2) (i : Fin 4) (l : Fin 128) (r : Fin 512) :
    (kept X).dt hh i (ix2 l r) = ((if headOf l = hh then R.o i r l else 0 : ℝ) : EReal) := by
  rw [show (kept X).dt = tDT X from rfl, tDT, mineS_apply, tr_apply, flat_apply, H.o]
  simp only [headOf_eq]
  split_ifs <;> simp

theorem km_apply (hh : Fin 2) (i : Fin 4) (l : Fin 128) (r : Fin 512) :
    (kept X).km hh i (ix2 r l) = ((if headOf l = hh then R.k i r l else 0 : ℝ) : EReal) := by
  rw [show (kept X).km hh i = mineL hh (flat (X.k i)) from rfl, mineL_apply, flat_apply, H.k]
  simp only [headOf_eq]
  split_ifs <;> simp

/-- The keys' gradient of a key tile, over a list of query tiles. -/
theorem keys_apply (kj : Fin 4) (l : Fin 128) (s : Fin 512) (L : List (Fin 4)) : keys (kept X) kj L (ix2 l s)
    = (((L.map fun qi => ∑ r, R.q qi r l * (1 / 8) * R.dscore (headOf l) kj qi r s).sum : ℝ) : EReal) := by
  induction L with
  | nil => pointwise [keys, zeros]; simp
  | cons qi L ih =>
    pointwise [keys, hi]
    rw [ih]
    simp only [qs_apply H, dscores_apply H, ← EReal.coe_mul, ← Cert.Finite.coe_sum, ← EReal.coe_add, List.map_cons, List.sum_cons,
      ite_mul, zero_mul]
    congr 1
    rw [← two_heads l fun h => ∑ r, R.q qi r l * (1 / 8) * R.dscore h kj qi r s]
    have e : ∀ h : Fin 2, (∑ r, if headOf l = h then R.q qi r l * (1 / 8) * R.dscore h kj qi r s else 0)
        = if headOf l = h then ∑ r, R.q qi r l * (1 / 8) * R.dscore h kj qi r s else 0 := fun h => by
      split_ifs <;> simp
    rw [e, e]
    ring

/-- The values' gradient of a key tile, over a list of query tiles. -/
theorem vals_apply (kj : Fin 4) (l : Fin 128) (s : Fin 512) (L : List (Fin 4)) : vals (kept X) kj L (ix2 l s)
    = (((L.map fun qi => ∑ r, R.o qi r l * R.weight (headOf l) kj qi r s).sum : ℝ) : EReal) := by
  induction L with
  | nil => pointwise [vals, zeros]; simp
  | cons qi L ih =>
    pointwise [vals, hi]
    rw [ih]
    simp only [dt_apply H, weights_apply H, ← EReal.coe_mul, ← Cert.Finite.coe_sum, ← EReal.coe_add, List.map_cons, List.sum_cons,
      ite_mul, zero_mul]
    congr 1
    rw [← two_heads l fun h => ∑ r, R.o qi r l * R.weight h kj qi r s]
    have e : ∀ h : Fin 2, (∑ r, if headOf l = h then R.o qi r l * R.weight h kj qi r s else 0)
        = if headOf l = h then ∑ r, R.o qi r l * R.weight h kj qi r s else 0 := fun h => by
      split_ifs <;> simp
    rw [e, e]
    ring

/-- The queries' gradient of one pair of tiles. -/
theorem dquery_apply (kj qi : Fin 4) (r : Fin 512) (l : Fin 128) : dquery (kept X) kj qi (ix2 r l)
    = ((∑ s, R.dscore (headOf l) kj qi r s * R.k kj s l : ℝ) : EReal) := by
  pointwise [dquery, hi, zeros]
  simp only [km_apply H, dscores_apply H, ← EReal.coe_mul, ← Cert.Finite.coe_sum, ← EReal.coe_add, mul_ite, mul_zero]
  congr 1
  rw [← two_heads l fun h => ∑ s, R.dscore h kj qi r s * R.k kj s l]
  have e : ∀ h : Fin 2, (∑ s, if headOf l = h then R.dscore h kj qi r s * R.k kj s l else 0)
      = if headOf l = h then ∑ s, R.dscore h kj qi r s * R.k kj s l else 0 := fun h => by
    split_ifs <;> simp
  rw [e, e]

theorem rowSum_apply (hh : Fin 2) (kj qi : Fin 4) (r : Fin 512) :
    rowSum (kept X) hh kj qi (ix2 r (0 : Fin 1)) = ((∑ s, R.dscore hh kj qi r s : ℝ) : EReal) := by
  pointwise [rowSum]
  simp only [dscores_apply H, ← Cert.Finite.coe_sum]

theorem rowSums_apply (hh : Fin 2) (kj qi : Fin 4) (r : Fin 512) :
    rowSums (kept X) kj qi (ix2 r ⟨hh.val, by omega⟩) = ((∑ s, R.dscore hh kj qi r s : ℝ) : EReal) := by
  have e0 : ∀ l : Fin 128, laneIs .eq 0#32 (ix2 r l) = BitVec.ofBool (decide (l.val = 0)) := fun l => lane_eq 0 (by omega) r l
  have e1 : ∀ l : Fin 128, laneIs .eq 1#32 (ix2 r l) = BitVec.ofBool (decide (l.val = 1)) := fun l => lane_eq 1 (by omega) r l
  pointwise [rowSums, onLanes]
  rw [e0, e1, select_ofBool, select_ofBool, rowSum_apply H, rowSum_apply H]
  fin_cases hh <;> simp

theorem colSums_apply (hh : Fin 2) (kj : Fin 4) (b : Fin 8) (s : Fin 512) (L : List (Fin 4)) : colSums (kept X) hh kj L (ix2 b s)
    = (((L.map fun qi => ∑ a : Fin 64, R.dscore hh kj qi ⟨a.val * 8 + b.val, by omega⟩ s).sum : ℝ) : EReal) := by
  induction L with
  | nil => pointwise [colSums, zeros]; simp
  | cons qi L ih =>
    pointwise [colSums]
    rw [ih]
    simp only [dscores_apply H, ← Cert.Finite.coe_sum, ← EReal.coe_add, List.map_cons, List.sum_cons]
    exact congrArg _ (add_comm _ _)

omit H in
/-- The sum over a list of tiles and the sum over eight sublanes change places. -/
theorem sum_list {ι : Type} (L : List ι) (f : Fin 8 → ι → ℝ) : ∑ b, (L.map (f b)).sum = (L.map fun q => ∑ b, f b q).sum := by
  induction L with
  | nil => simp
  | cons q L ih => simp only [List.map_cons, List.sum_cons, Finset.sum_add_distrib, ih]

omit H in
/-- Row `8 a + b` of a tile, over the two numbers. -/
theorem sum_sublanes (f : Fin 512 → ℝ) : ∑ b : Fin 8, ∑ a : Fin 64, f ⟨a.val * 8 + b.val, by omega⟩ = ∑ r, f r := by
  rw [Finset.sum_comm]
  exact (Fin.sum_mul_add_congr (S := 64) (n := 8) (f := f) fun a b h => rfl)

theorem keySums_apply (hh : Fin 2) (kj : Fin 4) (s : Fin 512) : pick hh (keySums (kept X) kj) (ix2 s (0 : Fin 1))
    = ((((downTo kj).map fun qi => ∑ r, R.dscore hh kj qi r s).sum : ℝ) : EReal) := by
  have e : ∀ h : Fin 2, (shapeCast S1x512 (multiReduction .add [0] S512 (colSums (kept X) h kj (downTo kj)) 0x00000000#32 reduces_S8x512_S512 (.inl rfl) rfl)
      shapeCasts_S512_S1x512) (ix2 (0 : Fin 1) s) = ((((downTo kj).map fun qi => ∑ r, R.dscore h kj qi r s).sum : ℝ) : EReal) := fun h => by
    pointwise
    simp only [colSums_apply H, ← Cert.Finite.coe_sum, sum_list]
    refine congrArg (fun f : Fin 4 → ℝ => ((((downTo kj).map f).sum : ℝ) : EReal)) (funext fun qi => ?_)
    exact sum_sublanes fun r => R.dscore h kj qi r s
  rw [keySums, twoCols_apply, e, e]
  fin_cases hh <;> rfl

end

/-- A tile of an accumulator, over the reals. -/
theorem total_apply (D : Fin 4 → Fin 4 → FVec Ideal S512x128 .f32) (d : Fin 4 → Fin 4 → ℝ) (q : Fin 4) (r : Fin 512) (l : Fin 128)
    (h : ∀ kj qi, D kj qi (ix2 r l) = (d kj qi : EReal)) (L : List (Fin 4 × Fin 4)) :
    total D q L (ix2 r l) = (((L.map fun p => if p.2 = q then d p.1 p.2 else 0).sum : ℝ) : EReal) := by
  induction L with
  | nil => pointwise [total, zeros]; simp
  | cons p L ih =>
    unfold total
    by_cases hp : p.2 = q
    · rw [if_pos hp]
      pointwise
      rw [ih, h, ← EReal.coe_add, List.map_cons, List.sum_cons, if_pos hp, add_comm]
    · rw [if_neg hp, ih, List.map_cons, List.sum_cons, if_neg hp, zero_add]

theorem pairs_sum (d : Fin 4 → Fin 4 → ℝ) (q : Fin 4) :
    (pairsDown.map fun p => if p.2 = q then d p.1 p.2 else 0).sum = ∑ kj, if kj ≤ q then d kj q else 0 := by
  rcases (by revert q; decide : q = 0 ∨ q = 1 ∨ q = 2 ∨ q = 3) with rfl | rfl | rfl | rfl <;>
    simp [pairsDown, Fin.sum_univ_four] <;> ring

theorem down_sum (d : Fin 4 → ℝ) (j : Fin 4) : ((downTo j).map d).sum = ∑ qi, if j ≤ qi then d qi else 0 := by
  rcases (by revert j; decide : j = 0 ∨ j = 1 ∨ j = 2 ∨ j = 3) with rfl | rfl | rfl | rfl <;>
    simp [downTo, Fin.sum_univ_four] <;> ring

/-! ## What the body stores -/

/-- The queries' gradient. -/
def Reals.dq (R : Reals) (i : Fin 4) (r : Fin 512) (l : Fin 128) : ℝ :=
  (∑ kj, if kj ≤ i then ∑ s, R.dscore (headOf l) kj i r s * R.k kj s l else 0) * (1 / 8)

/-- The keys' gradient. -/
def Reals.dk (R : Reals) (j : Fin 4) (s : Fin 512) (l : Fin 128) : ℝ :=
  ∑ qi, if j ≤ qi then ∑ r, R.q qi r l * (1 / 8) * R.dscore (headOf l) j qi r s else 0

/-- The values' gradient. -/
def Reals.dv (R : Reals) (j : Fin 4) (s : Fin 512) (l : Fin 128) : ℝ :=
  ∑ qi, if j ≤ qi then ∑ r, R.o qi r l * R.weight (headOf l) j qi r s else 0

/-- The bias's gradient as a query's. -/
def Reals.dcq (R : Reals) (hh : Fin 2) (i : Fin 4) (r : Fin 512) : ℝ := ∑ kj, if kj ≤ i then ∑ s, R.dscore hh kj i r s else 0

/-- The bias's gradient as a key's, to be taken off. -/
def Reals.dck (R : Reals) (hh : Fin 2) (j : Fin 4) (s : Fin 512) : ℝ := ∑ qi, if j ≤ qi then ∑ r, R.dscore hh j qi r s else 0

/-- The three gradients, by part. -/
def Reals.out (R : Reals) : Fin 3 → Fin 4 → Fin 512 → Fin 128 → ℝ
  | 0 => R.dq
  | 1 => R.dk
  | 2 => R.dv

include H in
theorem outTiles_apply (j : Fin 3) (i : Fin 4) (r : Fin 512) (l : Fin 128) :
    outTiles (kept X) j i (ix2 r l) = (R.out j i r l : EReal) := by
  rcases (by revert j; decide : j = 0 ∨ j = 1 ∨ j = 2) with rfl | rfl | rfl
  · pointwise [outTiles, hi]
    rw [total_apply _ _ i r l (fun kj qi => dquery_apply H kj qi r l), pairs_sum fun kj qi => ∑ s, R.dscore (headOf l) kj qi r s * R.k kj s l, scale_word', ← EReal.coe_mul]
    rfl
  · pointwise [outTiles, hi]
    rw [keys_apply H, down_sum]
    rfl
  · pointwise [outTiles, hi]
    rw [vals_apply H, down_sum]
    rfl

include H in
/-- A row tile of the bias's gradient: what stood there, and the pair's two heads at their lanes. -/
theorem biasTile_apply (n : ℕ) (hn : n < 8) (x : FVec Ideal S512x128 .f32) (i : Fin 4) (r : Fin 512) (l : Fin 128) :
    biasTile (kept X) (BitVec.ofNat 32 n) x i (ix2 r l) = x (ix2 r l) +
      ((if l.val / 2 = n then R.dcq ⟨l.val % 2, by omega⟩ i r - R.dck ⟨l.val % 2, by omega⟩ i r else 0 : ℝ) : EReal) := by
  have w0 : lane0 (BitVec.ofNat 32 n) = BitVec.ofNat 32 (2 * n) := WordCmp.muli_ofNat 2 n
  have w1 : lane1 (BitVec.ofNat 32 n) = BitVec.ofNat 32 (2 * n + 1) := by
    rw [lane1, show Scalar.muli 2#32 (BitVec.ofNat 32 n) = BitVec.ofNat 32 (2 * n) from WordCmp.muli_ofNat 2 n]
    exact WordCmp.addi_ofNat (2 * n) 1
  have hk : ∀ hh : Fin 2, pick hh (keySums (kept X) i) (ix2 r (0 : Fin 1)) = (R.dck hh i r : EReal) := fun hh => by
    rw [keySums_apply H, down_sum]; rfl
  have hq : ∀ hh : Fin 2, pick hh (total (rowSums (kept X)) i pairsDown) (ix2 r (0 : Fin 1)) = (R.dcq hh i r : EReal) := fun hh => by
    rw [pick_apply, total_apply _ _ i r _ (fun kj qi => rowSums_apply H hh kj qi r), pairs_sum fun kj qi => ∑ s, R.dscore hh kj qi r s]; rfl
  pointwise [biasTile, keyPart, queryPart, atLane, onLanes, zeros]
  rw [w0, w1, lane_eq _ (by omega), lane_eq _ (by omega), hk, hk, hq, hq]
  simp only [select_ofBool, decide_eq_true_eq, zero_sub, add_assoc]
  congr 1
  by_cases h0 : l.val = 2 * n
  · have h1 : ¬ l.val = 2 * n + 1 := by omega
    have h2 : l.val / 2 = n := by omega
    have h3 : (⟨l.val % 2, by omega⟩ : Fin 2) = 0 := Fin.ext (by simp; omega)
    rw [if_pos h0, if_pos h0, if_neg h1, if_neg h1, if_pos h2, h3, zero_add, add_zero, ← EReal.coe_neg, ← EReal.coe_add, sub_eq_neg_add]
  · by_cases h1 : l.val = 2 * n + 1
    · have h2 : l.val / 2 = n := by omega
      have h3 : (⟨l.val % 2, by omega⟩ : Fin 2) = 1 := Fin.ext (by simp; omega)
      rw [if_neg h0, if_neg h0, if_pos h1, if_pos h1, if_pos h2, h3, zero_add, zero_add, ← EReal.coe_neg, ← EReal.coe_add, sub_eq_neg_add]
    · have h2 : ¬ l.val / 2 = n := by omega
      rw [if_neg h0, if_neg h0, if_neg h1, if_neg h1, if_neg h2]
      simp

end Cert.Attn

end
-- ==== Proof.AttnReals.lean ====
/- The sums over one pair of heads' tiles are the sums over all rows: the tiles after a query's own hold zeros. -/
module

public import proofs.«01_k».proof.Proof.AttnModel
public import proofs.«01_k».proof.Proof.AttnSums

@[expose] public section

set_option maxRecDepth 16384

noncomputable section

namespace Cert.Attn

open Idealize.ShloMosaic Idealize.ShloMosaic.TcCoe Idealize.SL.Sem
open Cert.AttnKernelIdeal Cert.AttnKernelIdeal.Gen

/-- Row `r` of row tile `i`. -/
def rowAt (i : Fin 4) (r : Fin 512) : Fin 2048 := ⟨i.val * 512 + r.val, by omega⟩

/-- Head `hh` of pair `p`. -/
def head (p : Fin 8) (hh : Fin 2) : Fin 16 := ⟨p.val * 2 + hh.val, by omega⟩

/-- The lane within its head. -/
def laneOf (l : Fin 128) : Fin 64 := ⟨l.val % 64, by omega⟩

/-- One pair of heads' tiles. -/
def Args.pair (A : Args) (b : Fin 4) (p : Fin 8) : Reals where
  q i r l := A.q b (rowAt i r) (head p (headOf l)) (laneOf l)
  k i r l := A.k b (rowAt i r) (head p (headOf l)) (laneOf l)
  v i r l := A.v b (rowAt i r) (head p (headOf l)) (laneOf l)
  o i r l := A.ct b (rowAt i r) (head p (headOf l)) (laneOf l)
  y i r l := A.out b (head p (headOf l)) (rowAt i r) (laneOf l)
  c i r l := A.c b (rowAt i r) (head p (headOf l))
  lse hh i r := A.lse b (head p hh) (rowAt i r)
  cr hh i r := A.c b (rowAt i r) (head p hh)

theorem headOf_own (hh : Fin 2) (d : Fin 64) : headOf (own hh d) = hh := Fin.ext (own_div hh d)

theorem laneOf_own (hh : Fin 2) (d : Fin 64) : laneOf (own hh d) = d := by
  apply Fin.ext; simp only [laneOf, own]; omega

theorem row_le (i j : Fin 4) (r s : Fin 512) (h : j ≤ i) : rowAt j s ≤ rowAt i r ↔ ¬ (i = j ∧ r < s) := by
  simp only [rowAt, Fin.le_def, Fin.lt_def, Fin.ext_iff] at *
  omega

theorem row_after (i j : Fin 4) (r s : Fin 512) (h : ¬ j ≤ i) : ¬ rowAt j s ≤ rowAt i r := by
  simp only [rowAt, Fin.le_def] at *
  omega

variable (A : Args) (b : Fin 4) (p : Fin 8) (hh : Fin 2)

theorem pair_score (kj qi : Fin 4) (r s : Fin 512) :
    (A.pair b p).score hh kj qi r s = A.logit b (head p hh) (rowAt qi r) (rowAt kj s) - A.lse b (head p hh) (rowAt qi r) := by
  simp only [Reals.score, Reals.bias, Args.pair, Args.logit, headOf_own, laneOf_own, Finset.sum_mul]
  rw [Finset.sum_congr rfl fun d _ => mul_right_comm (A.q b (rowAt qi r) (head p hh) d) (1 / 8) (A.k b (rowAt kj s) (head p hh) d)]
  ring

theorem pair_weight (kj qi : Fin 4) (r s : Fin 512) (h : kj ≤ qi) :
    (A.pair b p).weight hh kj qi r s = A.prob b (head p hh) (rowAt qi r) (rowAt kj s) := by
  rw [Reals.weight, pair_score, Args.prob_eq]
  simp only [row_le qi kj r s h]
  split <;> simp_all

theorem pair_odot (qi : Fin 4) (r : Fin 512) : (A.pair b p).odot hh qi r = A.odot b (head p hh) (rowAt qi r) := by
  simp only [Reals.odot, Args.pair, Args.odot, headOf_own, laneOf_own]

theorem pair_dscore (kj qi : Fin 4) (r s : Fin 512) (h : kj ≤ qi) :
    (A.pair b p).dscore hh kj qi r s = A.dlogit b (head p hh) (rowAt qi r) (rowAt kj s) := by
  rw [Reals.dscore, pair_weight _ _ _ _ _ _ _ _ h, pair_odot, Args.dlogit]
  simp only [Args.pair, headOf_own, laneOf_own]

/-- A sum over rows by tile and row of the tile. -/
theorem sum_row (f : Fin 2048 → ℝ) : ∑ i : Fin 4, ∑ r : Fin 512, f (rowAt i r) = ∑ t, f t :=
  Fin.sum_mul_add_congr (S := 4) (n := 512) (f := f) fun i r h => rfl

/-- A sum over the keys of a query, the tiles after the query's left out. -/
theorem sum_keys (i : Fin 4) (r : Fin 512) (f : Fin 2048 → ℝ) (g : Fin 4 → Fin 512 → ℝ) (hg : ∀ j s, j ≤ i → g j s = f (rowAt j s))
    (hf : ∀ u, ¬ u ≤ rowAt i r → f u = 0) : (∑ j, if j ≤ i then ∑ s, g j s else 0) = ∑ u, f u := by
  rw [← sum_row f]
  refine Finset.sum_congr rfl fun j _ => ?_
  split
  · exact Finset.sum_congr rfl fun s _ => hg j s ‹_›
  · exact (Finset.sum_eq_zero fun s _ => hf _ (row_after i j r s ‹_›)).symm

/-- A sum over the queries of a key, the tiles before the key's left out. -/
theorem sum_queries (j : Fin 4) (s : Fin 512) (f : Fin 2048 → ℝ) (g : Fin 4 → Fin 512 → ℝ) (hg : ∀ i r, j ≤ i → g i r = f (rowAt i r))
    (hf : ∀ t, ¬ rowAt j s ≤ t → f t = 0) : (∑ i, if j ≤ i then ∑ r, g i r else 0) = ∑ t, f t := by
  rw [← sum_row f]
  refine Finset.sum_congr rfl fun i _ => ?_
  split
  · exact Finset.sum_congr rfl fun r _ => hg i r ‹_›
  · exact (Finset.sum_eq_zero fun r _ => hf _ (row_after i j r s ‹_›)).symm

theorem pair_dq (i : Fin 4) (r : Fin 512) (l : Fin 128) :
    (A.pair b p).dq i r l = A.dq b (head p (headOf l)) (rowAt i r) (laneOf l) := by
  rw [Reals.dq, Args.dq]
  congr 1
  exact sum_keys i r (fun u => A.dlogit b (head p (headOf l)) (rowAt i r) u * A.k b u (head p (headOf l)) (laneOf l)) _
    (fun j s h => by rw [pair_dscore _ _ _ _ _ _ _ _ h]; rfl) fun u hu => by rw [Args.dlogit_after _ _ _ _ _ hu, zero_mul]

theorem pair_dk (j : Fin 4) (s : Fin 512) (l : Fin 128) :
    (A.pair b p).dk j s l = A.dk b (head p (headOf l)) (rowAt j s) (laneOf l) := by
  rw [Reals.dk, Args.dk]
  exact sum_queries j s (fun t => A.q b t (head p (headOf l)) (laneOf l) * (1 / 8) * A.dlogit b (head p (headOf l)) t (rowAt j s)) _
    (fun i r h => by rw [pair_dscore _ _ _ _ _ _ _ _ h]; rfl) fun t ht => by rw [Args.dlogit_after _ _ _ _ _ ht, mul_zero]

theorem pair_dv (j : Fin 4) (s : Fin 512) (l : Fin 128) :
    (A.pair b p).dv j s l = A.dv b (head p (headOf l)) (rowAt j s) (laneOf l) := by
  rw [Reals.dv, Args.dv]
  exact sum_queries j s (fun t => A.ct b t (head p (headOf l)) (laneOf l) * A.prob b (head p (headOf l)) t (rowAt j s)) _
    (fun i r h => by rw [pair_weight _ _ _ _ _ _ _ _ h]; rfl) fun t ht => by rw [Args.prob_after _ _ _ _ _ ht, mul_zero]

/-- The bias's gradient. -/
theorem pair_dc (i : Fin 4) (r : Fin 512) :
    (A.pair b p).dcq hh i r - (A.pair b p).dck hh i r = A.dc b (head p hh) (rowAt i r) := by
  rw [Reals.dcq, Reals.dck, Args.dc]
  congr 1
  · exact sum_keys i r (fun u => A.dlogit b (head p hh) (rowAt i r) u) _ (fun j s h => pair_dscore _ _ _ _ _ _ _ _ h)
      fun u hu => Args.dlogit_after _ _ _ _ _ hu
  · exact sum_queries i r (fun t => A.dlogit b (head p hh) t (rowAt i r)) _ (fun j s h => pair_dscore _ _ _ _ _ _ _ _ h)
      fun t ht => Args.dlogit_after _ _ _ _ _ ht

end Cert.Attn

end
-- ==== Proof.AttnBlocks.lean ====
/- What the body loads at grid point `t` are the tiles of batch `t / 8` and pair of heads `t % 8`. -/
module

public import proofs.«01_k».proof.Proof.AttnQkv
public import proofs.«01_k».proof.Proof.AttnReals
public import proofs.«01_k».proof.Proof.AttnRun
public import Idealize.ShloMosaic.Lib.WholeRead

@[expose] public section

set_option maxRecDepth 16384

noncomputable section

namespace Cert.Attn

open Idealize.ShloMosaic Idealize.ShloMosaic.TcCoe Idealize.SL.Sem
open Cert.AttnKernelIdeal Cert.AttnKernelIdeal.Gen

/-- Every window's block index at every grid point. -/
theorem idx : ∀ t : Fin cfg0.N, win0_0.index t = ![t.val / 8, 0, t.val % 8] ∧ win0_1.index t = ![t.val / 8, 0, t.val % 8]
    ∧ win0_2.index t = ![t.val / 8, 0, t.val % 8] ∧ win0_3.index t = ![t.val / 8, t.val % 8, 0, 0, 0]
    ∧ win0_4.index t = ![t.val / 8, t.val % 8, 0, 0, 0] ∧ win0_5.index t = ![t.val / 8, 0, t.val % 8]
    ∧ win0_6.index t = ![t.val / 8, t.val % 8] ∧ win0_7.index t = ![t.val / 8, 0, 0] :=
  (by decide +kernel : ∀ t : Fin grid0.N, _)

/-- The batch of a grid point. -/
def batch (t : Fin cfg0.N) : Fin 4 := ⟨t.val / 8, by have := lt_of_lt_of_eq t.isLt N_0; omega⟩

/-- The pair of heads of a grid point. -/
def pairOf (t : Fin cfg0.N) : Fin 8 := ⟨t.val % 8, by omega⟩

/-- Lane `l` of part `j` of the queries, keys and values. -/
def lane3 (j : Fin 3) (l : Fin 128) : Fin 384 := ⟨128 * j.val + l.val, by omega⟩

variable {m : (ℓ : Loc nD τ sig) → Buf (Elt Ideal) ℓ} {c : Dev nD} {A : Args} (H : Holds m c A) (t : Fin cfg0.N)

theorem emb0 (n : Fin 2048) (j : Fin 3) (l : Fin 128) : ((cfg0.win 0).blk t).view.emb (ix3 (0 : Fin 1) n (lane3 j l))
    = ix3 (batch t) n (⟨((pairOf t).val * 3 + j.val) * 128 + l.val, by omega⟩ : Fin 3072) := by
  blk_ext [idx t, batch, pairOf, lane3]

theorem emb1 (n : Fin 2048) (l : Fin 128) : ((cfg0.win 1).blk t).view.emb (ix3 (0 : Fin 1) n l)
    = ix3 (batch t) n (⟨(pairOf t).val * 128 + l.val, by omega⟩ : Fin 1024) := by
  blk_ext [idx t, batch, pairOf]

theorem emb2 (n : Fin 2048) (l : Fin 128) : ((cfg0.win 2).blk t).view.emb (ix3 (0 : Fin 1) n l)
    = ix3 (batch t) n (⟨(pairOf t).val * 128 + l.val, by omega⟩ : Fin 1024) := by
  blk_ext [idx t, batch, pairOf]

theorem emb5 (n : Fin 2048) (l : Fin 128) : ((cfg0.win 5).blk t).view.emb (ix3 (0 : Fin 1) n l)
    = ix3 (batch t) n (⟨(pairOf t).val * 128 + l.val, by omega⟩ : Fin 1024) := by
  blk_ext [idx t, batch, pairOf]

theorem emb3 (hh : Fin 2) (i : Fin 4) (r : Fin 512) : ((cfg0.win 3).blk t).view.emb (ix5 (0 : Fin 1) (0 : Fin 1) hh i r)
    = ix5 (batch t) (pairOf t) hh i r := by
  blk_ext [idx t, batch, pairOf]

theorem emb4 (hh : Fin 2) (i : Fin 4) (r : Fin 512) : ((cfg0.win 4).blk t).view.emb (ix5 (0 : Fin 1) (0 : Fin 1) hh i r)
    = ix5 (batch t) (pairOf t) hh i r := by
  blk_ext [idx t, batch, pairOf]

theorem key0 (f : (b : Ref sig .tc) → b.ty.Contents (Elt Ideal)) (i) : ((cfg0.win 0).blk t).view.read (Elt Ideal) (f (Pipeline.arrRef spec0 0)) i
    = f main_v47 (((cfg0.win 0).blk t).view.emb i) := rfl

theorem at0 (i) : iblk m c 0 t i = V m c main_v47 (((cfg0.win 0).blk t).view.emb i) := key0 t (V m c) i

theorem key1 (f : (b : Ref sig .tc) → b.ty.Contents (Elt Ideal)) (i) : ((cfg0.win 1).blk t).view.read (Elt Ideal) (f (Pipeline.arrRef spec0 1)) i
    = f main_v52 (((cfg0.win 1).blk t).view.emb i) := rfl

theorem at1 (i) : iblk m c 1 t i = V m c main_v52 (((cfg0.win 1).blk t).view.emb i) := key1 t (V m c) i

theorem key2 (f : (b : Ref sig .tc) → b.ty.Contents (Elt Ideal)) (i) : ((cfg0.win 2).blk t).view.read (Elt Ideal) (f (Pipeline.arrRef spec0 2)) i
    = f main_v53 (((cfg0.win 2).blk t).view.emb i) := rfl

theorem at2 (i) : iblk m c 2 t i = V m c main_v53 (((cfg0.win 2).blk t).view.emb i) := key2 t (V m c) i

theorem key3 (f : (b : Ref sig .tc) → b.ty.Contents (Elt Ideal)) (i) : ((cfg0.win 3).blk t).view.read (Elt Ideal) (f (Pipeline.arrRef spec0 3)) i
    = f main_v54 (((cfg0.win 3).blk t).view.emb i) := rfl

theorem at3 (i) : iblk m c 3 t i = V m c main_v54 (((cfg0.win 3).blk t).view.emb i) := key3 t (V m c) i

theorem key4 (f : (b : Ref sig .tc) → b.ty.Contents (Elt Ideal)) (i) : ((cfg0.win 4).blk t).view.read (Elt Ideal) (f (Pipeline.arrRef spec0 4)) i
    = f main_v55 (((cfg0.win 4).blk t).view.emb i) := rfl

theorem at4 (i) : iblk m c 4 t i = V m c main_v55 (((cfg0.win 4).blk t).view.emb i) := key4 t (V m c) i

theorem key5 (f : (b : Ref sig .tc) → b.ty.Contents (Elt Ideal)) (i) : ((cfg0.win 5).blk t).view.read (Elt Ideal) (f (Pipeline.arrRef spec0 5)) i
    = f main_v50 (((cfg0.win 5).blk t).view.emb i) := rfl

theorem at5 (i) : iblk m c 5 t i = V m c main_v50 (((cfg0.win 5).blk t).view.emb i) := key5 t (V m c) i

theorem head_lane (l : Fin 128) (h) : (⟨((pairOf t).val * 128 + l.val) / 64, h⟩ : Fin 16) = head (pairOf t) (headOf l) := by
  apply Fin.ext; simp only [head, headOf, pairOf]; omega

theorem lane_lane (l : Fin 128) (h) : (⟨((pairOf t).val * 128 + l.val) % 64, h⟩ : Fin 64) = laneOf l := by
  apply Fin.ext; simp only [laneOf, pairOf]; omega

theorem inPart_emb (i : Fin 4) (j : Fin 3) (r : Fin 512) (l : Fin 128) :
    (inPart i j).toLoadRect.idx (ix3 (0 : Fin 1) r l) = ix3 (0 : Fin 1) (rowAt i r) (lane3 j l) := by
  refine funext fun a => Fin.ext ?_
  show ![0, 512 * i.val, 128 * j.val] a + 1 * (ix3 (0 : Fin 1) r l a).val = _
  fin_cases a
  · show 0 + 1 * 0 = 0; rfl
  · show 512 * i.val + 1 * r.val = i.val * 512 + r.val; omega
  · show 128 * j.val + 1 * l.val = 128 * j.val + l.val; omega

theorem atRow_emb (i : Fin 4) (r : Fin 512) (l : Fin 128) :
    (atRow i).toLoadRect.idx (ix3 (0 : Fin 1) r l) = ix3 (0 : Fin 1) (rowAt i r) l := by
  refine funext fun a => Fin.ext ?_
  show ![0, 512 * i.val, 0] a + 1 * (ix3 (0 : Fin 1) r l a).val = _
  fin_cases a
  · show 0 + 1 * 0 = 0; rfl
  · show 512 * i.val + 1 * r.val = i.val * 512 + r.val; omega
  · show 0 + 1 * l.val = l.val; omega

theorem inRow_emb (hh : Fin 2) (i : Fin 4) (r : Fin 512) :
    (inRow hh i).toLoadRect.idx (ix5 (0 : Fin 1) (0 : Fin 1) (0 : Fin 1) (0 : Fin 1) r) = ix5 (0 : Fin 1) (0 : Fin 1) hh i r := by
  refine funext fun a => Fin.ext ?_
  show ![0, 0, hh.val, i.val, 0] a + 1 * (ix5 (0 : Fin 1) (0 : Fin 1) (0 : Fin 1) (0 : Fin 1) r a).val = _
  fin_cases a
  · show 0 + 1 * 0 = 0; rfl
  · show 0 + 1 * 0 = 0; rfl
  · show hh.val + 1 * 0 = hh.val; omega
  · show i.val + 1 * 0 = i.val; omega
  · show 0 + 1 * r.val = r.val; omega

include H

theorem blk_qkv (n : Fin 2048) (j : Fin 3) (l : Fin 128) : iblk m c 0 t (ix3 (0 : Fin 1) n (lane3 j l))
    = ((match j with | 0 => A.q | 1 => A.k | 2 => A.v) (batch t) n (head (pairOf t) (headOf l)) (laneOf l) : EReal) := by
  rw [at0, emb0]
  exact qkv_apply H _ _ _ _ _

theorem blk_ct (n : Fin 2048) (l : Fin 128) : iblk m c 1 t (ix3 (0 : Fin 1) n l)
    = (A.ct (batch t) n (head (pairOf t) (headOf l)) (laneOf l) : EReal) := by
  rw [at1, emb1, ct_apply H, head_lane, lane_lane]

theorem blk_out (n : Fin 2048) (l : Fin 128) : iblk m c 2 t (ix3 (0 : Fin 1) n l)
    = (A.out (batch t) (head (pairOf t) (headOf l)) n (laneOf l) : EReal) := by
  rw [at2, emb2, out_apply H, head_lane, lane_lane]

theorem blk_cexp (n : Fin 2048) (l : Fin 128) : iblk m c 5 t (ix3 (0 : Fin 1) n l)
    = (A.c (batch t) n (head (pairOf t) (headOf l)) : EReal) := by
  rw [at5, emb5, cexp_apply H, head_lane]

theorem blk_lse (hh : Fin 2) (i : Fin 4) (r : Fin 512) : iblk m c 3 t (ix5 (0 : Fin 1) (0 : Fin 1) hh i r)
    = (A.lse (batch t) (head (pairOf t) hh) (rowAt i r) : EReal) := by
  rw [at3, emb3]
  exact lse_apply H _ _ _ _ _

theorem blk_crow (hh : Fin 2) (i : Fin 4) (r : Fin 512) : iblk m c 4 t (ix5 (0 : Fin 1) (0 : Fin 1) hh i r)
    = (A.c (batch t) (rowAt i r) (head (pairOf t) hh) : EReal) := by
  rw [at4, emb4]
  exact crow_apply H _ _ _ _ _

/-- What the body loads at a point. -/
abbrev loadsAt (m : (ℓ : Loc nD τ sig) → Buf (Elt Ideal) ℓ) (c : Dev nD) (t : Fin cfg0.N) : Loads Ideal :=
  loads (ms0_0 t) (hs0_0 t) (ms0_1 t) (hs0_1 t) (ms0_2 t) (hs0_2 t) (ms0_3 t) (hs0_3 t) (ms0_4 t) (hs0_4 t) (ms0_5 t) (hs0_5 t)
    (iblk m c 0 t) (iblk m c 1 t) (iblk m c 2 t) (iblk m c 3 t) (iblk m c 4 t) (iblk m c 5 t)

/-- The loads at a point are the tiles of its batch and pair of heads. -/
theorem loadsAt_reads : Reads (loadsAt m c t) (A.pair (batch t) (pairOf t)) where
  q i r l := by
    refine ((hs0_0 t).readAt_unread _ _ _).trans ?_
    rw [inPart_emb]; exact blk_qkv H t (rowAt i r) 0 l
  k i r l := by
    refine ((hs0_0 t).readAt_unread _ _ _).trans ?_
    rw [inPart_emb]; exact blk_qkv H t (rowAt i r) 1 l
  v i r l := by
    refine ((hs0_0 t).readAt_unread _ _ _).trans ?_
    rw [inPart_emb]; exact blk_qkv H t (rowAt i r) 2 l
  o i r l := by
    refine ((hs0_1 t).readAt_unread _ _ _).trans ?_
    rw [atRow_emb]; exact blk_ct H t (rowAt i r) l
  y i r l := by
    refine ((hs0_2 t).readAt_unread _ _ _).trans ?_
    rw [atRow_emb]; exact blk_out H t (rowAt i r) l
  c i r l := by
    refine ((hs0_5 t).readAt_unread _ _ _).trans ?_
    rw [atRow_emb]; exact blk_cexp H t (rowAt i r) l
  lse hh i r := by
    refine ((hs0_3 t).readAt_unread _ _ _).trans ?_
    rw [inRow_emb]; exact blk_lse H t hh i r
  cr hh i r := by
    refine ((hs0_4 t).readAt_unread _ _ _).trans ?_
    rw [inRow_emb]; exact blk_crow H t hh i r

end Cert.Attn

end
-- ==== Proof.AttnPoints.lean ====
/- What every grid point leaves in the two result blocks. -/
module

public import proofs.«01_k».proof.Proof.AttnBlocks

@[expose] public section

set_option maxRecDepth 16384

noncomputable section

namespace Cert.Attn

open Idealize.ShloMosaic Idealize.ShloMosaic.TcCoe Idealize.SL.Sem
open Idealize.ShloMosaic.Pipeline (Dat)
open Cert.AttnKernelIdeal Cert.AttnKernelIdeal.Gen

/-- The gradients of queries, keys and values. -/
def Args.grad (A : Args) : Fin 3 → Fin 4 → Fin 16 → Fin 2048 → Fin 64 → ℝ
  | 0 => A.dq
  | 1 => A.dk
  | 2 => A.dv

theorem pair_out (A : Args) (b : Fin 4) (p : Fin 8) (j : Fin 3) (i : Fin 4) (r : Fin 512) (l : Fin 128) :
    (A.pair b p).out j i r l = A.grad j b (head p (headOf l)) (rowAt i r) (laneOf l) := by
  rcases (by revert j; decide : j = 0 ∨ j = 1 ∨ j = 2) with rfl | rfl | rfl
  · exact pair_dq A b p i r l
  · exact pair_dk A b p i r l
  · exact pair_dv A b p i r l

/-- The row tile of a row. -/
def tileOf (n : Fin 2048) : Fin 4 := ⟨n.val / 512, by omega⟩

/-- The row within its tile. -/
def within (n : Fin 2048) : Fin 512 := ⟨n.val % 512, by omega⟩

theorem rowAt_tileOf (n : Fin 2048) : rowAt (tileOf n) (within n) = n := by
  apply Fin.ext; simp only [rowAt, tileOf, within]; omega

theorem tileOf_rowAt (i : Fin 4) (r : Fin 512) : tileOf (rowAt i r) = i := by
  apply Fin.ext; simp only [rowAt, tileOf]; omega

theorem within_rowAt (i : Fin 4) (r : Fin 512) : within (rowAt i r) = r := by
  apply Fin.ext; simp only [rowAt, within]; omega

/-- The part of a lane of queries, keys and values. -/
def partOf (l : Fin 384) : Fin 3 := ⟨l.val / 128, by omega⟩

/-- The lane within its part. -/
def laneIn (l : Fin 384) : Fin 128 := ⟨l.val % 128, by omega⟩

theorem lane3_partOf (l : Fin 384) : lane3 (partOf l) (laneIn l) = l := by
  apply Fin.ext; simp only [lane3, partOf, laneIn]; omega

theorem partOf_lane3 (j : Fin 3) (l : Fin 128) : partOf (lane3 j l) = j := by
  apply Fin.ext; simp only [lane3, partOf]; omega

theorem laneIn_lane3 (j : Fin 3) (l : Fin 128) : laneIn (lane3 j l) = l := by
  apply Fin.ext; simp only [lane3, laneIn]; omega

theorem atOut_emb (i : Fin 4) (j : Fin 3) (r : Fin 512) (l : Fin 128) :
    (atOut i j).emb (ix2 r l) = ix2 (rowAt i r) (lane3 j l) := by
  refine funext fun a => Fin.ext ?_
  show ![512 * i.val, 128 * j.val] a + 1 * (ix2 r l a).val = _
  fin_cases a
  · show 512 * i.val + 1 * r.val = i.val * 512 + r.val; omega
  · show 128 * j.val + 1 * l.val = 128 * j.val + l.val; omega

theorem mem_outOrder : ∀ p : Fin 4 × Fin 3, p ∈ outOrder := by decide

/-- The gradients' block as stored, element by element. -/
theorem canon_out {R : Reals} {X : Loads Ideal} (H : Reads X R) (n : Fin 2048) (l : Fin 384) :
    View.canon (outOrder.map fun p => (⟨atOut p.1 p.2, outTiles (kept X) p.2 p.1⟩ : View.Piece (Elt Ideal) S2048x384 .bf16)) (ix2 n l)
      = (R.out (partOf l) (tileOf n) (within n) (laneIn l) : EReal) := by
  refine View.canon_apply_of_pieces (Val := Elt Ideal) (e := .bf16) (fun y : S2048x384.Idx => ((R.out (partOf (y 1)) (tileOf (y 0)) (within (y 0)) (laneIn (y 1)) : ℝ) : EReal))
    _ ?_ (ix2 n l) ⟨_, List.mem_map_of_mem (mem_outOrder (tileOf n, partOf l)), ?_⟩
  · intro p hp x
    obtain ⟨⟨i, j⟩, -, rfl⟩ := List.mem_map.mp hp
    obtain ⟨r, q, rfl⟩ : ∃ (r : Fin 512) (q : Fin 128), x = ix2 r q := ⟨x 0, x 1, eq_ix2 x⟩
    refine (outTiles_apply H j i r q).trans ?_
    show _ = ((R.out (partOf ((atOut i j).emb (ix2 r q) 1)) (tileOf ((atOut i j).emb (ix2 r q) 0)) (within ((atOut i j).emb (ix2 r q) 0))
      (laneIn ((atOut i j).emb (ix2 r q) 1)) : ℝ) : EReal)
    rw [atOut_emb]
    show _ = ((R.out (partOf (lane3 j q)) (tileOf (rowAt i r)) (within (rowAt i r)) (laneIn (lane3 j q)) : ℝ) : EReal)
    rw [partOf_lane3, tileOf_rowAt, within_rowAt, laneIn_lane3]
  · have e := atOut_emb (tileOf n) (partOf l) (within n) (laneIn l)
    rw [rowAt_tileOf, lane3_partOf] at e
    rw [← e]
    exact LoadRect.idx_mem _ _

variable (m : (ℓ : Loc nD τ sig) → Buf (Elt Ideal) ℓ) (c : Dev nD) (t : Fin cfg0.N)

theorem out6_A (h0 : t.val % 8 = 0) : (outsAt0 m c t.val t.isLt).1
    = View.canon (outOrder.map fun p => (⟨atOut p.1 p.2, outTiles (kept (loadsAt m c t)) p.2 p.1⟩ : View.Piece (Elt Ideal) S2048x384 .bf16)) := by
  rw [outsAt0_A m c t h0]
  dsimp only
  unfold out0_A_6
  rw [View.read_writes_junk_eq_canon, stores_out_A, tiles_eq, outStores_eq]

theorem out6_B (h0 : ¬t.val % 8 = 0) : (outsAt0 m c t.val t.isLt).1
    = View.canon (outOrder.map fun p => (⟨atOut p.1 p.2, outTiles (kept (loadsAt m c t)) p.2 p.1⟩ : View.Piece (Elt Ideal) S2048x384 .bf16)) := by
  rw [outsAt0_B m c t h0]
  dsimp only
  unfold out0_B_6
  rw [View.read_writes_junk_eq_canon, stores_out_B, tiles_eq, outStores_eq]

/-- The stores of the bias's gradient, read at a row tile. -/
theorem canon_bias (L : List (View.Piece (Elt Ideal) S1x2048x128 .f32)) {sp : Space} (w : View sig .tc sp S1x2048x128 .f32) (i : Fin 4) (r : Fin 512) (l : Fin 128) :
    View.canon L (ix3 (0 : Fin 1) (rowAt i r) l) = View.readCov w L (atRow i).toLoadRect (ix3 (0 : Fin 1) r l) := by
  rw [View.readCov_eq_canon', ← atRow_emb]

/-- The row tile `i` of a whole block. -/
def rowTile (x : Vec Ideal S1x2048x128 .f32) (i : Fin 4) : FVec Ideal S512x128 .f32 := fun y => x (ix3 (0 : Fin 1) (rowAt i (y 0)) (y 1))

theorem lift_apply (x : FVec Ideal S512x128 .f32) (r : Fin 512) (l : Fin 128) : lift x (ix3 (0 : Fin 1) r l) = x (ix2 r l) := by
  pointwise [lift]

theorem zeros_block : (shapeCast S1x2048x128 (zeros (F := Ideal) S2048x128) shapeCasts_S2048x128_S1x2048x128 : Vec Ideal S1x2048x128 .f32) = fun _ => (0 : EReal) := by
  funext i; idx_vars i
  pointwise [zeros]

theorem mem_block (y : S1x2048x128.Idx) :
    y ∈ (Rect.unit (s := S1x2048x128) ![0, 0, 0] S1x2048x128.size inb_S1x2048x128_S1x2048x128_0_0_0).set :=
  Rect.mem_set_unit.mpr fun a => by
    have h := (y a).isLt
    fin_cases a <;> exact ⟨Nat.zero_le _, lt_of_lt_of_eq h (Nat.zero_add _).symm⟩

/-- What a pair of heads adds to the bias's gradient, element by element: nothing outside its own two lanes. -/
def dcTerm (A : Args) (t : Fin cfg0.N) (y : S1x2048x128.Idx) : EReal :=
  ((if (y 2).val / 2 = (pairOf t).val then A.dc (batch t) (head (pairOf t) (⟨(y 2).val % 2, by omega⟩ : Fin 2)) (y 1) else 0 : ℝ) : EReal)

theorem word_pair : (BitVec.ofNat 32 (grid0.coords t 1).val) = BitVec.ofNat 32 (pairOf t).val :=
  (by decide +kernel : ∀ t : Fin grid0.N, (BitVec.ofNat 32 (grid0.coords t 1).val) = BitVec.ofNat 32 (t.val % 8)) t

variable {m c} {A : Args} (H : Holds m c A)

include H in
/-- The row tile of a point's block: what stood there and the pair's own addend. -/
theorem biasTile_dc (x : FVec Ideal S512x128 .f32) (i : Fin 4) (r : Fin 512) (l : Fin 128) :
    biasTile (kept (loadsAt m c t)) (BitVec.ofNat 32 (grid0.coords t 1).val) x i (ix2 r l)
      = x (ix2 r l) + dcTerm A t (ix3 (0 : Fin 1) (rowAt i r) l) := by
  rw [word_pair, biasTile_apply (loadsAt_reads H t) _ (pairOf t).isLt, pair_dc]
  rfl

include H in
theorem out7_A (h0 : t.val % 8 = 0) (y : S1x2048x128.Idx) : (outsAt0 m c t.val t.isLt).2 y = 0 + dcTerm A t y := by
  obtain ⟨a, n, l, rfl⟩ : ∃ (a : Fin 1) (n : Fin 2048) (l : Fin 128), y = ix3 a n l := ⟨y 0, y 1, y 2, eq_ix3 y⟩
  obtain rfl : a = 0 := Subsingleton.elim _ _
  obtain ⟨i, r, rfl⟩ : ∃ (i : Fin 4) (r : Fin 512), n = rowAt i r := ⟨_, _, (rowAt_tileOf n).symm⟩
  rw [outsAt0_A m c t h0]
  dsimp only
  unfold out0_A_7
  rw [View.read_writes_junk_eq_canon, stores_bias_A, tiles_eq, canon_bias _ (ms0_7 t).view]
  refine (congrFun (read_bias _ (ms0_7 t).view _ _ _ _ (fun _ => fun _ => (0 : EReal)) ?_ i) _).trans ?_
  · rw [zeros_block]
    have base : ∀ i : Fin 4, (flat (View.readCov (ms0_7 t).view ([⟨Rect.unit (s := S1x2048x128) ![0, 0, 0] S1x2048x128.size inb_S1x2048x128_S1x2048x128_0_0_0, fun _ => (0 : EReal)⟩] : List (View.Piece (Elt Ideal) S1x2048x128 .f32)) (atRow i).toLoadRect) : FVec Ideal S512x128 .f32) = (fun _ => (0 : EReal) : FVec Ideal S512x128 .f32) := by
      intro i
      rw [View.readCov_eq_canon']
      funext z; idx_vars z
      refine (flat_apply _ _ _).trans ?_
      refine (View.canon_apply_of_pieces (Val := Elt Ideal) (e := .f32) (fun _ => (0 : EReal)) _ (by simp) _ ⟨_, List.mem_singleton_self _, ?_⟩)
      exact mem_block _
    intro l i hl
    induction l with
    | nil => exact base i
    | cons q l ih =>
      obtain ⟨h, a⟩ := q
      obtain ⟨h1, h2⟩ := hl _ List.mem_cons_self
      dsimp only at h1 h2
      subst h1
      exact (congrArg (fun x : FVec Ideal S1x512x128 .f32 => flat x) (View.readCov_skip _ _ _ _ _ (disj_row _ _ h2.ne))).trans
        (ih fun j hj => hl j (List.mem_cons_of_mem _ hj))
  · rw [lift_apply, biasTile_dc t H]

include H in
theorem out7_B (h0 : ¬t.val % 8 = 0) (y : S1x2048x128.Idx) : (outsAt0 m c t.val t.isLt).2 y
    = (outsAt0 m c (t.val - 1) (Nat.lt_of_le_of_lt (Nat.sub_le _ _) t.isLt)).2 y + dcTerm A t y := by
  obtain ⟨a, n, l, rfl⟩ : ∃ (a : Fin 1) (n : Fin 2048) (l : Fin 128), y = ix3 a n l := ⟨y 0, y 1, y 2, eq_ix3 y⟩
  obtain rfl : a = 0 := Subsingleton.elim _ _
  obtain ⟨i, r, rfl⟩ : ∃ (i : Fin 4) (r : Fin 512), n = rowAt i r := ⟨_, _, (rowAt_tileOf n).symm⟩
  rw [outsAt0_B m c t h0]
  dsimp only
  unfold out0_B_7
  rw [View.read_writes_junk_eq_canon, stores_bias_B, tiles_eq, canon_bias _ (ms0_7 t).view]
  refine (congrFun (read_bias _ (ms0_7 t).view _ _ _ _
    (rowTile (outsAt0 m c (t.val - 1) (Nat.lt_of_le_of_lt (Nat.sub_le _ _) t.isLt)).2) ?_ i) _).trans ?_
  · intro l i hl
    funext z; idx_vars z
    refine (flat_apply _ _ _).trans ?_
    refine ((hs0_7 t).readAt_unread _ _ _).trans ?_
    rw [atRow_emb]
    rfl
  · rw [lift_apply, biasTile_dc t H]
    rfl

end Cert.Attn

end
-- ==== Proof.AttnFinal.lean ====
/- The two result arrays after the run. -/
module

public import proofs.«01_k».proof.Proof.AttnPoints

@[expose] public section

set_option maxRecDepth 16384

noncomputable section

namespace Cert.Attn

open Idealize.ShloMosaic Idealize.ShloMosaic.TcCoe Idealize.SL.Sem
open Idealize.ShloMosaic.Pipeline (Dat)
open Cert.AttnKernelIdeal Cert.AttnKernelIdeal.Gen

/-- The gradients of queries, keys and values, pair of heads by pair of heads, at row `n` and lane `l`. -/
def Args.gradAt (A : Args) (n : Fin 8192) (l : Fin 3072) : ℝ :=
  A.grad (partOf ⟨l.val % 384, by omega⟩) (⟨n.val / 2048, by omega⟩ : Fin 4) (head (⟨l.val / 384, by omega⟩ : Fin 8) (headOf ⟨l.val % 128, by omega⟩))
    (⟨n.val % 2048, by omega⟩ : Fin 2048) (laneOf ⟨l.val % 128, by omega⟩)

/-- The bias's gradient on 128 lanes, of which the first sixteen hold the heads. -/
def Args.dcAt (A : Args) (b : Fin 4) (t : Fin 2048) (l : Fin 128) : ℝ := if h : l.val < 16 then A.dc b (⟨l.val, h⟩ : Fin 16) t else 0

variable {m : (ℓ : Loc nD τ sig) → Buf (Elt Ideal) ℓ} {c : Dev nD} {A : Args} (H : Holds m c A)

/-- The sum over the pairs of heads of their addends is the addend of the pair that holds the lane. -/
theorem sum_pairs (A : Args) (b : Fin 4) (t : Fin 2048) (l : Fin 128) :
    (∑ s : Fin 8, if l.val / 2 = s.val then A.dc b (head s (⟨l.val % 2, by omega⟩ : Fin 2)) t else 0) = A.dcAt b t l := by
  unfold Args.dcAt
  by_cases h : l.val < 16
  · rw [dif_pos h, Finset.sum_eq_single (⟨l.val / 2, by omega⟩ : Fin 8)]
    · rw [if_pos rfl]
      congr 1
      apply Fin.ext; simp only [head]; omega
    · intro s _ hs
      exact if_neg fun e => hs (Fin.ext e.symm)
    · intro h; exact absurd (Finset.mem_univ _) h
  · rw [dif_neg h]
    exact Finset.sum_eq_zero fun s _ => if_neg (by omega)

include H

/-- The gradients of queries, keys and values after the run. -/
theorem final6 : (dats m 0 c).arrAt 6 (cfgs 0).N = (fun i => (A.gradAt (i 0) (i 1) : EReal) : FVec Ideal S8192x3072 .bf16) := by
  refine (dats m 0 c).arrAt_eq_of_covers 6 _ (by decide +kernel) fun t hf y => ?_
  blk_simp; rw [after0_6]
  obtain ⟨n, l, rfl⟩ : ∃ (n : Fin 2048) (l : Fin 384), y = ix2 n l := ⟨y 0, y 1, eq_ix2 y⟩
  have e : ((cfg0.win 6).blk t).view.emb (ix2 n l) = ix2 (⟨(batch t).val * 2048 + n.val, by omega⟩ : Fin 8192) (⟨(pairOf t).val * 384 + l.val, by omega⟩ : Fin 3072) := by
    blk_ext [idx t, batch, pairOf]
  have hv : (outsAt0 m c t.val t.isLt).1 (ix2 n l) = ((A.pair (batch t) (pairOf t)).out (partOf l) (tileOf n) (within n) (laneIn l) : EReal) := by
    by_cases h0 : t.val % 8 = 0
    · rw [out6_A m c t h0, canon_out (loadsAt_reads H t)]
    · rw [out6_B m c t h0, canon_out (loadsAt_reads H t)]
  refine hv.trans ?_
  rw [pair_out, rowAt_tileOf, e]
  show _ = ((A.gradAt (⟨(batch t).val * 2048 + n.val, by omega⟩ : Fin 8192) (⟨(pairOf t).val * 384 + l.val, by omega⟩ : Fin 3072) : ℝ) : EReal)
  unfold Args.gradAt
  congr 3 <;> simp only [partOf, head, headOf, laneOf, laneIn, Fin.mk.injEq, Fin.ext_iff] <;> omega

/-- The bias's gradient after the run. -/
theorem final7 : (dats m 0 c).arrAt 7 (cfgs 0).N = (fun i => (A.dcAt (i 0) (i 1) (i 2) : EReal) : FVec Ideal S4x2048x128 .f32) := by
  refine (dats m 0 c).arrAt_eq_of_covers 7 _ (by decide +kernel) fun t hf y => ?_
  blk_simp; rw [after0_7]
  refine (Pipeline.eq_sum_fin_of_reset_step_apply_of_flush (fun n h => (outsAt0 m c n h).2) 8 (fun _ => 0) (dcTerm A)
    (fun t h y => out7_A t H h y) (fun t h y => out7_B t H h y) t ((flush0_7 t).mp hf) y).trans ?_
  obtain ⟨a, n, l, rfl⟩ : ∃ (a : Fin 1) (n : Fin 2048) (l : Fin 128), y = ix3 a n l := ⟨y 0, y 1, y 2, eq_ix3 y⟩
  have e : ((cfg0.win 7).blk t).view.emb (ix3 a n l) = ix3 (batch t) n l := by
    blk_ext [idx t, batch]
  rw [e, zero_add]
  show _ = ((A.dcAt (batch t) n l : ℝ) : EReal)
  rw [← sum_pairs, Cert.Finite.coe_sum]
  refine Finset.sum_congr rfl fun s _ => ?_
  have hN := lt_of_lt_of_eq t.isLt N_0
  have hr := (flush0_7 t).mp hf
  have e1 : batch (⟨8 * (t.val / 8) + s.val, Pipeline.run_point_lt_of_flush t hr s⟩ : Fin cfg0.N) = batch t := by
    apply Fin.ext; simp only [batch]; omega
  have e2 : pairOf (⟨8 * (t.val / 8) + s.val, Pipeline.run_point_lt_of_flush t hr s⟩ : Fin cfg0.N) = s := by
    apply Fin.ext; simp only [pairOf]; omega
  unfold dcTerm
  rw [e1, e2]
  rfl

end Cert.Attn

end
-- ==== Proof.AttnRef.lean ====
/- The derivative of the softmax attention, as the reference writes it out, element by element. -/
module

public import proofs.«01_k».proof.Proof.AttnHost
public import proofs.«01_k».proof.Proof.AttnFinal
public import proofs.«01_k».proof.Proof.Gen.AttnReferenceIdeal.Run
public import proofs.«01_k».proof.Proof.Gen.AttnReferenceIdeal.Read
public import Idealize.ShloMosaic.Lib.KernelVsHost

@[expose] public section

set_option maxRecDepth 16384

noncomputable section

namespace Cert.Attn

open Idealize.ShloMosaic Idealize.ShloMosaic.TcCoe Idealize.SL.Sem
open Cert.AttnReferenceIdeal Cert.AttnReferenceIdeal.Read

variable {x0 x1 x2 x4 : FVec Ideal S4x2048x16x64 .f32} {x3 : FVec Ideal S4x2048x16 .f32} {A : Args}

/-- The reference's argument arrays hold those real numbers. -/
structure HoldsR (x0 x1 x2 x4 : FVec Ideal S4x2048x16x64 .f32) (x3 : FVec Ideal S4x2048x16 .f32) (A : Args) : Prop where
  eq_q : ∀ b t h d, x0 (ix4 b t h d) = (A.q b t h d : EReal)
  eq_k : ∀ b t h d, x1 (ix4 b t h d) = (A.k b t h d : EReal)
  eq_v : ∀ b t h d, x2 (ix4 b t h d) = (A.v b t h d : EReal)
  eq_c : ∀ b t h, x3 (ix3 b t h) = (A.c b t h : EReal)
  eq_ct : ∀ b t h d, x4 (ix4 b t h d) = (A.ct b t h d : EReal)

variable (H : HoldsR x0 x1 x2 x4 x3 A) (b : Fin 4) (h : Fin 16) (t u : Fin 2048) (d : Fin 64)

theorem r_logits_eq : val_main_v18_0 (F := Ideal) x0 x1 x3 = hLogits x0 x1 x3 := rfl

theorem r_most_eq : val_main_v19 (F := Ideal) x0 x1 x3 = hMost (val_main_v18_0 (F := Ideal) x0 x1 x3) := rfl

theorem r_least_eq : val_main_v26 (F := Ideal) x0 x1 x3 = hLeast (val_main_v19 (F := Ideal) x0 x1 x3) := rfl

theorem r_raw_eq : val_main_v39 (F := Ideal) x0 x1 x3 = hRaw (val_main_v18_0 (F := Ideal) x0 x1 x3) (val_main_v26 (F := Ideal) x0 x1 x3) := rfl

theorem r_sum_eq : val_main_v40 (F := Ideal) x0 x1 x3 = hSum (val_main_v39 (F := Ideal) x0 x1 x3) := rfl

theorem r_prob_eq : val_main_v43 (F := Ideal) x0 x1 x3 = hProb (val_main_v18_0 (F := Ideal) x0 x1 x3) (val_main_v26 (F := Ideal) x0 x1 x3) := rfl

/-- Sixteen heads on 128 lanes: the other lanes hold zeros. -/
theorem pad3 (X : FVec Ideal S4x2048x16 .f32) (v : FVec Ideal S_ .f32) (hp) (hu) (hv : v (Shape.Idx.first hu) = (0 : EReal)) (b : Fin 4) (r : Fin 2048) (l : Fin 128) :
    pad S4x2048x128 ![0, 0, 0] ![0, 0, 112] ![0, 0, 0] X v hp hu (ix3 b r l) = if h : (l : ℕ) < 16 then X (ix3 b r (⟨l, h⟩ : Fin 16)) else 0 := by
  by_cases h : (l : ℕ) < 16
  · rw [dif_pos h]
    refine pad_apply_of_inside _ _ _ X v hp hu _ _ fun a => ?_
    match a with
    | ⟨0, _⟩ => show (b : ℕ) = 0 + (b : ℕ) * 1; omega
    | ⟨1, _⟩ => show (r : ℕ) = 0 + (r : ℕ) * 1; omega
    | ⟨2, _⟩ => show (l : ℕ) = 0 + (l : ℕ) * 1; omega
  · rw [dif_neg h]
    refine (pad_apply_of_not_inside _ _ _ X v hp hu _ 2 ?_).trans hv
    rintro ⟨-, -, h3⟩
    have h4 : ((l : ℕ) - 0) / (0 + 1) < 16 := h3
    omega

include H

theorem r_logits : val_main_v18_0 (F := Ideal) x0 x1 x3 (ix4 b h t u) = A.masked b h t u := by
  rw [r_logits_eq]
  exact hLogits_apply H.eq_q H.eq_k H.eq_c b h t u

theorem r_most : val_main_v26 (F := Ideal) x0 x1 x3 (ix3 b h t) = (A.most b h t : EReal) := by
  rw [r_least_eq, hLeast_eq, r_most_eq]
  exact hMost_apply b h t _ (r_logits H)

theorem r_raw : val_main_v39 (F := Ideal) x0 x1 x3 (ix4 b h t u) = (A.raw b h t u : EReal) := by
  rw [r_raw_eq]
  exact hRaw_apply b h t u _ (r_logits H) _ (r_most H)

theorem r_sum : val_main_v40 (F := Ideal) x0 x1 x3 (ix3 b h t) = (A.total b h t : EReal) := by
  rw [r_sum_eq, r_raw_eq]
  exact hSum_apply b h t _ (r_logits H) _ (r_most H)

theorem r_prob : val_main_v43 (F := Ideal) x0 x1 x3 (ix4 b h t u) = (A.prob b h t u : EReal) := by
  rw [r_prob_eq]
  exact hProb_apply b h t u _ (r_logits H) _ (r_most H)

/-- The gradient of a weight. -/
theorem r_weight : val_main_v50 (F := Ideal) x2 x4 (ix4 b h t u) = ((∑ d, A.ct b t h d * A.v b u h d : ℝ) : EReal) := by
  pointwise [val_main_v50, val_main_v49]
  simp only [H.eq_ct, H.eq_v, ← EReal.coe_mul, ← Cert.Finite.coe_sum]

/-- The mean of the weights' gradients, over the row's sum. -/
theorem r_inner : val_main_v56 (F := Ideal) x0 x1 x2 x3 x4 (ix3 b h t) = ((A.odot b h t / A.total b h t : ℝ) : EReal) := by
  have hs := A.total_pos b h t
  have e : ∀ u, val_main_v55 (F := Ideal) x0 x1 x2 x3 x4 (ix4 b h t u)
      = (((∑ d, A.ct b t h d * A.v b u h d) * (1 / (A.total b h t * A.total b h t)) * A.raw b h t u : ℝ) : EReal) := by
    intro u
    pointwise [val_main_v55, val_main_v54, val_main_v53, val_main_v46, val_main_v45, val_main_cst_10, val_main_v44, val_main_v41]
    rw [r_weight H, r_sum H, r_raw H, ← EReal.coe_mul (A.total b h t), Ideal.div_coe (mul_pos hs hs).ne', one_mul, ← EReal.coe_mul, ← EReal.coe_mul]
  pointwise [val_main_v56, val_main_cst_11]
  simp only [e, ← Cert.Finite.coe_sum]
  rw [EReal.coe_eq_coe_iff, A.odot_eq, Finset.sum_div]
  refine Finset.sum_congr rfl fun u _ => ?_
  rw [Args.prob]
  field_simp

/-- The gradient of a logit. -/
theorem r_dlogit : val_main_v65 (F := Ideal) x0 x1 x2 x3 x4 (ix4 b h t u) = (A.dlogit b h t u : EReal) := by
  have hs := A.total_pos b h t
  pointwise [val_main_v65, val_main_v64, val_main_v63, val_main_v62, val_main_v61, val_main_v60, val_main_v59, val_main_v58, val_main_v57, val_main_v41,
    val_main_v18_1, val_main_v17, val_main_v16, val_main_v15, val_main_v14, val_main_v13, val_main_v12, val_main_v11, val_main_v10, val_main_cst_12, val_main_call1_v0, val_main_call1_cst]
  have e : IntOp.cmpi CmpIPredicate.sge (BitVec.ofNat 32 t.val) (BitVec.ofNat 32 u.val) = BitVec.ofBool (decide (u ≤ t)) := by
    rw [WordCmp.cmpi_sge_ofNat (ha := by omega) (hb := by omega)]
    rfl
  rw [e, r_weight H, r_sum H, r_raw H, Ideal.div_coe hs.ne']
  simp only [r_inner H, Finset.sum_const, Finset.card_univ, Fintype.card_fin, one_smul]
  by_cases hu : u ≤ t
  · rw [decide_eq_true hu]
    rw [← EReal.coe_neg, ← EReal.coe_mul, ← EReal.coe_add, ← EReal.coe_mul]
    refine EReal.coe_eq_coe_iff.mpr ?_
    rw [Args.dlogit, Args.prob]
    field_simp
    ring
  · rw [decide_eq_false hu, A.dlogit_after b h t u hu]
    rfl

/-- The gradient of the values. -/
theorem r_dv : val_main_v52 (F := Ideal) x0 x1 x3 x4 (ix4 b u h d) = (A.dv b h u d : EReal) := by
  pointwise [val_main_v52, val_main_v51, val_main_v49]
  simp only [H.eq_ct, r_prob H, ← EReal.coe_mul, ← Cert.Finite.coe_sum]
  rfl

/-- The gradient of the queries. -/
theorem r_dq : val_main_v79 (F := Ideal) x0 x1 x2 x3 x4 (ix4 b t h d) = (A.dq b h t d : EReal) := by
  pointwise [val_main_v79, val_main_v78, val_main_v75, val_main_v74, val_main_cst_17]
  simp only [H.eq_k, r_dlogit H, scale_word', ← EReal.coe_mul, ← Cert.Finite.coe_sum]
  rw [EReal.coe_eq_coe_iff, Args.dq, Finset.sum_mul]
  exact Finset.sum_congr rfl fun u _ => by ring

/-- The gradient of the keys. -/
theorem r_dk : val_main_v77 (F := Ideal) x0 x1 x2 x3 x4 (ix4 b u h d) = (A.dk b h u d : EReal) := by
  pointwise [val_main_v77, val_main_v76, val_main_v75, val_main_v74, val_main_cst_17]
  simp only [H.eq_q, r_dlogit H, scale_word', ← EReal.coe_mul, ← Cert.Finite.coe_sum]
  rw [EReal.coe_eq_coe_iff, Args.dk]
  exact Finset.sum_congr rfl fun t _ => by ring

/-- The gradient of the bias. -/
theorem r_dc : val_main_v80 (F := Ideal) x0 x1 x2 x3 x4 (ix3 b t h) = (A.dc b h t : EReal) := by
  pointwise [val_main_v80, val_main_v73, val_main_v72, val_main_v71, val_main_v70, val_main_v69, val_main_v68, val_main_v67, val_main_v66,
    val_main_cst_13, val_main_cst_14, val_main_cst_15, val_main_cst_16]
  simp only [r_dlogit H, ← EReal.coe_neg, ← Cert.Finite.coe_sum, Finset.sum_const, Finset.card_univ, Fintype.card_fin, one_smul]
  rw [← EReal.coe_add, EReal.coe_eq_coe_iff, Args.dc, Finset.sum_neg_distrib]
  ring

/-- The gradients of queries, keys and values side by side, before the lanes are numbered through. -/
theorem r_join (n : Fin 8192) (p : Fin 8) (j : Fin 3) (l : Fin 128) :
    val_main_v87 (F := Ideal) x0 x1 x2 x3 x4 (ix4 n p j l)
      = (A.grad j (⟨n.val / 2048, by omega⟩ : Fin 4) (head p (headOf l)) (⟨n.val % 2048, by omega⟩ : Fin 2048) (laneOf l) : EReal) := by
  rcases (by revert j; decide : j = 0 ∨ j = 1 ∨ j = 2) with rfl | rfl | rfl
  · pointwise [val_main_v87, val_main_v84, val_main_v81]
    exact r_dq H _ _ _ _
  · pointwise [val_main_v87, val_main_v85, val_main_v82]
    exact r_dk H _ _ _ _
  · pointwise [val_main_v87, val_main_v86, val_main_v83]
    exact r_dv H _ _ _ _

/-- The gradients of queries, keys and values on numbered lanes. -/
theorem r_grad (n : Fin 8192) (l : Fin 3072) : val_main_v89 (F := Ideal) x0 x1 x2 x3 x4 (ix2 n l) = (A.gradAt n l : EReal) := by
  refine (truncf_apply _ _ _ _).trans ?_
  show val_main_v88 (F := Ideal) x0 x1 x2 x3 x4 (ix2 n l) = _
  have e : idx_main_v88 (ix2 n l) = ix4 n (⟨l.val / 384, by omega⟩ : Fin 8) (partOf ⟨l.val % 384, by omega⟩) (⟨l.val % 128, by omega⟩ : Fin 128) := by
    blk_ext
    simp only [partOf]
    omega
  rw [val_main_v88_apply, e, r_join H]
  rfl

/-- The bias's gradient, on 128 lanes. -/
theorem r_bias (b : Fin 4) (t : Fin 2048) (l : Fin 128) : val_main_v90 (F := Ideal) x0 x1 x2 x3 x4 (ix3 b t l) = (A.dcAt b t l : EReal) := by
  unfold val_main_v90 Args.dcAt
  refine (pad3 _ _ _ _ ?_ b t l).trans ?_
  · pointwise [val_main_call2_v0, val_main_c]
    simp [FloatOps.sitofp]
  · by_cases hl : l.val < 16
    · rw [dif_pos hl, dif_pos hl, r_dc H]
    · rw [dif_neg hl, dif_neg hl]
      rfl

end Cert.Attn

end
-- ==== Proof.Attn.lean ====
/- The gradient of the softmax attention: kernel and reference compute the same two arrays. -/
module

public import proofs.«01_k».proof.Defs
public import proofs.«01_k».proof.Proof.AttnRef
public import proofs.«01_k».proof.Proof.Finite
public import proofs.«01_k».proof.Proof.Gen.Pre_attn_finite

@[expose] public section

set_option maxRecDepth 16384

noncomputable section

namespace Cert.Attn

open Idealize.ShloMosaic Idealize.ShloMosaic.TcCoe Idealize.SL.Sem
open Cert.AttnKernelIdeal Cert.AttnKernelIdeal.Gen

/-- A finite argument is an array of real numbers. -/
theorem real_args (x0 x1 x2 : FVec Ideal Cert.Pre_attn_finite.S4x2048x16x64 .f32) (x3 : FVec Ideal Cert.Pre_attn_finite.S4x2048x16 .f32)
    (x4 : FVec Ideal Cert.Pre_attn_finite.S4x2048x16x64 .f32) (h : Cert.Pre_attn_finite.fn (F := Ideal) x0 x1 x2 x3 x4 = fun _ => 1#1) :
    ((∃ x : Cert.Pre_attn_finite.S4x2048x16x64.Idx → ℝ, x0 = fun i => (x i : EReal))
      ∧ ∃ x : Cert.Pre_attn_finite.S4x2048x16x64.Idx → ℝ, x1 = fun i => (x i : EReal))
    ∧ ((∃ x : Cert.Pre_attn_finite.S4x2048x16x64.Idx → ℝ, x2 = fun i => (x i : EReal))
      ∧ ∃ x : Cert.Pre_attn_finite.S4x2048x16.Idx → ℝ, x3 = fun i => (x i : EReal))
    ∧ ∃ x : Cert.Pre_attn_finite.S4x2048x16x64.Idx → ℝ, x4 = fun i => (x i : EReal) := by
  have e := congrFun h ix0
  dsimp only [Cert.Pre_attn_finite.fn, Cert.Pre_attn_finite.fn_part1] at e
  obtain ⟨e0123, e4⟩ := Cert.Finite.and_one _ _ _ e
  obtain ⟨e01, e23⟩ := Cert.Finite.and_one _ _ _ e0123
  obtain ⟨e0, e1⟩ := Cert.Finite.and_one _ _ _ e01
  obtain ⟨e2, e3⟩ := Cert.Finite.and_one _ _ _ e23
  exact ⟨⟨Cert.Finite.real_of_all _ _ _ _ _ _ e0, Cert.Finite.real_of_all _ _ _ _ _ _ e1⟩,
    ⟨Cert.Finite.real_of_all _ _ _ _ _ _ e2, Cert.Finite.real_of_all _ _ _ _ _ _ e3⟩, Cert.Finite.real_of_all _ _ _ _ _ _ e4⟩

variable (m : (ℓ : Loc nD τ sig) → Buf (Elt Ideal) ℓ) (c : Dev nD)

/-- Finite argument arrays hold real numbers, by their four axes. -/
theorem holds (h : Cert.Pre_attn_finite.fn (F := Ideal) (m ((c : Thread nD τ).loc main_arg0)) (m ((c : Thread nD τ).loc main_arg1))
    (m ((c : Thread nD τ).loc main_arg2)) (m ((c : Thread nD τ).loc main_arg3)) (m ((c : Thread nD τ).loc main_arg4)) = fun _ => 1#1) :
    ∃ A : Args, Holds m c A := by
  obtain ⟨⟨⟨q, hq⟩, ⟨k, hk⟩⟩, ⟨⟨v, hv⟩, ⟨w, hw⟩⟩, ⟨ct, hct⟩⟩ := real_args _ _ _ _ _ h
  refine ⟨⟨fun b t h d => q (ix4 b t h d), fun b t h d => k (ix4 b t h d), fun b t h d => v (ix4 b t h d), fun b t h => w (ix3 b t h),
    fun b t h d => ct (ix4 b t h d)⟩, ?_, ?_, ?_, ?_, ?_⟩
  · rw [hq]; funext i; idx_vars i
  · rw [hk]; funext i; idx_vars i
  · rw [hv]; funext i; idx_vars i
  · rw [hw]; funext i; idx_vars i
  · rw [hct]; funext i; idx_vars i

variable {m c}

/-- The same real numbers, read off the arrays that the reference takes. -/
theorem holdsR {A : Args} (H : Holds m c A) : HoldsR (m ((c : Thread nD τ).loc main_arg0)) (m ((c : Thread nD τ).loc main_arg1))
    (m ((c : Thread nD τ).loc main_arg2)) (m ((c : Thread nD τ).loc main_arg4)) (m ((c : Thread nD τ).loc main_arg3)) A :=
  ⟨fun _ _ _ _ => congrFun H.eq_q _, fun _ _ _ _ => congrFun H.eq_k _, fun _ _ _ _ => congrFun H.eq_v _, fun _ _ _ => congrFun H.eq_c _,
    fun _ _ _ _ => congrFun H.eq_ct _⟩

set_option maxHeartbeats 1000000 in
/-- Kernel and reference compute the same gradients, over finite arguments. -/
theorem algebraic : Cert.algebraic_AttnKernelIdeal_AttnReferenceIdeal_pre_attn_finite := by
  pair_intro
  · run_from Cert.AttnKernelIdeal.Gen.run_main m g
    · exact V_main_arg0 m c
    · exact V_main_arg1 m c
    · exact V_main_arg2 m c
    · exact V_main_arg3 m c
    · exact V_main_arg4 m c
  · run_from Cert.AttnReferenceIdeal.Value.run m' g'
    · obtain ⟨A, H⟩ := holds m c (hpre c)
      obtain ⟨a0, a1, a2, a3, a4⟩ := hagree c
      rw [final6 H]
      rw [Cert.AttnReferenceIdeal.Read.val_main_v89_eq, a0, a1, a2, a3, a4]
      funext i; idx_vars i
      exact r_grad (holdsR H) _ _
    · obtain ⟨A, H⟩ := holds m c (hpre c)
      obtain ⟨a0, a1, a2, a3, a4⟩ := hagree c
      rw [final7 H]
      rw [Cert.AttnReferenceIdeal.Read.val_main_v90_eq, a0, a1, a2, a3, a4]
      funext i; idx_vars i
      exact r_bias (holdsR H) _ _ _

end Cert.Attn

end
-- ==== Proof.LossRow.lean ====
module

public import proofs.«01_k».proof.Proof.Gen.LossKernelIdeal.Skeleton
public import proofs.«01_k».proof.Proof.Finite
public import Idealize.ShloMosaic.Lib.Pipeline.ValueKit

/- The loss and the gradient of the norm before it, row by row over the real numbers, and what one block of the kernel
   computes of them. -/

@[expose] public section

set_option maxRecDepth 16384

noncomputable section

namespace Cert.Loss

open Idealize.ShloMosaic Idealize.ShloMosaic.TcCoe Idealize.SL.Sem
open Cert.LossKernelIdeal Cert.LossKernelIdeal.Gen

/-- The norm's small constant. -/
def eps : ℝ := 8796093 / 8796093022208

/-- A row of the output projection. -/
def proj (M : Fin 1024 → ℝ) (w : Fin 1024 → Fin 1024 → ℝ) (d : Fin 1024) : ℝ := ∑ k, M k * w k d

/-- The mean square of a row, with the small constant. -/
def meanSq (o : Fin 1024 → ℝ) : ℝ := (∑ d, o d * o d) / 1024 + eps

/-- What the norm scales a row by. -/
def scale (o : Fin 1024 → ℝ) : ℝ := (Real.sqrt (meanSq o))⁻¹

/-- The row's error against its target: the residual stream plus the normed row, less the target. -/
def err (o p x t : Fin 1024 → ℝ) (d : Fin 1024) : ℝ := x d + o d * scale o * p d - t d

/-- The row of the residual stream's gradient: the error over the width. -/
def dStream (o p x t : Fin 1024 → ℝ) (d : Fin 1024) : ℝ := err o p x t d / 1024

/-- The gradient of a normed row `o` with weight `p`, its cotangent being `g`. -/
def dNorm (o p g : Fin 1024 → ℝ) (d : Fin 1024) : ℝ :=
  scale o * (g d * p d - o d * scale o * ((∑ j, g j * p j * (o j * scale o)) / 1024))

theorem eps_pos : 0 < eps := by unfold eps; norm_num

theorem meanSq_pos (o : Fin 1024 → ℝ) : 0 < meanSq o := by
  have h : 0 ≤ ∑ d, o d * o d := Finset.sum_nonneg fun d _ => mul_self_nonneg _
  have := eps_pos
  unfold meanSq
  positivity

theorem eps_word : Ideal.ofBits .f32 0x358637BD#32 = (eps : EReal) := by
  simp [Ideal.ofBits, Ideal.ieee]
  rw [← EReal.coe_mul, eps]
  norm_num

theorem width_word : Ideal.ofBits .f32 0x44800000#32 = ((1024 : ℝ) : EReal) := by
  simp [Ideal.ofBits, Ideal.ieee]
  rw [← EReal.coe_mul]
  norm_num

theorem recip_word : Ideal.ofBits .f32 0x3A800000#32 = ((1 / 1024 : ℝ) : EReal) := by
  simp [Ideal.ofBits, Ideal.ieee]
  rw [← EReal.coe_mul]
  norm_num

/-- The blocks a grid point loads hold real numbers: rows of the merged branches, the output projection, rows of the residual
    stream and of the target, and the norm's weight. -/
structure Blocks (X0 : Vec Ideal S512x1024 .bf16) (X1 : Vec Ideal S1024x1024 .bf16) (X2 X3 : Vec Ideal S512x1024 .f32) (X4 : Vec Ideal S1x1024 .f32)
    (M : Fin 512 → Fin 1024 → ℝ) (w : Fin 1024 → Fin 1024 → ℝ) (x t : Fin 512 → Fin 1024 → ℝ) (p : Fin 1024 → ℝ) : Prop where
  h0 : ∀ r k, X0 (ix2 r k) = (M r k : EReal)
  h1 : ∀ k d, X1 (ix2 k d) = (w k d : EReal)
  h2 : ∀ r d, X2 (ix2 r d) = (x r d : EReal)
  h3 : ∀ r d, X3 (ix2 r d) = (t r d : EReal)
  h4 : ∀ d, X4 (ix2 0 d) = (p d : EReal)

variable {X0 : Vec Ideal S512x1024 .bf16} {X1 : Vec Ideal S1024x1024 .bf16} {X2 X3 : Vec Ideal S512x1024 .f32} {X4 : Vec Ideal S1x1024 .f32}
variable {M : Fin 512 → Fin 1024 → ℝ} {w : Fin 1024 → Fin 1024 → ℝ} {x t : Fin 512 → Fin 1024 → ℝ} {p : Fin 1024 → ℝ}
variable (B : Blocks X0 X1 X2 X3 X4 M w x t p)
include B

theorem pay5 (r : Fin 512) (d : Fin 1024) : k0_pay5 X0 X1 (ix2 r d) = (proj (M r) w d : EReal) := by
  pointwise [k0_pay5]
  unfold proj
  rw [Finite.coe_sum]
  refine Finset.sum_congr rfl fun k _ => ?_
  rw [EReal.coe_mul, ← B.h0, ← B.h1]

theorem pay6 (r : Fin 512) : k0_pay6 X0 X1 (ix2 r 0) = (scale (proj (M r) w) : EReal) := by
  pointwise [k0_pay6]
  simp only [pay5 B, width_word, eps_word, ← EReal.coe_mul, ← Finite.coe_sum]
  rw [Ideal.div_coe (by norm_num), ← EReal.coe_mul, ← EReal.coe_add]
  have e : (∑ i, proj (M r) w i * proj (M r) w i) * (1 / 1024) + eps = meanSq (proj (M r) w) := by
    unfold meanSq; ring
  have h := meanSq_pos (proj (M r) w)
  rw [Ideal.rsqrt_coe, e, if_neg (not_lt.mpr h.le), if_neg h.ne']
  rfl

theorem pay7 (r : Fin 512) (d : Fin 1024) : k0_pay7 X0 X1 (ix2 r d) = (proj (M r) w d * scale (proj (M r) w) : ℝ) := by
  pointwise [k0_pay7]
  rw [pay5 B, pay6 B, EReal.coe_mul]

theorem pay8 (r : Fin 512) (d : Fin 1024) : k0_pay8 X0 X1 X4 X2 X3 (ix2 r d) = (err (proj (M r) w) p (x r) (t r) d : EReal) := by
  pointwise [k0_pay8]
  rw [pay7 B, B.h2, B.h3, B.h4]
  simp only [← EReal.coe_mul, ← EReal.coe_add, ← EReal.coe_sub]
  rfl

theorem pay9 (r : Fin 512) (d : Fin 1024) : k0_pay9 X0 X1 X4 X2 X3 (ix2 r d) = (dStream (proj (M r) w) p (x r) (t r) d : EReal) := by
  pointwise [k0_pay9]
  rw [pay8 B, recip_word]
  simp only [← EReal.coe_mul]
  unfold dStream
  congr 1; ring

theorem pay10 (r : Fin 512) (d : Fin 1024) : k0_pay1 (k0_pay6 X0 X1) (k0_pay10 X0 X1 X4 X2 X3) (ix2 r d)
    = (dNorm (proj (M r) w) p (dStream (proj (M r) w) p (x r) (t r)) d : EReal) := by
  pointwise [k0_pay1, k0_pay10]
  simp only [pay6 B, pay7 B, pay9 B, B.h4, width_word, ← EReal.coe_mul, ← Finite.coe_sum]
  rw [Ideal.div_coe (by norm_num), ← EReal.coe_mul]
  simp only [← EReal.coe_mul, ← EReal.coe_sub]
  unfold dNorm
  congr 1; ring

/-- The block's addend to row 0 of the sums. -/
theorem pay2 (L : Vec Ideal S1x1024 .f32) (d : Fin 1024) : k0_pay2 (k0_pay7 X0 X1) (k0_pay9 X0 X1 X4 X2 X3) L (ix2 0 d)
    = L (ix2 0 d) + ((∑ r, dStream (proj (M r) w) p (x r) (t r) d * (proj (M r) w d * scale (proj (M r) w)) : ℝ) : EReal) := by
  pointwise [k0_pay2]
  simp only [pay7 B, pay9 B, ← EReal.coe_mul, ← Finite.coe_sum]

/-- The block's addend to row 1 of the sums. -/
theorem pay3 (L : Vec Ideal S1x1024 .f32) (d : Fin 1024) : k0_pay3 (k0_pay8 X0 X1 X4 X2 X3) L (ix2 0 d)
    = L (ix2 0 d) + ((∑ r, err (proj (M r) w) p (x r) (t r) d * err (proj (M r) w) p (x r) (t r) d : ℝ) : EReal) := by
  pointwise [k0_pay3]
  simp only [pay8 B, ← EReal.coe_mul, ← Finite.coe_sum]

end Cert.Loss

end
-- ==== Proof.LossFinal.lean ====
module

public import proofs.«01_k».proof.Proof.Gen.LossKernelIdeal.Frame
public import proofs.«01_k».proof.Proof.LossRow
public import proofs.«01_k».proof.Defs
public import Idealize.ShloMosaic.Lib.Claim
public import Idealize.ShloMosaic.Lib.Pipeline.ReadBack
public import Idealize.ShloMosaic.Lib.WritesUnit

/- What the loss kernel leaves in its three result arrays when its arguments are real. -/

@[expose] public section

set_option maxRecDepth 16384

noncomputable section

namespace Cert.Loss

open Idealize.ShloMosaic Idealize.ShloMosaic.TcCoe Idealize.SL.Sem
open Idealize.ShloMosaic.Pipeline (Dat)
open Cert.LossKernelIdeal Cert.LossKernelIdeal.Gen

/-- Real arguments: the merged branches, the output projection, the residual stream, the target and the norm's weight. -/
structure Args where
  m : Fin 4 → Fin 2048 → Fin 1024 → ℝ
  w : Fin 1024 → Fin 1024 → ℝ
  x : Fin 4 → Fin 2048 → Fin 1024 → ℝ
  t : Fin 4 → Fin 2048 → Fin 1024 → ℝ
  p : Fin 1024 → ℝ

/-- The sequence of a flattened row. -/
def bat (n : Fin 8192) : Fin 4 := ⟨n.val / 2048, by omega⟩

/-- The position of a flattened row in its sequence. -/
def pos (n : Fin 8192) : Fin 2048 := ⟨n.val % 2048, by omega⟩

/-- The error of every row. -/
def Args.err (A : Args) (b : Fin 4) (s : Fin 2048) : Fin 1024 → ℝ := Loss.err (proj (A.m b s) A.w) A.p (A.x b s) (A.t b s)

/-- The residual stream's gradient. -/
def Args.dy (A : Args) (b : Fin 4) (s : Fin 2048) : Fin 1024 → ℝ := dStream (proj (A.m b s) A.w) A.p (A.x b s) (A.t b s)

/-- The gradient of the norm's argument. -/
def Args.dO (A : Args) (b : Fin 4) (s : Fin 2048) : Fin 1024 → ℝ := dNorm (proj (A.m b s) A.w) A.p (A.dy b s)

/-- A row's addend to the gradient of the norm's weight. -/
def Args.dw (A : Args) (b : Fin 4) (s : Fin 2048) (d : Fin 1024) : ℝ :=
  A.dy b s d * (proj (A.m b s) A.w d * scale (proj (A.m b s) A.w))

/-- A row's addend to row `i` of the sums: the weight's gradient in row 0, the squared errors in row 1, nothing else. -/
def Args.addend (A : Args) (b : Fin 4) (s : Fin 2048) (i : Fin 8) (d : Fin 1024) : ℝ :=
  if i.val = 0 then A.dw b s d else if i.val = 1 then A.err b s d * A.err b s d else 0

/-- The arguments of core `c` are the real arrays `A`. -/
structure Holds (m : (ℓ : Loc nD τ sig) → Buf (Elt Ideal) ℓ) (c : Dev nD) (A : Args) : Prop where
  hm : m ((c : Thread nD τ).loc main_arg0) = (fun i => (A.m (i 0) (i 1) (i 2) : EReal) : FVec Ideal S4x2048x1024 .f32)
  hw : m ((c : Thread nD τ).loc main_arg1) = (fun i => (A.w (i 0) (i 1) : EReal) : FVec Ideal S1024x1024 .f32)
  hx : m ((c : Thread nD τ).loc main_arg2) = (fun i => (A.x (i 0) (i 1) (i 2) : EReal) : FVec Ideal S4x2048x1024 .f32)
  ht : m ((c : Thread nD τ).loc main_arg3) = (fun i => (A.t (i 0) (i 1) (i 2) : EReal) : FVec Ideal S4x2048x1024 .f32)
  hp : m ((c : Thread nD τ).loc main_arg4) = (fun i => (A.p (i 1) : EReal) : FVec Ideal S1x1024 .f32)

/-- Every window's block index at every grid point. -/
theorem idx : ∀ t : Fin cfg0.N, win0_0.index t = ![t.val, 0] ∧ win0_1.index t = ![0, 0]
    ∧ win0_2.index t = ![t.val, 0] ∧ win0_3.index t = ![t.val, 0] ∧ win0_4.index t = ![0, 0]
    ∧ win0_5.index t = ![t.val, 0] ∧ win0_6.index t = ![t.val, 0] ∧ win0_7.index t = ![0, 0] :=
  (by decide +kernel : ∀ t : Fin grid0.N, _)

variable {m : (ℓ : Loc nD τ sig) → Buf (Elt Ideal) ℓ} {c : Dev nD} {A : Args} (H : Holds m c A)
include H

theorem entry_m (n : Fin 8192) (d : Fin 1024) : V m c main_v1 (ix2 n d) = (A.m (bat n) (pos n) d : EReal) := by
  have e : V m c main_v1 (ix2 n d) = m ((c : Thread nD τ).loc main_arg0) (ix3 (bat n) (pos n) d) := by
    entry_read
    pointwise
    rfl
  rw [e, H.hm]; rfl

theorem entry_x (n : Fin 8192) (d : Fin 1024) : V m c main_v3 (ix2 n d) = (A.x (bat n) (pos n) d : EReal) := by
  have e : V m c main_v3 (ix2 n d) = m ((c : Thread nD τ).loc main_arg2) (ix3 (bat n) (pos n) d) := by
    entry_read
    pointwise
    rfl
  rw [e, H.hx]; rfl

theorem entry_t (n : Fin 8192) (d : Fin 1024) : V m c main_v4 (ix2 n d) = (A.t (bat n) (pos n) d : EReal) := by
  have e : V m c main_v4 (ix2 n d) = m ((c : Thread nD τ).loc main_arg3) (ix3 (bat n) (pos n) d) := by
    entry_read
    pointwise
    rfl
  rw [e, H.ht]; rfl

theorem entry_w (k d : Fin 1024) : V m c main_v2 (ix2 k d) = (A.w k d : EReal) := by
  have e : V m c main_v2 (ix2 k d) = m ((c : Thread nD τ).loc main_arg1) (ix2 k d) := by
    entry_read
    pointwise
  rw [e, H.hw]; rfl

theorem entry_p (d : Fin 1024) : V m c main_arg4 (ix2 0 d) = (A.p d : EReal) := by
  rw [V_main_arg4, H.hp]; rfl

omit H in
/-- Row `r` of block `t` among all rows. -/
def rowOf (t : Fin cfg0.N) (r : Fin 512) : Fin 8192 := ⟨t.val * 512 + r.val, by have := lt_of_lt_of_eq t.isLt N_0; omega⟩

/-- The blocks at grid point `t` hold rows `512 t` and on. -/
theorem blocks (t : Fin cfg0.N) : Blocks (iblk m c 0 t) (iblk m c 1 t) (iblk m c 2 t) (iblk m c 3 t) (iblk m c 4 t)
    (fun r => A.m (bat (rowOf t r)) (pos (rowOf t r))) A.w (fun r => A.x (bat (rowOf t r)) (pos (rowOf t r)))
    (fun r => A.t (bat (rowOf t r)) (pos (rowOf t r))) A.p where
  h0 r k := by
    rw [← entry_m H]
    refine congrArg (V m c main_v1) ?_
    blk_ext [idx t, rowOf]
  h1 k d := by
    rw [← entry_w H]
    refine congrArg (V m c main_v2) ?_
    blk_ext [idx t]
  h2 r d := by
    rw [← entry_x H]
    refine congrArg (V m c main_v3) ?_
    blk_ext [idx t, rowOf]
  h3 r d := by
    rw [← entry_t H]
    refine congrArg (V m c main_v4) ?_
    blk_ext [idx t, rowOf]
  h4 d := by
    rw [← entry_p H]
    refine congrArg (V m c main_arg4) ?_
    blk_ext [idx t]

/-- The residual stream's gradient after the run. -/
theorem final5 : (dats m 0 c).arrAt 5 (cfgs 0).N = (fun i => (A.dy (bat (i 0)) (pos (i 0)) (i 1) : EReal) : FVec Ideal S8192x1024 .f32) := by
  refine (dats m 0 c).arrAt_eq_of_covers 5 _ (by decide +kernel) fun t hf y => ?_
  blk_simp; rw [after0_5]
  obtain ⟨r, d, rfl⟩ : ∃ (r : Fin 512) (d : Fin 1024), y = ix2 r d := ⟨y 0, y 1, eq_ix2 y⟩
  have e : ((cfg0.win 5).blk t).view.emb (ix2 r d) = ix2 (rowOf t r) d := by
    blk_ext [idx t, rowOf]
  rw [e]
  by_cases h0 : t.val % 16 = 0
  · rw [outsAt0_A m c t h0]; frame_out
    exact pay9 (blocks H t) r d
  · rw [outsAt0_B m c t h0]; frame_out
    exact pay9 (blocks H t) r d

/-- The gradient of the norm's argument after the run. -/
theorem final6 : (dats m 0 c).arrAt 6 (cfgs 0).N = (fun i => (A.dO (bat (i 0)) (pos (i 0)) (i 1) : EReal) : FVec Ideal S8192x1024 .bf16) := by
  refine (dats m 0 c).arrAt_eq_of_covers 6 _ (by decide +kernel) fun t hf y => ?_
  blk_simp; rw [after0_6]
  obtain ⟨r, d, rfl⟩ : ∃ (r : Fin 512) (d : Fin 1024), y = ix2 r d := ⟨y 0, y 1, eq_ix2 y⟩
  have e : ((cfg0.win 6).blk t).view.emb (ix2 r d) = ix2 (rowOf t r) d := by
    blk_ext [idx t, rowOf]
  rw [e]
  by_cases h0 : t.val % 16 = 0
  · rw [outsAt0_A m c t h0]; frame_out
    exact pay10 (blocks H t) r d
  · rw [outsAt0_B m c t h0]; frame_out
    exact pay10 (blocks H t) r d

omit H in
/-- A grid point's addend to the sums. -/
def term (A : Args) (t : Fin cfg0.N) (y : S8x1024.Idx) : EReal :=
  ((∑ r, A.addend (bat (rowOf t r)) (pos (rowOf t r)) (y 0) (y 1) : ℝ) : EReal)

omit H in
/-- Two stores of one row each, into rows 0 and 1, read back. -/
theorem two_rows {κ : Kind} {sp : Space} (v : View sig κ sp S8x1024 .f32) (f : v.ty.Contents (Elt Ideal)) (p1 p0 : S1x1024.Idx → EReal)
    (L : List (View.Piece (Elt Ideal) S8x1024 .f32)) (i : Fin 8) (d : Fin 1024) :
    (v.read (Elt Ideal) (v.writes (Elt Ideal) f (⟨Rect.unit (s := S8x1024) ![1, 0] ![1, 1024] inb_S8x1024_S1x1024_1_0, p1⟩
      :: ⟨Rect.unit (s := S8x1024) ![0, 0] ![1, 1024] inb_S8x1024_S1x1024_0_0, p0⟩ :: L)) (ix2 i d) : EReal)
    = if i.val = 0 then p0 (ix2 0 d) else if i.val = 1 then p1 (ix2 0 d) else v.read (Elt Ideal) (v.writes (Elt Ideal) f L) (ix2 i d) := by
  by_cases h : i.val = 0
  · rw [if_pos h]
    refine (View.read_writes_cons_rows_of_not_mem (o := 1) (W := 1) v f _ p1 _ (ix2 i d) rfl rfl (Or.inl ?_)).trans ?_
    · show i.val < 1
      omega
    · exact View.read_writes_cons_rows_of_mem (o := 0) v f _ p0 L (ix2 i d) (ix2 0 d) rfl (by show i.val = 0 + 0; omega) rfl
  · rw [if_neg h]
    by_cases h1 : i.val = 1
    · rw [if_pos h1]
      exact View.read_writes_cons_rows_of_mem (o := 1) v f _ p1 _ (ix2 i d) (ix2 0 d) rfl (by show i.val = 1 + 0; omega) rfl
    · rw [if_neg h1]
      refine (View.read_writes_cons_rows_of_not_mem (o := 1) (W := 1) v f _ p1 _ (ix2 i d) rfl rfl (Or.inr ?_)).trans
        (View.read_writes_cons_rows_of_not_mem (o := 0) (W := 1) v f _ p0 L (ix2 i d) rfl rfl (Or.inr ?_))
      · show 1 + 1 ≤ i.val
        omega
      · show 0 + 1 ≤ i.val
        omega

/-- What the two stored rows and the rest add up to. -/
theorem rows_sum (t : Fin cfg0.N) (L0 L1 : Vec Ideal S1x1024 .f32) (R : Vec Ideal S8x1024 .f32) (h0 : ∀ d, L0 (ix2 0 d) = R (ix2 0 d))
    (h1 : ∀ d, L1 (ix2 0 d) = R (ix2 1 d)) (i : Fin 8) (d : Fin 1024) :
    (if i.val = 0 then k0_pay2 (k0_pay7 (iblk m c 0 t) (iblk m c 1 t)) (k0_pay9 (iblk m c 0 t) (iblk m c 1 t) (iblk m c 4 t) (iblk m c 2 t) (iblk m c 3 t)) L0 (ix2 0 d)
      else if i.val = 1 then k0_pay3 (k0_pay8 (iblk m c 0 t) (iblk m c 1 t) (iblk m c 4 t) (iblk m c 2 t) (iblk m c 3 t)) L1 (ix2 0 d) else R (ix2 i d))
    = (R (ix2 i d) + term A t (ix2 i d) : EReal) := by
  rw [pay2 (blocks H t), pay3 (blocks H t)]
  unfold term Args.addend
  show _ = R (ix2 i d) + ((∑ r, if i.val = 0 then A.dw (bat (rowOf t r)) (pos (rowOf t r)) d else if i.val = 1 then A.err (bat (rowOf t r)) (pos (rowOf t r)) d * A.err (bat (rowOf t r)) (pos (rowOf t r)) d else 0 : ℝ) : EReal)
  by_cases h : i.val = 0
  · obtain rfl : i = 0 := Fin.ext h
    simp only [h, if_true, h0]
    rfl
  · by_cases h' : i.val = 1
    · obtain rfl : i = 1 := Fin.ext h'
      simp only [h', if_true, h1, one_ne_zero, if_false]
      rfl
    · simp only [h, h', if_false, Finset.sum_const_zero, EReal.coe_zero, add_zero]

omit H in
theorem row_idx (i : Fin 8) (inb : ∀ a, (![i.val, 0] : Fin 2 → ℕ) a + (![1, 1024] : Fin 2 → ℕ) a ≤ S8x1024.size a) (d : Fin 1024) :
    (Rect.unit (s := S8x1024) ![i.val, 0] ![1, 1024] inb).toLoadRect.idx (ix2 0 d) = ix2 i d := by
  funext a
  apply Fin.ext
  fin_cases a <;> simp [LoadRect.idx, Rect.unit]

omit H in
theorem zero_block : (k0_pay4 : FVec Ideal S8x1024 .f32) = fun _ => (0 : EReal) := by
  funext i
  pointwise [k0_pay4]

theorem out7_B (t : Fin cfg0.N) (h0 : ¬t.val % 16 = 0) (y : S8x1024.Idx) : (outsAt0 m c t.val t.isLt).2.2 y
    = (outsAt0 m c (t.val - 1) (Nat.lt_of_le_of_lt (Nat.sub_le _ _) t.isLt)).2.2 y + term A t y := by
  obtain ⟨i, d, rfl⟩ : ∃ (i : Fin 8) (d : Fin 1024), y = ix2 i d := ⟨y 0, y 1, eq_ix2 y⟩
  rw [outsAt0_B m c t h0]; frame_out
  generalize (outsAt0 m c (t.val - 1) _).2.2 = R
  refine (two_rows _ _ _ _ _ i d).trans ?_
  rw [View.writes_nil, (hs0_7 t).read_unread]
  exact rows_sum H t _ _ R (fun d => congrArg R (row_idx 0 _ d)) (fun d => congrArg R (row_idx 1 _ d)) i d

theorem out7_A (t : Fin cfg0.N) (h0 : t.val % 16 = 0) (y : S8x1024.Idx) : (outsAt0 m c t.val t.isLt).2.2 y = 0 + term A t y := by
  obtain ⟨i, d, rfl⟩ : ∃ (i : Fin 8) (d : Fin 1024), y = ix2 i d := ⟨y 0, y 1, eq_ix2 y⟩
  rw [outsAt0_A m c t h0]; frame_out
  rw [← View.read_writes_junk_eq_canon (ms0_7 t).view]
  simp (disch := decide) only [↓ View.readCov_skip, ↓ View.readCov_fill, zero_block]
  refine (two_rows _ _ _ _ _ i d).trans ?_
  rw [View.read_writes_junk_eq_canon, View.canon_cons_unit_lit _ _ _ (by decide)]
  refine rows_sum H t _ _ (fun _ => (0 : EReal)) (fun d => ?_) (fun d => ?_) i d
  · rfl
  · rfl

omit H in
/-- The sum over all rows, tile by tile, is the sum over the sequences' positions. -/
theorem sum_rows (f : Fin 8192 → ℝ) : ∑ a : Fin 16, ∑ r : Fin 512, f (⟨a.val * 512 + r.val, by omega⟩ : Fin 8192)
    = ∑ b : Fin 4, ∑ s : Fin 2048, f (⟨b.val * 2048 + s.val, by omega⟩ : Fin 8192) := by
  rw [← Fintype.sum_prod_type', ← Fintype.sum_prod_type']
  have e16 := Equiv.sum_comp (finProdFinEquiv (m := 16) (n := 512)) (fun n : Fin (16 * 512) => f n)
  have e4 := Equiv.sum_comp (finProdFinEquiv (m := 4) (n := 2048)) (fun n : Fin (4 * 2048) => f n)
  refine Eq.trans ?_ ((e16.trans e4.symm).trans ?_)
  · refine Finset.sum_congr rfl fun p _ => congrArg f (Fin.ext ?_)
    simp only [finProdFinEquiv_apply_val]; omega
  · refine Finset.sum_congr rfl fun p _ => congrArg f (Fin.ext ?_)
    simp only [finProdFinEquiv_apply_val]; omega

/-- The sums after the run. -/
theorem final7 : (dats m 0 c).arrAt 7 (cfgs 0).N
    = (fun i => ((∑ b, ∑ s, A.addend b s (i 0) (i 1) : ℝ) : EReal) : FVec Ideal S8x1024 .f32) := by
  refine (dats m 0 c).arrAt_eq_of_covers 7 _ (by decide +kernel) fun t hf y => ?_
  blk_simp; rw [after0_7]
  refine (Pipeline.eq_sum_fin_of_reset_step_apply_of_flush (fun n h => (outsAt0 m c n h).2.2) 16 (fun _ => 0) (term A)
    (fun t h y => out7_A H t h y) (fun t h y => out7_B H t h y) t ((flush0_7 t).mp hf) y).trans ?_
  obtain ⟨i, d, rfl⟩ : ∃ (i : Fin 8) (d : Fin 1024), y = ix2 i d := ⟨y 0, y 1, eq_ix2 y⟩
  have e : ((cfg0.win 7).blk t).view.emb (ix2 i d) = ix2 i d := by
    blk_ext [idx t]
  have hN := lt_of_lt_of_eq t.isLt N_0
  rw [e, zero_add]
  show _ = ((∑ b, ∑ s, A.addend b s i d : ℝ) : EReal)
  have hb : ∀ (b : Fin 4) (s : Fin 2048), A.addend b s i d
      = (fun n : Fin 8192 => A.addend (bat n) (pos n) i d) (⟨b.val * 2048 + s.val, by omega⟩ : Fin 8192) := by
    intro b s
    have e1 : bat (⟨b.val * 2048 + s.val, by omega⟩ : Fin 8192) = b := by
      apply Fin.ext; simp only [bat]; omega
    have e2 : pos (⟨b.val * 2048 + s.val, by omega⟩ : Fin 8192) = s := by
      apply Fin.ext; simp only [pos]; omega
    show _ = A.addend (bat _) (pos _) i d
    rw [e1, e2]
  rw [Finset.sum_congr rfl fun b _ => Finset.sum_congr rfl fun s _ => hb b s,
    ← sum_rows fun n => A.addend (bat n) (pos n) i d, Finite.coe_sum]
  refine Finset.sum_congr rfl fun s _ => ?_
  have e3 : ∀ r, rowOf (⟨16 * (t.val / 16) + s.val, Pipeline.run_point_lt_of_flush t ((flush0_7 t).mp hf) s⟩ : Fin cfg0.N) r
      = (⟨s.val * 512 + r.val, by omega⟩ : Fin 8192) := by
    intro r
    apply Fin.ext; simp only [rowOf]; omega
  unfold term
  simp only [e3]
  rfl

end Cert.Loss

end
-- ==== Proof.LossRef.lean ====
/- The derivative of the loss through the norm before it, as the reference writes it out, element by element. -/
module

public import proofs.«01_k».proof.Proof.LossFinal
public import proofs.«01_k».proof.Proof.Gen.LossReferenceIdeal.Run
public import proofs.«01_k».proof.Proof.Gen.LossReferenceIdeal.Read
public import Idealize.ShloMosaic.Lib.KernelVsHost

@[expose] public section

set_option maxRecDepth 16384

noncomputable section

namespace Cert.Loss

open Idealize.ShloMosaic Idealize.ShloMosaic.TcCoe Idealize.SL.Sem
open Cert.LossReferenceIdeal Cert.LossReferenceIdeal.Read

variable {x0 x2 x3 : FVec Ideal S4x2048x1024 .f32} {x1 : FVec Ideal S1024x1024 .f32} {x4 : FVec Ideal S1x1024 .f32} {A : Args}

/-- The reference's argument arrays hold those real numbers. -/
structure HoldsR (x0 x2 x3 : FVec Ideal S4x2048x1024 .f32) (x1 : FVec Ideal S1024x1024 .f32) (x4 : FVec Ideal S1x1024 .f32) (A : Args) : Prop where
  e0 : ∀ b s d, x0 (ix3 b s d) = (A.m b s d : EReal)
  e1 : ∀ k d, x1 (ix2 k d) = (A.w k d : EReal)
  e2 : ∀ b s d, x2 (ix3 b s d) = (A.x b s d : EReal)
  e3 : ∀ b s d, x3 (ix3 b s d) = (A.t b s d : EReal)
  e4 : ∀ d, x4 (ix2 0 d) = (A.p d : EReal)

variable (H : HoldsR x0 x2 x3 x1 x4 A) (b : Fin 4) (s : Fin 2048) (d : Fin 1024)

theorem half_word : Ideal.ofBits .f32 0x3F000000#32 = ((1 / 2 : ℝ) : EReal) := by
  simp [Ideal.ofBits, Ideal.ieee]
  rw [← EReal.coe_mul]
  norm_num

theorem minus_half_word : Ideal.ofBits .f32 0xBF000000#32 = ((-(1 / 2) : ℝ) : EReal) := by
  simp [Ideal.ofBits, Ideal.ieee]
  rw [← EReal.coe_mul]
  norm_num

theorem two_word : Ideal.ofBits .f32 0x40000000#32 = ((2 : ℝ) : EReal) := by
  simp [Ideal.ofBits, Ideal.ieee]
  rw [← EReal.coe_mul]
  norm_num

/-- The host's sum over the first two of three axes. -/
theorem column_sum {n0 n1 n2 : ℕ} (h : (⟨3, ![n0, n1, n2]⟩ : Shape).ReducesTo [0, 1] ⟨1, ![n2]⟩) (v : (⟨3, ![n0, n1, n2]⟩ : Shape).Idx → EReal)
    (init : EReal) (d : Fin n2) : Ideal.hostReduceAdd h v init (ix1 d) = init + ∑ a, ∑ b, v (ix3 a b d) := by
  refine congrArg (init + ·) ((Finset.sum_filter_eq_sum_of_fiber _ (fun k : Fin n0 × Fin n1 => ix3 k.1 k.2 d)
    (fun _ _ e => Prod.ext (congrFun e 0) (congrFun e 1)) (fun i => ⟨fun e => ⟨(i 0, i 1), ?_⟩, ?_⟩) v).trans (Fintype.sum_prod_type _))
  · funext a; apply Fin.ext
    match a with
    | ⟨0, _⟩ => rfl
    | ⟨1, _⟩ => rfl
    | ⟨2, _⟩ => exact (congrArg Fin.val (congrFun e 0)).symm
  · rintro ⟨k, rfl⟩
    funext b
    apply Fin.ext
    match b with
    | ⟨0, _⟩ => rfl

include H

/-- The projection. -/
theorem r_proj : val_main_v0 (F := Ideal) x0 x1 (ix3 b s d) = (proj (A.m b s) A.w d : EReal) := by
  pointwise [val_main_v0]
  unfold proj
  rw [Finite.coe_sum]
  refine Finset.sum_congr rfl fun k _ => ?_
  rw [EReal.coe_mul, ← H.e0, ← H.e1]

/-- The mean square of a row, and the norm's small constant. -/
theorem r_mean : val_main_v8 (F := Ideal) x0 x1 (ix3 b s 0) = (meanSq (proj (A.m b s) A.w) : EReal) := by
  pointwise [val_main_v8, val_main_v7, val_main_cst_1, val_main_v6, val_main_v5, val_main_cst_0, val_main_v4, val_main_v3, val_main_cst, val_main_v2]
  simp only [r_proj H, width_word, eps_word, ← EReal.coe_mul, ← Finite.coe_sum]
  rw [Ideal.div_coe (by norm_num), ← EReal.coe_mul, ← EReal.coe_add]
  unfold meanSq
  congr 1; ring

/-- The norm's scale. -/
theorem r_scale : val_main_v9 (F := Ideal) x0 x1 (ix3 b s 0) = (scale (proj (A.m b s) A.w) : EReal) := by
  pointwise [val_main_v9]
  have h := meanSq_pos (proj (A.m b s) A.w)
  rw [r_mean H, Ideal.rsqrt_coe, if_neg (not_lt.mpr h.le), if_neg h.ne']
  rfl

/-- The derivative of the scale in the mean square. -/
theorem r_slope : val_main_v12 (F := Ideal) x0 x1 (ix3 b s 0) = (-(1 / 2) * (scale (proj (A.m b s) A.w) / meanSq (proj (A.m b s) A.w)) : ℝ) := by
  pointwise [val_main_v12, val_main_v11, val_main_cst_2, val_main_v10]
  have h := meanSq_pos (proj (A.m b s) A.w)
  rw [r_scale H, r_mean H, minus_half_word, Ideal.div_coe h.ne', ← EReal.coe_mul, ← EReal.coe_mul]
  congr 1; ring

/-- The normed projection. -/
theorem r_normed : val_main_v14 (F := Ideal) x0 x1 (ix3 b s d) = (proj (A.m b s) A.w d * scale (proj (A.m b s) A.w) : ℝ) := by
  pointwise [val_main_v14, val_main_v13]
  rw [r_proj H, r_scale H, EReal.coe_mul]

/-- The error. -/
theorem r_err : val_main_v19 (F := Ideal) x0 x1 x2 x3 x4 (ix3 b s d) = (A.err b s d : EReal) := by
  pointwise [val_main_v19, val_main_v18, val_main_v17, val_main_v16, val_main_v15, val_main_v1]
  rw [r_normed H, H.e2, H.e3, H.e4]
  simp only [← EReal.coe_mul, ← EReal.coe_add, ← EReal.coe_sub]
  rfl

/-- The gradient of the stream. -/
theorem r_stream : val_main_v33 (F := Ideal) x0 x1 x2 x3 x4 (ix3 b s d) = (A.dy b s d : EReal) := by
  pointwise [val_main_v33, val_main_v32, val_main_v31, val_main_v30, val_main_cst_10, val_main_v29, val_main_v28, val_main_cst_8, val_main_cst_9,
    val_main_v22, val_main_v21, val_main_cst_3]
  rw [r_err H, width_word, half_word, two_word, ← EReal.coe_mul, Ideal.div_coe (by norm_num), ← EReal.coe_mul, ← EReal.coe_mul]
  unfold Args.dy dStream Args.err
  congr 1; ring

/-- The normed projection's gradient. -/
theorem r_cotangent : val_main_v38 (F := Ideal) x0 x1 x2 x3 x4 (ix3 b s d) = (A.dy b s d * A.p d : ℝ) := by
  pointwise [val_main_v38, val_main_v37, val_main_v15, val_main_v1]
  rw [r_stream H, H.e4, EReal.coe_mul]

/-- The gradient through the mean square. -/
theorem r_inner : val_main_v49 (F := Ideal) x0 x1 x2 x3 x4 (ix3 b s d)
    = ((∑ j, proj (A.m b s) A.w j * (A.dy b s j * A.p j)) * (-(1 / 2) * (scale (proj (A.m b s) A.w) / meanSq (proj (A.m b s) A.w))) / 1024 : ℝ) := by
  pointwise [val_main_v49, val_main_v48, val_main_cst_15, val_main_v47, val_main_v46, val_main_cst_14, val_main_v45, val_main_v42, val_main_v41, val_main_cst_13, val_main_v40]
  rw [Fin.sum_univ_one]
  simp only [r_slope H, r_proj H, r_cotangent H, width_word, ← EReal.coe_mul, ← Finite.coe_sum]
  rw [Ideal.div_coe (by norm_num), ← EReal.coe_mul]
  congr 1; ring

/-- The gradient of the projection. -/
theorem r_norm : val_main_v53 (F := Ideal) x0 x1 x2 x3 x4 (ix3 b s d) = (A.dO b s d : EReal) := by
  pointwise [val_main_v53, val_main_v52, val_main_v51, val_main_v50, val_main_v44, val_main_v43]
  simp only [r_inner H, r_proj H, r_cotangent H, r_scale H, ← EReal.coe_mul, ← EReal.coe_add]
  refine EReal.coe_eq_coe_iff.mpr ?_
  unfold Args.dO dNorm
  have h := meanSq_pos (proj (A.m b s) A.w)
  have e : scale (proj (A.m b s) A.w) * scale (proj (A.m b s) A.w) = 1 / meanSq (proj (A.m b s) A.w) := by
    unfold scale
    rw [← mul_inv, Real.mul_self_sqrt h.le, one_div]
  have es : (∑ j, A.dy b s j * A.p j * (proj (A.m b s) A.w j * scale (proj (A.m b s) A.w)))
      = (∑ j, proj (A.m b s) A.w j * (A.dy b s j * A.p j)) * scale (proj (A.m b s) A.w) := by
    rw [Finset.sum_mul]
    exact Finset.sum_congr rfl fun j _ => by ring
  rw [es]
  generalize (∑ j, proj (A.m b s) A.w j * (A.dy b s j * A.p j)) = S
  generalize scale (proj (A.m b s) A.w) = r at e ⊢
  generalize meanSq (proj (A.m b s) A.w) = q at e ⊢
  generalize proj (A.m b s) A.w d = o
  have e2 : r / q = r * (r * r) := by rw [e]; ring
  rw [e2]
  ring

/-- The sums: the weight's gradient in row 0, the squared errors in row 1. -/
theorem r_sums (i : Fin 8) : val_main_v59 (F := Ideal) x0 x1 x2 x3 x4 (ix2 i d) = ((∑ b, ∑ s, A.addend b s i d : ℝ) : EReal) := by
  pointwise [val_main_v59, val_main_v58, val_main_cst_17, val_main_v57, val_main_v56, val_main_cst_16, val_main_v55, val_main_v54, val_main_v39, val_main_cst_12,
    val_main_v36, val_main_v35, val_main_cst_11, val_main_v34]
  unfold Args.addend
  by_cases h0 : i.val = 0
  · rw [dif_pos (by omega), column_sum, Fin.sum_univ_one, Fin.sum_univ_one, zero_add]
    pointwise
    rw [column_sum, zero_add]
    simp only [if_pos h0, Finite.coe_sum]
    refine Finset.sum_congr rfl fun b _ => Finset.sum_congr rfl fun s _ => ?_
    pointwise
    rw [r_normed H, r_stream H, ← EReal.coe_mul]
    unfold Args.dw
    congr 1; ring
  · rw [dif_neg (by omega)]
    by_cases h1 : i.val = 1
    · rw [dif_pos (by omega), column_sum, zero_add]
      simp only [if_neg h0, if_pos h1, Finite.coe_sum]
      refine Finset.sum_congr rfl fun b _ => Finset.sum_congr rfl fun s _ => ?_
      pointwise
      rw [r_err H, EReal.coe_mul]
    · rw [dif_neg (by omega)]
      simp only [if_neg h0, if_neg h1, Finset.sum_const_zero, EReal.coe_zero]

/-- The stream's gradient, with its rows in one axis. -/
theorem r_rows (n : Fin 8192) : val_main_v60 (F := Ideal) x0 x1 x2 x3 x4 (ix2 n d) = (A.dy (bat n) (pos n) d : EReal) := by
  pointwise [val_main_v60]
  exact r_stream H _ _ _

/-- The projection's gradient, with its rows in one axis. -/
theorem r_norm_rows (n : Fin 8192) : val_main_v62 (F := Ideal) x0 x1 x2 x3 x4 (ix2 n d) = (A.dO (bat n) (pos n) d : EReal) := by
  pointwise [val_main_v62, val_main_v61]
  exact r_norm H _ _ _

end Cert.Loss

end
-- ==== Proof.Loss.lean ====
/- The loss and its gradients: kernel and reference compute the same three arrays. -/
module

public import proofs.«01_k».proof.Defs
public import proofs.«01_k».proof.Proof.LossRef
public import proofs.«01_k».proof.Proof.LossFinal
public import proofs.«01_k».proof.Proof.Finite
public import proofs.«01_k».proof.Proof.Gen.Pre_loss_finite
public import proofs.«01_k».proof.Proof.Gen.LossReferenceIdeal.Run

@[expose] public section

set_option maxRecDepth 16384

noncomputable section

namespace Cert.Loss

open Idealize.ShloMosaic Idealize.ShloMosaic.TcCoe Idealize.SL.Sem
open Cert.LossKernelIdeal Cert.LossKernelIdeal.Gen

/-- A finite argument is an array of real numbers. -/
theorem real_args (x0 : FVec Ideal Cert.Pre_loss_finite.S4x2048x1024 .f32) (x1 : FVec Ideal Cert.Pre_loss_finite.S1024x1024 .f32)
    (x2 x3 : FVec Ideal Cert.Pre_loss_finite.S4x2048x1024 .f32) (x4 : FVec Ideal Cert.Pre_loss_finite.S1x1024 .f32)
    (h : Cert.Pre_loss_finite.fn (F := Ideal) x0 x1 x2 x3 x4 = fun _ => 1#1) :
    ((∃ x : Cert.Pre_loss_finite.S4x2048x1024.Idx → ℝ, x0 = fun i => (x i : EReal))
      ∧ ∃ x : Cert.Pre_loss_finite.S1024x1024.Idx → ℝ, x1 = fun i => (x i : EReal))
    ∧ ((∃ x : Cert.Pre_loss_finite.S4x2048x1024.Idx → ℝ, x2 = fun i => (x i : EReal))
      ∧ ∃ x : Cert.Pre_loss_finite.S4x2048x1024.Idx → ℝ, x3 = fun i => (x i : EReal))
    ∧ ∃ x : Cert.Pre_loss_finite.S1x1024.Idx → ℝ, x4 = fun i => (x i : EReal) := by
  have e := congrFun h ix0
  dsimp only [Cert.Pre_loss_finite.fn, Cert.Pre_loss_finite.fn_part1] at e
  obtain ⟨e0123, e4⟩ := Cert.Finite.and_one _ _ _ e
  obtain ⟨e01, e23⟩ := Cert.Finite.and_one _ _ _ e0123
  obtain ⟨e0, e1⟩ := Cert.Finite.and_one _ _ _ e01
  obtain ⟨e2, e3⟩ := Cert.Finite.and_one _ _ _ e23
  exact ⟨⟨Cert.Finite.real_of_all _ _ _ _ _ _ e0, Cert.Finite.real_of_all _ _ _ _ _ _ e1⟩,
    ⟨Cert.Finite.real_of_all _ _ _ _ _ _ e2, Cert.Finite.real_of_all _ _ _ _ _ _ e3⟩, Cert.Finite.real_of_all _ _ _ _ _ _ e4⟩

variable (m : (ℓ : Loc nD τ sig) → Buf (Elt Ideal) ℓ) (c : Dev nD)

/-- Finite argument arrays hold real numbers, by their axes. -/
theorem holds (h : Cert.Pre_loss_finite.fn (F := Ideal) (m ((c : Thread nD τ).loc main_arg0)) (m ((c : Thread nD τ).loc main_arg1))
    (m ((c : Thread nD τ).loc main_arg2)) (m ((c : Thread nD τ).loc main_arg3)) (m ((c : Thread nD τ).loc main_arg4)) = fun _ => 1#1) :
    ∃ A : Args, Holds m c A := by
  obtain ⟨⟨⟨a0, h0⟩, ⟨a1, h1⟩⟩, ⟨⟨a2, h2⟩, ⟨a3, h3⟩⟩, ⟨a4, h4⟩⟩ := real_args _ _ _ _ _ h
  refine ⟨⟨fun b s d => a0 (ix3 b s d), fun i j => a1 (ix2 i j), fun b s d => a2 (ix3 b s d), fun b s d => a3 (ix3 b s d), fun d => a4 (ix2 0 d)⟩, ?_, ?_, ?_, ?_, ?_⟩
  · rw [h0]; funext i; idx_vars i
  · rw [h1]; funext i; idx_vars i
  · rw [h2]; funext i; idx_vars i
  · rw [h3]; funext i; idx_vars i
  · rw [h4]; funext i
    obtain ⟨z, d, rfl⟩ : ∃ (z : Fin 1) (d : Fin 1024), i = ix2 z d := ⟨i 0, i 1, eq_ix2 i⟩
    obtain rfl : z = 0 := Fin.fin_one_eq_zero z
    rfl

variable {m c}

/-- The same real numbers, read off the arrays that the reference takes. -/
theorem holdsR {A : Args} (H : Holds m c A) : HoldsR (m ((c : Thread nD τ).loc main_arg0)) (m ((c : Thread nD τ).loc main_arg2))
    (m ((c : Thread nD τ).loc main_arg3)) (m ((c : Thread nD τ).loc main_arg1)) (m ((c : Thread nD τ).loc main_arg4)) A :=
  ⟨fun _ _ _ => congrFun H.hm _, fun _ _ => congrFun H.hw _, fun _ _ _ => congrFun H.hx _, fun _ _ _ => congrFun H.ht _,
    fun _ => congrFun H.hp _⟩

set_option maxHeartbeats 1000000 in
/-- Kernel and reference compute the same gradients and sums, over finite arguments. -/
theorem algebraic : Cert.algebraic_LossKernelIdeal_LossReferenceIdeal_pre_loss_finite := by
  pair_intro
  · run_from Cert.LossKernelIdeal.Gen.run_main m g
  · run_from Cert.LossReferenceIdeal.Value.run m' g'
    · obtain ⟨A, H⟩ := holds m c (hpre c)
      obtain ⟨a0, a1, a2, a3, a4⟩ := hagree c
      rw [final5 H]
      refine (Cert.LossReferenceIdeal.Read.val_main_v60_eq _ _ _ _ _).trans ?_
      try rw [a0, a1, a2, a3, a4]
      funext i; idx_vars i
      exact r_rows (holdsR H) _ _
    · obtain ⟨A, H⟩ := holds m c (hpre c)
      obtain ⟨a0, a1, a2, a3, a4⟩ := hagree c
      rw [final6 H]
      rw [Cert.LossReferenceIdeal.Read.val_main_v62_eq, a0, a1, a2, a3, a4]
      funext i; idx_vars i
      exact r_norm_rows (holdsR H) _ _
    · obtain ⟨A, H⟩ := holds m c (hpre c)
      obtain ⟨a0, a1, a2, a3, a4⟩ := hagree c
      rw [final7 H]
      rw [Cert.LossReferenceIdeal.Read.val_main_v59_eq, a0, a1, a2, a3, a4]
      funext i; idx_vars i
      exact r_sums (holdsR H) _ _

end Cert.Loss

end
-- ==== Proof.NormRow.lean ====
module

public import proofs.«01_k».proof.Proof.Gen.NormKernelIdeal.Skeleton
public import proofs.«01_k».proof.Proof.LossRow

/- The gradient of the first norm: what one block of the kernel computes, over the real numbers. The norm's row model is
   the one of the loss. -/

@[expose] public section

set_option maxRecDepth 16384

noncomputable section

namespace Cert.Norm

open Idealize.ShloMosaic Idealize.ShloMosaic.TcCoe Idealize.SL.Sem
open Cert.NormKernelIdeal Cert.NormKernelIdeal.Gen
open Cert.Loss (meanSq scale meanSq_pos dNorm eps_word width_word)

/-- The gradient of the projection's argument, summed part by part: the columns of queries, keys and values, the padded
    columns of the forget gate, and five parts of 1024 columns each. -/
def sumParts (z0 : Fin 3072 → ℝ) (w0 : Fin 3072 → Fin 1024 → ℝ) (z1 : Fin 128 → ℝ) (w1 : Fin 128 → Fin 1024 → ℝ) (z : Fin 5 → Fin 1024 → ℝ)
    (w : Fin 5 → Fin 1024 → Fin 1024 → ℝ) (d : Fin 1024) : ℝ :=
  ∑ k, z0 k * w0 k d + ∑ k, z1 k * w1 k d + ∑ k, z 0 k * w 0 k d + ∑ k, z 1 k * w 1 k d + ∑ k, z 2 k * w 2 k d + ∑ k, z 3 k * w 3 k d
    + ∑ k, z 4 k * w 4 k d

section Product
variable {n kk : ℕ} {x : Fin kk → EReal} {y : Fin kk → EReal} {a b : Fin kk → ℝ}

/-- A product of real rows and columns is real. -/
theorem dot_coe (hx : ∀ k, x k = (a k : EReal)) (hy : ∀ k, y k = (b k : EReal)) : ∑ k, x k * y k = ((∑ k, a k * b k : ℝ) : EReal) := by
  rw [Finite.coe_sum]
  exact Finset.sum_congr rfl fun k _ => by rw [hx, hy, EReal.coe_mul]

end Product

variable {X0 : Vec Ideal S256x3072 .bf16} {Y0 : Vec Ideal S3072x1024 .bf16} {X1 : Vec Ideal S256x128 .bf16} {Y1 : Vec Ideal S128x1024 .bf16}
  {X2 X3 X4 X5 X6 : Vec Ideal S256x1024 .bf16} {Y2 Y3 Y4 Y5 Y6 : Vec Ideal S1024x1024 .bf16}
variable {z0 : Fin 256 → Fin 3072 → ℝ} {w0 : Fin 3072 → Fin 1024 → ℝ} {z1 : Fin 256 → Fin 128 → ℝ} {w1 : Fin 128 → Fin 1024 → ℝ}
  {z : Fin 256 → Fin 5 → Fin 1024 → ℝ} {w : Fin 5 → Fin 1024 → Fin 1024 → ℝ}

/-- The block's gradient of the projection's argument. -/
theorem pay6 (h0 : ∀ r k, X0 (ix2 r k) = (z0 r k : EReal)) (g0 : ∀ k d, Y0 (ix2 k d) = (w0 k d : EReal))
    (h1 : ∀ r k, X1 (ix2 r k) = (z1 r k : EReal)) (g1 : ∀ k d, Y1 (ix2 k d) = (w1 k d : EReal))
    (h2 : ∀ r k, X2 (ix2 r k) = (z r 0 k : EReal)) (g2 : ∀ k d, Y2 (ix2 k d) = (w 0 k d : EReal))
    (h3 : ∀ r k, X3 (ix2 r k) = (z r 1 k : EReal)) (g3 : ∀ k d, Y3 (ix2 k d) = (w 1 k d : EReal))
    (h4 : ∀ r k, X4 (ix2 r k) = (z r 2 k : EReal)) (g4 : ∀ k d, Y4 (ix2 k d) = (w 2 k d : EReal))
    (h5 : ∀ r k, X5 (ix2 r k) = (z r 3 k : EReal)) (g5 : ∀ k d, Y5 (ix2 k d) = (w 3 k d : EReal))
    (h6 : ∀ r k, X6 (ix2 r k) = (z r 4 k : EReal)) (g6 : ∀ k d, Y6 (ix2 k d) = (w 4 k d : EReal)) (r : Fin 256) (d : Fin 1024) :
    k0_pay6 (k0_pay4 X0 Y0 X1 Y1 X2 Y2 X3 Y3) (k0_pay5 X4 Y4) X5 Y5 X6 Y6 (ix2 r d) = (sumParts (z0 r) w0 (z1 r) w1 (z r) w d : EReal) := by
  pointwise [k0_pay6, k0_pay5, k0_pay4]
  rw [dot_coe (h0 r) (fun k => g0 k d), dot_coe (h1 r) (fun k => g1 k d), dot_coe (h2 r) (fun k => g2 k d), dot_coe (h3 r) (fun k => g3 k d),
    dot_coe (h4 r) (fun k => g4 k d), dot_coe (h5 r) (fun k => g5 k d), dot_coe (h6 r) (fun k => g6 k d)]
  simp only [← EReal.coe_add]
  rfl

variable {X : Vec Ideal S256x1024 .f32} {x : Fin 256 → Fin 1024 → ℝ} (hx : ∀ r d, X (ix2 r d) = (x r d : EReal))
include hx

/-- The block's scales. -/
theorem pay8 (r : Fin 256) : k0_pay8 X (ix2 r 0) = (scale (x r) : EReal) := by
  pointwise [k0_pay8, k0_pay7]
  simp only [hx, width_word, eps_word, ← EReal.coe_mul, ← Finite.coe_sum]
  rw [Ideal.div_coe (by norm_num), ← EReal.coe_mul, ← EReal.coe_add]
  have e : (∑ i, x r i * x r i) * (1 / 1024) + Loss.eps = meanSq (x r) := by
    unfold meanSq; ring
  have h := meanSq_pos (x r)
  rw [Ideal.rsqrt_coe, e, if_neg (not_lt.mpr h.le), if_neg h.ne']
  rfl

/-- The block's normed rows. -/
theorem pay9 (r : Fin 256) (d : Fin 1024) : k0_pay9 X (ix2 r d) = (x r d * scale (x r) : ℝ) := by
  pointwise [k0_pay9, k0_pay7]
  rw [hx, pay8 hx, EReal.coe_mul]

variable {a : FVec Ideal S256x1024 .f32} {b : FVec Ideal S256x1024 .f32} {g : Fin 256 → Fin 1024 → ℝ}

/-- The block's gradient of the norm's argument, with the residual stream's gradient added. -/
theorem pay10 (hg : ∀ r d, k0_pay6 a b X5 Y5 X6 Y6 (ix2 r d) = (g r d : EReal)) {P : Vec Ideal S1x1024 .f32} {p : Fin 1024 → ℝ}
    (hp : ∀ d, P (ix2 0 d) = (p d : EReal)) {D : Vec Ideal S256x1024 .f32} {y : Fin 256 → Fin 1024 → ℝ} (hy : ∀ r d, D (ix2 r d) = (y r d : EReal))
    (r : Fin 256) (d : Fin 1024) : k0_pay1 (k0_pay10 a b X5 Y5 X6 Y6 X P) D (ix2 r d) = (dNorm (x r) p (g r) d + y r d : ℝ) := by
  pointwise [k0_pay1, k0_pay10]
  simp only [pay8 hx, pay9 hx, hg, hp, hy, width_word, ← EReal.coe_mul, ← Finite.coe_sum]
  rw [Ideal.div_coe (by norm_num), ← EReal.coe_mul]
  simp only [← EReal.coe_mul, ← EReal.coe_sub, ← EReal.coe_add]
  unfold dNorm
  congr 1; ring

/-- The block's addend to the weight's gradient. -/
theorem pay2 {G : FVec Ideal S256x1024 .f32} (hG : ∀ r d, G (ix2 r d) = (g r d : EReal)) (L : Vec Ideal S1x1024 .f32) (d : Fin 1024) :
    k0_pay2 G (k0_pay9 X) L (ix2 0 d) = L (ix2 0 d) + ((∑ r, g r d * (x r d * scale (x r)) : ℝ) : EReal) := by
  pointwise [k0_pay2]
  simp only [pay9 hx, hG, ← EReal.coe_mul, ← Finite.coe_sum]

end Cert.Norm

end
-- ==== Proof.NormFinal.lean ====
module

public import proofs.«01_k».proof.Proof.Gen.NormKernelIdeal.Frame
public import proofs.«01_k».proof.Proof.NormRow
public import proofs.«01_k».proof.Defs
public import Idealize.ShloMosaic.Lib.Claim
public import Idealize.ShloMosaic.Lib.Pipeline.ReadBack
public import Idealize.ShloMosaic.Lib.WritesUnit

/- What the kernel of the first norm's gradient leaves in its two result arrays when its arguments are real. -/

@[expose] public section

set_option maxRecDepth 16384

noncomputable section

namespace Cert.Norm

open Idealize.ShloMosaic Idealize.ShloMosaic.TcCoe Idealize.SL.Sem
open Idealize.ShloMosaic.Pipeline (Dat)
open Cert.NormKernelIdeal Cert.NormKernelIdeal.Gen
open Cert.Loss (scale dNorm)

/-- Real arguments: the projection's cotangent, the projection, the norm's argument, the residual stream's gradient and the
    norm's weight. -/
structure Args where
  z : Fin 4 → Fin 2048 → Fin 8208 → ℝ
  w : Fin 1024 → Fin 9232 → ℝ
  x : Fin 4 → Fin 2048 → Fin 1024 → ℝ
  y : Fin 4 → Fin 2048 → Fin 1024 → ℝ
  p : Fin 1024 → ℝ

/-- The sequence of a flattened row. -/
def bat (n : Fin 8192) : Fin 4 := ⟨n.val / 2048, by omega⟩

/-- The position of a flattened row in its sequence. -/
def pos (n : Fin 8192) : Fin 2048 := ⟨n.val % 2048, by omega⟩

/-- The gradient of the projection's argument. -/
def Args.dh (A : Args) (b : Fin 4) (s : Fin 2048) (d : Fin 1024) : ℝ := ∑ e : Fin 8208, A.z b s e * A.w d ⟨e.val, by omega⟩

/-- The gradient of the norm's argument, with the residual stream's gradient added. -/
def Args.dx (A : Args) (b : Fin 4) (s : Fin 2048) (d : Fin 1024) : ℝ := dNorm (A.x b s) A.p (A.dh b s) d + A.y b s d

/-- A row's addend to row `i` of the sums: the weight's gradient in row 0, nothing else. -/
def Args.addend (A : Args) (b : Fin 4) (s : Fin 2048) (i : Fin 8) (d : Fin 1024) : ℝ :=
  if i.val = 0 then A.dh b s d * (A.x b s d * scale (A.x b s)) else 0

/-- The column that the kernel's reordering of queries, keys and values takes to column `k`. -/
def mixed : Fin 3072 ≃ Fin 3072 where
  toFun k := ⟨k.val / 128 % 3 * 1024 + k.val / 384 * 128 + k.val % 128, by omega⟩
  invFun k := ⟨k.val % 1024 / 128 * 384 + k.val / 1024 * 128 + k.val % 128, by omega⟩
  left_inv k := by
    apply Fin.ext
    show (k.val / 128 % 3 * 1024 + k.val / 384 * 128 + k.val % 128) % 1024 / 128 * 384
      + (k.val / 128 % 3 * 1024 + k.val / 384 * 128 + k.val % 128) / 1024 * 128 + (k.val / 128 % 3 * 1024 + k.val / 384 * 128 + k.val % 128) % 128 = k.val
    have h := k.isLt
    generalize k.val = n at h ⊢
    obtain ⟨a, b, e, ha, hb, he, rfl⟩ : ∃ a b e : ℕ, a < 8 ∧ b < 3 ∧ e < 128 ∧ n = a * 384 + b * 128 + e :=
      ⟨n / 384, n / 128 % 3, n % 128, by omega, by omega, by omega, by omega⟩
    rw [show (a * 384 + b * 128 + e) / 128 % 3 = b from by omega, show (a * 384 + b * 128 + e) / 384 = a from by omega,
      show (a * 384 + b * 128 + e) % 128 = e from by omega]
    omega
  right_inv k := by
    apply Fin.ext
    show (k.val % 1024 / 128 * 384 + k.val / 1024 * 128 + k.val % 128) / 128 % 3 * 1024
      + (k.val % 1024 / 128 * 384 + k.val / 1024 * 128 + k.val % 128) / 384 * 128 + (k.val % 1024 / 128 * 384 + k.val / 1024 * 128 + k.val % 128) % 128 = k.val
    have h := k.isLt
    generalize k.val = n at h ⊢
    obtain ⟨a, b, e, ha, hb, he, rfl⟩ : ∃ a b e : ℕ, a < 8 ∧ b < 3 ∧ e < 128 ∧ n = b * 1024 + a * 128 + e :=
      ⟨n % 1024 / 128, n / 1024, n % 128, by omega, by omega, by omega, by omega⟩
    rw [show (b * 1024 + a * 128 + e) % 1024 / 128 = a from by omega, show (b * 1024 + a * 128 + e) / 1024 = b from by omega,
      show (b * 1024 + a * 128 + e) % 128 = e from by omega]
    omega

/-- A sum over all columns, taken part by part. -/
theorem sum_columns (f : Fin 8208 → ℝ) : ∑ e, f e = ∑ k : Fin 3072, f ⟨(mixed k).val, by omega⟩
    + ∑ k : Fin 128, (if h : k.val < 16 then f ⟨3072 + k.val, by omega⟩ else 0)
    + ∑ k : Fin 1024, f ⟨3088 + k.val, by omega⟩ + ∑ k : Fin 1024, f ⟨4112 + k.val, by omega⟩ + ∑ k : Fin 1024, f ⟨5136 + k.val, by omega⟩
    + ∑ k : Fin 1024, f ⟨6160 + k.val, by omega⟩ + ∑ k : Fin 1024, f ⟨7184 + k.val, by omega⟩ := by
  have hm := Equiv.sum_comp mixed fun k : Fin 3072 => f ⟨k.val, by omega⟩
  rw [hm]
  let g : ℕ → ℝ := fun n => if h : n < 8208 then f ⟨n, h⟩ else 0
  have hg : ∀ n (h : n < 8208), f ⟨n, h⟩ = g n := fun n h => by simp only [g, dif_pos h]
  have h16 : ∑ k : Fin 128, (if h : k.val < 16 then f ⟨3072 + k.val, by omega⟩ else 0) = ∑ k ∈ Finset.range 16, g (3072 + k) := by
    rw [show (fun k : Fin 128 => if h : k.val < 16 then f ⟨3072 + k.val, by omega⟩ else 0) = fun k : Fin 128 => (fun n : ℕ => if n < 16 then g (3072 + n) else 0) k.val from ?_]
    · rw [Fin.sum_univ_eq_sum_range (fun n : ℕ => if n < 16 then g (3072 + n) else 0) 128, ← Finset.sum_filter]
      exact Finset.sum_congr (by ext n; simp only [Finset.mem_filter, Finset.mem_range]; omega) fun _ _ => rfl
    · funext k
      by_cases h : k.val < 16
      · simp only [dif_pos h, if_pos h, hg]
      · simp only [dif_neg h, if_neg h]
  have hr : ∀ (o n : ℕ) (h : o + n ≤ 8208), ∑ k : Fin n, f ⟨o + k.val, by omega⟩ = ∑ k ∈ Finset.range n, g (o + k) := fun o n h => by
    rw [← Fin.sum_univ_eq_sum_range (fun k => g (o + k)) n]
    exact Finset.sum_congr rfl fun k _ => hg _ _
  have h0 : ∑ k : Fin 3072, f ⟨k.val, by omega⟩ = ∑ k ∈ Finset.range 3072, g k := by
    rw [← Fin.sum_univ_eq_sum_range g 3072]
    exact Finset.sum_congr rfl fun k _ => hg _ _
  have ha : ∑ e, f e = ∑ k ∈ Finset.range 8208, g k := by
    rw [← Fin.sum_univ_eq_sum_range g 8208]
    exact Finset.sum_congr rfl fun k _ => hg _ k.isLt
  rw [ha, h0, h16, hr 3088 1024 (by omega), hr 4112 1024 (by omega), hr 5136 1024 (by omega), hr 6160 1024 (by omega), hr 7184 1024 (by omega),
    show 8208 = 3072 + 16 + 1024 + 1024 + 1024 + 1024 + 1024 from rfl]
  simp only [Finset.sum_range_add]

/-- The arguments of core `c` are the real arrays `A`. -/
structure Holds (m : (ℓ : Loc nD τ sig) → Buf (Elt Ideal) ℓ) (c : Dev nD) (A : Args) : Prop where
  hz : m ((c : Thread nD τ).loc main_arg0) = (fun i => (A.z (i 0) (i 1) (i 2) : EReal) : FVec Ideal S4x2048x8208 .f32)
  hw : m ((c : Thread nD τ).loc main_arg1) = (fun i => (A.w (i 0) (i 1) : EReal) : FVec Ideal S1024x9232 .f32)
  hx : m ((c : Thread nD τ).loc main_arg2) = (fun i => (A.x (i 0) (i 1) (i 2) : EReal) : FVec Ideal S4x2048x1024 .f32)
  hy : m ((c : Thread nD τ).loc main_arg3) = (fun i => (A.y (i 0) (i 1) (i 2) : EReal) : FVec Ideal S4x2048x1024 .f32)
  hp : m ((c : Thread nD τ).loc main_arg4) = (fun i => (A.p (i 1) : EReal) : FVec Ideal S1x1024 .f32)

/-- Block indices at every grid point: the rows' windows move, the others stay. -/
theorem idx : ∀ t : Fin cfg0.N, (win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0])
    ∧ (win0_7.index t = ![0, 0] ∧ win0_8.index t = ![0, 0] ∧ win0_9.index t = ![0, 0] ∧ win0_10.index t = ![0, 0] ∧ win0_11.index t = ![0, 0]
    ∧ win0_12.index t = ![0, 0] ∧ win0_13.index t = ![0, 0]) ∧ win0_15.index t = ![t.val, 0] ∧ win0_16.index t = ![t.val, 0]
    ∧ win0_17.index t = ![0, 0] ∧ win0_18.index t = ![t.val, 0] ∧ win0_19.index t = ![0, 0] :=
  (by decide +kernel : ∀ t : Fin grid0.N, _)

variable {m : (ℓ : Loc nD τ sig) → Buf (Elt Ideal) ℓ} {c : Dev nD} {A : Args} (H : Holds m c A)
include H

theorem arg_z (b : Fin 4) (s : Fin 2048) (e : Fin 8208) : m ((c : Thread nD τ).loc main_arg0) (ix3 b s e) = (A.z b s e : EReal) := by
  rw [H.hz]; rfl

theorem arg_w (d : Fin 1024) (e : Fin 9232) : m ((c : Thread nD τ).loc main_arg1) (ix2 d e) = (A.w d e : EReal) := by
  rw [H.hw]; rfl

theorem entry_z0 (n : Fin 8192) (k : Fin 3072) : V m c main_v7 (ix2 n k) = (A.z (bat n) (pos n) ⟨(mixed k).val, by omega⟩ : EReal) := by
  rw [← arg_z H]
  simp only [V, List.flatten_cons, List.flatten_nil, List.append_nil, List.cons_append, List.nil_append, StableHlo.TRef.unary, StableHlo.TRef.binary, StableHlo.TRef.ternary]
  entry_read
  pointwise
  rfl

theorem entry_w0 (k : Fin 3072) (d : Fin 1024) : V m c main_v11 (ix2 k d) = (A.w d ⟨(mixed k).val, by omega⟩ : EReal) := by
  rw [← arg_w H]
  simp only [V, List.flatten_cons, List.flatten_nil, List.append_nil, List.cons_append, List.nil_append, StableHlo.TRef.unary, StableHlo.TRef.binary, StableHlo.TRef.ternary]
  entry_read
  pointwise
  rfl

omit H in
theorem V_z1 : V m c main_v14 = truncf (F := Ideal) .bf16 (pad S8192x128 ![0, 0] ![0, 112] ![0, 0]
    (extractStridedSlice S8192x16 ![0, 3072] (shapeCast S8192x8208 (m ((c : Thread nD τ).loc main_arg0) : FVec Ideal S4x2048x8208 .f32) shapeCasts_S4x2048x8208_S8192x8208)
      slices_S8192x8208_S8192x16_0_3072) (sitofp .f32 (constantI S_ 32 0#32)) pads_S8192x16_S8192x128_000_01120 h_S_) bitsLt_bf16_f32 := by
  simp only [V, List.flatten_cons, List.flatten_nil, List.append_nil, List.cons_append, List.nil_append, StableHlo.TRef.unary, StableHlo.TRef.binary, StableHlo.TRef.ternary]
  entry_read
  rfl

omit H in
theorem V_w1 : V m c main_v16 = pad S128x1024 ![0, 0] ![112, 0] ![0, 0]
    (extractStridedSlice S16x1024 ![3072, 0] (truncf (F := Ideal) .bf16 (transpose S9232x1024 [1, 0] (m ((c : Thread nD τ).loc main_arg1) : FVec Ideal S1024x9232 .f32)
      transposes_S1024x9232_S9232x1024_1_0) bitsLt_bf16_f32) slices_S9232x1024_S16x1024_3072_0) (sitofp (F := Ideal) .bf16 (constantI S_ 32 0#32))
      pads_S16x1024_S128x1024_01120_000 h_S_ := by
  simp only [V, List.flatten_cons, List.flatten_nil, List.append_nil, List.cons_append, List.nil_append, StableHlo.TRef.unary, StableHlo.TRef.binary, StableHlo.TRef.ternary]
  entry_read
  rfl

omit H in
theorem flat_apply (x : FVec Ideal S4x2048x8208 .f32) (n : Fin 8192) (e : Fin 8208) :
    shapeCast S8192x8208 x shapeCasts_S4x2048x8208_S8192x8208 (ix2 n e) = x (ix3 (bat n) (pos n) e) := by
  pointwise
  rfl

theorem entry_z1 (n : Fin 8192) (k : Fin 128) : V m c main_v14 (ix2 n k) = ((if h : k.val < 16 then A.z (bat n) (pos n) ⟨3072 + k.val, by omega⟩ else 0 : ℝ) : EReal) := by
  rw [V_z1]
  generalize hX : (shapeCast S8192x8208 (m ((c : Thread nD τ).loc main_arg0) : FVec Ideal S4x2048x8208 .f32) shapeCasts_S4x2048x8208_S8192x8208) = X
  have hX' : ∀ e, X (ix2 n e) = (A.z (bat n) (pos n) e : EReal) := by
    intro e
    rw [← arg_z H, ← hX]
    exact flat_apply _ n e
  pointwise
  by_cases h : k.val < 16
  · rw [dif_pos h, dif_pos h]
    exact hX' _
  · rw [dif_neg h, dif_neg h]
    simp [FloatOps.sitofp]

theorem entry_w1 (k : Fin 128) (d : Fin 1024) : V m c main_v16 (ix2 k d) = ((if h : k.val < 16 then A.w d ⟨3072 + k.val, by omega⟩ else 0 : ℝ) : EReal) := by
  rw [V_w1]
  pointwise
  by_cases h : k.val < 16
  · rw [dif_pos h, dif_pos h]
    exact arg_w H _ _
  · rw [dif_neg h, dif_neg h]
    simp [FloatOps.sitofp]

theorem entry_z2 (n : Fin 8192) (k : Fin 1024) : V m c main_v18 (ix2 n k) = (A.z (bat n) (pos n) ⟨3088 + k.val, by omega⟩ : EReal) := by
  rw [← arg_z H]
  simp only [V, List.flatten_cons, List.flatten_nil, List.append_nil, List.cons_append, List.nil_append, StableHlo.TRef.unary, StableHlo.TRef.binary, StableHlo.TRef.ternary]
  entry_read
  pointwise
  rfl

theorem entry_w2 (k d : Fin 1024) : V m c main_v19 (ix2 k d) = (A.w d ⟨3088 + k.val, by omega⟩ : EReal) := by
  rw [← arg_w H]
  simp only [V, List.flatten_cons, List.flatten_nil, List.append_nil, List.cons_append, List.nil_append, StableHlo.TRef.unary, StableHlo.TRef.binary, StableHlo.TRef.ternary]
  entry_read
  pointwise

theorem entry_z3 (n : Fin 8192) (k : Fin 1024) : V m c main_v21 (ix2 n k) = (A.z (bat n) (pos n) ⟨4112 + k.val, by omega⟩ : EReal) := by
  rw [← arg_z H]
  simp only [V, List.flatten_cons, List.flatten_nil, List.append_nil, List.cons_append, List.nil_append, StableHlo.TRef.unary, StableHlo.TRef.binary, StableHlo.TRef.ternary]
  entry_read
  pointwise
  rfl

theorem entry_w3 (k d : Fin 1024) : V m c main_v22 (ix2 k d) = (A.w d ⟨4112 + k.val, by omega⟩ : EReal) := by
  rw [← arg_w H]
  simp only [V, List.flatten_cons, List.flatten_nil, List.append_nil, List.cons_append, List.nil_append, StableHlo.TRef.unary, StableHlo.TRef.binary, StableHlo.TRef.ternary]
  entry_read
  pointwise

theorem entry_z4 (n : Fin 8192) (k : Fin 1024) : V m c main_v24 (ix2 n k) = (A.z (bat n) (pos n) ⟨5136 + k.val, by omega⟩ : EReal) := by
  rw [← arg_z H]
  simp only [V, List.flatten_cons, List.flatten_nil, List.append_nil, List.cons_append, List.nil_append, StableHlo.TRef.unary, StableHlo.TRef.binary, StableHlo.TRef.ternary]
  entry_read
  pointwise
  rfl

theorem entry_w4 (k d : Fin 1024) : V m c main_v25 (ix2 k d) = (A.w d ⟨5136 + k.val, by omega⟩ : EReal) := by
  rw [← arg_w H]
  simp only [V, List.flatten_cons, List.flatten_nil, List.append_nil, List.cons_append, List.nil_append, StableHlo.TRef.unary, StableHlo.TRef.binary, StableHlo.TRef.ternary]
  entry_read
  pointwise

theorem entry_z5 (n : Fin 8192) (k : Fin 1024) : V m c main_v27 (ix2 n k) = (A.z (bat n) (pos n) ⟨6160 + k.val, by omega⟩ : EReal) := by
  rw [← arg_z H]
  simp only [V, List.flatten_cons, List.flatten_nil, List.append_nil, List.cons_append, List.nil_append, StableHlo.TRef.unary, StableHlo.TRef.binary, StableHlo.TRef.ternary]
  entry_read
  pointwise
  rfl

theorem entry_w5 (k d : Fin 1024) : V m c main_v28 (ix2 k d) = (A.w d ⟨6160 + k.val, by omega⟩ : EReal) := by
  rw [← arg_w H]
  simp only [V, List.flatten_cons, List.flatten_nil, List.append_nil, List.cons_append, List.nil_append, StableHlo.TRef.unary, StableHlo.TRef.binary, StableHlo.TRef.ternary]
  entry_read
  pointwise

theorem entry_z6 (n : Fin 8192) (k : Fin 1024) : V m c main_v30 (ix2 n k) = (A.z (bat n) (pos n) ⟨7184 + k.val, by omega⟩ : EReal) := by
  rw [← arg_z H]
  simp only [V, List.flatten_cons, List.flatten_nil, List.append_nil, List.cons_append, List.nil_append, StableHlo.TRef.unary, StableHlo.TRef.binary, StableHlo.TRef.ternary]
  entry_read
  pointwise
  rfl

theorem entry_w6 (k d : Fin 1024) : V m c main_v31 (ix2 k d) = (A.w d ⟨7184 + k.val, by omega⟩ : EReal) := by
  rw [← arg_w H]
  simp only [V, List.flatten_cons, List.flatten_nil, List.append_nil, List.cons_append, List.nil_append, StableHlo.TRef.unary, StableHlo.TRef.binary, StableHlo.TRef.ternary]
  entry_read
  pointwise

theorem entry_x (n : Fin 8192) (d : Fin 1024) : V m c main_v33 (ix2 n d) = (A.x (bat n) (pos n) d : EReal) := by
  refine Eq.trans ?_ (congrFun H.hx (ix3 (bat n) (pos n) d))
  simp only [V, List.flatten_cons, List.flatten_nil, List.append_nil, List.cons_append, List.nil_append, StableHlo.TRef.unary, StableHlo.TRef.binary, StableHlo.TRef.ternary]
  entry_read
  pointwise
  rfl

theorem entry_y (n : Fin 8192) (d : Fin 1024) : V m c main_v34 (ix2 n d) = (A.y (bat n) (pos n) d : EReal) := by
  refine Eq.trans ?_ (congrFun H.hy (ix3 (bat n) (pos n) d))
  simp only [V, List.flatten_cons, List.flatten_nil, List.append_nil, List.cons_append, List.nil_append, StableHlo.TRef.unary, StableHlo.TRef.binary, StableHlo.TRef.ternary]
  entry_read
  pointwise
  rfl

theorem entry_p (d : Fin 1024) : V m c main_arg4 (ix2 0 d) = (A.p d : EReal) := by
  rw [V_main_arg4, H.hp]; rfl

omit H in
/-- Row `r` of block `t` among all rows. -/
def rowOf (t : Fin cfg0.N) (r : Fin 256) : Fin 8192 := ⟨t.val * 256 + r.val, by have := lt_of_lt_of_eq t.isLt N_0; omega⟩

theorem block_z0 (t : Fin cfg0.N) (r : Fin 256) (k : Fin 3072) : iblk m c 0 t (ix2 r k) = ((A.z (bat (rowOf t r)) (pos (rowOf t r)) ⟨(mixed k).val, by omega⟩ : ℝ) : EReal) := by
  rw [← entry_z0 H]
  refine congrArg (V m c main_v7) ?_
  blk_ext [idx t, rowOf]

theorem block_w0 (t : Fin cfg0.N) (k : Fin 3072) (d : Fin 1024) : iblk m c 7 t (ix2 k d) = ((A.w d ⟨(mixed k).val, by omega⟩ : ℝ) : EReal) := by
  rw [← entry_w0 H]
  refine congrArg (V m c main_v11) ?_
  blk_ext [idx t]

theorem block_z1 (t : Fin cfg0.N) (r : Fin 256) (k : Fin 128) : iblk m c 1 t (ix2 r k) = ((if h : k.val < 16 then A.z (bat (rowOf t r)) (pos (rowOf t r)) ⟨3072 + k.val, by omega⟩ else 0 : ℝ) : EReal) := by
  rw [← entry_z1 H]
  refine congrArg (V m c main_v14) ?_
  blk_ext [idx t, rowOf]

theorem block_w1 (t : Fin cfg0.N) (k : Fin 128) (d : Fin 1024) : iblk m c 8 t (ix2 k d) = ((if h : k.val < 16 then A.w d ⟨3072 + k.val, by omega⟩ else 0 : ℝ) : EReal) := by
  rw [← entry_w1 H]
  refine congrArg (V m c main_v16) ?_
  blk_ext [idx t]

theorem block_z2 (t : Fin cfg0.N) (r : Fin 256) (k : Fin 1024) : iblk m c 2 t (ix2 r k) = ((A.z (bat (rowOf t r)) (pos (rowOf t r)) ⟨3088 + k.val, by omega⟩ : ℝ) : EReal) := by
  rw [← entry_z2 H]
  refine congrArg (V m c main_v18) ?_
  blk_ext [idx t, rowOf]

theorem block_w2 (t : Fin cfg0.N) (k : Fin 1024) (d : Fin 1024) : iblk m c 9 t (ix2 k d) = ((A.w d ⟨3088 + k.val, by omega⟩ : ℝ) : EReal) := by
  rw [← entry_w2 H]
  refine congrArg (V m c main_v19) ?_
  blk_ext [idx t]

theorem block_z3 (t : Fin cfg0.N) (r : Fin 256) (k : Fin 1024) : iblk m c 3 t (ix2 r k) = ((A.z (bat (rowOf t r)) (pos (rowOf t r)) ⟨4112 + k.val, by omega⟩ : ℝ) : EReal) := by
  rw [← entry_z3 H]
  refine congrArg (V m c main_v21) ?_
  blk_ext [idx t, rowOf]

theorem block_w3 (t : Fin cfg0.N) (k : Fin 1024) (d : Fin 1024) : iblk m c 10 t (ix2 k d) = ((A.w d ⟨4112 + k.val, by omega⟩ : ℝ) : EReal) := by
  rw [← entry_w3 H]
  refine congrArg (V m c main_v22) ?_
  blk_ext [idx t]

theorem block_z4 (t : Fin cfg0.N) (r : Fin 256) (k : Fin 1024) : iblk m c 4 t (ix2 r k) = ((A.z (bat (rowOf t r)) (pos (rowOf t r)) ⟨5136 + k.val, by omega⟩ : ℝ) : EReal) := by
  rw [← entry_z4 H]
  refine congrArg (V m c main_v24) ?_
  blk_ext [idx t, rowOf]

theorem block_w4 (t : Fin cfg0.N) (k : Fin 1024) (d : Fin 1024) : iblk m c 11 t (ix2 k d) = ((A.w d ⟨5136 + k.val, by omega⟩ : ℝ) : EReal) := by
  rw [← entry_w4 H]
  refine congrArg (V m c main_v25) ?_
  blk_ext [idx t]

theorem block_z5 (t : Fin cfg0.N) (r : Fin 256) (k : Fin 1024) : iblk m c 5 t (ix2 r k) = ((A.z (bat (rowOf t r)) (pos (rowOf t r)) ⟨6160 + k.val, by omega⟩ : ℝ) : EReal) := by
  rw [← entry_z5 H]
  refine congrArg (V m c main_v27) ?_
  blk_ext [idx t, rowOf]

theorem block_w5 (t : Fin cfg0.N) (k : Fin 1024) (d : Fin 1024) : iblk m c 12 t (ix2 k d) = ((A.w d ⟨6160 + k.val, by omega⟩ : ℝ) : EReal) := by
  rw [← entry_w5 H]
  refine congrArg (V m c main_v28) ?_
  blk_ext [idx t]

theorem block_z6 (t : Fin cfg0.N) (r : Fin 256) (k : Fin 1024) : iblk m c 6 t (ix2 r k) = ((A.z (bat (rowOf t r)) (pos (rowOf t r)) ⟨7184 + k.val, by omega⟩ : ℝ) : EReal) := by
  rw [← entry_z6 H]
  refine congrArg (V m c main_v30) ?_
  blk_ext [idx t, rowOf]

theorem block_w6 (t : Fin cfg0.N) (k : Fin 1024) (d : Fin 1024) : iblk m c 13 t (ix2 k d) = ((A.w d ⟨7184 + k.val, by omega⟩ : ℝ) : EReal) := by
  rw [← entry_w6 H]
  refine congrArg (V m c main_v31) ?_
  blk_ext [idx t]

theorem block_x (t : Fin cfg0.N) (r : Fin 256) (d : Fin 1024) : iblk m c 15 t (ix2 r d) = (A.x (bat (rowOf t r)) (pos (rowOf t r)) d : EReal) := by
  rw [← entry_x H]
  refine congrArg (V m c main_v33) ?_
  blk_ext [idx t, rowOf]

theorem block_y (t : Fin cfg0.N) (r : Fin 256) (d : Fin 1024) : iblk m c 16 t (ix2 r d) = (A.y (bat (rowOf t r)) (pos (rowOf t r)) d : EReal) := by
  rw [← entry_y H]
  refine congrArg (V m c main_v34) ?_
  blk_ext [idx t, rowOf]

theorem block_p (t : Fin cfg0.N) (d : Fin 1024) : iblk m c 17 t (ix2 0 d) = (A.p d : EReal) := by
  rw [← entry_p H]
  refine congrArg (V m c main_arg4) ?_
  blk_ext [idx t]

/-- The block's gradient of the projection's argument. -/
theorem grad (t : Fin cfg0.N) (r : Fin 256) (d : Fin 1024) :
    k0_pay6 (k0_pay4 (iblk m c 0 t) (iblk m c 7 t) (iblk m c 1 t) (iblk m c 8 t) (iblk m c 2 t) (iblk m c 9 t) (iblk m c 3 t) (iblk m c 10 t))
      (k0_pay5 (iblk m c 4 t) (iblk m c 11 t)) (iblk m c 5 t) (iblk m c 12 t) (iblk m c 6 t) (iblk m c 13 t) (ix2 r d)
    = (A.dh (bat (rowOf t r)) (pos (rowOf t r)) d : EReal) := by
  rw [pay6 (z := fun r i k => A.z (bat (rowOf t r)) (pos (rowOf t r)) ⟨3088 + 1024 * i.val + k.val, by omega⟩)
    (w := fun i k d => A.w d ⟨3088 + 1024 * i.val + k.val, by omega⟩) (block_z0 H t) (block_w0 H t) (block_z1 H t) (block_w1 H t) (block_z2 H t) (block_w2 H t)
    (block_z3 H t) (block_w3 H t) (block_z4 H t) (block_w4 H t) (block_z5 H t) (block_w5 H t) (block_z6 H t) (block_w6 H t)]
  unfold Args.dh sumParts
  rw [sum_columns]
  refine congrArg _ ?_
  have e : ∀ k : Fin 128, (if h : k.val < 16 then A.z (bat (rowOf t r)) (pos (rowOf t r)) ⟨3072 + k.val, by omega⟩ else 0)
      * (if h : k.val < 16 then A.w d ⟨3072 + k.val, by omega⟩ else 0)
      = if h : k.val < 16 then A.z (bat (rowOf t r)) (pos (rowOf t r)) ⟨3072 + k.val, by omega⟩ * A.w d ⟨3072 + k.val, by omega⟩ else 0 := by
    intro k
    by_cases h : k.val < 16
    · simp only [dif_pos h]
    · simp only [dif_neg h, mul_zero]
  simp only [e]
  rfl

/-- The stream's gradient after the run. -/
theorem final18 : (dats m 0 c).arrAt 18 (cfgs 0).N = (fun i => (A.dx (bat (i 0)) (pos (i 0)) (i 1) : EReal) : FVec Ideal S8192x1024 .f32) := by
  refine (dats m 0 c).arrAt_eq_of_covers 18 _ (by decide +kernel) fun t hf y => ?_
  blk_simp; rw [after0_18]
  obtain ⟨r, d, rfl⟩ : ∃ (r : Fin 256) (d : Fin 1024), y = ix2 r d := ⟨y 0, y 1, eq_ix2 y⟩
  have e : ((cfg0.win 18).blk t).view.emb (ix2 r d) = ix2 (rowOf t r) d := by
    blk_ext [idx t, rowOf]
  rw [e]
  by_cases h0 : t.val % 32 = 0
  · rw [outsAt0_A m c t h0]; frame_out
    exact pay10 (block_x H t) (grad H t) (block_p H t) (block_y H t) r d
  · rw [outsAt0_B m c t h0]; frame_out
    exact pay10 (block_x H t) (grad H t) (block_p H t) (block_y H t) r d

omit H in
/-- A grid point's addend to the sums. -/
def term (A : Args) (t : Fin cfg0.N) (y : S8x1024.Idx) : EReal :=
  ((∑ r, A.addend (bat (rowOf t r)) (pos (rowOf t r)) (y 0) (y 1) : ℝ) : EReal)

omit H in
/-- A store of one row, into row 0, read back. -/
theorem one_row {κ : Kind} {sp : Space} (v : View sig κ sp S8x1024 .f32) (f : v.ty.Contents (Elt Ideal)) (p0 : S1x1024.Idx → EReal)
    (L : List (View.Piece (Elt Ideal) S8x1024 .f32)) (i : Fin 8) (d : Fin 1024) :
    (v.read (Elt Ideal) (v.writes (Elt Ideal) f (⟨Rect.unit (s := S8x1024) ![0, 0] ![1, 1024] inb_S8x1024_S1x1024_0_0, p0⟩ :: L)) (ix2 i d) : EReal)
    = if i.val = 0 then p0 (ix2 0 d) else v.read (Elt Ideal) (v.writes (Elt Ideal) f L) (ix2 i d) := by
  by_cases h : i.val = 0
  · rw [if_pos h]
    exact View.read_writes_cons_rows_of_mem (o := 0) v f _ p0 L (ix2 i d) (ix2 0 d) rfl (by show i.val = 0 + 0; omega) rfl
  · rw [if_neg h]
    refine View.read_writes_cons_rows_of_not_mem (o := 0) (W := 1) v f _ p0 L (ix2 i d) rfl rfl (Or.inr ?_)
    show 0 + 1 ≤ i.val
    omega

/-- What the stored row and the rest add up to. -/
theorem rows_sum (t : Fin cfg0.N) (L0 : Vec Ideal S1x1024 .f32) (R : Vec Ideal S8x1024 .f32) (h0 : ∀ d, L0 (ix2 0 d) = R (ix2 0 d))
    (i : Fin 8) (d : Fin 1024) :
    (if i.val = 0 then k0_pay2 (k0_pay6 (k0_pay4 (iblk m c 0 t) (iblk m c 7 t) (iblk m c 1 t) (iblk m c 8 t) (iblk m c 2 t) (iblk m c 9 t) (iblk m c 3 t)
      (iblk m c 10 t)) (k0_pay5 (iblk m c 4 t) (iblk m c 11 t)) (iblk m c 5 t) (iblk m c 12 t) (iblk m c 6 t) (iblk m c 13 t)) (k0_pay9 (iblk m c 15 t)) L0 (ix2 0 d)
      else R (ix2 i d))
    = (R (ix2 i d) + term A t (ix2 i d) : EReal) := by
  rw [pay2 (block_x H t) (grad H t)]
  unfold term Args.addend
  show _ = R (ix2 i d) + ((∑ r, if i.val = 0 then A.dh (bat (rowOf t r)) (pos (rowOf t r)) d * (A.x (bat (rowOf t r)) (pos (rowOf t r)) d
    * scale (A.x (bat (rowOf t r)) (pos (rowOf t r)))) else 0 : ℝ) : EReal)
  by_cases h : i.val = 0
  · obtain rfl : i = 0 := Fin.ext h
    simp only [h, if_true, h0]
  · simp only [h, if_false, Finset.sum_const_zero, EReal.coe_zero, add_zero]

omit H in
theorem row_idx (inb : ∀ a, (![0, 0] : Fin 2 → ℕ) a + (![1, 1024] : Fin 2 → ℕ) a ≤ S8x1024.size a) (d : Fin 1024) :
    (Rect.unit (s := S8x1024) ![0, 0] ![1, 1024] inb).toLoadRect.idx (ix2 0 d) = ix2 0 d := by
  funext a
  apply Fin.ext
  fin_cases a <;> simp [LoadRect.idx, Rect.unit]

omit H in
theorem zero_block : (k0_pay3 : FVec Ideal S8x1024 .f32) = fun _ => (0 : EReal) := by
  funext i
  pointwise [k0_pay3]

theorem out19_B (t : Fin cfg0.N) (h0 : ¬t.val % 32 = 0) (y : S8x1024.Idx) : (outsAt0 m c t.val t.isLt).2 y
    = (outsAt0 m c (t.val - 1) (Nat.lt_of_le_of_lt (Nat.sub_le _ _) t.isLt)).2 y + term A t y := by
  obtain ⟨i, d, rfl⟩ : ∃ (i : Fin 8) (d : Fin 1024), y = ix2 i d := ⟨y 0, y 1, eq_ix2 y⟩
  rw [outsAt0_B m c t h0]; frame_out
  generalize (outsAt0 m c (t.val - 1) _).2 = R
  refine (one_row _ _ _ _ i d).trans ?_
  rw [View.writes_nil, (hs0_19 t).read_unread]
  exact rows_sum H t _ R (fun d => congrArg R (row_idx _ d)) i d

theorem out19_A (t : Fin cfg0.N) (h0 : t.val % 32 = 0) (y : S8x1024.Idx) : (outsAt0 m c t.val t.isLt).2 y = 0 + term A t y := by
  obtain ⟨i, d, rfl⟩ : ∃ (i : Fin 8) (d : Fin 1024), y = ix2 i d := ⟨y 0, y 1, eq_ix2 y⟩
  rw [outsAt0_A m c t h0]; frame_out
  rw [← View.read_writes_junk_eq_canon (ms0_19 t).view]
  simp (disch := decide) only [↓ View.readCov_skip, ↓ View.readCov_fill, zero_block]
  refine (one_row _ _ _ _ i d).trans ?_
  rw [View.read_writes_junk_eq_canon, View.canon_cons_unit_lit _ _ _ (by decide)]
  exact rows_sum H t _ (fun _ => (0 : EReal)) (fun d => rfl) i d

omit H in
/-- The sum over all rows, tile by tile, is the sum over the sequences' positions. -/
theorem sum_rows (f : Fin 8192 → ℝ) : ∑ a : Fin 32, ∑ r : Fin 256, f (⟨a.val * 256 + r.val, by omega⟩ : Fin 8192)
    = ∑ b : Fin 4, ∑ s : Fin 2048, f (⟨b.val * 2048 + s.val, by omega⟩ : Fin 8192) := by
  rw [← Fintype.sum_prod_type', ← Fintype.sum_prod_type']
  have e32 := Equiv.sum_comp (finProdFinEquiv (m := 32) (n := 256)) (fun n : Fin (32 * 256) => f n)
  have e4 := Equiv.sum_comp (finProdFinEquiv (m := 4) (n := 2048)) (fun n : Fin (4 * 2048) => f n)
  refine Eq.trans ?_ ((e32.trans e4.symm).trans ?_)
  · refine Finset.sum_congr rfl fun p _ => congrArg f (Fin.ext ?_)
    simp only [finProdFinEquiv_apply_val]; omega
  · refine Finset.sum_congr rfl fun p _ => congrArg f (Fin.ext ?_)
    simp only [finProdFinEquiv_apply_val]; omega

/-- The sums after the run. -/
theorem final19 : (dats m 0 c).arrAt 19 (cfgs 0).N
    = (fun i => ((∑ b, ∑ s, A.addend b s (i 0) (i 1) : ℝ) : EReal) : FVec Ideal S8x1024 .f32) := by
  refine (dats m 0 c).arrAt_eq_of_covers 19 _ (by decide +kernel) fun t hf y => ?_
  blk_simp; rw [after0_19]
  refine (Pipeline.eq_sum_fin_of_reset_step_apply_of_flush (fun n h => (outsAt0 m c n h).2) 32 (fun _ => 0) (term A)
    (fun t h y => out19_A H t h y) (fun t h y => out19_B H t h y) t ((flush0_19 t).mp hf) y).trans ?_
  obtain ⟨i, d, rfl⟩ : ∃ (i : Fin 8) (d : Fin 1024), y = ix2 i d := ⟨y 0, y 1, eq_ix2 y⟩
  have e : ((cfg0.win 19).blk t).view.emb (ix2 i d) = ix2 i d := by
    blk_ext [idx t]
  have hN := lt_of_lt_of_eq t.isLt N_0
  rw [e, zero_add]
  show _ = ((∑ b, ∑ s, A.addend b s i d : ℝ) : EReal)
  have hb : ∀ (b : Fin 4) (s : Fin 2048), A.addend b s i d
      = (fun n : Fin 8192 => A.addend (bat n) (pos n) i d) (⟨b.val * 2048 + s.val, by omega⟩ : Fin 8192) := by
    intro b s
    have e1 : bat (⟨b.val * 2048 + s.val, by omega⟩ : Fin 8192) = b := by
      apply Fin.ext; simp only [bat]; omega
    have e2 : pos (⟨b.val * 2048 + s.val, by omega⟩ : Fin 8192) = s := by
      apply Fin.ext; simp only [pos]; omega
    show _ = A.addend (bat _) (pos _) i d
    rw [e1, e2]
  rw [Finset.sum_congr rfl fun b _ => Finset.sum_congr rfl fun s _ => hb b s,
    ← sum_rows fun n => A.addend (bat n) (pos n) i d, Finite.coe_sum]
  refine Finset.sum_congr rfl fun s _ => ?_
  have e3 : ∀ r, rowOf (⟨32 * (t.val / 32) + s.val, Pipeline.run_point_lt_of_flush t ((flush0_19 t).mp hf) s⟩ : Fin cfg0.N) r
      = (⟨s.val * 256 + r.val, by omega⟩ : Fin 8192) := by
    intro r
    apply Fin.ext; simp only [rowOf]; omega
  unfold term
  simp only [e3]
  rfl

end Cert.Norm

end
-- ==== Proof.NormRef.lean ====
/- The derivative of the projected norm, as the reference writes it out, element by element. -/
module

public import proofs.«01_k».proof.Proof.NormFinal
public import proofs.«01_k».proof.Proof.LossRef
public import proofs.«01_k».proof.Proof.Gen.NormReferenceIdeal.Run
public import proofs.«01_k».proof.Proof.Gen.NormReferenceIdeal.Read

@[expose] public section

set_option maxRecDepth 16384

noncomputable section

namespace Cert.Norm

open Idealize.ShloMosaic Idealize.ShloMosaic.TcCoe Idealize.SL.Sem
open Cert.NormReferenceIdeal Cert.NormReferenceIdeal.Read
open Cert.Loss (meanSq scale meanSq_pos dNorm eps_word width_word minus_half_word column_sum)

variable {x0 : FVec Ideal S4x2048x8208 .f32} {x1 : FVec Ideal S1024x9232 .f32} {x2 x3 : FVec Ideal S4x2048x1024 .f32} {x4 : FVec Ideal S1x1024 .f32} {A : Args}

/-- The reference's argument arrays hold those real numbers. -/
structure HoldsR (x0 : FVec Ideal S4x2048x8208 .f32) (x1 : FVec Ideal S1024x9232 .f32) (x2 x3 : FVec Ideal S4x2048x1024 .f32) (x4 : FVec Ideal S1x1024 .f32)
    (A : Args) : Prop where
  e0 : ∀ b s e, x0 (ix3 b s e) = (A.z b s e : EReal)
  e1 : ∀ d e, x1 (ix2 d e) = (A.w d e : EReal)
  e2 : ∀ b s d, x2 (ix3 b s d) = (A.x b s d : EReal)
  e3 : ∀ b s d, x3 (ix3 b s d) = (A.y b s d : EReal)
  e4 : ∀ d, x4 (ix2 0 d) = (A.p d : EReal)

variable (H : HoldsR x0 x1 x2 x3 x4 A) (b : Fin 4) (s : Fin 2048) (d : Fin 1024)
include H

/-- The mean square of a row, and the norm's small constant. -/
theorem r_mean : val_main_v7 (F := Ideal) x2 (ix3 b s 0) = (meanSq (A.x b s) : EReal) := by
  pointwise [val_main_v7, val_main_v6, val_main_cst_1, val_main_v5, val_main_v4, val_main_cst_0, val_main_v3, val_main_v2, val_main_cst, val_main_v1]
  simp only [H.e2, width_word, eps_word, ← EReal.coe_mul, ← Finite.coe_sum]
  rw [Ideal.div_coe (by norm_num), ← EReal.coe_mul, ← EReal.coe_add]
  unfold meanSq
  congr 1; ring

/-- The norm's scale. -/
theorem r_scale : val_main_v8 (F := Ideal) x2 (ix3 b s 0) = (scale (A.x b s) : EReal) := by
  pointwise [val_main_v8]
  have h := meanSq_pos (A.x b s)
  rw [r_mean H, Ideal.rsqrt_coe, if_neg (not_lt.mpr h.le), if_neg h.ne']
  rfl

/-- The derivative of the scale in the mean square. -/
theorem r_slope : val_main_v11 (F := Ideal) x2 (ix3 b s 0) = (-(1 / 2) * (scale (A.x b s) / meanSq (A.x b s)) : ℝ) := by
  pointwise [val_main_v11, val_main_v10, val_main_cst_2, val_main_v9]
  have h := meanSq_pos (A.x b s)
  rw [r_scale H, r_mean H, minus_half_word, Ideal.div_coe h.ne', ← EReal.coe_mul, ← EReal.coe_mul]
  congr 1; ring

/-- The normed row. -/
theorem r_normed : val_main_v13 (F := Ideal) x2 (ix3 b s d) = (A.x b s d * scale (A.x b s) : ℝ) := by
  pointwise [val_main_v13, val_main_v12]
  rw [H.e2, r_scale H, EReal.coe_mul]

/-- The cotangent over all of the projection's columns: zero in those that the step does not use. -/
theorem r_padded (e : Fin 9232) : val_main_v19 (F := Ideal) x0 (ix3 b s e) = ((if h : e.val < 8208 then A.z b s ⟨e.val, h⟩ else 0 : ℝ) : EReal) := by
  unfold val_main_v19
  by_cases h : e.val < 8208
  · rw [dif_pos h]
    refine (pad_apply_of_inside _ _ _ x0 _ _ _ _ (ix3 b s ⟨e.val, h⟩) ?_).trans (H.e0 _ _ _)
    intro a
    match a with
    | ⟨0, _⟩ => show b.val = 0 + b.val * 1; omega
    | ⟨1, _⟩ => show s.val = 0 + s.val * 1; omega
    | ⟨2, _⟩ => show e.val = 0 + e.val * 1; omega
  · rw [dif_neg h]
    refine (pad_apply_of_not_inside _ _ _ x0 _ _ _ _ 2 ?_).trans ?_
    · rintro ⟨_, _, h'⟩
      have h'' : (e.val - 0) / 1 < 8208 := h'
      omega
    · pointwise [val_main_cst_3]
      rfl

/-- The gradient of the projection's argument. -/
theorem r_grad : val_main_v20 (F := Ideal) x0 x1 (ix3 b s d) = (A.dh b s d : EReal) := by
  pointwise [val_main_v20]
  simp only [r_padded H, H.e1, ← EReal.coe_mul, ← Finite.coe_sum]
  refine congrArg _ ?_
  unfold Args.dh
  have e := Fin.sum_univ_add (a := 8208) (b := 1024) fun e : Fin (8208 + 1024) => (if h : e.val < 8208 then A.z b s ⟨e.val, h⟩ else 0) * A.w d e
  refine e.trans ?_
  have e1 : ∑ i : Fin 1024, (if h : (Fin.natAdd 8208 i).val < 8208 then A.z b s ⟨(Fin.natAdd 8208 i).val, h⟩ else 0) * A.w d (Fin.natAdd 8208 i) = 0 := by
    refine Finset.sum_eq_zero fun i _ => ?_
    rw [dif_neg (by rw [Fin.val_natAdd]; omega), zero_mul]
  rw [e1, add_zero]
  refine Finset.sum_congr rfl fun i _ => ?_
  rw [dif_pos (by rw [Fin.val_castAdd]; exact i.isLt)]
  rfl

/-- The normed row's gradient. -/
theorem r_cotangent : val_main_v25 (F := Ideal) x0 x1 x4 (ix3 b s d) = (A.dh b s d * A.p d : ℝ) := by
  pointwise [val_main_v25, val_main_v24, val_main_v14, val_main_v0]
  rw [r_grad H, H.e4, EReal.coe_mul]

/-- The gradient through the mean square. -/
theorem r_inner : val_main_v36 (F := Ideal) x0 x1 x2 x4 (ix3 b s d)
    = ((∑ j, A.x b s j * (A.dh b s j * A.p j)) * (-(1 / 2) * (scale (A.x b s) / meanSq (A.x b s))) / 1024 : ℝ) := by
  pointwise [val_main_v36, val_main_v35, val_main_cst_8, val_main_v34, val_main_v33, val_main_cst_7, val_main_v32, val_main_v29, val_main_v28, val_main_cst_6, val_main_v27]
  rw [Fin.sum_univ_one]
  simp only [r_slope H, H.e2, r_cotangent H, width_word, ← EReal.coe_mul, ← Finite.coe_sum]
  rw [Ideal.div_coe (by norm_num), ← EReal.coe_mul]
  congr 1; ring

/-- The gradient of the norm's argument, with the residual stream's. -/
theorem r_stream : val_main_v42 (F := Ideal) x0 x1 x2 x3 x4 (ix3 b s d) = (A.dx b s d : EReal) := by
  pointwise [val_main_v42, val_main_v40, val_main_v39, val_main_v38, val_main_v37, val_main_v31, val_main_v30]
  simp only [r_inner H, H.e2, H.e3, r_cotangent H, r_scale H, ← EReal.coe_mul, ← EReal.coe_add]
  refine EReal.coe_eq_coe_iff.mpr ?_
  unfold Args.dx dNorm
  have h := meanSq_pos (A.x b s)
  have e : scale (A.x b s) * scale (A.x b s) = 1 / meanSq (A.x b s) := by
    unfold scale
    rw [← mul_inv, Real.mul_self_sqrt h.le, one_div]
  have es : (∑ j, A.dh b s j * A.p j * (A.x b s j * scale (A.x b s))) = (∑ j, A.x b s j * (A.dh b s j * A.p j)) * scale (A.x b s) := by
    rw [Finset.sum_mul]
    exact Finset.sum_congr rfl fun j _ => by ring
  rw [es]
  generalize (∑ j, A.x b s j * (A.dh b s j * A.p j)) = S
  generalize scale (A.x b s) = r at e ⊢
  generalize meanSq (A.x b s) = q at e ⊢
  have e2 : r / q = r * (r * r) := by rw [e]; ring
  rw [e2]
  ring

/-- The sums: the weight's gradient in row 0. -/
theorem r_sums (i : Fin 8) : val_main_v45 (F := Ideal) x0 x1 x2 (ix2 i d) = ((∑ b, ∑ s, A.addend b s i d : ℝ) : EReal) := by
  pointwise [val_main_v45, val_main_v44, val_main_cst_9, val_main_v41, val_main_v26, val_main_cst_5, val_main_v23, val_main_v22, val_main_cst_4]
  unfold Args.addend
  by_cases h0 : i.val = 0
  · rw [dif_pos (by omega), column_sum, Fin.sum_univ_one, Fin.sum_univ_one, zero_add]
    pointwise
    rw [column_sum, zero_add]
    simp only [if_pos h0, Finite.coe_sum]
    refine Finset.sum_congr rfl fun b _ => Finset.sum_congr rfl fun s _ => ?_
    pointwise [val_main_v21]
    rw [r_normed H, r_grad H, ← EReal.coe_mul]
    congr 1; ring
  · rw [dif_neg (by omega)]
    simp only [if_neg h0, Finset.sum_const_zero, EReal.coe_zero]

/-- The stream's gradient, with its rows in one axis. -/
theorem r_rows (n : Fin 8192) : val_main_v43 (F := Ideal) x0 x1 x2 x3 x4 (ix2 n d) = (A.dx (bat n) (pos n) d : EReal) := by
  pointwise [val_main_v43]
  exact r_stream H _ _ _

end Cert.Norm

end
-- ==== Proof.Norm.lean ====
/- The gradient of the projected norm: kernel and reference compute the same two arrays. -/
module

public import proofs.«01_k».proof.Defs
public import proofs.«01_k».proof.Proof.NormRef
public import proofs.«01_k».proof.Proof.NormFinal
public import proofs.«01_k».proof.Proof.Finite
public import proofs.«01_k».proof.Proof.Gen.Pre_dh_finite
public import proofs.«01_k».proof.Proof.Gen.NormReferenceIdeal.Run

@[expose] public section

set_option maxRecDepth 16384

noncomputable section

namespace Cert.Norm

open Idealize.ShloMosaic Idealize.ShloMosaic.TcCoe Idealize.SL.Sem
open Cert.NormKernelIdeal Cert.NormKernelIdeal.Gen

/-- A finite argument is an array of real numbers. -/
theorem real_args (x0 : FVec Ideal Cert.Pre_dh_finite.S4x2048x8208 .f32) (x1 : FVec Ideal Cert.Pre_dh_finite.S1024x9232 .f32)
    (x2 x3 : FVec Ideal Cert.Pre_dh_finite.S4x2048x1024 .f32) (x4 : FVec Ideal Cert.Pre_dh_finite.S1x1024 .f32)
    (h : Cert.Pre_dh_finite.fn (F := Ideal) x0 x1 x2 x3 x4 = fun _ => 1#1) :
    ((∃ x : Cert.Pre_dh_finite.S4x2048x8208.Idx → ℝ, x0 = fun i => (x i : EReal))
      ∧ ∃ x : Cert.Pre_dh_finite.S1024x9232.Idx → ℝ, x1 = fun i => (x i : EReal))
    ∧ ((∃ x : Cert.Pre_dh_finite.S4x2048x1024.Idx → ℝ, x2 = fun i => (x i : EReal))
      ∧ ∃ x : Cert.Pre_dh_finite.S4x2048x1024.Idx → ℝ, x3 = fun i => (x i : EReal))
    ∧ ∃ x : Cert.Pre_dh_finite.S1x1024.Idx → ℝ, x4 = fun i => (x i : EReal) := by
  have e := congrFun h ix0
  dsimp only [Cert.Pre_dh_finite.fn, Cert.Pre_dh_finite.fn_part1] at e
  obtain ⟨e0123, e4⟩ := Cert.Finite.and_one _ _ _ e
  obtain ⟨e01, e23⟩ := Cert.Finite.and_one _ _ _ e0123
  obtain ⟨e0, e1⟩ := Cert.Finite.and_one _ _ _ e01
  obtain ⟨e2, e3⟩ := Cert.Finite.and_one _ _ _ e23
  exact ⟨⟨Cert.Finite.real_of_all _ _ _ _ _ _ e0, Cert.Finite.real_of_all _ _ _ _ _ _ e1⟩,
    ⟨Cert.Finite.real_of_all _ _ _ _ _ _ e2, Cert.Finite.real_of_all _ _ _ _ _ _ e3⟩, Cert.Finite.real_of_all _ _ _ _ _ _ e4⟩

variable (m : (ℓ : Loc nD τ sig) → Buf (Elt Ideal) ℓ) (c : Dev nD)

/-- Finite argument arrays hold real numbers, by their axes. -/
theorem holds (h : Cert.Pre_dh_finite.fn (F := Ideal) (m ((c : Thread nD τ).loc main_arg0)) (m ((c : Thread nD τ).loc main_arg1))
    (m ((c : Thread nD τ).loc main_arg2)) (m ((c : Thread nD τ).loc main_arg3)) (m ((c : Thread nD τ).loc main_arg4)) = fun _ => 1#1) :
    ∃ A : Args, Holds m c A := by
  obtain ⟨⟨⟨a0, h0⟩, ⟨a1, h1⟩⟩, ⟨⟨a2, h2⟩, ⟨a3, h3⟩⟩, ⟨a4, h4⟩⟩ := real_args _ _ _ _ _ h
  refine ⟨⟨fun b s d => a0 (ix3 b s d), fun i j => a1 (ix2 i j), fun b s d => a2 (ix3 b s d), fun b s d => a3 (ix3 b s d), fun d => a4 (ix2 0 d)⟩, ?_, ?_, ?_, ?_, ?_⟩
  · rw [h0]; funext i; idx_vars i
  · rw [h1]; funext i; idx_vars i
  · rw [h2]; funext i; idx_vars i
  · rw [h3]; funext i; idx_vars i
  · rw [h4]; funext i
    obtain ⟨z, d, rfl⟩ : ∃ (z : Fin 1) (d : Fin 1024), i = ix2 z d := ⟨i 0, i 1, eq_ix2 i⟩
    obtain rfl : z = 0 := Fin.fin_one_eq_zero z
    rfl

variable {m c}

/-- The same real numbers, read off the arrays that the reference takes. -/
theorem holdsR {A : Args} (H : Holds m c A) : HoldsR (m ((c : Thread nD τ).loc main_arg0)) (m ((c : Thread nD τ).loc main_arg1))
    (m ((c : Thread nD τ).loc main_arg2)) (m ((c : Thread nD τ).loc main_arg3)) (m ((c : Thread nD τ).loc main_arg4)) A :=
  ⟨fun _ _ _ => congrFun H.hz _, fun _ _ => congrFun H.hw _, fun _ _ _ => congrFun H.hx _, fun _ _ _ => congrFun H.hy _,
    fun _ => congrFun H.hp _⟩

omit m c in
/-- What the kernel's run leaves in its results and its arguments. -/
theorem ends (m : (ℓ : Loc nD τ sig) → Buf (Elt Ideal) ℓ) (g : Dev nD → PrngReg) :
    θ_run defs (onTc (τ := τ) (main (F := Ideal))) ⟨m, fun _ => 0, g⟩ fun r => ∀ c : Dev nD,
      r.2.mem ((c : Thread nD τ).loc main_v35_0) = (dats m 0 c).arrAt 18 (cfgs 0).N
      ∧ r.2.mem ((c : Thread nD τ).loc main_v35_1) = (dats m 0 c).arrAt 19 (cfgs 0).N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => ⟨(h.1 c).1 18, (h.1 c).1 19, (h.2 c).1, (h.2 c).2.1, (h.2 c).2.2.1, (h.2 c).2.2.2.1, (h.2 c).2.2.2.2⟩)
    (Idealize.ShloMosaic.θ_run_and (run_main m g) (unchanged m g))

set_option maxHeartbeats 1000000 in
/-- Kernel and reference compute the same gradient and sums, over finite arguments. -/
theorem algebraic : Cert.algebraic_NormKernelIdeal_NormReferenceIdeal_pre_dh_finite := by
  pair_intro
  · run_from ends m g
  · run_from Cert.NormReferenceIdeal.Value.run m' g'
    · obtain ⟨A, H⟩ := holds m c (hpre c)
      obtain ⟨a0, a1, a2, a3, a4⟩ := hagree c
      rw [final18 H]
      refine (Cert.NormReferenceIdeal.Read.val_main_v43_eq _ _).trans ?_
      try rw [a0, a1, a2, a3, a4]
      funext i; idx_vars i
      exact r_rows (holdsR H) _ _
    · obtain ⟨A, H⟩ := holds m c (hpre c)
      obtain ⟨a0, a1, a2, a3, a4⟩ := hagree c
      rw [final19 H]
      refine (Cert.NormReferenceIdeal.Read.val_main_v45_eq _ _ _).trans ?_
      try rw [a0, a1, a2]
      funext i; idx_vars i
      exact r_sums (holdsR H) _ _

end Cert.Norm

end
-- ==== Proof.Join.lean ====
module

public import proofs.«01_k».proof.Proof.Gen.JoinKernelIdeal.Frame
public import proofs.«01_k».proof.Defs
public import proofs.«01_k».proof.Proof.Gen.JoinReferenceIdeal.Run
public import Idealize.ShloMosaic.Lib.Pipeline.ValueKit
public import Idealize.ShloMosaic.Lib.Claim

/- The forward call of the gated merge: both branches' output projections and their sum under the two merge gates, as
   formulas over the argument arrays, and that the reference computes the same formulas. -/

@[expose] public section

set_option maxRecDepth 16384

noncomputable section

namespace Cert.Join

open Idealize.ShloMosaic Idealize.ShloMosaic.TcCoe Idealize.SL.Sem
open Idealize.ShloMosaic.Pipeline (Dat)
open Cert.JoinKernelIdeal Cert.JoinKernelIdeal.Gen

/-- A branch's output projection at row `i 0` (row `i 0 % 2048` of sequence `i 0 / 2048`) and column `i 1`. -/
def proj (U : FVec Ideal S4x2048x1024 .f32) (W : FVec Ideal S1024x1024 .f32) : FVec Ideal S8192x1024 .bf16 := fun i =>
  ∑ k : Fin 1024, U (ix3 (⟨(i 0 : ℕ) / 2048, by idx_bounds i; omega⟩ : Fin 4) (⟨(i 0 : ℕ) % 2048, by omega⟩ : Fin 2048) k)
    * W (ix2 k (i 1))

/-- The merge gate whose columns of the combined projection start at `o`. -/
def gate (o : ℕ) (ho : o + 1024 ≤ 9232) (Z : FVec Ideal S4x2048x9232 .f32) (i : S8192x1024.Idx) : EReal :=
  Ideal.logistic (Z (ix3 (⟨(i 0 : ℕ) / 2048, by idx_bounds i; omega⟩ : Fin 4) (⟨(i 0 : ℕ) % 2048, by omega⟩ : Fin 2048)
    (⟨o + (i 1 : ℕ), by idx_bounds i; omega⟩ : Fin 9232)))

/-- The merged activations: each branch's projection under its gate, added. -/
def merged (U V : FVec Ideal S4x2048x1024 .f32) (Z : FVec Ideal S4x2048x9232 .f32) (A B : FVec Ideal S1024x1024 .f32) :
    FVec Ideal S8192x1024 .bf16 := fun i =>
  gate 6160 (by omega) Z i * proj U A i + gate 7184 (by omega) Z i * proj V B i

variable (m : (ℓ : Loc nD τ sig) → Buf (Elt Ideal) ℓ)

/-- Every window's block index at every grid point. -/
theorem idx : ∀ t : Fin cfg0.N, win0_0.index t = ![t.val, 0] ∧ win0_1.index t = ![t.val, 0]
    ∧ win0_2.index t = ![0, 0] ∧ win0_3.index t = ![0, 0] ∧ win0_4.index t = ![t.val, 3]
    ∧ win0_5.index t = ![t.val, 4] ∧ win0_6.index t = ![t.val, 0] ∧ win0_7.index t = ![t.val, 0]
    ∧ win0_8.index t = ![t.val, 0] :=
  (by decide +kernel : ∀ t : Fin grid0.N, _)

/-- The attention branch, flattened: row `i 0` is row `i 0 % 2048` of sequence `i 0 / 2048`. -/
theorem entry_a (c : Dev nD) (i : S8192x1024.Idx) : V m c main_v1 i
    = m ((c : Thread nD τ).loc main_arg0) (ix3 (⟨(i 0 : ℕ) / 2048, by idx_bounds i; omega⟩ : Fin 4) (⟨(i 0 : ℕ) % 2048, by omega⟩ : Fin 2048) (i 1)) := by
  entry_read
  idx_vars i
  pointwise

/-- The recurrent branch, flattened. -/
theorem entry_r (c : Dev nD) (i : S8192x1024.Idx) : V m c main_v3 i
    = m ((c : Thread nD τ).loc main_arg1) (ix3 (⟨(i 0 : ℕ) / 2048, by idx_bounds i; omega⟩ : Fin 4) (⟨(i 0 : ℕ) % 2048, by omega⟩ : Fin 2048) (i 1)) := by
  entry_read
  idx_vars i
  pointwise

theorem entry_wa (c : Dev nD) (i : S1024x1024.Idx) : V m c main_v4 i = m ((c : Thread nD τ).loc main_arg3) i := by
  entry_read
  pointwise

theorem entry_wr (c : Dev nD) (i : S1024x1024.Idx) : V m c main_v5 i = m ((c : Thread nD τ).loc main_arg4) i := by
  entry_read
  pointwise

/-- The columns of the combined projection that the kernel keeps start at 3088. -/
theorem entry_z (c : Dev nD) (i : S8192x5120.Idx) : V m c main_v8 i
    = m ((c : Thread nD τ).loc main_arg2) (ix3 (⟨(i 0 : ℕ) / 2048, by idx_bounds i; omega⟩ : Fin 4) (⟨(i 0 : ℕ) % 2048, by omega⟩ : Fin 2048) (⟨3088 + (i 1 : ℕ), by idx_bounds i; omega⟩ : Fin 9232)) := by
  entry_read
  idx_vars i
  pointwise

/-- Block `t` of window 0: its row `x 0` is row `512 t + x 0` of the flattened array. -/
theorem block_a (c : Dev nD) (t : Fin cfg0.N) (x : S512x1024.Idx) : iblk m c 0 t x
    = m ((c : Thread nD τ).loc main_arg0) (ix3 (⟨(t.val * 512 + (x 0 : ℕ)) / 2048, by have := lt_of_lt_of_eq t.isLt N_0; idx_bounds x; omega⟩ : Fin 4)
        (⟨(t.val * 512 + (x 0 : ℕ)) % 2048, by omega⟩ : Fin 2048) (x 1)) := by
  refine (entry_a m c _).trans ?_
  blk_ext [idx t]

/-- Block `t` of window 1, likewise. -/
theorem block_r (c : Dev nD) (t : Fin cfg0.N) (x : S512x1024.Idx) : iblk m c 1 t x
    = m ((c : Thread nD τ).loc main_arg1) (ix3 (⟨(t.val * 512 + (x 0 : ℕ)) / 2048, by have := lt_of_lt_of_eq t.isLt N_0; idx_bounds x; omega⟩ : Fin 4)
        (⟨(t.val * 512 + (x 0 : ℕ)) % 2048, by omega⟩ : Fin 2048) (x 1)) := by
  refine (entry_r m c _).trans ?_
  blk_ext [idx t]

theorem block_wa (c : Dev nD) (t : Fin cfg0.N) (x : S1024x1024.Idx) : iblk m c 2 t x = m ((c : Thread nD τ).loc main_arg3) x := by
  refine (entry_wa m c _).trans ?_
  blk_ext [idx t]

theorem block_wr (c : Dev nD) (t : Fin cfg0.N) (x : S1024x1024.Idx) : iblk m c 3 t x = m ((c : Thread nD τ).loc main_arg4) x := by
  refine (entry_wr m c _).trans ?_
  blk_ext [idx t]

/-- Block `t` of window 4: the merge gate whose columns start at 6160. -/
theorem block_ga (c : Dev nD) (t : Fin cfg0.N) (x : S512x1024.Idx) : iblk m c 4 t x
    = m ((c : Thread nD τ).loc main_arg2) (ix3 (⟨(t.val * 512 + (x 0 : ℕ)) / 2048, by have := lt_of_lt_of_eq t.isLt N_0; idx_bounds x; omega⟩ : Fin 4)
        (⟨(t.val * 512 + (x 0 : ℕ)) % 2048, by omega⟩ : Fin 2048) (⟨6160 + (x 1 : ℕ), by idx_bounds x; omega⟩ : Fin 9232)) := by
  refine (entry_z m c _).trans ?_
  blk_ext [idx t]

/-- Block `t` of window 5: the merge gate whose columns start at 7184. -/
theorem block_gr (c : Dev nD) (t : Fin cfg0.N) (x : S512x1024.Idx) : iblk m c 5 t x
    = m ((c : Thread nD τ).loc main_arg2) (ix3 (⟨(t.val * 512 + (x 0 : ℕ)) / 2048, by have := lt_of_lt_of_eq t.isLt N_0; idx_bounds x; omega⟩ : Fin 4)
        (⟨(t.val * 512 + (x 0 : ℕ)) % 2048, by omega⟩ : Fin 2048) (⟨7184 + (x 1 : ℕ), by idx_bounds x; omega⟩ : Fin 9232)) := by
  refine (entry_z m c _).trans ?_
  blk_ext [idx t]

/-- What point `t` stores for window 6 is the attention branch's projection at the block's place. -/
theorem point6 (c : Dev nD) (t : Fin cfg0.N) (y) :
    k0_pay4 (iblk m c 0 t) (iblk m c 2 t) y
      = proj (m ((c : Thread nD τ).loc main_arg0)) (m ((c : Thread nD τ).loc main_arg3)) (((cfg0.win 6).blk t).view.emb y) := by
  pointwise [k0_pay4, k0_pay2, proj, zero_add, block_a m c t, block_wa m c t]
  blk_point [idx t]

/-- Result array 0 after the run: the attention branch's projection. -/
theorem final6 (c : Dev nD) : (dats m 0 c).arrAt 6 (cfgs 0).N
    = proj (m ((c : Thread nD τ).loc main_arg0)) (m ((c : Thread nD τ).loc main_arg3)) := by
  refine (dats m 0 c).arrAt_eq_of_covers 6 _ (by decide +kernel) fun t hf y => ?_
  blk_simp; rw [after0_6]; frame_out
  exact point6 m c t y

/-- What point `t` stores for window 7 is the recurrent branch's projection at the block's place. -/
theorem point7 (c : Dev nD) (t : Fin cfg0.N) (y) :
    k0_pay5 (iblk m c 1 t) (iblk m c 3 t) y
      = proj (m ((c : Thread nD τ).loc main_arg1)) (m ((c : Thread nD τ).loc main_arg4)) (((cfg0.win 7).blk t).view.emb y) := by
  pointwise [k0_pay5, k0_pay3, proj, zero_add, block_r m c t, block_wr m c t]
  blk_point [idx t]

/-- Result array 1 after the run: the recurrent branch's projection. -/
theorem final7 (c : Dev nD) : (dats m 0 c).arrAt 7 (cfgs 0).N
    = proj (m ((c : Thread nD τ).loc main_arg1)) (m ((c : Thread nD τ).loc main_arg4)) := by
  refine (dats m 0 c).arrAt_eq_of_covers 7 _ (by decide +kernel) fun t hf y => ?_
  blk_simp; rw [after0_7]; frame_out
  exact point7 m c t y

/-- What point `t` stores for window 8 is the merged activations at the block's place. -/
theorem point8 (c : Dev nD) (t : Fin cfg0.N) (y) :
    k0_pay1 (k0_pay3 (iblk m c 1 t) (iblk m c 3 t)) (k0_pay6 (iblk m c 0 t) (iblk m c 2 t) (iblk m c 4 t)) (k0_pay7 (iblk m c 5 t)) y
      = merged (m ((c : Thread nD τ).loc main_arg0)) (m ((c : Thread nD τ).loc main_arg1)) (m ((c : Thread nD τ).loc main_arg2))
        (m ((c : Thread nD τ).loc main_arg3)) (m ((c : Thread nD τ).loc main_arg4)) (((cfg0.win 8).blk t).view.emb y) := by
  pointwise [k0_pay1, k0_pay2, k0_pay3, k0_pay6, k0_pay7, block_a m c t, block_r m c t, block_wa m c t, block_wr m c t, block_ga m c t,
    block_gr m c t, merged, proj, gate, Ideal.logistic, zero_sub, zero_add]
  blk_point [idx t]

/-- Result array 2 after the run: the merged activations. -/
theorem final8 (c : Dev nD) : (dats m 0 c).arrAt 8 (cfgs 0).N
    = merged (m ((c : Thread nD τ).loc main_arg0)) (m ((c : Thread nD τ).loc main_arg1)) (m ((c : Thread nD τ).loc main_arg2))
        (m ((c : Thread nD τ).loc main_arg3)) (m ((c : Thread nD τ).loc main_arg4)) := by
  refine (dats m 0 c).arrAt_eq_of_covers 8 _ (by decide +kernel) fun t hf y => ?_
  blk_simp; rw [after0_8]; frame_out
  exact point8 m c t y

/-- Kernel and reference compute the same projections and the same merged activations. -/
theorem algebraic : Cert.algebraic_JoinKernelIdeal_JoinReferenceIdeal := by
  pair_intro
  · run_from Cert.JoinKernelIdeal.Gen.run_main m g
  · run_from Cert.JoinReferenceIdeal.Value.run m' g'
    · rw [final6]; funext i; idx_vars i
      pointwise [proj]
    · rw [final7]; funext i; idx_vars i
      pointwise [proj]
    · rw [final8]; funext i; idx_vars i
      pointwise [merged, proj, gate, Ideal.logistic]

end Cert.Join

end
-- ==== Proof.FoxHost.lean ====
/- The forward kernel's operands, prepared on the host, element by element. -/
module

public import proofs.«01_k».proof.Proof.AttnHost
public import proofs.«01_k».proof.Proof.Gen.FoxKernelIdeal.Frame
public import Idealize.ShloMosaic.Lib.Pipeline.ValueKit
public import Idealize.ShloMosaic.Lib.StableHlo.RunRead

@[expose] public section

set_option maxRecDepth 16384

noncomputable section

namespace Cert.Fox

open Idealize.ShloMosaic Idealize.ShloMosaic.TcCoe Idealize.SL.Sem
open Cert.FoxKernelIdeal Cert.FoxKernelIdeal.Gen

open Cert.Attn (Args hPairs hJoin hPairs_apply hJoin_apply)

variable (m : (ℓ : Loc nD τ sig) → Buf (Elt Ideal) ℓ) (c : Dev nD) (A : Args)

/-- The argument arrays of queries, keys, values and biases hold those real numbers. -/
structure Holds : Prop where
  eq_q : m ((c : Thread nD τ).loc main_arg0) = fun i => (A.q (i 0) (i 1) (i 2) (i 3) : EReal)
  eq_k : m ((c : Thread nD τ).loc main_arg1) = fun i => (A.k (i 0) (i 1) (i 2) (i 3) : EReal)
  eq_v : m ((c : Thread nD τ).loc main_arg2) = fun i => (A.v (i 0) (i 1) (i 2) (i 3) : EReal)
  eq_c : m ((c : Thread nD τ).loc main_arg3) = fun i => (A.c (i 0) (i 1) (i 2) : EReal)

variable {m c A} (H : Holds m c A)

theorem V_qkv : V m c main_v7 = truncf .bf16 (hPairs (hJoin (m ((c : Thread nD τ).loc main_arg0)) (m ((c : Thread nD τ).loc main_arg1)) (m ((c : Thread nD τ).loc main_arg2)))) bitsLt_bf16_f32 := by
  show StableHlo.after hostOps0 (fun b => m (c, b)) (Proc.devRef .tc main_v7) = _
  after_reads_simp
  have join (x0 x1 x2 : FVec Ideal S4x2048x16x64 .f32) (y0 y1 y2 : FVec Ideal S4x2048x1024 .f32)
      (h0 : y0 = shapeCast S4x2048x1024 x0 shapeCasts_S4x2048x16x64_S4x2048x1024)
      (h1 : y1 = shapeCast S4x2048x1024 x1 shapeCasts_S4x2048x16x64_S4x2048x1024)
      (h2 : y2 = shapeCast S4x2048x1024 x2 shapeCasts_S4x2048x16x64_S4x2048x1024) :
      concatenate S4x2048x3072 2 [⟨S4x2048x1024, y0⟩, ⟨S4x2048x1024, y1⟩, ⟨S4x2048x1024, y2⟩]
        concatenates_S4x2048x1024_S4x2048x1024_S4x2048x1024_S4x2048x3072_d2 = hJoin x0 x1 x2 := by
    subst h0 h1 h2
    rfl
  have e0 : StableHlo.upto hostOps0 (fun b => m (c, b)) 3 (Proc.devRef .tc main_v0)
      = shapeCast S4x2048x1024 (m ((c : Thread nD τ).loc main_arg0)) shapeCasts_S4x2048x16x64_S4x2048x1024 := by
    after_reads_simp
    rfl
  have e1 : StableHlo.upto hostOps0 (fun b => m (c, b)) 3 (Proc.devRef .tc main_v1)
      = shapeCast S4x2048x1024 (m ((c : Thread nD τ).loc main_arg1)) shapeCasts_S4x2048x16x64_S4x2048x1024 := by
    after_reads_simp
    rfl
  have e2 : StableHlo.upto hostOps0 (fun b => m (c, b)) 3 (Proc.devRef .tc main_v2)
      = shapeCast S4x2048x1024 (m ((c : Thread nD τ).loc main_arg2)) shapeCasts_S4x2048x16x64_S4x2048x1024 := by
    after_reads_simp
    rfl
  exact congrArg (fun x => truncf .bf16 (hPairs x) bitsLt_bf16_f32) (join _ _ _ _ _ _ e0 e1 e2)

/-- The operand of gates. -/
theorem gate_entry (i : S4x2048x5120.Idx) : V m c main_v11 i = m ((c : Thread nD τ).loc main_arg4) i := by
  entry_read
  pointwise

include H

/-- The operand of queries, keys and values: per pair of heads, the three parts side by side. -/
theorem qkv_apply (b : Fin 4) (t : Fin 2048) (p : Fin 8) (j : Fin 3) (l : Fin 128) :
    V m c main_v7 (ix3 b t (⟨(p.val * 3 + j.val) * 128 + l.val, by omega⟩ : Fin 3072))
      = ((match j with | 0 => A.q | 1 => A.k | 2 => A.v) b t (⟨p.val * 2 + l.val / 64, by omega⟩ : Fin 16) (⟨l.val % 64, by omega⟩ : Fin 64) : EReal) := by
  have e : (⟨(j.val * 8 + p.val) * 128 + l.val, by omega⟩ : Fin 3072)
      = ⟨j.val * 1024 + (⟨p.val * 128 + l.val, by omega⟩ : Fin 1024).val, by dsimp only; omega⟩ := Fin.ext (by dsimp only; omega)
  have e1 : (⟨(p.val * 128 + l.val) / 64, by omega⟩ : Fin 16) = ⟨p.val * 2 + l.val / 64, by omega⟩ := Fin.ext (by dsimp only; omega)
  have e2 : (⟨(p.val * 128 + l.val) % 64, by omega⟩ : Fin 64) = ⟨l.val % 64, by omega⟩ := Fin.ext (by dsimp only; omega)
  rw [V_qkv]
  refine (truncf_apply _ _ _ _).trans ?_
  show hPairs _ _ = _
  rw [hPairs_apply, e, hJoin_apply]
  dsimp only
  rw [e1, e2]
  clear e e1 e2
  rcases (by revert j; decide : j = 0 ∨ j = 1 ∨ j = 2) with rfl | rfl | rfl
  · exact congrFun H.eq_q _
  · exact congrFun H.eq_k _
  · exact congrFun H.eq_v _

/-- The operand of biases by row. -/
theorem crow_apply (b : Fin 4) (p : Fin 8) (hh : Fin 2) (i : Fin 8) (r : Fin 256) :
    V m c main_v12 (ix5 b p hh i r) = (A.c b (⟨i.val * 256 + r.val, by omega⟩ : Fin 2048) (⟨p.val * 2 + hh.val, by omega⟩ : Fin 16) : EReal) := by
  entry_read
  refine Eq.trans ?_ (congrFun H.eq_c (ix3 b _ _))
  pointwise

/-- The operand of biases by lane. -/
theorem cexp_apply (b : Fin 4) (t : Fin 2048) (l : Fin 1024) :
    V m c main_v10 (ix3 b t l) = (A.c b t (⟨l.val / 64, by omega⟩ : Fin 16) : EReal) := by
  entry_read
  refine Eq.trans ?_ (congrFun H.eq_c (ix3 b _ _))
  pointwise

end Cert.Fox

end
-- ==== Proof.FoxBody.lean ====
/- The attention forward body, written once for every tile: what it keeps per row tile and head, how a key tile changes a
   query tile's running maximum and running sum, and the stores it makes. -/
module

public import proofs.«01_k».proof.Proof.AttnBody
public import proofs.«01_k».proof.Proof.Gen.FoxKernelIdeal.Skeleton
public import Idealize.ShloMosaic.Lib.Pipeline.ValueKit

@[expose] public section

set_option maxRecDepth 16384

noncomputable section

namespace Cert.Fox

open Idealize.ShloMosaic Idealize.ShloMosaic.TcCoe Idealize.SL.Sem
open Cert.FoxKernelIdeal Cert.FoxKernelIdeal.Gen
open Cert.Attn (half spare zeros zerosH onesH hi rest)

variable {F : FTy → Type} [FloatOps F] [Named F]

/-! ## Masks, columns and rows of a tile -/

/-- A lane's number. -/
def lane : IVec S1x128 32 := iota .tc S1x128 32 [1] iota_S1x128_d1_w32

/-- A sublane's number. -/
def sub : IVec S128x1 32 := iota .tc S128x1 32 [0] iota_S128x1_d0_w32

/-- Where a row's lane compares with a number. -/
def laneIs (p : CmpIPredicate) (n : BitVec 32) : IVec S256x128 1 :=
  broadcastTo S256x128 (shapeCast S1x128 (cmpi p lane (broadcast S1x128 n)) shapeCasts_S1x128_S1x128)
    broadcasts_S1x128_S256x128

/-- Where a column's sublane compares with a number. -/
def subIs (p : CmpIPredicate) (n : BitVec 32) : IVec S128x256 1 :=
  broadcastTo S128x256 (shapeCast S128x1 (cmpi p sub (broadcast S128x1 n)) shapeCasts_S128x1_S128x1)
    broadcasts_S128x1_S128x256

/-- A column on every lane. -/
def onLanes {φ : FTy} (c : FVec F S256x1 φ) : FVec F S256x128 φ :=
  broadcastTo S256x128 (shapeCast S256x1 c shapeCasts_S256x1_S256x1) broadcasts_S256x1_S256x128

/-- A row on every sublane. -/
def onSubs {φ : FTy} (r : FVec F S1x256 φ) : FVec F S128x256 φ :=
  broadcastTo S128x256 (shapeCast S1x256 r shapeCasts_S1x256_S1x256) broadcasts_S1x256_S128x256

/-- Ones of a shape. -/
def ones (s : Shape) : FVec F s .f32 := broadcast s (Scalar.ofBits .f32 0x3F800000#32)

/-- Lane `n` of a tile set to a column. -/
def setLane (n : ℕ) (x t : FVec F S256x128 .bf16) : FVec F S256x128 .bf16 := select (laneIs .eq (BitVec.ofNat 32 n)) x t

/-- Sublane `n` of a tile set to a row. -/
def setSub (n : ℕ) (x t : FVec F S128x256 .bf16) : FVec F S128x256 .bf16 := select (subIs .eq (BitVec.ofNat 32 n)) x t

/-- A head's lanes of a tile. -/
def mineL (hh : Fin 2) (t : FVec F S256x128 .bf16) : FVec F S256x128 .bf16 :=
  select (laneIs (half hh) 64#32) t (zerosH S256x128)

/-- A head's sublanes of a transposed tile. -/
def mineS (hh : Fin 2) (t : FVec F S128x256 .bf16) : FVec F S128x256 .bf16 :=
  select (subIs (half hh) 64#32) t (zerosH S128x256)

/-- A tile without its leading axis. -/
def flat {φ : FTy} (x : FVec F S1x256x128 φ) : FVec F S256x128 φ := shapeCast S256x128 x shapeCasts_S1x256x128_S256x128

/-- A tile transposed. -/
def tr (x : FVec F S256x128 .bf16) : FVec F S128x256 .bf16 :=
  truncf .bf16 (transpose S128x256 [1, 0] (extf .f32 x bitsLt_bf16_f32) transposes_S256x128_p1_0_S128x256) bitsLt_bf16_f32

/-- The queries at their scale. -/
def scaled (q : Vec F S1x256x128 .bf16) : FVec F S256x128 .bf16 :=
  mulf (flat q) (broadcast S256x128 (Scalar.ofBits .bf16 0x3E00#16))

/-- The first column of a half of a tile. -/
def column (hh : Fin 2) (x : FVec F S256x128 .f32) : FVec F S256x1 .f32 :=
  match hh with
  | 0 => extractStridedSlice S256x1 ![0, 0] x slices_S256x128_o0_0_S256x1
  | 1 => extractStridedSlice S256x1 ![0, 64] x slices_S256x128_o0_64_S256x1

/-- A row without its leading axes. -/
def row (x : Vec F S1x1x1x1x256 .f32) : FVec F S1x256 .f32 := shapeCast S1x256 x shapeCasts_S1x1x1x1x256_S1x256

/-! ## What the body keeps of a row tile, per head -/

/-- What the body loads at a point: the row tiles of its arguments. -/
structure Loads (F : FTy → Type) where
  q : Fin 8 → Vec F S1x256x128 .bf16
  k : Fin 8 → Vec F S1x256x128 .bf16
  v : Fin 8 → Vec F S1x256x128 .bf16
  c : Fin 8 → Vec F S1x256x128 .f32
  cr : Fin 2 → Fin 8 → Vec F S1x1x1x1x256 .f32
  g : Fin 8 → Vec F S1x256x128 .bf16

section
variable (X : Loads F)

/-- The queries of a head, with its bias in three parts and three ones on the free lanes. -/
def tQ (hh : Fin 2) (i : Fin 8) : FVec F S256x128 .bf16 :=
  setLane (spare hh + 5) (onesH S256x128) <| setLane (spare hh + 4) (onesH S256x128) <| setLane (spare hh + 3) (onesH S256x128) <|
    setLane (spare hh + 2) (onLanes (hi (rest (rest (column hh (flat (X.c i))))))) <|
    setLane (spare hh + 1) (onLanes (hi (rest (column hh (flat (X.c i)))))) <|
    setLane (spare hh) (onLanes (hi (column hh (flat (X.c i))))) (mineL hh (scaled (X.q i)))

/-- The keys of a head as columns, with three ones and the negated bias in three parts on the free sublanes. -/
def tK (hh : Fin 2) (i : Fin 8) : FVec F S128x256 .bf16 :=
  setSub (spare hh + 5) (onSubs (hi (rest (rest (subf (zeros S1x256) (row (X.cr hh i))))))) <|
    setSub (spare hh + 4) (onSubs (hi (rest (subf (zeros S1x256) (row (X.cr hh i)))))) <|
    setSub (spare hh + 3) (onSubs (hi (subf (zeros S1x256) (row (X.cr hh i))))) <|
    setSub (spare hh + 2) (onesH S128x256) <| setSub (spare hh + 1) (onesH S128x256) <| setSub (spare hh) (onesH S128x256)
      (mineS hh (tr (flat (X.k i))))

/-- The values of a head, with a one on the first free lane. -/
def tV (hh : Fin 2) (i : Fin 8) : FVec F S256x128 .bf16 := setLane (spare hh) (onesH S256x128) (mineL hh (flat (X.v i)))

end

/-- Where the row tile `i` of head `hh` stands in the scratch of values. -/
def atV (hh : Fin 2) (i : Fin 8) : Rect S2x8x256x128 :=
  Rect.unit (s := S2x8x256x128) ![hh.val, i.val, 0, 0] S1x1x256x128.size (by
    intro a; fin_cases a <;> simp [S2x8x256x128, S1x1x256x128] <;> omega)

/-- Where the row tile `i` of head `hh` stands in the scratch of keys. -/
def atK (hh : Fin 2) (i : Fin 8) : Rect S2x8x128x256 :=
  Rect.unit (s := S2x8x128x256) ![hh.val, i.val, 0, 0] S1x1x128x256.size (by
    intro a; fin_cases a <;> simp [S2x8x128x256, S1x1x128x256] <;> omega)

/-- Where the row tile `i` stands in the output. -/
def atRow (i : Fin 8) : Rect S1x2048x128 :=
  Rect.unit (s := S1x2048x128) ![0, 256 * i.val, 0] S1x256x128.size (by
    intro a; fin_cases a <;> simp [S1x2048x128, S1x256x128] <;> omega)

/-- Where the row tile `i` stands in the gated output. -/
def atGate (i : Fin 8) : Rect S2048x128 :=
  Rect.unit (s := S2048x128) ![256 * i.val, 0] S256x128.size (by
    intro a; fin_cases a <;> simp [S2048x128, S256x128] <;> omega)

/-- Where the row tile `i` of head `hh` stands in the log-sums. -/
def atLse (hh : Fin 2) (i : Fin 8) : Rect S1x1x2x8x256 :=
  Rect.unit (s := S1x1x2x8x256) ![0, 0, hh.val, i.val, 0] S1x1x1x1x256.size (by
    intro a; fin_cases a <;> simp [S1x1x2x8x256, S1x1x1x1x256] <;> omega)

/-- Row tiles and heads, the last first. -/
def slots : List (Fin 2 × Fin 8) :=
  [(1, 7), (0, 7), (1, 6), (0, 6), (1, 5), (0, 5), (1, 4), (0, 4), (1, 3), (0, 3), (1, 2), (0, 2), (1, 1), (0, 1), (1, 0), (0, 0)]

/-- Row tiles, the last first. -/
def rowTiles : List (Fin 8) := [7, 6, 5, 4, 3, 2, 1, 0]

/-- The key tiles of both heads, stored one after another. -/
def storesK (T : Fin 2 → Fin 8 → FVec F S128x256 .bf16) : List (View.Piece (Elt F) S2x8x128x256 .bf16) :=
  slots.map fun p : Fin 2 × Fin 8 =>
    (⟨atK p.1 p.2, shapeCast S1x1x128x256 (T p.1 p.2) shapeCasts_S128x256_S1x1x128x256⟩ : View.Piece (Elt F) S2x8x128x256 .bf16)

/-- The value tiles of both heads, stored one after another. -/
def storesV (T : Fin 2 → Fin 8 → FVec F S256x128 .bf16) : List (View.Piece (Elt F) S2x8x256x128 .bf16) :=
  slots.map fun p : Fin 2 × Fin 8 =>
    (⟨atV p.1 p.2, shapeCast S1x1x256x128 (T p.1 p.2) shapeCasts_S256x128_S1x1x256x128⟩ : View.Piece (Elt F) S2x8x256x128 .bf16)

/-! ## A query tile against a key tile -/

/-- The tiles the body works on, per head and row tile. -/
structure Tiles (F : FTy → Type) where
  q : Fin 2 → Fin 8 → FVec F S256x128 .bf16
  k : Fin 2 → Fin 8 → FVec F S128x256 .bf16
  v : Fin 2 → Fin 8 → FVec F S256x128 .bf16

section
variable (T : Tiles F)

/-- A key is not after the query. -/
def causal : IVec S256x256 1 :=
  cmpi .sge (iota .tc S256x256 32 [0] iota_S256x256_d0_w32) (iota .tc S256x256 32 [1] iota_S256x256_d1_w32)

/-- The logits of a query tile for a key tile, before the mask. -/
def product (hh : Fin 2) (qi kj : Fin 8) : FVec F S256x256 .f32 :=
  matmul dot_S256x128_S128x256_S256x256_1_0_0_1_n_n none (T.q hh qi) (T.k hh kj) (constant S256x256 .f32 0x00000000#32)

/-- The logits of a query tile for a key tile, a key after the query masked. -/
def scores (hh : Fin 2) (qi kj : Fin 8) : FVec F S256x256 .f32 :=
  if qi = kj then select causal (product T hh qi kj) (broadcast S256x256 (Named.named κ "mask" 0xF149F2CA#32))
  else product T hh qi kj

/-- The largest logit of each row. -/
def rowMost (s : FVec F S256x256 .f32) : FVec F S256x1 .f32 :=
  shapeCast S256x1 (multiReduction .maximumf [1] S256 s 0xFF800000#32 reduces_S256x256_S256 (.inl rfl) rfl) shapeCasts_S256_S256x1

/-- The running maximum of each row after some key tiles, the last first. -/
def most (hh : Fin 2) (qi : Fin 8) : List (Fin 8) → FVec F S256x1 .f32
  | [] => broadcast S256x1 (Named.named κ "mask" 0xF149F2CA#32)
  | kj :: l => maximumf (most hh qi l) (rowMost (scores T hh qi kj))

/-- The weights of a tile under a row's number. -/
def weights (s : FVec F S256x256 .f32) (x : FVec F S256x1 .f32) : FVec F S256x256 .bf16 :=
  truncf .bf16 (exp (subf s (broadcastTo S256x256 x broadcasts_S256x1_S256x256))) bitsLt_bf16_f32

/-- The running sum of values and weights after some key tiles, the last first. -/
def sums (hh : Fin 2) (qi : Fin 8) : List (Fin 8) → FVec F S256x128 .f32
  | [] => zeros S256x128
  | kj :: l => addf
      (mulf (broadcastTo S256x128 (exp (subf (most T hh qi l) (most T hh qi (kj :: l)))) broadcasts_S256x1_S256x128) (sums hh qi l))
      (matmul dot_S256x256_S256x128_S256x128_1_0_0_1_n_n none (weights (scores T hh qi kj) (most T hh qi (kj :: l))) (T.v hh kj)
        (constant S256x128 .f32 0x00000000#32))

/-- The key tiles of a query tile, the last first. -/
def keysOf : Fin 8 → List (Fin 8)
  | 0 => [0]
  | 1 => [1, 0]
  | 2 => [2, 1, 0]
  | 3 => [3, 2, 1, 0]
  | 4 => [4, 3, 2, 1, 0]
  | 5 => [5, 4, 3, 2, 1, 0]
  | 6 => [6, 5, 4, 3, 2, 1, 0]
  | 7 => [7, 6, 5, 4, 3, 2, 1, 0]

/-- The column that holds the sum of weights: the first free lane. -/
def total (hh : Fin 2) (x : FVec F S256x128 .f32) : FVec F S256x1 .f32 :=
  match hh with
  | 0 => column 1 x
  | 1 => column 0 x

/-- A head's sum over its sum of weights. -/
def share (hh : Fin 2) (x : FVec F S256x128 .f32) : FVec F S256x128 .f32 :=
  mulf x (broadcastTo S256x128 (divf (ones S256x1) (total hh x)) broadcasts_S256x1_S256x128)

/-- The output of a query tile. -/
def output (qi : Fin 8) : FVec F S256x128 .f32 :=
  select (laneIs .slt 64#32) (share 0 (sums T 0 qi (keysOf qi))) (share 1 (sums T 1 qi (keysOf qi)))

/-- A head's log-sums. -/
def logsum (hh : Fin 2) (qi : Fin 8) : FVec F S256x1 .f32 :=
  addf (most T hh qi (keysOf qi)) (log (total hh (sums T hh qi (keysOf qi))))

/-- Both heads' log-sums as rows. -/
def logsums (qi : Fin 8) : FVec F S128x256 .f32 :=
  transpose S128x256 [1, 0] (select (laneIs .slt 64#32) (onLanes (logsum T 0 qi)) (onLanes (logsum T 1 qi)))
    transposes_S256x128_p1_0_S128x256

/-- A head's row of log-sums. -/
def logRow (hh : Fin 2) (qi : Fin 8) : FVec F S1x256 .f32 :=
  match hh with
  | 0 => extractStridedSlice S1x256 ![0, 0] (logsums T qi) slices_S128x256_o0_0_S1x256
  | 1 => extractStridedSlice S1x256 ![64, 0] (logsums T qi) slices_S128x256_o64_0_S1x256

/-- A gate times its own logistic. -/
def gate (g : Vec F S1x256x128 .bf16) : FVec F S256x128 .f32 :=
  mulf (extf .f32 (flat g) bitsLt_bf16_f32)
    (divf (ones S256x128) (addf (ones S256x128) (exp (subf (zeros S256x128) (extf .f32 (flat g) bitsLt_bf16_f32)))))

/-- The stores of the output. -/
def storesY : List (View.Piece (Elt F) S1x2048x128 .f32) :=
  rowTiles.map fun i => (⟨atRow i, shapeCast S1x256x128 (output T i) shapeCasts_S256x128_S1x256x128⟩ : View.Piece (Elt F) S1x2048x128 .f32)

/-- The stores of the log-sums. -/
def storesL : List (View.Piece (Elt F) S1x1x2x8x256 .f32) :=
  slots.map fun p : Fin 2 × Fin 8 =>
    (⟨atLse p.1 p.2, shapeCast S1x1x1x1x256 (logRow T p.1 p.2) shapeCasts_S1x256_S1x1x1x1x256⟩ : View.Piece (Elt F) S1x1x2x8x256 .f32)

/-- The stores of the gated output. -/
def storesG (g : Fin 8 → Vec F S1x256x128 .bf16) : List (View.Piece (Elt F) S2048x128 .bf16) :=
  rowTiles.map fun i => (⟨atGate i, hi (mulf (output T i) (gate (g i)))⟩ : View.Piece (Elt F) S2048x128 .bf16)

end

end Cert.Fox

end
-- ==== Proof.FoxTile.lean ====
/- The tiles the body keeps, over the reals. -/
module

public import proofs.«01_k».proof.Proof.FoxBody
public import proofs.«01_k».proof.Proof.AttnTile

@[expose] public section

set_option maxRecDepth 16384

noncomputable section

namespace Cert.Fox

open Idealize.ShloMosaic Idealize.ShloMosaic.TcCoe Idealize.SL.Sem
open Cert.FoxKernelIdeal Cert.FoxKernelIdeal.Gen

open Cert.Attn (half spare zeros zerosH onesH hi rest own free sum_lanes select_ofBool word_eq lane_half own_div free_div own_spare
  free_spare spare_le scale_word)

theorem setLane_apply (n : ℕ) (hn : n < 128) (x t : FVec Ideal S256x128 .bf16) (r : Fin 256) (l : Fin 128) :
    setLane n x t (ix2 r l) = if l.val = n then x (ix2 r l) else t (ix2 r l) := by
  pointwise [setLane, laneIs, lane]
  rw [word_eq _ _ (by omega) (by omega), select_ofBool]
  simp only [decide_eq_true_eq]

theorem setSub_apply (n : ℕ) (hn : n < 128) (x t : FVec Ideal S128x256 .bf16) (r : Fin 256) (l : Fin 128) :
    setSub n x t (ix2 l r) = if l.val = n then x (ix2 l r) else t (ix2 l r) := by
  pointwise [setSub, subIs, sub]
  rw [word_eq _ _ (by omega) (by omega), select_ofBool]
  simp only [decide_eq_true_eq]

theorem mineL_apply (hh : Fin 2) (t : FVec Ideal S256x128 .bf16) (r : Fin 256) (l : Fin 128) :
    mineL hh t (ix2 r l) = if l.val / 64 = hh.val then t (ix2 r l) else 0 := by
  pointwise [mineL, zerosH, laneIs, lane]
  rw [lane_half, select_ofBool]
  simp only [decide_eq_true_eq]

theorem mineS_apply (hh : Fin 2) (t : FVec Ideal S128x256 .bf16) (r : Fin 256) (l : Fin 128) :
    mineS hh t (ix2 l r) = if l.val / 64 = hh.val then t (ix2 l r) else 0 := by
  pointwise [mineS, zerosH, subIs, sub]
  rw [lane_half, select_ofBool]
  simp only [decide_eq_true_eq]

theorem scaled_apply (x : Vec Ideal S1x256x128 .bf16) (r : Fin 256) (l : Fin 128) :
    scaled x (ix2 r l) = x (ix3 (0 : Fin 1) r l) * ((1 / 8 : ℝ) : EReal) := by
  rw [← scale_word]
  pointwise [scaled, flat]

theorem flat_apply {φ : FTy} (x : FVec Ideal S1x256x128 φ) (r : Fin 256) (l : Fin 128) : flat x (ix2 r l) = x (ix3 (0 : Fin 1) r l) := by
  pointwise [flat]

theorem tr_apply (x : FVec Ideal S256x128 .bf16) (r : Fin 256) (l : Fin 128) : tr x (ix2 l r) = x (ix2 r l) := by
  pointwise [tr]

theorem row_apply (x : Vec Ideal S1x1x1x1x256 .f32) (s : Fin 256) :
    row x (ix2 (0 : Fin 1) s) = x (ix5 (0 : Fin 1) (0 : Fin 1) (0 : Fin 1) (0 : Fin 1) s) := by
  pointwise [row]

theorem column_apply (x : FVec Ideal S256x128 .f32) (hh : Fin 2) (r : Fin 256) :
    column hh x (ix2 r (0 : Fin 1)) = x (ix2 r (own hh 0)) := by
  fin_cases hh <;> pointwise [column] <;> rfl

theorem total_apply (x : FVec Ideal S256x128 .f32) (hh : Fin 2) (r : Fin 256) :
    total hh x (ix2 r (0 : Fin 1)) = x (ix2 r (free hh 0)) := by
  fin_cases hh <;> pointwise [total, column] <;> rfl

theorem onLanes_apply {φ : FTy} (c : FVec Ideal S256x1 φ) (r : Fin 256) (l : Fin 128) : onLanes c (ix2 r l) = c (ix2 r (0 : Fin 1)) := by
  pointwise [onLanes]

theorem onSubs_apply {φ : FTy} (c : FVec Ideal S1x256 φ) (r : Fin 256) (l : Fin 128) : onSubs c (ix2 l r) = c (ix2 (0 : Fin 1) r) := by
  pointwise [onSubs]

/-- A number less its rounding is nothing, the number being real. -/
theorem rest_real {s : Shape} (x : FVec Ideal s .f32) (i : s.Idx) (a : ℝ) (h : x i = (a : EReal)) : rest x i = ((0 : ℝ) : EReal) := by
  show x i - x i = _
  rw [h, ← EReal.coe_sub, sub_self]

theorem hi_ideal {s : Shape} (x : FVec Ideal s .f32) (i : s.Idx) : hi x i = x i := rfl

end Cert.Fox

end
-- ==== Proof.FoxRun.lean ====
/- The run's stores are the body's stores of the module `FoxBody`, read back through the memory they went to. -/
module

public import proofs.«01_k».proof.Proof.FoxBody
public import proofs.«01_k».proof.Proof.Gen.FoxKernelIdeal.Frame

@[expose] public section

set_option maxRecDepth 16384

noncomputable section

namespace Cert.Fox

open Idealize.ShloMosaic Idealize.ShloMosaic.TcCoe Idealize.SL.Sem
open Cert.FoxKernelIdeal Cert.FoxKernelIdeal.Gen

variable {F : FTy → Type} [FloatOps F] [Named F]

/-- The part `j` of row tile `i` of the queries, keys and values. -/
def inPart (i : Fin 8) (j : Fin 3) : Rect S1x2048x384 :=
  Rect.unit (s := S1x2048x384) ![0, 256 * i.val, 128 * j.val] S1x256x128.size (by
    intro a; fin_cases a <;> simp [S1x2048x384, S1x256x128] <;> omega)

variable (c : Dev nD) (i : grid0.Coords)
variable (arg2 : Memref sig .tc .vmem S1x2048x384 .bf16) (harg2 : arg2.IsWhole)
variable (arg3 : Memref sig .tc .vmem S1x2048x128 .f32) (harg3 : arg3.IsWhole)
variable (arg4 : Memref sig .tc .vmem S1x1x2x8x256 .f32) (harg4 : arg4.IsWhole)
variable (arg5 : Memref sig .tc .vmem S1x2048x128 .bf16) (harg5 : arg5.IsWhole)
variable (arg6 : Memref sig .tc .vmem S1x2048x128 .f32) (harg6 : arg6.IsWhole)
variable (arg7 : Memref sig .tc .vmem S1x1x2x8x256 .f32) (harg7 : arg7.IsWhole)
variable (arg8 : Memref sig .tc .vmem S2048x128 .bf16) (harg8 : arg8.IsWhole)
variable (arg9 : Memref sig .tc .vmem S2x8x128x256 .bf16) (harg9 : arg9.IsWhole)
variable (arg10 : Memref sig .tc .vmem S2x8x256x128 .bf16) (harg10 : arg10.IsWhole)
variable (x0 : Vec F S1x2048x384 .bf16) (x1 : Vec F S1x2048x128 .f32) (x2 : Vec F S1x1x2x8x256 .f32) (x3 : Vec F S1x2048x128 .bf16)

/-- What the body loads. -/
def loads : Loads F where
  q i := View.readAt (Elt F) arg2.view (inPart i 0).toLoadRect (harg2.unread x0)
  k i := View.readAt (Elt F) arg2.view (inPart i 1).toLoadRect (harg2.unread x0)
  v i := View.readAt (Elt F) arg2.view (inPart i 2).toLoadRect (harg2.unread x0)
  c i := View.readAt (Elt F) arg3.view (atRow i).toLoadRect (harg3.unread x1)
  cr hh i := View.readAt (Elt F) arg4.view (atLse hh i).toLoadRect (harg4.unread x2)
  g i := View.readAt (Elt F) arg5.view (atRow i).toLoadRect (harg5.unread x3)

/-- The tiles the body works on, keys and values read back. -/
def tiles (X : Loads F) : Tiles F where
  q := tQ X
  k hh i := shapeCast S128x256 (View.readCov arg9.view (storesK (tK X)) (atK hh i).toLoadRect) shapeCasts_S1x1x128x256_S128x256
  v hh i := shapeCast S256x128 (View.readCov arg10.view (storesV (tV X)) (atV hh i).toLoadRect) shapeCasts_S1x1x256x128_S256x128

/-- The stores of the output. -/
theorem stores_y : (kernelRun0_A c i arg2 harg2 arg3 harg3 arg4 harg4 arg5 harg5 arg6 harg6 arg7 harg7 arg8 harg8 arg9 harg9 arg10 harg10 x0 x1 x2 x3).1
    = storesY (tiles arg9 arg10 (loads arg2 harg2 arg3 harg3 arg4 harg4 arg5 harg5 x0 x1 x2 x3)) := by
  sl_kernel_rfl

/-- The stores of the log-sums. -/
theorem stores_lse : (kernelRun0_A c i arg2 harg2 arg3 harg3 arg4 harg4 arg5 harg5 arg6 harg6 arg7 harg7 arg8 harg8 arg9 harg9 arg10 harg10 x0 x1 x2 x3).2.1
    = storesL (tiles arg9 arg10 (loads arg2 harg2 arg3 harg3 arg4 harg4 arg5 harg5 x0 x1 x2 x3)) := by
  sl_kernel_rfl

/-- The stores of the gated output. -/
theorem stores_gate : (kernelRun0_A c i arg2 harg2 arg3 harg3 arg4 harg4 arg5 harg5 arg6 harg6 arg7 harg7 arg8 harg8 arg9 harg9 arg10 harg10 x0 x1 x2 x3).2.2.1
    = storesG (tiles arg9 arg10 (loads arg2 harg2 arg3 harg3 arg4 harg4 arg5 harg5 x0 x1 x2 x3))
      (loads arg2 harg2 arg3 harg3 arg4 harg4 arg5 harg5 x0 x1 x2 x3).g := by
  sl_kernel_rfl

end Cert.Fox

end
-- ==== Proof.FoxRead.lean ====
/- What the body reads back from its two scratch memories is what it stored there. -/
module

public import proofs.«01_k».proof.Proof.FoxRun
public import Idealize.ShloMosaic.Lib.Pipeline.ReadBack
public import Idealize.ShloMosaic.Lib.Pipeline.Value

@[expose] public section

set_option maxRecDepth 16384

noncomputable section

namespace Cert.Fox

open Idealize.ShloMosaic Idealize.ShloMosaic.TcCoe Idealize.SL.Sem
open Cert.FoxKernelIdeal Cert.FoxKernelIdeal.Gen

variable {F : FTy → Type} [FloatOps F] [Named F]

theorem mem_slots : ∀ (hh : Fin 2) (i : Fin 8), (hh, i) ∈ slots := by decide

theorem disj_k : ∀ a b : Fin 2 × Fin 8, a ≠ b → LoadRect.disj (atK a.1 a.2) (atK b.1 b.2).toLoadRect = true := by
  decide +kernel

theorem disj_v : ∀ a b : Fin 2 × Fin 8, a ≠ b → LoadRect.disj (atV a.1 a.2) (atV b.1 b.2).toLoadRect = true := by
  decide +kernel

/-- Reading a key tile back. -/
theorem read_k {κ' : Kind} {sp : Space} (v : View sig κ' sp S2x8x128x256 .bf16) (T : Fin 2 → Fin 8 → FVec F S128x256 .bf16)
    (hh : Fin 2) (i : Fin 8) :
    shapeCast S128x256 (View.readCov v (storesK T) (atK hh i).toLoadRect) shapeCasts_S1x1x128x256_S128x256 = T hh i := by
  have e : ∀ l : List (Fin 2 × Fin 8), (hh, i) ∈ l →
      View.readCov v (l.map fun p : Fin 2 × Fin 8 =>
        (⟨atK p.1 p.2, shapeCast S1x1x128x256 (T p.1 p.2) shapeCasts_S128x256_S1x1x128x256⟩ : View.Piece (Elt F) S2x8x128x256 .bf16))
        (atK hh i).toLoadRect = shapeCast S1x1x128x256 (T hh i) shapeCasts_S128x256_S1x1x128x256 := by
    intro l
    induction l with
    | nil => intro h; exact absurd h List.not_mem_nil
    | cons p l ih =>
      intro h
      by_cases hp : p = (hh, i)
      · subst hp
        exact View.readCov_cons_toLoadRect _ _ _ _
      · exact (View.readCov_skip _ _ _ _ _ (disj_k p (hh, i) hp)).trans
          (ih ((List.mem_cons.mp h).resolve_left fun q => hp q.symm))
  exact (congrArg (fun x => shapeCast S128x256 x shapeCasts_S1x1x128x256_S128x256) (e _ (mem_slots hh i))).trans (shapeCast_shapeCast _ _ _)

/-- Reading a value tile back. -/
theorem read_v {κ' : Kind} {sp : Space} (v : View sig κ' sp S2x8x256x128 .bf16) (T : Fin 2 → Fin 8 → FVec F S256x128 .bf16)
    (hh : Fin 2) (i : Fin 8) :
    shapeCast S256x128 (View.readCov v (storesV T) (atV hh i).toLoadRect) shapeCasts_S1x1x256x128_S256x128 = T hh i := by
  have e : ∀ l : List (Fin 2 × Fin 8), (hh, i) ∈ l →
      View.readCov v (l.map fun p : Fin 2 × Fin 8 =>
        (⟨atV p.1 p.2, shapeCast S1x1x256x128 (T p.1 p.2) shapeCasts_S256x128_S1x1x256x128⟩ : View.Piece (Elt F) S2x8x256x128 .bf16))
        (atV hh i).toLoadRect = shapeCast S1x1x256x128 (T hh i) shapeCasts_S256x128_S1x1x256x128 := by
    intro l
    induction l with
    | nil => intro h; exact absurd h List.not_mem_nil
    | cons p l ih =>
      intro h
      by_cases hp : p = (hh, i)
      · subst hp
        exact View.readCov_cons_toLoadRect _ _ _ _
      · exact (View.readCov_skip _ _ _ _ _ (disj_v p (hh, i) hp)).trans
          (ih ((List.mem_cons.mp h).resolve_left fun q => hp q.symm))
  exact (congrArg (fun x => shapeCast S256x128 x shapeCasts_S1x1x256x128_S256x128) (e _ (mem_slots hh i))).trans (shapeCast_shapeCast _ _ _)

/-- The tiles the body keeps. -/
def kept (X : Loads F) : Tiles F where
  q := tQ X
  k := tK X
  v := tV X

theorem tiles_eq (arg9 : Memref sig .tc .vmem S2x8x128x256 .bf16) (arg10 : Memref sig .tc .vmem S2x8x256x128 .bf16)
    (X : Loads F) : tiles arg9 arg10 X = kept X := by
  unfold tiles kept
  congr 1 <;> funext hh i
  · exact read_k _ _ hh i
  · exact read_v _ _ hh i

end Cert.Fox

end
-- ==== Proof.FoxPair.lean ====
/- A query tile against its key tiles, over the reals. -/
module

public import proofs.«01_k».proof.Proof.FoxTile
public import proofs.«01_k».proof.Proof.FoxRead

@[expose] public section

set_option maxRecDepth 16384

noncomputable section

namespace Cert.Fox

open Idealize.ShloMosaic Idealize.ShloMosaic.TcCoe Idealize.SL.Sem
open Cert.FoxKernelIdeal Cert.FoxKernelIdeal.Gen

open Cert.Attn (half spare zeros zerosH onesH hi rest own free sum_lanes select_ofBool own_div free_div own_spare free_spare spare_le)

/-- What a point loads, as real numbers: row tiles, and per head its rows. -/
structure Reals where
  q : Fin 8 → Fin 256 → Fin 128 → ℝ
  k : Fin 8 → Fin 256 → Fin 128 → ℝ
  v : Fin 8 → Fin 256 → Fin 128 → ℝ
  c : Fin 8 → Fin 256 → Fin 128 → ℝ
  cr : Fin 2 → Fin 8 → Fin 256 → ℝ

/-- The loads are those real numbers. -/
structure Reads (X : Loads Ideal) (R : Reals) : Prop where
  q : ∀ i r l, X.q i (ix3 (0 : Fin 1) r l) = (R.q i r l : EReal)
  k : ∀ i r l, X.k i (ix3 (0 : Fin 1) r l) = (R.k i r l : EReal)
  v : ∀ i r l, X.v i (ix3 (0 : Fin 1) r l) = (R.v i r l : EReal)
  c : ∀ i r l, X.c i (ix3 (0 : Fin 1) r l) = (R.c i r l : EReal)
  cr : ∀ hh i r, X.cr hh i (ix5 (0 : Fin 1) (0 : Fin 1) (0 : Fin 1) (0 : Fin 1) r) = (R.cr hh i r : EReal)

variable (R : Reals)

/-- The logit of a query for a key. -/
def Reals.score (hh : Fin 2) (qi kj : Fin 8) (r s : Fin 256) : ℝ :=
  (∑ d, R.q qi r (own hh d) * (1 / 8) * R.k kj s (own hh d)) + (R.c qi r (own hh 0) - R.cr hh kj s)

/-- The weight of a key for a query, its row's sum undivided. -/
def Reals.weight (hh : Fin 2) (qi kj : Fin 8) (r s : Fin 256) : ℝ :=
  if qi = kj ∧ r < s then 0 else Real.exp (R.score hh qi kj r s)

/-- The values of a head, and a one on the first free lane. -/
def Reals.value (hh : Fin 2) (kj : Fin 8) (s : Fin 256) (l : Fin 128) : ℝ :=
  if l.val = spare hh then 1 else if l.val / 64 = hh.val then R.v kj s l else 0

/-- The sum of weighted values after some key tiles. -/
def Reals.acc (hh : Fin 2) (qi : Fin 8) (r : Fin 256) (l : Fin 128) : List (Fin 8) → ℝ
  | [] => 0
  | kj :: L => Reals.acc hh qi r l L + ∑ s, R.weight hh qi kj r s * R.value hh kj s l

theorem weight_nonneg (hh : Fin 2) (qi kj : Fin 8) (r s : Fin 256) : 0 ≤ R.weight hh qi kj r s := by
  unfold Reals.weight; split
  · exact le_rfl
  · exact (Real.exp_pos _).le

theorem mask_ideal : (Named.named (F := Ideal) κ "mask" (φ := .f32) 0xF149F2CA#32) = (⊥ : EReal) :=
  IdealRules.named_const.ideal_named_scalar _ _ _ _ rfl

variable {R} {X : Loads Ideal} (H : Reads X R)
include H

theorem tQ_own (hh : Fin 2) (i : Fin 8) (r : Fin 256) (d : Fin 64) :
    tQ X hh i (ix2 r (own hh d)) = ((R.q i r (own hh d) * (1 / 8) : ℝ) : EReal) := by
  have hs := spare_le hh
  have e : ∀ k, k < 6 → ¬ (own hh d).val = spare hh + k := fun k hk => own_spare hh d k (by omega)
  have e0 := e 0 (by omega)
  simp only [Nat.add_zero] at e0
  rw [tQ, setLane_apply _ (by omega), if_neg (e 5 (by omega)), setLane_apply _ (by omega), if_neg (e 4 (by omega)),
    setLane_apply _ (by omega), if_neg (e 3 (by omega)), setLane_apply _ (by omega), if_neg (e 2 (by omega)),
    setLane_apply _ (by omega), if_neg (e 1 (by omega)), setLane_apply _ (by omega), if_neg e0, mineL_apply, if_pos (own_div hh d),
    scaled_apply, H.q, EReal.coe_mul]

theorem bias_apply (hh : Fin 2) (i : Fin 8) (r : Fin 256) : (column hh (flat (X.c i)) : FVec Ideal S256x1 .f32) (ix2 r (0 : Fin 1)) = (R.c i r (own hh 0) : EReal) := by
  rw [column_apply, flat_apply, H.c]

theorem tQ_free (hh : Fin 2) (i : Fin 8) (r : Fin 256) (d : Fin 64) :
    tQ X hh i (ix2 r (free hh d)) = (((if d = 0 then R.c i r (own hh 0) else 0) +
      (if d = 3 then 1 else 0) + (if d = 4 ∨ d = 5 then 1 else 0) : ℝ) : EReal) := by
  have hs := spare_le hh
  have e : ∀ k, k < 6 → ((free hh d).val = spare hh + k ↔ d.val = k) := fun k hk => free_spare hh d k (by omega)
  have e0 := e 0 (by omega)
  simp only [Nat.add_zero] at e0
  have h1 := rest_real _ _ _ (bias_apply H hh i r)
  have h2 := rest_real _ _ _ h1
  have one : ∀ l, onesH (F := Ideal) S256x128 (ix2 r l) = ((1 : ℝ) : EReal) := fun l => by pointwise [onesH]; exact EReal.coe_one.symm
  rw [tQ, setLane_apply _ (by omega), setLane_apply _ (by omega), setLane_apply _ (by omega), setLane_apply _ (by omega),
    setLane_apply _ (by omega), setLane_apply _ (by omega), mineL_apply, if_neg (free_div hh d)]
  simp only [e 1 (by omega), e 2 (by omega), e 3 (by omega), e 4 (by omega), e 5 (by omega), e0, onLanes_apply, hi_ideal, h1, h2, bias_apply H, one]
  have e' : ∀ n : Fin 64, d = n ↔ d.val = n.val := fun n => Fin.ext_iff
  simp only [e']
  rcases d with ⟨d, hd⟩
  by_cases h : d < 6
  · interval_cases d <;> simp
  · simp [show d ≠ 0 by omega, show d ≠ 1 by omega, show d ≠ 2 by omega, show d ≠ 3 by omega, show d ≠ 4 by omega, show d ≠ 5 by omega]

theorem tK_own (hh : Fin 2) (i : Fin 8) (s : Fin 256) (d : Fin 64) :
    tK X hh i (ix2 (own hh d) s) = (R.k i s (own hh d) : EReal) := by
  have hs := spare_le hh
  have e : ∀ k, k < 6 → ¬ (own hh d).val = spare hh + k := fun k hk => own_spare hh d k (by omega)
  have e0 := e 0 (by omega)
  simp only [Nat.add_zero] at e0
  rw [tK, setSub_apply _ (by omega), if_neg (e 5 (by omega)), setSub_apply _ (by omega), if_neg (e 4 (by omega)),
    setSub_apply _ (by omega), if_neg (e 3 (by omega)), setSub_apply _ (by omega), if_neg (e 2 (by omega)),
    setSub_apply _ (by omega), if_neg (e 1 (by omega)), setSub_apply _ (by omega), if_neg e0, mineS_apply, if_pos (own_div hh d),
    tr_apply, flat_apply, H.k]

theorem negrow_apply (hh : Fin 2) (i : Fin 8) (s : Fin 256) :
    (subf (zeros (F := Ideal) S1x256) (row (X.cr hh i))) (ix2 (0 : Fin 1) s) = ((-R.cr hh i s : ℝ) : EReal) := by
  pointwise [zeros]
  rw [row_apply, H.cr, zero_sub, EReal.coe_neg]

theorem tK_free (hh : Fin 2) (i : Fin 8) (s : Fin 256) (d : Fin 64) :
    tK X hh i (ix2 (free hh d) s) = (((if d = 0 then 1 else 0) + (if d = 1 ∨ d = 2 then 1 else 0) +
      (if d = 3 then -R.cr hh i s else 0) : ℝ) : EReal) := by
  have hs := spare_le hh
  have e : ∀ k, k < 6 → ((free hh d).val = spare hh + k ↔ d.val = k) := fun k hk => free_spare hh d k (by omega)
  have e0 := e 0 (by omega)
  simp only [Nat.add_zero] at e0
  have h1 := rest_real _ _ _ (negrow_apply H hh i s)
  have h2 := rest_real _ _ _ h1
  have one : ∀ l, onesH (F := Ideal) S128x256 (ix2 l s) = ((1 : ℝ) : EReal) := fun l => by pointwise [onesH]; exact EReal.coe_one.symm
  rw [tK, setSub_apply _ (by omega), setSub_apply _ (by omega), setSub_apply _ (by omega), setSub_apply _ (by omega),
    setSub_apply _ (by omega), setSub_apply _ (by omega), mineS_apply, if_neg (free_div hh d)]
  simp only [e 1 (by omega), e 2 (by omega), e 3 (by omega), e 4 (by omega), e 5 (by omega), e0, onSubs_apply, hi_ideal, h1, h2, negrow_apply H, one]
  have e' : ∀ n : Fin 64, d = n ↔ d.val = n.val := fun n => Fin.ext_iff
  simp only [e']
  rcases d with ⟨d, hd⟩
  by_cases h : d < 6
  · interval_cases d <;> simp
  · simp [show d ≠ 0 by omega, show d ≠ 1 by omega, show d ≠ 2 by omega, show d ≠ 3 by omega, show d ≠ 4 by omega, show d ≠ 5 by omega]

theorem tV_apply (hh : Fin 2) (i : Fin 8) (s : Fin 256) (l : Fin 128) :
    tV X hh i (ix2 s l) = (R.value hh i s l : EReal) := by
  have hs := spare_le hh
  have one : onesH (F := Ideal) S256x128 (ix2 s l) = ((1 : ℝ) : EReal) := by pointwise [onesH]; exact EReal.coe_one.symm
  rw [tV, setLane_apply _ (by omega), mineL_apply, flat_apply, H.v, one, Reals.value]
  split
  · rfl
  · split
    · rfl
    · exact EReal.coe_zero.symm

/-- A query row against a key column: the scaled product, and the biases the free lanes carry. -/
theorem product_apply (hh : Fin 2) (qi kj : Fin 8) (r s : Fin 256) :
    product (kept X) hh qi kj (ix2 r s) = (R.score hh qi kj r s : EReal) := by
  have hs : ∀ d : Fin 64, ((if d = 0 then R.c qi r (own hh 0) else 0) + (if d = 3 then 1 else 0) + (if d = 4 ∨ d = 5 then 1 else 0) : ℝ)
      * ((if d = 0 then 1 else 0) + (if d = 1 ∨ d = 2 then 1 else 0) + (if d = 3 then -R.cr hh kj s else 0))
      = (if d = 0 then R.c qi r (own hh 0) else 0) + (if d = 3 then -R.cr hh kj s else 0) := fun d => by
    have e : ∀ n : Fin 64, d = n ↔ d.val = n.val := fun n => Fin.ext_iff
    simp only [e]
    rcases d with ⟨d, hd⟩
    by_cases h : d < 6
    · interval_cases d <;> simp
    · simp [show d ≠ 0 by omega, show d ≠ 1 by omega, show d ≠ 2 by omega, show d ≠ 3 by omega, show d ≠ 4 by omega, show d ≠ 5 by omega]
  pointwise [product, kept]
  rw [sum_lanes hh]
  simp only [tQ_own H, tQ_free H, tK_own H, tK_free H, ← EReal.coe_mul, hs, ← Cert.Finite.coe_sum, ← EReal.coe_add, Finset.sum_add_distrib,
    Finset.sum_ite_eq', Finset.mem_univ, ↓reduceIte, Reals.score, sub_eq_add_neg]

/-- The logits of a tile, a key after the query masked. -/
theorem scores_apply (hh : Fin 2) (qi kj : Fin 8) (r s : Fin 256) :
    scores (kept X) hh qi kj (ix2 r s) = if qi = kj ∧ r < s then (⊥ : EReal) else (R.score hh qi kj r s : EReal) := by
  unfold scores
  by_cases h : qi = kj
  · rw [if_pos h]
    pointwise [causal]
    rw [WordCmp.cmpi_sge_ofNat (by omega) (by omega), select_ofBool, mask_ideal, product_apply H]
    by_cases hrs : r < s
    · have h2 : ¬ (s.val ≤ r.val) := by have : r.val < s.val := hrs; omega
      simp [hrs, h2, h]
    · have h2 : s.val ≤ r.val := by have : ¬ r.val < s.val := hrs; omega
      simp [hrs, h2]
  · rw [if_neg h, if_neg (fun h' => h h'.1), product_apply H]

/-- Under a real number, a tile's weights are real. -/
theorem weights_apply (hh : Fin 2) (qi kj : Fin 8) (x : FVec Ideal S256x1 .f32) (r s : Fin 256) (M : ℝ) (hx : x (ix2 r (0 : Fin 1)) = (M : EReal)) :
    weights (scores (kept X) hh qi kj) x (ix2 r s) = ((Real.exp (-M) * R.weight hh qi kj r s : ℝ) : EReal) := by
  pointwise [weights]
  rw [scores_apply H, hx, Reals.weight]
  split
  · rw [EReal.bot_sub, Ideal.exp_bot, mul_zero]; rfl
  · rw [← EReal.coe_sub, Ideal.exp_coe, ← Real.exp_add]
    congr 2
    ring

/-- A row's largest logit in a tile is real: the first key of a tile is never after the query. -/
theorem rowMost_real (hh : Fin 2) (qi kj : Fin 8) (r : Fin 256) :
    ∃ M : ℝ, rowMost (scores (kept X) hh qi kj) (ix2 r (0 : Fin 1)) = (M : EReal) := by
  have e : rowMost (scores (kept X) hh qi kj) (ix2 r (0 : Fin 1)) = Finset.univ.sup fun s => scores (kept X) hh qi kj (ix2 r s) := by
    pointwise [rowMost]
    rfl
  rw [e]
  obtain ⟨s, -, hs⟩ := Finset.exists_mem_eq_sup Finset.univ ⟨(0 : Fin 256), Finset.mem_univ _⟩ fun s => scores (kept X) hh qi kj (ix2 r s)
  have hle := Finset.le_sup (f := fun s => scores (kept X) hh qi kj (ix2 r s)) (Finset.mem_univ (0 : Fin 256))
  rw [hs] at hle ⊢
  rw [scores_apply H, if_neg (fun h => absurd h.2 (Fin.not_lt_zero r))] at hle
  rw [scores_apply H] at hle ⊢
  split
  · next h => rw [if_pos h, le_bot_iff] at hle; exact absurd hle (EReal.coe_ne_bot _)
  · exact ⟨_, rfl⟩

/-- After some key tiles: the running maximum is a real number, and under it stand the sums of weighted values. -/
theorem sums_apply (hh : Fin 2) (qi : Fin 8) (r : Fin 256) (L : List (Fin 8)) (hL : L ≠ []) :
    ∃ M : ℝ, most (kept X) hh qi L (ix2 r (0 : Fin 1)) = (M : EReal) ∧
      ∀ l, sums (kept X) hh qi L (ix2 r l) = ((Real.exp (-M) * R.acc hh qi r l L : ℝ) : EReal) := by
  induction L with
  | nil => exact absurd rfl hL
  | cons kj L ih =>
    obtain ⟨x, hx⟩ := rowMost_real H hh qi kj r
    have hm : ∃ M : ℝ, most (kept X) hh qi (kj :: L) (ix2 r (0 : Fin 1)) = (M : EReal) ∧
        ∀ l, Ideal.exp (most (kept X) hh qi L (ix2 r (0 : Fin 1)) - (M : EReal)) * sums (kept X) hh qi L (ix2 r l)
          = ((Real.exp (-M) * R.acc hh qi r l L : ℝ) : EReal) := by
      have e : most (kept X) hh qi (kj :: L) (ix2 r (0 : Fin 1))
          = max (most (kept X) hh qi L (ix2 r (0 : Fin 1))) (rowMost (scores (kept X) hh qi kj) (ix2 r (0 : Fin 1))) := rfl
      rw [e, hx]
      by_cases hn : L = []
      · subst hn
        have hb : most (kept X) hh qi [] (ix2 r (0 : Fin 1)) = (⊥ : EReal) := mask_ideal
        refine ⟨x, by rw [hb]; exact max_eq_right bot_le, fun l => ?_⟩
        rw [hb, EReal.bot_sub, Ideal.exp_bot, zero_mul, Reals.acc, mul_zero]
        rfl
      · obtain ⟨M, hM, hs⟩ := ih hn
        refine ⟨max M x, by rw [hM]; exact (EReal.coe_strictMono.monotone.map_max).symm, fun l => ?_⟩
        rw [hM, hs, ← EReal.coe_sub, Ideal.exp_coe, ← EReal.coe_mul, ← mul_assoc, ← Real.exp_add]
        rw [show M - max M x + -M = -max M x by ring]
    obtain ⟨M, hM, hs⟩ := hm
    refine ⟨M, hM, fun l => ?_⟩
    have e : sums (kept X) hh qi (kj :: L) (ix2 r l)
        = Ideal.exp (most (kept X) hh qi L (ix2 r (0 : Fin 1)) - most (kept X) hh qi (kj :: L) (ix2 r (0 : Fin 1))) * sums (kept X) hh qi L (ix2 r l)
          + ∑ s, weights (scores (kept X) hh qi kj) (most (kept X) hh qi (kj :: L)) (ix2 r s) * tV X hh kj (ix2 s l) := by
      rw [sums]
      pointwise
      rfl
    rw [e, hM, hs]
    simp only [weights_apply H hh qi kj _ r _ M hM, tV_apply H, ← EReal.coe_mul, ← Cert.Finite.coe_sum, ← EReal.coe_add]
    rw [Reals.acc, mul_add, Finset.mul_sum]
    simp only [mul_assoc]

omit H in
theorem acc_pos (hh : Fin 2) (qi : Fin 8) (r : Fin 256) (L : List (Fin 8)) (hL : L ≠ []) : 0 < R.acc hh qi r (free hh 0) L := by
  have hv : ∀ kj s, R.value hh kj s (free hh 0) = 1 := fun kj s => if_pos (by simpa using (free_spare hh 0 0 (by omega)).mpr rfl)
  induction L with
  | nil => exact absurd rfl hL
  | cons kj L ih =>
    have h1 : 0 < ∑ s, R.weight hh qi kj r s * R.value hh kj s (free hh 0) := by
      simp only [hv, mul_one]
      exact Finset.sum_pos' (fun s _ => weight_nonneg R hh qi kj r s)
        ⟨0, Finset.mem_univ _, by rw [Reals.weight, if_neg (fun h => absurd h.2 (Fin.not_lt_zero r))]; exact Real.exp_pos _⟩
    by_cases hn : L = []
    · subst hn; rw [Reals.acc, Reals.acc, zero_add]; exact h1
    · rw [Reals.acc]; exact add_pos (ih hn) h1

/-- A head's output: the sum of weighted values over the sum of weights. -/
theorem share_apply (hh : Fin 2) (qi : Fin 8) (r : Fin 256) (l : Fin 128) (L : List (Fin 8)) (hL : L ≠ []) :
    share hh (sums (kept X) hh qi L) (ix2 r l) = ((R.acc hh qi r l L / R.acc hh qi r (free hh 0) L : ℝ) : EReal) := by
  obtain ⟨M, -, hs⟩ := sums_apply H hh qi r L hL
  have hp := acc_pos (R := R) hh qi r L hL
  have he := Real.exp_pos (-M)
  pointwise [share, ones]
  rw [total_apply, hs, hs, Ideal.div_coe (mul_pos he hp).ne', one_mul, ← EReal.coe_mul]
  congr 1
  field_simp

/-- A head's log-sum. -/
theorem logsum_apply (hh : Fin 2) (qi : Fin 8) (r : Fin 256) (hL : keysOf qi ≠ []) :
    logsum (kept X) hh qi (ix2 r (0 : Fin 1)) = (Real.log (R.acc hh qi r (free hh 0) (keysOf qi)) : EReal) := by
  obtain ⟨M, hM, hs⟩ := sums_apply H hh qi r (keysOf qi) hL
  have hp := acc_pos (R := R) hh qi r (keysOf qi) hL
  have he := Real.exp_pos (-M)
  pointwise [logsum]
  rw [total_apply, hs, hM, Ideal.log_coe, if_neg (mul_pos he hp).not_ge, ← EReal.coe_add, Real.log_mul he.ne' hp.ne', Real.log_exp]
  congr 1
  ring

end Cert.Fox

end
-- ==== Proof.FoxReals.lean ====
/- The sums over one pair of heads' tiles are the sums over all keys. -/
module

public import proofs.«01_k».proof.Proof.AttnReals
public import proofs.«01_k».proof.Proof.FoxPair

@[expose] public section

set_option maxRecDepth 16384

noncomputable section

namespace Cert.Fox

open Idealize.ShloMosaic Idealize.ShloMosaic.TcCoe Idealize.SL.Sem
open Cert.FoxKernelIdeal Cert.FoxKernelIdeal.Gen

open Cert.Attn (Args half spare own free own_div free_div own_spare free_spare headOf laneOf head headOf_own laneOf_own)

/-- Row `r` of row tile `i`. -/
def rowAt (i : Fin 8) (r : Fin 256) : Fin 2048 := ⟨i.val * 256 + r.val, by omega⟩

/-- One pair of heads' tiles. -/
def pair (A : Args) (b : Fin 4) (p : Fin 8) : Reals where
  q i r l := A.q b (rowAt i r) (head p (headOf l)) (laneOf l)
  k i r l := A.k b (rowAt i r) (head p (headOf l)) (laneOf l)
  v i r l := A.v b (rowAt i r) (head p (headOf l)) (laneOf l)
  c i r l := A.c b (rowAt i r) (head p (headOf l))
  cr hh i r := A.c b (rowAt i r) (head p hh)

theorem row_le (i j : Fin 8) (r s : Fin 256) (h : j ≤ i) : rowAt j s ≤ rowAt i r ↔ ¬ (i = j ∧ r < s) := by
  simp only [rowAt, Fin.le_def, Fin.lt_def, Fin.ext_iff] at *
  omega

theorem row_after (i j : Fin 8) (r s : Fin 256) (h : ¬ j ≤ i) : ¬ rowAt j s ≤ rowAt i r := by
  simp only [rowAt, Fin.le_def] at *
  omega

/-- A sum over rows by tile and row of the tile. -/
theorem sum_row (f : Fin 2048 → ℝ) : ∑ i : Fin 8, ∑ r : Fin 256, f (rowAt i r) = ∑ t, f t :=
  Fin.sum_mul_add_congr (S := 8) (n := 256) (f := f) fun i r h => rfl

/-- A sum over the keys of a query, the tiles after the query's left out. -/
theorem sum_keys (i : Fin 8) (r : Fin 256) (f : Fin 2048 → ℝ) (g : Fin 8 → Fin 256 → ℝ) (hg : ∀ j s, j ≤ i → g j s = f (rowAt j s))
    (hf : ∀ u, ¬ u ≤ rowAt i r → f u = 0) : (∑ j, if j ≤ i then ∑ s, g j s else 0) = ∑ u, f u := by
  rw [← sum_row f]
  refine Finset.sum_congr rfl fun j _ => ?_
  split
  · exact Finset.sum_congr rfl fun s _ => hg j s ‹_›
  · exact (Finset.sum_eq_zero fun s _ => hf _ (row_after i j r s ‹_›)).symm

theorem keysOf_ne (qi : Fin 8) : keysOf qi ≠ [] := by revert qi; decide

/-- A sum tile by tile over the tiles of a query. -/
theorem acc_keys (R : Reals) (hh : Fin 2) (qi : Fin 8) (r : Fin 256) (l : Fin 128) :
    R.acc hh qi r l (keysOf qi) = ∑ j, if j ≤ qi then ∑ s, R.weight hh qi j r s * R.value hh j s l else 0 := by
  generalize hg : (fun j => ∑ s, R.weight hh qi j r s * R.value hh j s l) = g
  have e : ∀ L, R.acc hh qi r l L = (L.map g).foldr (fun a x => x + a) 0 := fun L => by
    induction L with
    | nil => rfl
    | cons j L ih => rw [Reals.acc, ih, ← hg]; rfl
  have e2 : ∀ j, ∑ s, R.weight hh qi j r s * R.value hh j s l = g j := fun j => by rw [← hg]
  simp only [e, e2]
  clear e e2 hg
  rw [Fin.sum_univ_eight]
  fin_cases qi <;> simp [keysOf, Fin.le_def]

variable (A : Args) (b : Fin 4) (p : Fin 8) (hh : Fin 2)

/-- The weight of a key for a query, its row's sum undivided. -/
def weightAt (h : Fin 16) (t u : Fin 2048) : ℝ := if u ≤ t then Real.exp (A.logit b h t u) else 0

theorem pair_score (qi kj : Fin 8) (r s : Fin 256) :
    (pair A b p).score hh qi kj r s = A.logit b (head p hh) (rowAt qi r) (rowAt kj s) := by
  simp only [Reals.score, pair, Args.logit, headOf_own, laneOf_own, Finset.sum_mul]
  rw [Finset.sum_congr rfl fun d _ => mul_right_comm (A.q b (rowAt qi r) (head p hh) d) (1 / 8) (A.k b (rowAt kj s) (head p hh) d)]
  ring

theorem pair_weight (qi kj : Fin 8) (r s : Fin 256) (h : kj ≤ qi) :
    (pair A b p).weight hh qi kj r s = weightAt A b (head p hh) (rowAt qi r) (rowAt kj s) := by
  rw [Reals.weight, pair_score, weightAt]
  simp only [row_le qi kj r s h]
  split <;> simp_all

theorem value_own (R : Reals) (kj : Fin 8) (s : Fin 256) (d : Fin 64) : R.value hh kj s (own hh d) = R.v kj s (own hh d) := by
  rw [Reals.value, if_neg (by simpa using own_spare hh d 0 (by omega)), if_pos (own_div hh d)]

theorem value_free (R : Reals) (kj : Fin 8) (s : Fin 256) : R.value hh kj s (free hh 0) = 1 :=
  if_pos (by simpa using (free_spare hh 0 0 (by omega)).mpr rfl)

/-- The sum of weights. -/
theorem acc_free (qi : Fin 8) (r : Fin 256) :
    (pair A b p).acc hh qi r (free hh 0) (keysOf qi) = ∑ u, weightAt A b (head p hh) (rowAt qi r) u := by
  rw [acc_keys]
  exact sum_keys qi r _ _ (fun j s h => by rw [pair_weight _ _ _ _ _ _ _ _ h, value_free, mul_one]) fun u hu => if_neg hu

/-- The sum of weighted values. -/
theorem acc_own (qi : Fin 8) (r : Fin 256) (d : Fin 64) :
    (pair A b p).acc hh qi r (own hh d) (keysOf qi)
      = ∑ u, weightAt A b (head p hh) (rowAt qi r) u * A.v b u (head p hh) d := by
  rw [acc_keys]
  refine sum_keys qi r (fun u => weightAt A b (head p hh) (rowAt qi r) u * A.v b u (head p hh) d) _ (fun j s h => ?_) fun u hu => ?_
  · rw [pair_weight _ _ _ _ _ _ _ _ h, value_own]
    simp only [pair, headOf_own, laneOf_own]
  · rw [weightAt, if_neg hu, zero_mul]

variable (h : Fin 16) (t u : Fin 2048)

theorem raw_eq : A.raw b h t u = Real.exp (-A.most b h t) * weightAt A b h t u := by
  rw [Args.raw, weightAt]
  split
  · rw [← Real.exp_add]; congr 1; ring
  · rw [mul_zero]

theorem total_eq : A.total b h t = Real.exp (-A.most b h t) * ∑ u, weightAt A b h t u := by
  rw [Args.total, Finset.mul_sum]
  exact Finset.sum_congr rfl fun u _ => raw_eq A b h t u

theorem weights_pos : 0 < ∑ u, weightAt A b h t u := by
  have e := A.total_pos b h t
  rw [total_eq] at e
  exact (pos_iff_pos_of_mul_pos e).mp (Real.exp_pos _)

/-- A row's log-sum is the logarithm of its sum of weights. -/
theorem lse_eq : A.lse b h t = Real.log (∑ u, weightAt A b h t u) := by
  rw [Args.lse, total_eq, Real.log_mul (Real.exp_pos _).ne' (weights_pos A b h t).ne', Real.log_exp]
  ring

/-- The output is the sum of weighted values over the sum of weights. -/
theorem out_eq (d : Fin 64) : A.out b h t d = (∑ u, weightAt A b h t u * A.v b u h d) / ∑ u, weightAt A b h t u := by
  have hp := (weights_pos A b h t).ne'
  have he := (Real.exp_pos (-A.most b h t)).ne'
  rw [Args.out, Finset.sum_div]
  refine Finset.sum_congr rfl fun u _ => ?_
  rw [Args.prob, raw_eq, total_eq]
  field_simp

variable {A b p} {X : Loads Ideal} (H : Reads X (pair A b p))
include H

theorem share_own (qi : Fin 8) (r : Fin 256) (d : Fin 64) :
    share hh (sums (kept X) hh qi (keysOf qi)) (ix2 r (own hh d)) = (A.out b (head p hh) (rowAt qi r) d : EReal) := by
  rw [share_apply H _ _ _ _ _ (keysOf_ne qi), acc_free, acc_own, out_eq]

/-- A query tile's output. -/
theorem output_apply (qi : Fin 8) (r : Fin 256) (l : Fin 128) :
    output (kept X) qi (ix2 r l) = (A.out b (head p (headOf l)) (rowAt qi r) (laneOf l) : EReal) := by
  obtain ⟨hh, d, rfl⟩ : ∃ hh d, l = own hh d := ⟨headOf l, laneOf l, by apply Fin.ext; simp only [own, headOf, laneOf]; omega⟩
  rw [headOf_own, laneOf_own, ← share_own hh H]
  pointwise [output, laneIs, lane]
  rw [show IntOp.cmpi CmpIPredicate.slt (BitVec.ofNat 32 (own hh d).val) 64#32 = BitVec.ofBool (decide ((own hh d).val / 64 = 0)) from
    Cert.Attn.lane_half 0 (own hh d), Cert.Attn.select_ofBool, own_div]
  rcases (by revert hh; decide : hh = 0 ∨ hh = 1) with rfl | rfl <;> rfl

/-- A query tile's row of log-sums. -/
theorem logRow_apply (qi : Fin 8) (r : Fin 256) :
    logRow (kept X) hh qi (ix2 (0 : Fin 1) r) = (A.lse b (head p hh) (rowAt qi r) : EReal) := by
  have e : logRow (kept X) hh qi (ix2 (0 : Fin 1) r) = logsum (kept X) hh qi (ix2 r (0 : Fin 1)) := by
    rcases (by revert hh; decide : hh = 0 ∨ hh = 1) with rfl | rfl <;>
      (pointwise [logRow, logsums, laneIs, lane, onLanes]; rfl)
  rw [e, logsum_apply H _ _ _ (keysOf_ne qi), acc_free, lse_eq]

/-- A gate times its own logistic, element by element. -/
def silu (g : EReal) : EReal := g * Ideal.logistic g

omit H in
theorem one_word : Ideal.ofBits .f32 0x3F800000#32 = (1 : EReal) := by
  have h : (8388608 : ℝ) * ((2 : ℝ) ^ 23)⁻¹ = 1 := by norm_num
  simp only [Ideal.ofBits, Ideal.ieee]
  simp [← EReal.coe_mul, h]

omit H in
theorem gate_apply (g : Vec Ideal S1x256x128 .bf16) (r : Fin 256) (l : Fin 128) :
    gate g (ix2 r l) = silu (g (ix3 (0 : Fin 1) r l)) := by
  pointwise [gate, ones, Cert.Attn.zeros, flat, silu, Ideal.logistic, zero_sub]

end Cert.Fox

end
-- ==== Proof.FoxBlocks.lean ====
/- What the body loads at grid point `t` are the tiles of batch `t / 8` and pair of heads `t % 8`. -/
module

public import proofs.«01_k».proof.Proof.FoxHost
public import proofs.«01_k».proof.Proof.FoxReals
public import Idealize.ShloMosaic.Lib.WholeRead

@[expose] public section

set_option maxRecDepth 16384

noncomputable section

namespace Cert.Fox

open Idealize.ShloMosaic Idealize.ShloMosaic.TcCoe Idealize.SL.Sem
open Cert.FoxKernelIdeal Cert.FoxKernelIdeal.Gen

open Cert.Attn (Args head headOf laneOf)

/-- Every window's block index at every grid point. -/
theorem idx : ∀ t : Fin cfg0.N, win0_0.index t = ![t.val / 8, 0, t.val % 8] ∧ win0_1.index t = ![t.val / 8, 0, t.val % 8]
    ∧ win0_2.index t = ![t.val / 8, t.val % 8, 0, 0, 0] ∧ win0_3.index t = ![t.val / 8, 0, t.val % 8]
    ∧ win0_4.index t = ![t.val / 8, 0, t.val % 8] ∧ win0_5.index t = ![t.val / 8, t.val % 8, 0, 0, 0]
    ∧ win0_6.index t = ![t.val / 8, t.val % 8] :=
  (by decide +kernel : ∀ t : Fin grid0.N, _)

/-- The batch of a grid point. -/
def batch (t : Fin cfg0.N) : Fin 4 := ⟨t.val / 8, by have := lt_of_lt_of_eq t.isLt N_0; omega⟩

/-- The pair of heads of a grid point. -/
def pairOf (t : Fin cfg0.N) : Fin 8 := ⟨t.val % 8, by omega⟩

/-- Lane `l` of part `j` of the queries, keys and values. -/
def lane3 (j : Fin 3) (l : Fin 128) : Fin 384 := ⟨128 * j.val + l.val, by omega⟩

variable {m : (ℓ : Loc nD τ sig) → Buf (Elt Ideal) ℓ} {c : Dev nD} {A : Args} (H : Holds m c A) (t : Fin cfg0.N)

theorem emb0 (n : Fin 2048) (j : Fin 3) (l : Fin 128) : ((cfg0.win 0).blk t).view.emb (ix3 (0 : Fin 1) n (lane3 j l))
    = ix3 (batch t) n (⟨((pairOf t).val * 3 + j.val) * 128 + l.val, by omega⟩ : Fin 3072) := by
  blk_ext [idx t, batch, pairOf, lane3]

theorem emb1 (n : Fin 2048) (l : Fin 128) : ((cfg0.win 1).blk t).view.emb (ix3 (0 : Fin 1) n l)
    = ix3 (batch t) n (⟨(pairOf t).val * 128 + l.val, by omega⟩ : Fin 1024) := by
  blk_ext [idx t, batch, pairOf]

theorem emb2 (hh : Fin 2) (i : Fin 8) (r : Fin 256) : ((cfg0.win 2).blk t).view.emb (ix5 (0 : Fin 1) (0 : Fin 1) hh i r)
    = ix5 (batch t) (pairOf t) hh i r := by
  blk_ext [idx t, batch, pairOf]

theorem emb3 (n : Fin 2048) (l : Fin 128) : ((cfg0.win 3).blk t).view.emb (ix3 (0 : Fin 1) n l)
    = ix3 (batch t) n (⟨(pairOf t).val * 128 + l.val, by omega⟩ : Fin 5120) := by
  blk_ext [idx t, batch, pairOf]

theorem key0 (f : (b : Ref sig .tc) → b.ty.Contents (Elt Ideal)) (i) : ((cfg0.win 0).blk t).view.read (Elt Ideal) (f (Pipeline.arrRef spec0 0)) i
    = f main_v7 (((cfg0.win 0).blk t).view.emb i) := rfl

theorem at0 (i) : iblk m c 0 t i = V m c main_v7 (((cfg0.win 0).blk t).view.emb i) := key0 t (V m c) i

theorem key1 (f : (b : Ref sig .tc) → b.ty.Contents (Elt Ideal)) (i) : ((cfg0.win 1).blk t).view.read (Elt Ideal) (f (Pipeline.arrRef spec0 1)) i
    = f main_v10 (((cfg0.win 1).blk t).view.emb i) := rfl

theorem at1 (i) : iblk m c 1 t i = V m c main_v10 (((cfg0.win 1).blk t).view.emb i) := key1 t (V m c) i

theorem key2 (f : (b : Ref sig .tc) → b.ty.Contents (Elt Ideal)) (i) : ((cfg0.win 2).blk t).view.read (Elt Ideal) (f (Pipeline.arrRef spec0 2)) i
    = f main_v12 (((cfg0.win 2).blk t).view.emb i) := rfl

theorem at2 (i) : iblk m c 2 t i = V m c main_v12 (((cfg0.win 2).blk t).view.emb i) := key2 t (V m c) i

theorem key3 (f : (b : Ref sig .tc) → b.ty.Contents (Elt Ideal)) (i) : ((cfg0.win 3).blk t).view.read (Elt Ideal) (f (Pipeline.arrRef spec0 3)) i
    = f main_v11 (((cfg0.win 3).blk t).view.emb i) := rfl

theorem at3 (i) : iblk m c 3 t i = V m c main_v11 (((cfg0.win 3).blk t).view.emb i) := key3 t (V m c) i

theorem head_lane (l : Fin 128) (h) : (⟨((pairOf t).val * 128 + l.val) / 64, h⟩ : Fin 16) = head (pairOf t) (headOf l) := by
  apply Fin.ext; simp only [head, headOf, pairOf]; omega

theorem inPart_emb (i : Fin 8) (j : Fin 3) (r : Fin 256) (l : Fin 128) :
    (inPart i j).toLoadRect.idx (ix3 (0 : Fin 1) r l) = ix3 (0 : Fin 1) (rowAt i r) (lane3 j l) := by
  refine funext fun a => Fin.ext ?_
  show ![0, 256 * i.val, 128 * j.val] a + 1 * (ix3 (0 : Fin 1) r l a).val = _
  fin_cases a
  · show 0 + 1 * 0 = 0; rfl
  · show 256 * i.val + 1 * r.val = i.val * 256 + r.val; omega
  · show 128 * j.val + 1 * l.val = 128 * j.val + l.val; omega

theorem atRow_emb (i : Fin 8) (r : Fin 256) (l : Fin 128) :
    (atRow i).toLoadRect.idx (ix3 (0 : Fin 1) r l) = ix3 (0 : Fin 1) (rowAt i r) l := by
  refine funext fun a => Fin.ext ?_
  show ![0, 256 * i.val, 0] a + 1 * (ix3 (0 : Fin 1) r l a).val = _
  fin_cases a
  · show 0 + 1 * 0 = 0; rfl
  · show 256 * i.val + 1 * r.val = i.val * 256 + r.val; omega
  · show 0 + 1 * l.val = l.val; omega

theorem atLse_emb (hh : Fin 2) (i : Fin 8) (r : Fin 256) :
    (atLse hh i).toLoadRect.idx (ix5 (0 : Fin 1) (0 : Fin 1) (0 : Fin 1) (0 : Fin 1) r) = ix5 (0 : Fin 1) (0 : Fin 1) hh i r := by
  refine funext fun a => Fin.ext ?_
  show ![0, 0, hh.val, i.val, 0] a + 1 * (ix5 (0 : Fin 1) (0 : Fin 1) (0 : Fin 1) (0 : Fin 1) r a).val = _
  fin_cases a
  · show 0 + 1 * 0 = 0; rfl
  · show 0 + 1 * 0 = 0; rfl
  · show hh.val + 1 * 0 = hh.val; omega
  · show i.val + 1 * 0 = i.val; omega
  · show 0 + 1 * r.val = r.val; omega

/-- A block of gates. -/
theorem blk_gate (n : Fin 2048) (l : Fin 128) : iblk m c 3 t (ix3 (0 : Fin 1) n l)
    = m ((c : Thread nD τ).loc main_arg4) (ix3 (batch t) n (⟨(pairOf t).val * 128 + l.val, by omega⟩ : Fin 5120)) := by
  rw [at3, emb3, gate_entry]

/-- What the body loads at a point. -/
abbrev loadsAt (m : (ℓ : Loc nD τ sig) → Buf (Elt Ideal) ℓ) (c : Dev nD) (t : Fin cfg0.N) : Loads Ideal :=
  loads (ms0_0 t) (hs0_0 t) (ms0_1 t) (hs0_1 t) (ms0_2 t) (hs0_2 t) (ms0_3 t) (hs0_3 t) (iblk m c 0 t) (iblk m c 1 t) (iblk m c 2 t) (iblk m c 3 t)

/-- The gates a point loads. -/
theorem loadsAt_gate (i : Fin 8) (r : Fin 256) (l : Fin 128) : (loadsAt m c t).g i (ix3 (0 : Fin 1) r l)
    = m ((c : Thread nD τ).loc main_arg4) (ix3 (batch t) (rowAt i r) (⟨(pairOf t).val * 128 + l.val, by omega⟩ : Fin 5120)) := by
  refine ((hs0_3 t).readAt_unread _ _ _).trans ?_
  rw [atRow_emb]; exact blk_gate t (rowAt i r) l

include H

theorem blk_qkv (n : Fin 2048) (j : Fin 3) (l : Fin 128) : iblk m c 0 t (ix3 (0 : Fin 1) n (lane3 j l))
    = ((match j with | 0 => A.q | 1 => A.k | 2 => A.v) (batch t) n (head (pairOf t) (headOf l)) (laneOf l) : EReal) := by
  rw [at0, emb0]
  exact qkv_apply H _ _ _ _ _

theorem blk_cexp (n : Fin 2048) (l : Fin 128) : iblk m c 1 t (ix3 (0 : Fin 1) n l)
    = (A.c (batch t) n (head (pairOf t) (headOf l)) : EReal) := by
  rw [at1, emb1, cexp_apply H, head_lane]

theorem blk_crow (hh : Fin 2) (i : Fin 8) (r : Fin 256) : iblk m c 2 t (ix5 (0 : Fin 1) (0 : Fin 1) hh i r)
    = (A.c (batch t) (rowAt i r) (head (pairOf t) hh) : EReal) := by
  rw [at2, emb2]
  exact crow_apply H _ _ _ _ _

/-- The loads at a point are the tiles of its batch and pair of heads. -/
theorem loadsAt_reads : Reads (loadsAt m c t) (pair A (batch t) (pairOf t)) where
  q i r l := by
    refine ((hs0_0 t).readAt_unread _ _ _).trans ?_
    rw [inPart_emb]; exact blk_qkv H t (rowAt i r) 0 l
  k i r l := by
    refine ((hs0_0 t).readAt_unread _ _ _).trans ?_
    rw [inPart_emb]; exact blk_qkv H t (rowAt i r) 1 l
  v i r l := by
    refine ((hs0_0 t).readAt_unread _ _ _).trans ?_
    rw [inPart_emb]; exact blk_qkv H t (rowAt i r) 2 l
  c i r l := by
    refine ((hs0_1 t).readAt_unread _ _ _).trans ?_
    rw [atRow_emb]; exact blk_cexp H t (rowAt i r) l
  cr hh i r := by
    refine ((hs0_2 t).readAt_unread _ _ _).trans ?_
    rw [atLse_emb]; exact blk_crow H t hh i r

end Cert.Fox

end
-- ==== Proof.FoxFinal.lean ====
/- The three result arrays after the run. -/
module

public import proofs.«01_k».proof.Proof.FoxBlocks

@[expose] public section

set_option maxRecDepth 16384

noncomputable section

namespace Cert.Fox

open Idealize.ShloMosaic Idealize.ShloMosaic.TcCoe Idealize.SL.Sem
open Cert.FoxKernelIdeal Cert.FoxKernelIdeal.Gen

open Cert.Attn (Args head headOf laneOf)

/-- The row tile of a row. -/
def tileOf (n : Fin 2048) : Fin 8 := ⟨n.val / 256, by omega⟩

/-- The row within its tile. -/
def within (n : Fin 2048) : Fin 256 := ⟨n.val % 256, by omega⟩

theorem rowAt_tileOf (n : Fin 2048) : rowAt (tileOf n) (within n) = n := by
  apply Fin.ext; simp only [rowAt, tileOf, within]; omega

theorem tileOf_rowAt (i : Fin 8) (r : Fin 256) : tileOf (rowAt i r) = i := by
  apply Fin.ext; simp only [rowAt, tileOf]; omega

theorem within_rowAt (i : Fin 8) (r : Fin 256) : within (rowAt i r) = r := by
  apply Fin.ext; simp only [rowAt, within]; omega

theorem atGate_emb (i : Fin 8) (r : Fin 256) (l : Fin 128) : (atGate i).emb (ix2 r l) = ix2 (rowAt i r) l := by
  refine funext fun a => Fin.ext ?_
  show ![256 * i.val, 0] a + 1 * (ix2 r l a).val = _
  fin_cases a
  · show 256 * i.val + 1 * r.val = i.val * 256 + r.val; omega
  · show 0 + 1 * l.val = l.val; omega

theorem mem_rowTiles : ∀ i : Fin 8, i ∈ rowTiles := by decide

section Stored

variable (A : Args) (b : Fin 4) (p : Fin 8)

/-- The output of a pair of heads, by row and lane. -/
def outPair (n : Fin 2048) (l : Fin 128) : EReal := (A.out b (head p (headOf l)) n (laneOf l) : EReal)

variable {A b p} {X : Loads Ideal} (H : Reads X (pair A b p))
include H

/-- The output's block as stored, element by element. -/
theorem canon_y (n : Fin 2048) (l : Fin 128) :
    View.canon (storesY (kept X)) (ix3 (0 : Fin 1) n l) = outPair A b p n l := by
  refine View.canon_apply_of_pieces (Val := Elt Ideal) (e := .f32) (fun y : S1x2048x128.Idx => outPair A b p (y 1) (y 2))
    _ ?_ (ix3 (0 : Fin 1) n l) ⟨_, List.mem_map_of_mem (mem_rowTiles (tileOf n)), ?_⟩
  · intro q hq x
    obtain ⟨i, -, rfl⟩ := List.mem_map.mp hq
    obtain ⟨a, r, l, rfl⟩ : ∃ (a : Fin 1) (r : Fin 256) (l : Fin 128), x = ix3 a r l := ⟨x 0, x 1, x 2, eq_ix3 x⟩
    obtain rfl : a = 0 := Subsingleton.elim _ _
    have e : shapeCast S1x256x128 (output (kept X) i) shapeCasts_S256x128_S1x256x128 (ix3 (0 : Fin 1) r l) = output (kept X) i (ix2 r l) := by
      pointwise
    refine e.trans ((output_apply H i r l).trans ?_)
    show _ = outPair A b p ((atRow i).toLoadRect.idx (ix3 (0 : Fin 1) r l) 1) ((atRow i).toLoadRect.idx (ix3 (0 : Fin 1) r l) 2)
    rw [atRow_emb]
    rfl
  · have e := atRow_emb (tileOf n) (within n) l
    rw [rowAt_tileOf] at e
    rw [← e]
    exact LoadRect.idx_mem _ _

/-- The gated output's block as stored, element by element. -/
theorem canon_gate (n : Fin 2048) (l : Fin 128) :
    View.canon (storesG (kept X) X.g) (ix2 n l) = outPair A b p n l * silu (X.g (tileOf n) (ix3 (0 : Fin 1) (within n) l)) := by
  refine View.canon_apply_of_pieces (Val := Elt Ideal) (e := .bf16)
    (fun y : S2048x128.Idx => outPair A b p (y 0) (y 1) * silu (X.g (tileOf (y 0)) (ix3 (0 : Fin 1) (within (y 0)) (y 1))))
    _ ?_ (ix2 n l) ⟨_, List.mem_map_of_mem (mem_rowTiles (tileOf n)), ?_⟩
  · intro q hq x
    obtain ⟨i, -, rfl⟩ := List.mem_map.mp hq
    obtain ⟨r, l, rfl⟩ : ∃ (r : Fin 256) (l : Fin 128), x = ix2 r l := ⟨x 0, x 1, eq_ix2 x⟩
    have e : Cert.Attn.hi (mulf (output (kept X) i) (gate (X.g i))) (ix2 r l) = output (kept X) i (ix2 r l) * gate (X.g i) (ix2 r l) := rfl
    refine e.trans ?_
    rw [output_apply H, gate_apply]
    show _ = (fun y : S2048x128.Idx => outPair A b p (y 0) (y 1) * silu (X.g (tileOf (y 0)) (ix3 (0 : Fin 1) (within (y 0)) (y 1)))) ((atGate i).emb (ix2 r l))
    rw [atGate_emb]
    show _ = outPair A b p (rowAt i r) l * silu (X.g (tileOf (rowAt i r)) (ix3 (0 : Fin 1) (within (rowAt i r)) l))
    rw [tileOf_rowAt, within_rowAt]
    rfl
  · have e := atGate_emb (tileOf n) (within n) l
    rw [rowAt_tileOf] at e
    rw [← e]
    exact LoadRect.idx_mem _ _

/-- The log-sums' block as stored, element by element. -/
theorem canon_lse (hh : Fin 2) (i : Fin 8) (r : Fin 256) :
    View.canon (storesL (kept X)) (ix5 (0 : Fin 1) (0 : Fin 1) hh i r) = (A.lse b (head p hh) (rowAt i r) : EReal) := by
  refine View.canon_apply_of_pieces (Val := Elt Ideal) (e := .f32) (fun y : S1x1x2x8x256.Idx => ((A.lse b (head p (y 2)) (rowAt (y 3) (y 4)) : ℝ) : EReal))
    _ ?_ (ix5 (0 : Fin 1) (0 : Fin 1) hh i r) ⟨_, List.mem_map_of_mem (mem_slots hh i), ?_⟩
  · intro q hq x
    obtain ⟨⟨hh, i⟩, -, rfl⟩ := List.mem_map.mp hq
    obtain ⟨a0, a1, a2, a3, r, rfl⟩ : ∃ (a0 a1 a2 a3 : Fin 1) (r : Fin 256), x = ix5 a0 a1 a2 a3 r := ⟨x 0, x 1, x 2, x 3, x 4, eq_ix5 x⟩
    obtain rfl : a0 = 0 := Subsingleton.elim _ _
    obtain rfl : a1 = 0 := Subsingleton.elim _ _
    obtain rfl : a2 = 0 := Subsingleton.elim _ _
    obtain rfl : a3 = 0 := Subsingleton.elim _ _
    have e : shapeCast S1x1x1x1x256 (logRow (kept X) hh i) shapeCasts_S1x256_S1x1x1x1x256 (ix5 (0 : Fin 1) (0 : Fin 1) (0 : Fin 1) (0 : Fin 1) r)
        = logRow (kept X) hh i (ix2 (0 : Fin 1) r) := by
      pointwise
    refine e.trans ((logRow_apply hh H i r).trans ?_)
    show _ = (fun y : S1x1x2x8x256.Idx => ((A.lse b (head p (y 2)) (rowAt (y 3) (y 4)) : ℝ) : EReal))
      ((atLse hh i).toLoadRect.idx (ix5 (0 : Fin 1) (0 : Fin 1) (0 : Fin 1) (0 : Fin 1) r))
    rw [atLse_emb]
    rfl
  · rw [← atLse_emb hh i r]
    exact LoadRect.idx_mem _ _

end Stored

variable (m : (ℓ : Loc nD τ sig) → Buf (Elt Ideal) ℓ) (c : Dev nD) (t : Fin cfg0.N)

theorem out4 : (outsAt0 m c t).1 = View.canon (storesY (kept (loadsAt m c t))) := by
  unfold outsAt0
  dsimp only
  unfold out0_A_4
  rw [View.read_writes_junk_eq_canon, stores_y, tiles_eq]

theorem out5 : (outsAt0 m c t).2.1 = View.canon (storesL (kept (loadsAt m c t))) := by
  unfold outsAt0
  dsimp only
  unfold out0_A_5
  rw [View.read_writes_junk_eq_canon, stores_lse, tiles_eq]

theorem out6 : (outsAt0 m c t).2.2 = View.canon (storesG (kept (loadsAt m c t)) (loadsAt m c t).g) := by
  unfold outsAt0
  dsimp only
  unfold out0_A_6
  rw [View.read_writes_junk_eq_canon, stores_gate, tiles_eq]

variable {m c}

/-- The output at row `n` and lane `l` of a batch. -/
def outAt (A : Args) (b : Fin 4) (n : Fin 2048) (l : Fin 1024) : ℝ := A.out b (⟨l.val / 64, by omega⟩ : Fin 16) n (⟨l.val % 64, by omega⟩ : Fin 64)

/-- A log-sum by batch, pair of heads, head, row tile and row. -/
def lseAt (A : Args) (b : Fin 4) (p : Fin 8) (hh : Fin 2) (i : Fin 8) (r : Fin 256) : ℝ := A.lse b (head p hh) (rowAt i r)

/-- The gated output at row `n` of all batches and lane `l`. -/
def gatedAt (A : Args) (G : FVec Ideal S4x2048x5120 .f32) (n : Fin 8192) (l : Fin 1024) : EReal :=
  (outAt A (⟨n.val / 2048, by omega⟩ : Fin 4) (⟨n.val % 2048, by omega⟩ : Fin 2048) l : EReal)
    * silu (G (ix3 (⟨n.val / 2048, by omega⟩ : Fin 4) (⟨n.val % 2048, by omega⟩ : Fin 2048) (⟨l.val, by omega⟩ : Fin 5120)))

theorem outPair_eq (A : Args) (b : Fin 4) (n : Fin 2048) (l : Fin 128) (h) :
    outPair A b (pairOf t) n l = (outAt A b n (⟨(pairOf t).val * 128 + l.val, h⟩ : Fin 1024) : EReal) := by
  unfold outPair outAt
  congr 2 <;> simp only [head, headOf, laneOf, Fin.mk.injEq] <;> omega

variable {A : Args} (H : Holds m c A)
include H

/-- The output after the run. -/
theorem final4 : (dats m 0 c).arrAt 4 (cfgs 0).N = (fun i => (outAt A (i 0) (i 1) (i 2) : EReal) : FVec Ideal S4x2048x1024 .f32) := by
  refine (dats m 0 c).arrAt_eq_of_covers 4 _ (by decide +kernel) fun t hf y => ?_
  blk_simp; rw [after0_4]
  obtain ⟨a, n, l, rfl⟩ : ∃ (a : Fin 1) (n : Fin 2048) (l : Fin 128), y = ix3 a n l := ⟨y 0, y 1, y 2, eq_ix3 y⟩
  obtain rfl : a = 0 := Subsingleton.elim _ _
  have e : ((cfg0.win 4).blk t).view.emb (ix3 (0 : Fin 1) n l) = ix3 (batch t) n (⟨(pairOf t).val * 128 + l.val, by omega⟩ : Fin 1024) := by
    blk_ext [idx t, batch, pairOf]
  have hv : (outsAt0 m c t).1 (ix3 (0 : Fin 1) n l) = outPair A (batch t) (pairOf t) n l := by
    rw [out4, canon_y (loadsAt_reads H t)]
  refine hv.trans ?_
  rw [e, outPair_eq t]
  rfl

/-- The log-sums after the run. -/
theorem final5 : (dats m 0 c).arrAt 5 (cfgs 0).N = (fun i => (lseAt A (i 0) (i 1) (i 2) (i 3) (i 4) : EReal) : FVec Ideal S4x8x2x8x256 .f32) := by
  refine (dats m 0 c).arrAt_eq_of_covers 5 _ (by decide +kernel) fun t hf y => ?_
  blk_simp; rw [after0_5]
  obtain ⟨a0, a1, hh, i, r, rfl⟩ : ∃ (a0 a1 : Fin 1) (hh : Fin 2) (i : Fin 8) (r : Fin 256), y = ix5 a0 a1 hh i r := ⟨y 0, y 1, y 2, y 3, y 4, eq_ix5 y⟩
  obtain rfl : a0 = 0 := Subsingleton.elim _ _
  obtain rfl : a1 = 0 := Subsingleton.elim _ _
  have e : ((cfg0.win 5).blk t).view.emb (ix5 (0 : Fin 1) (0 : Fin 1) hh i r) = ix5 (batch t) (pairOf t) hh i r := by
    blk_ext [idx t, batch, pairOf]
  have hv : (outsAt0 m c t).2.1 (ix5 (0 : Fin 1) (0 : Fin 1) hh i r) = (lseAt A (batch t) (pairOf t) hh i r : EReal) := by
    rw [out5, canon_lse (loadsAt_reads H t)]
    rfl
  refine hv.trans ?_
  rw [e]
  rfl

/-- The gated output after the run. -/
theorem final6 : (dats m 0 c).arrAt 6 (cfgs 0).N
    = (fun i => gatedAt A (m ((c : Thread nD τ).loc main_arg4)) (i 0) (i 1) : FVec Ideal S8192x1024 .bf16) := by
  refine (dats m 0 c).arrAt_eq_of_covers 6 _ (by decide +kernel) fun t hf y => ?_
  blk_simp; rw [after0_6]
  obtain ⟨n, l, rfl⟩ : ∃ (n : Fin 2048) (l : Fin 128), y = ix2 n l := ⟨y 0, y 1, eq_ix2 y⟩
  have e : ((cfg0.win 6).blk t).view.emb (ix2 n l) = ix2 (⟨(batch t).val * 2048 + n.val, by omega⟩ : Fin 8192) (⟨(pairOf t).val * 128 + l.val, by omega⟩ : Fin 1024) := by
    blk_ext [idx t, batch, pairOf]
  have hv : (outsAt0 m c t).2.2 (ix2 n l) = (outAt A (batch t) n (⟨(pairOf t).val * 128 + l.val, by omega⟩ : Fin 1024) : EReal)
      * silu (m ((c : Thread nD τ).loc main_arg4) (ix3 (batch t) n (⟨(pairOf t).val * 128 + l.val, by omega⟩ : Fin 5120))) := by
    rw [out6, canon_gate (loadsAt_reads H t), loadsAt_gate, rowAt_tileOf, outPair_eq t]
  refine hv.trans ?_
  rw [e]
  have e1 : (⟨((batch t).val * 2048 + n.val) / 2048, by omega⟩ : Fin 4) = batch t := Fin.ext (by dsimp only; omega)
  have e2 : (⟨((batch t).val * 2048 + n.val) % 2048, by omega⟩ : Fin 2048) = n := Fin.ext (by dsimp only; omega)
  show _ = gatedAt A (m ((c : Thread nD τ).loc main_arg4)) (⟨(batch t).val * 2048 + n.val, by omega⟩ : Fin 8192) (⟨(pairOf t).val * 128 + l.val, by omega⟩ : Fin 1024)
  unfold gatedAt
  dsimp only
  rw [e1, e2]

end Cert.Fox

end
-- ==== Proof.FoxRef.lean ====
/- The softmax attention and its log-sums, as the reference writes them out, element by element. -/
module

public import proofs.«01_k».proof.Proof.FoxFinal
public import proofs.«01_k».proof.Proof.Gen.FoxReferenceIdeal.Run
public import proofs.«01_k».proof.Proof.Gen.FoxReferenceIdeal.Read
public import Idealize.ShloMosaic.Lib.KernelVsHost

@[expose] public section

set_option maxRecDepth 16384

noncomputable section

namespace Cert.Fox

open Idealize.ShloMosaic Idealize.ShloMosaic.TcCoe Idealize.SL.Sem
open Cert.FoxReferenceIdeal Cert.FoxReferenceIdeal.Read
open Cert.Attn (Args head headOf laneOf hLogits hMost hLeast hProb hOut hLse hLeast_eq hLogits_apply hMost_apply hLse_apply hOut_apply)

variable {x0 x1 x2 : FVec Ideal S4x2048x16x64 .f32} {x3 : FVec Ideal S4x2048x16 .f32} {x4 : FVec Ideal S4x2048x5120 .f32} {A : Args}

/-- The reference's argument arrays hold those real numbers. -/
structure HoldsR (x0 x1 x2 : FVec Ideal S4x2048x16x64 .f32) (x3 : FVec Ideal S4x2048x16 .f32) (A : Args) : Prop where
  eq_q : ∀ b t h d, x0 (ix4 b t h d) = (A.q b t h d : EReal)
  eq_k : ∀ b t h d, x1 (ix4 b t h d) = (A.k b t h d : EReal)
  eq_v : ∀ b t h d, x2 (ix4 b t h d) = (A.v b t h d : EReal)
  eq_c : ∀ b t h, x3 (ix3 b t h) = (A.c b t h : EReal)

variable (H : HoldsR x0 x1 x2 x3 A) (b : Fin 4) (h : Fin 16) (t u : Fin 2048) (d : Fin 64)

theorem r_logits_eq : val_main_v18 (F := Ideal) x0 x1 x3 = hLogits x0 x1 x3 := rfl

theorem r_out_eq : val_main_v31 (F := Ideal) x0 x1 x2 x3
    = hOut x2 (hProb (val_main_v18 (F := Ideal) x0 x1 x3) (hLeast (hMost (val_main_v18 (F := Ideal) x0 x1 x3)))) := rfl

theorem r_lse_eq : val_main_v40 (F := Ideal) x0 x1 x3
    = hLse (val_main_v18 (F := Ideal) x0 x1 x3) (hMost (val_main_v18 (F := Ideal) x0 x1 x3)) := rfl

include H

theorem r_logits : val_main_v18 (F := Ideal) x0 x1 x3 (ix4 b h t u) = A.masked b h t u := by
  rw [r_logits_eq]
  exact hLogits_apply H.eq_q H.eq_k H.eq_c b h t u

theorem r_out : val_main_v31 (F := Ideal) x0 x1 x2 x3 (ix4 b t h d) = (A.out b h t d : EReal) := by
  rw [r_out_eq, hLeast_eq]
  exact hOut_apply H.eq_v b h t _ (r_logits H) _ (fun b h t => hMost_apply b h t _ (r_logits H)) d

theorem r_lse : val_main_v40 (F := Ideal) x0 x1 x3 (ix3 b h t) = (A.lse b h t : EReal) := by
  rw [r_lse_eq]
  exact hLse_apply b h t _ (r_logits H) _ fun b h t => hMost_apply b h t _ (r_logits H)

/-- The output. -/
theorem r_y (l : Fin 1024) : val_main_v32 (F := Ideal) x0 x1 x2 x3 (ix3 b t l) = (outAt A b t l : EReal) := by
  refine Eq.trans ?_ (r_out H b (⟨l.val / 64, by omega⟩ : Fin 16) t (⟨l.val % 64, by omega⟩ : Fin 64))
  pointwise [val_main_v32]

/-- The log-sums. -/
theorem r_rows (p : Fin 8) (hh : Fin 2) (i : Fin 8) (r : Fin 256) :
    val_main_v41 (F := Ideal) x0 x1 x3 (ix5 b p hh i r) = (lseAt A b p hh i r : EReal) := by
  refine Eq.trans ?_ (r_lse H b (head p hh) (rowAt i r))
  pointwise [val_main_v41]
  rfl

/-- The gated output. -/
theorem r_gated (n : Fin 8192) (l : Fin 1024) :
    val_main_v46 (F := Ideal) x0 x1 x2 x3 x4 (ix2 n l) = gatedAt A x4 n l := by
  have e : val_main_v46 (F := Ideal) x0 x1 x2 x3 x4 (ix2 n l)
      = val_main_v32 (F := Ideal) x0 x1 x2 x3 (ix3 (⟨n.val / 2048, by omega⟩ : Fin 4) (⟨n.val % 2048, by omega⟩ : Fin 2048) l)
        * val_main_v43 (F := Ideal) x4 (ix3 (⟨n.val / 2048, by omega⟩ : Fin 4) (⟨n.val % 2048, by omega⟩ : Fin 2048) l) := by
    pointwise [val_main_v46, val_main_v45, val_main_v44]
  rw [e, r_y H]
  unfold gatedAt
  congr 1
  pointwise [val_main_v43, val_main_v42, val_main_call1_v5, val_main_call1_v4, val_main_call1_v3, val_main_call1_v2, val_main_call1_v1, val_main_call1_v0, silu, Ideal.logistic]
  rw [show val_main_call1_cst (F := Ideal) ix0 = (1 : EReal) from one_word, show val_main_call1_cst_0 (F := Ideal) ix0 = (1 : EReal) from one_word]

end Cert.Fox

end
-- ==== Proof.Fox.lean ====
/- The softmax attention and its log-sums: kernel and reference compute the same three arrays. -/
module

public import proofs.«01_k».proof.Defs
public import proofs.«01_k».proof.Proof.FoxRef
public import proofs.«01_k».proof.Proof.Finite
public import proofs.«01_k».proof.Proof.Gen.Pre_fox_finite

@[expose] public section

set_option maxRecDepth 16384

noncomputable section

namespace Cert.Fox

open Idealize.ShloMosaic Idealize.ShloMosaic.TcCoe Idealize.SL.Sem
open Cert.FoxKernelIdeal Cert.FoxKernelIdeal.Gen

open Cert.Attn (Args)

/-- A finite argument is an array of real numbers. -/
theorem real_args (x0 x1 x2 : FVec Ideal Cert.Pre_fox_finite.S4x2048x16x64 .f32) (x3 : FVec Ideal Cert.Pre_fox_finite.S4x2048x16 .f32)
    (x4 : FVec Ideal Cert.Pre_fox_finite.S4x2048x5120 .f32) (h : Cert.Pre_fox_finite.fn (F := Ideal) x0 x1 x2 x3 x4 = fun _ => 1#1) :
    ((∃ x : Cert.Pre_fox_finite.S4x2048x16x64.Idx → ℝ, x0 = fun i => (x i : EReal))
      ∧ ∃ x : Cert.Pre_fox_finite.S4x2048x16x64.Idx → ℝ, x1 = fun i => (x i : EReal))
    ∧ ((∃ x : Cert.Pre_fox_finite.S4x2048x16x64.Idx → ℝ, x2 = fun i => (x i : EReal))
      ∧ ∃ x : Cert.Pre_fox_finite.S4x2048x16.Idx → ℝ, x3 = fun i => (x i : EReal)) := by
  have e := congrFun h ix0
  dsimp only [Cert.Pre_fox_finite.fn, Cert.Pre_fox_finite.fn_part1] at e
  obtain ⟨e01, e23⟩ := Cert.Finite.and_one _ _ _ e
  obtain ⟨e0, e1⟩ := Cert.Finite.and_one _ _ _ e01
  obtain ⟨e2, e3⟩ := Cert.Finite.and_one _ _ _ e23
  exact ⟨⟨Cert.Finite.real_of_all _ _ _ _ _ _ e0, Cert.Finite.real_of_all _ _ _ _ _ _ e1⟩,
    ⟨Cert.Finite.real_of_all _ _ _ _ _ _ e2, Cert.Finite.real_of_all _ _ _ _ _ _ e3⟩⟩

variable (m : (ℓ : Loc nD τ sig) → Buf (Elt Ideal) ℓ) (c : Dev nD)

/-- Finite argument arrays hold real numbers, by their axes. -/
theorem holds (h : Cert.Pre_fox_finite.fn (F := Ideal) (m ((c : Thread nD τ).loc main_arg0)) (m ((c : Thread nD τ).loc main_arg1))
    (m ((c : Thread nD τ).loc main_arg2)) (m ((c : Thread nD τ).loc main_arg3)) (m ((c : Thread nD τ).loc main_arg4)) = fun _ => 1#1) :
    ∃ A : Args, Holds m c A := by
  obtain ⟨⟨⟨q, hq⟩, ⟨k, hk⟩⟩, ⟨⟨v, hv⟩, ⟨w, hw⟩⟩⟩ := real_args _ _ _ _ _ h
  refine ⟨⟨fun b t h d => q (ix4 b t h d), fun b t h d => k (ix4 b t h d), fun b t h d => v (ix4 b t h d), fun b t h => w (ix3 b t h),
    fun b t h d => 0⟩, ?_, ?_, ?_, ?_⟩
  · rw [hq]; funext i; idx_vars i
  · rw [hk]; funext i; idx_vars i
  · rw [hv]; funext i; idx_vars i
  · rw [hw]; funext i; idx_vars i

variable {m c}

/-- The same real numbers, read off the arrays that the reference takes. -/
theorem holdsR {A : Args} (H : Holds m c A) : HoldsR (m ((c : Thread nD τ).loc main_arg0)) (m ((c : Thread nD τ).loc main_arg1))
    (m ((c : Thread nD τ).loc main_arg2)) (m ((c : Thread nD τ).loc main_arg3)) A :=
  ⟨fun _ _ _ _ => congrFun H.eq_q _, fun _ _ _ _ => congrFun H.eq_k _, fun _ _ _ _ => congrFun H.eq_v _, fun _ _ _ => congrFun H.eq_c _⟩

set_option maxHeartbeats 1000000 in
/-- Kernel and reference compute the same outputs, log-sums and gated outputs, over finite queries, keys, values and biases. -/
theorem algebraic : Cert.algebraic_FoxKernelIdeal_FoxReferenceIdeal_pre_fox_finite := by
  pair_intro
  · run_from Cert.FoxKernelIdeal.Gen.run_main m g
  · refine Idealize.ShloMosaic.θ_run_mono (Cert.FoxReferenceIdeal.Value.run m' g') fun r hr c => ?_
    obtain ⟨h0, h1, h2, hargs⟩ := hr c
    refine ⟨h0.trans ?_, h1.trans ?_, h2.trans ?_, hargs⟩
    · obtain ⟨A, H⟩ := holds m c (hpre c)
      obtain ⟨a0, a1, a2, a3, a4⟩ := hagree c
      rw [final4 H]
      rw [Cert.FoxReferenceIdeal.Read.val_main_v32_eq, a0, a1, a2, a3]
      funext i; idx_vars i
      exact r_y (holdsR H) _ _ _
    · obtain ⟨A, H⟩ := holds m c (hpre c)
      obtain ⟨a0, a1, a2, a3, a4⟩ := hagree c
      rw [final5 H]
      rw [Cert.FoxReferenceIdeal.Read.val_main_v41_eq, a0, a1, a3]
      funext i; idx_vars i
      exact r_rows (holdsR H) _ _ _ _ _
    · obtain ⟨A, H⟩ := holds m c (hpre c)
      obtain ⟨a0, a1, a2, a3, a4⟩ := hagree c
      rw [final6 H]
      rw [Cert.FoxReferenceIdeal.Read.val_main_v46_eq, a0, a1, a2, a3, a4]
      funext i; idx_vars i
      exact r_gated (holdsR H) _ _

end Cert.Fox

end
-- ==== Proof.lean ====
/- The claims of `Cert.Claim` (proofs.«01_k».proof.Defs) put together: the frames from the generated runs, the value
   claims from the modules beside this one. -/
module

public import proofs.«01_k».proof.Defs
public import proofs.«01_k».proof.Proof.Gen.MergeKernel.Frame
public import proofs.«01_k».proof.Proof.Gen.MergeKernelIdeal.Frame
public import proofs.«01_k».proof.Proof.Gen.MergeReferenceIdeal.Run
public import proofs.«01_k».proof.Proof.Gen.BranchKernel.Frame
public import proofs.«01_k».proof.Proof.Gen.BranchKernelIdeal.Frame
public import proofs.«01_k».proof.Proof.Gen.BranchReferenceIdeal.Run
public import proofs.«01_k».proof.Proof.Gen.FgateKernel.Frame
public import proofs.«01_k».proof.Proof.Gen.FgateKernelIdeal.Frame
public import proofs.«01_k».proof.Proof.Gen.FgateReferenceIdeal.Run
public import proofs.«01_k».proof.Proof.Gen.AttnKernel.Frame
public import proofs.«01_k».proof.Proof.Gen.AttnKernelIdeal.Frame
public import proofs.«01_k».proof.Proof.Gen.AttnReferenceIdeal.Run
public import proofs.«01_k».proof.Proof.Gen.LossKernel.Frame
public import proofs.«01_k».proof.Proof.Gen.LossKernelIdeal.Frame
public import proofs.«01_k».proof.Proof.Gen.LossReferenceIdeal.Run
public import proofs.«01_k».proof.Proof.Gen.NormKernel.Frame
public import proofs.«01_k».proof.Proof.Gen.NormKernelIdeal.Frame
public import proofs.«01_k».proof.Proof.Gen.NormReferenceIdeal.Run
public import proofs.«01_k».proof.Proof.Gen.JoinKernel.Frame
public import proofs.«01_k».proof.Proof.Gen.JoinKernelIdeal.Frame
public import proofs.«01_k».proof.Proof.Gen.JoinReferenceIdeal.Run
public import proofs.«01_k».proof.Proof.Gen.FoxKernel.Frame
public import proofs.«01_k».proof.Proof.Gen.FoxKernelIdeal.Frame
public import proofs.«01_k».proof.Proof.Gen.FoxReferenceIdeal.Run
public import proofs.«01_k».proof.Proof.Gen.Pre_attn_finite
public import proofs.«01_k».proof.Proof.Gen.Pre_branch_finite
public import proofs.«01_k».proof.Proof.Gen.Pre_dh_finite
public import proofs.«01_k».proof.Proof.Gen.Pre_fgate_finite
public import proofs.«01_k».proof.Proof.Gen.Pre_fox_finite
public import proofs.«01_k».proof.Proof.Gen.Pre_loss_finite
public import proofs.«01_k».proof.Proof.Merge
public import proofs.«01_k».proof.Proof.Branch
public import proofs.«01_k».proof.Proof.Fgate
public import proofs.«01_k».proof.Proof.Attn
public import proofs.«01_k».proof.Proof.Loss
public import proofs.«01_k».proof.Proof.Norm
public import proofs.«01_k».proof.Proof.Join
public import proofs.«01_k».proof.Proof.Fox
public import Idealize.ShloMosaic.Adequacy
public import Idealize.ShloMosaic.Init

@[expose] public section

noncomputable section

namespace Cert.Proof

open Idealize.ShloMosaic Idealize.SL.Sem

/-- The reference `MergeReferenceIdeal` runs, leaves its arguments alone and every counter at zero. -/
theorem frame_MergeReferenceIdeal : Cert.quiescent_MergeReferenceIdeal := fun m ρ _ =>
  (θ_run Cert.MergeReferenceIdeal.defs _ _).mono (fun r h => ⟨fun c => (h c).2.2.2.2, sem_eq_zero_of_no_sems (by decide) r.2⟩)
    (Cert.MergeReferenceIdeal.Value.run m ρ)

/-- The reference `BranchReferenceIdeal` runs, leaves its arguments alone and every counter at zero. -/
theorem frame_BranchReferenceIdeal : Cert.quiescent_BranchReferenceIdeal := fun m ρ _ =>
  (θ_run Cert.BranchReferenceIdeal.defs _ _).mono (fun r h => ⟨fun c => (h c).2.2.2.2, sem_eq_zero_of_no_sems (by decide) r.2⟩)
    (Cert.BranchReferenceIdeal.Value.run m ρ)

/-- The reference `FgateReferenceIdeal` runs, leaves its arguments alone and every counter at zero. -/
theorem frame_FgateReferenceIdeal : Cert.quiescent_FgateReferenceIdeal := fun m ρ _ =>
  (θ_run Cert.FgateReferenceIdeal.defs _ _).mono (fun r h => ⟨fun c => (h c).2, sem_eq_zero_of_no_sems (by decide) r.2⟩)
    (Cert.FgateReferenceIdeal.Value.run m ρ)

/-- The reference `AttnReferenceIdeal` runs, leaves its arguments alone and every counter at zero. -/
theorem frame_AttnReferenceIdeal : Cert.quiescent_AttnReferenceIdeal := fun m ρ _ =>
  (θ_run Cert.AttnReferenceIdeal.defs _ _).mono (fun r h => ⟨fun c => (h c).2.2, sem_eq_zero_of_no_sems (by decide) r.2⟩)
    (Cert.AttnReferenceIdeal.Value.run m ρ)

/-- The reference `LossReferenceIdeal` runs, leaves its arguments alone and every counter at zero. -/
theorem frame_LossReferenceIdeal : Cert.quiescent_LossReferenceIdeal := fun m ρ _ =>
  (θ_run Cert.LossReferenceIdeal.defs _ _).mono (fun r h => ⟨fun c => (h c).2.2.2, sem_eq_zero_of_no_sems (by decide) r.2⟩)
    (Cert.LossReferenceIdeal.Value.run m ρ)

/-- The reference `NormReferenceIdeal` runs, leaves its arguments alone and every counter at zero. -/
theorem frame_NormReferenceIdeal : Cert.quiescent_NormReferenceIdeal := fun m ρ _ =>
  (θ_run Cert.NormReferenceIdeal.defs _ _).mono (fun r h => ⟨fun c => (h c).2.2, sem_eq_zero_of_no_sems (by decide) r.2⟩)
    (Cert.NormReferenceIdeal.Value.run m ρ)

/-- The reference `JoinReferenceIdeal` runs, leaves its arguments alone and every counter at zero. -/
theorem frame_JoinReferenceIdeal : Cert.quiescent_JoinReferenceIdeal := fun m ρ _ =>
  (θ_run Cert.JoinReferenceIdeal.defs _ _).mono (fun r h => ⟨fun c => (h c).2.2.2, sem_eq_zero_of_no_sems (by decide) r.2⟩)
    (Cert.JoinReferenceIdeal.Value.run m ρ)

/-- The reference `FoxReferenceIdeal` runs, leaves its arguments alone and every counter at zero. -/
theorem frame_FoxReferenceIdeal : Cert.quiescent_FoxReferenceIdeal := fun m ρ _ =>
  (θ_run Cert.FoxReferenceIdeal.defs _ _).mono (fun r h => ⟨fun c => (h c).2.2.2, sem_eq_zero_of_no_sems (by decide) r.2⟩)
    (Cert.FoxReferenceIdeal.Value.run m ρ)

theorem claim : Cert.Claim := ⟨Cert.MergeKernel.Gen.facts, Cert.MergeKernelIdeal.Gen.facts, Cert.MergeReferenceIdeal.Gen.facts, Cert.BranchKernel.Gen.facts, Cert.BranchKernelIdeal.Gen.facts, Cert.BranchReferenceIdeal.Gen.facts, Cert.FgateKernel.Gen.facts, Cert.FgateKernelIdeal.Gen.facts, Cert.FgateReferenceIdeal.Gen.facts, Cert.AttnKernel.Gen.facts, Cert.AttnKernelIdeal.Gen.facts, Cert.AttnReferenceIdeal.Gen.facts, Cert.LossKernel.Gen.facts, Cert.LossKernelIdeal.Gen.facts, Cert.LossReferenceIdeal.Gen.facts, Cert.NormKernel.Gen.facts, Cert.NormKernelIdeal.Gen.facts, Cert.NormReferenceIdeal.Gen.facts, Cert.JoinKernel.Gen.facts, Cert.JoinKernelIdeal.Gen.facts, Cert.JoinReferenceIdeal.Gen.facts, Cert.FoxKernel.Gen.facts, Cert.FoxKernelIdeal.Gen.facts, Cert.FoxReferenceIdeal.Gen.facts, Cert.Pre_branch_finite.Gen.facts, Cert.Pre_fgate_finite.Gen.facts, Cert.Pre_attn_finite.Gen.facts, Cert.Pre_loss_finite.Gen.facts, Cert.Pre_dh_finite.Gen.facts, Cert.Pre_fox_finite.Gen.facts,
  fun m ρ _ => Cert.MergeKernel.Gen.frame m ρ,
  fun m ρ _ => Cert.MergeKernelIdeal.Gen.frame m ρ,
  fun m ρ _ => frame_MergeReferenceIdeal m ρ trivial,
  fun m ρ _ => Cert.BranchKernel.Gen.frame m ρ,
  fun m ρ _ => Cert.BranchKernelIdeal.Gen.frame m ρ,
  fun m ρ _ => Cert.BranchKernelIdeal.Gen.frame m ρ,
  fun m ρ _ => frame_BranchReferenceIdeal m ρ trivial,
  fun m ρ _ => frame_BranchReferenceIdeal m ρ trivial,
  fun m ρ _ => Cert.FgateKernel.Gen.frame m ρ,
  fun m ρ _ => Cert.FgateKernelIdeal.Gen.frame m ρ,
  fun m ρ _ => Cert.FgateKernelIdeal.Gen.frame m ρ,
  fun m ρ _ => frame_FgateReferenceIdeal m ρ trivial,
  fun m ρ _ => frame_FgateReferenceIdeal m ρ trivial,
  fun m ρ _ => Cert.AttnKernel.Gen.frame m ρ,
  fun m ρ _ => Cert.AttnKernelIdeal.Gen.frame m ρ,
  fun m ρ _ => Cert.AttnKernelIdeal.Gen.frame m ρ,
  fun m ρ _ => frame_AttnReferenceIdeal m ρ trivial,
  fun m ρ _ => frame_AttnReferenceIdeal m ρ trivial,
  fun m ρ _ => Cert.LossKernel.Gen.frame m ρ,
  fun m ρ _ => Cert.LossKernelIdeal.Gen.frame m ρ,
  fun m ρ _ => Cert.LossKernelIdeal.Gen.frame m ρ,
  fun m ρ _ => frame_LossReferenceIdeal m ρ trivial,
  fun m ρ _ => frame_LossReferenceIdeal m ρ trivial,
  fun m ρ _ => Cert.NormKernel.Gen.frame m ρ,
  fun m ρ _ => Cert.NormKernelIdeal.Gen.frame m ρ,
  fun m ρ _ => Cert.NormKernelIdeal.Gen.frame m ρ,
  fun m ρ _ => frame_NormReferenceIdeal m ρ trivial,
  fun m ρ _ => frame_NormReferenceIdeal m ρ trivial,
  fun m ρ _ => Cert.JoinKernel.Gen.frame m ρ,
  fun m ρ _ => Cert.JoinKernelIdeal.Gen.frame m ρ,
  fun m ρ _ => frame_JoinReferenceIdeal m ρ trivial,
  fun m ρ _ => Cert.FoxKernel.Gen.frame m ρ,
  fun m ρ _ => Cert.FoxKernelIdeal.Gen.frame m ρ,
  fun m ρ _ => Cert.FoxKernelIdeal.Gen.frame m ρ,
  fun m ρ _ => frame_FoxReferenceIdeal m ρ trivial,
  fun m ρ _ => frame_FoxReferenceIdeal m ρ trivial,
  trivial,
  Cert.Merge.algebraic,
  trivial,
  Cert.Branch.algebraic,
  trivial,
  Cert.Fgate.algebraic,
  IdealRules.named_const.statement Cert.AttnKernelIdeal.κ "mask" .f32 0xF149F2CA#32 ⊥ rfl,
  Cert.Attn.algebraic,
  trivial,
  Cert.Loss.algebraic,
  trivial,
  Cert.Norm.algebraic,
  trivial,
  Cert.Join.algebraic,
  IdealRules.named_const.statement Cert.FoxKernelIdeal.κ "mask" .f32 0xF149F2CA#32 ⊥ rfl,
  Cert.Fox.algebraic⟩

end Cert.Proof

end
